-- ==== Defs.lean ====
def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInIdeal_norm_in_finite [hPre_norm_in_finite : Cert.Pre_norm_in_finite.Facts] (m : (ℓ : Loc Cert.NormInIdeal.nD Cert.NormInIdeal.τ Cert.NormInIdeal.sig) → Buf (Elt Ideal) ℓ) : Prop :=
  ∀ c : Dev Cert.NormInIdeal.nD,
    (Cert.Pre_norm_in_finite.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3))).1 = (fun _ => 1#1)
    ∧ (Cert.Pre_norm_in_finite.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3))).2.1 = (fun _ => 1#1)
    ∧ (Cert.Pre_norm_in_finite.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3))).2.2 = (fun _ => 1#1)

def Pre_NormInRefIdeal (m : (ℓ : Loc Cert.NormInRefIdeal.nD Cert.NormInRefIdeal.τ Cert.NormInRefIdeal.sig) → Buf (Elt Ideal) ℓ) : Prop :=
  True

def Pre_NormInRefIdeal_norm_in_finite [hPre_norm_in_finite : Cert.Pre_norm_in_finite.Facts] (m : (ℓ : Loc Cert.NormInRefIdeal.nD Cert.NormInRefIdeal.τ Cert.NormInRefIdeal.sig) → Buf (Elt Ideal) ℓ) : Prop :=
  ∀ c : Dev Cert.NormInRefIdeal.nD,
    (Cert.Pre_norm_in_finite.fn (F := Ideal) (m ((c.tc : Thread Cert.NormInRefIdeal.nD Cert.NormInRefIdeal.τ).loc Cert.NormInRefIdeal.main_arg0)) (m ((c.tc : Thread Cert.NormInRefIdeal.nD Cert.NormInRefIdeal.τ).loc Cert.NormInRefIdeal.main_arg1)) (m ((c.tc : Thread Cert.NormInRefIdeal.nD Cert.NormInRefIdeal.τ).loc Cert.NormInRefIdeal.main_arg2)) (m ((c.tc : Thread Cert.NormInRefIdeal.nD Cert.NormInRefIdeal.τ).loc Cert.NormInRefIdeal.main_arg3))).1 = (fun _ => 1#1)
    ∧ (Cert.Pre_norm_in_finite.fn (F := Ideal) (m ((c.tc : Thread Cert.NormInRefIdeal.nD Cert.NormInRefIdeal.τ).loc Cert.NormInRefIdeal.main_arg0)) (m ((c.tc : Thread Cert.NormInRefIdeal.nD Cert.NormInRefIdeal.τ).loc Cert.NormInRefIdeal.main_arg1)) (m ((c.tc : Thread Cert.NormInRefIdeal.nD Cert.NormInRefIdeal.τ).loc Cert.NormInRefIdeal.main_arg2)) (m ((c.tc : Thread Cert.NormInRefIdeal.nD Cert.NormInRefIdeal.τ).loc Cert.NormInRefIdeal.main_arg3))).2.1 = (fun _ => 1#1)
    ∧ (Cert.Pre_norm_in_finite.fn (F := Ideal) (m ((c.tc : Thread Cert.NormInRefIdeal.nD Cert.NormInRefIdeal.τ).loc Cert.NormInRefIdeal.main_arg0)) (m ((c.tc : Thread Cert.NormInRefIdeal.nD Cert.NormInRefIdeal.τ).loc Cert.NormInRefIdeal.main_arg1)) (m ((c.tc : Thread Cert.NormInRefIdeal.nD Cert.NormInRefIdeal.τ).loc Cert.NormInRefIdeal.main_arg2)) (m ((c.tc : Thread Cert.NormInRefIdeal.nD Cert.NormInRefIdeal.τ).loc Cert.NormInRefIdeal.main_arg3))).2.2 = (fun _ => 1#1)

def Pre_NormsMid (m : (ℓ : Loc Cert.NormsMid.nD Cert.NormsMid.τ Cert.NormsMid.sig) → Buf (Elt Bits) ℓ) : Prop :=
  True

def Pre_NormsMidIdeal (m : (ℓ : Loc Cert.NormsMidIdeal.nD Cert.NormsMidIdeal.τ Cert.NormsMidIdeal.sig) → Buf (Elt Ideal) ℓ) : Prop :=
  True

def Pre_NormsMidIdeal_norms_mid_finite [hPre_norms_mid_finite : Cert.Pre_norms_mid_finite.Facts] (m : (ℓ : Loc Cert.NormsMidIdeal.nD Cert.NormsMidIdeal.τ Cert.NormsMidIdeal.sig) → Buf (Elt Ideal) ℓ) : Prop :=
  ∀ c : Dev Cert.NormsMidIdeal.nD,
    (Cert.Pre_norms_mid_finite.fn (F := Ideal) (m ((c.tc : Thread Cert.NormsMidIdeal.nD Cert.NormsMidIdeal.τ).loc Cert.NormsMidIdeal.main_arg0)) (m ((c.tc : Thread Cert.NormsMidIdeal.nD Cert.NormsMidIdeal.τ).loc Cert.NormsMidIdeal.main_arg1)) (m ((c.tc : Thread Cert.NormsMidIdeal.nD Cert.NormsMidIdeal.τ).loc Cert.NormsMidIdeal.main_arg2)) (m ((c.tc : Thread Cert.NormsMidIdeal.nD Cert.NormsMidIdeal.τ).loc Cert.NormsMidIdeal.main_arg3)) (m ((c.tc : Thread Cert.NormsMidIdeal.nD Cert.NormsMidIdeal.τ).loc Cert.NormsMidIdeal.main_arg4)) (m ((c.tc : Thread Cert.NormsMidIdeal.nD Cert.NormsMidIdeal.τ).loc Cert.NormsMidIdeal.main_arg5))).1 = (fun _ => 1#1)
    ∧ (Cert.Pre_norms_mid_finite.fn (F := Ideal) (m ((c.tc : Thread Cert.NormsMidIdeal.nD Cert.NormsMidIdeal.τ).loc Cert.NormsMidIdeal.main_arg0)) (m ((c.tc : Thread Cert.NormsMidIdeal.nD Cert.NormsMidIdeal.τ).loc Cert.NormsMidIdeal.main_arg1)) (m ((c.tc : Thread Cert.NormsMidIdeal.nD Cert.NormsMidIdeal.τ).loc Cert.NormsMidIdeal.main_arg2)) (m ((c.tc : Thread Cert.NormsMidIdeal.nD Cert.NormsMidIdeal.τ).loc Cert.NormsMidIdeal.main_arg3)) (m ((c.tc : Thread Cert.NormsMidIdeal.nD Cert.NormsMidIdeal.τ).loc Cert.NormsMidIdeal.main_arg4)) (m ((c.tc : Thread Cert.NormsMidIdeal.nD Cert.NormsMidIdeal.τ).loc Cert.NormsMidIdeal.main_arg5))).2.1 = (fun _ => 1#1)
    ∧ (Cert.Pre_norms_mid_finite.fn (F := Ideal) (m ((c.tc : Thread Cert.NormsMidIdeal.nD Cert.NormsMidIdeal.τ).loc Cert.NormsMidIdeal.main_arg0)) (m ((c.tc : Thread Cert.NormsMidIdeal.nD Cert.NormsMidIdeal.τ).loc Cert.NormsMidIdeal.main_arg1)) (m ((c.tc : Thread Cert.NormsMidIdeal.nD Cert.NormsMidIdeal.τ).loc Cert.NormsMidIdeal.main_arg2)) (m ((c.tc : Thread Cert.NormsMidIdeal.nD Cert.NormsMidIdeal.τ).loc Cert.NormsMidIdeal.main_arg3)) (m ((c.tc : Thread Cert.NormsMidIdeal.nD Cert.NormsMidIdeal.τ).loc Cert.NormsMidIdeal.main_arg4)) (m ((c.tc : Thread Cert.NormsMidIdeal.nD Cert.NormsMidIdeal.τ).loc Cert.NormsMidIdeal.main_arg5))).2.2.1 = (fun _ => 1#1)
    ∧ (Cert.Pre_norms_mid_finite.fn (F := Ideal) (m ((c.tc : Thread Cert.NormsMidIdeal.nD Cert.NormsMidIdeal.τ).loc Cert.NormsMidIdeal.main_arg0)) (m ((c.tc : Thread Cert.NormsMidIdeal.nD Cert.NormsMidIdeal.τ).loc Cert.NormsMidIdeal.main_arg1)) (m ((c.tc : Thread Cert.NormsMidIdeal.nD Cert.NormsMidIdeal.τ).loc Cert.NormsMidIdeal.main_arg2)) (m ((c.tc : Thread Cert.NormsMidIdeal.nD Cert.NormsMidIdeal.τ).loc Cert.NormsMidIdeal.main_arg3)) (m ((c.tc : Thread Cert.NormsMidIdeal.nD Cert.NormsMidIdeal.τ).loc Cert.NormsMidIdeal.main_arg4)) (m ((c.tc : Thread Cert.NormsMidIdeal.nD Cert.NormsMidIdeal.τ).loc Cert.NormsMidIdeal.main_arg5))).2.2.2.1 = (fun _ => 1#1)
    ∧ (Cert.Pre_norms_mid_finite.fn (F := Ideal) (m ((c.tc : Thread Cert.NormsMidIdeal.nD Cert.NormsMidIdeal.τ).loc Cert.NormsMidIdeal.main_arg0)) (m ((c.tc : Thread Cert.NormsMidIdeal.nD Cert.NormsMidIdeal.τ).loc Cert.NormsMidIdeal.main_arg1)) (m ((c.tc : Thread Cert.NormsMidIdeal.nD Cert.NormsMidIdeal.τ).loc Cert.NormsMidIdeal.main_arg2)) (m ((c.tc : Thread Cert.NormsMidIdeal.nD Cert.NormsMidIdeal.τ).loc Cert.NormsMidIdeal.main_arg3)) (m ((c.tc : Thread Cert.NormsMidIdeal.nD Cert.NormsMidIdeal.τ).loc Cert.NormsMidIdeal.main_arg4)) (m ((c.tc : Thread Cert.NormsMidIdeal.nD Cert.NormsMidIdeal.τ).loc Cert.NormsMidIdeal.main_arg5))).2.2.2.2.1 = (fun _ => 1#1)
    ∧ (Cert.Pre_norms_mid_finite.fn (F := Ideal) (m ((c.tc : Thread Cert.NormsMidIdeal.nD Cert.NormsMidIdeal.τ).loc Cert.NormsMidIdeal.main_arg0)) (m ((c.tc : Thread Cert.NormsMidIdeal.nD Cert.NormsMidIdeal.τ).loc Cert.NormsMidIdeal.main_arg1)) (m ((c.tc : Thread Cert.NormsMidIdeal.nD Cert.NormsMidIdeal.τ).loc Cert.NormsMidIdeal.main_arg2)) (m ((c.tc : Thread Cert.NormsMidIdeal.nD Cert.NormsMidIdeal.τ).loc Cert.NormsMidIdeal.main_arg3)) (m ((c.tc : Thread Cert.NormsMidIdeal.nD Cert.NormsMidIdeal.τ).loc Cert.NormsMidIdeal.main_arg4)) (m ((c.tc : Thread Cert.NormsMidIdeal.nD Cert.NormsMidIdeal.τ).loc Cert.NormsMidIdeal.main_arg5))).2.2.2.2.2 = (fun _ => 1#1)

def Pre_NormsMidRefIdeal (m : (ℓ : Loc Cert.NormsMidRefIdeal.nD Cert.NormsMidRefIdeal.τ Cert.NormsMidRefIdeal.sig) → Buf (Elt Ideal) ℓ) : Prop :=
  True

def Pre_NormsMidRefIdeal_norms_mid_finite [hPre_norms_mid_finite : Cert.Pre_norms_mid_finite.Facts] (m : (ℓ : Loc Cert.NormsMidRefIdeal.nD Cert.NormsMidRefIdeal.τ Cert.NormsMidRefIdeal.sig) → Buf (Elt Ideal) ℓ) : Prop :=
  ∀ c : Dev Cert.NormsMidRefIdeal.nD,
    (Cert.Pre_norms_mid_finite.fn (F := Ideal) (m ((c.tc : Thread Cert.NormsMidRefIdeal.nD Cert.NormsMidRefIdeal.τ).loc Cert.NormsMidRefIdeal.main_arg0)) (m ((c.tc : Thread Cert.NormsMidRefIdeal.nD Cert.NormsMidRefIdeal.τ).loc Cert.NormsMidRefIdeal.main_arg1)) (m ((c.tc : Thread Cert.NormsMidRefIdeal.nD Cert.NormsMidRefIdeal.τ).loc Cert.NormsMidRefIdeal.main_arg2)) (m ((c.tc : Thread Cert.NormsMidRefIdeal.nD Cert.NormsMidRefIdeal.τ).loc Cert.NormsMidRefIdeal.main_arg3)) (m ((c.tc : Thread Cert.NormsMidRefIdeal.nD Cert.NormsMidRefIdeal.τ).loc Cert.NormsMidRefIdeal.main_arg4)) (m ((c.tc : Thread Cert.NormsMidRefIdeal.nD Cert.NormsMidRefIdeal.τ).loc Cert.NormsMidRefIdeal.main_arg5))).1 = (fun _ => 1#1)
    ∧ (Cert.Pre_norms_mid_finite.fn (F := Ideal) (m ((c.tc : Thread Cert.NormsMidRefIdeal.nD Cert.NormsMidRefIdeal.τ).loc Cert.NormsMidRefIdeal.main_arg0)) (m ((c.tc : Thread Cert.NormsMidRefIdeal.nD Cert.NormsMidRefIdeal.τ).loc Cert.NormsMidRefIdeal.main_arg1)) (m ((c.tc : Thread Cert.NormsMidRefIdeal.nD Cert.NormsMidRefIdeal.τ).loc Cert.NormsMidRefIdeal.main_arg2)) (m ((c.tc : Thread Cert.NormsMidRefIdeal.nD Cert.NormsMidRefIdeal.τ).loc Cert.NormsMidRefIdeal.main_arg3)) (m ((c.tc : Thread Cert.NormsMidRefIdeal.nD Cert.NormsMidRefIdeal.τ).loc Cert.NormsMidRefIdeal.main_arg4)) (m ((c.tc : Thread Cert.NormsMidRefIdeal.nD Cert.NormsMidRefIdeal.τ).loc Cert.NormsMidRefIdeal.main_arg5))).2.1 = (fun _ => 1#1)
    ∧ (Cert.Pre_norms_mid_finite.fn (F := Ideal) (m ((c.tc : Thread Cert.NormsMidRefIdeal.nD Cert.NormsMidRefIdeal.τ).loc Cert.NormsMidRefIdeal.main_arg0)) (m ((c.tc : Thread Cert.NormsMidRefIdeal.nD Cert.NormsMidRefIdeal.τ).loc Cert.NormsMidRefIdeal.main_arg1)) (m ((c.tc : Thread Cert.NormsMidRefIdeal.nD Cert.NormsMidRefIdeal.τ).loc Cert.NormsMidRefIdeal.main_arg2)) (m ((c.tc : Thread Cert.NormsMidRefIdeal.nD Cert.NormsMidRefIdeal.τ).loc Cert.NormsMidRefIdeal.main_arg3)) (m ((c.tc : Thread Cert.NormsMidRefIdeal.nD Cert.NormsMidRefIdeal.τ).loc Cert.NormsMidRefIdeal.main_arg4)) (m ((c.tc : Thread Cert.NormsMidRefIdeal.nD Cert.NormsMidRefIdeal.τ).loc Cert.NormsMidRefIdeal.main_arg5))).2.2.1 = (fun _ => 1#1)
    ∧ (Cert.Pre_norms_mid_finite.fn (F := Ideal) (m ((c.tc : Thread Cert.NormsMidRefIdeal.nD Cert.NormsMidRefIdeal.τ).loc Cert.NormsMidRefIdeal.main_arg0)) (m ((c.tc : Thread Cert.NormsMidRefIdeal.nD Cert.NormsMidRefIdeal.τ).loc Cert.NormsMidRefIdeal.main_arg1)) (m ((c.tc : Thread Cert.NormsMidRefIdeal.nD Cert.NormsMidRefIdeal.τ).loc Cert.NormsMidRefIdeal.main_arg2)) (m ((c.tc : Thread Cert.NormsMidRefIdeal.nD Cert.NormsMidRefIdeal.τ).loc Cert.NormsMidRefIdeal.main_arg3)) (m ((c.tc : Thread Cert.NormsMidRefIdeal.nD Cert.NormsMidRefIdeal.τ).loc Cert.NormsMidRefIdeal.main_arg4)) (m ((c.tc : Thread Cert.NormsMidRefIdeal.nD Cert.NormsMidRefIdeal.τ).loc Cert.NormsMidRefIdeal.main_arg5))).2.2.2.1 = (fun _ => 1#1)
    ∧ (Cert.Pre_norms_mid_finite.fn (F := Ideal) (m ((c.tc : Thread Cert.NormsMidRefIdeal.nD Cert.NormsMidRefIdeal.τ).loc Cert.NormsMidRefIdeal.main_arg0)) (m ((c.tc : Thread Cert.NormsMidRefIdeal.nD Cert.NormsMidRefIdeal.τ).loc Cert.NormsMidRefIdeal.main_arg1)) (m ((c.tc : Thread Cert.NormsMidRefIdeal.nD Cert.NormsMidRefIdeal.τ).loc Cert.NormsMidRefIdeal.main_arg2)) (m ((c.tc : Thread Cert.NormsMidRefIdeal.nD Cert.NormsMidRefIdeal.τ).loc Cert.NormsMidRefIdeal.main_arg3)) (m ((c.tc : Thread Cert.NormsMidRefIdeal.nD Cert.NormsMidRefIdeal.τ).loc Cert.NormsMidRefIdeal.main_arg4)) (m ((c.tc : Thread Cert.NormsMidRefIdeal.nD Cert.NormsMidRefIdeal.τ).loc Cert.NormsMidRefIdeal.main_arg5))).2.2.2.2.1 = (fun _ => 1#1)
    ∧ (Cert.Pre_norms_mid_finite.fn (F := Ideal) (m ((c.tc : Thread Cert.NormsMidRefIdeal.nD Cert.NormsMidRefIdeal.τ).loc Cert.NormsMidRefIdeal.main_arg0)) (m ((c.tc : Thread Cert.NormsMidRefIdeal.nD Cert.NormsMidRefIdeal.τ).loc Cert.NormsMidRefIdeal.main_arg1)) (m ((c.tc : Thread Cert.NormsMidRefIdeal.nD Cert.NormsMidRefIdeal.τ).loc Cert.NormsMidRefIdeal.main_arg2)) (m ((c.tc : Thread Cert.NormsMidRefIdeal.nD Cert.NormsMidRefIdeal.τ).loc Cert.NormsMidRefIdeal.main_arg3)) (m ((c.tc : Thread Cert.NormsMidRefIdeal.nD Cert.NormsMidRefIdeal.τ).loc Cert.NormsMidRefIdeal.main_arg4)) (m ((c.tc : Thread Cert.NormsMidRefIdeal.nD Cert.NormsMidRefIdeal.τ).loc Cert.NormsMidRefIdeal.main_arg5))).2.2.2.2.2 = (fun _ => 1#1)

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossIdeal_ffn_loss_finite [hPre_ffn_loss_finite : Cert.Pre_ffn_loss_finite.Facts] (m : (ℓ : Loc Cert.FfnLossIdeal.nD Cert.FfnLossIdeal.τ Cert.FfnLossIdeal.sig) → Buf (Elt Ideal) ℓ) : Prop :=
  ∀ c : Dev Cert.FfnLossIdeal.nD,
    (Cert.Pre_ffn_loss_finite.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4))).1 = (fun _ => 1#1)
    ∧ (Cert.Pre_ffn_loss_finite.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4))).2.1 = (fun _ => 1#1)
    ∧ (Cert.Pre_ffn_loss_finite.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4))).2.2.1 = (fun _ => 1#1)
    ∧ (Cert.Pre_ffn_loss_finite.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4))).2.2.2.1 = (fun _ => 1#1)
    ∧ (Cert.Pre_ffn_loss_finite.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4))).2.2.2.2 = (fun _ => 1#1)

def Pre_FfnLossRefIdeal (m : (ℓ : Loc Cert.FfnLossRefIdeal.nD Cert.FfnLossRefIdeal.τ Cert.FfnLossRefIdeal.sig) → Buf (Elt Ideal) ℓ) : Prop :=
  True

def Pre_FfnLossRefIdeal_ffn_loss_finite [hPre_ffn_loss_finite : Cert.Pre_ffn_loss_finite.Facts] (m : (ℓ : Loc Cert.FfnLossRefIdeal.nD Cert.FfnLossRefIdeal.τ Cert.FfnLossRefIdeal.sig) → Buf (Elt Ideal) ℓ) : Prop :=
  ∀ c : Dev Cert.FfnLossRefIdeal.nD,
    (Cert.Pre_ffn_loss_finite.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4))).1 = (fun _ => 1#1)
    ∧ (Cert.Pre_ffn_loss_finite.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4))).2.1 = (fun _ => 1#1)
    ∧ (Cert.Pre_ffn_loss_finite.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4))).2.2.1 = (fun _ => 1#1)
    ∧ (Cert.Pre_ffn_loss_finite.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4))).2.2.2.1 = (fun _ => 1#1)
    ∧ (Cert.Pre_ffn_loss_finite.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4))).2.2.2.2 = (fun _ => 1#1)

def Pre_MixConv (m : (ℓ : Loc Cert.MixConv.nD Cert.MixConv.τ Cert.MixConv.sig) → Buf (Elt Bits) ℓ) : Prop :=
  True

def Pre_MixConvIdeal (m : (ℓ : Loc Cert.MixConvIdeal.nD Cert.MixConvIdeal.τ Cert.MixConvIdeal.sig) → Buf (Elt Ideal) ℓ) : Prop :=
  True

def Pre_MixConvRefIdeal (m : (ℓ : Loc Cert.MixConvRefIdeal.nD Cert.MixConvRefIdeal.τ Cert.MixConvRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_ffn_up_finite [hPre_ffn_up_finite : Cert.Pre_ffn_up_finite.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_ffn_up_finite.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5))).1 = (fun _ => 1#1)
    ∧ (Cert.Pre_ffn_up_finite.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5))).2.1 = (fun _ => 1#1)
    ∧ (Cert.Pre_ffn_up_finite.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5))).2.2.1 = (fun _ => 1#1)
    ∧ (Cert.Pre_ffn_up_finite.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5))).2.2.2.1 = (fun _ => 1#1)
    ∧ (Cert.Pre_ffn_up_finite.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5))).2.2.2.2.1 = (fun _ => 1#1)
    ∧ (Cert.Pre_ffn_up_finite.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5))).2.2.2.2.2 = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_ffn_up_finite [hPre_ffn_up_finite : Cert.Pre_ffn_up_finite.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_ffn_up_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5))).1 = (fun _ => 1#1)
    ∧ (Cert.Pre_ffn_up_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5))).2.1 = (fun _ => 1#1)
    ∧ (Cert.Pre_ffn_up_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5))).2.2.1 = (fun _ => 1#1)
    ∧ (Cert.Pre_ffn_up_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5))).2.2.2.1 = (fun _ => 1#1)
    ∧ (Cert.Pre_ffn_up_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5))).2.2.2.2.1 = (fun _ => 1#1)
    ∧ (Cert.Pre_ffn_up_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5))).2.2.2.2.2 = (fun _ => 1#1)

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_MixLru (m : (ℓ : Loc Cert.MixLru.nD Cert.MixLru.τ Cert.MixLru.sig) → Buf (Elt Bits) ℓ) : Prop :=
  True

def Pre_MixLruIdeal (m : (ℓ : Loc Cert.MixLruIdeal.nD Cert.MixLruIdeal.τ Cert.MixLruIdeal.sig) → Buf (Elt Ideal) ℓ) : Prop :=
  True

def Pre_MixLruIdeal_mix_lru_range [hPre_mix_lru_range : Cert.Pre_mix_lru_range.Facts] (m : (ℓ : Loc Cert.MixLruIdeal.nD Cert.MixLruIdeal.τ Cert.MixLruIdeal.sig) → Buf (Elt Ideal) ℓ) : Prop :=
  ∀ c : Dev Cert.MixLruIdeal.nD,
    (Cert.Pre_mix_lru_range.fn (F := Ideal) (m ((c.tc : Thread Cert.MixLruIdeal.nD Cert.MixLruIdeal.τ).loc Cert.MixLruIdeal.main_arg0)) (m ((c.tc : Thread Cert.MixLruIdeal.nD Cert.MixLruIdeal.τ).loc Cert.MixLruIdeal.main_arg1)) (m ((c.tc : Thread Cert.MixLruIdeal.nD Cert.MixLruIdeal.τ).loc Cert.MixLruIdeal.main_arg2)) (m ((c.tc : Thread Cert.MixLruIdeal.nD Cert.MixLruIdeal.τ).loc Cert.MixLruIdeal.main_arg3)) (m ((c.tc : Thread Cert.MixLruIdeal.nD Cert.MixLruIdeal.τ).loc Cert.MixLruIdeal.main_arg4)) (m ((c.tc : Thread Cert.MixLruIdeal.nD Cert.MixLruIdeal.τ).loc Cert.MixLruIdeal.main_arg5)) (m ((c.tc : Thread Cert.MixLruIdeal.nD Cert.MixLruIdeal.τ).loc Cert.MixLruIdeal.main_arg6)) (m ((c.tc : Thread Cert.MixLruIdeal.nD Cert.MixLruIdeal.τ).loc Cert.MixLruIdeal.main_arg7)) (m ((c.tc : Thread Cert.MixLruIdeal.nD Cert.MixLruIdeal.τ).loc Cert.MixLruIdeal.main_arg8)) (m ((c.tc : Thread Cert.MixLruIdeal.nD Cert.MixLruIdeal.τ).loc Cert.MixLruIdeal.main_arg9))).1 = (fun _ => 1#1)
    ∧ (Cert.Pre_mix_lru_range.fn (F := Ideal) (m ((c.tc : Thread Cert.MixLruIdeal.nD Cert.MixLruIdeal.τ).loc Cert.MixLruIdeal.main_arg0)) (m ((c.tc : Thread Cert.MixLruIdeal.nD Cert.MixLruIdeal.τ).loc Cert.MixLruIdeal.main_arg1)) (m ((c.tc : Thread Cert.MixLruIdeal.nD Cert.MixLruIdeal.τ).loc Cert.MixLruIdeal.main_arg2)) (m ((c.tc : Thread Cert.MixLruIdeal.nD Cert.MixLruIdeal.τ).loc Cert.MixLruIdeal.main_arg3)) (m ((c.tc : Thread Cert.MixLruIdeal.nD Cert.MixLruIdeal.τ).loc Cert.MixLruIdeal.main_arg4)) (m ((c.tc : Thread Cert.MixLruIdeal.nD Cert.MixLruIdeal.τ).loc Cert.MixLruIdeal.main_arg5)) (m ((c.tc : Thread Cert.MixLruIdeal.nD Cert.MixLruIdeal.τ).loc Cert.MixLruIdeal.main_arg6)) (m ((c.tc : Thread Cert.MixLruIdeal.nD Cert.MixLruIdeal.τ).loc Cert.MixLruIdeal.main_arg7)) (m ((c.tc : Thread Cert.MixLruIdeal.nD Cert.MixLruIdeal.τ).loc Cert.MixLruIdeal.main_arg8)) (m ((c.tc : Thread Cert.MixLruIdeal.nD Cert.MixLruIdeal.τ).loc Cert.MixLruIdeal.main_arg9))).2.1 = (fun _ => 1#1)
    ∧ (Cert.Pre_mix_lru_range.fn (F := Ideal) (m ((c.tc : Thread Cert.MixLruIdeal.nD Cert.MixLruIdeal.τ).loc Cert.MixLruIdeal.main_arg0)) (m ((c.tc : Thread Cert.MixLruIdeal.nD Cert.MixLruIdeal.τ).loc Cert.MixLruIdeal.main_arg1)) (m ((c.tc : Thread Cert.MixLruIdeal.nD Cert.MixLruIdeal.τ).loc Cert.MixLruIdeal.main_arg2)) (m ((c.tc : Thread Cert.MixLruIdeal.nD Cert.MixLruIdeal.τ).loc Cert.MixLruIdeal.main_arg3)) (m ((c.tc : Thread Cert.MixLruIdeal.nD Cert.MixLruIdeal.τ).loc Cert.MixLruIdeal.main_arg4)) (m ((c.tc : Thread Cert.MixLruIdeal.nD Cert.MixLruIdeal.τ).loc Cert.MixLruIdeal.main_arg5)) (m ((c.tc : Thread Cert.MixLruIdeal.nD Cert.MixLruIdeal.τ).loc Cert.MixLruIdeal.main_arg6)) (m ((c.tc : Thread Cert.MixLruIdeal.nD Cert.MixLruIdeal.τ).loc Cert.MixLruIdeal.main_arg7)) (m ((c.tc : Thread Cert.MixLruIdeal.nD Cert.MixLruIdeal.τ).loc Cert.MixLruIdeal.main_arg8)) (m ((c.tc : Thread Cert.MixLruIdeal.nD Cert.MixLruIdeal.τ).loc Cert.MixLruIdeal.main_arg9))).2.2.1 = (fun _ => 1#1)
    ∧ (Cert.Pre_mix_lru_range.fn (F := Ideal) (m ((c.tc : Thread Cert.MixLruIdeal.nD Cert.MixLruIdeal.τ).loc Cert.MixLruIdeal.main_arg0)) (m ((c.tc : Thread Cert.MixLruIdeal.nD Cert.MixLruIdeal.τ).loc Cert.MixLruIdeal.main_arg1)) (m ((c.tc : Thread Cert.MixLruIdeal.nD Cert.MixLruIdeal.τ).loc Cert.MixLruIdeal.main_arg2)) (m ((c.tc : Thread Cert.MixLruIdeal.nD Cert.MixLruIdeal.τ).loc Cert.MixLruIdeal.main_arg3)) (m ((c.tc : Thread Cert.MixLruIdeal.nD Cert.MixLruIdeal.τ).loc Cert.MixLruIdeal.main_arg4)) (m ((c.tc : Thread Cert.MixLruIdeal.nD Cert.MixLruIdeal.τ).loc Cert.MixLruIdeal.main_arg5)) (m ((c.tc : Thread Cert.MixLruIdeal.nD Cert.MixLruIdeal.τ).loc Cert.MixLruIdeal.main_arg6)) (m ((c.tc : Thread Cert.MixLruIdeal.nD Cert.MixLruIdeal.τ).loc Cert.MixLruIdeal.main_arg7)) (m ((c.tc : Thread Cert.MixLruIdeal.nD Cert.MixLruIdeal.τ).loc Cert.MixLruIdeal.main_arg8)) (m ((c.tc : Thread Cert.MixLruIdeal.nD Cert.MixLruIdeal.τ).loc Cert.MixLruIdeal.main_arg9))).2.2.2.1 = (fun _ => 1#1)
    ∧ (Cert.Pre_mix_lru_range.fn (F := Ideal) (m ((c.tc : Thread Cert.MixLruIdeal.nD Cert.MixLruIdeal.τ).loc Cert.MixLruIdeal.main_arg0)) (m ((c.tc : Thread Cert.MixLruIdeal.nD Cert.MixLruIdeal.τ).loc Cert.MixLruIdeal.main_arg1)) (m ((c.tc : Thread Cert.MixLruIdeal.nD Cert.MixLruIdeal.τ).loc Cert.MixLruIdeal.main_arg2)) (m ((c.tc : Thread Cert.MixLruIdeal.nD Cert.MixLruIdeal.τ).loc Cert.MixLruIdeal.main_arg3)) (m ((c.tc : Thread Cert.MixLruIdeal.nD Cert.MixLruIdeal.τ).loc Cert.MixLruIdeal.main_arg4)) (m ((c.tc : Thread Cert.MixLruIdeal.nD Cert.MixLruIdeal.τ).loc Cert.MixLruIdeal.main_arg5)) (m ((c.tc : Thread Cert.MixLruIdeal.nD Cert.MixLruIdeal.τ).loc Cert.MixLruIdeal.main_arg6)) (m ((c.tc : Thread Cert.MixLruIdeal.nD Cert.MixLruIdeal.τ).loc Cert.MixLruIdeal.main_arg7)) (m ((c.tc : Thread Cert.MixLruIdeal.nD Cert.MixLruIdeal.τ).loc Cert.MixLruIdeal.main_arg8)) (m ((c.tc : Thread Cert.MixLruIdeal.nD Cert.MixLruIdeal.τ).loc Cert.MixLruIdeal.main_arg9))).2.2.2.2.1 = (fun _ => 1#1)
    ∧ (Cert.Pre_mix_lru_range.fn (F := Ideal) (m ((c.tc : Thread Cert.MixLruIdeal.nD Cert.MixLruIdeal.τ).loc Cert.MixLruIdeal.main_arg0)) (m ((c.tc : Thread Cert.MixLruIdeal.nD Cert.MixLruIdeal.τ).loc Cert.MixLruIdeal.main_arg1)) (m ((c.tc : Thread Cert.MixLruIdeal.nD Cert.MixLruIdeal.τ).loc Cert.MixLruIdeal.main_arg2)) (m ((c.tc : Thread Cert.MixLruIdeal.nD Cert.MixLruIdeal.τ).loc Cert.MixLruIdeal.main_arg3)) (m ((c.tc : Thread Cert.MixLruIdeal.nD Cert.MixLruIdeal.τ).loc Cert.MixLruIdeal.main_arg4)) (m ((c.tc : Thread Cert.MixLruIdeal.nD Cert.MixLruIdeal.τ).loc Cert.MixLruIdeal.main_arg5)) (m ((c.tc : Thread Cert.MixLruIdeal.nD Cert.MixLruIdeal.τ).loc Cert.MixLruIdeal.main_arg6)) (m ((c.tc : Thread Cert.MixLruIdeal.nD Cert.MixLruIdeal.τ).loc Cert.MixLruIdeal.main_arg7)) (m ((c.tc : Thread Cert.MixLruIdeal.nD Cert.MixLruIdeal.τ).loc Cert.MixLruIdeal.main_arg8)) (m ((c.tc : Thread Cert.MixLruIdeal.nD Cert.MixLruIdeal.τ).loc Cert.MixLruIdeal.main_arg9))).2.2.2.2.2.1 = (fun _ => 1#1)
    ∧ (Cert.Pre_mix_lru_range.fn (F := Ideal) (m ((c.tc : Thread Cert.MixLruIdeal.nD Cert.MixLruIdeal.τ).loc Cert.MixLruIdeal.main_arg0)) (m ((c.tc : Thread Cert.MixLruIdeal.nD Cert.MixLruIdeal.τ).loc Cert.MixLruIdeal.main_arg1)) (m ((c.tc : Thread Cert.MixLruIdeal.nD Cert.MixLruIdeal.τ).loc Cert.MixLruIdeal.main_arg2)) (m ((c.tc : Thread Cert.MixLruIdeal.nD Cert.MixLruIdeal.τ).loc Cert.MixLruIdeal.main_arg3)) (m ((c.tc : Thread Cert.MixLruIdeal.nD Cert.MixLruIdeal.τ).loc Cert.MixLruIdeal.main_arg4)) (m ((c.tc : Thread Cert.MixLruIdeal.nD Cert.MixLruIdeal.τ).loc Cert.MixLruIdeal.main_arg5)) (m ((c.tc : Thread Cert.MixLruIdeal.nD Cert.MixLruIdeal.τ).loc Cert.MixLruIdeal.main_arg6)) (m ((c.tc : Thread Cert.MixLruIdeal.nD Cert.MixLruIdeal.τ).loc Cert.MixLruIdeal.main_arg7)) (m ((c.tc : Thread Cert.MixLruIdeal.nD Cert.MixLruIdeal.τ).loc Cert.MixLruIdeal.main_arg8)) (m ((c.tc : Thread Cert.MixLruIdeal.nD Cert.MixLruIdeal.τ).loc Cert.MixLruIdeal.main_arg9))).2.2.2.2.2.2.1 = (fun _ => 1#1)
    ∧ (Cert.Pre_mix_lru_range.fn (F := Ideal) (m ((c.tc : Thread Cert.MixLruIdeal.nD Cert.MixLruIdeal.τ).loc Cert.MixLruIdeal.main_arg0)) (m ((c.tc : Thread Cert.MixLruIdeal.nD Cert.MixLruIdeal.τ).loc Cert.MixLruIdeal.main_arg1)) (m ((c.tc : Thread Cert.MixLruIdeal.nD Cert.MixLruIdeal.τ).loc Cert.MixLruIdeal.main_arg2)) (m ((c.tc : Thread Cert.MixLruIdeal.nD Cert.MixLruIdeal.τ).loc Cert.MixLruIdeal.main_arg3)) (m ((c.tc : Thread Cert.MixLruIdeal.nD Cert.MixLruIdeal.τ).loc Cert.MixLruIdeal.main_arg4)) (m ((c.tc : Thread Cert.MixLruIdeal.nD Cert.MixLruIdeal.τ).loc Cert.MixLruIdeal.main_arg5)) (m ((c.tc : Thread Cert.MixLruIdeal.nD Cert.MixLruIdeal.τ).loc Cert.MixLruIdeal.main_arg6)) (m ((c.tc : Thread Cert.MixLruIdeal.nD Cert.MixLruIdeal.τ).loc Cert.MixLruIdeal.main_arg7)) (m ((c.tc : Thread Cert.MixLruIdeal.nD Cert.MixLruIdeal.τ).loc Cert.MixLruIdeal.main_arg8)) (m ((c.tc : Thread Cert.MixLruIdeal.nD Cert.MixLruIdeal.τ).loc Cert.MixLruIdeal.main_arg9))).2.2.2.2.2.2.2.1 = (fun _ => 1#1)
    ∧ (Cert.Pre_mix_lru_range.fn (F := Ideal) (m ((c.tc : Thread Cert.MixLruIdeal.nD Cert.MixLruIdeal.τ).loc Cert.MixLruIdeal.main_arg0)) (m ((c.tc : Thread Cert.MixLruIdeal.nD Cert.MixLruIdeal.τ).loc Cert.MixLruIdeal.main_arg1)) (m ((c.tc : Thread Cert.MixLruIdeal.nD Cert.MixLruIdeal.τ).loc Cert.MixLruIdeal.main_arg2)) (m ((c.tc : Thread Cert.MixLruIdeal.nD Cert.MixLruIdeal.τ).loc Cert.MixLruIdeal.main_arg3)) (m ((c.tc : Thread Cert.MixLruIdeal.nD Cert.MixLruIdeal.τ).loc Cert.MixLruIdeal.main_arg4)) (m ((c.tc : Thread Cert.MixLruIdeal.nD Cert.MixLruIdeal.τ).loc Cert.MixLruIdeal.main_arg5)) (m ((c.tc : Thread Cert.MixLruIdeal.nD Cert.MixLruIdeal.τ).loc Cert.MixLruIdeal.main_arg6)) (m ((c.tc : Thread Cert.MixLruIdeal.nD Cert.MixLruIdeal.τ).loc Cert.MixLruIdeal.main_arg7)) (m ((c.tc : Thread Cert.MixLruIdeal.nD Cert.MixLruIdeal.τ).loc Cert.MixLruIdeal.main_arg8)) (m ((c.tc : Thread Cert.MixLruIdeal.nD Cert.MixLruIdeal.τ).loc Cert.MixLruIdeal.main_arg9))).2.2.2.2.2.2.2.2.1 = (fun _ => 1#1)
    ∧ (Cert.Pre_mix_lru_range.fn (F := Ideal) (m ((c.tc : Thread Cert.MixLruIdeal.nD Cert.MixLruIdeal.τ).loc Cert.MixLruIdeal.main_arg0)) (m ((c.tc : Thread Cert.MixLruIdeal.nD Cert.MixLruIdeal.τ).loc Cert.MixLruIdeal.main_arg1)) (m ((c.tc : Thread Cert.MixLruIdeal.nD Cert.MixLruIdeal.τ).loc Cert.MixLruIdeal.main_arg2)) (m ((c.tc : Thread Cert.MixLruIdeal.nD Cert.MixLruIdeal.τ).loc Cert.MixLruIdeal.main_arg3)) (m ((c.tc : Thread Cert.MixLruIdeal.nD Cert.MixLruIdeal.τ).loc Cert.MixLruIdeal.main_arg4)) (m ((c.tc : Thread Cert.MixLruIdeal.nD Cert.MixLruIdeal.τ).loc Cert.MixLruIdeal.main_arg5)) (m ((c.tc : Thread Cert.MixLruIdeal.nD Cert.MixLruIdeal.τ).loc Cert.MixLruIdeal.main_arg6)) (m ((c.tc : Thread Cert.MixLruIdeal.nD Cert.MixLruIdeal.τ).loc Cert.MixLruIdeal.main_arg7)) (m ((c.tc : Thread Cert.MixLruIdeal.nD Cert.MixLruIdeal.τ).loc Cert.MixLruIdeal.main_arg8)) (m ((c.tc : Thread Cert.MixLruIdeal.nD Cert.MixLruIdeal.τ).loc Cert.MixLruIdeal.main_arg9))).2.2.2.2.2.2.2.2.2.1 = (fun _ => 1#1)
    ∧ (Cert.Pre_mix_lru_range.fn (F := Ideal) (m ((c.tc : Thread Cert.MixLruIdeal.nD Cert.MixLruIdeal.τ).loc Cert.MixLruIdeal.main_arg0)) (m ((c.tc : Thread Cert.MixLruIdeal.nD Cert.MixLruIdeal.τ).loc Cert.MixLruIdeal.main_arg1)) (m ((c.tc : Thread Cert.MixLruIdeal.nD Cert.MixLruIdeal.τ).loc Cert.MixLruIdeal.main_arg2)) (m ((c.tc : Thread Cert.MixLruIdeal.nD Cert.MixLruIdeal.τ).loc Cert.MixLruIdeal.main_arg3)) (m ((c.tc : Thread Cert.MixLruIdeal.nD Cert.MixLruIdeal.τ).loc Cert.MixLruIdeal.main_arg4)) (m ((c.tc : Thread Cert.MixLruIdeal.nD Cert.MixLruIdeal.τ).loc Cert.MixLruIdeal.main_arg5)) (m ((c.tc : Thread Cert.MixLruIdeal.nD Cert.MixLruIdeal.τ).loc Cert.MixLruIdeal.main_arg6)) (m ((c.tc : Thread Cert.MixLruIdeal.nD Cert.MixLruIdeal.τ).loc Cert.MixLruIdeal.main_arg7)) (m ((c.tc : Thread Cert.MixLruIdeal.nD Cert.MixLruIdeal.τ).loc Cert.MixLruIdeal.main_arg8)) (m ((c.tc : Thread Cert.MixLruIdeal.nD Cert.MixLruIdeal.τ).loc Cert.MixLruIdeal.main_arg9))).2.2.2.2.2.2.2.2.2.2 = (fun _ => 1#1)

def Pre_MixLruRefIdeal (m : (ℓ : Loc Cert.MixLruRefIdeal.nD Cert.MixLruRefIdeal.τ Cert.MixLruRefIdeal.sig) → Buf (Elt Ideal) ℓ) : Prop :=
  True

def Pre_MixLruRefIdeal_mix_lru_range [hPre_mix_lru_range : Cert.Pre_mix_lru_range.Facts] (m : (ℓ : Loc Cert.MixLruRefIdeal.nD Cert.MixLruRefIdeal.τ Cert.MixLruRefIdeal.sig) → Buf (Elt Ideal) ℓ) : Prop :=
  ∀ c : Dev Cert.MixLruRefIdeal.nD,
    (Cert.Pre_mix_lru_range.fn (F := Ideal) (m ((c.tc : Thread Cert.MixLruRefIdeal.nD Cert.MixLruRefIdeal.τ).loc Cert.MixLruRefIdeal.main_arg0)) (m ((c.tc : Thread Cert.MixLruRefIdeal.nD Cert.MixLruRefIdeal.τ).loc Cert.MixLruRefIdeal.main_arg1)) (m ((c.tc : Thread Cert.MixLruRefIdeal.nD Cert.MixLruRefIdeal.τ).loc Cert.MixLruRefIdeal.main_arg2)) (m ((c.tc : Thread Cert.MixLruRefIdeal.nD Cert.MixLruRefIdeal.τ).loc Cert.MixLruRefIdeal.main_arg3)) (m ((c.tc : Thread Cert.MixLruRefIdeal.nD Cert.MixLruRefIdeal.τ).loc Cert.MixLruRefIdeal.main_arg4)) (m ((c.tc : Thread Cert.MixLruRefIdeal.nD Cert.MixLruRefIdeal.τ).loc Cert.MixLruRefIdeal.main_arg5)) (m ((c.tc : Thread Cert.MixLruRefIdeal.nD Cert.MixLruRefIdeal.τ).loc Cert.MixLruRefIdeal.main_arg6)) (m ((c.tc : Thread Cert.MixLruRefIdeal.nD Cert.MixLruRefIdeal.τ).loc Cert.MixLruRefIdeal.main_arg7)) (m ((c.tc : Thread Cert.MixLruRefIdeal.nD Cert.MixLruRefIdeal.τ).loc Cert.MixLruRefIdeal.main_arg8)) (m ((c.tc : Thread Cert.MixLruRefIdeal.nD Cert.MixLruRefIdeal.τ).loc Cert.MixLruRefIdeal.main_arg9))).1 = (fun _ => 1#1)
    ∧ (Cert.Pre_mix_lru_range.fn (F := Ideal) (m ((c.tc : Thread Cert.MixLruRefIdeal.nD Cert.MixLruRefIdeal.τ).loc Cert.MixLruRefIdeal.main_arg0)) (m ((c.tc : Thread Cert.MixLruRefIdeal.nD Cert.MixLruRefIdeal.τ).loc Cert.MixLruRefIdeal.main_arg1)) (m ((c.tc : Thread Cert.MixLruRefIdeal.nD Cert.MixLruRefIdeal.τ).loc Cert.MixLruRefIdeal.main_arg2)) (m ((c.tc : Thread Cert.MixLruRefIdeal.nD Cert.MixLruRefIdeal.τ).loc Cert.MixLruRefIdeal.main_arg3)) (m ((c.tc : Thread Cert.MixLruRefIdeal.nD Cert.MixLruRefIdeal.τ).loc Cert.MixLruRefIdeal.main_arg4)) (m ((c.tc : Thread Cert.MixLruRefIdeal.nD Cert.MixLruRefIdeal.τ).loc Cert.MixLruRefIdeal.main_arg5)) (m ((c.tc : Thread Cert.MixLruRefIdeal.nD Cert.MixLruRefIdeal.τ).loc Cert.MixLruRefIdeal.main_arg6)) (m ((c.tc : Thread Cert.MixLruRefIdeal.nD Cert.MixLruRefIdeal.τ).loc Cert.MixLruRefIdeal.main_arg7)) (m ((c.tc : Thread Cert.MixLruRefIdeal.nD Cert.MixLruRefIdeal.τ).loc Cert.MixLruRefIdeal.main_arg8)) (m ((c.tc : Thread Cert.MixLruRefIdeal.nD Cert.MixLruRefIdeal.τ).loc Cert.MixLruRefIdeal.main_arg9))).2.1 = (fun _ => 1#1)
    ∧ (Cert.Pre_mix_lru_range.fn (F := Ideal) (m ((c.tc : Thread Cert.MixLruRefIdeal.nD Cert.MixLruRefIdeal.τ).loc Cert.MixLruRefIdeal.main_arg0)) (m ((c.tc : Thread Cert.MixLruRefIdeal.nD Cert.MixLruRefIdeal.τ).loc Cert.MixLruRefIdeal.main_arg1)) (m ((c.tc : Thread Cert.MixLruRefIdeal.nD Cert.MixLruRefIdeal.τ).loc Cert.MixLruRefIdeal.main_arg2)) (m ((c.tc : Thread Cert.MixLruRefIdeal.nD Cert.MixLruRefIdeal.τ).loc Cert.MixLruRefIdeal.main_arg3)) (m ((c.tc : Thread Cert.MixLruRefIdeal.nD Cert.MixLruRefIdeal.τ).loc Cert.MixLruRefIdeal.main_arg4)) (m ((c.tc : Thread Cert.MixLruRefIdeal.nD Cert.MixLruRefIdeal.τ).loc Cert.MixLruRefIdeal.main_arg5)) (m ((c.tc : Thread Cert.MixLruRefIdeal.nD Cert.MixLruRefIdeal.τ).loc Cert.MixLruRefIdeal.main_arg6)) (m ((c.tc : Thread Cert.MixLruRefIdeal.nD Cert.MixLruRefIdeal.τ).loc Cert.MixLruRefIdeal.main_arg7)) (m ((c.tc : Thread Cert.MixLruRefIdeal.nD Cert.MixLruRefIdeal.τ).loc Cert.MixLruRefIdeal.main_arg8)) (m ((c.tc : Thread Cert.MixLruRefIdeal.nD Cert.MixLruRefIdeal.τ).loc Cert.MixLruRefIdeal.main_arg9))).2.2.1 = (fun _ => 1#1)
    ∧ (Cert.Pre_mix_lru_range.fn (F := Ideal) (m ((c.tc : Thread Cert.MixLruRefIdeal.nD Cert.MixLruRefIdeal.τ).loc Cert.MixLruRefIdeal.main_arg0)) (m ((c.tc : Thread Cert.MixLruRefIdeal.nD Cert.MixLruRefIdeal.τ).loc Cert.MixLruRefIdeal.main_arg1)) (m ((c.tc : Thread Cert.MixLruRefIdeal.nD Cert.MixLruRefIdeal.τ).loc Cert.MixLruRefIdeal.main_arg2)) (m ((c.tc : Thread Cert.MixLruRefIdeal.nD Cert.MixLruRefIdeal.τ).loc Cert.MixLruRefIdeal.main_arg3)) (m ((c.tc : Thread Cert.MixLruRefIdeal.nD Cert.MixLruRefIdeal.τ).loc Cert.MixLruRefIdeal.main_arg4)) (m ((c.tc : Thread Cert.MixLruRefIdeal.nD Cert.MixLruRefIdeal.τ).loc Cert.MixLruRefIdeal.main_arg5)) (m ((c.tc : Thread Cert.MixLruRefIdeal.nD Cert.MixLruRefIdeal.τ).loc Cert.MixLruRefIdeal.main_arg6)) (m ((c.tc : Thread Cert.MixLruRefIdeal.nD Cert.MixLruRefIdeal.τ).loc Cert.MixLruRefIdeal.main_arg7)) (m ((c.tc : Thread Cert.MixLruRefIdeal.nD Cert.MixLruRefIdeal.τ).loc Cert.MixLruRefIdeal.main_arg8)) (m ((c.tc : Thread Cert.MixLruRefIdeal.nD Cert.MixLruRefIdeal.τ).loc Cert.MixLruRefIdeal.main_arg9))).2.2.2.1 = (fun _ => 1#1)
    ∧ (Cert.Pre_mix_lru_range.fn (F := Ideal) (m ((c.tc : Thread Cert.MixLruRefIdeal.nD Cert.MixLruRefIdeal.τ).loc Cert.MixLruRefIdeal.main_arg0)) (m ((c.tc : Thread Cert.MixLruRefIdeal.nD Cert.MixLruRefIdeal.τ).loc Cert.MixLruRefIdeal.main_arg1)) (m ((c.tc : Thread Cert.MixLruRefIdeal.nD Cert.MixLruRefIdeal.τ).loc Cert.MixLruRefIdeal.main_arg2)) (m ((c.tc : Thread Cert.MixLruRefIdeal.nD Cert.MixLruRefIdeal.τ).loc Cert.MixLruRefIdeal.main_arg3)) (m ((c.tc : Thread Cert.MixLruRefIdeal.nD Cert.MixLruRefIdeal.τ).loc Cert.MixLruRefIdeal.main_arg4)) (m ((c.tc : Thread Cert.MixLruRefIdeal.nD Cert.MixLruRefIdeal.τ).loc Cert.MixLruRefIdeal.main_arg5)) (m ((c.tc : Thread Cert.MixLruRefIdeal.nD Cert.MixLruRefIdeal.τ).loc Cert.MixLruRefIdeal.main_arg6)) (m ((c.tc : Thread Cert.MixLruRefIdeal.nD Cert.MixLruRefIdeal.τ).loc Cert.MixLruRefIdeal.main_arg7)) (m ((c.tc : Thread Cert.MixLruRefIdeal.nD Cert.MixLruRefIdeal.τ).loc Cert.MixLruRefIdeal.main_arg8)) (m ((c.tc : Thread Cert.MixLruRefIdeal.nD Cert.MixLruRefIdeal.τ).loc Cert.MixLruRefIdeal.main_arg9))).2.2.2.2.1 = (fun _ => 1#1)
    ∧ (Cert.Pre_mix_lru_range.fn (F := Ideal) (m ((c.tc : Thread Cert.MixLruRefIdeal.nD Cert.MixLruRefIdeal.τ).loc Cert.MixLruRefIdeal.main_arg0)) (m ((c.tc : Thread Cert.MixLruRefIdeal.nD Cert.MixLruRefIdeal.τ).loc Cert.MixLruRefIdeal.main_arg1)) (m ((c.tc : Thread Cert.MixLruRefIdeal.nD Cert.MixLruRefIdeal.τ).loc Cert.MixLruRefIdeal.main_arg2)) (m ((c.tc : Thread Cert.MixLruRefIdeal.nD Cert.MixLruRefIdeal.τ).loc Cert.MixLruRefIdeal.main_arg3)) (m ((c.tc : Thread Cert.MixLruRefIdeal.nD Cert.MixLruRefIdeal.τ).loc Cert.MixLruRefIdeal.main_arg4)) (m ((c.tc : Thread Cert.MixLruRefIdeal.nD Cert.MixLruRefIdeal.τ).loc Cert.MixLruRefIdeal.main_arg5)) (m ((c.tc : Thread Cert.MixLruRefIdeal.nD Cert.MixLruRefIdeal.τ).loc Cert.MixLruRefIdeal.main_arg6)) (m ((c.tc : Thread Cert.MixLruRefIdeal.nD Cert.MixLruRefIdeal.τ).loc Cert.MixLruRefIdeal.main_arg7)) (m ((c.tc : Thread Cert.MixLruRefIdeal.nD Cert.MixLruRefIdeal.τ).loc Cert.MixLruRefIdeal.main_arg8)) (m ((c.tc : Thread Cert.MixLruRefIdeal.nD Cert.MixLruRefIdeal.τ).loc Cert.MixLruRefIdeal.main_arg9))).2.2.2.2.2.1 = (fun _ => 1#1)
    ∧ (Cert.Pre_mix_lru_range.fn (F := Ideal) (m ((c.tc : Thread Cert.MixLruRefIdeal.nD Cert.MixLruRefIdeal.τ).loc Cert.MixLruRefIdeal.main_arg0)) (m ((c.tc : Thread Cert.MixLruRefIdeal.nD Cert.MixLruRefIdeal.τ).loc Cert.MixLruRefIdeal.main_arg1)) (m ((c.tc : Thread Cert.MixLruRefIdeal.nD Cert.MixLruRefIdeal.τ).loc Cert.MixLruRefIdeal.main_arg2)) (m ((c.tc : Thread Cert.MixLruRefIdeal.nD Cert.MixLruRefIdeal.τ).loc Cert.MixLruRefIdeal.main_arg3)) (m ((c.tc : Thread Cert.MixLruRefIdeal.nD Cert.MixLruRefIdeal.τ).loc Cert.MixLruRefIdeal.main_arg4)) (m ((c.tc : Thread Cert.MixLruRefIdeal.nD Cert.MixLruRefIdeal.τ).loc Cert.MixLruRefIdeal.main_arg5)) (m ((c.tc : Thread Cert.MixLruRefIdeal.nD Cert.MixLruRefIdeal.τ).loc Cert.MixLruRefIdeal.main_arg6)) (m ((c.tc : Thread Cert.MixLruRefIdeal.nD Cert.MixLruRefIdeal.τ).loc Cert.MixLruRefIdeal.main_arg7)) (m ((c.tc : Thread Cert.MixLruRefIdeal.nD Cert.MixLruRefIdeal.τ).loc Cert.MixLruRefIdeal.main_arg8)) (m ((c.tc : Thread Cert.MixLruRefIdeal.nD Cert.MixLruRefIdeal.τ).loc Cert.MixLruRefIdeal.main_arg9))).2.2.2.2.2.2.1 = (fun _ => 1#1)
    ∧ (Cert.Pre_mix_lru_range.fn (F := Ideal) (m ((c.tc : Thread Cert.MixLruRefIdeal.nD Cert.MixLruRefIdeal.τ).loc Cert.MixLruRefIdeal.main_arg0)) (m ((c.tc : Thread Cert.MixLruRefIdeal.nD Cert.MixLruRefIdeal.τ).loc Cert.MixLruRefIdeal.main_arg1)) (m ((c.tc : Thread Cert.MixLruRefIdeal.nD Cert.MixLruRefIdeal.τ).loc Cert.MixLruRefIdeal.main_arg2)) (m ((c.tc : Thread Cert.MixLruRefIdeal.nD Cert.MixLruRefIdeal.τ).loc Cert.MixLruRefIdeal.main_arg3)) (m ((c.tc : Thread Cert.MixLruRefIdeal.nD Cert.MixLruRefIdeal.τ).loc Cert.MixLruRefIdeal.main_arg4)) (m ((c.tc : Thread Cert.MixLruRefIdeal.nD Cert.MixLruRefIdeal.τ).loc Cert.MixLruRefIdeal.main_arg5)) (m ((c.tc : Thread Cert.MixLruRefIdeal.nD Cert.MixLruRefIdeal.τ).loc Cert.MixLruRefIdeal.main_arg6)) (m ((c.tc : Thread Cert.MixLruRefIdeal.nD Cert.MixLruRefIdeal.τ).loc Cert.MixLruRefIdeal.main_arg7)) (m ((c.tc : Thread Cert.MixLruRefIdeal.nD Cert.MixLruRefIdeal.τ).loc Cert.MixLruRefIdeal.main_arg8)) (m ((c.tc : Thread Cert.MixLruRefIdeal.nD Cert.MixLruRefIdeal.τ).loc Cert.MixLruRefIdeal.main_arg9))).2.2.2.2.2.2.2.1 = (fun _ => 1#1)
    ∧ (Cert.Pre_mix_lru_range.fn (F := Ideal) (m ((c.tc : Thread Cert.MixLruRefIdeal.nD Cert.MixLruRefIdeal.τ).loc Cert.MixLruRefIdeal.main_arg0)) (m ((c.tc : Thread Cert.MixLruRefIdeal.nD Cert.MixLruRefIdeal.τ).loc Cert.MixLruRefIdeal.main_arg1)) (m ((c.tc : Thread Cert.MixLruRefIdeal.nD Cert.MixLruRefIdeal.τ).loc Cert.MixLruRefIdeal.main_arg2)) (m ((c.tc : Thread Cert.MixLruRefIdeal.nD Cert.MixLruRefIdeal.τ).loc Cert.MixLruRefIdeal.main_arg3)) (m ((c.tc : Thread Cert.MixLruRefIdeal.nD Cert.MixLruRefIdeal.τ).loc Cert.MixLruRefIdeal.main_arg4)) (m ((c.tc : Thread Cert.MixLruRefIdeal.nD Cert.MixLruRefIdeal.τ).loc Cert.MixLruRefIdeal.main_arg5)) (m ((c.tc : Thread Cert.MixLruRefIdeal.nD Cert.MixLruRefIdeal.τ).loc Cert.MixLruRefIdeal.main_arg6)) (m ((c.tc : Thread Cert.MixLruRefIdeal.nD Cert.MixLruRefIdeal.τ).loc Cert.MixLruRefIdeal.main_arg7)) (m ((c.tc : Thread Cert.MixLruRefIdeal.nD Cert.MixLruRefIdeal.τ).loc Cert.MixLruRefIdeal.main_arg8)) (m ((c.tc : Thread Cert.MixLruRefIdeal.nD Cert.MixLruRefIdeal.τ).loc Cert.MixLruRefIdeal.main_arg9))).2.2.2.2.2.2.2.2.1 = (fun _ => 1#1)
    ∧ (Cert.Pre_mix_lru_range.fn (F := Ideal) (m ((c.tc : Thread Cert.MixLruRefIdeal.nD Cert.MixLruRefIdeal.τ).loc Cert.MixLruRefIdeal.main_arg0)) (m ((c.tc : Thread Cert.MixLruRefIdeal.nD Cert.MixLruRefIdeal.τ).loc Cert.MixLruRefIdeal.main_arg1)) (m ((c.tc : Thread Cert.MixLruRefIdeal.nD Cert.MixLruRefIdeal.τ).loc Cert.MixLruRefIdeal.main_arg2)) (m ((c.tc : Thread Cert.MixLruRefIdeal.nD Cert.MixLruRefIdeal.τ).loc Cert.MixLruRefIdeal.main_arg3)) (m ((c.tc : Thread Cert.MixLruRefIdeal.nD Cert.MixLruRefIdeal.τ).loc Cert.MixLruRefIdeal.main_arg4)) (m ((c.tc : Thread Cert.MixLruRefIdeal.nD Cert.MixLruRefIdeal.τ).loc Cert.MixLruRefIdeal.main_arg5)) (m ((c.tc : Thread Cert.MixLruRefIdeal.nD Cert.MixLruRefIdeal.τ).loc Cert.MixLruRefIdeal.main_arg6)) (m ((c.tc : Thread Cert.MixLruRefIdeal.nD Cert.MixLruRefIdeal.τ).loc Cert.MixLruRefIdeal.main_arg7)) (m ((c.tc : Thread Cert.MixLruRefIdeal.nD Cert.MixLruRefIdeal.τ).loc Cert.MixLruRefIdeal.main_arg8)) (m ((c.tc : Thread Cert.MixLruRefIdeal.nD Cert.MixLruRefIdeal.τ).loc Cert.MixLruRefIdeal.main_arg9))).2.2.2.2.2.2.2.2.2.1 = (fun _ => 1#1)
    ∧ (Cert.Pre_mix_lru_range.fn (F := Ideal) (m ((c.tc : Thread Cert.MixLruRefIdeal.nD Cert.MixLruRefIdeal.τ).loc Cert.MixLruRefIdeal.main_arg0)) (m ((c.tc : Thread Cert.MixLruRefIdeal.nD Cert.MixLruRefIdeal.τ).loc Cert.MixLruRefIdeal.main_arg1)) (m ((c.tc : Thread Cert.MixLruRefIdeal.nD Cert.MixLruRefIdeal.τ).loc Cert.MixLruRefIdeal.main_arg2)) (m ((c.tc : Thread Cert.MixLruRefIdeal.nD Cert.MixLruRefIdeal.τ).loc Cert.MixLruRefIdeal.main_arg3)) (m ((c.tc : Thread Cert.MixLruRefIdeal.nD Cert.MixLruRefIdeal.τ).loc Cert.MixLruRefIdeal.main_arg4)) (m ((c.tc : Thread Cert.MixLruRefIdeal.nD Cert.MixLruRefIdeal.τ).loc Cert.MixLruRefIdeal.main_arg5)) (m ((c.tc : Thread Cert.MixLruRefIdeal.nD Cert.MixLruRefIdeal.τ).loc Cert.MixLruRefIdeal.main_arg6)) (m ((c.tc : Thread Cert.MixLruRefIdeal.nD Cert.MixLruRefIdeal.τ).loc Cert.MixLruRefIdeal.main_arg7)) (m ((c.tc : Thread Cert.MixLruRefIdeal.nD Cert.MixLruRefIdeal.τ).loc Cert.MixLruRefIdeal.main_arg8)) (m ((c.tc : Thread Cert.MixLruRefIdeal.nD Cert.MixLruRefIdeal.τ).loc Cert.MixLruRefIdeal.main_arg9))).2.2.2.2.2.2.2.2.2.2 = (fun _ => 1#1)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ r.2.sem = fun _ => 0)

def quiescent_NormInIdeal_pre_norm_in_finite [hNormInIdeal : Cert.NormInIdeal.Facts] [hPre_norm_in_finite : Cert.Pre_norm_in_finite.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal_norm_in_finite m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3))
      ∧ r.2.sem = fun _ => 0)

def quiescent_NormInRefIdeal_pre_norm_in_finite [hNormInRefIdeal : Cert.NormInRefIdeal.Facts] [hPre_norm_in_finite : Cert.Pre_norm_in_finite.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal_norm_in_finite m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3))
      ∧ r.2.sem = fun _ => 0)

def quiescent_NormsMid [hNormsMid : Cert.NormsMid.Facts] : Prop :=
  ∀ (m : (ℓ : Loc Cert.NormsMid.nD Cert.NormsMid.τ Cert.NormsMid.sig) → Buf (Elt Bits) ℓ) (g : Dev Cert.NormsMid.nD → PrngReg), Pre_NormsMid m →
    θ_run (Cert.NormsMid.defs (F := Bits)) (onTc (τ := Cert.NormsMid.τ) (Cert.NormsMid.main (F := Bits))) ⟨m, fun _ => 0, g⟩ (fun r => (∀ c : Dev Cert.NormsMid.nD,
      r.2.mem ((c.tc : Thread Cert.NormsMid.nD Cert.NormsMid.τ).loc Cert.NormsMid.main_arg0) = m ((c.tc : Thread Cert.NormsMid.nD Cert.NormsMid.τ).loc Cert.NormsMid.main_arg0)
      ∧ r.2.mem ((c.tc : Thread Cert.NormsMid.nD Cert.NormsMid.τ).loc Cert.NormsMid.main_arg1) = m ((c.tc : Thread Cert.NormsMid.nD Cert.NormsMid.τ).loc Cert.NormsMid.main_arg1)
      ∧ r.2.mem ((c.tc : Thread Cert.NormsMid.nD Cert.NormsMid.τ).loc Cert.NormsMid.main_arg2) = m ((c.tc : Thread Cert.NormsMid.nD Cert.NormsMid.τ).loc Cert.NormsMid.main_arg2)
      ∧ r.2.mem ((c.tc : Thread Cert.NormsMid.nD Cert.NormsMid.τ).loc Cert.NormsMid.main_arg3) = m ((c.tc : Thread Cert.NormsMid.nD Cert.NormsMid.τ).loc Cert.NormsMid.main_arg3)
      ∧ r.2.mem ((c.tc : Thread Cert.NormsMid.nD Cert.NormsMid.τ).loc Cert.NormsMid.main_arg4) = m ((c.tc : Thread Cert.NormsMid.nD Cert.NormsMid.τ).loc Cert.NormsMid.main_arg4)
      ∧ r.2.mem ((c.tc : Thread Cert.NormsMid.nD Cert.NormsMid.τ).loc Cert.NormsMid.main_arg5) = m ((c.tc : Thread Cert.NormsMid.nD Cert.NormsMid.τ).loc Cert.NormsMid.main_arg5))
      ∧ r.2.sem = fun _ => 0)

def quiescent_NormsMidIdeal [hNormsMidIdeal : Cert.NormsMidIdeal.Facts] : Prop :=
  ∀ (m : (ℓ : Loc Cert.NormsMidIdeal.nD Cert.NormsMidIdeal.τ Cert.NormsMidIdeal.sig) → Buf (Elt Ideal) ℓ) (g : Dev Cert.NormsMidIdeal.nD → PrngReg), Pre_NormsMidIdeal m →
    θ_run (Cert.NormsMidIdeal.defs (F := Ideal)) (onTc (τ := Cert.NormsMidIdeal.τ) (Cert.NormsMidIdeal.main (F := Ideal))) ⟨m, fun _ => 0, g⟩ (fun r => (∀ c : Dev Cert.NormsMidIdeal.nD,
      r.2.mem ((c.tc : Thread Cert.NormsMidIdeal.nD Cert.NormsMidIdeal.τ).loc Cert.NormsMidIdeal.main_arg0) = m ((c.tc : Thread Cert.NormsMidIdeal.nD Cert.NormsMidIdeal.τ).loc Cert.NormsMidIdeal.main_arg0)
      ∧ r.2.mem ((c.tc : Thread Cert.NormsMidIdeal.nD Cert.NormsMidIdeal.τ).loc Cert.NormsMidIdeal.main_arg1) = m ((c.tc : Thread Cert.NormsMidIdeal.nD Cert.NormsMidIdeal.τ).loc Cert.NormsMidIdeal.main_arg1)
      ∧ r.2.mem ((c.tc : Thread Cert.NormsMidIdeal.nD Cert.NormsMidIdeal.τ).loc Cert.NormsMidIdeal.main_arg2) = m ((c.tc : Thread Cert.NormsMidIdeal.nD Cert.NormsMidIdeal.τ).loc Cert.NormsMidIdeal.main_arg2)
      ∧ r.2.mem ((c.tc : Thread Cert.NormsMidIdeal.nD Cert.NormsMidIdeal.τ).loc Cert.NormsMidIdeal.main_arg3) = m ((c.tc : Thread Cert.NormsMidIdeal.nD Cert.NormsMidIdeal.τ).loc Cert.NormsMidIdeal.main_arg3)
      ∧ r.2.mem ((c.tc : Thread Cert.NormsMidIdeal.nD Cert.NormsMidIdeal.τ).loc Cert.NormsMidIdeal.main_arg4) = m ((c.tc : Thread Cert.NormsMidIdeal.nD Cert.NormsMidIdeal.τ).loc Cert.NormsMidIdeal.main_arg4)
      ∧ r.2.mem ((c.tc : Thread Cert.NormsMidIdeal.nD Cert.NormsMidIdeal.τ).loc Cert.NormsMidIdeal.main_arg5) = m ((c.tc : Thread Cert.NormsMidIdeal.nD Cert.NormsMidIdeal.τ).loc Cert.NormsMidIdeal.main_arg5))
      ∧ r.2.sem = fun _ => 0)

def quiescent_NormsMidIdeal_pre_norms_mid_finite [hNormsMidIdeal : Cert.NormsMidIdeal.Facts] [hPre_norms_mid_finite : Cert.Pre_norms_mid_finite.Facts] : Prop :=
  ∀ (m : (ℓ : Loc Cert.NormsMidIdeal.nD Cert.NormsMidIdeal.τ Cert.NormsMidIdeal.sig) → Buf (Elt Ideal) ℓ) (g : Dev Cert.NormsMidIdeal.nD → PrngReg), Pre_NormsMidIdeal_norms_mid_finite m →
    θ_run (Cert.NormsMidIdeal.defs (F := Ideal)) (onTc (τ := Cert.NormsMidIdeal.τ) (Cert.NormsMidIdeal.main (F := Ideal))) ⟨m, fun _ => 0, g⟩ (fun r => (∀ c : Dev Cert.NormsMidIdeal.nD,
      r.2.mem ((c.tc : Thread Cert.NormsMidIdeal.nD Cert.NormsMidIdeal.τ).loc Cert.NormsMidIdeal.main_arg0) = m ((c.tc : Thread Cert.NormsMidIdeal.nD Cert.NormsMidIdeal.τ).loc Cert.NormsMidIdeal.main_arg0)
      ∧ r.2.mem ((c.tc : Thread Cert.NormsMidIdeal.nD Cert.NormsMidIdeal.τ).loc Cert.NormsMidIdeal.main_arg1) = m ((c.tc : Thread Cert.NormsMidIdeal.nD Cert.NormsMidIdeal.τ).loc Cert.NormsMidIdeal.main_arg1)
      ∧ r.2.mem ((c.tc : Thread Cert.NormsMidIdeal.nD Cert.NormsMidIdeal.τ).loc Cert.NormsMidIdeal.main_arg2) = m ((c.tc : Thread Cert.NormsMidIdeal.nD Cert.NormsMidIdeal.τ).loc Cert.NormsMidIdeal.main_arg2)
      ∧ r.2.mem ((c.tc : Thread Cert.NormsMidIdeal.nD Cert.NormsMidIdeal.τ).loc Cert.NormsMidIdeal.main_arg3) = m ((c.tc : Thread Cert.NormsMidIdeal.nD Cert.NormsMidIdeal.τ).loc Cert.NormsMidIdeal.main_arg3)
      ∧ r.2.mem ((c.tc : Thread Cert.NormsMidIdeal.nD Cert.NormsMidIdeal.τ).loc Cert.NormsMidIdeal.main_arg4) = m ((c.tc : Thread Cert.NormsMidIdeal.nD Cert.NormsMidIdeal.τ).loc Cert.NormsMidIdeal.main_arg4)
      ∧ r.2.mem ((c.tc : Thread Cert.NormsMidIdeal.nD Cert.NormsMidIdeal.τ).loc Cert.NormsMidIdeal.main_arg5) = m ((c.tc : Thread Cert.NormsMidIdeal.nD Cert.NormsMidIdeal.τ).loc Cert.NormsMidIdeal.main_arg5))
      ∧ r.2.sem = fun _ => 0)

def quiescent_NormsMidRefIdeal [hNormsMidRefIdeal : Cert.NormsMidRefIdeal.Facts] : Prop :=
  ∀ (m : (ℓ : Loc Cert.NormsMidRefIdeal.nD Cert.NormsMidRefIdeal.τ Cert.NormsMidRefIdeal.sig) → Buf (Elt Ideal) ℓ) (g : Dev Cert.NormsMidRefIdeal.nD → PrngReg), Pre_NormsMidRefIdeal m →
    θ_run (Cert.NormsMidRefIdeal.defs (F := Ideal)) (onTc (τ := Cert.NormsMidRefIdeal.τ) (Cert.NormsMidRefIdeal.main (F := Ideal))) ⟨m, fun _ => 0, g⟩ (fun r => (∀ c : Dev Cert.NormsMidRefIdeal.nD,
      r.2.mem ((c.tc : Thread Cert.NormsMidRefIdeal.nD Cert.NormsMidRefIdeal.τ).loc Cert.NormsMidRefIdeal.main_arg0) = m ((c.tc : Thread Cert.NormsMidRefIdeal.nD Cert.NormsMidRefIdeal.τ).loc Cert.NormsMidRefIdeal.main_arg0)
      ∧ r.2.mem ((c.tc : Thread Cert.NormsMidRefIdeal.nD Cert.NormsMidRefIdeal.τ).loc Cert.NormsMidRefIdeal.main_arg1) = m ((c.tc : Thread Cert.NormsMidRefIdeal.nD Cert.NormsMidRefIdeal.τ).loc Cert.NormsMidRefIdeal.main_arg1)
      ∧ r.2.mem ((c.tc : Thread Cert.NormsMidRefIdeal.nD Cert.NormsMidRefIdeal.τ).loc Cert.NormsMidRefIdeal.main_arg2) = m ((c.tc : Thread Cert.NormsMidRefIdeal.nD Cert.NormsMidRefIdeal.τ).loc Cert.NormsMidRefIdeal.main_arg2)
      ∧ r.2.mem ((c.tc : Thread Cert.NormsMidRefIdeal.nD Cert.NormsMidRefIdeal.τ).loc Cert.NormsMidRefIdeal.main_arg3) = m ((c.tc : Thread Cert.NormsMidRefIdeal.nD Cert.NormsMidRefIdeal.τ).loc Cert.NormsMidRefIdeal.main_arg3)
      ∧ r.2.mem ((c.tc : Thread Cert.NormsMidRefIdeal.nD Cert.NormsMidRefIdeal.τ).loc Cert.NormsMidRefIdeal.main_arg4) = m ((c.tc : Thread Cert.NormsMidRefIdeal.nD Cert.NormsMidRefIdeal.τ).loc Cert.NormsMidRefIdeal.main_arg4)
      ∧ r.2.mem ((c.tc : Thread Cert.NormsMidRefIdeal.nD Cert.NormsMidRefIdeal.τ).loc Cert.NormsMidRefIdeal.main_arg5) = m ((c.tc : Thread Cert.NormsMidRefIdeal.nD Cert.NormsMidRefIdeal.τ).loc Cert.NormsMidRefIdeal.main_arg5))
      ∧ r.2.sem = fun _ => 0)

def quiescent_NormsMidRefIdeal_pre_norms_mid_finite [hNormsMidRefIdeal : Cert.NormsMidRefIdeal.Facts] [hPre_norms_mid_finite : Cert.Pre_norms_mid_finite.Facts] : Prop :=
  ∀ (m : (ℓ : Loc Cert.NormsMidRefIdeal.nD Cert.NormsMidRefIdeal.τ Cert.NormsMidRefIdeal.sig) → Buf (Elt Ideal) ℓ) (g : Dev Cert.NormsMidRefIdeal.nD → PrngReg), Pre_NormsMidRefIdeal_norms_mid_finite m →
    θ_run (Cert.NormsMidRefIdeal.defs (F := Ideal)) (onTc (τ := Cert.NormsMidRefIdeal.τ) (Cert.NormsMidRefIdeal.main (F := Ideal))) ⟨m, fun _ => 0, g⟩ (fun r => (∀ c : Dev Cert.NormsMidRefIdeal.nD,
      r.2.mem ((c.tc : Thread Cert.NormsMidRefIdeal.nD Cert.NormsMidRefIdeal.τ).loc Cert.NormsMidRefIdeal.main_arg0) = m ((c.tc : Thread Cert.NormsMidRefIdeal.nD Cert.NormsMidRefIdeal.τ).loc Cert.NormsMidRefIdeal.main_arg0)
      ∧ r.2.mem ((c.tc : Thread Cert.NormsMidRefIdeal.nD Cert.NormsMidRefIdeal.τ).loc Cert.NormsMidRefIdeal.main_arg1) = m ((c.tc : Thread Cert.NormsMidRefIdeal.nD Cert.NormsMidRefIdeal.τ).loc Cert.NormsMidRefIdeal.main_arg1)
      ∧ r.2.mem ((c.tc : Thread Cert.NormsMidRefIdeal.nD Cert.NormsMidRefIdeal.τ).loc Cert.NormsMidRefIdeal.main_arg2) = m ((c.tc : Thread Cert.NormsMidRefIdeal.nD Cert.NormsMidRefIdeal.τ).loc Cert.NormsMidRefIdeal.main_arg2)
      ∧ r.2.mem ((c.tc : Thread Cert.NormsMidRefIdeal.nD Cert.NormsMidRefIdeal.τ).loc Cert.NormsMidRefIdeal.main_arg3) = m ((c.tc : Thread Cert.NormsMidRefIdeal.nD Cert.NormsMidRefIdeal.τ).loc Cert.NormsMidRefIdeal.main_arg3)
      ∧ r.2.mem ((c.tc : Thread Cert.NormsMidRefIdeal.nD Cert.NormsMidRefIdeal.τ).loc Cert.NormsMidRefIdeal.main_arg4) = m ((c.tc : Thread Cert.NormsMidRefIdeal.nD Cert.NormsMidRefIdeal.τ).loc Cert.NormsMidRefIdeal.main_arg4)
      ∧ r.2.mem ((c.tc : Thread Cert.NormsMidRefIdeal.nD Cert.NormsMidRefIdeal.τ).loc Cert.NormsMidRefIdeal.main_arg5) = m ((c.tc : Thread Cert.NormsMidRefIdeal.nD Cert.NormsMidRefIdeal.τ).loc Cert.NormsMidRefIdeal.main_arg5))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3)
      ∧ r.2.mem ((c.tc : Thread Cert.FfnLoss.nD Cert.FfnLoss.τ).loc Cert.FfnLoss.main_arg4) = m ((c.tc : Thread Cert.FfnLoss.nD Cert.FfnLoss.τ).loc Cert.FfnLoss.main_arg4))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4))
      ∧ r.2.sem = fun _ => 0)

def quiescent_FfnLossIdeal_pre_ffn_loss_finite [hFfnLossIdeal : Cert.FfnLossIdeal.Facts] [hPre_ffn_loss_finite : Cert.Pre_ffn_loss_finite.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal_ffn_loss_finite m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4))
      ∧ r.2.sem = fun _ => 0)

def quiescent_FfnLossRefIdeal [hFfnLossRefIdeal : Cert.FfnLossRefIdeal.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4))
      ∧ r.2.sem = fun _ => 0)

def quiescent_FfnLossRefIdeal_pre_ffn_loss_finite [hFfnLossRefIdeal : Cert.FfnLossRefIdeal.Facts] [hPre_ffn_loss_finite : Cert.Pre_ffn_loss_finite.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal_ffn_loss_finite m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4))
      ∧ r.2.sem = fun _ => 0)

def quiescent_MixConv [hMixConv : Cert.MixConv.Facts] : Prop :=
  ∀ (m : (ℓ : Loc Cert.MixConv.nD Cert.MixConv.τ Cert.MixConv.sig) → Buf (Elt Bits) ℓ) (g : Dev Cert.MixConv.nD → PrngReg), Pre_MixConv m →
    θ_run (Cert.MixConv.defs (F := Bits)) (onTc (τ := Cert.MixConv.τ) (Cert.MixConv.main (F := Bits))) ⟨m, fun _ => 0, g⟩ (fun r => (∀ c : Dev Cert.MixConv.nD,
      r.2.mem ((c.tc : Thread Cert.MixConv.nD Cert.MixConv.τ).loc Cert.MixConv.main_arg0) = m ((c.tc : Thread Cert.MixConv.nD Cert.MixConv.τ).loc Cert.MixConv.main_arg0)
      ∧ r.2.mem ((c.tc : Thread Cert.MixConv.nD Cert.MixConv.τ).loc Cert.MixConv.main_arg1) = m ((c.tc : Thread Cert.MixConv.nD Cert.MixConv.τ).loc Cert.MixConv.main_arg1)
      ∧ r.2.mem ((c.tc : Thread Cert.MixConv.nD Cert.MixConv.τ).loc Cert.MixConv.main_arg2) = m ((c.tc : Thread Cert.MixConv.nD Cert.MixConv.τ).loc Cert.MixConv.main_arg2)
      ∧ r.2.mem ((c.tc : Thread Cert.MixConv.nD Cert.MixConv.τ).loc Cert.MixConv.main_arg3) = m ((c.tc : Thread Cert.MixConv.nD Cert.MixConv.τ).loc Cert.MixConv.main_arg3))
      ∧ r.2.sem = fun _ => 0)

def quiescent_MixConvIdeal [hMixConvIdeal : Cert.MixConvIdeal.Facts] : Prop :=
  ∀ (m : (ℓ : Loc Cert.MixConvIdeal.nD Cert.MixConvIdeal.τ Cert.MixConvIdeal.sig) → Buf (Elt Ideal) ℓ) (g : Dev Cert.MixConvIdeal.nD → PrngReg), Pre_MixConvIdeal m →
    θ_run (Cert.MixConvIdeal.defs (F := Ideal)) (onTc (τ := Cert.MixConvIdeal.τ) (Cert.MixConvIdeal.main (F := Ideal))) ⟨m, fun _ => 0, g⟩ (fun r => (∀ c : Dev Cert.MixConvIdeal.nD,
      r.2.mem ((c.tc : Thread Cert.MixConvIdeal.nD Cert.MixConvIdeal.τ).loc Cert.MixConvIdeal.main_arg0) = m ((c.tc : Thread Cert.MixConvIdeal.nD Cert.MixConvIdeal.τ).loc Cert.MixConvIdeal.main_arg0)
      ∧ r.2.mem ((c.tc : Thread Cert.MixConvIdeal.nD Cert.MixConvIdeal.τ).loc Cert.MixConvIdeal.main_arg1) = m ((c.tc : Thread Cert.MixConvIdeal.nD Cert.MixConvIdeal.τ).loc Cert.MixConvIdeal.main_arg1)
      ∧ r.2.mem ((c.tc : Thread Cert.MixConvIdeal.nD Cert.MixConvIdeal.τ).loc Cert.MixConvIdeal.main_arg2) = m ((c.tc : Thread Cert.MixConvIdeal.nD Cert.MixConvIdeal.τ).loc Cert.MixConvIdeal.main_arg2)
      ∧ r.2.mem ((c.tc : Thread Cert.MixConvIdeal.nD Cert.MixConvIdeal.τ).loc Cert.MixConvIdeal.main_arg3) = m ((c.tc : Thread Cert.MixConvIdeal.nD Cert.MixConvIdeal.τ).loc Cert.MixConvIdeal.main_arg3))
      ∧ r.2.sem = fun _ => 0)

def quiescent_MixConvRefIdeal [hMixConvRefIdeal : Cert.MixConvRefIdeal.Facts] : Prop :=
  ∀ (m : (ℓ : Loc Cert.MixConvRefIdeal.nD Cert.MixConvRefIdeal.τ Cert.MixConvRefIdeal.sig) → Buf (Elt Ideal) ℓ) (g : Dev Cert.MixConvRefIdeal.nD → PrngReg), Pre_MixConvRefIdeal m →
    θ_run (Cert.MixConvRefIdeal.defs (F := Ideal)) (onTc (τ := Cert.MixConvRefIdeal.τ) (Cert.MixConvRefIdeal.main (F := Ideal))) ⟨m, fun _ => 0, g⟩ (fun r => (∀ c : Dev Cert.MixConvRefIdeal.nD,
      r.2.mem ((c.tc : Thread Cert.MixConvRefIdeal.nD Cert.MixConvRefIdeal.τ).loc Cert.MixConvRefIdeal.main_arg0) = m ((c.tc : Thread Cert.MixConvRefIdeal.nD Cert.MixConvRefIdeal.τ).loc Cert.MixConvRefIdeal.main_arg0)
      ∧ r.2.mem ((c.tc : Thread Cert.MixConvRefIdeal.nD Cert.MixConvRefIdeal.τ).loc Cert.MixConvRefIdeal.main_arg1) = m ((c.tc : Thread Cert.MixConvRefIdeal.nD Cert.MixConvRefIdeal.τ).loc Cert.MixConvRefIdeal.main_arg1)
      ∧ r.2.mem ((c.tc : Thread Cert.MixConvRefIdeal.nD Cert.MixConvRefIdeal.τ).loc Cert.MixConvRefIdeal.main_arg2) = m ((c.tc : Thread Cert.MixConvRefIdeal.nD Cert.MixConvRefIdeal.τ).loc Cert.MixConvRefIdeal.main_arg2)
      ∧ r.2.mem ((c.tc : Thread Cert.MixConvRefIdeal.nD Cert.MixConvRefIdeal.τ).loc Cert.MixConvRefIdeal.main_arg3) = m ((c.tc : Thread Cert.MixConvRefIdeal.nD Cert.MixConvRefIdeal.τ).loc Cert.MixConvRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4)
      ∧ r.2.mem ((c.tc : Thread Cert.FfnUp.nD Cert.FfnUp.τ).loc Cert.FfnUp.main_arg5) = m ((c.tc : Thread Cert.FfnUp.nD Cert.FfnUp.τ).loc Cert.FfnUp.main_arg5))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5))
      ∧ r.2.sem = fun _ => 0)

def quiescent_FfnUpIdeal_pre_ffn_up_finite [hFfnUpIdeal : Cert.FfnUpIdeal.Facts] [hPre_ffn_up_finite : Cert.Pre_ffn_up_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_ffn_up_finite m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5))
      ∧ r.2.sem = fun _ => 0)

def quiescent_FfnUpRefIdeal_pre_ffn_up_finite [hFfnUpRefIdeal : Cert.FfnUpRefIdeal.Facts] [hPre_ffn_up_finite : Cert.Pre_ffn_up_finite.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_ffn_up_finite m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_MixLru [hMixLru : Cert.MixLru.Facts] : Prop :=
  ∀ (m : (ℓ : Loc Cert.MixLru.nD Cert.MixLru.τ Cert.MixLru.sig) → Buf (Elt Bits) ℓ) (g : Dev Cert.MixLru.nD → PrngReg), Pre_MixLru m →
    θ_run (Cert.MixLru.defs (F := Bits)) (onTc (τ := Cert.MixLru.τ) (Cert.MixLru.main (F := Bits))) ⟨m, fun _ => 0, g⟩ (fun r => (∀ c : Dev Cert.MixLru.nD,
      r.2.mem ((c.tc : Thread Cert.MixLru.nD Cert.MixLru.τ).loc Cert.MixLru.main_arg0) = m ((c.tc : Thread Cert.MixLru.nD Cert.MixLru.τ).loc Cert.MixLru.main_arg0)
      ∧ r.2.mem ((c.tc : Thread Cert.MixLru.nD Cert.MixLru.τ).loc Cert.MixLru.main_arg1) = m ((c.tc : Thread Cert.MixLru.nD Cert.MixLru.τ).loc Cert.MixLru.main_arg1)
      ∧ r.2.mem ((c.tc : Thread Cert.MixLru.nD Cert.MixLru.τ).loc Cert.MixLru.main_arg2) = m ((c.tc : Thread Cert.MixLru.nD Cert.MixLru.τ).loc Cert.MixLru.main_arg2)
      ∧ r.2.mem ((c.tc : Thread Cert.MixLru.nD Cert.MixLru.τ).loc Cert.MixLru.main_arg3) = m ((c.tc : Thread Cert.MixLru.nD Cert.MixLru.τ).loc Cert.MixLru.main_arg3)
      ∧ r.2.mem ((c.tc : Thread Cert.MixLru.nD Cert.MixLru.τ).loc Cert.MixLru.main_arg4) = m ((c.tc : Thread Cert.MixLru.nD Cert.MixLru.τ).loc Cert.MixLru.main_arg4)
      ∧ r.2.mem ((c.tc : Thread Cert.MixLru.nD Cert.MixLru.τ).loc Cert.MixLru.main_arg5) = m ((c.tc : Thread Cert.MixLru.nD Cert.MixLru.τ).loc Cert.MixLru.main_arg5)
      ∧ r.2.mem ((c.tc : Thread Cert.MixLru.nD Cert.MixLru.τ).loc Cert.MixLru.main_arg6) = m ((c.tc : Thread Cert.MixLru.nD Cert.MixLru.τ).loc Cert.MixLru.main_arg6)
      ∧ r.2.mem ((c.tc : Thread Cert.MixLru.nD Cert.MixLru.τ).loc Cert.MixLru.main_arg7) = m ((c.tc : Thread Cert.MixLru.nD Cert.MixLru.τ).loc Cert.MixLru.main_arg7)
      ∧ r.2.mem ((c.tc : Thread Cert.MixLru.nD Cert.MixLru.τ).loc Cert.MixLru.main_arg8) = m ((c.tc : Thread Cert.MixLru.nD Cert.MixLru.τ).loc Cert.MixLru.main_arg8)
      ∧ r.2.mem ((c.tc : Thread Cert.MixLru.nD Cert.MixLru.τ).loc Cert.MixLru.main_arg9) = m ((c.tc : Thread Cert.MixLru.nD Cert.MixLru.τ).loc Cert.MixLru.main_arg9))
      ∧ r.2.sem = fun _ => 0)

def quiescent_MixLruIdeal [hMixLruIdeal : Cert.MixLruIdeal.Facts] : Prop :=
  ∀ (m : (ℓ : Loc Cert.MixLruIdeal.nD Cert.MixLruIdeal.τ Cert.MixLruIdeal.sig) → Buf (Elt Ideal) ℓ) (g : Dev Cert.MixLruIdeal.nD → PrngReg), Pre_MixLruIdeal m →
    θ_run (Cert.MixLruIdeal.defs (F := Ideal)) (onTc (τ := Cert.MixLruIdeal.τ) (Cert.MixLruIdeal.main (F := Ideal))) ⟨m, fun _ => 0, g⟩ (fun r => (∀ c : Dev Cert.MixLruIdeal.nD,
      r.2.mem ((c.tc : Thread Cert.MixLruIdeal.nD Cert.MixLruIdeal.τ).loc Cert.MixLruIdeal.main_arg0) = m ((c.tc : Thread Cert.MixLruIdeal.nD Cert.MixLruIdeal.τ).loc Cert.MixLruIdeal.main_arg0)
      ∧ r.2.mem ((c.tc : Thread Cert.MixLruIdeal.nD Cert.MixLruIdeal.τ).loc Cert.MixLruIdeal.main_arg1) = m ((c.tc : Thread Cert.MixLruIdeal.nD Cert.MixLruIdeal.τ).loc Cert.MixLruIdeal.main_arg1)
      ∧ r.2.mem ((c.tc : Thread Cert.MixLruIdeal.nD Cert.MixLruIdeal.τ).loc Cert.MixLruIdeal.main_arg2) = m ((c.tc : Thread Cert.MixLruIdeal.nD Cert.MixLruIdeal.τ).loc Cert.MixLruIdeal.main_arg2)
      ∧ r.2.mem ((c.tc : Thread Cert.MixLruIdeal.nD Cert.MixLruIdeal.τ).loc Cert.MixLruIdeal.main_arg3) = m ((c.tc : Thread Cert.MixLruIdeal.nD Cert.MixLruIdeal.τ).loc Cert.MixLruIdeal.main_arg3)
      ∧ r.2.mem ((c.tc : Thread Cert.MixLruIdeal.nD Cert.MixLruIdeal.τ).loc Cert.MixLruIdeal.main_arg4) = m ((c.tc : Thread Cert.MixLruIdeal.nD Cert.MixLruIdeal.τ).loc Cert.MixLruIdeal.main_arg4)
      ∧ r.2.mem ((c.tc : Thread Cert.MixLruIdeal.nD Cert.MixLruIdeal.τ).loc Cert.MixLruIdeal.main_arg5) = m ((c.tc : Thread Cert.MixLruIdeal.nD Cert.MixLruIdeal.τ).loc Cert.MixLruIdeal.main_arg5)
      ∧ r.2.mem ((c.tc : Thread Cert.MixLruIdeal.nD Cert.MixLruIdeal.τ).loc Cert.MixLruIdeal.main_arg6) = m ((c.tc : Thread Cert.MixLruIdeal.nD Cert.MixLruIdeal.τ).loc Cert.MixLruIdeal.main_arg6)
      ∧ r.2.mem ((c.tc : Thread Cert.MixLruIdeal.nD Cert.MixLruIdeal.τ).loc Cert.MixLruIdeal.main_arg7) = m ((c.tc : Thread Cert.MixLruIdeal.nD Cert.MixLruIdeal.τ).loc Cert.MixLruIdeal.main_arg7)
      ∧ r.2.mem ((c.tc : Thread Cert.MixLruIdeal.nD Cert.MixLruIdeal.τ).loc Cert.MixLruIdeal.main_arg8) = m ((c.tc : Thread Cert.MixLruIdeal.nD Cert.MixLruIdeal.τ).loc Cert.MixLruIdeal.main_arg8)
      ∧ r.2.mem ((c.tc : Thread Cert.MixLruIdeal.nD Cert.MixLruIdeal.τ).loc Cert.MixLruIdeal.main_arg9) = m ((c.tc : Thread Cert.MixLruIdeal.nD Cert.MixLruIdeal.τ).loc Cert.MixLruIdeal.main_arg9))
      ∧ r.2.sem = fun _ => 0)

def quiescent_MixLruIdeal_pre_mix_lru_range [hMixLruIdeal : Cert.MixLruIdeal.Facts] [hPre_mix_lru_range : Cert.Pre_mix_lru_range.Facts] : Prop :=
  ∀ (m : (ℓ : Loc Cert.MixLruIdeal.nD Cert.MixLruIdeal.τ Cert.MixLruIdeal.sig) → Buf (Elt Ideal) ℓ) (g : Dev Cert.MixLruIdeal.nD → PrngReg), Pre_MixLruIdeal_mix_lru_range m →
    θ_run (Cert.MixLruIdeal.defs (F := Ideal)) (onTc (τ := Cert.MixLruIdeal.τ) (Cert.MixLruIdeal.main (F := Ideal))) ⟨m, fun _ => 0, g⟩ (fun r => (∀ c : Dev Cert.MixLruIdeal.nD,
      r.2.mem ((c.tc : Thread Cert.MixLruIdeal.nD Cert.MixLruIdeal.τ).loc Cert.MixLruIdeal.main_arg0) = m ((c.tc : Thread Cert.MixLruIdeal.nD Cert.MixLruIdeal.τ).loc Cert.MixLruIdeal.main_arg0)
      ∧ r.2.mem ((c.tc : Thread Cert.MixLruIdeal.nD Cert.MixLruIdeal.τ).loc Cert.MixLruIdeal.main_arg1) = m ((c.tc : Thread Cert.MixLruIdeal.nD Cert.MixLruIdeal.τ).loc Cert.MixLruIdeal.main_arg1)
      ∧ r.2.mem ((c.tc : Thread Cert.MixLruIdeal.nD Cert.MixLruIdeal.τ).loc Cert.MixLruIdeal.main_arg2) = m ((c.tc : Thread Cert.MixLruIdeal.nD Cert.MixLruIdeal.τ).loc Cert.MixLruIdeal.main_arg2)
      ∧ r.2.mem ((c.tc : Thread Cert.MixLruIdeal.nD Cert.MixLruIdeal.τ).loc Cert.MixLruIdeal.main_arg3) = m ((c.tc : Thread Cert.MixLruIdeal.nD Cert.MixLruIdeal.τ).loc Cert.MixLruIdeal.main_arg3)
      ∧ r.2.mem ((c.tc : Thread Cert.MixLruIdeal.nD Cert.MixLruIdeal.τ).loc Cert.MixLruIdeal.main_arg4) = m ((c.tc : Thread Cert.MixLruIdeal.nD Cert.MixLruIdeal.τ).loc Cert.MixLruIdeal.main_arg4)
      ∧ r.2.mem ((c.tc : Thread Cert.MixLruIdeal.nD Cert.MixLruIdeal.τ).loc Cert.MixLruIdeal.main_arg5) = m ((c.tc : Thread Cert.MixLruIdeal.nD Cert.MixLruIdeal.τ).loc Cert.MixLruIdeal.main_arg5)
      ∧ r.2.mem ((c.tc : Thread Cert.MixLruIdeal.nD Cert.MixLruIdeal.τ).loc Cert.MixLruIdeal.main_arg6) = m ((c.tc : Thread Cert.MixLruIdeal.nD Cert.MixLruIdeal.τ).loc Cert.MixLruIdeal.main_arg6)
      ∧ r.2.mem ((c.tc : Thread Cert.MixLruIdeal.nD Cert.MixLruIdeal.τ).loc Cert.MixLruIdeal.main_arg7) = m ((c.tc : Thread Cert.MixLruIdeal.nD Cert.MixLruIdeal.τ).loc Cert.MixLruIdeal.main_arg7)
      ∧ r.2.mem ((c.tc : Thread Cert.MixLruIdeal.nD Cert.MixLruIdeal.τ).loc Cert.MixLruIdeal.main_arg8) = m ((c.tc : Thread Cert.MixLruIdeal.nD Cert.MixLruIdeal.τ).loc Cert.MixLruIdeal.main_arg8)
      ∧ r.2.mem ((c.tc : Thread Cert.MixLruIdeal.nD Cert.MixLruIdeal.τ).loc Cert.MixLruIdeal.main_arg9) = m ((c.tc : Thread Cert.MixLruIdeal.nD Cert.MixLruIdeal.τ).loc Cert.MixLruIdeal.main_arg9))
      ∧ r.2.sem = fun _ => 0)

def quiescent_MixLruRefIdeal [hMixLruRefIdeal : Cert.MixLruRefIdeal.Facts] : Prop :=
  ∀ (m : (ℓ : Loc Cert.MixLruRefIdeal.nD Cert.MixLruRefIdeal.τ Cert.MixLruRefIdeal.sig) → Buf (Elt Ideal) ℓ) (g : Dev Cert.MixLruRefIdeal.nD → PrngReg), Pre_MixLruRefIdeal m →
    θ_run (Cert.MixLruRefIdeal.defs (F := Ideal)) (onTc (τ := Cert.MixLruRefIdeal.τ) (Cert.MixLruRefIdeal.main (F := Ideal))) ⟨m, fun _ => 0, g⟩ (fun r => (∀ c : Dev Cert.MixLruRefIdeal.nD,
      r.2.mem ((c.tc : Thread Cert.MixLruRefIdeal.nD Cert.MixLruRefIdeal.τ).loc Cert.MixLruRefIdeal.main_arg0) = m ((c.tc : Thread Cert.MixLruRefIdeal.nD Cert.MixLruRefIdeal.τ).loc Cert.MixLruRefIdeal.main_arg0)
      ∧ r.2.mem ((c.tc : Thread Cert.MixLruRefIdeal.nD Cert.MixLruRefIdeal.τ).loc Cert.MixLruRefIdeal.main_arg1) = m ((c.tc : Thread Cert.MixLruRefIdeal.nD Cert.MixLruRefIdeal.τ).loc Cert.MixLruRefIdeal.main_arg1)
      ∧ r.2.mem ((c.tc : Thread Cert.MixLruRefIdeal.nD Cert.MixLruRefIdeal.τ).loc Cert.MixLruRefIdeal.main_arg2) = m ((c.tc : Thread Cert.MixLruRefIdeal.nD Cert.MixLruRefIdeal.τ).loc Cert.MixLruRefIdeal.main_arg2)
      ∧ r.2.mem ((c.tc : Thread Cert.MixLruRefIdeal.nD Cert.MixLruRefIdeal.τ).loc Cert.MixLruRefIdeal.main_arg3) = m ((c.tc : Thread Cert.MixLruRefIdeal.nD Cert.MixLruRefIdeal.τ).loc Cert.MixLruRefIdeal.main_arg3)
      ∧ r.2.mem ((c.tc : Thread Cert.MixLruRefIdeal.nD Cert.MixLruRefIdeal.τ).loc Cert.MixLruRefIdeal.main_arg4) = m ((c.tc : Thread Cert.MixLruRefIdeal.nD Cert.MixLruRefIdeal.τ).loc Cert.MixLruRefIdeal.main_arg4)
      ∧ r.2.mem ((c.tc : Thread Cert.MixLruRefIdeal.nD Cert.MixLruRefIdeal.τ).loc Cert.MixLruRefIdeal.main_arg5) = m ((c.tc : Thread Cert.MixLruRefIdeal.nD Cert.MixLruRefIdeal.τ).loc Cert.MixLruRefIdeal.main_arg5)
      ∧ r.2.mem ((c.tc : Thread Cert.MixLruRefIdeal.nD Cert.MixLruRefIdeal.τ).loc Cert.MixLruRefIdeal.main_arg6) = m ((c.tc : Thread Cert.MixLruRefIdeal.nD Cert.MixLruRefIdeal.τ).loc Cert.MixLruRefIdeal.main_arg6)
      ∧ r.2.mem ((c.tc : Thread Cert.MixLruRefIdeal.nD Cert.MixLruRefIdeal.τ).loc Cert.MixLruRefIdeal.main_arg7) = m ((c.tc : Thread Cert.MixLruRefIdeal.nD Cert.MixLruRefIdeal.τ).loc Cert.MixLruRefIdeal.main_arg7)
      ∧ r.2.mem ((c.tc : Thread Cert.MixLruRefIdeal.nD Cert.MixLruRefIdeal.τ).loc Cert.MixLruRefIdeal.main_arg8) = m ((c.tc : Thread Cert.MixLruRefIdeal.nD Cert.MixLruRefIdeal.τ).loc Cert.MixLruRefIdeal.main_arg8)
      ∧ r.2.mem ((c.tc : Thread Cert.MixLruRefIdeal.nD Cert.MixLruRefIdeal.τ).loc Cert.MixLruRefIdeal.main_arg9) = m ((c.tc : Thread Cert.MixLruRefIdeal.nD Cert.MixLruRefIdeal.τ).loc Cert.MixLruRefIdeal.main_arg9))
      ∧ r.2.sem = fun _ => 0)

def quiescent_MixLruRefIdeal_pre_mix_lru_range [hMixLruRefIdeal : Cert.MixLruRefIdeal.Facts] [hPre_mix_lru_range : Cert.Pre_mix_lru_range.Facts] : Prop :=
  ∀ (m : (ℓ : Loc Cert.MixLruRefIdeal.nD Cert.MixLruRefIdeal.τ Cert.MixLruRefIdeal.sig) → Buf (Elt Ideal) ℓ) (g : Dev Cert.MixLruRefIdeal.nD → PrngReg), Pre_MixLruRefIdeal_mix_lru_range m →
    θ_run (Cert.MixLruRefIdeal.defs (F := Ideal)) (onTc (τ := Cert.MixLruRefIdeal.τ) (Cert.MixLruRefIdeal.main (F := Ideal))) ⟨m, fun _ => 0, g⟩ (fun r => (∀ c : Dev Cert.MixLruRefIdeal.nD,
      r.2.mem ((c.tc : Thread Cert.MixLruRefIdeal.nD Cert.MixLruRefIdeal.τ).loc Cert.MixLruRefIdeal.main_arg0) = m ((c.tc : Thread Cert.MixLruRefIdeal.nD Cert.MixLruRefIdeal.τ).loc Cert.MixLruRefIdeal.main_arg0)
      ∧ r.2.mem ((c.tc : Thread Cert.MixLruRefIdeal.nD Cert.MixLruRefIdeal.τ).loc Cert.MixLruRefIdeal.main_arg1) = m ((c.tc : Thread Cert.MixLruRefIdeal.nD Cert.MixLruRefIdeal.τ).loc Cert.MixLruRefIdeal.main_arg1)
      ∧ r.2.mem ((c.tc : Thread Cert.MixLruRefIdeal.nD Cert.MixLruRefIdeal.τ).loc Cert.MixLruRefIdeal.main_arg2) = m ((c.tc : Thread Cert.MixLruRefIdeal.nD Cert.MixLruRefIdeal.τ).loc Cert.MixLruRefIdeal.main_arg2)
      ∧ r.2.mem ((c.tc : Thread Cert.MixLruRefIdeal.nD Cert.MixLruRefIdeal.τ).loc Cert.MixLruRefIdeal.main_arg3) = m ((c.tc : Thread Cert.MixLruRefIdeal.nD Cert.MixLruRefIdeal.τ).loc Cert.MixLruRefIdeal.main_arg3)
      ∧ r.2.mem ((c.tc : Thread Cert.MixLruRefIdeal.nD Cert.MixLruRefIdeal.τ).loc Cert.MixLruRefIdeal.main_arg4) = m ((c.tc : Thread Cert.MixLruRefIdeal.nD Cert.MixLruRefIdeal.τ).loc Cert.MixLruRefIdeal.main_arg4)
      ∧ r.2.mem ((c.tc : Thread Cert.MixLruRefIdeal.nD Cert.MixLruRefIdeal.τ).loc Cert.MixLruRefIdeal.main_arg5) = m ((c.tc : Thread Cert.MixLruRefIdeal.nD Cert.MixLruRefIdeal.τ).loc Cert.MixLruRefIdeal.main_arg5)
      ∧ r.2.mem ((c.tc : Thread Cert.MixLruRefIdeal.nD Cert.MixLruRefIdeal.τ).loc Cert.MixLruRefIdeal.main_arg6) = m ((c.tc : Thread Cert.MixLruRefIdeal.nD Cert.MixLruRefIdeal.τ).loc Cert.MixLruRefIdeal.main_arg6)
      ∧ r.2.mem ((c.tc : Thread Cert.MixLruRefIdeal.nD Cert.MixLruRefIdeal.τ).loc Cert.MixLruRefIdeal.main_arg7) = m ((c.tc : Thread Cert.MixLruRefIdeal.nD Cert.MixLruRefIdeal.τ).loc Cert.MixLruRefIdeal.main_arg7)
      ∧ r.2.mem ((c.tc : Thread Cert.MixLruRefIdeal.nD Cert.MixLruRefIdeal.τ).loc Cert.MixLruRefIdeal.main_arg8) = m ((c.tc : Thread Cert.MixLruRefIdeal.nD Cert.MixLruRefIdeal.τ).loc Cert.MixLruRefIdeal.main_arg8)
      ∧ r.2.mem ((c.tc : Thread Cert.MixLruRefIdeal.nD Cert.MixLruRefIdeal.τ).loc Cert.MixLruRefIdeal.main_arg9) = m ((c.tc : Thread Cert.MixLruRefIdeal.nD Cert.MixLruRefIdeal.τ).loc Cert.MixLruRefIdeal.main_arg9))
      ∧ r.2.sem = fun _ => 0)

def preserves_NormIn_NormInIdeal : Prop :=
  True

def algebraic_NormInIdeal_NormInRefIdeal_pre_norm_in_finite [hNormInIdeal : Cert.NormInIdeal.Facts] [hNormInRefIdeal : Cert.NormInRefIdeal.Facts] [hPre_norm_in_finite : Cert.Pre_norm_in_finite.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal_norm_in_finite m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)) →
    ∃ (v0 : (c : Dev Cert.NormInIdeal.nD) → Buf (Elt Ideal) ((c.tc : Thread Cert.NormInIdeal.nD Cert.NormInIdeal.τ).loc Cert.NormInIdeal.main_v3_0)) (v1 : (c : Dev Cert.NormInIdeal.nD) → Buf (Elt Ideal) ((c.tc : Thread Cert.NormInIdeal.nD Cert.NormInIdeal.τ).loc Cert.NormInIdeal.main_v3_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v3_0) = v0 c
          ∧ r.2.mem ((c.tc : Thread Cert.NormInIdeal.nD Cert.NormInIdeal.τ).loc Cert.NormInIdeal.main_v3_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v40) = v0 c
          ∧ r.2.mem ((c.tc : Thread Cert.NormInRefIdeal.nD Cert.NormInRefIdeal.τ).loc Cert.NormInRefIdeal.main_v39) = v1 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3))

def preserves_NormsMid_NormsMidIdeal : Prop :=
  True

def algebraic_NormsMidIdeal_NormsMidRefIdeal_pre_norms_mid_finite [hNormsMidIdeal : Cert.NormsMidIdeal.Facts] [hNormsMidRefIdeal : Cert.NormsMidRefIdeal.Facts] [hPre_norms_mid_finite : Cert.Pre_norms_mid_finite.Facts] : Prop :=
  ∀ (m : (ℓ : Loc Cert.NormsMidIdeal.nD Cert.NormsMidIdeal.τ Cert.NormsMidIdeal.sig) → Buf (Elt Ideal) ℓ) (g : Dev Cert.NormsMidIdeal.nD → PrngReg)
    (m' : (ℓ : Loc Cert.NormsMidRefIdeal.nD Cert.NormsMidRefIdeal.τ Cert.NormsMidRefIdeal.sig) → Buf (Elt Ideal) ℓ) (g' : Dev Cert.NormsMidRefIdeal.nD → PrngReg), Pre_NormsMidIdeal_norms_mid_finite m →
    (∀ c : Dev Cert.NormsMidIdeal.nD,
      m' ((c.tc : Thread Cert.NormsMidRefIdeal.nD Cert.NormsMidRefIdeal.τ).loc Cert.NormsMidRefIdeal.main_arg0) = m ((c.tc : Thread Cert.NormsMidIdeal.nD Cert.NormsMidIdeal.τ).loc Cert.NormsMidIdeal.main_arg0)
      ∧ m' ((c.tc : Thread Cert.NormsMidRefIdeal.nD Cert.NormsMidRefIdeal.τ).loc Cert.NormsMidRefIdeal.main_arg1) = m ((c.tc : Thread Cert.NormsMidIdeal.nD Cert.NormsMidIdeal.τ).loc Cert.NormsMidIdeal.main_arg1)
      ∧ m' ((c.tc : Thread Cert.NormsMidRefIdeal.nD Cert.NormsMidRefIdeal.τ).loc Cert.NormsMidRefIdeal.main_arg2) = m ((c.tc : Thread Cert.NormsMidIdeal.nD Cert.NormsMidIdeal.τ).loc Cert.NormsMidIdeal.main_arg2)
      ∧ m' ((c.tc : Thread Cert.NormsMidRefIdeal.nD Cert.NormsMidRefIdeal.τ).loc Cert.NormsMidRefIdeal.main_arg3) = m ((c.tc : Thread Cert.NormsMidIdeal.nD Cert.NormsMidIdeal.τ).loc Cert.NormsMidIdeal.main_arg3)
      ∧ m' ((c.tc : Thread Cert.NormsMidRefIdeal.nD Cert.NormsMidRefIdeal.τ).loc Cert.NormsMidRefIdeal.main_arg4) = m ((c.tc : Thread Cert.NormsMidIdeal.nD Cert.NormsMidIdeal.τ).loc Cert.NormsMidIdeal.main_arg4)
      ∧ m' ((c.tc : Thread Cert.NormsMidRefIdeal.nD Cert.NormsMidRefIdeal.τ).loc Cert.NormsMidRefIdeal.main_arg5) = m ((c.tc : Thread Cert.NormsMidIdeal.nD Cert.NormsMidIdeal.τ).loc Cert.NormsMidIdeal.main_arg5)) →
    ∃ (v0 : (c : Dev Cert.NormsMidIdeal.nD) → Buf (Elt Ideal) ((c.tc : Thread Cert.NormsMidIdeal.nD Cert.NormsMidIdeal.τ).loc Cert.NormsMidIdeal.main_v19_0)) (v1 : (c : Dev Cert.NormsMidIdeal.nD) → Buf (Elt Ideal) ((c.tc : Thread Cert.NormsMidIdeal.nD Cert.NormsMidIdeal.τ).loc Cert.NormsMidIdeal.main_v19_1)) (v2 : (c : Dev Cert.NormsMidIdeal.nD) → Buf (Elt Ideal) ((c.tc : Thread Cert.NormsMidIdeal.nD Cert.NormsMidIdeal.τ).loc Cert.NormsMidIdeal.main_v19_2)) (v3 : (c : Dev Cert.NormsMidIdeal.nD) → Buf (Elt Ideal) ((c.tc : Thread Cert.NormsMidIdeal.nD Cert.NormsMidIdeal.τ).loc Cert.NormsMidIdeal.main_v19_3)),
      θ_run (Cert.NormsMidIdeal.defs (F := Ideal)) (onTc (τ := Cert.NormsMidIdeal.τ) (Cert.NormsMidIdeal.main (F := Ideal))) ⟨m, fun _ => 0, g⟩ (fun r => ∀ c : Dev Cert.NormsMidIdeal.nD,
          r.2.mem ((c.tc : Thread Cert.NormsMidIdeal.nD Cert.NormsMidIdeal.τ).loc Cert.NormsMidIdeal.main_v19_0) = v0 c
          ∧ r.2.mem ((c.tc : Thread Cert.NormsMidIdeal.nD Cert.NormsMidIdeal.τ).loc Cert.NormsMidIdeal.main_v19_1) = v1 c
          ∧ r.2.mem ((c.tc : Thread Cert.NormsMidIdeal.nD Cert.NormsMidIdeal.τ).loc Cert.NormsMidIdeal.main_v19_2) = v2 c
          ∧ r.2.mem ((c.tc : Thread Cert.NormsMidIdeal.nD Cert.NormsMidIdeal.τ).loc Cert.NormsMidIdeal.main_v19_3) = v3 c
          ∧ r.2.mem ((c.tc : Thread Cert.NormsMidIdeal.nD Cert.NormsMidIdeal.τ).loc Cert.NormsMidIdeal.main_arg0) = m ((c.tc : Thread Cert.NormsMidIdeal.nD Cert.NormsMidIdeal.τ).loc Cert.NormsMidIdeal.main_arg0)
          ∧ r.2.mem ((c.tc : Thread Cert.NormsMidIdeal.nD Cert.NormsMidIdeal.τ).loc Cert.NormsMidIdeal.main_arg1) = m ((c.tc : Thread Cert.NormsMidIdeal.nD Cert.NormsMidIdeal.τ).loc Cert.NormsMidIdeal.main_arg1)
          ∧ r.2.mem ((c.tc : Thread Cert.NormsMidIdeal.nD Cert.NormsMidIdeal.τ).loc Cert.NormsMidIdeal.main_arg2) = m ((c.tc : Thread Cert.NormsMidIdeal.nD Cert.NormsMidIdeal.τ).loc Cert.NormsMidIdeal.main_arg2)
          ∧ r.2.mem ((c.tc : Thread Cert.NormsMidIdeal.nD Cert.NormsMidIdeal.τ).loc Cert.NormsMidIdeal.main_arg3) = m ((c.tc : Thread Cert.NormsMidIdeal.nD Cert.NormsMidIdeal.τ).loc Cert.NormsMidIdeal.main_arg3)
          ∧ r.2.mem ((c.tc : Thread Cert.NormsMidIdeal.nD Cert.NormsMidIdeal.τ).loc Cert.NormsMidIdeal.main_arg4) = m ((c.tc : Thread Cert.NormsMidIdeal.nD Cert.NormsMidIdeal.τ).loc Cert.NormsMidIdeal.main_arg4)
          ∧ r.2.mem ((c.tc : Thread Cert.NormsMidIdeal.nD Cert.NormsMidIdeal.τ).loc Cert.NormsMidIdeal.main_arg5) = m ((c.tc : Thread Cert.NormsMidIdeal.nD Cert.NormsMidIdeal.τ).loc Cert.NormsMidIdeal.main_arg5))
      ∧ θ_run (Cert.NormsMidRefIdeal.defs (F := Ideal)) (onTc (τ := Cert.NormsMidRefIdeal.τ) (Cert.NormsMidRefIdeal.main (F := Ideal))) ⟨m', fun _ => 0, g'⟩ (fun r => ∀ c : Dev Cert.NormsMidRefIdeal.nD,
          r.2.mem ((c.tc : Thread Cert.NormsMidRefIdeal.nD Cert.NormsMidRefIdeal.τ).loc Cert.NormsMidRefIdeal.main_v81) = v0 c
          ∧ r.2.mem ((c.tc : Thread Cert.NormsMidRefIdeal.nD Cert.NormsMidRefIdeal.τ).loc Cert.NormsMidRefIdeal.main_v83) = v1 c
          ∧ r.2.mem ((c.tc : Thread Cert.NormsMidRefIdeal.nD Cert.NormsMidRefIdeal.τ).loc Cert.NormsMidRefIdeal.main_v57) = v2 c
          ∧ r.2.mem ((c.tc : Thread Cert.NormsMidRefIdeal.nD Cert.NormsMidRefIdeal.τ).loc Cert.NormsMidRefIdeal.main_v80) = v3 c
          ∧ r.2.mem ((c.tc : Thread Cert.NormsMidRefIdeal.nD Cert.NormsMidRefIdeal.τ).loc Cert.NormsMidRefIdeal.main_arg0) = m' ((c.tc : Thread Cert.NormsMidRefIdeal.nD Cert.NormsMidRefIdeal.τ).loc Cert.NormsMidRefIdeal.main_arg0)
          ∧ r.2.mem ((c.tc : Thread Cert.NormsMidRefIdeal.nD Cert.NormsMidRefIdeal.τ).loc Cert.NormsMidRefIdeal.main_arg1) = m' ((c.tc : Thread Cert.NormsMidRefIdeal.nD Cert.NormsMidRefIdeal.τ).loc Cert.NormsMidRefIdeal.main_arg1)
          ∧ r.2.mem ((c.tc : Thread Cert.NormsMidRefIdeal.nD Cert.NormsMidRefIdeal.τ).loc Cert.NormsMidRefIdeal.main_arg2) = m' ((c.tc : Thread Cert.NormsMidRefIdeal.nD Cert.NormsMidRefIdeal.τ).loc Cert.NormsMidRefIdeal.main_arg2)
          ∧ r.2.mem ((c.tc : Thread Cert.NormsMidRefIdeal.nD Cert.NormsMidRefIdeal.τ).loc Cert.NormsMidRefIdeal.main_arg3) = m' ((c.tc : Thread Cert.NormsMidRefIdeal.nD Cert.NormsMidRefIdeal.τ).loc Cert.NormsMidRefIdeal.main_arg3)
          ∧ r.2.mem ((c.tc : Thread Cert.NormsMidRefIdeal.nD Cert.NormsMidRefIdeal.τ).loc Cert.NormsMidRefIdeal.main_arg4) = m' ((c.tc : Thread Cert.NormsMidRefIdeal.nD Cert.NormsMidRefIdeal.τ).loc Cert.NormsMidRefIdeal.main_arg4)
          ∧ r.2.mem ((c.tc : Thread Cert.NormsMidRefIdeal.nD Cert.NormsMidRefIdeal.τ).loc Cert.NormsMidRefIdeal.main_arg5) = m' ((c.tc : Thread Cert.NormsMidRefIdeal.nD Cert.NormsMidRefIdeal.τ).loc Cert.NormsMidRefIdeal.main_arg5))

def preserves_FfnLoss_FfnLossIdeal : Prop :=
  True

def algebraic_FfnLossIdeal_FfnLossRefIdeal_pre_ffn_loss_finite [hFfnLossIdeal : Cert.FfnLossIdeal.Facts] [hFfnLossRefIdeal : Cert.FfnLossRefIdeal.Facts] [hPre_ffn_loss_finite : Cert.Pre_ffn_loss_finite.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossRefIdeal.nD Cert.FfnLossRefIdeal.τ Cert.FfnLossRefIdeal.sig) → Buf (Elt Ideal) ℓ) (g' : Dev Cert.FfnLossRefIdeal.nD → PrngReg), Pre_FfnLossIdeal_ffn_loss_finite m →
    (∀ c : Dev Cert.FfnLossIdeal.nD,
      m' ((c.tc : Thread Cert.FfnLossRefIdeal.nD Cert.FfnLossRefIdeal.τ).loc Cert.FfnLossRefIdeal.main_arg0) = m ((c.tc : Thread Cert.FfnLossIdeal.nD Cert.FfnLossIdeal.τ).loc Cert.FfnLossIdeal.main_arg0)
      ∧ m' ((c.tc : Thread Cert.FfnLossRefIdeal.nD Cert.FfnLossRefIdeal.τ).loc Cert.FfnLossRefIdeal.main_arg1) = m ((c.tc : Thread Cert.FfnLossIdeal.nD Cert.FfnLossIdeal.τ).loc Cert.FfnLossIdeal.main_arg1)
      ∧ m' ((c.tc : Thread Cert.FfnLossRefIdeal.nD Cert.FfnLossRefIdeal.τ).loc Cert.FfnLossRefIdeal.main_arg2) = m ((c.tc : Thread Cert.FfnLossIdeal.nD Cert.FfnLossIdeal.τ).loc Cert.FfnLossIdeal.main_arg2)
      ∧ m' ((c.tc : Thread Cert.FfnLossRefIdeal.nD Cert.FfnLossRefIdeal.τ).loc Cert.FfnLossRefIdeal.main_arg3) = m ((c.tc : Thread Cert.FfnLossIdeal.nD Cert.FfnLossIdeal.τ).loc Cert.FfnLossIdeal.main_arg3)
      ∧ m' ((c.tc : Thread Cert.FfnLossRefIdeal.nD Cert.FfnLossRefIdeal.τ).loc Cert.FfnLossRefIdeal.main_arg4) = m ((c.tc : Thread Cert.FfnLossIdeal.nD Cert.FfnLossIdeal.τ).loc Cert.FfnLossIdeal.main_arg4)) →
    ∃ (v0 : (c : Dev Cert.FfnLossIdeal.nD) → Buf (Elt Ideal) ((c.tc : Thread Cert.FfnLossIdeal.nD Cert.FfnLossIdeal.τ).loc Cert.FfnLossIdeal.main_v6_0)) (v1 : (c : Dev Cert.FfnLossIdeal.nD) → Buf (Elt Ideal) ((c.tc : Thread Cert.FfnLossIdeal.nD Cert.FfnLossIdeal.τ).loc Cert.FfnLossIdeal.main_v6_1)) (v2 : (c : Dev Cert.FfnLossIdeal.nD) → Buf (Elt Ideal) ((c.tc : Thread Cert.FfnLossIdeal.nD Cert.FfnLossIdeal.τ).loc Cert.FfnLossIdeal.main_v6_2)) (v3 : (c : Dev Cert.FfnLossIdeal.nD) → Buf (Elt Ideal) ((c.tc : Thread Cert.FfnLossIdeal.nD Cert.FfnLossIdeal.τ).loc Cert.FfnLossIdeal.main_v6_3)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v6_0) = v0 c
          ∧ r.2.mem ((c.tc : Thread Cert.FfnLossIdeal.nD Cert.FfnLossIdeal.τ).loc Cert.FfnLossIdeal.main_v6_1) = v1 c
          ∧ r.2.mem ((c.tc : Thread Cert.FfnLossIdeal.nD Cert.FfnLossIdeal.τ).loc Cert.FfnLossIdeal.main_v6_2) = v2 c
          ∧ r.2.mem ((c.tc : Thread Cert.FfnLossIdeal.nD Cert.FfnLossIdeal.τ).loc Cert.FfnLossIdeal.main_v6_3) = v3 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
          ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4))
      ∧ θ_run (Cert.FfnLossRefIdeal.defs (F := Ideal)) (onTc (τ := Cert.FfnLossRefIdeal.τ) (Cert.FfnLossRefIdeal.main (F := Ideal))) ⟨m', fun _ => 0, g'⟩ (fun r => ∀ c : Dev Cert.FfnLossRefIdeal.nD,
          r.2.mem ((c.tc : Thread Cert.FfnLossRefIdeal.nD Cert.FfnLossRefIdeal.τ).loc Cert.FfnLossRefIdeal.main_v57) = v0 c
          ∧ r.2.mem ((c.tc : Thread Cert.FfnLossRefIdeal.nD Cert.FfnLossRefIdeal.τ).loc Cert.FfnLossRefIdeal.main_v59) = v1 c
          ∧ r.2.mem ((c.tc : Thread Cert.FfnLossRefIdeal.nD Cert.FfnLossRefIdeal.τ).loc Cert.FfnLossRefIdeal.main_v60) = v2 c
          ∧ r.2.mem ((c.tc : Thread Cert.FfnLossRefIdeal.nD Cert.FfnLossRefIdeal.τ).loc Cert.FfnLossRefIdeal.main_v56) = v3 c
          ∧ r.2.mem ((c.tc : Thread Cert.FfnLossRefIdeal.nD Cert.FfnLossRefIdeal.τ).loc Cert.FfnLossRefIdeal.main_arg0) = m' ((c.tc : Thread Cert.FfnLossRefIdeal.nD Cert.FfnLossRefIdeal.τ).loc Cert.FfnLossRefIdeal.main_arg0)
          ∧ r.2.mem ((c.tc : Thread Cert.FfnLossRefIdeal.nD Cert.FfnLossRefIdeal.τ).loc Cert.FfnLossRefIdeal.main_arg1) = m' ((c.tc : Thread Cert.FfnLossRefIdeal.nD Cert.FfnLossRefIdeal.τ).loc Cert.FfnLossRefIdeal.main_arg1)
          ∧ r.2.mem ((c.tc : Thread Cert.FfnLossRefIdeal.nD Cert.FfnLossRefIdeal.τ).loc Cert.FfnLossRefIdeal.main_arg2) = m' ((c.tc : Thread Cert.FfnLossRefIdeal.nD Cert.FfnLossRefIdeal.τ).loc Cert.FfnLossRefIdeal.main_arg2)
          ∧ r.2.mem ((c.tc : Thread Cert.FfnLossRefIdeal.nD Cert.FfnLossRefIdeal.τ).loc Cert.FfnLossRefIdeal.main_arg3) = m' ((c.tc : Thread Cert.FfnLossRefIdeal.nD Cert.FfnLossRefIdeal.τ).loc Cert.FfnLossRefIdeal.main_arg3)
          ∧ r.2.mem ((c.tc : Thread Cert.FfnLossRefIdeal.nD Cert.FfnLossRefIdeal.τ).loc Cert.FfnLossRefIdeal.main_arg4) = m' ((c.tc : Thread Cert.FfnLossRefIdeal.nD Cert.FfnLossRefIdeal.τ).loc Cert.FfnLossRefIdeal.main_arg4))

def preserves_MixConv_MixConvIdeal : Prop :=
  True

def algebraic_MixConvIdeal_MixConvRefIdeal [hMixConvIdeal : Cert.MixConvIdeal.Facts] [hMixConvRefIdeal : Cert.MixConvRefIdeal.Facts] : Prop :=
  ∀ (m : (ℓ : Loc Cert.MixConvIdeal.nD Cert.MixConvIdeal.τ Cert.MixConvIdeal.sig) → Buf (Elt Ideal) ℓ) (g : Dev Cert.MixConvIdeal.nD → PrngReg)
    (m' : (ℓ : Loc Cert.MixConvRefIdeal.nD Cert.MixConvRefIdeal.τ Cert.MixConvRefIdeal.sig) → Buf (Elt Ideal) ℓ) (g' : Dev Cert.MixConvRefIdeal.nD → PrngReg), Pre_MixConvIdeal m →
    (∀ c : Dev Cert.MixConvIdeal.nD,
      m' ((c.tc : Thread Cert.MixConvRefIdeal.nD Cert.MixConvRefIdeal.τ).loc Cert.MixConvRefIdeal.main_arg0) = m ((c.tc : Thread Cert.MixConvIdeal.nD Cert.MixConvIdeal.τ).loc Cert.MixConvIdeal.main_arg0)
      ∧ m' ((c.tc : Thread Cert.MixConvRefIdeal.nD Cert.MixConvRefIdeal.τ).loc Cert.MixConvRefIdeal.main_arg1) = m ((c.tc : Thread Cert.MixConvIdeal.nD Cert.MixConvIdeal.τ).loc Cert.MixConvIdeal.main_arg1)
      ∧ m' ((c.tc : Thread Cert.MixConvRefIdeal.nD Cert.MixConvRefIdeal.τ).loc Cert.MixConvRefIdeal.main_arg2) = m ((c.tc : Thread Cert.MixConvIdeal.nD Cert.MixConvIdeal.τ).loc Cert.MixConvIdeal.main_arg2)
      ∧ m' ((c.tc : Thread Cert.MixConvRefIdeal.nD Cert.MixConvRefIdeal.τ).loc Cert.MixConvRefIdeal.main_arg3) = m ((c.tc : Thread Cert.MixConvIdeal.nD Cert.MixConvIdeal.τ).loc Cert.MixConvIdeal.main_arg3)) →
    ∃ (v0 : (c : Dev Cert.MixConvIdeal.nD) → Buf (Elt Ideal) ((c.tc : Thread Cert.MixConvIdeal.nD Cert.MixConvIdeal.τ).loc Cert.MixConvIdeal.main_v38_0)) (v1 : (c : Dev Cert.MixConvIdeal.nD) → Buf (Elt Ideal) ((c.tc : Thread Cert.MixConvIdeal.nD Cert.MixConvIdeal.τ).loc Cert.MixConvIdeal.main_v38_1)) (v2 : (c : Dev Cert.MixConvIdeal.nD) → Buf (Elt Ideal) ((c.tc : Thread Cert.MixConvIdeal.nD Cert.MixConvIdeal.τ).loc Cert.MixConvIdeal.main_v38_2)),
      θ_run (Cert.MixConvIdeal.defs (F := Ideal)) (onTc (τ := Cert.MixConvIdeal.τ) (Cert.MixConvIdeal.main (F := Ideal))) ⟨m, fun _ => 0, g⟩ (fun r => ∀ c : Dev Cert.MixConvIdeal.nD,
          r.2.mem ((c.tc : Thread Cert.MixConvIdeal.nD Cert.MixConvIdeal.τ).loc Cert.MixConvIdeal.main_v38_0) = v0 c
          ∧ r.2.mem ((c.tc : Thread Cert.MixConvIdeal.nD Cert.MixConvIdeal.τ).loc Cert.MixConvIdeal.main_v38_1) = v1 c
          ∧ r.2.mem ((c.tc : Thread Cert.MixConvIdeal.nD Cert.MixConvIdeal.τ).loc Cert.MixConvIdeal.main_v38_2) = v2 c
          ∧ r.2.mem ((c.tc : Thread Cert.MixConvIdeal.nD Cert.MixConvIdeal.τ).loc Cert.MixConvIdeal.main_arg0) = m ((c.tc : Thread Cert.MixConvIdeal.nD Cert.MixConvIdeal.τ).loc Cert.MixConvIdeal.main_arg0)
          ∧ r.2.mem ((c.tc : Thread Cert.MixConvIdeal.nD Cert.MixConvIdeal.τ).loc Cert.MixConvIdeal.main_arg1) = m ((c.tc : Thread Cert.MixConvIdeal.nD Cert.MixConvIdeal.τ).loc Cert.MixConvIdeal.main_arg1)
          ∧ r.2.mem ((c.tc : Thread Cert.MixConvIdeal.nD Cert.MixConvIdeal.τ).loc Cert.MixConvIdeal.main_arg2) = m ((c.tc : Thread Cert.MixConvIdeal.nD Cert.MixConvIdeal.τ).loc Cert.MixConvIdeal.main_arg2)
          ∧ r.2.mem ((c.tc : Thread Cert.MixConvIdeal.nD Cert.MixConvIdeal.τ).loc Cert.MixConvIdeal.main_arg3) = m ((c.tc : Thread Cert.MixConvIdeal.nD Cert.MixConvIdeal.τ).loc Cert.MixConvIdeal.main_arg3))
      ∧ θ_run (Cert.MixConvRefIdeal.defs (F := Ideal)) (onTc (τ := Cert.MixConvRefIdeal.τ) (Cert.MixConvRefIdeal.main (F := Ideal))) ⟨m', fun _ => 0, g'⟩ (fun r => ∀ c : Dev Cert.MixConvRefIdeal.nD,
          r.2.mem ((c.tc : Thread Cert.MixConvRefIdeal.nD Cert.MixConvRefIdeal.τ).loc Cert.MixConvRefIdeal.main_v78) = v0 c
          ∧ r.2.mem ((c.tc : Thread Cert.MixConvRefIdeal.nD Cert.MixConvRefIdeal.τ).loc Cert.MixConvRefIdeal.main_v80) = v1 c
          ∧ r.2.mem ((c.tc : Thread Cert.MixConvRefIdeal.nD Cert.MixConvRefIdeal.τ).loc Cert.MixConvRefIdeal.main_v81) = v2 c
          ∧ r.2.mem ((c.tc : Thread Cert.MixConvRefIdeal.nD Cert.MixConvRefIdeal.τ).loc Cert.MixConvRefIdeal.main_arg0) = m' ((c.tc : Thread Cert.MixConvRefIdeal.nD Cert.MixConvRefIdeal.τ).loc Cert.MixConvRefIdeal.main_arg0)
          ∧ r.2.mem ((c.tc : Thread Cert.MixConvRefIdeal.nD Cert.MixConvRefIdeal.τ).loc Cert.MixConvRefIdeal.main_arg1) = m' ((c.tc : Thread Cert.MixConvRefIdeal.nD Cert.MixConvRefIdeal.τ).loc Cert.MixConvRefIdeal.main_arg1)
          ∧ r.2.mem ((c.tc : Thread Cert.MixConvRefIdeal.nD Cert.MixConvRefIdeal.τ).loc Cert.MixConvRefIdeal.main_arg2) = m' ((c.tc : Thread Cert.MixConvRefIdeal.nD Cert.MixConvRefIdeal.τ).loc Cert.MixConvRefIdeal.main_arg2)
          ∧ r.2.mem ((c.tc : Thread Cert.MixConvRefIdeal.nD Cert.MixConvRefIdeal.τ).loc Cert.MixConvRefIdeal.main_arg3) = m' ((c.tc : Thread Cert.MixConvRefIdeal.nD Cert.MixConvRefIdeal.τ).loc Cert.MixConvRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v31_0)) (v1 : (c : Dev Cert.MixOutIdeal.nD) → Buf (Elt Ideal) ((c.tc : Thread Cert.MixOutIdeal.nD Cert.MixOutIdeal.τ).loc Cert.MixOutIdeal.main_v31_1)) (v2 : (c : Dev Cert.MixOutIdeal.nD) → Buf (Elt Ideal) ((c.tc : Thread Cert.MixOutIdeal.nD Cert.MixOutIdeal.τ).loc Cert.MixOutIdeal.main_v31_2)) (v3 : (c : Dev Cert.MixOutIdeal.nD) → Buf (Elt Ideal) ((c.tc : Thread Cert.MixOutIdeal.nD Cert.MixOutIdeal.τ).loc Cert.MixOutIdeal.main_v31_3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v31_0) = v0 c
          ∧ r.2.mem ((c.tc : Thread Cert.MixOutIdeal.nD Cert.MixOutIdeal.τ).loc Cert.MixOutIdeal.main_v31_1) = v1 c
          ∧ r.2.mem ((c.tc : Thread Cert.MixOutIdeal.nD Cert.MixOutIdeal.τ).loc Cert.MixOutIdeal.main_v31_2) = v2 c
          ∧ r.2.mem ((c.tc : Thread Cert.MixOutIdeal.nD Cert.MixOutIdeal.τ).loc Cert.MixOutIdeal.main_v31_3) = v3 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v41) = v0 c
          ∧ r.2.mem ((c.tc : Thread Cert.MixOutRefIdeal.nD Cert.MixOutRefIdeal.τ).loc Cert.MixOutRefIdeal.main_v43) = v1 c
          ∧ r.2.mem ((c.tc : Thread Cert.MixOutRefIdeal.nD Cert.MixOutRefIdeal.τ).loc Cert.MixOutRefIdeal.main_v45) = v2 c
          ∧ r.2.mem ((c.tc : Thread Cert.MixOutRefIdeal.nD Cert.MixOutRefIdeal.τ).loc Cert.MixOutRefIdeal.main_v47) = v3 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4))

def preserves_FfnUp_FfnUpIdeal : Prop :=
  IdealRules.named_const.Statement Cert.FfnUpIdeal.κ "gelu_k" .f32 0x3D372713#32 ((8943 / 200000 : ℝ) : EReal)
  ∧ IdealRules.named_const.Statement Cert.FfnUpIdeal.κ "gelu_3k" .f32 0x3E095D4F#32 ((26829 / 200000 : ℝ) : EReal)

def algebraic_FfnUpIdeal_FfnUpRefIdeal_pre_ffn_up_finite [hFfnUpIdeal : Cert.FfnUpIdeal.Facts] [hFfnUpRefIdeal : Cert.FfnUpRefIdeal.Facts] [hPre_ffn_up_finite : Cert.Pre_ffn_up_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal_ffn_up_finite m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)
      ∧ m' ((c.tc : Thread Cert.FfnUpRefIdeal.nD Cert.FfnUpRefIdeal.τ).loc Cert.FfnUpRefIdeal.main_arg5) = m ((c.tc : Thread Cert.FfnUpIdeal.nD Cert.FfnUpIdeal.τ).loc Cert.FfnUpIdeal.main_arg5)) →
    ∃ (v0 : (c : Dev Cert.FfnUpIdeal.nD) → Buf (Elt Ideal) ((c.tc : Thread Cert.FfnUpIdeal.nD Cert.FfnUpIdeal.τ).loc Cert.FfnUpIdeal.main_v67_0)) (v1 : (c : Dev Cert.FfnUpIdeal.nD) → Buf (Elt Ideal) ((c.tc : Thread Cert.FfnUpIdeal.nD Cert.FfnUpIdeal.τ).loc Cert.FfnUpIdeal.main_v67_1)) (v2 : (c : Dev Cert.FfnUpIdeal.nD) → Buf (Elt Ideal) ((c.tc : Thread Cert.FfnUpIdeal.nD Cert.FfnUpIdeal.τ).loc Cert.FfnUpIdeal.main_v67_2)) (v3 : (c : Dev Cert.FfnUpIdeal.nD) → Buf (Elt Ideal) ((c.tc : Thread Cert.FfnUpIdeal.nD Cert.FfnUpIdeal.τ).loc Cert.FfnUpIdeal.main_v67_3)) (v4 : (c : Dev Cert.FfnUpIdeal.nD) → Buf (Elt Ideal) ((c.tc : Thread Cert.FfnUpIdeal.nD Cert.FfnUpIdeal.τ).loc Cert.FfnUpIdeal.main_v67_4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v67_0) = v0 c
          ∧ r.2.mem ((c.tc : Thread Cert.FfnUpIdeal.nD Cert.FfnUpIdeal.τ).loc Cert.FfnUpIdeal.main_v67_1) = v1 c
          ∧ r.2.mem ((c.tc : Thread Cert.FfnUpIdeal.nD Cert.FfnUpIdeal.τ).loc Cert.FfnUpIdeal.main_v67_2) = v2 c
          ∧ r.2.mem ((c.tc : Thread Cert.FfnUpIdeal.nD Cert.FfnUpIdeal.τ).loc Cert.FfnUpIdeal.main_v67_3) = v3 c
          ∧ r.2.mem ((c.tc : Thread Cert.FfnUpIdeal.nD Cert.FfnUpIdeal.τ).loc Cert.FfnUpIdeal.main_v67_4) = v4 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
          ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v118) = v0 c
          ∧ r.2.mem ((c.tc : Thread Cert.FfnUpRefIdeal.nD Cert.FfnUpRefIdeal.τ).loc Cert.FfnUpRefIdeal.main_v122) = v1 c
          ∧ r.2.mem ((c.tc : Thread Cert.FfnUpRefIdeal.nD Cert.FfnUpRefIdeal.τ).loc Cert.FfnUpRefIdeal.main_v124) = v2 c
          ∧ r.2.mem ((c.tc : Thread Cert.FfnUpRefIdeal.nD Cert.FfnUpRefIdeal.τ).loc Cert.FfnUpRefIdeal.main_v127) = v3 c
          ∧ r.2.mem ((c.tc : Thread Cert.FfnUpRefIdeal.nD Cert.FfnUpRefIdeal.τ).loc Cert.FfnUpRefIdeal.main_v131) = v4 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4)
          ∧ r.2.mem ((c.tc : Thread Cert.FfnUpRefIdeal.nD Cert.FfnUpRefIdeal.τ).loc Cert.FfnUpRefIdeal.main_arg5) = m' ((c.tc : Thread Cert.FfnUpRefIdeal.nD Cert.FfnUpRefIdeal.τ).loc Cert.FfnUpRefIdeal.main_arg5))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)) →
    ∃ (v0 : (c : Dev Cert.FfnActIdeal.nD) → Buf (Elt Ideal) ((c.tc : Thread Cert.FfnActIdeal.nD Cert.FfnActIdeal.τ).loc Cert.FfnActIdeal.main_v7_0)) (v1 : (c : Dev Cert.FfnActIdeal.nD) → Buf (Elt Ideal) ((c.tc : Thread Cert.FfnActIdeal.nD Cert.FfnActIdeal.τ).loc Cert.FfnActIdeal.main_v7_1)) (v2 : (c : Dev Cert.FfnActIdeal.nD) → Buf (Elt Ideal) ((c.tc : Thread Cert.FfnActIdeal.nD Cert.FfnActIdeal.τ).loc Cert.FfnActIdeal.main_v7_2)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v7_0) = v0 c
          ∧ r.2.mem ((c.tc : Thread Cert.FfnActIdeal.nD Cert.FfnActIdeal.τ).loc Cert.FfnActIdeal.main_v7_1) = v1 c
          ∧ r.2.mem ((c.tc : Thread Cert.FfnActIdeal.nD Cert.FfnActIdeal.τ).loc Cert.FfnActIdeal.main_v7_2) = v2 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v47) = v0 c
          ∧ r.2.mem ((c.tc : Thread Cert.FfnActRefIdeal.nD Cert.FfnActRefIdeal.τ).loc Cert.FfnActRefIdeal.main_v51) = v1 c
          ∧ r.2.mem ((c.tc : Thread Cert.FfnActRefIdeal.nD Cert.FfnActRefIdeal.τ).loc Cert.FfnActRefIdeal.main_v53) = v2 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v2_0)) (v1 : (c : Dev Cert.ConvFwdIdeal.nD) → Buf (Elt Ideal) ((c.tc : Thread Cert.ConvFwdIdeal.nD Cert.ConvFwdIdeal.τ).loc Cert.ConvFwdIdeal.main_v2_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v2_0) = v0 c
          ∧ r.2.mem ((c.tc : Thread Cert.ConvFwdIdeal.nD Cert.ConvFwdIdeal.τ).loc Cert.ConvFwdIdeal.main_v2_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v32) = v0 c
          ∧ r.2.mem ((c.tc : Thread Cert.ConvFwdRefIdeal.nD Cert.ConvFwdRefIdeal.τ).loc Cert.ConvFwdRefIdeal.main_v34) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)) →
    ∃ (v0 : (c : Dev Cert.OutFwdIdeal.nD) → Buf (Elt Ideal) ((c.tc : Thread Cert.OutFwdIdeal.nD Cert.OutFwdIdeal.τ).loc Cert.OutFwdIdeal.main_v5_0)) (v1 : (c : Dev Cert.OutFwdIdeal.nD) → Buf (Elt Ideal) ((c.tc : Thread Cert.OutFwdIdeal.nD Cert.OutFwdIdeal.τ).loc Cert.OutFwdIdeal.main_v5_1)) (v2 : (c : Dev Cert.OutFwdIdeal.nD) → Buf (Elt Ideal) ((c.tc : Thread Cert.OutFwdIdeal.nD Cert.OutFwdIdeal.τ).loc Cert.OutFwdIdeal.main_v5_2)) (v3 : (c : Dev Cert.OutFwdIdeal.nD) → Buf (Elt Ideal) ((c.tc : Thread Cert.OutFwdIdeal.nD Cert.OutFwdIdeal.τ).loc Cert.OutFwdIdeal.main_v5_3)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v5_0) = v0 c
          ∧ r.2.mem ((c.tc : Thread Cert.OutFwdIdeal.nD Cert.OutFwdIdeal.τ).loc Cert.OutFwdIdeal.main_v5_1) = v1 c
          ∧ r.2.mem ((c.tc : Thread Cert.OutFwdIdeal.nD Cert.OutFwdIdeal.τ).loc Cert.OutFwdIdeal.main_v5_2) = v2 c
          ∧ r.2.mem ((c.tc : Thread Cert.OutFwdIdeal.nD Cert.OutFwdIdeal.τ).loc Cert.OutFwdIdeal.main_v5_3) = v3 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v32) = v0 c
          ∧ r.2.mem ((c.tc : Thread Cert.OutFwdRefIdeal.nD Cert.OutFwdRefIdeal.τ).loc Cert.OutFwdRefIdeal.main_v33) = v1 c
          ∧ r.2.mem ((c.tc : Thread Cert.OutFwdRefIdeal.nD Cert.OutFwdRefIdeal.τ).loc Cert.OutFwdRefIdeal.main_v34) = v2 c
          ∧ r.2.mem ((c.tc : Thread Cert.OutFwdRefIdeal.nD Cert.OutFwdRefIdeal.τ).loc Cert.OutFwdRefIdeal.main_v36) = v3 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v9_0)) (v1 : (c : Dev Cert.MergeIdeal.nD) → Buf (Elt Ideal) ((c.tc : Thread Cert.MergeIdeal.nD Cert.MergeIdeal.τ).loc Cert.MergeIdeal.main_v9_1)) (v2 : (c : Dev Cert.MergeIdeal.nD) → Buf (Elt Ideal) ((c.tc : Thread Cert.MergeIdeal.nD Cert.MergeIdeal.τ).loc Cert.MergeIdeal.main_v9_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9_0) = v0 c
          ∧ r.2.mem ((c.tc : Thread Cert.MergeIdeal.nD Cert.MergeIdeal.τ).loc Cert.MergeIdeal.main_v9_1) = v1 c
          ∧ r.2.mem ((c.tc : Thread Cert.MergeIdeal.nD Cert.MergeIdeal.τ).loc Cert.MergeIdeal.main_v9_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v26) = v0 c
          ∧ r.2.mem ((c.tc : Thread Cert.MergeRefIdeal.nD Cert.MergeRefIdeal.τ).loc Cert.MergeRefIdeal.main_v27) = v1 c
          ∧ r.2.mem ((c.tc : Thread Cert.MergeRefIdeal.nD Cert.MergeRefIdeal.τ).loc Cert.MergeRefIdeal.main_v29) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1_0)) (v1 : (c : Dev Cert.NormFwdIdeal.nD) → Buf (Elt Ideal) ((c.tc : Thread Cert.NormFwdIdeal.nD Cert.NormFwdIdeal.τ).loc Cert.NormFwdIdeal.main_v1_1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1_0) = v0 c
          ∧ r.2.mem ((c.tc : Thread Cert.NormFwdIdeal.nD Cert.NormFwdIdeal.τ).loc Cert.NormFwdIdeal.main_v1_1) = v1 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v15) = v0 c
          ∧ r.2.mem ((c.tc : Thread Cert.NormFwdRefIdeal.nD Cert.NormFwdRefIdeal.τ).loc Cert.NormFwdRefIdeal.main_v17) = v1 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_MixLru_MixLruIdeal : Prop :=
  IdealRules.named_const.Statement Cert.MixLruIdeal.κ "gelu_k" .f32 0x3D372713#32 ((8943 / 200000 : ℝ) : EReal)
  ∧ IdealRules.named_const.Statement Cert.MixLruIdeal.κ "gelu_3k" .f32 0x3E095D4F#32 ((26829 / 200000 : ℝ) : EReal)

def algebraic_MixLruIdeal_MixLruRefIdeal_pre_mix_lru_range [hMixLruIdeal : Cert.MixLruIdeal.Facts] [hMixLruRefIdeal : Cert.MixLruRefIdeal.Facts] [hPre_mix_lru_range : Cert.Pre_mix_lru_range.Facts] : Prop :=
  ∀ (m : (ℓ : Loc Cert.MixLruIdeal.nD Cert.MixLruIdeal.τ Cert.MixLruIdeal.sig) → Buf (Elt Ideal) ℓ) (g : Dev Cert.MixLruIdeal.nD → PrngReg)
    (m' : (ℓ : Loc Cert.MixLruRefIdeal.nD Cert.MixLruRefIdeal.τ Cert.MixLruRefIdeal.sig) → Buf (Elt Ideal) ℓ) (g' : Dev Cert.MixLruRefIdeal.nD → PrngReg), Pre_MixLruIdeal_mix_lru_range m →
    (∀ c : Dev Cert.MixLruIdeal.nD,
      m' ((c.tc : Thread Cert.MixLruRefIdeal.nD Cert.MixLruRefIdeal.τ).loc Cert.MixLruRefIdeal.main_arg0) = m ((c.tc : Thread Cert.MixLruIdeal.nD Cert.MixLruIdeal.τ).loc Cert.MixLruIdeal.main_arg0)
      ∧ m' ((c.tc : Thread Cert.MixLruRefIdeal.nD Cert.MixLruRefIdeal.τ).loc Cert.MixLruRefIdeal.main_arg1) = m ((c.tc : Thread Cert.MixLruIdeal.nD Cert.MixLruIdeal.τ).loc Cert.MixLruIdeal.main_arg1)
      ∧ m' ((c.tc : Thread Cert.MixLruRefIdeal.nD Cert.MixLruRefIdeal.τ).loc Cert.MixLruRefIdeal.main_arg2) = m ((c.tc : Thread Cert.MixLruIdeal.nD Cert.MixLruIdeal.τ).loc Cert.MixLruIdeal.main_arg2)
      ∧ m' ((c.tc : Thread Cert.MixLruRefIdeal.nD Cert.MixLruRefIdeal.τ).loc Cert.MixLruRefIdeal.main_arg3) = m ((c.tc : Thread Cert.MixLruIdeal.nD Cert.MixLruIdeal.τ).loc Cert.MixLruIdeal.main_arg3)
      ∧ m' ((c.tc : Thread Cert.MixLruRefIdeal.nD Cert.MixLruRefIdeal.τ).loc Cert.MixLruRefIdeal.main_arg4) = m ((c.tc : Thread Cert.MixLruIdeal.nD Cert.MixLruIdeal.τ).loc Cert.MixLruIdeal.main_arg4)
      ∧ m' ((c.tc : Thread Cert.MixLruRefIdeal.nD Cert.MixLruRefIdeal.τ).loc Cert.MixLruRefIdeal.main_arg5) = m ((c.tc : Thread Cert.MixLruIdeal.nD Cert.MixLruIdeal.τ).loc Cert.MixLruIdeal.main_arg5)
      ∧ m' ((c.tc : Thread Cert.MixLruRefIdeal.nD Cert.MixLruRefIdeal.τ).loc Cert.MixLruRefIdeal.main_arg6) = m ((c.tc : Thread Cert.MixLruIdeal.nD Cert.MixLruIdeal.τ).loc Cert.MixLruIdeal.main_arg6)
      ∧ m' ((c.tc : Thread Cert.MixLruRefIdeal.nD Cert.MixLruRefIdeal.τ).loc Cert.MixLruRefIdeal.main_arg7) = m ((c.tc : Thread Cert.MixLruIdeal.nD Cert.MixLruIdeal.τ).loc Cert.MixLruIdeal.main_arg7)
      ∧ m' ((c.tc : Thread Cert.MixLruRefIdeal.nD Cert.MixLruRefIdeal.τ).loc Cert.MixLruRefIdeal.main_arg8) = m ((c.tc : Thread Cert.MixLruIdeal.nD Cert.MixLruIdeal.τ).loc Cert.MixLruIdeal.main_arg8)
      ∧ m' ((c.tc : Thread Cert.MixLruRefIdeal.nD Cert.MixLruRefIdeal.τ).loc Cert.MixLruRefIdeal.main_arg9) = m ((c.tc : Thread Cert.MixLruIdeal.nD Cert.MixLruIdeal.τ).loc Cert.MixLruIdeal.main_arg9)) →
    ∃ (v0 : (c : Dev Cert.MixLruIdeal.nD) → Buf (Elt Ideal) ((c.tc : Thread Cert.MixLruIdeal.nD Cert.MixLruIdeal.τ).loc Cert.MixLruIdeal.main_v283_0)) (v1 : (c : Dev Cert.MixLruIdeal.nD) → Buf (Elt Ideal) ((c.tc : Thread Cert.MixLruIdeal.nD Cert.MixLruIdeal.τ).loc Cert.MixLruIdeal.main_v283_1)) (v2 : (c : Dev Cert.MixLruIdeal.nD) → Buf (Elt Ideal) ((c.tc : Thread Cert.MixLruIdeal.nD Cert.MixLruIdeal.τ).loc Cert.MixLruIdeal.main_v283_2)) (v3 : (c : Dev Cert.MixLruIdeal.nD) → Buf (Elt Ideal) ((c.tc : Thread Cert.MixLruIdeal.nD Cert.MixLruIdeal.τ).loc Cert.MixLruIdeal.main_v283_3)) (v4 : (c : Dev Cert.MixLruIdeal.nD) → Buf (Elt Ideal) ((c.tc : Thread Cert.MixLruIdeal.nD Cert.MixLruIdeal.τ).loc Cert.MixLruIdeal.main_v283_4)) (v5 : (c : Dev Cert.MixLruIdeal.nD) → Buf (Elt Ideal) ((c.tc : Thread Cert.MixLruIdeal.nD Cert.MixLruIdeal.τ).loc Cert.MixLruIdeal.main_v283_5)) (v6 : (c : Dev Cert.MixLruIdeal.nD) → Buf (Elt Ideal) ((c.tc : Thread Cert.MixLruIdeal.nD Cert.MixLruIdeal.τ).loc Cert.MixLruIdeal.main_v283_6)) (v7 : (c : Dev Cert.MixLruIdeal.nD) → Buf (Elt Ideal) ((c.tc : Thread Cert.MixLruIdeal.nD Cert.MixLruIdeal.τ).loc Cert.MixLruIdeal.main_v283_7)) (v8 : (c : Dev Cert.MixLruIdeal.nD) → Buf (Elt Ideal) ((c.tc : Thread Cert.MixLruIdeal.nD Cert.MixLruIdeal.τ).loc Cert.MixLruIdeal.main_v283_8)),
      θ_run (Cert.MixLruIdeal.defs (F := Ideal)) (onTc (τ := Cert.MixLruIdeal.τ) (Cert.MixLruIdeal.main (F := Ideal))) ⟨m, fun _ => 0, g⟩ (fun r => ∀ c : Dev Cert.MixLruIdeal.nD,
          r.2.mem ((c.tc : Thread Cert.MixLruIdeal.nD Cert.MixLruIdeal.τ).loc Cert.MixLruIdeal.main_v283_0) = v0 c
          ∧ r.2.mem ((c.tc : Thread Cert.MixLruIdeal.nD Cert.MixLruIdeal.τ).loc Cert.MixLruIdeal.main_v283_1) = v1 c
          ∧ r.2.mem ((c.tc : Thread Cert.MixLruIdeal.nD Cert.MixLruIdeal.τ).loc Cert.MixLruIdeal.main_v283_2) = v2 c
          ∧ r.2.mem ((c.tc : Thread Cert.MixLruIdeal.nD Cert.MixLruIdeal.τ).loc Cert.MixLruIdeal.main_v283_3) = v3 c
          ∧ r.2.mem ((c.tc : Thread Cert.MixLruIdeal.nD Cert.MixLruIdeal.τ).loc Cert.MixLruIdeal.main_v283_4) = v4 c
          ∧ r.2.mem ((c.tc : Thread Cert.MixLruIdeal.nD Cert.MixLruIdeal.τ).loc Cert.MixLruIdeal.main_v283_5) = v5 c
          ∧ r.2.mem ((c.tc : Thread Cert.MixLruIdeal.nD Cert.MixLruIdeal.τ).loc Cert.MixLruIdeal.main_v283_6) = v6 c
          ∧ r.2.mem ((c.tc : Thread Cert.MixLruIdeal.nD Cert.MixLruIdeal.τ).loc Cert.MixLruIdeal.main_v283_7) = v7 c
          ∧ r.2.mem ((c.tc : Thread Cert.MixLruIdeal.nD Cert.MixLruIdeal.τ).loc Cert.MixLruIdeal.main_v283_8) = v8 c
          ∧ r.2.mem ((c.tc : Thread Cert.MixLruIdeal.nD Cert.MixLruIdeal.τ).loc Cert.MixLruIdeal.main_arg0) = m ((c.tc : Thread Cert.MixLruIdeal.nD Cert.MixLruIdeal.τ).loc Cert.MixLruIdeal.main_arg0)
          ∧ r.2.mem ((c.tc : Thread Cert.MixLruIdeal.nD Cert.MixLruIdeal.τ).loc Cert.MixLruIdeal.main_arg1) = m ((c.tc : Thread Cert.MixLruIdeal.nD Cert.MixLruIdeal.τ).loc Cert.MixLruIdeal.main_arg1)
          ∧ r.2.mem ((c.tc : Thread Cert.MixLruIdeal.nD Cert.MixLruIdeal.τ).loc Cert.MixLruIdeal.main_arg2) = m ((c.tc : Thread Cert.MixLruIdeal.nD Cert.MixLruIdeal.τ).loc Cert.MixLruIdeal.main_arg2)
          ∧ r.2.mem ((c.tc : Thread Cert.MixLruIdeal.nD Cert.MixLruIdeal.τ).loc Cert.MixLruIdeal.main_arg3) = m ((c.tc : Thread Cert.MixLruIdeal.nD Cert.MixLruIdeal.τ).loc Cert.MixLruIdeal.main_arg3)
          ∧ r.2.mem ((c.tc : Thread Cert.MixLruIdeal.nD Cert.MixLruIdeal.τ).loc Cert.MixLruIdeal.main_arg4) = m ((c.tc : Thread Cert.MixLruIdeal.nD Cert.MixLruIdeal.τ).loc Cert.MixLruIdeal.main_arg4)
          ∧ r.2.mem ((c.tc : Thread Cert.MixLruIdeal.nD Cert.MixLruIdeal.τ).loc Cert.MixLruIdeal.main_arg5) = m ((c.tc : Thread Cert.MixLruIdeal.nD Cert.MixLruIdeal.τ).loc Cert.MixLruIdeal.main_arg5)
          ∧ r.2.mem ((c.tc : Thread Cert.MixLruIdeal.nD Cert.MixLruIdeal.τ).loc Cert.MixLruIdeal.main_arg6) = m ((c.tc : Thread Cert.MixLruIdeal.nD Cert.MixLruIdeal.τ).loc Cert.MixLruIdeal.main_arg6)
          ∧ r.2.mem ((c.tc : Thread Cert.MixLruIdeal.nD Cert.MixLruIdeal.τ).loc Cert.MixLruIdeal.main_arg7) = m ((c.tc : Thread Cert.MixLruIdeal.nD Cert.MixLruIdeal.τ).loc Cert.MixLruIdeal.main_arg7)
          ∧ r.2.mem ((c.tc : Thread Cert.MixLruIdeal.nD Cert.MixLruIdeal.τ).loc Cert.MixLruIdeal.main_arg8) = m ((c.tc : Thread Cert.MixLruIdeal.nD Cert.MixLruIdeal.τ).loc Cert.MixLruIdeal.main_arg8)
          ∧ r.2.mem ((c.tc : Thread Cert.MixLruIdeal.nD Cert.MixLruIdeal.τ).loc Cert.MixLruIdeal.main_arg9) = m ((c.tc : Thread Cert.MixLruIdeal.nD Cert.MixLruIdeal.τ).loc Cert.MixLruIdeal.main_arg9))
      ∧ θ_run (Cert.MixLruRefIdeal.defs (F := Ideal)) (onTc (τ := Cert.MixLruRefIdeal.τ) (Cert.MixLruRefIdeal.main (F := Ideal))) ⟨m', fun _ => 0, g'⟩ (fun r => ∀ c : Dev Cert.MixLruRefIdeal.nD,
          r.2.mem ((c.tc : Thread Cert.MixLruRefIdeal.nD Cert.MixLruRefIdeal.τ).loc Cert.MixLruRefIdeal.main_v689) = v0 c
          ∧ r.2.mem ((c.tc : Thread Cert.MixLruRefIdeal.nD Cert.MixLruRefIdeal.τ).loc Cert.MixLruRefIdeal.main_v691) = v1 c
          ∧ r.2.mem ((c.tc : Thread Cert.MixLruRefIdeal.nD Cert.MixLruRefIdeal.τ).loc Cert.MixLruRefIdeal.main_v692) = v2 c
          ∧ r.2.mem ((c.tc : Thread Cert.MixLruRefIdeal.nD Cert.MixLruRefIdeal.τ).loc Cert.MixLruRefIdeal.main_v693) = v3 c
          ∧ r.2.mem ((c.tc : Thread Cert.MixLruRefIdeal.nD Cert.MixLruRefIdeal.τ).loc Cert.MixLruRefIdeal.main_v694) = v4 c
          ∧ r.2.mem ((c.tc : Thread Cert.MixLruRefIdeal.nD Cert.MixLruRefIdeal.τ).loc Cert.MixLruRefIdeal.main_v695) = v5 c
          ∧ r.2.mem ((c.tc : Thread Cert.MixLruRefIdeal.nD Cert.MixLruRefIdeal.τ).loc Cert.MixLruRefIdeal.main_v696) = v6 c
          ∧ r.2.mem ((c.tc : Thread Cert.MixLruRefIdeal.nD Cert.MixLruRefIdeal.τ).loc Cert.MixLruRefIdeal.main_v686) = v7 c
          ∧ r.2.mem ((c.tc : Thread Cert.MixLruRefIdeal.nD Cert.MixLruRefIdeal.τ).loc Cert.MixLruRefIdeal.main_v634) = v8 c
          ∧ r.2.mem ((c.tc : Thread Cert.MixLruRefIdeal.nD Cert.MixLruRefIdeal.τ).loc Cert.MixLruRefIdeal.main_arg0) = m' ((c.tc : Thread Cert.MixLruRefIdeal.nD Cert.MixLruRefIdeal.τ).loc Cert.MixLruRefIdeal.main_arg0)
          ∧ r.2.mem ((c.tc : Thread Cert.MixLruRefIdeal.nD Cert.MixLruRefIdeal.τ).loc Cert.MixLruRefIdeal.main_arg1) = m' ((c.tc : Thread Cert.MixLruRefIdeal.nD Cert.MixLruRefIdeal.τ).loc Cert.MixLruRefIdeal.main_arg1)
          ∧ r.2.mem ((c.tc : Thread Cert.MixLruRefIdeal.nD Cert.MixLruRefIdeal.τ).loc Cert.MixLruRefIdeal.main_arg2) = m' ((c.tc : Thread Cert.MixLruRefIdeal.nD Cert.MixLruRefIdeal.τ).loc Cert.MixLruRefIdeal.main_arg2)
          ∧ r.2.mem ((c.tc : Thread Cert.MixLruRefIdeal.nD Cert.MixLruRefIdeal.τ).loc Cert.MixLruRefIdeal.main_arg3) = m' ((c.tc : Thread Cert.MixLruRefIdeal.nD Cert.MixLruRefIdeal.τ).loc Cert.MixLruRefIdeal.main_arg3)
          ∧ r.2.mem ((c.tc : Thread Cert.MixLruRefIdeal.nD Cert.MixLruRefIdeal.τ).loc Cert.MixLruRefIdeal.main_arg4) = m' ((c.tc : Thread Cert.MixLruRefIdeal.nD Cert.MixLruRefIdeal.τ).loc Cert.MixLruRefIdeal.main_arg4)
          ∧ r.2.mem ((c.tc : Thread Cert.MixLruRefIdeal.nD Cert.MixLruRefIdeal.τ).loc Cert.MixLruRefIdeal.main_arg5) = m' ((c.tc : Thread Cert.MixLruRefIdeal.nD Cert.MixLruRefIdeal.τ).loc Cert.MixLruRefIdeal.main_arg5)
          ∧ r.2.mem ((c.tc : Thread Cert.MixLruRefIdeal.nD Cert.MixLruRefIdeal.τ).loc Cert.MixLruRefIdeal.main_arg6) = m' ((c.tc : Thread Cert.MixLruRefIdeal.nD Cert.MixLruRefIdeal.τ).loc Cert.MixLruRefIdeal.main_arg6)
          ∧ r.2.mem ((c.tc : Thread Cert.MixLruRefIdeal.nD Cert.MixLruRefIdeal.τ).loc Cert.MixLruRefIdeal.main_arg7) = m' ((c.tc : Thread Cert.MixLruRefIdeal.nD Cert.MixLruRefIdeal.τ).loc Cert.MixLruRefIdeal.main_arg7)
          ∧ r.2.mem ((c.tc : Thread Cert.MixLruRefIdeal.nD Cert.MixLruRefIdeal.τ).loc Cert.MixLruRefIdeal.main_arg8) = m' ((c.tc : Thread Cert.MixLruRefIdeal.nD Cert.MixLruRefIdeal.τ).loc Cert.MixLruRefIdeal.main_arg8)
          ∧ r.2.mem ((c.tc : Thread Cert.MixLruRefIdeal.nD Cert.MixLruRefIdeal.τ).loc Cert.MixLruRefIdeal.main_arg9) = m' ((c.tc : Thread Cert.MixLruRefIdeal.nD Cert.MixLruRefIdeal.τ).loc Cert.MixLruRefIdeal.main_arg9))

def Claim : Prop :=
  ∃ (hNormIn : Cert.NormIn.Facts) (hNormInIdeal : Cert.NormInIdeal.Facts) (hNormInRefIdeal : Cert.NormInRefIdeal.Facts) (hNormsMid : Cert.NormsMid.Facts) (hNormsMidIdeal : Cert.NormsMidIdeal.Facts) (hNormsMidRefIdeal : Cert.NormsMidRefIdeal.Facts) (hFfnLoss : Cert.FfnLoss.Facts) (hFfnLossIdeal : Cert.FfnLossIdeal.Facts) (hFfnLossRefIdeal : Cert.FfnLossRefIdeal.Facts) (hMixConv : Cert.MixConv.Facts) (hMixConvIdeal : Cert.MixConvIdeal.Facts) (hMixConvRefIdeal : Cert.MixConvRefIdeal.Facts) (hMixOut : Cert.MixOut.Facts) (hMixOutIdeal : Cert.MixOutIdeal.Facts) (hMixOutRefIdeal : Cert.MixOutRefIdeal.Facts) (hFfnUp : Cert.FfnUp.Facts) (hFfnUpIdeal : Cert.FfnUpIdeal.Facts) (hFfnUpRefIdeal : Cert.FfnUpRefIdeal.Facts) (hFfnAct : Cert.FfnAct.Facts) (hFfnActIdeal : Cert.FfnActIdeal.Facts) (hFfnActRefIdeal : Cert.FfnActRefIdeal.Facts) (hConvFwd : Cert.ConvFwd.Facts) (hConvFwdIdeal : Cert.ConvFwdIdeal.Facts) (hConvFwdRefIdeal : Cert.ConvFwdRefIdeal.Facts) (hOutFwd : Cert.OutFwd.Facts) (hOutFwdIdeal : Cert.OutFwdIdeal.Facts) (hOutFwdRefIdeal : Cert.OutFwdRefIdeal.Facts) (hMerge : Cert.Merge.Facts) (hMergeIdeal : Cert.MergeIdeal.Facts) (hMergeRefIdeal : Cert.MergeRefIdeal.Facts) (hNormFwd : Cert.NormFwd.Facts) (hNormFwdIdeal : Cert.NormFwdIdeal.Facts) (hNormFwdRefIdeal : Cert.NormFwdRefIdeal.Facts) (hMixLru : Cert.MixLru.Facts) (hMixLruIdeal : Cert.MixLruIdeal.Facts) (hMixLruRefIdeal : Cert.MixLruRefIdeal.Facts) (hPre_norm_in_finite : Cert.Pre_norm_in_finite.Facts) (hPre_norms_mid_finite : Cert.Pre_norms_mid_finite.Facts) (hPre_ffn_loss_finite : Cert.Pre_ffn_loss_finite.Facts) (hPre_ffn_up_finite : Cert.Pre_ffn_up_finite.Facts) (hPre_mix_lru_range : Cert.Pre_mix_lru_range.Facts),
    quiescent_NormIn (hNormIn := hNormIn)
    ∧ quiescent_NormInIdeal (hNormInIdeal := hNormInIdeal)
    ∧ quiescent_NormInIdeal_pre_norm_in_finite (hNormInIdeal := hNormInIdeal) (hPre_norm_in_finite := hPre_norm_in_finite)
    ∧ quiescent_NormInRefIdeal (hNormInRefIdeal := hNormInRefIdeal)
    ∧ quiescent_NormInRefIdeal_pre_norm_in_finite (hNormInRefIdeal := hNormInRefIdeal) (hPre_norm_in_finite := hPre_norm_in_finite)
    ∧ quiescent_NormsMid (hNormsMid := hNormsMid)
    ∧ quiescent_NormsMidIdeal (hNormsMidIdeal := hNormsMidIdeal)
    ∧ quiescent_NormsMidIdeal_pre_norms_mid_finite (hNormsMidIdeal := hNormsMidIdeal) (hPre_norms_mid_finite := hPre_norms_mid_finite)
    ∧ quiescent_NormsMidRefIdeal (hNormsMidRefIdeal := hNormsMidRefIdeal)
    ∧ quiescent_NormsMidRefIdeal_pre_norms_mid_finite (hNormsMidRefIdeal := hNormsMidRefIdeal) (hPre_norms_mid_finite := hPre_norms_mid_finite)
    ∧ quiescent_FfnLoss (hFfnLoss := hFfnLoss)
    ∧ quiescent_FfnLossIdeal (hFfnLossIdeal := hFfnLossIdeal)
    ∧ quiescent_FfnLossIdeal_pre_ffn_loss_finite (hFfnLossIdeal := hFfnLossIdeal) (hPre_ffn_loss_finite := hPre_ffn_loss_finite)
    ∧ quiescent_FfnLossRefIdeal (hFfnLossRefIdeal := hFfnLossRefIdeal)
    ∧ quiescent_FfnLossRefIdeal_pre_ffn_loss_finite (hFfnLossRefIdeal := hFfnLossRefIdeal) (hPre_ffn_loss_finite := hPre_ffn_loss_finite)
    ∧ quiescent_MixConv (hMixConv := hMixConv)
    ∧ quiescent_MixConvIdeal (hMixConvIdeal := hMixConvIdeal)
    ∧ quiescent_MixConvRefIdeal (hMixConvRefIdeal := hMixConvRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfnUp (hFfnUp := hFfnUp)
    ∧ quiescent_FfnUpIdeal (hFfnUpIdeal := hFfnUpIdeal)
    ∧ quiescent_FfnUpIdeal_pre_ffn_up_finite (hFfnUpIdeal := hFfnUpIdeal) (hPre_ffn_up_finite := hPre_ffn_up_finite)
    ∧ quiescent_FfnUpRefIdeal (hFfnUpRefIdeal := hFfnUpRefIdeal)
    ∧ quiescent_FfnUpRefIdeal_pre_ffn_up_finite (hFfnUpRefIdeal := hFfnUpRefIdeal) (hPre_ffn_up_finite := hPre_ffn_up_finite)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_Merge (hMerge := hMerge)
    ∧ quiescent_MergeIdeal (hMergeIdeal := hMergeIdeal)
    ∧ quiescent_MergeRefIdeal (hMergeRefIdeal := hMergeRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_MixLru (hMixLru := hMixLru)
    ∧ quiescent_MixLruIdeal (hMixLruIdeal := hMixLruIdeal)
    ∧ quiescent_MixLruIdeal_pre_mix_lru_range (hMixLruIdeal := hMixLruIdeal) (hPre_mix_lru_range := hPre_mix_lru_range)
    ∧ quiescent_MixLruRefIdeal (hMixLruRefIdeal := hMixLruRefIdeal)
    ∧ quiescent_MixLruRefIdeal_pre_mix_lru_range (hMixLruRefIdeal := hMixLruRefIdeal) (hPre_mix_lru_range := hPre_mix_lru_range)
    ∧ preserves_NormIn_NormInIdeal
    ∧ algebraic_NormInIdeal_NormInRefIdeal_pre_norm_in_finite (hNormInIdeal := hNormInIdeal) (hNormInRefIdeal := hNormInRefIdeal) (hPre_norm_in_finite := hPre_norm_in_finite)
    ∧ preserves_NormsMid_NormsMidIdeal
    ∧ algebraic_NormsMidIdeal_NormsMidRefIdeal_pre_norms_mid_finite (hNormsMidIdeal := hNormsMidIdeal) (hNormsMidRefIdeal := hNormsMidRefIdeal) (hPre_norms_mid_finite := hPre_norms_mid_finite)
    ∧ preserves_FfnLoss_FfnLossIdeal
    ∧ algebraic_FfnLossIdeal_FfnLossRefIdeal_pre_ffn_loss_finite (hFfnLossIdeal := hFfnLossIdeal) (hFfnLossRefIdeal := hFfnLossRefIdeal) (hPre_ffn_loss_finite := hPre_ffn_loss_finite)
    ∧ preserves_MixConv_MixConvIdeal
    ∧ algebraic_MixConvIdeal_MixConvRefIdeal (hMixConvIdeal := hMixConvIdeal) (hMixConvRefIdeal := hMixConvRefIdeal)
    ∧ preserves_MixOut_MixOutIdeal
    ∧ algebraic_MixOutIdeal_MixOutRefIdeal (hMixOutIdeal := hMixOutIdeal) (hMixOutRefIdeal := hMixOutRefIdeal)
    ∧ preserves_FfnUp_FfnUpIdeal
    ∧ algebraic_FfnUpIdeal_FfnUpRefIdeal_pre_ffn_up_finite (hFfnUpIdeal := hFfnUpIdeal) (hFfnUpRefIdeal := hFfnUpRefIdeal) (hPre_ffn_up_finite := hPre_ffn_up_finite)
    ∧ preserves_FfnAct_FfnActIdeal
    ∧ algebraic_FfnActIdeal_FfnActRefIdeal (hFfnActIdeal := hFfnActIdeal) (hFfnActRefIdeal := hFfnActRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_Merge_MergeIdeal
    ∧ algebraic_MergeIdeal_MergeRefIdeal (hMergeIdeal := hMergeIdeal) (hMergeRefIdeal := hMergeRefIdeal)
    ∧ preserves_NormFwd_NormFwdIdeal
    ∧ algebraic_NormFwdIdeal_NormFwdRefIdeal (hNormFwdIdeal := hNormFwdIdeal) (hNormFwdRefIdeal := hNormFwdRefIdeal)
    ∧ preserves_MixLru_MixLruIdeal
    ∧ algebraic_MixLruIdeal_MixLruRefIdeal_pre_mix_lru_range (hMixLruIdeal := hMixLruIdeal) (hMixLruRefIdeal := hMixLruRefIdeal) (hPre_mix_lru_range := hPre_mix_lru_range)
-- ==== Pre_ffn_loss_finite.lean ====
abbrev S1x2048x3072 : Shape := ⟨3, ![1, 2048, 3072]⟩
abbrev S1x3072x1024 : Shape := ⟨3, ![1, 3072, 1024]⟩
abbrev S1x2048x1024 : Shape := ⟨3, ![1, 2048, 1024]⟩
abbrev S1x1024 : Shape := ⟨2, ![1, 1024]⟩
abbrev S_ : Shape := ⟨0, ![]⟩

class Facts : Prop where
  bcast_S_S1x2048x3072 : S_.BroadcastsInDim S1x2048x3072 (![] : Fin 0 → Fin S1x2048x3072.rank)
  bcast_S_S1x3072x1024 : S_.BroadcastsInDim S1x3072x1024 (![] : Fin 0 → Fin S1x3072x1024.rank)
  bcast_S_S1x2048x1024 : S_.BroadcastsInDim S1x2048x1024 (![] : Fin 0 → Fin S1x2048x1024.rank)
  bcast_S_S1x1024 : S_.BroadcastsInDim S1x1024 (![] : Fin 0 → Fin S1x1024.rank)

variable [Facts]

def fn {F : FTy → Type} [FloatOps F] (main_arg0 : FVec F S1x2048x3072 .f32) (main_arg1 : FVec F S1x3072x1024 .f32) (main_arg2 : FVec F S1x2048x1024 .f32) (main_arg3 : FVec F S1x2048x1024 .f32) (main_arg4 : FVec F S1x1024 .f32) : IVec S1x2048x3072 1 × IVec S1x3072x1024 1 × IVec S1x2048x1024 1 × IVec S1x2048x1024 1 × IVec S1x1024 1 :=
  let main_v0 : FVec F S1x2048x3072 .f32 := Host.absf main_arg0
  let main_cst : FVec F S_ .f32 := constant S_ .f32 0x7F800000#32
  let main_v1 : FVec F S1x2048x3072 .f32 := broadcastInDim S1x2048x3072 ![] bcast_S_S1x2048x3072 main_cst
  let main_v2 : IVec S1x2048x3072 1 := cmpf .olt main_v0 main_v1
  let main_v3 : FVec F S1x3072x1024 .f32 := Host.absf main_arg1
  let main_cst_0 : FVec F S_ .f32 := constant S_ .f32 0x7F800000#32
  let main_v4 : FVec F S1x3072x1024 .f32 := broadcastInDim S1x3072x1024 ![] bcast_S_S1x3072x1024 main_cst_0
  let main_v5 : IVec S1x3072x1024 1 := cmpf .olt main_v3 main_v4
  let main_v6 : FVec F S1x2048x1024 .f32 := Host.absf main_arg2
  let main_cst_1 : FVec F S_ .f32 := constant S_ .f32 0x7F800000#32
  let main_v7 : FVec F S1x2048x1024 .f32 := broadcastInDim S1x2048x1024 ![] bcast_S_S1x2048x1024 main_cst_1
  let main_v8 : IVec S1x2048x1024 1 := cmpf .olt main_v6 main_v7
  let main_v9 : FVec F S1x2048x1024 .f32 := Host.absf main_arg3
  let main_cst_2 : FVec F S_ .f32 := constant S_ .f32 0x7F800000#32
  let main_v10 : FVec F S1x2048x1024 .f32 := broadcastInDim S1x2048x1024 ![] bcast_S_S1x2048x1024 main_cst_2
  let main_v11 : IVec S1x2048x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_ffn_up_finite.lean ====
abbrev S1x2048x1024 : Shape := ⟨3, ![1, 2048, 1024]⟩
abbrev S1x1024x6144 : Shape := ⟨3, ![1, 1024, 6144]⟩
abbrev S1x3x6144 : Shape := ⟨3, ![1, 3, 6144]⟩
abbrev S1x6144 : Shape := ⟨2, ![1, 6144]⟩
abbrev S1x3072x1024 : Shape := ⟨3, ![1, 3072, 1024]⟩
abbrev S_ : Shape := ⟨0, ![]⟩

class Facts : Prop where
  bcast_S_S1x2048x1024 : S_.BroadcastsInDim S1x2048x1024 (![] : Fin 0 → Fin S1x2048x1024.rank)
  bcast_S_S1x1024x6144 : S_.BroadcastsInDim S1x1024x6144 (![] : Fin 0 → Fin S1x1024x6144.rank)
  bcast_S_S1x3x6144 : S_.BroadcastsInDim S1x3x6144 (![] : Fin 0 → Fin S1x3x6144.rank)
  bcast_S_S1x6144 : S_.BroadcastsInDim S1x6144 (![] : Fin 0 → Fin S1x6144.rank)
  bcast_S_S1x3072x1024 : S_.BroadcastsInDim S1x3072x1024 (![] : Fin 0 → Fin S1x3072x1024.rank)

variable [Facts]

def fn {F : FTy → Type} [FloatOps F] (main_arg0 : FVec F S1x2048x1024 .f32) (main_arg1 : FVec F S1x1024x6144 .f32) (main_arg2 : FVec F S1x3x6144 .f32) (main_arg3 : FVec F S1x6144 .f32) (main_arg4 : FVec F S1x3072x1024 .f32) (main_arg5 : FVec F S1x2048x1024 .f32) : IVec S1x2048x1024 1 × IVec S1x1024x6144 1 × IVec S1x3x6144 1 × IVec S1x6144 1 × IVec S1x3072x1024 1 × IVec S1x2048x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x1024x6144 .f32 := Host.absf main_arg1
  let main_cst_0 : FVec F S_ .f32 := constant S_ .f32 0x7F800000#32
  let main_v4 : FVec F S1x1024x6144 .f32 := broadcastInDim S1x1024x6144 ![] bcast_S_S1x1024x6144 main_cst_0
  let main_v5 : IVec S1x1024x6144 1 := cmpf .olt main_v3 main_v4
  let main_v6 : FVec F S1x3x6144 .f32 := Host.absf main_arg2
  let main_cst_1 : FVec F S_ .f32 := constant S_ .f32 0x7F800000#32
  let main_v7 : FVec F S1x3x6144 .f32 := broadcastInDim S1x3x6144 ![] bcast_S_S1x3x6144 main_cst_1
  let main_v8 : IVec S1x3x6144 1 := cmpf .olt main_v6 main_v7
  let main_v9 : FVec F S1x6144 .f32 := Host.absf main_arg3
  let main_cst_2 : FVec F S_ .f32 := constant S_ .f32 0x7F800000#32
  let main_v10 : FVec F S1x6144 .f32 := broadcastInDim S1x6144 ![] bcast_S_S1x6144 main_cst_2
  let main_v11 : IVec S1x6144 1 := cmpf .olt main_v9 main_v10
  let main_v12 : FVec F S1x3072x1024 .f32 := Host.absf main_arg4
  let main_cst_3 : FVec F S_ .f32 := constant S_ .f32 0x7F800000#32
  let main_v13 : FVec F S1x3072x1024 .f32 := broadcastInDim S1x3072x1024 ![] bcast_S_S1x3072x1024 main_cst_3
  let main_v14 : IVec S1x3072x1024 1 := cmpf .olt main_v12 main_v13
  let main_v15 : FVec F S1x2048x1024 .f32 := Host.absf main_arg5
  let main_cst_4 : FVec F S_ .f32 := constant S_ .f32 0x7F800000#32
  let main_v16 : FVec F S1x2048x1024 .f32 := broadcastInDim S1x2048x1024 ![] bcast_S_S1x2048x1024 main_cst_4
  let main_v17 : IVec S1x2048x1024 1 := cmpf .olt main_v15 main_v16
  (main_v2, main_v5, main_v8, main_v11, main_v14, main_v17)
-- ==== Pre_mix_lru_range.lean ====
abbrev S1x2048x7168 : Shape := ⟨3, ![1, 2048, 7168]⟩
abbrev S1x4x1024 : Shape := ⟨3, ![1, 4, 1024]⟩
abbrev S1x1024 : Shape := ⟨2, ![1, 1024]⟩
abbrev S1x4x256x256 : Shape := ⟨4, ![1, 4, 256, 256]⟩
abbrev S1x4x256 : Shape := ⟨3, ![1, 4, 256]⟩
abbrev S1x1024x1024 : Shape := ⟨3, ![1, 1024, 1024]⟩
abbrev S1x2048x1024 : Shape := ⟨3, ![1, 2048, 1024]⟩
abbrev S4x1024 : Shape := ⟨2, ![4, 1024]⟩
abbrev S1024 : Shape := ⟨1, ![1024]⟩
abbrev S_ : Shape := ⟨0, ![]⟩
abbrev S1x3x1024 : Shape := ⟨3, ![1, 3, 1024]⟩
abbrev S1x2051x1024 : Shape := ⟨3, ![1, 2051, 1024]⟩
abbrev S1x1x1024 : Shape := ⟨3, ![1, 1, 1024]⟩
abbrev S1x2048x4x256 : Shape := ⟨4, ![1, 2048, 4, 256]⟩
abbrev S4x256x256 : Shape := ⟨3, ![4, 256, 256]⟩
abbrev S4x256x1x2048 : Shape := ⟨4, ![4, 256, 1, 2048]⟩
abbrev S4x256 : Shape := ⟨2, ![4, 256]⟩
abbrev S1x1x4x256 : Shape := ⟨4, ![1, 1, 4, 256]⟩
abbrev S1x2047x1024 : Shape := ⟨3, ![1, 2047, 1024]⟩

class Facts : Prop where
  slices_S1x2048x7168_S1x2048x1024_0_0_0 : S1x2048x7168.Slices ![0, 0, 0] S1x2048x1024
  slices_S1x2048x7168_S1x2048x1024_0_0_1024 : S1x2048x7168.Slices ![0, 0, 1024] S1x2048x1024
  slices_S1x2048x7168_S1x2048x1024_0_0_2048 : S1x2048x7168.Slices ![0, 0, 2048] S1x2048x1024
  slices_S1x2048x7168_S1x2048x1024_0_0_3072 : S1x2048x7168.Slices ![0, 0, 3072] S1x2048x1024
  slices_S1x2048x7168_S1x2048x1024_0_0_4096 : S1x2048x7168.Slices ![0, 0, 4096] S1x2048x1024
  slices_S1x2048x7168_S1x2048x1024_0_0_5120 : S1x2048x7168.Slices ![0, 0, 5120] S1x2048x1024
  slices_S1x2048x7168_S1x2048x1024_0_0_6144 : S1x2048x7168.Slices ![0, 0, 6144] S1x2048x1024
  shapeCasts_S1x4x1024_S4x1024 : S1x4x1024.ShapeCasts S4x1024
  shapeCasts_S1x1024_S1024 : S1x1024.ShapeCasts S1024
  bcast_S_S1x3x1024 : S_.BroadcastsInDim S1x3x1024 (![] : Fin 0 → Fin S1x3x1024.rank)
  concatenates_S1x3x1024_S1x2048x1024_S1x2051x1024_d1 : Shape.Concatenates [S1x3x1024, S1x2048x1024] S1x2051x1024 1
  slices_S1x2051x1024_S1x2048x1024_0_0_0 : S1x2051x1024.Slices ![0, 0, 0] S1x2048x1024
  slices_S4x1024_S1x1024_0_0 : S4x1024.Slices ![0, 0] S1x1024
  bcast_S1024_S1x1x1024_2 : S1024.BroadcastsInDim S1x1x1024 (![2] : Fin 1 → Fin S1x1x1024.rank)
  bcast_S1x1x1024_S1x2048x1024_0_1_2 : S1x1x1024.BroadcastsInDim S1x2048x1024 (![0, 1, 2] : Fin 3 → Fin S1x2048x1024.rank)
  slices_S1x2051x1024_S1x2048x1024_0_1_0 : S1x2051x1024.Slices ![0, 1, 0] S1x2048x1024
  slices_S4x1024_S1x1024_1_0 : S4x1024.Slices ![1, 0] S1x1024
  slices_S1x2051x1024_S1x2048x1024_0_2_0 : S1x2051x1024.Slices ![0, 2, 0] S1x2048x1024
  slices_S4x1024_S1x1024_2_0 : S4x1024.Slices ![2, 0] S1x1024
  slices_S1x2051x1024_S1x2048x1024_0_3_0 : S1x2051x1024.Slices ![0, 3, 0] S1x2048x1024
  slices_S4x1024_S1x1024_3_0 : S4x1024.Slices ![3, 0] S1x1024
  shapeCasts_S1x2048x1024_S1x2048x4x256 : S1x2048x1024.ShapeCasts S1x2048x4x256
  shapeCasts_S1x4x256x256_S4x256x256 : S1x4x256x256.ShapeCasts S4x256x256
  transposes_S4x256x1x2048_S1x2048x4x256_2_3_0_1 : S4x256x1x2048.Transposes [2, 3, 0, 1] S1x2048x4x256
  shapeCasts_S1x4x256_S4x256 : S1x4x256.ShapeCasts S4x256
  bcast_S4x256_S1x1x4x256_2_3 : S4x256.BroadcastsInDim S1x1x4x256 (![2, 3] : Fin 2 → Fin S1x1x4x256.rank)
  bcast_S1x1x4x256_S1x2048x4x256_0_1_2_3 : S1x1x4x256.BroadcastsInDim S1x2048x4x256 (![0, 1, 2, 3] : Fin 4 → Fin S1x2048x4x256.rank)
  bcast_S_S1x2048x4x256 : S_.BroadcastsInDim S1x2048x4x256 (![] : Fin 0 → Fin S1x2048x4x256.rank)
  shapeCasts_S1x2048x4x256_S1x2048x1024 : S1x2048x4x256.ShapeCasts S1x2048x1024
  bcast_S_S1x2048x1024 : S_.BroadcastsInDim S1x2048x1024 (![] : Fin 0 → Fin S1x2048x1024.rank)
  bcast_S_S1024 : S_.BroadcastsInDim S1024 (![] : Fin 0 → Fin S1024.rank)
  slices_S1x2048x1024_S1x2047x1024_0_1_0 : S1x2048x1024.Slices ![0, 1, 0] S1x2047x1024
  bcast_S_S1x2047x1024 : S_.BroadcastsInDim S1x2047x1024 (![] : Fin 0 → Fin S1x2047x1024.rank)
  bcast_S_S1x2048x7168 : S_.BroadcastsInDim S1x2048x7168 (![] : Fin 0 → Fin S1x2048x7168.rank)
  bcast_S_S1x4x1024 : S_.BroadcastsInDim S1x4x1024 (![] : Fin 0 → Fin S1x4x1024.rank)
  bcast_S_S1x1024 : S_.BroadcastsInDim S1x1024 (![] : Fin 0 → Fin S1x1024.rank)
  bcast_S_S1x4x256x256 : S_.BroadcastsInDim S1x4x256x256 (![] : Fin 0 → Fin S1x4x256x256.rank)
  bcast_S_S1x4x256 : S_.BroadcastsInDim S1x4x256 (![] : Fin 0 → Fin S1x4x256.rank)
  bcast_S_S1x1024x1024 : S_.BroadcastsInDim S1x1024x1024 (![] : Fin 0 → Fin S1x1024x1024.rank)
  dot_S4x256x256_S1x2048x4x256_S4x256x1x2048_1_3_2_01_0_2_wf : DotDims.WF S4x256x256 S1x2048x4x256 S4x256x1x2048 [1] [3] [2] [0, 1] [0] [2]

variable [Facts]

def dot_S4x256x256_S1x2048x4x256_S4x256x1x2048_1_3_2_01_0_2 : DotDims S4x256x256 S1x2048x4x256 S4x256x1x2048 where
  lhsContracting := [1]
  rhsContracting := [3]
  lhsNonContracting := [2]
  rhsNonContracting := [0, 1]
  lhsBatch := [0]
  rhsBatch := [2]
  wf := dot_S4x256x256_S1x2048x4x256_S4x256x1x2048_1_3_2_01_0_2_wf
def fn_softplus {F : FTy → Type} [FloatOps F] (arg0 : FVec F S1024 .f32) : FVec F S1024 .f32 :=
  let cst : FVec F S_ .f32 := constant S_ .f32 0x00000000#32
  let v0 : FVec F S1024 .f32 := broadcastInDim S1024 ![] bcast_S_S1024 cst
  let v1 : FVec F S1024 .f32 := maximumf arg0 v0
  let v2 : FVec F S1024 .f32 := broadcastInDim S1024 ![] bcast_S_S1024 cst
  let v3 : FVec F S1024 .f32 := subf arg0 v2
  let v4 : IVec S1024 1 := cmpf .une v3 v3
  let v5 : FVec F S1024 .f32 := broadcastInDim S1024 ![] bcast_S_S1024 cst
  let v6 : FVec F S1024 .f32 := addf arg0 v5
  let v7 : FVec F S1024 .f32 := Host.absf v3
  let v8 : FVec F S1024 .f32 := Host.negf v7
  let v9 : FVec F S1024 .f32 := Host.exp v8
  let v10 : FVec F S1024 .f32 := Host.log1p v9
  let v11 : FVec F S1024 .f32 := addf v1 v10
  let v12 : FVec F S1024 .f32 := select v4 v6 v11
  v12

def fn_log_sigmoid {F : FTy → Type} [FloatOps F] (arg0 : FVec F S1024 .f32) : FVec F S1024 .f32 :=
  let v0 : FVec F S1024 .f32 := Host.negf arg0
  let v1 : FVec F S1024 .f32 := fn_softplus (F := F) v0
  let v2 : FVec F S1024 .f32 := Host.negf v1
  v2

def fn_part4 {F : FTy → Type} [FloatOps F] (main_arg6 : FVec F S1x4x256 .f32) (main_arg7 : FVec F S1x1024 .f32) (main_arg8 : FVec F S1x1024x1024 .f32) (main_arg9 : FVec F S1x2048x1024 .f32) (main_v67 : IVec S1x2047x1024 1) (main_v70 : IVec S1x2048x7168 1) (main_v73 : IVec S1x4x1024 1) (main_v76 : IVec S1x1024 1) (main_v79 : IVec S1x4x256x256 1) (main_v82 : IVec S1x4x256 1) (main_v83 : FVec F S1x4x256x256 .f32) (main_cst_10 : FVec F S_ .f32) : IVec S1x2047x1024 1 × IVec S1x2048x7168 1 × IVec S1x4x1024 1 × IVec S1x1024 1 × IVec S1x4x256x256 1 × IVec S1x4x256 1 × IVec S1x4x256x256 1 × IVec S1x4x256 1 × IVec S1x1024 1 × IVec S1x1024x1024 1 × IVec S1x2048x1024 1 :=
  let main_v84 : FVec F S1x4x256x256 .f32 := broadcastInDim S1x4x256x256 ![] bcast_S_S1x4x256x256 main_cst_10
  let main_v85 : IVec S1x4x256x256 1 := cmpf .olt main_v83 main_v84
  let main_v86 : FVec F S1x4x256 .f32 := Host.absf main_arg6
  let main_cst_11 : FVec F S_ .f32 := constant S_ .f32 0x7F800000#32
  let main_v87 : FVec F S1x4x256 .f32 := broadcastInDim S1x4x256 ![] bcast_S_S1x4x256 main_cst_11
  let main_v88 : IVec S1x4x256 1 := cmpf .olt main_v86 main_v87
  let main_v89 : FVec F S1x1024 .f32 := Host.absf main_arg7
  let main_cst_12 : FVec F S_ .f32 := constant S_ .f32 0x7F800000#32
  let main_v90 : FVec F S1x1024 .f32 := broadcastInDim S1x1024 ![] bcast_S_S1x1024 main_cst_12
  let main_v91 : IVec S1x1024 1 := cmpf .olt main_v89 main_v90
  let main_v92 : FVec F S1x1024x1024 .f32 := Host.absf main_arg8
  let main_cst_13 : FVec F S_ .f32 := constant S_ .f32 0x7F800000#32
  let main_v93 : FVec F S1x1024x1024 .f32 := broadcastInDim S1x1024x1024 ![] bcast_S_S1x1024x1024 main_cst_13
  let main_v94 : IVec S1x1024x1024 1 := cmpf .olt main_v92 main_v93
  let main_v95 : FVec F S1x2048x1024 .f32 := Host.absf main_arg9
  let main_cst_14 : FVec F S_ .f32 := constant S_ .f32 0x7F800000#32
  let main_v96 : FVec F S1x2048x1024 .f32 := broadcastInDim S1x2048x1024 ![] bcast_S_S1x2048x1024 main_cst_14
  let main_v97 : IVec S1x2048x1024 1 := cmpf .olt main_v95 main_v96
  (main_v67, main_v70, main_v73, main_v76, main_v79, main_v82, main_v85, main_v88, main_v91, main_v94, main_v97)

def fn_part3 {F : FTy → Type} [FloatOps F] (main_arg0 : FVec F S1x2048x7168 .f32) (main_arg1 : FVec F S1x4x1024 .f32) (main_arg2 : FVec F S1x1024 .f32) (main_arg3 : FVec F S1x4x256x256 .f32) (main_arg4 : FVec F S1x4x256 .f32) (main_arg5 : FVec F S1x4x256x256 .f32) (main_arg6 : FVec F S1x4x256 .f32) (main_arg7 : FVec F S1x1024 .f32) (main_arg8 : FVec F S1x1024x1024 .f32) (main_arg9 : FVec F S1x2048x1024 .f32) (main_v65 : FVec F S1x2047x1024 .f32) (main_cst_4 : FVec F S_ .f32) : IVec S1x2047x1024 1 × IVec S1x2048x7168 1 × IVec S1x4x1024 1 × IVec S1x1024 1 × IVec S1x4x256x256 1 × IVec S1x4x256 1 × IVec S1x4x256x256 1 × IVec S1x4x256 1 × IVec S1x1024 1 × IVec S1x1024x1024 1 × IVec S1x2048x1024 1 :=
  let main_v66 : FVec F S1x2047x1024 .f32 := broadcastInDim S1x2047x1024 ![] bcast_S_S1x2047x1024 main_cst_4
  let main_v67 : IVec S1x2047x1024 1 := cmpf .ole main_v65 main_v66
  let main_v68 : FVec F S1x2048x7168 .f32 := Host.absf main_arg0
  let main_cst_5 : FVec F S_ .f32 := constant S_ .f32 0x7F800000#32
  let main_v69 : FVec F S1x2048x7168 .f32 := broadcastInDim S1x2048x7168 ![] bcast_S_S1x2048x7168 main_cst_5
  let main_v70 : IVec S1x2048x7168 1 := cmpf .olt main_v68 main_v69
  let main_v71 : FVec F S1x4x1024 .f32 := Host.absf main_arg1
  let main_cst_6 : FVec F S_ .f32 := constant S_ .f32 0x7F800000#32
  let main_v72 : FVec F S1x4x1024 .f32 := broadcastInDim S1x4x1024 ![] bcast_S_S1x4x1024 main_cst_6
  let main_v73 : IVec S1x4x1024 1 := cmpf .olt main_v71 main_v72
  let main_v74 : FVec F S1x1024 .f32 := Host.absf main_arg2
  let main_cst_7 : FVec F S_ .f32 := constant S_ .f32 0x7F800000#32
  let main_v75 : FVec F S1x1024 .f32 := broadcastInDim S1x1024 ![] bcast_S_S1x1024 main_cst_7
  let main_v76 : IVec S1x1024 1 := cmpf .olt main_v74 main_v75
  let main_v77 : FVec F S1x4x256x256 .f32 := Host.absf main_arg3
  let main_cst_8 : FVec F S_ .f32 := constant S_ .f32 0x7F800000#32
  let main_v78 : FVec F S1x4x256x256 .f32 := broadcastInDim S1x4x256x256 ![] bcast_S_S1x4x256x256 main_cst_8
  let main_v79 : IVec S1x4x256x256 1 := cmpf .olt main_v77 main_v78
  let main_v80 : FVec F S1x4x256 .f32 := Host.absf main_arg4
  let main_cst_9 : FVec F S_ .f32 := constant S_ .f32 0x7F800000#32
  let main_v81 : FVec F S1x4x256 .f32 := broadcastInDim S1x4x256 ![] bcast_S_S1x4x256 main_cst_9
  let main_v82 : IVec S1x4x256 1 := cmpf .olt main_v80 main_v81
  let main_v83 : FVec F S1x4x256x256 .f32 := Host.absf main_arg5
  let main_cst_10 : FVec F S_ .f32 := constant S_ .f32 0x7F800000#32
  fn_part4 (F := F) main_arg6 main_arg7 main_arg8 main_arg9 main_v67 main_v70 main_v73 main_v76 main_v79 main_v82 main_v83 main_cst_10

def fn_part2 {F : FTy → Type} [FloatOps F] (main_arg0 : FVec F S1x2048x7168 .f32) (main_arg1 : FVec F S1x4x1024 .f32) (main_arg2 : FVec F S1x1024 .f32) (main_arg3 : FVec F S1x4x256x256 .f32) (main_arg4 : FVec F S1x4x256 .f32) (main_arg5 : FVec F S1x4x256x256 .f32) (main_arg6 : FVec F S1x4x256 .f32) (main_arg7 : FVec F S1x1024 .f32) (main_arg8 : FVec F S1x1024x1024 .f32) (main_arg9 : FVec F S1x2048x1024 .f32) (main_v44 : FVec F S1x2048x4x256 .f32) (main_v46 : FVec F S1x1x4x256 .f32) : IVec S1x2047x1024 1 × IVec S1x2048x7168 1 × IVec S1x4x1024 1 × IVec S1x1024 1 × IVec S1x4x256x256 1 × IVec S1x4x256 1 × IVec S1x4x256x256 1 × IVec S1x4x256 1 × IVec S1x1024 1 × IVec S1x1024x1024 1 × IVec S1x2048x1024 1 :=
  let main_v47 : FVec F S1x2048x4x256 .f32 := broadcastInDim S1x2048x4x256 ![0, 1, 2, 3] bcast_S1x1x4x256_S1x2048x4x256_0_1_2_3 main_v46
  let main_v48 : FVec F S1x2048x4x256 .f32 := addf main_v44 main_v47
  let main_v49 : FVec F S1x2048x4x256 .f32 := Host.negf main_v48
  let main_v50 : FVec F S1x2048x4x256 .f32 := Host.exp main_v49
  let main_cst_0 : FVec F S_ .f32 := constant S_ .f32 0x3F800000#32
  let main_v51 : FVec F S1x2048x4x256 .f32 := broadcastInDim S1x2048x4x256 ![] bcast_S_S1x2048x4x256 main_cst_0
  let main_v52 : FVec F S1x2048x4x256 .f32 := addf main_v51 main_v50
  let main_cst_1 : FVec F S_ .f32 := constant S_ .f32 0x3F800000#32
  let main_v53 : FVec F S1x2048x4x256 .f32 := broadcastInDim S1x2048x4x256 ![] bcast_S_S1x2048x4x256 main_cst_1
  let main_v54 : FVec F S1x2048x4x256 .f32 := Host.divf main_v53 main_v52
  let main_v55 : FVec F S1x2048x1024 .f32 := shapeCast S1x2048x1024 main_v54 shapeCasts_S1x2048x4x256_S1x2048x1024
  let main_cst_2 : FVec F S_ .f32 := constant S_ .f32 0x41000000#32
  let main_v56 : FVec F S1x2048x1024 .f32 := broadcastInDim S1x2048x1024 ![] bcast_S_S1x2048x1024 main_cst_2
  let main_v57 : FVec F S1x2048x1024 .f32 := mulf main_v56 main_v55
  let main_v58 : FVec F S1024 .f32 := shapeCast S1024 main_arg7 shapeCasts_S1x1024_S1024
  let main_v59 : FVec F S1024 .f32 := fn_log_sigmoid (F := F) main_v58
  let main_v60 : FVec F S1x1x1024 .f32 := broadcastInDim S1x1x1024 ![2] bcast_S1024_S1x1x1024_2 main_v59
  let main_v61 : FVec F S1x2048x1024 .f32 := broadcastInDim S1x2048x1024 ![0, 1, 2] bcast_S1x1x1024_S1x2048x1024_0_1_2 main_v60
  let main_v62 : FVec F S1x2048x1024 .f32 := mulf main_v57 main_v61
  let main_cst_3 : FVec F S_ .f32 := constant S_ .f32 0x40000000#32
  let main_v63 : FVec F S1x2048x1024 .f32 := broadcastInDim S1x2048x1024 ![] bcast_S_S1x2048x1024 main_cst_3
  let main_v64 : FVec F S1x2048x1024 .f32 := mulf main_v63 main_v62
  let main_v65 : FVec F S1x2047x1024 .f32 := (extractStridedSlice S1x2047x1024 ![0, 1, 0] · slices_S1x2048x1024_S1x2047x1024_0_1_0) main_v64
  let main_cst_4 : FVec F S_ .f32 := constant S_ .f32 0xBE4CCCCD#32
  fn_part3 (F := F) main_arg0 main_arg1 main_arg2 main_arg3 main_arg4 main_arg5 main_arg6 main_arg7 main_arg8 main_arg9 main_v65 main_cst_4

def fn_part1 {F : FTy → Type} [FloatOps F] (main_arg0 : FVec F S1x2048x7168 .f32) (main_arg1 : FVec F S1x4x1024 .f32) (main_arg2 : FVec F S1x1024 .f32) (main_arg3 : FVec F S1x4x256x256 .f32) (main_arg4 : FVec F S1x4x256 .f32) (main_arg5 : FVec F S1x4x256x256 .f32) (main_arg6 : FVec F S1x4x256 .f32) (main_arg7 : FVec F S1x1024 .f32) (main_arg8 : FVec F S1x1024x1024 .f32) (main_arg9 : FVec F S1x2048x1024 .f32) (main_v7 : FVec F S4x1024 .f32) (main_v8 : FVec F S1024 .f32) (main_v10 : FVec F S1x2051x1024 .f32) (main_v16 : FVec F S1x2048x1024 .f32) (main_v22 : FVec F S1x2048x1024 .f32) : IVec S1x2047x1024 1 × IVec S1x2048x7168 1 × IVec S1x4x1024 1 × IVec S1x1024 1 × IVec S1x4x256x256 1 × IVec S1x4x256 1 × IVec S1x4x256x256 1 × IVec S1x4x256 1 × IVec S1x1024 1 × IVec S1x1024x1024 1 × IVec S1x2048x1024 1 :=
  let main_v23 : FVec F S1x2048x1024 .f32 := addf main_v16 main_v22
  let main_v24 : FVec F S1x2048x1024 .f32 := (extractStridedSlice S1x2048x1024 ![0, 2, 0] · slices_S1x2051x1024_S1x2048x1024_0_2_0) main_v10
  let main_v25 : FVec F S1x1024 .f32 := (extractStridedSlice S1x1024 ![2, 0] · slices_S4x1024_S1x1024_2_0) main_v7
  let main_v26 : FVec F S1024 .f32 := shapeCast S1024 main_v25 shapeCasts_S1x1024_S1024
  let main_v27 : FVec F S1x1x1024 .f32 := broadcastInDim S1x1x1024 ![2] bcast_S1024_S1x1x1024_2 main_v26
  let main_v28 : FVec F S1x2048x1024 .f32 := broadcastInDim S1x2048x1024 ![0, 1, 2] bcast_S1x1x1024_S1x2048x1024_0_1_2 main_v27
  let main_v29 : FVec F S1x2048x1024 .f32 := mulf main_v24 main_v28
  let main_v30 : FVec F S1x2048x1024 .f32 := addf main_v23 main_v29
  let main_v31 : FVec F S1x2048x1024 .f32 := (extractStridedSlice S1x2048x1024 ![0, 3, 0] · slices_S1x2051x1024_S1x2048x1024_0_3_0) main_v10
  let main_v32 : FVec F S1x1024 .f32 := (extractStridedSlice S1x1024 ![3, 0] · slices_S4x1024_S1x1024_3_0) main_v7
  let main_v33 : FVec F S1024 .f32 := shapeCast S1024 main_v32 shapeCasts_S1x1024_S1024
  let main_v34 : FVec F S1x1x1024 .f32 := broadcastInDim S1x1x1024 ![2] bcast_S1024_S1x1x1024_2 main_v33
  let main_v35 : FVec F S1x2048x1024 .f32 := broadcastInDim S1x2048x1024 ![0, 1, 2] bcast_S1x1x1024_S1x2048x1024_0_1_2 main_v34
  let main_v36 : FVec F S1x2048x1024 .f32 := mulf main_v31 main_v35
  let main_v37 : FVec F S1x2048x1024 .f32 := addf main_v30 main_v36
  let main_v38 : FVec F S1x1x1024 .f32 := broadcastInDim S1x1x1024 ![2] bcast_S1024_S1x1x1024_2 main_v8
  let main_v39 : FVec F S1x2048x1024 .f32 := broadcastInDim S1x2048x1024 ![0, 1, 2] bcast_S1x1x1024_S1x2048x1024_0_1_2 main_v38
  let main_v40 : FVec F S1x2048x1024 .f32 := addf main_v37 main_v39
  let main_v41 : FVec F S1x2048x4x256 .f32 := shapeCast S1x2048x4x256 main_v40 shapeCasts_S1x2048x1024_S1x2048x4x256
  let main_v42 : FVec F S4x256x256 .f32 := shapeCast S4x256x256 main_arg3 shapeCasts_S1x4x256x256_S4x256x256
  let main_v43 : FVec F S4x256x1x2048 .f32 := (fun l r => Host.dotGeneral dot_S4x256x256_S1x2048x4x256_S4x256x1x2048_1_3_2_01_0_2 none l r) main_v42 main_v41
  let main_v44 : FVec F S1x2048x4x256 .f32 := (transpose S1x2048x4x256 [2, 3, 0, 1] · transposes_S4x256x1x2048_S1x2048x4x256_2_3_0_1) main_v43
  let main_v45 : FVec F S4x256 .f32 := shapeCast S4x256 main_arg4 shapeCasts_S1x4x256_S4x256
  let main_v46 : FVec F S1x1x4x256 .f32 := broadcastInDim S1x1x4x256 ![2, 3] bcast_S4x256_S1x1x4x256_2_3 main_v45
  fn_part2 (F := F) main_arg0 main_arg1 main_arg2 main_arg3 main_arg4 main_arg5 main_arg6 main_arg7 main_arg8 main_arg9 main_v44 main_v46

def fn {F : FTy → Type} [FloatOps F] (main_arg0 : FVec F S1x2048x7168 .f32) (main_arg1 : FVec F S1x4x1024 .f32) (main_arg2 : FVec F S1x1024 .f32) (main_arg3 : FVec F S1x4x256x256 .f32) (main_arg4 : FVec F S1x4x256 .f32) (main_arg5 : FVec F S1x4x256x256 .f32) (main_arg6 : FVec F S1x4x256 .f32) (main_arg7 : FVec F S1x1024 .f32) (main_arg8 : FVec F S1x1024x1024 .f32) (main_arg9 : FVec F S1x2048x1024 .f32) : IVec S1x2047x1024 1 × IVec S1x2048x7168 1 × IVec S1x4x1024 1 × IVec S1x1024 1 × IVec S1x4x256x256 1 × IVec S1x4x256 1 × IVec S1x4x256x256 1 × IVec S1x4x256 1 × IVec S1x1024 1 × IVec S1x1024x1024 1 × IVec S1x2048x1024 1 :=
  let main_v0 : FVec F S1x2048x1024 .f32 := (extractStridedSlice S1x2048x1024 ![0, 0, 0] · slices_S1x2048x7168_S1x2048x1024_0_0_0) main_arg0
  let main_v1 : FVec F S1x2048x1024 .f32 := (extractStridedSlice S1x2048x1024 ![0, 0, 1024] · slices_S1x2048x7168_S1x2048x1024_0_0_1024) main_arg0
  let main_v2 : FVec F S1x2048x1024 .f32 := (extractStridedSlice S1x2048x1024 ![0, 0, 2048] · slices_S1x2048x7168_S1x2048x1024_0_0_2048) main_arg0
  let main_v3 : FVec F S1x2048x1024 .f32 := (extractStridedSlice S1x2048x1024 ![0, 0, 3072] · slices_S1x2048x7168_S1x2048x1024_0_0_3072) main_arg0
  let main_v4 : FVec F S1x2048x1024 .f32 := (extractStridedSlice S1x2048x1024 ![0, 0, 4096] · slices_S1x2048x7168_S1x2048x1024_0_0_4096) main_arg0
  let main_v5 : FVec F S1x2048x1024 .f32 := (extractStridedSlice S1x2048x1024 ![0, 0, 5120] · slices_S1x2048x7168_S1x2048x1024_0_0_5120) main_arg0
  let main_v6 : FVec F S1x2048x1024 .f32 := (extractStridedSlice S1x2048x1024 ![0, 0, 6144] · slices_S1x2048x7168_S1x2048x1024_0_0_6144) main_arg0
  let main_v7 : FVec F S4x1024 .f32 := shapeCast S4x1024 main_arg1 shapeCasts_S1x4x1024_S4x1024
  let main_v8 : FVec F S1024 .f32 := shapeCast S1024 main_arg2 shapeCasts_S1x1024_S1024
  let main_cst : FVec F S_ .f32 := constant S_ .f32 0x00000000#32
  let main_v9 : FVec F S1x3x1024 .f32 := broadcastInDim S1x3x1024 ![] bcast_S_S1x3x1024 main_cst
  let main_v10 : FVec F S1x2051x1024 .f32 := (fun a b => concatenate S1x2051x1024 1 [⟨S1x3x1024, a⟩, ⟨S1x2048x1024, b⟩] concatenates_S1x3x1024_S1x2048x1024_S1x2051x1024_d1) main_v9 main_v3
  let main_v11 : FVec F S1x2048x1024 .f32 := (extractStridedSlice S1x2048x1024 ![0, 0, 0] · slices_S1x2051x1024_S1x2048x1024_0_0_0) main_v10
  let main_v12 : FVec F S1x1024 .f32 := (extractStridedSlice S1x1024 ![0, 0] · slices_S4x1024_S1x1024_0_0) main_v7
  let main_v13 : FVec F S1024 .f32 := shapeCast S1024 main_v12 shapeCasts_S1x1024_S1024
  let main_v14 : FVec F S1x1x1024 .f32 := broadcastInDim S1x1x1024 ![2] bcast_S1024_S1x1x1024_2 main_v13
  let main_v15 : FVec F S1x2048x1024 .f32 := broadcastInDim S1x2048x1024 ![0, 1, 2] bcast_S1x1x1024_S1x2048x1024_0_1_2 main_v14
  let main_v16 : FVec F S1x2048x1024 .f32 := mulf main_v11 main_v15
  let main_v17 : FVec F S1x2048x1024 .f32 := (extractStridedSlice S1x2048x1024 ![0, 1, 0] · slices_S1x2051x1024_S1x2048x1024_0_1_0) main_v10
  let main_v18 : FVec F S1x1024 .f32 := (extractStridedSlice S1x1024 ![1, 0] · slices_S4x1024_S1x1024_1_0) main_v7
  let main_v19 : FVec F S1024 .f32 := shapeCast S1024 main_v18 shapeCasts_S1x1024_S1024
  let main_v20 : FVec F S1x1x1024 .f32 := broadcastInDim S1x1x1024 ![2] bcast_S1024_S1x1x1024_2 main_v19
  let main_v21 : FVec F S1x2048x1024 .f32 := broadcastInDim S1x2048x1024 ![0, 1, 2] bcast_S1x1x1024_S1x2048x1024_0_1_2 main_v20
  let main_v22 : FVec F S1x2048x1024 .f32 := mulf main_v17 main_v21
  fn_part1 (F := F) main_arg0 main_arg1 main_arg2 main_arg3 main_arg4 main_arg5 main_arg6 main_arg7 main_arg8 main_arg9 main_v7 main_v8 main_v10 main_v16 main_v22
-- ==== Pre_norm_in_finite.lean ====
abbrev S1x2048x1024 : Shape := ⟨3, ![1, 2048, 1024]⟩
abbrev S1x1024 : Shape := ⟨2, ![1, 1024]⟩
abbrev S_ : Shape := ⟨0, ![]⟩

class Facts : Prop where
  bcast_S_S1x2048x1024 : S_.BroadcastsInDim S1x2048x1024 (![] : Fin 0 → Fin S1x2048x1024.rank)
  bcast_S_S1x1024 : S_.BroadcastsInDim S1x1024 (![] : Fin 0 → Fin S1x1024.rank)

variable [Facts]

def fn {F : FTy → Type} [FloatOps F] (main_arg0 : FVec F S1x2048x1024 .f32) (main_arg1 : FVec F S1x1024 .f32) (main_arg2 : FVec F S1x2048x1024 .f32) (main_arg3 : FVec F S1x2048x1024 .f32) : IVec S1x2048x1024 1 × IVec S1x1024 1 × IVec S1x2048x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x2048x1024 .f32 := Host.absf main_arg2
  let main_cst_1 : FVec F S_ .f32 := constant S_ .f32 0x7F800000#32
  let main_v7 : FVec F S1x2048x1024 .f32 := broadcastInDim S1x2048x1024 ![] bcast_S_S1x2048x1024 main_cst_1
  let main_v8 : IVec S1x2048x1024 1 := cmpf .olt main_v6 main_v7
  (main_v2, main_v5, main_v8)
-- ==== Pre_norms_mid_finite.lean ====
abbrev S1x2048x1024 : Shape := ⟨3, ![1, 2048, 1024]⟩
abbrev S1x1024 : Shape := ⟨2, ![1, 1024]⟩
abbrev S_ : Shape := ⟨0, ![]⟩

class Facts : Prop where
  bcast_S_S1x2048x1024 : S_.BroadcastsInDim S1x2048x1024 (![] : Fin 0 → Fin S1x2048x1024.rank)
  bcast_S_S1x1024 : S_.BroadcastsInDim S1x1024 (![] : Fin 0 → Fin S1x1024.rank)

variable [Facts]

def fn {F : FTy → Type} [FloatOps F] (main_arg0 : FVec F S1x2048x1024 .f32) (main_arg1 : FVec F S1x2048x1024 .f32) (main_arg2 : FVec F S1x1024 .f32) (main_arg3 : FVec F S1x1024 .f32) (main_arg4 : FVec F S1x2048x1024 .f32) (main_arg5 : FVec F S1x2048x1024 .f32) : IVec S1x2048x1024 1 × IVec S1x2048x1024 1 × IVec S1x1024 1 × IVec S1x1024 1 × IVec S1x2048x1024 1 × IVec S1x2048x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x2048x1024 .f32 := Host.absf main_arg1
  let main_cst_0 : FVec F S_ .f32 := constant S_ .f32 0x7F800000#32
  let main_v4 : FVec F S1x2048x1024 .f32 := broadcastInDim S1x2048x1024 ![] bcast_S_S1x2048x1024 main_cst_0
  let main_v5 : IVec S1x2048x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x2048x1024 .f32 := Host.absf main_arg4
  let main_cst_3 : FVec F S_ .f32 := constant S_ .f32 0x7F800000#32
  let main_v13 : FVec F S1x2048x1024 .f32 := broadcastInDim S1x2048x1024 ![] bcast_S_S1x2048x1024 main_cst_3
  let main_v14 : IVec S1x2048x1024 1 := cmpf .olt main_v12 main_v13
  let main_v15 : FVec F S1x2048x1024 .f32 := Host.absf main_arg5
  let main_cst_4 : FVec F S_ .f32 := constant S_ .f32 0x7F800000#32
  let main_v16 : FVec F S1x2048x1024 .f32 := broadcastInDim S1x2048x1024 ![] bcast_S_S1x2048x1024 main_cst_4
  let main_v17 : IVec S1x2048x1024 1 := cmpf .olt main_v15 main_v16
  (main_v2, main_v5, main_v8, main_v11, main_v14, main_v17)
-- ==== NormIn.lean ====
abbrev S1x2048x1024 : Shape := ⟨3, ![1, 2048, 1024]⟩
abbrev S1x1024 : Shape := ⟨2, ![1, 1024]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x2048x1024, .f32⟩
  | .hbm, ⟨3, _⟩ => ⟨S1x2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormInRefIdeal.lean ====
abbrev S1x2048x1024 : Shape := ⟨3, ![1, 2048, 1024]⟩
abbrev S1x1024 : Shape := ⟨2, ![1, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048 : Shape := ⟨1, ![2048]⟩
abbrev S2048x1024 : Shape := ⟨2, ![2048, 1024]⟩

abbrev nBuf : Space → Nat
  | .hbm => 54
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x2048x1024, .f32⟩
  | .hbm, ⟨3, _⟩ => ⟨S1x2048x1024, .f32⟩
  | .hbm, ⟨4, _⟩ => ⟨S1024, .f32⟩
  | .hbm, ⟨5, _⟩ => ⟨S1x2048x1024, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x1024, .f32⟩
  | .hbm, ⟨21, _⟩ => ⟨S1x2048x1024, .f32⟩
  | .hbm, ⟨22, _⟩ => ⟨S1x1x1024, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S_, .f32⟩
  | .hbm, ⟨27, _⟩ => ⟨S1x1024, .f32⟩
  | .hbm, ⟨28, _⟩ => ⟨S1x1x1024, .f32⟩
  | .hbm, ⟨29, _⟩ => ⟨S1x2048x1024, .f32⟩
  | .hbm, ⟨30, _⟩ => ⟨S1x2048x1024, .f32⟩
  | .hbm, ⟨31, _⟩ => ⟨S_, .f32⟩
  | .hbm, ⟨32, _⟩ => ⟨S1024, .f32⟩
  | .hbm, ⟨33, _⟩ => ⟨S1x2048x1024, .f32⟩
  | .hbm, ⟨34, _⟩ => ⟨S_, .f32⟩
  | .hbm, ⟨35, _⟩ => ⟨S1x2048, .f32⟩
  | .hbm, ⟨36, _⟩ => ⟨S1x2048x1, .f32⟩
  | .hbm, ⟨37, _⟩ => ⟨S1x2048x1024, .f32⟩
  | .hbm, ⟨38, _⟩ => ⟨S1x2048x1024, .f32⟩
  | .hbm, ⟨39, _⟩ => ⟨S1x2048x1024, .f32⟩
  | .hbm, ⟨40, _⟩ => ⟨S1x2048x1, .f32⟩
  | .hbm, ⟨41, _⟩ => ⟨S_, .f32⟩
  | .hbm, ⟨42, _⟩ => ⟨S1x2048x1, .f32⟩
  | .hbm, ⟨43, _⟩ => ⟨S1x2048x1, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S1x2048x1024, .f32⟩
  | .hbm, ⟨48, _⟩ => ⟨S1x2048x1024, .f32⟩
  | .hbm, ⟨49, _⟩ => ⟨S1x2048x1024, .f32⟩
  | .hbm, ⟨50, _⟩ => ⟨S1x2048x1024, .f32⟩
  | .hbm, ⟨51, _⟩ => ⟨S1x2048x1024, .f32⟩
  | .hbm, ⟨52, _⟩ => ⟨S1x1024, .f32⟩
  | .hbm, ⟨53, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== NormsMid.lean ====
abbrev S1x2048x1024 : Shape := ⟨3, ![1, 2048, 1024]⟩
abbrev S1x1024 : Shape := ⟨2, ![1, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 32
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1024, .f32⟩
  | .hbm, ⟨3, _⟩ => ⟨S1x1024, .f32⟩
  | .hbm, ⟨4, _⟩ => ⟨S1x2048x1024, .f32⟩
  | .hbm, ⟨5, _⟩ => ⟨S1x2048x1024, .f32⟩
  | .hbm, ⟨6, _⟩ => ⟨S1024, .f32⟩
  | .hbm, ⟨7, _⟩ => ⟨S1x2048x1024, .f32⟩
  | .hbm, ⟨8, _⟩ => ⟨S_, .f32⟩
  | .hbm, ⟨9, _⟩ => ⟨S1x2048, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S1x2048x1024, .f32⟩
  | .hbm, ⟨19, _⟩ => ⟨S1x2048x1024, .f32⟩
  | .hbm, ⟨20, _⟩ => ⟨S1x1x1024, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .bf16⟩
  | .hbm, ⟨30, _⟩ => ⟨S1x1024, .f32⟩
  | .hbm, ⟨31, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormsMidRefIdeal.lean ====
abbrev S1x2048x1024 : Shape := ⟨3, ![1, 2048, 1024]⟩
abbrev S1x1024 : Shape := ⟨2, ![1, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048 : Shape := ⟨1, ![2048]⟩
abbrev S2048x1024 : Shape := ⟨2, ![2048, 1024]⟩

abbrev nBuf : Space → Nat
  | .hbm => 108
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1024, .f32⟩
  | .hbm, ⟨3, _⟩ => ⟨S1x1024, .f32⟩
  | .hbm, ⟨4, _⟩ => ⟨S1x2048x1024, .f32⟩
  | .hbm, ⟨5, _⟩ => ⟨S1x2048x1024, .f32⟩
  | .hbm, ⟨6, _⟩ => ⟨S1024, .f32⟩
  | .hbm, ⟨7, _⟩ => ⟨S1x2048x1024, .f32⟩
  | .hbm, ⟨8, _⟩ => ⟨S_, .f32⟩
  | .hbm, ⟨9, _⟩ => ⟨S1x2048, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S1x2048x1024, .f32⟩
  | .hbm, ⟨23, _⟩ => ⟨S1x2048x1024, .f32⟩
  | .hbm, ⟨24, _⟩ => ⟨S1x1x1024, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S1024, .f32⟩
  | .hbm, ⟨29, _⟩ => ⟨S1x2048x1024, .f32⟩
  | .hbm, ⟨30, _⟩ => ⟨S_, .f32⟩
  | .hbm, ⟨31, _⟩ => ⟨S1x2048, .f32⟩
  | .hbm, ⟨32, _⟩ => ⟨S1x2048x1, .f32⟩
  | .hbm, ⟨33, _⟩ => ⟨S_, .f32⟩
  | .hbm, ⟨34, _⟩ => ⟨S1x2048x1, .f32⟩
  | .hbm, ⟨35, _⟩ => ⟨S1x2048x1, .f32⟩
  | .hbm, ⟨36, _⟩ => ⟨S_, .f32⟩
  | .hbm, ⟨37, _⟩ => ⟨S1x2048x1, .f32⟩
  | .hbm, ⟨38, _⟩ => ⟨S1x2048x1, .f32⟩
  | .hbm, ⟨39, _⟩ => ⟨S1x2048x1, .f32⟩
  | .hbm, ⟨40, _⟩ => ⟨S1x2048x1, .f32⟩
  | .hbm, ⟨41, _⟩ => ⟨S_, .f32⟩
  | .hbm, ⟨42, _⟩ => ⟨S1x2048x1, .f32⟩
  | .hbm, ⟨43, _⟩ => ⟨S1x2048x1, .f32⟩
  | .hbm, ⟨44, _⟩ => ⟨S1x2048x1024, .f32⟩
  | .hbm, ⟨45, _⟩ => ⟨S1x2048x1024, .f32⟩
  | .hbm, ⟨46, _⟩ => ⟨S1x1x1024, .f32⟩
  | .hbm, ⟨47, _⟩ => ⟨S1x2048x1024, .f32⟩
  | .hbm, ⟨48, _⟩ => ⟨S1x2048x1024, .f32⟩
  | .hbm, ⟨49, _⟩ => ⟨S1x2048x1024, .f32⟩
  | .hbm, ⟨50, _⟩ => ⟨S_, .f32⟩
  | .hbm, ⟨51, _⟩ => ⟨S1x1024, .f32⟩
  | .hbm, ⟨52, _⟩ => ⟨S1x1x1024, .f32⟩
  | .hbm, ⟨53, _⟩ => ⟨S1x2048x1024, .f32⟩
  | .hbm, ⟨54, _⟩ => ⟨S1x2048x1024, .f32⟩
  | .hbm, ⟨55, _⟩ => ⟨S_, .f32⟩
  | .hbm, ⟨56, _⟩ => ⟨S1024, .f32⟩
  | .hbm, ⟨57, _⟩ => ⟨S1x2048x1024, .f32⟩
  | .hbm, ⟨58, _⟩ => ⟨S_, .f32⟩
  | .hbm, ⟨59, _⟩ => ⟨S1x2048, .f32⟩
  | .hbm, ⟨60, _⟩ => ⟨S1x2048x1, .f32⟩
  | .hbm, ⟨61, _⟩ => ⟨S1x2048x1024, .f32⟩
  | .hbm, ⟨62, _⟩ => ⟨S1x2048x1024, .f32⟩
  | .hbm, ⟨63, _⟩ => ⟨S1x2048x1024, .f32⟩
  | .hbm, ⟨64, _⟩ => ⟨S1x2048x1, .f32⟩
  | .hbm, ⟨65, _⟩ => ⟨S_, .f32⟩
  | .hbm, ⟨66, _⟩ => ⟨S1x2048x1, .f32⟩
  | .hbm, ⟨67, _⟩ => ⟨S1x2048x1, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S1x2048x1024, .f32⟩
  | .hbm, ⟨72, _⟩ => ⟨S1x2048x1024, .f32⟩
  | .hbm, ⟨73, _⟩ => ⟨S1x2048x1024, .f32⟩
  | .hbm, ⟨74, _⟩ => ⟨S1x2048x1024, .f32⟩
  | .hbm, ⟨75, _⟩ => ⟨S1x2048x1024, .f32⟩
  | .hbm, ⟨76, _⟩ => ⟨S1x1024, .f32⟩
  | .hbm, ⟨77, _⟩ => ⟨S1x2048x1024, .f32⟩
  | .hbm, ⟨78, _⟩ => ⟨S1x2048x1024, .f32⟩
  | .hbm, ⟨79, _⟩ => ⟨S_, .f32⟩
  | .hbm, ⟨80, _⟩ => ⟨S1x1024, .f32⟩
  | .hbm, ⟨81, _⟩ => ⟨S1x1x1024, .f32⟩
  | .hbm, ⟨82, _⟩ => ⟨S1x2048x1024, .f32⟩
  | .hbm, ⟨83, _⟩ => ⟨S1x2048x1024, .f32⟩
  | .hbm, ⟨84, _⟩ => ⟨S_, .f32⟩
  | .hbm, ⟨85, _⟩ => ⟨S1024, .f32⟩
  | .hbm, ⟨86, _⟩ => ⟨S1x2048x1024, .f32⟩
  | .hbm, ⟨87, _⟩ => ⟨S_, .f32⟩
  | .hbm, ⟨88, _⟩ => ⟨S1x2048, .f32⟩
  | .hbm, ⟨89, _⟩ => ⟨S1x2048x1, .f32⟩
  | .hbm, ⟨90, _⟩ => ⟨S1x2048x1024, .f32⟩
  | .hbm, ⟨91, _⟩ => ⟨S1x2048x1024, .f32⟩
  | .hbm, ⟨92, _⟩ => ⟨S1x2048x1, .f32⟩
  | .hbm, ⟨93, _⟩ => ⟨S_, .f32⟩
  | .hbm, ⟨94, _⟩ => ⟨S1x2048x1, .f32⟩
  | .hbm, ⟨95, _⟩ => ⟨S1x2048x1, .f32⟩
  | .hbm, ⟨96, _⟩ => ⟨S_, .f32⟩
  | .hbm, ⟨97, _⟩ => ⟨S2048, .f32⟩
  | .hbm, ⟨98, _⟩ => ⟨S1x2048, .f32⟩
  | .hbm, ⟨99, _⟩ => ⟨S1x2048x1024, .f32⟩
  | .hbm, ⟨100, _⟩ => ⟨S1x2048x1024, .f32⟩
  | .hbm, ⟨101, _⟩ => ⟨S1x2048x1024, .f32⟩
  | .hbm, ⟨102, _⟩ => ⟨S1x2048x1024, .f32⟩
  | .hbm, ⟨103, _⟩ => ⟨S1x2048x1024, .f32⟩
  | .hbm, ⟨104, _⟩ => ⟨S1x1024, .f32⟩
  | .hbm, ⟨105, _⟩ => ⟨S2048x1024, .f32⟩
  | .hbm, ⟨106, _⟩ => ⟨S2048x1024, .f32⟩
  | .hbm, ⟨107, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩

abbrev nD : Nat := 1
abbrev τ : Topo := Topo.v7x

variable {F : FTy → Type} [FloatOps F]
-- ==== FfnLoss.lean ====
abbrev S1x2048x3072 : Shape := ⟨3, ![1, 2048, 3072]⟩
abbrev S1x3072x1024 : Shape := ⟨3, ![1, 3072, 1024]⟩
abbrev S1x2048x1024 : Shape := ⟨3, ![1, 2048, 1024]⟩
abbrev S1x1024 : Shape := ⟨2, ![1, 1024]⟩
abbrev S2048x3072 : Shape := ⟨2, ![2048, 3072]⟩
abbrev S3072x1024 : Shape := ⟨2, ![3072, 1024]⟩
abbrev S2048x1024 : Shape := ⟨2, ![2048, 1024]⟩
abbrev S1x128 : Shape := ⟨2, ![1, 128]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 15
  | .vmem => 14
  | .smem => 0
  | _ => 0

abbrev bufTy : (tb : Table) → Fin (tcTables nBuf tb) → BufTy
  | .hbm, ⟨0, _⟩ => ⟨S1x2048x3072, .f32⟩
  | .hbm, ⟨1, _⟩ => ⟨S1x3072x1024, .f32⟩
  | .hbm, ⟨2, _⟩ => ⟨S1x2048x1024, .f32⟩
  | .hbm, ⟨3, _⟩ => ⟨S1x2048x1024, .f32⟩
  | .hbm, ⟨4, _⟩ => ⟨S1x1024, .f32⟩
  | .hbm, ⟨5, _⟩ => ⟨S2048x3072, .f32⟩
  | .hbm, ⟨6, _⟩ => ⟨S2048x3072, .bf16⟩
  | .hbm, ⟨7, _⟩ => ⟨S3072x1024, .f32⟩
  | .hbm, ⟨8, _⟩ => ⟨S3072x1024, .bf16⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .bf16⟩
  | .hbm, ⟨13, _⟩ => ⟨S1x128, .f32⟩
  | .hbm, ⟨14, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S1x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnLossRefIdeal.lean ====
abbrev S1x2048x3072 : Shape := ⟨3, ![1, 2048, 3072]⟩
abbrev S1x3072x1024 : Shape := ⟨3, ![1, 3072, 1024]⟩
abbrev S1x2048x1024 : Shape := ⟨3, ![1, 2048, 1024]⟩
abbrev S1x1024 : Shape := ⟨2, ![1, 1024]⟩
abbrev S3072x1024 : Shape := ⟨2, ![3072, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048 : Shape := ⟨1, ![2048]⟩
abbrev S2048x1024 : Shape := ⟨2, ![2048, 1024]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S1x2048x3072, .f32⟩
  | .hbm, ⟨1, _⟩ => ⟨S1x3072x1024, .f32⟩
  | .hbm, ⟨2, _⟩ => ⟨S1x2048x1024, .f32⟩
  | .hbm, ⟨3, _⟩ => ⟨S1x2048x1024, .f32⟩
  | .hbm, ⟨4, _⟩ => ⟨S1x1024, .f32⟩
  | .hbm, ⟨5, _⟩ => ⟨S3072x1024, .f32⟩
  | .hbm, ⟨6, _⟩ => ⟨S1x2048x1024, .f32⟩
  | .hbm, ⟨7, _⟩ => ⟨S1024, .f32⟩
  | .hbm, ⟨8, _⟩ => ⟨S1x2048x1024, .f32⟩
  | .hbm, ⟨9, _⟩ => ⟨S_, .f32⟩
  | .hbm, ⟨10, _⟩ => ⟨S1x2048, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S1x2048x1, .f32⟩
  | .hbm, ⟨20, _⟩ => ⟨S_, .f32⟩
  | .hbm, ⟨21, _⟩ => ⟨S1x2048x1, .f32⟩
  | .hbm, ⟨22, _⟩ => ⟨S1x2048x1, .f32⟩
  | .hbm, ⟨23, _⟩ => ⟨S1x2048x1024, .f32⟩
  | .hbm, ⟨24, _⟩ => ⟨S1x2048x1024, .f32⟩
  | .hbm, ⟨25, _⟩ => ⟨S1x1x1024, .f32⟩
  | .hbm, ⟨26, _⟩ => ⟨S1x2048x1024, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S1x2048x1024, .f32⟩
  | .hbm, ⟨31, _⟩ => ⟨S_, .f32⟩
  | .hbm, ⟨32, _⟩ => ⟨S1x2048x1024, .f32⟩
  | .hbm, ⟨33, _⟩ => ⟨S1x2048x1024, .f32⟩
  | .hbm, ⟨34, _⟩ => ⟨S_, .f32⟩
  | .hbm, ⟨35, _⟩ => ⟨S1x2048, .f32⟩
  | .hbm, ⟨36, _⟩ => ⟨S_, .f32⟩
  | .hbm, ⟨37, _⟩ => ⟨S1x2048, .f32⟩
  | .hbm, ⟨38, _⟩ => ⟨S1x2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1x2048, .f32⟩
  | .hbm, ⟨47, _⟩ => ⟨S_, .f32⟩
  | .hbm, ⟨48, _⟩ => ⟨S1x2048, .f32⟩
  | .hbm, ⟨49, _⟩ => ⟨S1x2048, .f32⟩
  | .hbm, ⟨50, _⟩ => ⟨S1x2048x1024, .f32⟩
  | .hbm, ⟨51, _⟩ => ⟨S1x2048x1024, .f32⟩
  | .hbm, ⟨52, _⟩ => ⟨S1x2048x1024, .f32⟩
  | .hbm, ⟨53, _⟩ => ⟨S_, .f32⟩
  | .hbm, ⟨54, _⟩ => ⟨S1x1024, .f32⟩
  | .hbm, ⟨55, _⟩ => ⟨S1x1x1024, .f32⟩
  | .hbm, ⟨56, _⟩ => ⟨S1x2048x1024, .f32⟩
  | .hbm, ⟨57, _⟩ => ⟨S1x2048x1024, .f32⟩
  | .hbm, ⟨58, _⟩ => ⟨S_, .f32⟩
  | .hbm, ⟨59, _⟩ => ⟨S1024, .f32⟩
  | .hbm, ⟨60, _⟩ => ⟨S1x2048x1024, .f32⟩
  | .hbm, ⟨61, _⟩ => ⟨S_, .f32⟩
  | .hbm, ⟨62, _⟩ => ⟨S1x2048, .f32⟩
  | .hbm, ⟨63, _⟩ => ⟨S1x2048x1, .f32⟩
  | .hbm, ⟨64, _⟩ => ⟨S1x2048x1024, .f32⟩
  | .hbm, ⟨65, _⟩ => ⟨S1x2048x1024, .f32⟩
  | .hbm, ⟨66, _⟩ => ⟨S1x2048x1, .f32⟩
  | .hbm, ⟨67, _⟩ => ⟨S_, .f32⟩
  | .hbm, ⟨68, _⟩ => ⟨S1x2048x1, .f32⟩
  | .hbm, ⟨69, _⟩ => ⟨S1x2048x1, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S1x2048x1024, .f32⟩
  | .hbm, ⟨74, _⟩ => ⟨S1x2048x1024, .f32⟩
  | .hbm, ⟨75, _⟩ => ⟨S1x2048x1024, .f32⟩
  | .hbm, ⟨76, _⟩ => ⟨S1x2048x1024, .f32⟩
  | .hbm, ⟨77, _⟩ => ⟨S1x2048x1024, .f32⟩
  | .hbm, ⟨78, _⟩ => ⟨S1x1024, .f32⟩
  | .hbm, ⟨79, _⟩ => ⟨S2048x1024, .f32⟩
  | .hbm, ⟨80, _⟩ => ⟨S2048x1024, .f32⟩
  | .hbm, ⟨81, _⟩ => ⟨S2048x1024, .bf16⟩
  | .hbm, ⟨82, _⟩ => ⟨S1x128, .f32⟩
  | _, _ => ⟨S1x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== MixConv.lean ====
abbrev S1x2048x7168 : Shape := ⟨3, ![1, 2048, 7168]⟩
abbrev S1x3x1024 : Shape := ⟨3, ![1, 3, 1024]⟩
abbrev S1x1024x1024 : Shape := ⟨3, ![1, 1024, 1024]⟩
abbrev S1x2048x1024 : Shape := ⟨3, ![1, 2048, 1024]⟩
abbrev S3x1024 : Shape := ⟨2, ![3, 1024]⟩
abbrev S_ : Shape := ⟨0, ![]⟩
abbrev S1x2x1024 : Shape := ⟨3, ![1, 2, 1024]⟩
abbrev S1x2050x1024 : Shape := ⟨3, ![1, 2050, 1024]⟩
abbrev S1x1024 : Shape := ⟨2, ![1, 1024]⟩
abbrev S1024 : Shape := ⟨1, ![1024]⟩
abbrev S1x1x1024 : Shape := ⟨3, ![1, 1, 1024]⟩
abbrev S2048x1024 : Shape := ⟨2, ![2048, 1024]⟩
abbrev S1024x1024 : Shape := ⟨2, ![1024, 1024]⟩
abbrev S2048x7168 : Shape := ⟨2, ![2048, 7168]⟩
abbrev S3x2048x1024 : Shape := ⟨3, ![3, 2048, 1024]⟩
abbrev S256x1024 : Shape := ⟨2, ![256, 1024]⟩
abbrev S2048x256 : Shape := ⟨2, ![2048, 256]⟩
abbrev S3x256 : Shape := ⟨2, ![3, 256]⟩
abbrev S3x2048x256 : Shape := ⟨3, ![3, 2048, 256]⟩
abbrev S1x2048x256 : Shape := ⟨3, ![1, 2048, 256]⟩
abbrev S1x256 : Shape := ⟨2, ![1, 256]⟩
abbrev S256 : Shape := ⟨1, ![256]⟩

abbrev nBuf : Space → Nat
  | .hbm => 46
  | .vmem => 19
  | .smem => 0
  | _ => 0

abbrev bufTy : (tb : Table) → Fin (tcTables nBuf tb) → BufTy
  | .hbm, ⟨0, _⟩ => ⟨S1x2048x7168, .f32⟩
  | .hbm, ⟨1, _⟩ => ⟨S1x3x1024, .f32⟩
  | .hbm, ⟨2, _⟩ => ⟨S1x1024x1024, .f32⟩
  | .hbm, ⟨3, _⟩ => ⟨S1x2048x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S1x2048x1024, .f32⟩
  | .hbm, ⟨12, _⟩ => ⟨S3x1024, .f32⟩
  | .hbm, ⟨13, _⟩ => ⟨S_, .f32⟩
  | .hbm, ⟨14, _⟩ => ⟨S1x2x1024, .f32⟩
  | .hbm, ⟨15, _⟩ => ⟨S1x2050x1024, .f32⟩
  | .hbm, ⟨16, _⟩ => ⟨S1x2048x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S1x2048x1024, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S2048x1024, .f32⟩
  | .hbm, ⟨37, _⟩ => ⟨S2048x1024, .f32⟩
  | .hbm, ⟨38, _⟩ => ⟨S2048x1024, .bf16⟩
  | .hbm, ⟨39, _⟩ => ⟨S1024x1024, .f32⟩
  | .hbm, ⟨40, _⟩ => ⟨S1024x1024, .bf16⟩
  | .hbm, ⟨41, _⟩ => ⟨S2048x7168, .f32⟩
  | .hbm, ⟨42, _⟩ => ⟨S3x1024, .f32⟩
  | .hbm, ⟨43, _⟩ => ⟨S3x2048x1024, .bf16⟩
  | .hbm, ⟨44, _⟩ => ⟨S1024x1024, .bf16⟩
  | .hbm, ⟨45, _⟩ => ⟨S3x1024, .f32⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S3x256, .f32⟩
  | .local _ .vmem, ⟨12, _⟩ => ⟨S3x256, .f32⟩
  | .local _ .vmem, ⟨13, _⟩ => ⟨S3x2048x256, .bf16⟩
  | .local _ .vmem, ⟨14, _⟩ => ⟨S3x2048x256, .bf16⟩
  | .local _ .vmem, ⟨15, _⟩ => ⟨S256x1024, .bf16⟩
  | .local _ .vmem, ⟨16, _⟩ => ⟨S256x1024, .bf16⟩
  | .local _ .vmem, ⟨17, _⟩ => ⟨S3x256, .f32⟩
  | .local _ .vmem, ⟨18, _⟩ => ⟨S3x256, .f32⟩
  | _, _ => ⟨S1x2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38_0 : Ref sig .tc := ⟨.hbm, 43, rfl⟩
abbrev main_v38_1 : Ref sig .tc := ⟨.hbm, 44, rfl⟩
abbrev main_v38_2 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixConvRefIdeal.lean ====
abbrev S1x2048x7168 : Shape := ⟨3, ![1, 2048, 7168]⟩
abbrev S1x3x1024 : Shape := ⟨3, ![1, 3, 1024]⟩
abbrev S1x1024x1024 : Shape := ⟨3, ![1, 1024, 1024]⟩
abbrev S1x2048x1024 : Shape := ⟨3, ![1, 2048, 1024]⟩
abbrev S3x1024 : Shape := ⟨2, ![3, 1024]⟩
abbrev S_ : Shape := ⟨0, ![]⟩
abbrev S1x2x1024 : Shape := ⟨3, ![1, 2, 1024]⟩
abbrev S1x2050x1024 : Shape := ⟨3, ![1, 2050, 1024]⟩
abbrev S1x1024 : Shape := ⟨2, ![1, 1024]⟩
abbrev S1024 : Shape := ⟨1, ![1024]⟩
abbrev S1x1x1024 : Shape := ⟨3, ![1, 1, 1024]⟩
abbrev S1024x1024 : Shape := ⟨2, ![1024, 1024]⟩
abbrev S3x2048x1024 : Shape := ⟨3, ![3, 2048, 1024]⟩

abbrev nBuf : Space → Nat
  | .hbm => 100
  | .vmem => 0
  | .smem => 0
  | _ => 0

abbrev bufTy : (tb : Table) → Fin (tcTables nBuf tb) → BufTy
  | .hbm, ⟨0, _⟩ => ⟨S1x2048x7168, .f32⟩
  | .hbm, ⟨1, _⟩ => ⟨S1x3x1024, .f32⟩
  | .hbm, ⟨2, _⟩ => ⟨S1x1024x1024, .f32⟩
  | .hbm, ⟨3, _⟩ => ⟨S1x2048x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S1x2048x1024, .f32⟩
  | .hbm, ⟨12, _⟩ => ⟨S3x1024, .f32⟩
  | .hbm, ⟨13, _⟩ => ⟨S_, .f32⟩
  | .hbm, ⟨14, _⟩ => ⟨S1x2x1024, .f32⟩
  | .hbm, ⟨15, _⟩ => ⟨S1x2050x1024, .f32⟩
  | .hbm, ⟨16, _⟩ => ⟨S_, .f32⟩
  | .hbm, ⟨17, _⟩ => ⟨S1x2x1024, .f32⟩
  | .hbm, ⟨18, _⟩ => ⟨S1x2048x1024, .f32⟩
  | .hbm, ⟨19, _⟩ => ⟨S1x1024, .f32⟩
  | .hbm, ⟨20, _⟩ => ⟨S1024, .f32⟩
  | .hbm, ⟨21, _⟩ => ⟨S1x1x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S1x2048x1024, .f32⟩
  | .hbm, ⟨29, _⟩ => ⟨S1x2048x1024, .f32⟩
  | .hbm, ⟨30, _⟩ => ⟨S1x2048x1024, .f32⟩
  | .hbm, ⟨31, _⟩ => ⟨S1x2048x1024, .f32⟩
  | .hbm, ⟨32, _⟩ => ⟨S1x1024, .f32⟩
  | .hbm, ⟨33, _⟩ => ⟨S1024, .f32⟩
  | .hbm, ⟨34, _⟩ => ⟨S1x1x1024, .f32⟩
  | .hbm, ⟨35, _⟩ => ⟨S1x2048x1024, .f32⟩
  | .hbm, ⟨36, _⟩ => ⟨S1x2048x1024, .f32⟩
  | .hbm, ⟨37, _⟩ => ⟨S1x2048x1024, .f32⟩
  | .hbm, ⟨38, _⟩ => ⟨S1x2048x1024, .f32⟩
  | .hbm, ⟨39, _⟩ => ⟨S1024x1024, .f32⟩
  | .hbm, ⟨40, _⟩ => ⟨S1x2048x1024, .f32⟩
  | .hbm, ⟨41, _⟩ => ⟨S1024x1024, .f32⟩
  | .hbm, ⟨42, _⟩ => ⟨S1024x1024, .f32⟩
  | .hbm, ⟨43, _⟩ => ⟨S1x2048x1024, .f32⟩
  | .hbm, ⟨44, _⟩ => ⟨S1x1024x1024, .f32⟩
  | .hbm, ⟨45, _⟩ => ⟨S1x2048x1024, .f32⟩
  | .hbm, ⟨46, _⟩ => ⟨S1x2048x1024, .f32⟩
  | .hbm, ⟨47, _⟩ => ⟨S1x2048x1024, .f32⟩
  | .hbm, ⟨48, _⟩ => ⟨S_, .f32⟩
  | .hbm, ⟨49, _⟩ => ⟨S1x1024, .f32⟩
  | .hbm, ⟨50, _⟩ => ⟨S1x1x1024, .f32⟩
  | .hbm, ⟨51, _⟩ => ⟨S1x2048x1024, .f32⟩
  | .hbm, ⟨52, _⟩ => ⟨S1x2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S3x1024, .f32⟩
  | .hbm, ⟨58, _⟩ => ⟨S_, .f32⟩
  | .hbm, ⟨59, _⟩ => ⟨S1x2050x1024, .f32⟩
  | .hbm, ⟨60, _⟩ => ⟨S1x2048x1024, .f32⟩
  | .hbm, ⟨61, _⟩ => ⟨S_, .f32⟩
  | .hbm, ⟨62, _⟩ => ⟨S1x1024, .f32⟩
  | .hbm, ⟨63, _⟩ => ⟨S1x1x1024, .f32⟩
  | .hbm, ⟨64, _⟩ => ⟨S1x2048x1024, .f32⟩
  | .hbm, ⟨65, _⟩ => ⟨S1x2048x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S3x1024, .f32⟩
  | .hbm, ⟨71, _⟩ => ⟨S3x1024, .f32⟩
  | .hbm, ⟨72, _⟩ => ⟨S_, .f32⟩
  | .hbm, ⟨73, _⟩ => ⟨S1x2050x1024, .f32⟩
  | .hbm, ⟨74, _⟩ => ⟨S1x2050x1024, .f32⟩
  | .hbm, ⟨75, _⟩ => ⟨S1x2048x1024, .f32⟩
  | .hbm, ⟨76, _⟩ => ⟨S_, .f32⟩
  | .hbm, ⟨77, _⟩ => ⟨S1x1024, .f32⟩
  | .hbm, ⟨78, _⟩ => ⟨S1x1x1024, .f32⟩
  | .hbm, ⟨79, _⟩ => ⟨S1x2048x1024, .f32⟩
  | .hbm, ⟨80, _⟩ => ⟨S1x2048x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S_, .f32⟩
  | .hbm, ⟨85, _⟩ => ⟨S3x1024, .f32⟩
  | .hbm, ⟨86, _⟩ => ⟨S3x1024, .f32⟩
  | .hbm, ⟨87, _⟩ => ⟨S_, .f32⟩
  | .hbm, ⟨88, _⟩ => ⟨S1x2050x1024, .f32⟩
  | .hbm, ⟨89, _⟩ => ⟨S1x2050x1024, .f32⟩
  | .hbm, ⟨90, _⟩ => ⟨S1x2x1024, .f32⟩
  | .hbm, ⟨91, _⟩ => ⟨S1x2048x1024, .f32⟩
  | .hbm, ⟨92, _⟩ => ⟨S1x3x1024, .f32⟩
  | .hbm, ⟨93, _⟩ => ⟨S1x2048x1024, .f32⟩
  | .hbm, ⟨94, _⟩ => ⟨S1x2048x1024, .f32⟩
  | .hbm, ⟨95, _⟩ => ⟨S3x2048x1024, .f32⟩
  | .hbm, ⟨96, _⟩ => ⟨S3x2048x1024, .bf16⟩
  | .hbm, ⟨97, _⟩ => ⟨S1024x1024, .f32⟩
  | .hbm, ⟨98, _⟩ => ⟨S1024x1024, .bf16⟩
  | .hbm, ⟨99, _⟩ => ⟨S3x1024, .f32⟩
  | _, _ => ⟨S1x2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_1 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_2 : Ref sig .tc := ⟨.hbm, 53, rfl⟩
abbrev main_v46 : Ref sig .tc := ⟨.hbm, 54, rfl⟩
abbrev main_v47 : Ref sig .tc := ⟨.hbm, 55, rfl⟩
abbrev main_cst_3 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_6 : Ref sig .tc := ⟨.hbm, 66, rfl⟩
abbrev main_v55 : Ref sig .tc := ⟨.hbm, 67, rfl⟩
abbrev main_v56 : Ref sig .tc := ⟨.hbm, 68, rfl⟩
abbrev main_cst_7 : Ref sig .tc := ⟨.hbm, 69, rfl⟩
abbrev main_v57 : Ref sig .tc := ⟨.hbm, 70, rfl⟩
abbrev main_v58 : Ref sig .tc := ⟨.hbm, 71, rfl⟩
abbrev main_cst_8 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_9 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_10 : Ref sig .tc := ⟨.hbm, 81, rfl⟩
abbrev main_v66 : Ref sig .tc := ⟨.hbm, 82, rfl⟩
abbrev main_v67 : Ref sig .tc := ⟨.hbm, 83, rfl⟩
abbrev main_cst_11 : Ref sig .tc := ⟨.hbm, 84, rfl⟩
abbrev main_v68 : Ref sig .tc := ⟨.hbm, 85, rfl⟩
abbrev main_v69 : Ref sig .tc := ⟨.hbm, 86, rfl⟩
abbrev main_cst_12 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩

abbrev nD : Nat := 1
abbrev τ : Topo := Topo.v7x

variable {F : FTy → Type} [FloatOps F]
-- ==== MixOut.lean ====
abbrev S1x2048x7168 : Shape := ⟨3, ![1, 2048, 7168]⟩
abbrev S1x2048x1024 : Shape := ⟨3, ![1, 2048, 1024]⟩
abbrev S1x1024x1024 : Shape := ⟨3, ![1, 1024, 1024]⟩
abbrev S_ : Shape := ⟨0, ![]⟩
abbrev S2048x1024 : Shape := ⟨2, ![2048, 1024]⟩
abbrev S1024x1024 : Shape := ⟨2, ![1024, 1024]⟩
abbrev S2048x7168 : Shape := ⟨2, ![2048, 7168]⟩
abbrev S2x2048x1024 : Shape := ⟨3, ![2, 2048, 1024]⟩
abbrev S256x1024 : Shape := ⟨2, ![256, 1024]⟩
abbrev S2048x256 : Shape := ⟨2, ![2048, 256]⟩
abbrev S2x2048x256 : Shape := ⟨3, ![2, 2048, 256]⟩
abbrev S128x256 : Shape := ⟨2, ![128, 256]⟩
abbrev S1x128x256 : Shape := ⟨3, ![1, 128, 256]⟩

abbrev nBuf : Space → Nat
  | .hbm => 44
  | .vmem => 22
  | .smem => 0
  | _ => 0

abbrev bufTy : (tb : Table) → Fin (tcTables nBuf tb) → BufTy
  | .hbm, ⟨0, _⟩ => ⟨S1x2048x7168, .f32⟩
  | .hbm, ⟨1, _⟩ => ⟨S1x2048x1024, .f32⟩
  | .hbm, ⟨2, _⟩ => ⟨S1x2048x1024, .f32⟩
  | .hbm, ⟨3, _⟩ => ⟨S1x1024x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S1x2048x1024, .f32⟩
  | .hbm, ⟨12, _⟩ => ⟨S1x2048x1024, .f32⟩
  | .hbm, ⟨13, _⟩ => ⟨S1x2048x1024, .f32⟩
  | .hbm, ⟨14, _⟩ => ⟨S_, .f32⟩
  | .hbm, ⟨15, _⟩ => ⟨S1x2048x1024, .f32⟩
  | .hbm, ⟨16, _⟩ => ⟨S1x2048x1024, .f32⟩
  | .hbm, ⟨17, _⟩ => ⟨S_, .f32⟩
  | .hbm, ⟨18, _⟩ => ⟨S1x2048x1024, .f32⟩
  | .hbm, ⟨19, _⟩ => ⟨S1x2048x1024, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S_, .f32⟩
  | .hbm, ⟨24, _⟩ => ⟨S1x2048x1024, .f32⟩
  | .hbm, ⟨25, _⟩ => ⟨S1x2048x1024, .f32⟩
  | .hbm, ⟨26, _⟩ => ⟨S_, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S1x2048x1024, .f32⟩
  | .hbm, ⟨31, _⟩ => ⟨S2048x1024, .f32⟩
  | .hbm, ⟨32, _⟩ => ⟨S2048x1024, .bf16⟩
  | .hbm, ⟨33, _⟩ => ⟨S1024x1024, .f32⟩
  | .hbm, ⟨34, _⟩ => ⟨S1024x1024, .bf16⟩
  | .hbm, ⟨35, _⟩ => ⟨S2048x1024, .f32⟩
  | .hbm, ⟨36, _⟩ => ⟨S2048x1024, .bf16⟩
  | .hbm, ⟨37, _⟩ => ⟨S2048x1024, .f32⟩
  | .hbm, ⟨38, _⟩ => ⟨S2048x1024, .f32⟩
  | .hbm, ⟨39, _⟩ => ⟨S2048x7168, .f32⟩
  | .hbm, ⟨40, _⟩ => ⟨S2048x1024, .bf16⟩
  | .hbm, ⟨41, _⟩ => ⟨S2048x1024, .bf16⟩
  | .hbm, ⟨42, _⟩ => ⟨S1024x1024, .bf16⟩
  | .hbm, ⟨43, _⟩ => ⟨S2x2048x1024, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S256x1024, .bf16⟩
  | .local _ .vmem, ⟨18, _⟩ => ⟨S256x1024, .bf16⟩
  | .local _ .vmem, ⟨19, _⟩ => ⟨S2x2048x256, .bf16⟩
  | .local _ .vmem, ⟨20, _⟩ => ⟨S2x2048x256, .bf16⟩
  | .local _ .vmem, ⟨21, _⟩ => ⟨S2048x256, .f32⟩
  | _, _ => ⟨S1x2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev main_v31_2 : Ref sig .tc := ⟨.hbm, 42, rfl⟩
abbrev main_v31_3 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v13 : BitVec 32 := Scalar.addi c0_i32 c16_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v14 : BitVec 32 := Scalar.muli arg13 c128_i32
  v14
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v14 : BitVec 32 := Scalar.muli arg13 c128_i32
  let v15 : BitVec 32 := v14
  let v16 : Index := Scalar.indexCast v15
  let c0_11 : Index := 0#32
  ![v16.toNat, 0]
def k0_off2 (k0_t1 : Fin k0_t1_loop.trips) : Fin 3 → Nat :=
  let c0_24 : Index := 0#32
  let c0_i32 : BitVec 32 := 0#32
  let c1_i32 : BitVec 32 := 1#32
  let arg13 : BitVec 32 := Scf.iv c0_i32 c1_i32 k0_t1
  let c128_i32 : BitVec 32 := 128#32
  let v14 : BitVec 32 := Scalar.muli arg13 c128_i32
  let v15 : BitVec 32 := v14
  let v55 : Index := Scalar.indexCast v15
  let c0_25 : Index := 0#32
  ![0, v55.toNat, 0]
def k0_off3 (k0_t1 : Fin k0_t1_loop.trips) : Fin 3 → Nat :=
  let c1 : Index := 1#32
  let c0_i32 : BitVec 32 := 0#32
  let c1_i32 : BitVec 32 := 1#32
  let arg13 : BitVec 32 := Scf.iv c0_i32 c1_i32 k0_t1
  let c128_i32 : BitVec 32 := 128#32
  let v14 : BitVec 32 := Scalar.muli arg13 c128_i32
  let v15 : BitVec 32 := v14
  let v68 : Index := Scalar.indexCast v15
  let c0_28 : Index := 0#32
  ![1, v68.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixOutRefIdeal.lean ====
abbrev S1x2048x7168 : Shape := ⟨3, ![1, 2048, 7168]⟩
abbrev S1x2048x1024 : Shape := ⟨3, ![1, 2048, 1024]⟩
abbrev S1x1024x1024 : Shape := ⟨3, ![1, 1024, 1024]⟩
abbrev S_ : Shape := ⟨0, ![]⟩
abbrev S1024x1024 : Shape := ⟨2, ![1024, 1024]⟩
abbrev S2048x1024 : Shape := ⟨2, ![2048, 1024]⟩
abbrev S2x2048x1024 : Shape := ⟨3, ![2, 2048, 1024]⟩

abbrev nBuf : Space → Nat
  | .hbm => 59
  | .vmem => 0
  | .smem => 0
  | _ => 0

abbrev bufTy : (tb : Table) → Fin (tcTables nBuf tb) → BufTy
  | .hbm, ⟨0, _⟩ => ⟨S1x2048x7168, .f32⟩
  | .hbm, ⟨1, _⟩ => ⟨S1x2048x1024, .f32⟩
  | .hbm, ⟨2, _⟩ => ⟨S1x2048x1024, .f32⟩
  | .hbm, ⟨3, _⟩ => ⟨S1x1024x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S1x2048x1024, .f32⟩
  | .hbm, ⟨12, _⟩ => ⟨S1x2048x1024, .f32⟩
  | .hbm, ⟨13, _⟩ => ⟨S1x2048x1024, .f32⟩
  | .hbm, ⟨14, _⟩ => ⟨S_, .f32⟩
  | .hbm, ⟨15, _⟩ => ⟨S1x2048x1024, .f32⟩
  | .hbm, ⟨16, _⟩ => ⟨S1x2048x1024, .f32⟩
  | .hbm, ⟨17, _⟩ => ⟨S_, .f32⟩
  | .hbm, ⟨18, _⟩ => ⟨S1x2048x1024, .f32⟩
  | .hbm, ⟨19, _⟩ => ⟨S1x2048x1024, .f32⟩
  | .hbm, ⟨20, _⟩ => ⟨S_, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S_, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x2048x1024, .f32⟩
  | .hbm, ⟨32, _⟩ => ⟨S1x2048x1024, .f32⟩
  | .hbm, ⟨33, _⟩ => ⟨S_, .f32⟩
  | .hbm, ⟨34, _⟩ => ⟨S1x2048x1024, .f32⟩
  | .hbm, ⟨35, _⟩ => ⟨S1x2048x1024, .f32⟩
  | .hbm, ⟨36, _⟩ => ⟨S1x2048x1024, .f32⟩
  | .hbm, ⟨37, _⟩ => ⟨S1x2048x1024, .f32⟩
  | .hbm, ⟨38, _⟩ => ⟨S1x2048x1024, .f32⟩
  | .hbm, ⟨39, _⟩ => ⟨S1024x1024, .f32⟩
  | .hbm, ⟨40, _⟩ => ⟨S1x2048x1024, .f32⟩
  | .hbm, ⟨41, _⟩ => ⟨S1024x1024, .f32⟩
  | .hbm, ⟨42, _⟩ => ⟨S1024x1024, .f32⟩
  | .hbm, ⟨43, _⟩ => ⟨S1x2048x1024, .f32⟩
  | .hbm, ⟨44, _⟩ => ⟨S1x1024x1024, .f32⟩
  | .hbm, ⟨45, _⟩ => ⟨S1x2048x1024, .f32⟩
  | .hbm, ⟨46, _⟩ => ⟨S1x2048x1024, .f32⟩
  | .hbm, ⟨47, _⟩ => ⟨S1x2048x1024, .f32⟩
  | .hbm, ⟨48, _⟩ => ⟨S1x2048x1024, .f32⟩
  | .hbm, ⟨49, _⟩ => ⟨S1x2048x1024, .f32⟩
  | .hbm, ⟨50, _⟩ => ⟨S1x2048x1024, .f32⟩
  | .hbm, ⟨51, _⟩ => ⟨S2048x1024, .f32⟩
  | .hbm, ⟨52, _⟩ => ⟨S2048x1024, .bf16⟩
  | .hbm, ⟨53, _⟩ => ⟨S2048x1024, .f32⟩
  | .hbm, ⟨54, _⟩ => ⟨S2048x1024, .bf16⟩
  | .hbm, ⟨55, _⟩ => ⟨S1024x1024, .f32⟩
  | .hbm, ⟨56, _⟩ => ⟨S1024x1024, .bf16⟩
  | .hbm, ⟨57, _⟩ => ⟨S2x2048x1024, .f32⟩
  | .hbm, ⟨58, _⟩ => ⟨S2x2048x1024, .bf16⟩
  | _, _ => ⟨S1x2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== FfnUp.lean ====
abbrev S1x2048x1024 : Shape := ⟨3, ![1, 2048, 1024]⟩
abbrev S1x1024x6144 : Shape := ⟨3, ![1, 1024, 6144]⟩
abbrev S1x3x6144 : Shape := ⟨3, ![1, 3, 6144]⟩
abbrev S1x6144 : Shape := ⟨2, ![1, 6144]⟩
abbrev S1x3072x1024 : Shape := ⟨3, ![1, 3072, 1024]⟩
abbrev S1024x6144 : Shape := ⟨2, ![1024, 6144]⟩
abbrev S1x2048x6144 : Shape := ⟨3, ![1, 2048, 6144]⟩
abbrev S3x6144 : Shape := ⟨2, ![3, 6144]⟩
abbrev S6144 : Shape := ⟨1, ![6144]⟩
abbrev S_ : Shape := ⟨0, ![]⟩
abbrev S1x2x6144 : Shape := ⟨3, ![1, 2, 6144]⟩
abbrev S1x2050x6144 : Shape := ⟨3, ![1, 2050, 6144]⟩
abbrev S1x1x6144 : Shape := ⟨3, ![1, 1, 6144]⟩
abbrev S1x2048x3072 : Shape := ⟨3, ![1, 2048, 3072]⟩
abbrev S1024x4x1536 : Shape := ⟨3, ![1024, 4, 1536]⟩
abbrev S4x1024x1536 : Shape := ⟨3, ![4, 1024, 1536]⟩
abbrev S2048x1024 : Shape := ⟨2, ![2048, 1024]⟩
abbrev S3072x1024 : Shape := ⟨2, ![3072, 1024]⟩
abbrev S2x2048x3072 : Shape := ⟨3, ![2, 2048, 3072]⟩
abbrev S2048x3072 : Shape := ⟨2, ![2048, 3072]⟩
abbrev S1024x2048 : Shape := ⟨2, ![1024, 2048]⟩
abbrev S2x1024x3072 : Shape := ⟨3, ![2, 1024, 3072]⟩
abbrev S2x3x3072 : Shape := ⟨3, ![2, 3, 3072]⟩
abbrev S2x1x3072 : Shape := ⟨3, ![2, 1, 3072]⟩
abbrev S256x1024 : Shape := ⟨2, ![256, 1024]⟩
abbrev S2x2048x256 : Shape := ⟨3, ![2, 2048, 256]⟩
abbrev S2048x256 : Shape := ⟨2, ![2048, 256]⟩
abbrev S3x256 : Shape := ⟨2, ![3, 256]⟩
abbrev S1x1024x256 : Shape := ⟨3, ![1, 1024, 256]⟩
abbrev S2x1024x256 : Shape := ⟨3, ![2, 1024, 256]⟩
abbrev S2x3x256 : Shape := ⟨3, ![2, 3, 256]⟩
abbrev S2x1x256 : Shape := ⟨3, ![2, 1, 256]⟩
abbrev S1x2048x256 : Shape := ⟨3, ![1, 2048, 256]⟩
abbrev S1024x256 : Shape := ⟨2, ![1024, 256]⟩
abbrev S256 : Shape := ⟨1, ![256]⟩
abbrev S1x256 : Shape := ⟨2, ![1, 256]⟩
abbrev S1x3x256 : Shape := ⟨3, ![1, 3, 256]⟩
abbrev S1x1x256 : Shape := ⟨3, ![1, 1, 256]⟩

abbrev nBuf : Space → Nat
  | .hbm => 84
  | .vmem => 28
  | .smem => 0
  | _ => 0

abbrev bufTy : (tb : Table) → Fin (tcTables nBuf tb) → BufTy
  | .hbm, ⟨0, _⟩ => ⟨S1x2048x1024, .f32⟩
  | .hbm, ⟨1, _⟩ => ⟨S1x1024x6144, .f32⟩
  | .hbm, ⟨2, _⟩ => ⟨S1x3x6144, .f32⟩
  | .hbm, ⟨3, _⟩ => ⟨S1x6144, .f32⟩
  | .hbm, ⟨4, _⟩ => ⟨S1x3072x1024, .f32⟩
  | .hbm, ⟨5, _⟩ => ⟨S1x2048x1024, .f32⟩
  | .hbm, ⟨6, _⟩ => ⟨S1024x6144, .f32⟩
  | .hbm, ⟨7, _⟩ => ⟨S1x2048x6144, .f32⟩
  | .hbm, ⟨8, _⟩ => ⟨S3x6144, .f32⟩
  | .hbm, ⟨9, _⟩ => ⟨S6144, .f32⟩
  | .hbm, ⟨10, _⟩ => ⟨S_, .f32⟩
  | .hbm, ⟨11, _⟩ => ⟨S1x2x6144, .f32⟩
  | .hbm, ⟨12, _⟩ => ⟨S1x2050x6144, .f32⟩
  | .hbm, ⟨13, _⟩ => ⟨S1x2048x6144, .f32⟩
  | .hbm, ⟨14, _⟩ => ⟨S1x6144, .f32⟩
  | .hbm, ⟨15, _⟩ => ⟨S6144, .f32⟩
  | .hbm, ⟨16, _⟩ => ⟨S1x1x6144, .f32⟩
  | .hbm, ⟨17, _⟩ => ⟨S1x2048x6144, .f32⟩
  | .hbm, ⟨18, _⟩ => ⟨S1x2048x6144, .f32⟩
  | .hbm, ⟨19, _⟩ => ⟨S1x2048x6144, .f32⟩
  | .hbm, ⟨20, _⟩ => ⟨S1x6144, .f32⟩
  | .hbm, ⟨21, _⟩ => ⟨S6144, .f32⟩
  | .hbm, ⟨22, _⟩ => ⟨S1x1x6144, .f32⟩
  | .hbm, ⟨23, _⟩ => ⟨S1x2048x6144, .f32⟩
  | .hbm, ⟨24, _⟩ => ⟨S1x2048x6144, .f32⟩
  | .hbm, ⟨25, _⟩ => ⟨S1x2048x6144, .f32⟩
  | .hbm, ⟨26, _⟩ => ⟨S1x2048x6144, .f32⟩
  | .hbm, ⟨27, _⟩ => ⟨S1x6144, .f32⟩
  | .hbm, ⟨28, _⟩ => ⟨S6144, .f32⟩
  | .hbm, ⟨29, _⟩ => ⟨S1x1x6144, .f32⟩
  | .hbm, ⟨30, _⟩ => ⟨S1x2048x6144, .f32⟩
  | .hbm, ⟨31, _⟩ => ⟨S1x2048x6144, .f32⟩
  | .hbm, ⟨32, _⟩ => ⟨S1x2048x6144, .f32⟩
  | .hbm, ⟨33, _⟩ => ⟨S1x1x6144, .f32⟩
  | .hbm, ⟨34, _⟩ => ⟨S1x2048x6144, .f32⟩
  | .hbm, ⟨35, _⟩ => ⟨S1x2048x6144, .f32⟩
  | .hbm, ⟨36, _⟩ => ⟨S1x2048x3072, .f32⟩
  | .hbm, ⟨37, _⟩ => ⟨S1x2048x3072, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x2048x3072, .f32⟩
  | .hbm, ⟨42, _⟩ => ⟨S1x2048x3072, .f32⟩
  | .hbm, ⟨43, _⟩ => ⟨S1x2048x3072, .f32⟩
  | .hbm, ⟨44, _⟩ => ⟨S1x2048x3072, .f32⟩
  | .hbm, ⟨45, _⟩ => ⟨S1x2048x3072, .f32⟩
  | .hbm, ⟨46, _⟩ => ⟨S_, .f32⟩
  | .hbm, ⟨47, _⟩ => ⟨S1x2048x3072, .f32⟩
  | .hbm, ⟨48, _⟩ => ⟨S1x2048x3072, .f32⟩
  | .hbm, ⟨49, _⟩ => ⟨S1x2048x3072, .f32⟩
  | .hbm, ⟨50, _⟩ => ⟨S_, .f32⟩
  | .hbm, ⟨51, _⟩ => ⟨S1x2048x3072, .f32⟩
  | .hbm, ⟨52, _⟩ => ⟨S1x2048x3072, .f32⟩
  | .hbm, ⟨53, _⟩ => ⟨S_, .f32⟩
  | .hbm, ⟨54, _⟩ => ⟨S1x2048x3072, .f32⟩
  | .hbm, ⟨55, _⟩ => ⟨S1x2048x3072, .f32⟩
  | .hbm, ⟨56, _⟩ => ⟨S1x2048x3072, .f32⟩
  | .hbm, ⟨57, _⟩ => ⟨S1x2048x3072, .f32⟩
  | .hbm, ⟨58, _⟩ => ⟨S1024x6144, .f32⟩
  | .hbm, ⟨59, _⟩ => ⟨S1024x4x1536, .f32⟩
  | .hbm, ⟨60, _⟩ => ⟨S4x1024x1536, .f32⟩
  | .hbm, ⟨61, _⟩ => ⟨S4x1024x1536, .bf16⟩
  | .hbm, ⟨62, _⟩ => ⟨S2048x1024, .f32⟩
  | .hbm, ⟨63, _⟩ => ⟨S2048x1024, .bf16⟩
  | .hbm, ⟨64, _⟩ => ⟨S3072x1024, .f32⟩
  | .hbm, ⟨65, _⟩ => ⟨S3072x1024, .bf16⟩
  | .hbm, ⟨66, _⟩ => ⟨S1x2048x3072, .f32⟩
  | .hbm, ⟨67, _⟩ => ⟨S1x2048x3072, .f32⟩
  | .hbm, ⟨68, _⟩ => ⟨S2x2048x3072, .f32⟩
  | .hbm, ⟨69, _⟩ => ⟨S1x2048x3072, .f32⟩
  | .hbm, ⟨70, _⟩ => ⟨S1x2048x3072, .f32⟩
  | .hbm, ⟨71, _⟩ => ⟨S2x2048x3072, .f32⟩
  | .hbm, ⟨72, _⟩ => ⟨S2x2048x3072, .bf16⟩
  | .hbm, ⟨73, _⟩ => ⟨S2048x3072, .f32⟩
  | .hbm, ⟨74, _⟩ => ⟨S2048x3072, .bf16⟩
  | .hbm, ⟨75, _⟩ => ⟨S3x6144, .f32⟩
  | .hbm, ⟨76, _⟩ => ⟨S2048x1024, .f32⟩
  | .hbm, ⟨77, _⟩ => ⟨S1024x2048, .f32⟩
  | .hbm, ⟨78, _⟩ => ⟨S1024x2048, .bf16⟩
  | .hbm, ⟨79, _⟩ => ⟨S2048x1024, .f32⟩
  | .hbm, ⟨80, _⟩ => ⟨S2x1024x3072, .bf16⟩
  | .hbm, ⟨81, _⟩ => ⟨S3072x1024, .bf16⟩
  | .hbm, ⟨82, _⟩ => ⟨S2x3x3072, .f32⟩
  | .hbm, ⟨83, _⟩ => ⟨S2x1x3072, .f32⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2x2048x256, .f32⟩
  | .local _ .vmem, ⟨4, _⟩ => ⟨S2x2048x256, .f32⟩
  | .local _ .vmem, ⟨5, _⟩ => ⟨S2x2048x256, .bf16⟩
  | .local _ .vmem, ⟨6, _⟩ => ⟨S2x2048x256, .bf16⟩
  | .local _ .vmem, ⟨7, _⟩ => ⟨S2048x256, .bf16⟩
  | .local _ .vmem, ⟨8, _⟩ => ⟨S2048x256, .bf16⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S1024x2048, .bf16⟩
  | .local _ .vmem, ⟨18, _⟩ => ⟨S2048x1024, .f32⟩
  | .local _ .vmem, ⟨19, _⟩ => ⟨S2x1024x256, .bf16⟩
  | .local _ .vmem, ⟨20, _⟩ => ⟨S2x1024x256, .bf16⟩
  | .local _ .vmem, ⟨21, _⟩ => ⟨S256x1024, .bf16⟩
  | .local _ .vmem, ⟨22, _⟩ => ⟨S256x1024, .bf16⟩
  | .local _ .vmem, ⟨23, _⟩ => ⟨S2x3x256, .f32⟩
  | .local _ .vmem, ⟨24, _⟩ => ⟨S2x3x256, .f32⟩
  | .local _ .vmem, ⟨25, _⟩ => ⟨S2x1x256, .f32⟩
  | .local _ .vmem, ⟨26, _⟩ => ⟨S2x1x256, .f32⟩
  | .local _ .vmem, ⟨27, _⟩ => ⟨S2x2048x256, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_cst_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67_0 : Ref sig .tc := ⟨.hbm, 79, rfl⟩
abbrev main_v67_1 : Ref sig .tc := ⟨.hbm, 80, rfl⟩
abbrev main_v67_2 : Ref sig .tc := ⟨.hbm, 81, rfl⟩
abbrev main_v67_3 : Ref sig .tc := ⟨.hbm, 82, rfl⟩
abbrev main_v67_4 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let c11_i32 : BitVec 32 := 11#32
  let v0 : BitVec 32 := Scalar.minsi arg0 c11_i32
  let c12_i32 : BitVec 32 := 12#32
  let v1 : BitVec 32 := Scalar.addi c12_i32 v0
  let c0_i32 : BitVec 32 := 0#32
  let c0_i32_0 : BitVec 32 := 0#32
  ![c0_i32.toNat, v1.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let v2 : BitVec 32 := Scalar.divsi v1 c6_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c6_i32 c0_i32_2
  let v9 : BitVec 32 := Scalar.extui v8
  let c0_i32_3 : BitVec 32 := 0#32
  let v10 : BitVec 1 := Scalar.cmpi .slt c6_i32 c0_i32_3
  let v11 : BitVec 32 := Scalar.extui v10
  let v12 : BitVec 32 := Scalar.subi v9 v11
  let v13 : BitVec 1 := Scalar.cmpi .ne v7 v12
  let v14 : BitVec 32 := Scalar.remsi v1 c6_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let v19 : BitVec 32 := Scalar.addi v18 c0_i32_6
  let c1_i32_7 : BitVec 32 := 1#32
  let v20 : BitVec 32 := Scalar.subi arg0 c1_i32_7
  let c0_i32_8 : BitVec 32 := 0#32
  let v21 : BitVec 32 := Scalar.maxsi v20 c0_i32_8
  let c6_i32_9 : BitVec 32 := 6#32
  let c0_i32_10 : BitVec 32 := 0#32
  let v22 : BitVec 1 := Scalar.cmpi .eq c6_i32_9 c0_i32_10
  let c1_i32_11 : BitVec 32 := 1#32
  let v23 : BitVec 32 := Scalar.select v22 c1_i32_11 c6_i32_9
  let v24 : BitVec 32 := Scalar.remsi v21 v23
  let c0_i32_12 : BitVec 32 := 0#32
  let v25 : BitVec 1 := Scalar.cmpi .ne v24 c0_i32_12
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let v29 : BitVec 1 := Scalar.andi v28 v25
  let v30 : BitVec 32 := Scalar.addi v24 v23
  let v31 : BitVec 32 := Scalar.select v29 v30 v24
  let c0_i32_15 : BitVec 32 := 0#32
  let c0_i32_16 : BitVec 32 := 0#32
  ![v19.toNat, c0_i32_15.toNat, v31.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let v2 : BitVec 32 := Scalar.divsi v1 c6_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c6_i32 c0_i32_2
  let v9 : BitVec 32 := Scalar.extui v8
  let c0_i32_3 : BitVec 32 := 0#32
  let v10 : BitVec 1 := Scalar.cmpi .slt c6_i32 c0_i32_3
  let v11 : BitVec 32 := Scalar.extui v10
  let v12 : BitVec 32 := Scalar.subi v9 v11
  let v13 : BitVec 1 := Scalar.cmpi .ne v7 v12
  let v14 : BitVec 32 := Scalar.remsi v1 c6_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let v19 : BitVec 32 := Scalar.addi v18 c2_i32
  let c1_i32_6 : BitVec 32 := 1#32
  let v20 : BitVec 32 := Scalar.subi arg0 c1_i32_6
  let c0_i32_7 : BitVec 32 := 0#32
  let v21 : BitVec 32 := Scalar.maxsi v20 c0_i32_7
  let c6_i32_8 : BitVec 32 := 6#32
  let c0_i32_9 : BitVec 32 := 0#32
  let v22 : BitVec 1 := Scalar.cmpi .eq c6_i32_8 c0_i32_9
  let c1_i32_10 : BitVec 32 := 1#32
  let v23 : BitVec 32 := Scalar.select v22 c1_i32_10 c6_i32_8
  let v24 : BitVec 32 := Scalar.remsi v21 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let c0_i32_14 : BitVec 32 := 0#32
  let c0_i32_15 : BitVec 32 := 0#32
  ![v19.toNat, c0_i32_14.toNat, v31.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_12 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![c0_i32.toNat, c0_i32_0.toNat, v0.toNat]

def cc0_transform_14 (i : grid0.Coords) : Fin 3 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![c0_i32.toNat, c0_i32_0.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x3x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FfnUpIdeal.lean ====
variable {F : FTy → Type} [FloatOps F] [Named F]
def κ : String → Option EReal := fun
  | "gelu_3k" => some ((26829 / 200000 : ℝ) : EReal)
  | "gelu_k" => some ((8943 / 200000 : ℝ) : EReal)
  | _ => none
-- ==== FfnUpRefIdeal.lean ====
abbrev S1x2048x1024 : Shape := ⟨3, ![1, 2048, 1024]⟩
abbrev S1x1024x6144 : Shape := ⟨3, ![1, 1024, 6144]⟩
abbrev S1x3x6144 : Shape := ⟨3, ![1, 3, 6144]⟩
abbrev S1x6144 : Shape := ⟨2, ![1, 6144]⟩
abbrev S1x3072x1024 : Shape := ⟨3, ![1, 3072, 1024]⟩
abbrev S1024x6144 : Shape := ⟨2, ![1024, 6144]⟩
abbrev S1x2048x6144 : Shape := ⟨3, ![1, 2048, 6144]⟩
abbrev S3x6144 : Shape := ⟨2, ![3, 6144]⟩
abbrev S6144 : Shape := ⟨1, ![6144]⟩
abbrev S_ : Shape := ⟨0, ![]⟩
abbrev S1x2x6144 : Shape := ⟨3, ![1, 2, 6144]⟩
abbrev S1x2050x6144 : Shape := ⟨3, ![1, 2050, 6144]⟩
abbrev S1x1x6144 : Shape := ⟨3, ![1, 1, 6144]⟩
abbrev S1x2048x3072 : Shape := ⟨3, ![1, 2048, 3072]⟩
abbrev S3072x1024 : Shape := ⟨2, ![3072, 1024]⟩
abbrev S1024x3072 : Shape := ⟨2, ![1024, 3072]⟩
abbrev S6144x1024 : Shape := ⟨2, ![6144, 1024]⟩
abbrev S2048x1024 : Shape := ⟨2, ![2048, 1024]⟩
abbrev S1x1024x3072 : Shape := ⟨3, ![1, 1024, 3072]⟩
abbrev S2x1024x3072 : Shape := ⟨3, ![2, 1024, 3072]⟩
abbrev S1x3x3072 : Shape := ⟨3, ![1, 3, 3072]⟩
abbrev S2x3x3072 : Shape := ⟨3, ![2, 3, 3072]⟩
abbrev S1x1x3072 : Shape := ⟨3, ![1, 1, 3072]⟩
abbrev S2x1x3072 : Shape := ⟨3, ![2, 1, 3072]⟩

abbrev nBuf : Space → Nat
  | .hbm => 164
  | .vmem => 0
  | .smem => 0
  | _ => 0

abbrev hbmTy0_0 (i : Nat) : BufTy := match i % 128 with
  | 0 => ⟨S1x2048x1024, .f32⟩
  | 1 => ⟨S1x1024x6144, .f32⟩
  | 2 => ⟨S1x3x6144, .f32⟩
  | 3 => ⟨S1x6144, .f32⟩
  | 4 => ⟨S1x3072x1024, .f32⟩
  | 5 => ⟨S1x2048x1024, .f32⟩
  | 6 => ⟨S1024x6144, .f32⟩
  | 7 => ⟨S1x2048x6144, .f32⟩
  | 8 => ⟨S3x6144, .f32⟩
  | 9 => ⟨S6144, .f32⟩
  | 10 => ⟨S_, .f32⟩
  | 11 => ⟨S1x2x6144, .f32⟩
  | 12 => ⟨S1x2050x6144, .f32⟩
  | 13 => ⟨S_, .f32⟩
  | 14 => ⟨S1x2x6144, .f32⟩
  | 15 => ⟨S1x2048x6144, .f32⟩
  | 16 => ⟨S1x6144, .f32⟩
  | 17 => ⟨S6144, .f32⟩
  | 18 => ⟨S1x1x6144, .f32⟩
  | 19 => ⟨S1x2048x6144, .f32⟩
  | 20 => ⟨S1x2048x6144, .f32⟩
  | 21 => ⟨S1x2048x6144, .f32⟩
  | 22 => ⟨S1x6144, .f32⟩
  | 23 => ⟨S6144, .f32⟩
  | 24 => ⟨S1x1x6144, .f32⟩
  | 25 => ⟨S1x2048x6144, .f32⟩
  | 26 => ⟨S1x2048x6144, .f32⟩
  | 27 => ⟨S1x2048x6144, .f32⟩
  | 28 => ⟨S1x2048x6144, .f32⟩
  | 29 => ⟨S1x6144, .f32⟩
  | 30 => ⟨S6144, .f32⟩
  | 31 => ⟨S1x1x6144, .f32⟩
  | 32 => ⟨S1x2048x6144, .f32⟩
  | 33 => ⟨S1x2048x6144, .f32⟩
  | 34 => ⟨S1x2048x6144, .f32⟩
  | 35 => ⟨S1x1x6144, .f32⟩
  | 36 => ⟨S1x2048x6144, .f32⟩
  | 37 => ⟨S1x2048x6144, .f32⟩
  | 38 => ⟨S1x2048x3072, .f32⟩
  | 39 => ⟨S1x2048x3072, .f32⟩
  | 40 => ⟨S_, .f32⟩
  | 41 => ⟨S_, .f32⟩
  | 42 => ⟨S_, .f32⟩
  | 43 => ⟨S1x2048x3072, .f32⟩
  | 44 => ⟨S1x2048x3072, .f32⟩
  | 45 => ⟨S1x2048x3072, .f32⟩
  | 46 => ⟨S_, .f32⟩
  | 47 => ⟨S1x2048x3072, .f32⟩
  | 48 => ⟨S1x2048x3072, .f32⟩
  | 49 => ⟨S1x2048x3072, .f32⟩
  | 50 => ⟨S1x2048x3072, .f32⟩
  | 51 => ⟨S1x2048x3072, .f32⟩
  | 52 => ⟨S_, .f32⟩
  | 53 => ⟨S1x2048x3072, .f32⟩
  | 54 => ⟨S1x2048x3072, .f32⟩
  | 55 => ⟨S1x2048x3072, .f32⟩
  | 56 => ⟨S_, .f32⟩
  | 57 => ⟨S1x2048x3072, .f32⟩
  | 58 => ⟨S1x2048x3072, .f32⟩
  | 59 => ⟨S_, .f32⟩
  | 60 => ⟨S1x2048x3072, .f32⟩
  | 61 => ⟨S1x2048x3072, .f32⟩
  | 62 => ⟨S1x2048x3072, .f32⟩
  | 63 => ⟨S_, .f32⟩
  | 64 => ⟨S1x2048x3072, .f32⟩
  | 65 => ⟨S1x2048x3072, .f32⟩
  | 66 => ⟨S_, .f32⟩
  | 67 => ⟨S1x2048x3072, .f32⟩
  | 68 => ⟨S1x2048x3072, .f32⟩
  | 69 => ⟨S1x2048x3072, .f32⟩
  | 70 => ⟨S1x2048x3072, .f32⟩
  | 71 => ⟨S3072x1024, .f32⟩
  | 72 => ⟨S1x2048x1024, .f32⟩
  | 73 => ⟨S1024x3072, .f32⟩
  | 74 => ⟨S3072x1024, .f32⟩
  | 75 => ⟨S1x2048x3072, .f32⟩
  | 76 => ⟨S1x3072x1024, .f32⟩
  | 77 => ⟨S1x2048x3072, .f32⟩
  | 78 => ⟨S1x2048x3072, .f32⟩
  | 79 => ⟨S1x2048x3072, .f32⟩
  | 80 => ⟨S1x2048x3072, .f32⟩
  | 81 => ⟨S_, .f32⟩
  | 82 => ⟨S1x2048x3072, .f32⟩
  | 83 => ⟨S1x2048x3072, .f32⟩
  | 84 => ⟨S1x2048x3072, .f32⟩
  | 85 => ⟨S_, .f32⟩
  | 86 => ⟨S1x2048x3072, .f32⟩
  | 87 => ⟨S1x2048x3072, .f32⟩
  | 88 => ⟨S1x2048x3072, .f32⟩
  | 89 => ⟨S1x2048x3072, .f32⟩
  | 90 => ⟨S1x2048x3072, .f32⟩
  | 91 => ⟨S1x2048x3072, .f32⟩
  | 92 => ⟨S1x2048x3072, .f32⟩
  | 93 => ⟨S1x2048x6144, .f32⟩
  | 94 => ⟨S_, .f32⟩
  | 95 => ⟨S1x6144, .f32⟩
  | 96 => ⟨S1x1x6144, .f32⟩
  | 97 => ⟨S_, .f32⟩
  | 98 => ⟨S6144, .f32⟩
  | 99 => ⟨S1x2048x6144, .f32⟩
  | 100 => ⟨S_, .f32⟩
  | 101 => ⟨S1x6144, .f32⟩
  | 102 => ⟨S1x1x6144, .f32⟩
  | 103 => ⟨S1x2048x6144, .f32⟩
  | 104 => ⟨S1x2048x6144, .f32⟩
  | 105 => ⟨S_, .f32⟩
  | 106 => ⟨S6144, .f32⟩
  | 107 => ⟨S1x6144, .f32⟩
  | 108 => ⟨S_, .f32⟩
  | 109 => ⟨S3x6144, .f32⟩
  | 110 => ⟨S_, .f32⟩
  | 111 => ⟨S1x2050x6144, .f32⟩
  | 112 => ⟨S1x2048x6144, .f32⟩
  | 113 => ⟨S_, .f32⟩
  | 114 => ⟨S1x6144, .f32⟩
  | 115 => ⟨S1x1x6144, .f32⟩
  | 116 => ⟨S1x2048x6144, .f32⟩
  | 117 => ⟨S1x2048x6144, .f32⟩
  | 118 => ⟨S_, .f32⟩
  | 119 => ⟨S6144, .f32⟩
  | 120 => ⟨S1x6144, .f32⟩
  | 121 => ⟨S_, .f32⟩
  | 122 => ⟨S3x6144, .f32⟩
  | 123 => ⟨S3x6144, .f32⟩
  | 124 => ⟨S_, .f32⟩
  | 125 => ⟨S1x2050x6144, .f32⟩
  | 126 => ⟨S1x2050x6144, .f32⟩
  | 127 => ⟨S1x2048x6144, .f32⟩
  | _ => ⟨S1x2048x1024, .f32⟩

abbrev hbmTy0_1 (i : Nat) : BufTy := match i % 128 with
  | 0 => ⟨S_, .f32⟩
  | 1 => ⟨S1x6144, .f32⟩
  | 2 => ⟨S1x1x6144, .f32⟩
  | 3 => ⟨S1x2048x6144, .f32⟩
  | 4 => ⟨S1x2048x6144, .f32⟩
  | 5 => ⟨S_, .f32⟩
  | 6 => ⟨S6144, .f32⟩
  | 7 => ⟨S1x6144, .f32⟩
  | 8 => ⟨S_, .f32⟩
  | 9 => ⟨S3x6144, .f32⟩
  | 10 => ⟨S3x6144, .f32⟩
  | 11 => ⟨S_, .f32⟩
  | 12 => ⟨S1x2050x6144, .f32⟩
  | 13 => ⟨S1x2050x6144, .f32⟩
  | 14 => ⟨S1x2x6144, .f32⟩
  | 15 => ⟨S1x2048x6144, .f32⟩
  | 16 => ⟨S1x6144, .f32⟩
  | 17 => ⟨S1x3x6144, .f32⟩
  | 18 => ⟨S6144x1024, .f32⟩
  | 19 => ⟨S1024x6144, .f32⟩
  | 20 => ⟨S1x2048x1024, .f32⟩
  | 21 => ⟨S1x1024x6144, .f32⟩
  | 22 => ⟨S2048x1024, .f32⟩
  | 23 => ⟨S1x1024x3072, .f32⟩
  | 24 => ⟨S1x1024x3072, .f32⟩
  | 25 => ⟨S2x1024x3072, .f32⟩
  | 26 => ⟨S2x1024x3072, .bf16⟩
  | 27 => ⟨S3072x1024, .f32⟩
  | 28 => ⟨S3072x1024, .bf16⟩
  | 29 => ⟨S1x3x3072, .f32⟩
  | 30 => ⟨S1x3x3072, .f32⟩
  | 31 => ⟨S2x3x3072, .f32⟩
  | 32 => ⟨S1x1x6144, .f32⟩
  | 33 => ⟨S1x1x3072, .f32⟩
  | 34 => ⟨S1x1x3072, .f32⟩
  | 35 => ⟨S2x1x3072, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_11 : Ref sig .tc := ⟨.hbm, 94, rfl⟩
abbrev main_v76 : Ref sig .tc := ⟨.hbm, 95, rfl⟩
abbrev main_v77 : Ref sig .tc := ⟨.hbm, 96, rfl⟩
abbrev main_cst_12 : Ref sig .tc := ⟨.hbm, 97, rfl⟩
abbrev main_v78 : Ref sig .tc := ⟨.hbm, 98, rfl⟩
abbrev main_v79 : Ref sig .tc := ⟨.hbm, 99, rfl⟩
abbrev main_cst_13 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_14 : Ref sig .tc := ⟨.hbm, 105, rfl⟩
abbrev main_v84 : Ref sig .tc := ⟨.hbm, 106, rfl⟩
abbrev main_v85 : Ref sig .tc := ⟨.hbm, 107, rfl⟩
abbrev main_cst_15 : Ref sig .tc := ⟨.hbm, 108, rfl⟩
abbrev main_v86 : Ref sig .tc := ⟨.hbm, 109, rfl⟩
abbrev main_cst_16 : Ref sig .tc := ⟨.hbm, 110, rfl⟩
abbrev main_v87 : Ref sig .tc := ⟨.hbm, 111, rfl⟩
abbrev main_v88 : Ref sig .tc := ⟨.hbm, 112, rfl⟩
abbrev main_cst_17 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_18 : Ref sig .tc := ⟨.hbm, 118, rfl⟩
abbrev main_v93 : Ref sig .tc := ⟨.hbm, 119, rfl⟩
abbrev main_v94 : Ref sig .tc := ⟨.hbm, 120, rfl⟩
abbrev main_cst_19 : Ref sig .tc := ⟨.hbm, 121, rfl⟩
abbrev main_v95 : Ref sig .tc := ⟨.hbm, 122, rfl⟩
abbrev main_v96 : Ref sig .tc := ⟨.hbm, 123, rfl⟩
abbrev main_cst_20 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_21 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_22 : Ref sig .tc := ⟨.hbm, 133, rfl⟩
abbrev main_v104 : Ref sig .tc := ⟨.hbm, 134, rfl⟩
abbrev main_v105 : Ref sig .tc := ⟨.hbm, 135, rfl⟩
abbrev main_cst_23 : Ref sig .tc := ⟨.hbm, 136, rfl⟩
abbrev main_v106 : Ref sig .tc := ⟨.hbm, 137, rfl⟩
abbrev main_v107 : Ref sig .tc := ⟨.hbm, 138, rfl⟩
abbrev main_cst_24 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩

abbrev nD : Nat := 1
abbrev τ : Topo := Topo.v7x

variable {F : FTy → Type} [FloatOps F]
-- ==== FfnAct.lean ====
abbrev S1x2048x1024 : Shape := ⟨3, ![1, 2048, 1024]⟩
abbrev S1x1024x6144 : Shape := ⟨3, ![1, 1024, 6144]⟩
abbrev S1x3x6144 : Shape := ⟨3, ![1, 3, 6144]⟩
abbrev S1x6144 : Shape := ⟨2, ![1, 6144]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S2048x1024 : Shape := ⟨2, ![2048, 1024]⟩
abbrev S3x6144 : Shape := ⟨2, ![3, 6144]⟩
abbrev S2x2048x3072 : Shape := ⟨3, ![2, 2048, 3072]⟩
abbrev S2048x3072 : Shape := ⟨2, ![2048, 3072]⟩
abbrev S1x1024x256 : Shape := ⟨3, ![1, 1024, 256]⟩
abbrev S3x256 : Shape := ⟨2, ![3, 256]⟩
abbrev S1x256 : Shape := ⟨2, ![1, 256]⟩
abbrev S2x2048x256 : Shape := ⟨3, ![2, 2048, 256]⟩
abbrev S2048x256 : Shape := ⟨2, ![2048, 256]⟩
abbrev S1024x256 : Shape := ⟨2, ![1024, 256]⟩
abbrev S1x2048x256 : Shape := ⟨3, ![1, 2048, 256]⟩

abbrev nBuf : Space → Nat
  | .hbm => 14
  | .vmem => 19
  | .smem => 0
  | _ => 0

abbrev bufTy : (tb : Table) → Fin (tcTables nBuf tb) → BufTy
  | .hbm, ⟨0, _⟩ => ⟨S1x2048x1024, .f32⟩
  | .hbm, ⟨1, _⟩ => ⟨S1x1024x6144, .f32⟩
  | .hbm, ⟨2, _⟩ => ⟨S1x3x6144, .f32⟩
  | .hbm, ⟨3, _⟩ => ⟨S1x6144, .f32⟩
  | .hbm, ⟨4, _⟩ => ⟨S1024x6144, .f32⟩
  | .hbm, ⟨5, _⟩ => ⟨S1024x4x1536, .f32⟩
  | .hbm, ⟨6, _⟩ => ⟨S4x1024x1536, .f32⟩
  | .hbm, ⟨7, _⟩ => ⟨S4x1024x1536, .bf16⟩
  | .hbm, ⟨8, _⟩ => ⟨S2048x1024, .f32⟩
  | .hbm, ⟨9, _⟩ => ⟨S2048x1024, .bf16⟩
  | .hbm, ⟨10, _⟩ => ⟨S3x6144, .f32⟩
  | .hbm, ⟨11, _⟩ => ⟨S2x2048x3072, .f32⟩
  | .hbm, ⟨12, _⟩ => ⟨S2x2048x3072, .bf16⟩
  | .hbm, ⟨13, _⟩ => ⟨S2048x3072, .bf16⟩
  | .local _ .vmem, ⟨0, _⟩ => ⟨S2048x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S2x2048x256, .f32⟩
  | .local _ .vmem, ⟨14, _⟩ => ⟨S2x2048x256, .f32⟩
  | .local _ .vmem, ⟨15, _⟩ => ⟨S2x2048x256, .bf16⟩
  | .local _ .vmem, ⟨16, _⟩ => ⟨S2x2048x256, .bf16⟩
  | .local _ .vmem, ⟨17, _⟩ => ⟨S2048x256, .bf16⟩
  | .local _ .vmem, ⟨18, _⟩ => ⟨S2048x256, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi v16 c0_i32_4
  let c6_i32_5 : BitVec 32 := 6#32
  let c0_i32_6 : BitVec 32 := 0#32
  let v18 : BitVec 1 := Scalar.cmpi .eq c6_i32_5 c0_i32_6
  let c1_i32_7 : BitVec 32 := 1#32
  let v19 : BitVec 32 := Scalar.select v18 c1_i32_7 c6_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_2 (i : grid0.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.addi v16 c2_i32
  let c6_i32_4 : BitVec 32 := 6#32
  let c0_i32_5 : BitVec 32 := 0#32
  let v18 : BitVec 1 := Scalar.cmpi .eq c6_i32_4 c0_i32_5
  let c1_i32_6 : BitVec 32 := 1#32
  let v19 : BitVec 32 := Scalar.select v18 c1_i32_6 c6_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnActRefIdeal.lean ====
abbrev S1x2048x1024 : Shape := ⟨3, ![1, 2048, 1024]⟩
abbrev S1x1024x6144 : Shape := ⟨3, ![1, 1024, 6144]⟩
abbrev S1x3x6144 : Shape := ⟨3, ![1, 3, 6144]⟩
abbrev S1x6144 : Shape := ⟨2, ![1, 6144]⟩
abbrev S1024x6144 : Shape := ⟨2, ![1024, 6144]⟩
abbrev S1x2048x6144 : Shape := ⟨3, ![1, 2048, 6144]⟩
abbrev S3x6144 : Shape := ⟨2, ![3, 6144]⟩
abbrev S6144 : Shape := ⟨1, ![6144]⟩
abbrev S_ : Shape := ⟨0, ![]⟩
abbrev S1x2x6144 : Shape := ⟨3, ![1, 2, 6144]⟩
abbrev S1x2050x6144 : Shape := ⟨3, ![1, 2050, 6144]⟩
abbrev S1x1x6144 : Shape := ⟨3, ![1, 1, 6144]⟩
abbrev S1x2048x3072 : Shape := ⟨3, ![1, 2048, 3072]⟩
abbrev S2x2048x3072 : Shape := ⟨3, ![2, 2048, 3072]⟩
abbrev S2048x3072 : Shape := ⟨2, ![2048, 3072]⟩

abbrev nBuf : Space → Nat
  | .hbm => 63
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024x6144, .f32⟩
  | .hbm, ⟨2, _⟩ => ⟨S1x3x6144, .f32⟩
  | .hbm, ⟨3, _⟩ => ⟨S1x6144, .f32⟩
  | .hbm, ⟨4, _⟩ => ⟨S1024x6144, .f32⟩
  | .hbm, ⟨5, _⟩ => ⟨S1x2048x6144, .f32⟩
  | .hbm, ⟨6, _⟩ => ⟨S3x6144, .f32⟩
  | .hbm, ⟨7, _⟩ => ⟨S6144, .f32⟩
  | .hbm, ⟨8, _⟩ => ⟨S_, .f32⟩
  | .hbm, ⟨9, _⟩ => ⟨S1x2x6144, .f32⟩
  | .hbm, ⟨10, _⟩ => ⟨S1x2050x6144, .f32⟩
  | .hbm, ⟨11, _⟩ => ⟨S1x2048x6144, .f32⟩
  | .hbm, ⟨12, _⟩ => ⟨S1x6144, .f32⟩
  | .hbm, ⟨13, _⟩ => ⟨S6144, .f32⟩
  | .hbm, ⟨14, _⟩ => ⟨S1x1x6144, .f32⟩
  | .hbm, ⟨15, _⟩ => ⟨S1x2048x6144, .f32⟩
  | .hbm, ⟨16, _⟩ => ⟨S1x2048x6144, .f32⟩
  | .hbm, ⟨17, _⟩ => ⟨S1x2048x6144, .f32⟩
  | .hbm, ⟨18, _⟩ => ⟨S1x6144, .f32⟩
  | .hbm, ⟨19, _⟩ => ⟨S6144, .f32⟩
  | .hbm, ⟨20, _⟩ => ⟨S1x1x6144, .f32⟩
  | .hbm, ⟨21, _⟩ => ⟨S1x2048x6144, .f32⟩
  | .hbm, ⟨22, _⟩ => ⟨S1x2048x6144, .f32⟩
  | .hbm, ⟨23, _⟩ => ⟨S1x2048x6144, .f32⟩
  | .hbm, ⟨24, _⟩ => ⟨S1x2048x6144, .f32⟩
  | .hbm, ⟨25, _⟩ => ⟨S1x6144, .f32⟩
  | .hbm, ⟨26, _⟩ => ⟨S6144, .f32⟩
  | .hbm, ⟨27, _⟩ => ⟨S1x1x6144, .f32⟩
  | .hbm, ⟨28, _⟩ => ⟨S1x2048x6144, .f32⟩
  | .hbm, ⟨29, _⟩ => ⟨S1x2048x6144, .f32⟩
  | .hbm, ⟨30, _⟩ => ⟨S1x2048x6144, .f32⟩
  | .hbm, ⟨31, _⟩ => ⟨S1x1x6144, .f32⟩
  | .hbm, ⟨32, _⟩ => ⟨S1x2048x6144, .f32⟩
  | .hbm, ⟨33, _⟩ => ⟨S1x2048x6144, .f32⟩
  | .hbm, ⟨34, _⟩ => ⟨S1x2048x3072, .f32⟩
  | .hbm, ⟨35, _⟩ => ⟨S1x2048x3072, .f32⟩
  | .hbm, ⟨36, _⟩ => ⟨S1x2048x3072, .f32⟩
  | .hbm, ⟨37, _⟩ => ⟨S1x2048x3072, .f32⟩
  | .hbm, ⟨38, _⟩ => ⟨S_, .f32⟩
  | .hbm, ⟨39, _⟩ => ⟨S1x2048x3072, .f32⟩
  | .hbm, ⟨40, _⟩ => ⟨S1x2048x3072, .f32⟩
  | .hbm, ⟨41, _⟩ => ⟨S1x2048x3072, .f32⟩
  | .hbm, ⟨42, _⟩ => ⟨S_, .f32⟩
  | .hbm, ⟨43, _⟩ => ⟨S1x2048x3072, .f32⟩
  | .hbm, ⟨44, _⟩ => ⟨S1x2048x3072, .f32⟩
  | .hbm, ⟨45, _⟩ => ⟨S1x2048x3072, .f32⟩
  | .hbm, ⟨46, _⟩ => ⟨S_, .f32⟩
  | .hbm, ⟨47, _⟩ => ⟨S1x2048x3072, .f32⟩
  | .hbm, ⟨48, _⟩ => ⟨S1x2048x3072, .f32⟩
  | .hbm, ⟨49, _⟩ => ⟨S_, .f32⟩
  | .hbm, ⟨50, _⟩ => ⟨S1x2048x3072, .f32⟩
  | .hbm, ⟨51, _⟩ => ⟨S1x2048x3072, .f32⟩
  | .hbm, ⟨52, _⟩ => ⟨S1x2048x3072, .f32⟩
  | .hbm, ⟨53, _⟩ => ⟨S1x2048x3072, .f32⟩
  | .hbm, ⟨54, _⟩ => ⟨S1x2048x3072, .f32⟩
  | .hbm, ⟨55, _⟩ => ⟨S1x2048x3072, .f32⟩
  | .hbm, ⟨56, _⟩ => ⟨S2x2048x3072, .f32⟩
  | .hbm, ⟨57, _⟩ => ⟨S1x2048x3072, .f32⟩
  | .hbm, ⟨58, _⟩ => ⟨S1x2048x3072, .f32⟩
  | .hbm, ⟨59, _⟩ => ⟨S2x2048x3072, .f32⟩
  | .hbm, ⟨60, _⟩ => ⟨S2x2048x3072, .bf16⟩
  | .hbm, ⟨61, _⟩ => ⟨S2048x3072, .f32⟩
  | .hbm, ⟨62, _⟩ => ⟨S2048x3072, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩

abbrev nD : Nat := 1
abbrev τ : Topo := Topo.v7x

variable {F : FTy → Type} [FloatOps F]
-- ==== ConvFwd.lean ====
abbrev S1x2048x7168 : Shape := ⟨3, ![1, 2048, 7168]⟩
abbrev S1x3x1024 : Shape := ⟨3, ![1, 3, 1024]⟩
abbrev S2048x7168 : Shape := ⟨2, ![2048, 7168]⟩
abbrev S3x1024 : Shape := ⟨2, ![3, 1024]⟩
abbrev S2048x1024 : Shape := ⟨2, ![2048, 1024]⟩
abbrev S2048x256 : Shape := ⟨2, ![2048, 256]⟩
abbrev S3x256 : Shape := ⟨2, ![3, 256]⟩
abbrev S1x256 : Shape := ⟨2, ![1, 256]⟩

abbrev nBuf : Space → Nat
  | .hbm => 6
  | .vmem => 12
  | .smem => 0
  | _ => 0

abbrev bufTy : (tb : Table) → Fin (tcTables nBuf tb) → BufTy
  | .hbm, ⟨0, _⟩ => ⟨S1x2048x7168, .f32⟩
  | .hbm, ⟨1, _⟩ => ⟨S1x3x1024, .f32⟩
  | .hbm, ⟨2, _⟩ => ⟨S2048x7168, .f32⟩
  | .hbm, ⟨3, _⟩ => ⟨S3x1024, .f32⟩
  | .hbm, ⟨4, _⟩ => ⟨S2048x1024, .f32⟩
  | .hbm, ⟨5, _⟩ => ⟨S2048x1024, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S2048x256, .f32⟩
  | .local _ .vmem, ⟨9, _⟩ => ⟨S2048x256, .f32⟩
  | .local _ .vmem, ⟨10, _⟩ => ⟨S2048x256, .bf16⟩
  | .local _ .vmem, ⟨11, _⟩ => ⟨S2048x256, .bf16⟩
  | _, _ => ⟨S1x2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvFwdRefIdeal.lean ====
abbrev S1x2048x7168 : Shape := ⟨3, ![1, 2048, 7168]⟩
abbrev S1x3x1024 : Shape := ⟨3, ![1, 3, 1024]⟩
abbrev S1x2048x1024 : Shape := ⟨3, ![1, 2048, 1024]⟩
abbrev S3x1024 : Shape := ⟨2, ![3, 1024]⟩
abbrev S_ : Shape := ⟨0, ![]⟩
abbrev S1x2x1024 : Shape := ⟨3, ![1, 2, 1024]⟩
abbrev S1x2050x1024 : Shape := ⟨3, ![1, 2050, 1024]⟩
abbrev S1x1024 : Shape := ⟨2, ![1, 1024]⟩
abbrev S1024 : Shape := ⟨1, ![1024]⟩
abbrev S1x1x1024 : Shape := ⟨3, ![1, 1, 1024]⟩
abbrev S2048x1024 : Shape := ⟨2, ![2048, 1024]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x7168, .f32⟩
  | .hbm, ⟨1, _⟩ => ⟨S1x3x1024, .f32⟩
  | .hbm, ⟨2, _⟩ => ⟨S1x2048x1024, .f32⟩
  | .hbm, ⟨3, _⟩ => ⟨S1x2048x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S3x1024, .f32⟩
  | .hbm, ⟨11, _⟩ => ⟨S_, .f32⟩
  | .hbm, ⟨12, _⟩ => ⟨S1x2x1024, .f32⟩
  | .hbm, ⟨13, _⟩ => ⟨S1x2050x1024, .f32⟩
  | .hbm, ⟨14, _⟩ => ⟨S1x2048x1024, .f32⟩
  | .hbm, ⟨15, _⟩ => ⟨S1x1024, .f32⟩
  | .hbm, ⟨16, _⟩ => ⟨S1024, .f32⟩
  | .hbm, ⟨17, _⟩ => ⟨S1x1x1024, .f32⟩
  | .hbm, ⟨18, _⟩ => ⟨S1x2048x1024, .f32⟩
  | .hbm, ⟨19, _⟩ => ⟨S1x2048x1024, .f32⟩
  | .hbm, ⟨20, _⟩ => ⟨S1x2048x1024, .f32⟩
  | .hbm, ⟨21, _⟩ => ⟨S1x1024, .f32⟩
  | .hbm, ⟨22, _⟩ => ⟨S1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S1x2048x1024, .f32⟩
  | .hbm, ⟨35, _⟩ => ⟨S2048x1024, .f32⟩
  | .hbm, ⟨36, _⟩ => ⟨S2048x1024, .f32⟩
  | .hbm, ⟨37, _⟩ => ⟨S2048x1024, .bf16⟩
  | _, _ => ⟨S1x2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩

abbrev nD : Nat := 1
abbrev τ : Topo := Topo.v7x

variable {F : FTy → Type} [FloatOps F]
-- ==== OutFwd.lean ====
abbrev S1x2048x1024 : Shape := ⟨3, ![1, 2048, 1024]⟩
abbrev S1x1024x1024 : Shape := ⟨3, ![1, 1024, 1024]⟩
abbrev S1x1024 : Shape := ⟨2, ![1, 1024]⟩
abbrev S2048x1024 : Shape := ⟨2, ![2048, 1024]⟩
abbrev S1024x1024 : Shape := ⟨2, ![1024, 1024]⟩
abbrev S1024x2048 : Shape := ⟨2, ![1024, 2048]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 14
  | .vmem => 15
  | .smem => 0
  | _ => 0

abbrev bufTy : (tb : Table) → Fin (tcTables nBuf tb) → BufTy
  | .hbm, ⟨0, _⟩ => ⟨S1x2048x1024, .f32⟩
  | .hbm, ⟨1, _⟩ => ⟨S1x1024x1024, .f32⟩
  | .hbm, ⟨2, _⟩ => ⟨S1x2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .hbm, ⟨7, _⟩ => ⟨S1024x1024, .f32⟩
  | .hbm, ⟨8, _⟩ => ⟨S1024x1024, .bf16⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .bf16⟩
  | .hbm, ⟨13, _⟩ => ⟨S1024x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1024x512, .bf16⟩
  | .local _ .vmem, ⟨14, _⟩ => ⟨S1024x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutFwdRefIdeal.lean ====
abbrev S1x2048x1024 : Shape := ⟨3, ![1, 2048, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048x1024 : Shape := ⟨2, ![2048, 1024]⟩
abbrev S1024x2048 : Shape := ⟨2, ![1024, 2048]⟩

abbrev nBuf : Space → Nat
  | .hbm => 48
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024x1024, .f32⟩
  | .hbm, ⟨2, _⟩ => ⟨S1x2048x1024, .f32⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S1x2048x1024, .f32⟩
  | .hbm, ⟨7, _⟩ => ⟨S1024, .f32⟩
  | .hbm, ⟨8, _⟩ => ⟨S1x2048x1024, .f32⟩
  | .hbm, ⟨9, _⟩ => ⟨S_, .f32⟩
  | .hbm, ⟨10, _⟩ => ⟨S1x2048, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S1x2048x1024, .f32⟩
  | .hbm, ⟨20, _⟩ => ⟨S1x2048x1024, .f32⟩
  | .hbm, ⟨21, _⟩ => ⟨S1x1x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S1024, .f32⟩
  | .hbm, ⟨26, _⟩ => ⟨S1x2048x1024, .f32⟩
  | .hbm, ⟨27, _⟩ => ⟨S_, .f32⟩
  | .hbm, ⟨28, _⟩ => ⟨S1x2048, .f32⟩
  | .hbm, ⟨29, _⟩ => ⟨S1x2048x1, .f32⟩
  | .hbm, ⟨30, _⟩ => ⟨S_, .f32⟩
  | .hbm, ⟨31, _⟩ => ⟨S1x2048x1, .f32⟩
  | .hbm, ⟨32, _⟩ => ⟨S1x2048x1, .f32⟩
  | .hbm, ⟨33, _⟩ => ⟨S_, .f32⟩
  | .hbm, ⟨34, _⟩ => ⟨S1x2048x1, .f32⟩
  | .hbm, ⟨35, _⟩ => ⟨S1x2048x1, .f32⟩
  | .hbm, ⟨36, _⟩ => ⟨S1x2048x1, .f32⟩
  | .hbm, ⟨37, _⟩ => ⟨S1x2048x1024, .f32⟩
  | .hbm, ⟨38, _⟩ => ⟨S1x2048x1024, .f32⟩
  | .hbm, ⟨39, _⟩ => ⟨S1x1x1024, .f32⟩
  | .hbm, ⟨40, _⟩ => ⟨S1x2048x1024, .f32⟩
  | .hbm, ⟨41, _⟩ => ⟨S1x2048x1024, .f32⟩
  | .hbm, ⟨42, _⟩ => ⟨S1x2048x1024, .bf16⟩
  | .hbm, ⟨43, _⟩ => ⟨S2048x1024, .f32⟩
  | .hbm, ⟨44, _⟩ => ⟨S2048x1024, .f32⟩
  | .hbm, ⟨45, _⟩ => ⟨S2048x1024, .bf16⟩
  | .hbm, ⟨46, _⟩ => ⟨S2048x1024, .bf16⟩
  | .hbm, ⟨47, _⟩ => ⟨S1024x2048, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Merge.lean ====
abbrev S1x2048x1024 : Shape := ⟨3, ![1, 2048, 1024]⟩
abbrev S1x1024x1024 : Shape := ⟨3, ![1, 1024, 1024]⟩
abbrev S1x2048x7168 : Shape := ⟨3, ![1, 2048, 7168]⟩
abbrev S2048x1024 : Shape := ⟨2, ![2048, 1024]⟩
abbrev S1024x1024 : Shape := ⟨2, ![1024, 1024]⟩
abbrev S2048x7168 : Shape := ⟨2, ![2048, 7168]⟩
abbrev S1024x256 : Shape := ⟨2, ![1024, 256]⟩
abbrev S2048x256 : Shape := ⟨2, ![2048, 256]⟩

abbrev nBuf : Space → Nat
  | .hbm => 17
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1024x1024, .f32⟩
  | .hbm, ⟨3, _⟩ => ⟨S1x1024x1024, .f32⟩
  | .hbm, ⟨4, _⟩ => ⟨S1x2048x7168, .f32⟩
  | .hbm, ⟨5, _⟩ => ⟨S2048x1024, .f32⟩
  | .hbm, ⟨6, _⟩ => ⟨S2048x1024, .bf16⟩
  | .hbm, ⟨7, _⟩ => ⟨S2048x1024, .f32⟩
  | .hbm, ⟨8, _⟩ => ⟨S2048x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S2048x7168, .f32⟩
  | .hbm, ⟨14, _⟩ => ⟨S2048x1024, .f32⟩
  | .hbm, ⟨15, _⟩ => ⟨S2048x1024, .f32⟩
  | .hbm, ⟨16, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S1x2048x1024 : Shape := ⟨3, ![1, 2048, 1024]⟩
abbrev S1x1024x1024 : Shape := ⟨3, ![1, 1024, 1024]⟩
abbrev S1x2048x7168 : Shape := ⟨3, ![1, 2048, 7168]⟩
abbrev S1024x1024 : Shape := ⟨2, ![1024, 1024]⟩
abbrev S_ : Shape := ⟨0, ![]⟩
abbrev S2048x1024 : Shape := ⟨2, ![2048, 1024]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1024x1024, .f32⟩
  | .hbm, ⟨3, _⟩ => ⟨S1x1024x1024, .f32⟩
  | .hbm, ⟨4, _⟩ => ⟨S1x2048x7168, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S1x2048x1024, .f32⟩
  | .hbm, ⟨12, _⟩ => ⟨S1024x1024, .f32⟩
  | .hbm, ⟨13, _⟩ => ⟨S1x2048x1024, .f32⟩
  | .hbm, ⟨14, _⟩ => ⟨S1024x1024, .f32⟩
  | .hbm, ⟨15, _⟩ => ⟨S1x2048x1024, .f32⟩
  | .hbm, ⟨16, _⟩ => ⟨S1x2048x1024, .f32⟩
  | .hbm, ⟨17, _⟩ => ⟨S1x2048x1024, .f32⟩
  | .hbm, ⟨18, _⟩ => ⟨S_, .f32⟩
  | .hbm, ⟨19, _⟩ => ⟨S1x2048x1024, .f32⟩
  | .hbm, ⟨20, _⟩ => ⟨S1x2048x1024, .f32⟩
  | .hbm, ⟨21, _⟩ => ⟨S_, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S_, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S1x2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== NormFwd.lean ====
abbrev S1x2048x1024 : Shape := ⟨3, ![1, 2048, 1024]⟩
abbrev S1x1024 : Shape := ⟨2, ![1, 1024]⟩
abbrev S2048x1024 : Shape := ⟨2, ![2048, 1024]⟩
abbrev S1024x2048 : Shape := ⟨2, ![1024, 2048]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S2048x1024, .f32⟩
  | .hbm, ⟨3, _⟩ => ⟨S2048x1024, .bf16⟩
  | .hbm, ⟨4, _⟩ => ⟨S1024x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x512, .bf16⟩
  | .local _ .vmem, ⟨6, _⟩ => ⟨S1024x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFwdRefIdeal.lean ====
abbrev S1x2048x1024 : Shape := ⟨3, ![1, 2048, 1024]⟩
abbrev S1x1024 : Shape := ⟨2, ![1, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048x1024 : Shape := ⟨2, ![2048, 1024]⟩
abbrev S1024x2048 : Shape := ⟨2, ![1024, 2048]⟩

abbrev nBuf : Space → Nat
  | .hbm => 23
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1024, .f32⟩
  | .hbm, ⟨3, _⟩ => ⟨S1x2048x1024, .f32⟩
  | .hbm, ⟨4, _⟩ => ⟨S_, .f32⟩
  | .hbm, ⟨5, _⟩ => ⟨S1x2048, .f32⟩
  | .hbm, ⟨6, _⟩ => ⟨S1x2048x1, .f32⟩
  | .hbm, ⟨7, _⟩ => ⟨S_, .f32⟩
  | .hbm, ⟨8, _⟩ => ⟨S1x2048x1, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S1x2048x1, .f32⟩
  | .hbm, ⟨14, _⟩ => ⟨S1x2048x1024, .f32⟩
  | .hbm, ⟨15, _⟩ => ⟨S1x2048x1024, .f32⟩
  | .hbm, ⟨16, _⟩ => ⟨S1x1x1024, .f32⟩
  | .hbm, ⟨17, _⟩ => ⟨S1x2048x1024, .f32⟩
  | .hbm, ⟨18, _⟩ => ⟨S1x2048x1024, .f32⟩
  | .hbm, ⟨19, _⟩ => ⟨S1x2048x1024, .bf16⟩
  | .hbm, ⟨20, _⟩ => ⟨S2048x1024, .bf16⟩
  | .hbm, ⟨21, _⟩ => ⟨S2048x1024, .bf16⟩
  | .hbm, ⟨22, _⟩ => ⟨S1024x2048, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== MixLru.lean ====
abbrev S1x2048x7168 : Shape := ⟨3, ![1, 2048, 7168]⟩
abbrev S1x4x1024 : Shape := ⟨3, ![1, 4, 1024]⟩
abbrev S1x1024 : Shape := ⟨2, ![1, 1024]⟩
abbrev S1x4x256x256 : Shape := ⟨4, ![1, 4, 256, 256]⟩
abbrev S1x4x256 : Shape := ⟨3, ![1, 4, 256]⟩
abbrev S1x1024x1024 : Shape := ⟨3, ![1, 1024, 1024]⟩
abbrev S1x2048x1024 : Shape := ⟨3, ![1, 2048, 1024]⟩
abbrev S4x1024 : Shape := ⟨2, ![4, 1024]⟩
abbrev S1024 : Shape := ⟨1, ![1024]⟩
abbrev S_ : Shape := ⟨0, ![]⟩
abbrev S1x3x1024 : Shape := ⟨3, ![1, 3, 1024]⟩
abbrev S1x2051x1024 : Shape := ⟨3, ![1, 2051, 1024]⟩
abbrev S1x1x1024 : Shape := ⟨3, ![1, 1, 1024]⟩
abbrev S4x256x256 : Shape := ⟨3, ![4, 256, 256]⟩
abbrev S4x256 : Shape := ⟨2, ![4, 256]⟩
abbrev S1x2048x4x256 : Shape := ⟨4, ![1, 2048, 4, 256]⟩
abbrev S4x256x1x2048 : Shape := ⟨4, ![4, 256, 1, 2048]⟩
abbrev S1x1x4x256 : Shape := ⟨4, ![1, 1, 4, 256]⟩
abbrev S2048 : Shape := ⟨1, ![2048]⟩
abbrev S1x2048x1 : Shape := ⟨3, ![1, 2048, 1]⟩
abbrev S1x1024x2048 : Shape := ⟨3, ![1, 1024, 2048]⟩
abbrev S1x512x2048 : Shape := ⟨3, ![1, 512, 2048]⟩
abbrev S1x512x1024 : Shape := ⟨3, ![1, 512, 1024]⟩
abbrev S1x256x2048 : Shape := ⟨3, ![1, 256, 2048]⟩
abbrev S1x256x1024 : Shape := ⟨3, ![1, 256, 1024]⟩
abbrev S1x128x2048 : Shape := ⟨3, ![1, 128, 2048]⟩
abbrev S1x128x1024 : Shape := ⟨3, ![1, 128, 1024]⟩
abbrev S1x64x2048 : Shape := ⟨3, ![1, 64, 2048]⟩
abbrev S1x64x1024 : Shape := ⟨3, ![1, 64, 1024]⟩
abbrev S1x32x2048 : Shape := ⟨3, ![1, 32, 2048]⟩
abbrev S1x32x1024 : Shape := ⟨3, ![1, 32, 1024]⟩
abbrev S1x16x2048 : Shape := ⟨3, ![1, 16, 2048]⟩
abbrev S1x16x1024 : Shape := ⟨3, ![1, 16, 1024]⟩
abbrev S1x8x2048 : Shape := ⟨3, ![1, 8, 2048]⟩
abbrev S1x8x1024 : Shape := ⟨3, ![1, 8, 1024]⟩
abbrev S1x4x2048 : Shape := ⟨3, ![1, 4, 2048]⟩
abbrev S1x2x2048 : Shape := ⟨3, ![1, 2, 2048]⟩
abbrev S1x2x1024 : Shape := ⟨3, ![1, 2, 1024]⟩
abbrev S1x1x2048 : Shape := ⟨3, ![1, 1, 2048]⟩
abbrev S1x5x1024 : Shape := ⟨3, ![1, 5, 1024]⟩
abbrev S1x9x1024 : Shape := ⟨3, ![1, 9, 1024]⟩
abbrev S1x17x1024 : Shape := ⟨3, ![1, 17, 1024]⟩
abbrev S1x33x1024 : Shape := ⟨3, ![1, 33, 1024]⟩
abbrev S1x65x1024 : Shape := ⟨3, ![1, 65, 1024]⟩
abbrev S1x129x1024 : Shape := ⟨3, ![1, 129, 1024]⟩
abbrev S1x257x1024 : Shape := ⟨3, ![1, 257, 1024]⟩
abbrev S1x513x1024 : Shape := ⟨3, ![1, 513, 1024]⟩
abbrev S1x1025x1024 : Shape := ⟨3, ![1, 1025, 1024]⟩
abbrev S2048x1024 : Shape := ⟨2, ![2048, 1024]⟩
abbrev S1024x1024 : Shape := ⟨2, ![1024, 1024]⟩
abbrev S2048x7168 : Shape := ⟨2, ![2048, 7168]⟩
abbrev S2x2048x1024 : Shape := ⟨3, ![2, 2048, 1024]⟩
abbrev S256x1024 : Shape := ⟨2, ![256, 1024]⟩
abbrev S2048x256 : Shape := ⟨2, ![2048, 256]⟩
abbrev S1x256x256 : Shape := ⟨3, ![1, 256, 256]⟩
abbrev S1x256 : Shape := ⟨2, ![1, 256]⟩
abbrev S2x2048x256 : Shape := ⟨3, ![2, 2048, 256]⟩
abbrev S1x2048x256 : Shape := ⟨3, ![1, 2048, 256]⟩
abbrev S8x256 : Shape := ⟨2, ![8, 256]⟩
abbrev S256 : Shape := ⟨1, ![256]⟩
abbrev S256x256 : Shape := ⟨2, ![256, 256]⟩

abbrev nBuf : Space → Nat
  | .hbm => 340
  | .vmem => 43
  | .smem => 0
  | _ => 0

abbrev hbmTy0_0 (i : Nat) : BufTy := match i % 128 with
  | 0 => ⟨S1x2048x7168, .f32⟩
  | 1 => ⟨S1x4x1024, .f32⟩
  | 2 => ⟨S1x1024, .f32⟩
  | 3 => ⟨S1x4x256x256, .f32⟩
  | 4 => ⟨S1x4x256, .f32⟩
  | 5 => ⟨S1x4x256x256, .f32⟩
  | 6 => ⟨S1x4x256, .f32⟩
  | 7 => ⟨S1x1024, .f32⟩
  | 8 => ⟨S1x1024x1024, .f32⟩
  | 9 => ⟨S1x2048x1024, .f32⟩
  | 10 => ⟨S1x2048x1024, .f32⟩
  | 11 => ⟨S1x2048x1024, .f32⟩
  | 12 => ⟨S1x2048x1024, .f32⟩
  | 13 => ⟨S1x2048x1024, .f32⟩
  | 14 => ⟨S1x2048x1024, .f32⟩
  | 15 => ⟨S1x2048x1024, .f32⟩
  | 16 => ⟨S1x2048x1024, .f32⟩
  | 17 => ⟨S4x1024, .f32⟩
  | 18 => ⟨S1024, .f32⟩
  | 19 => ⟨S_, .f32⟩
  | 20 => ⟨S1x3x1024, .f32⟩
  | 21 => ⟨S1x2051x1024, .f32⟩
  | 22 => ⟨S1x2048x1024, .f32⟩
  | 23 => ⟨S1x1024, .f32⟩
  | 24 => ⟨S1024, .f32⟩
  | 25 => ⟨S1x1x1024, .f32⟩
  | 26 => ⟨S1x2048x1024, .f32⟩
  | 27 => ⟨S1x2048x1024, .f32⟩
  | 28 => ⟨S1x2048x1024, .f32⟩
  | 29 => ⟨S1x1024, .f32⟩
  | 30 => ⟨S1024, .f32⟩
  | 31 => ⟨S1x1x1024, .f32⟩
  | 32 => ⟨S1x2048x1024, .f32⟩
  | 33 => ⟨S1x2048x1024, .f32⟩
  | 34 => ⟨S1x2048x1024, .f32⟩
  | 35 => ⟨S1x2048x1024, .f32⟩
  | 36 => ⟨S1x1024, .f32⟩
  | 37 => ⟨S1024, .f32⟩
  | 38 => ⟨S1x1x1024, .f32⟩
  | 39 => ⟨S1x2048x1024, .f32⟩
  | 40 => ⟨S1x2048x1024, .f32⟩
  | 41 => ⟨S1x2048x1024, .f32⟩
  | 42 => ⟨S1x2048x1024, .f32⟩
  | 43 => ⟨S1x1024, .f32⟩
  | 44 => ⟨S1024, .f32⟩
  | 45 => ⟨S1x1x1024, .f32⟩
  | 46 => ⟨S1x2048x1024, .f32⟩
  | 47 => ⟨S1x2048x1024, .f32⟩
  | 48 => ⟨S1x2048x1024, .f32⟩
  | 49 => ⟨S1x1x1024, .f32⟩
  | 50 => ⟨S1x2048x1024, .f32⟩
  | 51 => ⟨S1x2048x1024, .f32⟩
  | 52 => ⟨S4x256x256, .f32⟩
  | 53 => ⟨S4x256, .f32⟩
  | 54 => ⟨S4x256x256, .f32⟩
  | 55 => ⟨S4x256, .f32⟩
  | 56 => ⟨S1024, .f32⟩
  | 57 => ⟨S1x2048x4x256, .f32⟩
  | 58 => ⟨S4x256x1x2048, .f32⟩
  | 59 => ⟨S1x2048x4x256, .f32⟩
  | 60 => ⟨S1x1x4x256, .f32⟩
  | 61 => ⟨S1x2048x4x256, .f32⟩
  | 62 => ⟨S1x2048x4x256, .f32⟩
  | 63 => ⟨S1x2048x4x256, .f32⟩
  | 64 => ⟨S1x2048x4x256, .f32⟩
  | 65 => ⟨S_, .f32⟩
  | 66 => ⟨S1x2048x4x256, .f32⟩
  | 67 => ⟨S1x2048x4x256, .f32⟩
  | 68 => ⟨S_, .f32⟩
  | 69 => ⟨S1x2048x4x256, .f32⟩
  | 70 => ⟨S1x2048x4x256, .f32⟩
  | 71 => ⟨S1x2048x1024, .f32⟩
  | 72 => ⟨S4x256x1x2048, .f32⟩
  | 73 => ⟨S1x2048x4x256, .f32⟩
  | 74 => ⟨S1x1x4x256, .f32⟩
  | 75 => ⟨S1x2048x4x256, .f32⟩
  | 76 => ⟨S1x2048x4x256, .f32⟩
  | 77 => ⟨S1x2048x4x256, .f32⟩
  | 78 => ⟨S1x2048x4x256, .f32⟩
  | 79 => ⟨S_, .f32⟩
  | 80 => ⟨S1x2048x4x256, .f32⟩
  | 81 => ⟨S1x2048x4x256, .f32⟩
  | 82 => ⟨S_, .f32⟩
  | 83 => ⟨S1x2048x4x256, .f32⟩
  | 84 => ⟨S1x2048x4x256, .f32⟩
  | 85 => ⟨S1x2048x1024, .f32⟩
  | 86 => ⟨S_, .f32⟩
  | 87 => ⟨S1x2048x1024, .f32⟩
  | 88 => ⟨S1x2048x1024, .f32⟩
  | 89 => ⟨S1024, .f32⟩
  | 90 => ⟨S_, .f32⟩
  | 91 => ⟨S1024, .f32⟩
  | 92 => ⟨S1024, .f32⟩
  | 93 => ⟨S1024, .f32⟩
  | 94 => ⟨S1024, .f32⟩
  | 95 => ⟨S1024, .i1⟩
  | 96 => ⟨S1024, .f32⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1x1x1024, .f32⟩
  | 106 => ⟨S1x2048x1024, .f32⟩
  | 107 => ⟨S1x2048x1024, .f32⟩
  | 108 => ⟨S1x2048x1024, .f32⟩
  | 109 => ⟨S_, .f32⟩
  | 110 => ⟨S1x2048x1024, .f32⟩
  | 111 => ⟨S1x2048x1024, .f32⟩
  | 112 => ⟨S1x2048x1024, .f32⟩
  | 113 => ⟨S1x2048x1024, .f32⟩
  | 114 => ⟨S1x2048x1024, .f32⟩
  | 115 => ⟨S2048, .i32⟩
  | 116 => ⟨S_, .i32⟩
  | 117 => ⟨S2048, .i32⟩
  | 118 => ⟨S2048, .i1⟩
  | 119 => ⟨S1x2048x1, .i1⟩
  | 120 => ⟨S_, .f32⟩
  | 121 => ⟨S_, .f32⟩
  | 122 => ⟨S1x2048x1024, .i1⟩
  | 123 => ⟨S1x2048x1024, .f32⟩
  | 124 => ⟨S1x2048x1024, .f32⟩
  | 125 => ⟨S1x2048x1024, .f32⟩
  | 126 => ⟨S1x2048x1024, .f32⟩
  | 127 => ⟨S1x1024x2048, .f32⟩
  | _ => ⟨S1x2048x7168, .f32⟩

abbrev hbmTy0_1 (i : Nat) : BufTy := match i % 128 with
  | 0 => ⟨S1x1024x2048, .f32⟩
  | 1 => ⟨S1x1024x1024, .f32⟩
  | 2 => ⟨S1x1024x1024, .f32⟩
  | 3 => ⟨S1x1024x1024, .f32⟩
  | 4 => ⟨S1x1024x1024, .f32⟩
  | 5 => ⟨S1x1024x1024, .f32⟩
  | 6 => ⟨S1x1024x1024, .f32⟩
  | 7 => ⟨S1x1024x1024, .f32⟩
  | 8 => ⟨S1x512x2048, .f32⟩
  | 9 => ⟨S1x512x2048, .f32⟩
  | 10 => ⟨S1x512x1024, .f32⟩
  | 11 => ⟨S1x512x1024, .f32⟩
  | 12 => ⟨S1x512x1024, .f32⟩
  | 13 => ⟨S1x512x1024, .f32⟩
  | 14 => ⟨S1x512x1024, .f32⟩
  | 15 => ⟨S1x512x1024, .f32⟩
  | 16 => ⟨S1x512x1024, .f32⟩
  | 17 => ⟨S1x256x2048, .f32⟩
  | 18 => ⟨S1x256x2048, .f32⟩
  | 19 => ⟨S1x256x1024, .f32⟩
  | 20 => ⟨S1x256x1024, .f32⟩
  | 21 => ⟨S1x256x1024, .f32⟩
  | 22 => ⟨S1x256x1024, .f32⟩
  | 23 => ⟨S1x256x1024, .f32⟩
  | 24 => ⟨S1x256x1024, .f32⟩
  | 25 => ⟨S1x256x1024, .f32⟩
  | 26 => ⟨S1x128x2048, .f32⟩
  | 27 => ⟨S1x128x2048, .f32⟩
  | 28 => ⟨S1x128x1024, .f32⟩
  | 29 => ⟨S1x128x1024, .f32⟩
  | 30 => ⟨S1x128x1024, .f32⟩
  | 31 => ⟨S1x128x1024, .f32⟩
  | 32 => ⟨S1x128x1024, .f32⟩
  | 33 => ⟨S1x128x1024, .f32⟩
  | 34 => ⟨S1x128x1024, .f32⟩
  | 35 => ⟨S1x64x2048, .f32⟩
  | 36 => ⟨S1x64x2048, .f32⟩
  | 37 => ⟨S1x64x1024, .f32⟩
  | 38 => ⟨S1x64x1024, .f32⟩
  | 39 => ⟨S1x64x1024, .f32⟩
  | 40 => ⟨S1x64x1024, .f32⟩
  | 41 => ⟨S1x64x1024, .f32⟩
  | 42 => ⟨S1x64x1024, .f32⟩
  | 43 => ⟨S1x64x1024, .f32⟩
  | 44 => ⟨S1x32x2048, .f32⟩
  | 45 => ⟨S1x32x2048, .f32⟩
  | 46 => ⟨S1x32x1024, .f32⟩
  | 47 => ⟨S1x32x1024, .f32⟩
  | 48 => ⟨S1x32x1024, .f32⟩
  | 49 => ⟨S1x32x1024, .f32⟩
  | 50 => ⟨S1x32x1024, .f32⟩
  | 51 => ⟨S1x32x1024, .f32⟩
  | 52 => ⟨S1x32x1024, .f32⟩
  | 53 => ⟨S1x16x2048, .f32⟩
  | 54 => ⟨S1x16x2048, .f32⟩
  | 55 => ⟨S1x16x1024, .f32⟩
  | 56 => ⟨S1x16x1024, .f32⟩
  | 57 => ⟨S1x16x1024, .f32⟩
  | 58 => ⟨S1x16x1024, .f32⟩
  | 59 => ⟨S1x16x1024, .f32⟩
  | 60 => ⟨S1x16x1024, .f32⟩
  | 61 => ⟨S1x16x1024, .f32⟩
  | 62 => ⟨S1x8x2048, .f32⟩
  | 63 => ⟨S1x8x2048, .f32⟩
  | 64 => ⟨S1x8x1024, .f32⟩
  | 65 => ⟨S1x8x1024, .f32⟩
  | 66 => ⟨S1x8x1024, .f32⟩
  | 67 => ⟨S1x8x1024, .f32⟩
  | 68 => ⟨S1x8x1024, .f32⟩
  | 69 => ⟨S1x8x1024, .f32⟩
  | 70 => ⟨S1x8x1024, .f32⟩
  | 71 => ⟨S1x4x2048, .f32⟩
  | 72 => ⟨S1x4x2048, .f32⟩
  | 73 => ⟨S1x4x1024, .f32⟩
  | 74 => ⟨S1x4x1024, .f32⟩
  | 75 => ⟨S1x4x1024, .f32⟩
  | 76 => ⟨S1x4x1024, .f32⟩
  | 77 => ⟨S1x4x1024, .f32⟩
  | 78 => ⟨S1x4x1024, .f32⟩
  | 79 => ⟨S1x4x1024, .f32⟩
  | 80 => ⟨S1x2x2048, .f32⟩
  | 81 => ⟨S1x2x2048, .f32⟩
  | 82 => ⟨S1x2x1024, .f32⟩
  | 83 => ⟨S1x2x1024, .f32⟩
  | 84 => ⟨S1x2x1024, .f32⟩
  | 85 => ⟨S1x2x1024, .f32⟩
  | 86 => ⟨S1x2x1024, .f32⟩
  | 87 => ⟨S1x2x1024, .f32⟩
  | 88 => ⟨S1x2x1024, .f32⟩
  | 89 => ⟨S1x1x2048, .f32⟩
  | 90 => ⟨S1x1x2048, .f32⟩
  | 91 => ⟨S1x1x1024, .f32⟩
  | 92 => ⟨S1x1x1024, .f32⟩
  | 93 => ⟨S1x1x1024, .f32⟩
  | 94 => ⟨S1x1x1024, .f32⟩
  | 95 => ⟨S1x1x1024, .f32⟩
  | 96 => ⟨S1x1x1024, .f32⟩
  | 97 => ⟨S1x1x1024, .f32⟩
  | 98 => ⟨S_, .f32⟩
  | 99 => ⟨S1x1x1024, .f32⟩
  | 100 => ⟨S1x2x1024, .f32⟩
  | 101 => ⟨S1x1x1024, .f32⟩
  | 102 => ⟨S1x1x1024, .f32⟩
  | 103 => ⟨S1x1x1024, .f32⟩
  | 104 => ⟨S1x1x2048, .f32⟩
  | 105 => ⟨S1x2x1024, .f32⟩
  | 106 => ⟨S_, .f32⟩
  | 107 => ⟨S1x1x1024, .f32⟩
  | 108 => ⟨S1x3x1024, .f32⟩
  | 109 => ⟨S1x2x1024, .f32⟩
  | 110 => ⟨S1x2x1024, .f32⟩
  | 111 => ⟨S1x2x1024, .f32⟩
  | 112 => ⟨S1x2x2048, .f32⟩
  | 113 => ⟨S1x4x1024, .f32⟩
  | 114 => ⟨S_, .f32⟩
  | 115 => ⟨S1x1x1024, .f32⟩
  | 116 => ⟨S1x5x1024, .f32⟩
  | 117 => ⟨S1x4x1024, .f32⟩
  | 118 => ⟨S1x4x1024, .f32⟩
  | 119 => ⟨S1x4x1024, .f32⟩
  | 120 => ⟨S1x4x2048, .f32⟩
  | 121 => ⟨S1x8x1024, .f32⟩
  | 122 => ⟨S_, .f32⟩
  | 123 => ⟨S1x1x1024, .f32⟩
  | 124 => ⟨S1x9x1024, .f32⟩
  | 125 => ⟨S1x8x1024, .f32⟩
  | 126 => ⟨S1x8x1024, .f32⟩
  | 127 => ⟨S1x8x1024, .f32⟩
  | _ => ⟨S1x2048x7168, .f32⟩

abbrev hbmTy0_2 (i : Nat) : BufTy := match i % 128 with
  | 0 => ⟨S1x8x2048, .f32⟩
  | 1 => ⟨S1x16x1024, .f32⟩
  | 2 => ⟨S_, .f32⟩
  | 3 => ⟨S1x1x1024, .f32⟩
  | 4 => ⟨S1x17x1024, .f32⟩
  | 5 => ⟨S1x16x1024, .f32⟩
  | 6 => ⟨S1x16x1024, .f32⟩
  | 7 => ⟨S1x16x1024, .f32⟩
  | 8 => ⟨S1x16x2048, .f32⟩
  | 9 => ⟨S1x32x1024, .f32⟩
  | 10 => ⟨S_, .f32⟩
  | 11 => ⟨S1x1x1024, .f32⟩
  | 12 => ⟨S1x33x1024, .f32⟩
  | 13 => ⟨S1x32x1024, .f32⟩
  | 14 => ⟨S1x32x1024, .f32⟩
  | 15 => ⟨S1x32x1024, .f32⟩
  | 16 => ⟨S1x32x2048, .f32⟩
  | 17 => ⟨S1x64x1024, .f32⟩
  | 18 => ⟨S_, .f32⟩
  | 19 => ⟨S1x1x1024, .f32⟩
  | 20 => ⟨S1x65x1024, .f32⟩
  | 21 => ⟨S1x64x1024, .f32⟩
  | 22 => ⟨S1x64x1024, .f32⟩
  | 23 => ⟨S1x64x1024, .f32⟩
  | 24 => ⟨S1x64x2048, .f32⟩
  | 25 => ⟨S1x128x1024, .f32⟩
  | 26 => ⟨S_, .f32⟩
  | 27 => ⟨S1x1x1024, .f32⟩
  | 28 => ⟨S1x129x1024, .f32⟩
  | 29 => ⟨S1x128x1024, .f32⟩
  | 30 => ⟨S1x128x1024, .f32⟩
  | 31 => ⟨S1x128x1024, .f32⟩
  | 32 => ⟨S1x128x2048, .f32⟩
  | 33 => ⟨S1x256x1024, .f32⟩
  | 34 => ⟨S_, .f32⟩
  | 35 => ⟨S1x1x1024, .f32⟩
  | 36 => ⟨S1x257x1024, .f32⟩
  | 37 => ⟨S1x256x1024, .f32⟩
  | 38 => ⟨S1x256x1024, .f32⟩
  | 39 => ⟨S1x256x1024, .f32⟩
  | 40 => ⟨S1x256x2048, .f32⟩
  | 41 => ⟨S1x512x1024, .f32⟩
  | 42 => ⟨S_, .f32⟩
  | 43 => ⟨S1x1x1024, .f32⟩
  | 44 => ⟨S1x513x1024, .f32⟩
  | 45 => ⟨S1x512x1024, .f32⟩
  | 46 => ⟨S1x512x1024, .f32⟩
  | 47 => ⟨S1x512x1024, .f32⟩
  | 48 => ⟨S1x512x2048, .f32⟩
  | 49 => ⟨S1x1024x1024, .f32⟩
  | 50 => ⟨S_, .f32⟩
  | 51 => ⟨S1x1x1024, .f32⟩
  | 52 => ⟨S1x1025x1024, .f32⟩
  | 53 => ⟨S1x1024x1024, .f32⟩
  | 54 => ⟨S1x1024x1024, .f32⟩
  | 55 => ⟨S1x1024x1024, .f32⟩
  | 56 => ⟨S1x1024x2048, .f32⟩
  | 57 => ⟨S1x2048x1024, .f32⟩
  | 58 => ⟨S2048x1024, .f32⟩
  | 59 => ⟨S2048x1024, .bf16⟩
  | 60 => ⟨S1024x1024, .f32⟩
  | 61 => ⟨S1024x1024, .bf16⟩
  | 62 => ⟨S2048x7168, .f32⟩
  | 63 => ⟨S2048x1024, .f32⟩
  | 64 => ⟨S2048x1024, .bf16⟩
  | 65 => ⟨S2048x1024, .f32⟩
  | 66 => ⟨S2048x1024, .bf16⟩
  | 67 => ⟨S2048x1024, .f32⟩
  | 68 => ⟨S2048x1024, .bf16⟩
  | 69 => ⟨S2048x1024, .f32⟩
  | 70 => ⟨S4x1024, .f32⟩
  | 71 => ⟨S4x256x256, .f32⟩
  | 72 => ⟨S4x256x256, .bf16⟩
  | 73 => ⟨S4x256x256, .f32⟩
  | 74 => ⟨S4x256x256, .bf16⟩
  | 75 => ⟨S2x2048x1024, .bf16⟩
  | 76 => ⟨S1024x1024, .bf16⟩
  | 77 => ⟨S4x256x256, .f32⟩
  | 78 => ⟨S4x256x256, .f32⟩
  | 79 => ⟨S1x1024, .f32⟩
  | 80 => ⟨S1x1024, .f32⟩
  | 81 => ⟨S4x1024, .f32⟩
  | 82 => ⟨S1x1024, .f32⟩
  | 83 => ⟨S1x1024, .f32⟩
  | _ => ⟨S1x2048x7168, .f32⟩

abbrev hbmTy (i : Nat) : BufTy := match i / 128 with
  | 0 => hbmTy0_0 i
  | 1 => hbmTy0_1 i
  | 2 => hbmTy0_2 i
  | _ => ⟨S1x2048x7168, .f32⟩

abbrev bufTy : (tb : Table) → Fin (tcTables nBuf tb) → BufTy
  | .hbm, ⟨i, _⟩ => hbmTy i
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .f32⟩
  | .local _ .vmem, ⟨14, _⟩ => ⟨S2048x256, .f32⟩
  | .local _ .vmem, ⟨15, _⟩ => ⟨S4x256, .f32⟩
  | .local _ .vmem, ⟨16, _⟩ => ⟨S4x256, .f32⟩
  | .local _ .vmem, ⟨17, _⟩ => ⟨S1x256x256, .bf16⟩
  | .local _ .vmem, ⟨18, _⟩ => ⟨S1x256x256, .bf16⟩
  | .local _ .vmem, ⟨19, _⟩ => ⟨S1x256x256, .bf16⟩
  | .local _ .vmem, ⟨20, _⟩ => ⟨S1x256x256, .bf16⟩
  | .local _ .vmem, ⟨21, _⟩ => ⟨S1x256, .f32⟩
  | .local _ .vmem, ⟨22, _⟩ => ⟨S1x256, .f32⟩
  | .local _ .vmem, ⟨23, _⟩ => ⟨S2x2048x256, .bf16⟩
  | .local _ .vmem, ⟨24, _⟩ => ⟨S2x2048x256, .bf16⟩
  | .local _ .vmem, ⟨25, _⟩ => ⟨S256x1024, .bf16⟩
  | .local _ .vmem, ⟨26, _⟩ => ⟨S256x1024, .bf16⟩
  | .local _ .vmem, ⟨27, _⟩ => ⟨S1x256x256, .f32⟩
  | .local _ .vmem, ⟨28, _⟩ => ⟨S1x256x256, .f32⟩
  | .local _ .vmem, ⟨29, _⟩ => ⟨S1x256x256, .f32⟩
  | .local _ .vmem, ⟨30, _⟩ => ⟨S1x256x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S4x256, .f32⟩
  | .local _ .vmem, ⟨36, _⟩ => ⟨S4x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S2048x256, .f32⟩
  | .local _ .vmem, ⟨42, _⟩ => ⟨S2048x256, .f32⟩
  | _, _ => ⟨S1x2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_0 : Ref sig .tc := ⟨.hbm, 65, rfl⟩
abbrev main_v54 : Ref sig .tc := ⟨.hbm, 66, rfl⟩
abbrev main_v55 : Ref sig .tc := ⟨.hbm, 67, rfl⟩
abbrev main_cst_1 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_2 : Ref sig .tc := ⟨.hbm, 79, rfl⟩
abbrev main_v66 : Ref sig .tc := ⟨.hbm, 80, rfl⟩
abbrev main_v67 : Ref sig .tc := ⟨.hbm, 81, rfl⟩
abbrev main_cst_3 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_4 : Ref sig .tc := ⟨.hbm, 86, rfl⟩
abbrev main_v71 : Ref sig .tc := ⟨.hbm, 87, rfl⟩
abbrev main_v72 : Ref sig .tc := ⟨.hbm, 88, rfl⟩
abbrev main_call0_v0 : Ref sig .tc := ⟨.hbm, 89, rfl⟩
abbrev main_call0_call0_cst : Ref sig .tc := ⟨.hbm, 90, rfl⟩
abbrev main_call0_call0_v0 : Ref sig .tc := ⟨.hbm, 91, rfl⟩
abbrev main_call0_call0_v1 : Ref sig .tc := ⟨.hbm, 92, rfl⟩
abbrev main_call0_call0_v2 : Ref sig .tc := ⟨.hbm, 93, rfl⟩
abbrev main_call0_call0_v3 : Ref sig .tc := ⟨.hbm, 94, rfl⟩
abbrev main_call0_call0_v4 : Ref sig .tc := ⟨.hbm, 95, rfl⟩
abbrev main_call0_call0_v5 : Ref sig .tc := ⟨.hbm, 96, rfl⟩
abbrev main_call0_call0_v6 : Ref sig .tc := ⟨.hbm, 97, rfl⟩
abbrev main_call0_call0_v7 : Ref sig .tc := ⟨.hbm, 98, rfl⟩
abbrev main_call0_call0_v8 : Ref sig .tc := ⟨.hbm, 99, rfl⟩
abbrev main_call0_call0_v9 : Ref sig .tc := ⟨.hbm, 100, rfl⟩
abbrev main_call0_call0_v10 : Ref sig .tc := ⟨.hbm, 101, rfl⟩
abbrev main_call0_call0_v11 : Ref sig .tc := ⟨.hbm, 102, rfl⟩
abbrev main_call0_v1 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_5 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_6 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_cst_7 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_cst_8 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_cst_9 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_cst_10 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_cst_11 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_cst_12 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_cst_13 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_cst_14 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_cst_15 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_cst_16 : Ref sig .tc := ⟨.hbm, 298, rfl⟩
abbrev main_v252 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_cst_17 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_v270 : Ref sig .tc := ⟨.hbm, 318, rfl⟩
abbrev main_v271 : Ref sig .tc := ⟨.hbm, 319, rfl⟩
abbrev main_v272 : Ref sig .tc := ⟨.hbm, 320, rfl⟩
abbrev main_v273 : Ref sig .tc := ⟨.hbm, 321, rfl⟩
abbrev main_v274 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_v278 : Ref sig .tc := ⟨.hbm, 326, rfl⟩
abbrev main_v279 : Ref sig .tc := ⟨.hbm, 327, rfl⟩
abbrev main_v280 : Ref sig .tc := ⟨.hbm, 328, rfl⟩
abbrev main_v281 : Ref sig .tc := ⟨.hbm, 329, rfl⟩
abbrev main_v282 : Ref sig .tc := ⟨.hbm, 330, rfl⟩
abbrev main_v283_0 : Ref sig .tc := ⟨.hbm, 331, rfl⟩
abbrev main_v283_1 : Ref sig .tc := ⟨.hbm, 332, rfl⟩
abbrev main_v283_2 : Ref sig .tc := ⟨.hbm, 333, rfl⟩
abbrev main_v283_3 : Ref sig .tc := ⟨.hbm, 334, rfl⟩
abbrev main_v283_4 : Ref sig .tc := ⟨.hbm, 335, rfl⟩
abbrev main_v283_5 : Ref sig .tc := ⟨.hbm, 336, rfl⟩
abbrev main_v283_6 : Ref sig .tc := ⟨.hbm, 337, rfl⟩
abbrev main_v283_7 : Ref sig .tc := ⟨.hbm, 338, rfl⟩
abbrev main_v283_8 : Ref sig .tc := ⟨.hbm, 339, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_scratch0 : Ref sig .tc := ⟨.vmem, 41, rfl⟩
abbrev cc0_scratch1 : Ref sig .tc := ⟨.vmem, 42, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_55 : BitVec 32 := 0#32
  let c32_i32 : BitVec 32 := 32#32
  let v131 : BitVec 32 := Scalar.addi c0_i32_55 c32_i32
  let c1_i32 : BitVec 32 := 1#32
  ⟨c0_i32_55, v131, c1_i32⟩
def k0_mult1 (k0_t1 : Fin k0_t1_loop.trips) : BitVec 32 :=
  let c31_i32 : BitVec 32 := 31#32
  let c0_i32_55 : BitVec 32 := 0#32
  let c1_i32 : BitVec 32 := 1#32
  let arg24 : BitVec 32 := Scf.iv c0_i32_55 c1_i32 k0_t1
  let v269 : BitVec 32 := Scalar.subi c31_i32 arg24
  let c64_i32 : BitVec 32 := 64#32
  let v270 : BitVec 32 := Scalar.muli v269 c64_i32
  v270
def k0_off1 (k0_t1 : Fin k0_t1_loop.trips) (c56_i32 : BitVec 32) : Fin 2 → Nat :=
  let c31_i32 : BitVec 32 := 31#32
  let c0_i32_55 : BitVec 32 := 0#32
  let c1_i32 : BitVec 32 := 1#32
  let arg24 : BitVec 32 := Scf.iv c0_i32_55 c1_i32 k0_t1
  let v269 : BitVec 32 := Scalar.subi c31_i32 arg24
  let c64_i32 : BitVec 32 := 64#32
  let v270 : BitVec 32 := Scalar.muli v269 c64_i32
  let v271 : BitVec 32 := v270
  let v272 : BitVec 32 := Scalar.addi v271 c56_i32
  let v273 : Index := Scalar.indexCast v272
  let c0_124 : Index := 0#32
  ![v273.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== MixLruIdeal.lean ====
variable {F : FTy → Type} [FloatOps F] [Named F]
def κ : String → Option EReal := fun
  | "gelu_3k" => some ((26829 / 200000 : ℝ) : EReal)
  | "gelu_k" => some ((8943 / 200000 : ℝ) : EReal)
  | _ => none
-- ==== MixLruRefIdeal.lean ====
abbrev S1x2048x7168 : Shape := ⟨3, ![1, 2048, 7168]⟩
abbrev S1x4x1024 : Shape := ⟨3, ![1, 4, 1024]⟩
abbrev S1x1024 : Shape := ⟨2, ![1, 1024]⟩
abbrev S1x4x256x256 : Shape := ⟨4, ![1, 4, 256, 256]⟩
abbrev S1x4x256 : Shape := ⟨3, ![1, 4, 256]⟩
abbrev S1x1024x1024 : Shape := ⟨3, ![1, 1024, 1024]⟩
abbrev S1x2048x1024 : Shape := ⟨3, ![1, 2048, 1024]⟩
abbrev S4x1024 : Shape := ⟨2, ![4, 1024]⟩
abbrev S1024 : Shape := ⟨1, ![1024]⟩
abbrev S_ : Shape := ⟨0, ![]⟩
abbrev S1x3x1024 : Shape := ⟨3, ![1, 3, 1024]⟩
abbrev S1x2051x1024 : Shape := ⟨3, ![1, 2051, 1024]⟩
abbrev S1x1x1024 : Shape := ⟨3, ![1, 1, 1024]⟩
abbrev S4x256x256 : Shape := ⟨3, ![4, 256, 256]⟩
abbrev S4x256 : Shape := ⟨2, ![4, 256]⟩
abbrev S1x2048x4x256 : Shape := ⟨4, ![1, 2048, 4, 256]⟩
abbrev S4x256x1x2048 : Shape := ⟨4, ![4, 256, 1, 2048]⟩
abbrev S1x1x4x256 : Shape := ⟨4, ![1, 1, 4, 256]⟩
abbrev S2048 : Shape := ⟨1, ![2048]⟩
abbrev S1x2048x1 : Shape := ⟨3, ![1, 2048, 1]⟩
abbrev S1x1024x2048 : Shape := ⟨3, ![1, 1024, 2048]⟩
abbrev S1x512x2048 : Shape := ⟨3, ![1, 512, 2048]⟩
abbrev S1x512x1024 : Shape := ⟨3, ![1, 512, 1024]⟩
abbrev S1x256x2048 : Shape := ⟨3, ![1, 256, 2048]⟩
abbrev S1x256x1024 : Shape := ⟨3, ![1, 256, 1024]⟩
abbrev S1x128x2048 : Shape := ⟨3, ![1, 128, 2048]⟩
abbrev S1x128x1024 : Shape := ⟨3, ![1, 128, 1024]⟩
abbrev S1x64x2048 : Shape := ⟨3, ![1, 64, 2048]⟩
abbrev S1x64x1024 : Shape := ⟨3, ![1, 64, 1024]⟩
abbrev S1x32x2048 : Shape := ⟨3, ![1, 32, 2048]⟩
abbrev S1x32x1024 : Shape := ⟨3, ![1, 32, 1024]⟩
abbrev S1x16x2048 : Shape := ⟨3, ![1, 16, 2048]⟩
abbrev S1x16x1024 : Shape := ⟨3, ![1, 16, 1024]⟩
abbrev S1x8x2048 : Shape := ⟨3, ![1, 8, 2048]⟩
abbrev S1x8x1024 : Shape := ⟨3, ![1, 8, 1024]⟩
abbrev S1x4x2048 : Shape := ⟨3, ![1, 4, 2048]⟩
abbrev S1x2x2048 : Shape := ⟨3, ![1, 2, 2048]⟩
abbrev S1x2x1024 : Shape := ⟨3, ![1, 2, 1024]⟩
abbrev S1x1x2048 : Shape := ⟨3, ![1, 1, 2048]⟩
abbrev S1x5x1024 : Shape := ⟨3, ![1, 5, 1024]⟩
abbrev S1x9x1024 : Shape := ⟨3, ![1, 9, 1024]⟩
abbrev S1x17x1024 : Shape := ⟨3, ![1, 17, 1024]⟩
abbrev S1x33x1024 : Shape := ⟨3, ![1, 33, 1024]⟩
abbrev S1x65x1024 : Shape := ⟨3, ![1, 65, 1024]⟩
abbrev S1x129x1024 : Shape := ⟨3, ![1, 129, 1024]⟩
abbrev S1x257x1024 : Shape := ⟨3, ![1, 257, 1024]⟩
abbrev S1x513x1024 : Shape := ⟨3, ![1, 513, 1024]⟩
abbrev S1x1025x1024 : Shape := ⟨3, ![1, 1025, 1024]⟩
abbrev S1024x1024 : Shape := ⟨2, ![1024, 1024]⟩
abbrev S4x1x2048x256 : Shape := ⟨4, ![4, 1, 2048, 256]⟩
abbrev S2x2048x1024 : Shape := ⟨3, ![2, 2048, 1024]⟩

abbrev nBuf : Space → Nat
  | .hbm => 889
  | .vmem => 0
  | .smem => 0
  | _ => 0

abbrev hbmTy0_0 (i : Nat) : BufTy := match i % 128 with
  | 0 => ⟨S1x2048x7168, .f32⟩
  | 1 => ⟨S1x4x1024, .f32⟩
  | 2 => ⟨S1x1024, .f32⟩
  | 3 => ⟨S1x4x256x256, .f32⟩
  | 4 => ⟨S1x4x256, .f32⟩
  | 5 => ⟨S1x4x256x256, .f32⟩
  | 6 => ⟨S1x4x256, .f32⟩
  | 7 => ⟨S1x1024, .f32⟩
  | 8 => ⟨S1x1024x1024, .f32⟩
  | 9 => ⟨S1x2048x1024, .f32⟩
  | 10 => ⟨S1x2048x1024, .f32⟩
  | 11 => ⟨S1x2048x1024, .f32⟩
  | 12 => ⟨S1x2048x1024, .f32⟩
  | 13 => ⟨S1x2048x1024, .f32⟩
  | 14 => ⟨S1x2048x1024, .f32⟩
  | 15 => ⟨S1x2048x1024, .f32⟩
  | 16 => ⟨S1x2048x1024, .f32⟩
  | 17 => ⟨S4x1024, .f32⟩
  | 18 => ⟨S1024, .f32⟩
  | 19 => ⟨S_, .f32⟩
  | 20 => ⟨S1x3x1024, .f32⟩
  | 21 => ⟨S1x2051x1024, .f32⟩
  | 22 => ⟨S_, .f32⟩
  | 23 => ⟨S1x3x1024, .f32⟩
  | 24 => ⟨S1x2048x1024, .f32⟩
  | 25 => ⟨S1x1024, .f32⟩
  | 26 => ⟨S1024, .f32⟩
  | 27 => ⟨S1x1x1024, .f32⟩
  | 28 => ⟨S1x2048x1024, .f32⟩
  | 29 => ⟨S1x2048x1024, .f32⟩
  | 30 => ⟨S1x2048x1024, .f32⟩
  | 31 => ⟨S1x1024, .f32⟩
  | 32 => ⟨S1024, .f32⟩
  | 33 => ⟨S1x1x1024, .f32⟩
  | 34 => ⟨S1x2048x1024, .f32⟩
  | 35 => ⟨S1x2048x1024, .f32⟩
  | 36 => ⟨S1x2048x1024, .f32⟩
  | 37 => ⟨S1x2048x1024, .f32⟩
  | 38 => ⟨S1x1024, .f32⟩
  | 39 => ⟨S1024, .f32⟩
  | 40 => ⟨S1x1x1024, .f32⟩
  | 41 => ⟨S1x2048x1024, .f32⟩
  | 42 => ⟨S1x2048x1024, .f32⟩
  | 43 => ⟨S1x2048x1024, .f32⟩
  | 44 => ⟨S1x2048x1024, .f32⟩
  | 45 => ⟨S1x1024, .f32⟩
  | 46 => ⟨S1024, .f32⟩
  | 47 => ⟨S1x1x1024, .f32⟩
  | 48 => ⟨S1x2048x1024, .f32⟩
  | 49 => ⟨S1x2048x1024, .f32⟩
  | 50 => ⟨S1x2048x1024, .f32⟩
  | 51 => ⟨S1x1x1024, .f32⟩
  | 52 => ⟨S1x2048x1024, .f32⟩
  | 53 => ⟨S1x2048x1024, .f32⟩
  | 54 => ⟨S4x256x256, .f32⟩
  | 55 => ⟨S4x256, .f32⟩
  | 56 => ⟨S4x256x256, .f32⟩
  | 57 => ⟨S4x256, .f32⟩
  | 58 => ⟨S1024, .f32⟩
  | 59 => ⟨S1x2048x4x256, .f32⟩
  | 60 => ⟨S4x256x1x2048, .f32⟩
  | 61 => ⟨S1x2048x4x256, .f32⟩
  | 62 => ⟨S1x1x4x256, .f32⟩
  | 63 => ⟨S1x2048x4x256, .f32⟩
  | 64 => ⟨S1x2048x4x256, .f32⟩
  | 65 => ⟨S1x2048x4x256, .f32⟩
  | 66 => ⟨S1x2048x4x256, .f32⟩
  | 67 => ⟨S_, .f32⟩
  | 68 => ⟨S1x2048x4x256, .f32⟩
  | 69 => ⟨S1x2048x4x256, .f32⟩
  | 70 => ⟨S_, .f32⟩
  | 71 => ⟨S1x2048x4x256, .f32⟩
  | 72 => ⟨S1x2048x4x256, .f32⟩
  | 73 => ⟨S_, .f32⟩
  | 74 => ⟨S1x2048x4x256, .f32⟩
  | 75 => ⟨S1x2048x4x256, .f32⟩
  | 76 => ⟨S1x2048x4x256, .f32⟩
  | 77 => ⟨S1x2048x1024, .f32⟩
  | 78 => ⟨S4x256x1x2048, .f32⟩
  | 79 => ⟨S1x2048x4x256, .f32⟩
  | 80 => ⟨S1x1x4x256, .f32⟩
  | 81 => ⟨S1x2048x4x256, .f32⟩
  | 82 => ⟨S1x2048x4x256, .f32⟩
  | 83 => ⟨S1x2048x4x256, .f32⟩
  | 84 => ⟨S1x2048x4x256, .f32⟩
  | 85 => ⟨S_, .f32⟩
  | 86 => ⟨S1x2048x4x256, .f32⟩
  | 87 => ⟨S1x2048x4x256, .f32⟩
  | 88 => ⟨S_, .f32⟩
  | 89 => ⟨S1x2048x4x256, .f32⟩
  | 90 => ⟨S1x2048x4x256, .f32⟩
  | 91 => ⟨S_, .f32⟩
  | 92 => ⟨S1x2048x4x256, .f32⟩
  | 93 => ⟨S1x2048x4x256, .f32⟩
  | 94 => ⟨S1x2048x4x256, .f32⟩
  | 95 => ⟨S1x2048x1024, .f32⟩
  | 96 => ⟨S_, .f32⟩
  | 97 => ⟨S1x2048x1024, .f32⟩
  | 98 => ⟨S1x2048x1024, .f32⟩
  | 99 => ⟨S1024, .f32⟩
  | 100 => ⟨S_, .f32⟩
  | 101 => ⟨S1024, .f32⟩
  | 102 => ⟨S1024, .f32⟩
  | 103 => ⟨S1024, .f32⟩
  | 104 => ⟨S1024, .f32⟩
  | 105 => ⟨S1024, .i1⟩
  | 106 => ⟨S1024, .f32⟩
  | 107 => ⟨S1024, .f32⟩
  | 108 => ⟨S1024, .f32⟩
  | 109 => ⟨S1024, .f32⟩
  | 110 => ⟨S1024, .f32⟩
  | 111 => ⟨S1024, .f32⟩
  | 112 => ⟨S1024, .f32⟩
  | 113 => ⟨S1024, .f32⟩
  | 114 => ⟨S_, .f32⟩
  | 115 => ⟨S1024, .f32⟩
  | 116 => ⟨S1024, .i1⟩
  | 117 => ⟨S_, .f32⟩
  | 118 => ⟨S1024, .f32⟩
  | 119 => ⟨S1024, .f32⟩
  | 120 => ⟨S_, .f32⟩
  | 121 => ⟨S1024, .f32⟩
  | 122 => ⟨S1024, .i1⟩
  | 123 => ⟨S_, .f32⟩
  | 124 => ⟨S1024, .f32⟩
  | 125 => ⟨S1024, .f32⟩
  | 126 => ⟨S1024, .f32⟩
  | 127 => ⟨S1024, .f32⟩
  | _ => ⟨S1x2048x7168, .f32⟩

abbrev hbmTy0_1 (i : Nat) : BufTy := match i % 128 with
  | 0 => ⟨S_, .f32⟩
  | 1 => ⟨S_, .f32⟩
  | 2 => ⟨S_, .i1⟩
  | 3 => ⟨S_, .f32⟩
  | 4 => ⟨S_, .f32⟩
  | 5 => ⟨S_, .f32⟩
  | 6 => ⟨S_, .f32⟩
  | 7 => ⟨S1024, .f32⟩
  | 8 => ⟨S1024, .i1⟩
  | 9 => ⟨S_, .f32⟩
  | 10 => ⟨S1024, .f32⟩
  | 11 => ⟨S1024, .f32⟩
  | 12 => ⟨S1024, .f32⟩
  | 13 => ⟨S1024, .f32⟩
  | 14 => ⟨S1024, .f32⟩
  | 15 => ⟨S_, .f32⟩
  | 16 => ⟨S1024, .f32⟩
  | 17 => ⟨S1024, .f32⟩
  | 18 => ⟨S1024, .f32⟩
  | 19 => ⟨S1x1x1024, .f32⟩
  | 20 => ⟨S1x2048x1024, .f32⟩
  | 21 => ⟨S1x2048x1024, .f32⟩
  | 22 => ⟨S1x2048x1024, .f32⟩
  | 23 => ⟨S_, .f32⟩
  | 24 => ⟨S1x2048x1024, .f32⟩
  | 25 => ⟨S1x2048x1024, .f32⟩
  | 26 => ⟨S1x2048x1024, .f32⟩
  | 27 => ⟨S1x2048x1024, .f32⟩
  | 28 => ⟨S1x2048x1024, .f32⟩
  | 29 => ⟨S1x2048x1024, .f32⟩
  | 30 => ⟨S_, .f32⟩
  | 31 => ⟨S1x2048x1024, .f32⟩
  | 32 => ⟨S1x2048x1024, .f32⟩
  | 33 => ⟨S2048, .i32⟩
  | 34 => ⟨S_, .i32⟩
  | 35 => ⟨S2048, .i32⟩
  | 36 => ⟨S2048, .i1⟩
  | 37 => ⟨S1x2048x1, .i1⟩
  | 38 => ⟨S_, .f32⟩
  | 39 => ⟨S_, .f32⟩
  | 40 => ⟨S1x2048x1024, .i1⟩
  | 41 => ⟨S1x2048x1024, .f32⟩
  | 42 => ⟨S1x2048x1024, .f32⟩
  | 43 => ⟨S_, .f32⟩
  | 44 => ⟨S1x2048x1024, .f32⟩
  | 45 => ⟨S1x2048x1024, .f32⟩
  | 46 => ⟨S1x2048x1024, .f32⟩
  | 47 => ⟨S1x1024x2048, .f32⟩
  | 48 => ⟨S1x1024x2048, .f32⟩
  | 49 => ⟨S1x1024x1024, .f32⟩
  | 50 => ⟨S1x1024x1024, .f32⟩
  | 51 => ⟨S1x1024x1024, .f32⟩
  | 52 => ⟨S1x1024x1024, .f32⟩
  | 53 => ⟨S1x1024x1024, .f32⟩
  | 54 => ⟨S1x1024x1024, .f32⟩
  | 55 => ⟨S1x1024x1024, .f32⟩
  | 56 => ⟨S1x512x2048, .f32⟩
  | 57 => ⟨S1x512x2048, .f32⟩
  | 58 => ⟨S1x512x1024, .f32⟩
  | 59 => ⟨S1x512x1024, .f32⟩
  | 60 => ⟨S1x512x1024, .f32⟩
  | 61 => ⟨S1x512x1024, .f32⟩
  | 62 => ⟨S1x512x1024, .f32⟩
  | 63 => ⟨S1x512x1024, .f32⟩
  | 64 => ⟨S1x512x1024, .f32⟩
  | 65 => ⟨S1x256x2048, .f32⟩
  | 66 => ⟨S1x256x2048, .f32⟩
  | 67 => ⟨S1x256x1024, .f32⟩
  | 68 => ⟨S1x256x1024, .f32⟩
  | 69 => ⟨S1x256x1024, .f32⟩
  | 70 => ⟨S1x256x1024, .f32⟩
  | 71 => ⟨S1x256x1024, .f32⟩
  | 72 => ⟨S1x256x1024, .f32⟩
  | 73 => ⟨S1x256x1024, .f32⟩
  | 74 => ⟨S1x128x2048, .f32⟩
  | 75 => ⟨S1x128x2048, .f32⟩
  | 76 => ⟨S1x128x1024, .f32⟩
  | 77 => ⟨S1x128x1024, .f32⟩
  | 78 => ⟨S1x128x1024, .f32⟩
  | 79 => ⟨S1x128x1024, .f32⟩
  | 80 => ⟨S1x128x1024, .f32⟩
  | 81 => ⟨S1x128x1024, .f32⟩
  | 82 => ⟨S1x128x1024, .f32⟩
  | 83 => ⟨S1x64x2048, .f32⟩
  | 84 => ⟨S1x64x2048, .f32⟩
  | 85 => ⟨S1x64x1024, .f32⟩
  | 86 => ⟨S1x64x1024, .f32⟩
  | 87 => ⟨S1x64x1024, .f32⟩
  | 88 => ⟨S1x64x1024, .f32⟩
  | 89 => ⟨S1x64x1024, .f32⟩
  | 90 => ⟨S1x64x1024, .f32⟩
  | 91 => ⟨S1x64x1024, .f32⟩
  | 92 => ⟨S1x32x2048, .f32⟩
  | 93 => ⟨S1x32x2048, .f32⟩
  | 94 => ⟨S1x32x1024, .f32⟩
  | 95 => ⟨S1x32x1024, .f32⟩
  | 96 => ⟨S1x32x1024, .f32⟩
  | 97 => ⟨S1x32x1024, .f32⟩
  | 98 => ⟨S1x32x1024, .f32⟩
  | 99 => ⟨S1x32x1024, .f32⟩
  | 100 => ⟨S1x32x1024, .f32⟩
  | 101 => ⟨S1x16x2048, .f32⟩
  | 102 => ⟨S1x16x2048, .f32⟩
  | 103 => ⟨S1x16x1024, .f32⟩
  | 104 => ⟨S1x16x1024, .f32⟩
  | 105 => ⟨S1x16x1024, .f32⟩
  | 106 => ⟨S1x16x1024, .f32⟩
  | 107 => ⟨S1x16x1024, .f32⟩
  | 108 => ⟨S1x16x1024, .f32⟩
  | 109 => ⟨S1x16x1024, .f32⟩
  | 110 => ⟨S1x8x2048, .f32⟩
  | 111 => ⟨S1x8x2048, .f32⟩
  | 112 => ⟨S1x8x1024, .f32⟩
  | 113 => ⟨S1x8x1024, .f32⟩
  | 114 => ⟨S1x8x1024, .f32⟩
  | 115 => ⟨S1x8x1024, .f32⟩
  | 116 => ⟨S1x8x1024, .f32⟩
  | 117 => ⟨S1x8x1024, .f32⟩
  | 118 => ⟨S1x8x1024, .f32⟩
  | 119 => ⟨S1x4x2048, .f32⟩
  | 120 => ⟨S1x4x2048, .f32⟩
  | 121 => ⟨S1x4x1024, .f32⟩
  | 122 => ⟨S1x4x1024, .f32⟩
  | 123 => ⟨S1x4x1024, .f32⟩
  | 124 => ⟨S1x4x1024, .f32⟩
  | 125 => ⟨S1x4x1024, .f32⟩
  | 126 => ⟨S1x4x1024, .f32⟩
  | 127 => ⟨S1x4x1024, .f32⟩
  | _ => ⟨S1x2048x7168, .f32⟩

abbrev hbmTy0_2 (i : Nat) : BufTy := match i % 128 with
  | 0 => ⟨S1x2x2048, .f32⟩
  | 1 => ⟨S1x2x2048, .f32⟩
  | 2 => ⟨S1x2x1024, .f32⟩
  | 3 => ⟨S1x2x1024, .f32⟩
  | 4 => ⟨S1x2x1024, .f32⟩
  | 5 => ⟨S1x2x1024, .f32⟩
  | 6 => ⟨S1x2x1024, .f32⟩
  | 7 => ⟨S1x2x1024, .f32⟩
  | 8 => ⟨S1x2x1024, .f32⟩
  | 9 => ⟨S1x1x2048, .f32⟩
  | 10 => ⟨S1x1x2048, .f32⟩
  | 11 => ⟨S1x1x1024, .f32⟩
  | 12 => ⟨S1x1x1024, .f32⟩
  | 13 => ⟨S1x1x1024, .f32⟩
  | 14 => ⟨S1x1x1024, .f32⟩
  | 15 => ⟨S1x1x1024, .f32⟩
  | 16 => ⟨S1x1x1024, .f32⟩
  | 17 => ⟨S1x1x1024, .f32⟩
  | 18 => ⟨S_, .f32⟩
  | 19 => ⟨S1x1x1024, .f32⟩
  | 20 => ⟨S1x2x1024, .f32⟩
  | 21 => ⟨S_, .f32⟩
  | 22 => ⟨S1x1x1024, .f32⟩
  | 23 => ⟨S1x1x1024, .f32⟩
  | 24 => ⟨S1x1x1024, .f32⟩
  | 25 => ⟨S1x1x1024, .f32⟩
  | 26 => ⟨S1x1x2048, .f32⟩
  | 27 => ⟨S1x2x1024, .f32⟩
  | 28 => ⟨S_, .f32⟩
  | 29 => ⟨S1x1x1024, .f32⟩
  | 30 => ⟨S1x3x1024, .f32⟩
  | 31 => ⟨S_, .f32⟩
  | 32 => ⟨S1x1x1024, .f32⟩
  | 33 => ⟨S1x2x1024, .f32⟩
  | 34 => ⟨S1x2x1024, .f32⟩
  | 35 => ⟨S1x2x1024, .f32⟩
  | 36 => ⟨S1x2x2048, .f32⟩
  | 37 => ⟨S1x4x1024, .f32⟩
  | 38 => ⟨S_, .f32⟩
  | 39 => ⟨S1x1x1024, .f32⟩
  | 40 => ⟨S1x5x1024, .f32⟩
  | 41 => ⟨S_, .f32⟩
  | 42 => ⟨S1x1x1024, .f32⟩
  | 43 => ⟨S1x4x1024, .f32⟩
  | 44 => ⟨S1x4x1024, .f32⟩
  | 45 => ⟨S1x4x1024, .f32⟩
  | 46 => ⟨S1x4x2048, .f32⟩
  | 47 => ⟨S1x8x1024, .f32⟩
  | 48 => ⟨S_, .f32⟩
  | 49 => ⟨S1x1x1024, .f32⟩
  | 50 => ⟨S1x9x1024, .f32⟩
  | 51 => ⟨S_, .f32⟩
  | 52 => ⟨S1x1x1024, .f32⟩
  | 53 => ⟨S1x8x1024, .f32⟩
  | 54 => ⟨S1x8x1024, .f32⟩
  | 55 => ⟨S1x8x1024, .f32⟩
  | 56 => ⟨S1x8x2048, .f32⟩
  | 57 => ⟨S1x16x1024, .f32⟩
  | 58 => ⟨S_, .f32⟩
  | 59 => ⟨S1x1x1024, .f32⟩
  | 60 => ⟨S1x17x1024, .f32⟩
  | 61 => ⟨S_, .f32⟩
  | 62 => ⟨S1x1x1024, .f32⟩
  | 63 => ⟨S1x16x1024, .f32⟩
  | 64 => ⟨S1x16x1024, .f32⟩
  | 65 => ⟨S1x16x1024, .f32⟩
  | 66 => ⟨S1x16x2048, .f32⟩
  | 67 => ⟨S1x32x1024, .f32⟩
  | 68 => ⟨S_, .f32⟩
  | 69 => ⟨S1x1x1024, .f32⟩
  | 70 => ⟨S1x33x1024, .f32⟩
  | 71 => ⟨S_, .f32⟩
  | 72 => ⟨S1x1x1024, .f32⟩
  | 73 => ⟨S1x32x1024, .f32⟩
  | 74 => ⟨S1x32x1024, .f32⟩
  | 75 => ⟨S1x32x1024, .f32⟩
  | 76 => ⟨S1x32x2048, .f32⟩
  | 77 => ⟨S1x64x1024, .f32⟩
  | 78 => ⟨S_, .f32⟩
  | 79 => ⟨S1x1x1024, .f32⟩
  | 80 => ⟨S1x65x1024, .f32⟩
  | 81 => ⟨S_, .f32⟩
  | 82 => ⟨S1x1x1024, .f32⟩
  | 83 => ⟨S1x64x1024, .f32⟩
  | 84 => ⟨S1x64x1024, .f32⟩
  | 85 => ⟨S1x64x1024, .f32⟩
  | 86 => ⟨S1x64x2048, .f32⟩
  | 87 => ⟨S1x128x1024, .f32⟩
  | 88 => ⟨S_, .f32⟩
  | 89 => ⟨S1x1x1024, .f32⟩
  | 90 => ⟨S1x129x1024, .f32⟩
  | 91 => ⟨S_, .f32⟩
  | 92 => ⟨S1x1x1024, .f32⟩
  | 93 => ⟨S1x128x1024, .f32⟩
  | 94 => ⟨S1x128x1024, .f32⟩
  | 95 => ⟨S1x128x1024, .f32⟩
  | 96 => ⟨S1x128x2048, .f32⟩
  | 97 => ⟨S1x256x1024, .f32⟩
  | 98 => ⟨S_, .f32⟩
  | 99 => ⟨S1x1x1024, .f32⟩
  | 100 => ⟨S1x257x1024, .f32⟩
  | 101 => ⟨S_, .f32⟩
  | 102 => ⟨S1x1x1024, .f32⟩
  | 103 => ⟨S1x256x1024, .f32⟩
  | 104 => ⟨S1x256x1024, .f32⟩
  | 105 => ⟨S1x256x1024, .f32⟩
  | 106 => ⟨S1x256x2048, .f32⟩
  | 107 => ⟨S1x512x1024, .f32⟩
  | 108 => ⟨S_, .f32⟩
  | 109 => ⟨S1x1x1024, .f32⟩
  | 110 => ⟨S1x513x1024, .f32⟩
  | 111 => ⟨S_, .f32⟩
  | 112 => ⟨S1x1x1024, .f32⟩
  | 113 => ⟨S1x512x1024, .f32⟩
  | 114 => ⟨S1x512x1024, .f32⟩
  | 115 => ⟨S1x512x1024, .f32⟩
  | 116 => ⟨S1x512x2048, .f32⟩
  | 117 => ⟨S1x1024x1024, .f32⟩
  | 118 => ⟨S_, .f32⟩
  | 119 => ⟨S1x1x1024, .f32⟩
  | 120 => ⟨S1x1025x1024, .f32⟩
  | 121 => ⟨S_, .f32⟩
  | 122 => ⟨S1x1x1024, .f32⟩
  | 123 => ⟨S1x1024x1024, .f32⟩
  | 124 => ⟨S1x1024x1024, .f32⟩
  | 125 => ⟨S1x1024x1024, .f32⟩
  | 126 => ⟨S1x1024x2048, .f32⟩
  | 127 => ⟨S1x2048x1024, .f32⟩
  | _ => ⟨S1x2048x7168, .f32⟩

abbrev hbmTy0_3 (i : Nat) : BufTy := match i % 128 with
  | 0 => ⟨S_, .f32⟩
  | 1 => ⟨S_, .f32⟩
  | 2 => ⟨S_, .f32⟩
  | 3 => ⟨S1x2048x1024, .f32⟩
  | 4 => ⟨S1x2048x1024, .f32⟩
  | 5 => ⟨S1x2048x1024, .f32⟩
  | 6 => ⟨S_, .f32⟩
  | 7 => ⟨S1x2048x1024, .f32⟩
  | 8 => ⟨S1x2048x1024, .f32⟩
  | 9 => ⟨S1x2048x1024, .f32⟩
  | 10 => ⟨S1x2048x1024, .f32⟩
  | 11 => ⟨S1x2048x1024, .f32⟩
  | 12 => ⟨S_, .f32⟩
  | 13 => ⟨S1x2048x1024, .f32⟩
  | 14 => ⟨S1x2048x1024, .f32⟩
  | 15 => ⟨S1x2048x1024, .f32⟩
  | 16 => ⟨S_, .f32⟩
  | 17 => ⟨S1x2048x1024, .f32⟩
  | 18 => ⟨S1x2048x1024, .f32⟩
  | 19 => ⟨S_, .f32⟩
  | 20 => ⟨S1x2048x1024, .f32⟩
  | 21 => ⟨S1x2048x1024, .f32⟩
  | 22 => ⟨S1x2048x1024, .f32⟩
  | 23 => ⟨S_, .f32⟩
  | 24 => ⟨S1x2048x1024, .f32⟩
  | 25 => ⟨S1x2048x1024, .f32⟩
  | 26 => ⟨S_, .f32⟩
  | 27 => ⟨S1x2048x1024, .f32⟩
  | 28 => ⟨S1x2048x1024, .f32⟩
  | 29 => ⟨S1x2048x1024, .f32⟩
  | 30 => ⟨S1x2048x1024, .f32⟩
  | 31 => ⟨S1024x1024, .f32⟩
  | 32 => ⟨S1x2048x1024, .f32⟩
  | 33 => ⟨S1024x1024, .f32⟩
  | 34 => ⟨S1024x1024, .f32⟩
  | 35 => ⟨S1x2048x1024, .f32⟩
  | 36 => ⟨S1x1024x1024, .f32⟩
  | 37 => ⟨S1x2048x1024, .f32⟩
  | 38 => ⟨S1x2048x1024, .f32⟩
  | 39 => ⟨S1x2048x1024, .f32⟩
  | 40 => ⟨S1x2048x1024, .f32⟩
  | 41 => ⟨S_, .f32⟩
  | 42 => ⟨S1x2048x1024, .f32⟩
  | 43 => ⟨S1x2048x1024, .f32⟩
  | 44 => ⟨S1x2048x1024, .f32⟩
  | 45 => ⟨S_, .f32⟩
  | 46 => ⟨S1x2048x1024, .f32⟩
  | 47 => ⟨S1x2048x1024, .f32⟩
  | 48 => ⟨S1x2048x1024, .f32⟩
  | 49 => ⟨S1x2048x1024, .f32⟩
  | 50 => ⟨S1x2048x1024, .f32⟩
  | 51 => ⟨S1x2048x1024, .f32⟩
  | 52 => ⟨S1x2048x1024, .f32⟩
  | 53 => ⟨S1x1024x2048, .f32⟩
  | 54 => ⟨S1x1024x1024, .f32⟩
  | 55 => ⟨S1x1024x1024, .f32⟩
  | 56 => ⟨S1x1024x1024, .f32⟩
  | 57 => ⟨S1x1024x1024, .f32⟩
  | 58 => ⟨S_, .f32⟩
  | 59 => ⟨S1x1025x1024, .f32⟩
  | 60 => ⟨S1x1x1024, .f32⟩
  | 61 => ⟨S1x1024x1024, .f32⟩
  | 62 => ⟨S1x1024x1024, .f32⟩
  | 63 => ⟨S1x512x2048, .f32⟩
  | 64 => ⟨S1x512x1024, .f32⟩
  | 65 => ⟨S1x512x1024, .f32⟩
  | 66 => ⟨S1x512x1024, .f32⟩
  | 67 => ⟨S1x512x1024, .f32⟩
  | 68 => ⟨S_, .f32⟩
  | 69 => ⟨S1x513x1024, .f32⟩
  | 70 => ⟨S1x1x1024, .f32⟩
  | 71 => ⟨S1x512x1024, .f32⟩
  | 72 => ⟨S1x512x1024, .f32⟩
  | 73 => ⟨S1x256x2048, .f32⟩
  | 74 => ⟨S1x256x1024, .f32⟩
  | 75 => ⟨S1x256x1024, .f32⟩
  | 76 => ⟨S1x256x1024, .f32⟩
  | 77 => ⟨S1x256x1024, .f32⟩
  | 78 => ⟨S_, .f32⟩
  | 79 => ⟨S1x257x1024, .f32⟩
  | 80 => ⟨S1x1x1024, .f32⟩
  | 81 => ⟨S1x256x1024, .f32⟩
  | 82 => ⟨S1x256x1024, .f32⟩
  | 83 => ⟨S1x128x2048, .f32⟩
  | 84 => ⟨S1x128x1024, .f32⟩
  | 85 => ⟨S1x128x1024, .f32⟩
  | 86 => ⟨S1x128x1024, .f32⟩
  | 87 => ⟨S1x128x1024, .f32⟩
  | 88 => ⟨S_, .f32⟩
  | 89 => ⟨S1x129x1024, .f32⟩
  | 90 => ⟨S1x1x1024, .f32⟩
  | 91 => ⟨S1x128x1024, .f32⟩
  | 92 => ⟨S1x128x1024, .f32⟩
  | 93 => ⟨S1x64x2048, .f32⟩
  | 94 => ⟨S1x64x1024, .f32⟩
  | 95 => ⟨S1x64x1024, .f32⟩
  | 96 => ⟨S1x64x1024, .f32⟩
  | 97 => ⟨S1x64x1024, .f32⟩
  | 98 => ⟨S_, .f32⟩
  | 99 => ⟨S1x65x1024, .f32⟩
  | 100 => ⟨S1x1x1024, .f32⟩
  | 101 => ⟨S1x64x1024, .f32⟩
  | 102 => ⟨S1x64x1024, .f32⟩
  | 103 => ⟨S1x32x2048, .f32⟩
  | 104 => ⟨S1x32x1024, .f32⟩
  | 105 => ⟨S1x32x1024, .f32⟩
  | 106 => ⟨S1x32x1024, .f32⟩
  | 107 => ⟨S1x32x1024, .f32⟩
  | 108 => ⟨S_, .f32⟩
  | 109 => ⟨S1x33x1024, .f32⟩
  | 110 => ⟨S1x1x1024, .f32⟩
  | 111 => ⟨S1x32x1024, .f32⟩
  | 112 => ⟨S1x32x1024, .f32⟩
  | 113 => ⟨S1x16x2048, .f32⟩
  | 114 => ⟨S1x16x1024, .f32⟩
  | 115 => ⟨S1x16x1024, .f32⟩
  | 116 => ⟨S1x16x1024, .f32⟩
  | 117 => ⟨S1x16x1024, .f32⟩
  | 118 => ⟨S_, .f32⟩
  | 119 => ⟨S1x17x1024, .f32⟩
  | 120 => ⟨S1x1x1024, .f32⟩
  | 121 => ⟨S1x16x1024, .f32⟩
  | 122 => ⟨S1x16x1024, .f32⟩
  | 123 => ⟨S1x8x2048, .f32⟩
  | 124 => ⟨S1x8x1024, .f32⟩
  | 125 => ⟨S1x8x1024, .f32⟩
  | 126 => ⟨S1x8x1024, .f32⟩
  | 127 => ⟨S1x8x1024, .f32⟩
  | _ => ⟨S1x2048x7168, .f32⟩

abbrev hbmTy0_4 (i : Nat) : BufTy := match i % 128 with
  | 0 => ⟨S_, .f32⟩
  | 1 => ⟨S1x9x1024, .f32⟩
  | 2 => ⟨S1x1x1024, .f32⟩
  | 3 => ⟨S1x8x1024, .f32⟩
  | 4 => ⟨S1x8x1024, .f32⟩
  | 5 => ⟨S1x4x2048, .f32⟩
  | 6 => ⟨S1x4x1024, .f32⟩
  | 7 => ⟨S1x4x1024, .f32⟩
  | 8 => ⟨S1x4x1024, .f32⟩
  | 9 => ⟨S1x4x1024, .f32⟩
  | 10 => ⟨S_, .f32⟩
  | 11 => ⟨S1x5x1024, .f32⟩
  | 12 => ⟨S1x1x1024, .f32⟩
  | 13 => ⟨S1x4x1024, .f32⟩
  | 14 => ⟨S1x4x1024, .f32⟩
  | 15 => ⟨S1x2x2048, .f32⟩
  | 16 => ⟨S1x2x1024, .f32⟩
  | 17 => ⟨S1x2x1024, .f32⟩
  | 18 => ⟨S1x2x1024, .f32⟩
  | 19 => ⟨S1x2x1024, .f32⟩
  | 20 => ⟨S_, .f32⟩
  | 21 => ⟨S1x3x1024, .f32⟩
  | 22 => ⟨S1x1x1024, .f32⟩
  | 23 => ⟨S1x2x1024, .f32⟩
  | 24 => ⟨S1x2x1024, .f32⟩
  | 25 => ⟨S1x1x2048, .f32⟩
  | 26 => ⟨S1x1x1024, .f32⟩
  | 27 => ⟨S1x1x1024, .f32⟩
  | 28 => ⟨S1x1x1024, .f32⟩
  | 29 => ⟨S1x1x1024, .f32⟩
  | 30 => ⟨S_, .f32⟩
  | 31 => ⟨S1x2x1024, .f32⟩
  | 32 => ⟨S1x1x1024, .f32⟩
  | 33 => ⟨S1x1x1024, .f32⟩
  | 34 => ⟨S1x1x1024, .f32⟩
  | 35 => ⟨S1x1x1024, .f32⟩
  | 36 => ⟨S1x1x1024, .f32⟩
  | 37 => ⟨S1x1x1024, .f32⟩
  | 38 => ⟨S_, .f32⟩
  | 39 => ⟨S1x1x2048, .f32⟩
  | 40 => ⟨S_, .f32⟩
  | 41 => ⟨S1x1x2048, .f32⟩
  | 42 => ⟨S1x1x2048, .f32⟩
  | 43 => ⟨S_, .f32⟩
  | 44 => ⟨S1x1x2048, .f32⟩
  | 45 => ⟨S_, .f32⟩
  | 46 => ⟨S1x1x2048, .f32⟩
  | 47 => ⟨S1x1x2048, .f32⟩
  | 48 => ⟨S1x2x1024, .f32⟩
  | 49 => ⟨S1x2x1024, .f32⟩
  | 50 => ⟨S1x2x1024, .f32⟩
  | 51 => ⟨S1x2x1024, .f32⟩
  | 52 => ⟨S1x2x1024, .f32⟩
  | 53 => ⟨S1x2x1024, .f32⟩
  | 54 => ⟨S1x2x1024, .f32⟩
  | 55 => ⟨S1x2x1024, .f32⟩
  | 56 => ⟨S1x2x1024, .f32⟩
  | 57 => ⟨S_, .f32⟩
  | 58 => ⟨S1x2x2048, .f32⟩
  | 59 => ⟨S_, .f32⟩
  | 60 => ⟨S1x2x2048, .f32⟩
  | 61 => ⟨S1x2x2048, .f32⟩
  | 62 => ⟨S_, .f32⟩
  | 63 => ⟨S1x2x2048, .f32⟩
  | 64 => ⟨S_, .f32⟩
  | 65 => ⟨S1x2x2048, .f32⟩
  | 66 => ⟨S1x2x2048, .f32⟩
  | 67 => ⟨S1x4x1024, .f32⟩
  | 68 => ⟨S1x4x1024, .f32⟩
  | 69 => ⟨S1x4x1024, .f32⟩
  | 70 => ⟨S1x4x1024, .f32⟩
  | 71 => ⟨S1x4x1024, .f32⟩
  | 72 => ⟨S1x4x1024, .f32⟩
  | 73 => ⟨S1x4x1024, .f32⟩
  | 74 => ⟨S1x4x1024, .f32⟩
  | 75 => ⟨S1x4x1024, .f32⟩
  | 76 => ⟨S_, .f32⟩
  | 77 => ⟨S1x4x2048, .f32⟩
  | 78 => ⟨S_, .f32⟩
  | 79 => ⟨S1x4x2048, .f32⟩
  | 80 => ⟨S1x4x2048, .f32⟩
  | 81 => ⟨S_, .f32⟩
  | 82 => ⟨S1x4x2048, .f32⟩
  | 83 => ⟨S_, .f32⟩
  | 84 => ⟨S1x4x2048, .f32⟩
  | 85 => ⟨S1x4x2048, .f32⟩
  | 86 => ⟨S1x8x1024, .f32⟩
  | 87 => ⟨S1x8x1024, .f32⟩
  | 88 => ⟨S1x8x1024, .f32⟩
  | 89 => ⟨S1x8x1024, .f32⟩
  | 90 => ⟨S1x8x1024, .f32⟩
  | 91 => ⟨S1x8x1024, .f32⟩
  | 92 => ⟨S1x8x1024, .f32⟩
  | 93 => ⟨S1x8x1024, .f32⟩
  | 94 => ⟨S1x8x1024, .f32⟩
  | 95 => ⟨S_, .f32⟩
  | 96 => ⟨S1x8x2048, .f32⟩
  | 97 => ⟨S_, .f32⟩
  | 98 => ⟨S1x8x2048, .f32⟩
  | 99 => ⟨S1x8x2048, .f32⟩
  | 100 => ⟨S_, .f32⟩
  | 101 => ⟨S1x8x2048, .f32⟩
  | 102 => ⟨S_, .f32⟩
  | 103 => ⟨S1x8x2048, .f32⟩
  | 104 => ⟨S1x8x2048, .f32⟩
  | 105 => ⟨S1x16x1024, .f32⟩
  | 106 => ⟨S1x16x1024, .f32⟩
  | 107 => ⟨S1x16x1024, .f32⟩
  | 108 => ⟨S1x16x1024, .f32⟩
  | 109 => ⟨S1x16x1024, .f32⟩
  | 110 => ⟨S1x16x1024, .f32⟩
  | 111 => ⟨S1x16x1024, .f32⟩
  | 112 => ⟨S1x16x1024, .f32⟩
  | 113 => ⟨S1x16x1024, .f32⟩
  | 114 => ⟨S_, .f32⟩
  | 115 => ⟨S1x16x2048, .f32⟩
  | 116 => ⟨S_, .f32⟩
  | 117 => ⟨S1x16x2048, .f32⟩
  | 118 => ⟨S1x16x2048, .f32⟩
  | 119 => ⟨S_, .f32⟩
  | 120 => ⟨S1x16x2048, .f32⟩
  | 121 => ⟨S_, .f32⟩
  | 122 => ⟨S1x16x2048, .f32⟩
  | 123 => ⟨S1x16x2048, .f32⟩
  | 124 => ⟨S1x32x1024, .f32⟩
  | 125 => ⟨S1x32x1024, .f32⟩
  | 126 => ⟨S1x32x1024, .f32⟩
  | 127 => ⟨S1x32x1024, .f32⟩
  | _ => ⟨S1x2048x7168, .f32⟩

abbrev hbmTy0_5 (i : Nat) : BufTy := match i % 128 with
  | 0 => ⟨S1x32x1024, .f32⟩
  | 1 => ⟨S1x32x1024, .f32⟩
  | 2 => ⟨S1x32x1024, .f32⟩
  | 3 => ⟨S1x32x1024, .f32⟩
  | 4 => ⟨S1x32x1024, .f32⟩
  | 5 => ⟨S_, .f32⟩
  | 6 => ⟨S1x32x2048, .f32⟩
  | 7 => ⟨S_, .f32⟩
  | 8 => ⟨S1x32x2048, .f32⟩
  | 9 => ⟨S1x32x2048, .f32⟩
  | 10 => ⟨S_, .f32⟩
  | 11 => ⟨S1x32x2048, .f32⟩
  | 12 => ⟨S_, .f32⟩
  | 13 => ⟨S1x32x2048, .f32⟩
  | 14 => ⟨S1x32x2048, .f32⟩
  | 15 => ⟨S1x64x1024, .f32⟩
  | 16 => ⟨S1x64x1024, .f32⟩
  | 17 => ⟨S1x64x1024, .f32⟩
  | 18 => ⟨S1x64x1024, .f32⟩
  | 19 => ⟨S1x64x1024, .f32⟩
  | 20 => ⟨S1x64x1024, .f32⟩
  | 21 => ⟨S1x64x1024, .f32⟩
  | 22 => ⟨S1x64x1024, .f32⟩
  | 23 => ⟨S1x64x1024, .f32⟩
  | 24 => ⟨S_, .f32⟩
  | 25 => ⟨S1x64x2048, .f32⟩
  | 26 => ⟨S_, .f32⟩
  | 27 => ⟨S1x64x2048, .f32⟩
  | 28 => ⟨S1x64x2048, .f32⟩
  | 29 => ⟨S_, .f32⟩
  | 30 => ⟨S1x64x2048, .f32⟩
  | 31 => ⟨S_, .f32⟩
  | 32 => ⟨S1x64x2048, .f32⟩
  | 33 => ⟨S1x64x2048, .f32⟩
  | 34 => ⟨S1x128x1024, .f32⟩
  | 35 => ⟨S1x128x1024, .f32⟩
  | 36 => ⟨S1x128x1024, .f32⟩
  | 37 => ⟨S1x128x1024, .f32⟩
  | 38 => ⟨S1x128x1024, .f32⟩
  | 39 => ⟨S1x128x1024, .f32⟩
  | 40 => ⟨S1x128x1024, .f32⟩
  | 41 => ⟨S1x128x1024, .f32⟩
  | 42 => ⟨S1x128x1024, .f32⟩
  | 43 => ⟨S_, .f32⟩
  | 44 => ⟨S1x128x2048, .f32⟩
  | 45 => ⟨S_, .f32⟩
  | 46 => ⟨S1x128x2048, .f32⟩
  | 47 => ⟨S1x128x2048, .f32⟩
  | 48 => ⟨S_, .f32⟩
  | 49 => ⟨S1x128x2048, .f32⟩
  | 50 => ⟨S_, .f32⟩
  | 51 => ⟨S1x128x2048, .f32⟩
  | 52 => ⟨S1x128x2048, .f32⟩
  | 53 => ⟨S1x256x1024, .f32⟩
  | 54 => ⟨S1x256x1024, .f32⟩
  | 55 => ⟨S1x256x1024, .f32⟩
  | 56 => ⟨S1x256x1024, .f32⟩
  | 57 => ⟨S1x256x1024, .f32⟩
  | 58 => ⟨S1x256x1024, .f32⟩
  | 59 => ⟨S1x256x1024, .f32⟩
  | 60 => ⟨S1x256x1024, .f32⟩
  | 61 => ⟨S1x256x1024, .f32⟩
  | 62 => ⟨S_, .f32⟩
  | 63 => ⟨S1x256x2048, .f32⟩
  | 64 => ⟨S_, .f32⟩
  | 65 => ⟨S1x256x2048, .f32⟩
  | 66 => ⟨S1x256x2048, .f32⟩
  | 67 => ⟨S_, .f32⟩
  | 68 => ⟨S1x256x2048, .f32⟩
  | 69 => ⟨S_, .f32⟩
  | 70 => ⟨S1x256x2048, .f32⟩
  | 71 => ⟨S1x256x2048, .f32⟩
  | 72 => ⟨S1x512x1024, .f32⟩
  | 73 => ⟨S1x512x1024, .f32⟩
  | 74 => ⟨S1x512x1024, .f32⟩
  | 75 => ⟨S1x512x1024, .f32⟩
  | 76 => ⟨S1x512x1024, .f32⟩
  | 77 => ⟨S1x512x1024, .f32⟩
  | 78 => ⟨S1x512x1024, .f32⟩
  | 79 => ⟨S1x512x1024, .f32⟩
  | 80 => ⟨S1x512x1024, .f32⟩
  | 81 => ⟨S_, .f32⟩
  | 82 => ⟨S1x512x2048, .f32⟩
  | 83 => ⟨S_, .f32⟩
  | 84 => ⟨S1x512x2048, .f32⟩
  | 85 => ⟨S1x512x2048, .f32⟩
  | 86 => ⟨S_, .f32⟩
  | 87 => ⟨S1x512x2048, .f32⟩
  | 88 => ⟨S_, .f32⟩
  | 89 => ⟨S1x512x2048, .f32⟩
  | 90 => ⟨S1x512x2048, .f32⟩
  | 91 => ⟨S1x1024x1024, .f32⟩
  | 92 => ⟨S1x1024x1024, .f32⟩
  | 93 => ⟨S1x1024x1024, .f32⟩
  | 94 => ⟨S1x1024x1024, .f32⟩
  | 95 => ⟨S1x1024x1024, .f32⟩
  | 96 => ⟨S1x1024x1024, .f32⟩
  | 97 => ⟨S1x1024x1024, .f32⟩
  | 98 => ⟨S1x1024x1024, .f32⟩
  | 99 => ⟨S1x1024x1024, .f32⟩
  | 100 => ⟨S_, .f32⟩
  | 101 => ⟨S1x1024x2048, .f32⟩
  | 102 => ⟨S_, .f32⟩
  | 103 => ⟨S1x1024x2048, .f32⟩
  | 104 => ⟨S1x1024x2048, .f32⟩
  | 105 => ⟨S_, .f32⟩
  | 106 => ⟨S1x1024x2048, .f32⟩
  | 107 => ⟨S_, .f32⟩
  | 108 => ⟨S1x1024x2048, .f32⟩
  | 109 => ⟨S1x1024x2048, .f32⟩
  | 110 => ⟨S1x2048x1024, .f32⟩
  | 111 => ⟨S1x2048x1024, .f32⟩
  | 112 => ⟨S1x2048x1024, .f32⟩
  | 113 => ⟨S1x2048x1024, .f32⟩
  | 114 => ⟨S1x2048x1024, .f32⟩
  | 115 => ⟨S1x2048x1024, .f32⟩
  | 116 => ⟨S_, .f32⟩
  | 117 => ⟨S1x2048x1024, .f32⟩
  | 118 => ⟨S1x2048x1024, .f32⟩
  | 119 => ⟨S1x2048x1024, .f32⟩
  | 120 => ⟨S1x2048x1024, .f32⟩
  | 121 => ⟨S1x2048x1024, .f32⟩
  | 122 => ⟨S_, .f32⟩
  | 123 => ⟨S1x2048x1024, .f32⟩
  | 124 => ⟨S1x2048x1024, .f32⟩
  | 125 => ⟨S1x2048x1024, .f32⟩
  | 126 => ⟨S1x2048x1024, .f32⟩
  | 127 => ⟨S1x2048x1024, .f32⟩
  | _ => ⟨S1x2048x7168, .f32⟩

abbrev hbmTy0_6 (i : Nat) : BufTy := match i % 128 with
  | 0 => ⟨S_, .f32⟩
  | 1 => ⟨S1x1024, .f32⟩
  | 2 => ⟨S1x1x1024, .f32⟩
  | 3 => ⟨S1x2048x1024, .f32⟩
  | 4 => ⟨S1x2048x1024, .f32⟩
  | 5 => ⟨S_, .f32⟩
  | 6 => ⟨S1024, .f32⟩
  | 7 => ⟨S1024, .f32⟩
  | 8 => ⟨S1024, .f32⟩
  | 9 => ⟨S1024, .f32⟩
  | 10 => ⟨S_, .f32⟩
  | 11 => ⟨S1x2048x1024, .f32⟩
  | 12 => ⟨S1x2048x1024, .f32⟩
  | 13 => ⟨S1x2048x4x256, .f32⟩
  | 14 => ⟨S1x2048x4x256, .f32⟩
  | 15 => ⟨S_, .f32⟩
  | 16 => ⟨S1x4x256, .f32⟩
  | 17 => ⟨S1x1x4x256, .f32⟩
  | 18 => ⟨S_, .f32⟩
  | 19 => ⟨S4x256, .f32⟩
  | 20 => ⟨S4x256x1x2048, .f32⟩
  | 21 => ⟨S4x1x2048x256, .f32⟩
  | 22 => ⟨S1x2048x4x256, .f32⟩
  | 23 => ⟨S4x256x256, .f32⟩
  | 24 => ⟨S4x256x256, .f32⟩
  | 25 => ⟨S1x2048x4x256, .f32⟩
  | 26 => ⟨S1x2048x4x256, .f32⟩
  | 27 => ⟨S_, .f32⟩
  | 28 => ⟨S1x4x256, .f32⟩
  | 29 => ⟨S1x1x4x256, .f32⟩
  | 30 => ⟨S_, .f32⟩
  | 31 => ⟨S4x256, .f32⟩
  | 32 => ⟨S4x256x1x2048, .f32⟩
  | 33 => ⟨S4x1x2048x256, .f32⟩
  | 34 => ⟨S1x2048x4x256, .f32⟩
  | 35 => ⟨S1x2048x4x256, .f32⟩
  | 36 => ⟨S4x256x256, .f32⟩
  | 37 => ⟨S4x256x256, .f32⟩
  | 38 => ⟨S1x2048x1024, .f32⟩
  | 39 => ⟨S1x2048x1024, .f32⟩
  | 40 => ⟨S1x1024, .f32⟩
  | 41 => ⟨S1x4x256, .f32⟩
  | 42 => ⟨S1x4x256x256, .f32⟩
  | 43 => ⟨S1x4x256, .f32⟩
  | 44 => ⟨S1x4x256x256, .f32⟩
  | 45 => ⟨S_, .f32⟩
  | 46 => ⟨S1x1024, .f32⟩
  | 47 => ⟨S1x1x1024, .f32⟩
  | 48 => ⟨S_, .f32⟩
  | 49 => ⟨S1024, .f32⟩
  | 50 => ⟨S1x2048x1024, .f32⟩
  | 51 => ⟨S_, .f32⟩
  | 52 => ⟨S1x1024, .f32⟩
  | 53 => ⟨S1x1x1024, .f32⟩
  | 54 => ⟨S1x2048x1024, .f32⟩
  | 55 => ⟨S1x2048x1024, .f32⟩
  | 56 => ⟨S_, .f32⟩
  | 57 => ⟨S1024, .f32⟩
  | 58 => ⟨S1x1024, .f32⟩
  | 59 => ⟨S_, .f32⟩
  | 60 => ⟨S4x1024, .f32⟩
  | 61 => ⟨S_, .f32⟩
  | 62 => ⟨S1x2051x1024, .f32⟩
  | 63 => ⟨S1x2048x1024, .f32⟩
  | 64 => ⟨S_, .f32⟩
  | 65 => ⟨S1x1024, .f32⟩
  | 66 => ⟨S1x1x1024, .f32⟩
  | 67 => ⟨S1x2048x1024, .f32⟩
  | 68 => ⟨S1x2048x1024, .f32⟩
  | 69 => ⟨S_, .f32⟩
  | 70 => ⟨S1024, .f32⟩
  | 71 => ⟨S1x1024, .f32⟩
  | 72 => ⟨S_, .f32⟩
  | 73 => ⟨S4x1024, .f32⟩
  | 74 => ⟨S4x1024, .f32⟩
  | 75 => ⟨S_, .f32⟩
  | 76 => ⟨S1x2051x1024, .f32⟩
  | 77 => ⟨S1x2051x1024, .f32⟩
  | 78 => ⟨S1x2048x1024, .f32⟩
  | 79 => ⟨S_, .f32⟩
  | 80 => ⟨S1x1024, .f32⟩
  | 81 => ⟨S1x1x1024, .f32⟩
  | 82 => ⟨S1x2048x1024, .f32⟩
  | 83 => ⟨S1x2048x1024, .f32⟩
  | 84 => ⟨S_, .f32⟩
  | 85 => ⟨S1024, .f32⟩
  | 86 => ⟨S1x1024, .f32⟩
  | 87 => ⟨S_, .f32⟩
  | 88 => ⟨S4x1024, .f32⟩
  | 89 => ⟨S4x1024, .f32⟩
  | 90 => ⟨S_, .f32⟩
  | 91 => ⟨S1x2051x1024, .f32⟩
  | 92 => ⟨S1x2051x1024, .f32⟩
  | 93 => ⟨S1x2048x1024, .f32⟩
  | 94 => ⟨S_, .f32⟩
  | 95 => ⟨S1x1024, .f32⟩
  | 96 => ⟨S1x1x1024, .f32⟩
  | 97 => ⟨S1x2048x1024, .f32⟩
  | 98 => ⟨S1x2048x1024, .f32⟩
  | 99 => ⟨S_, .f32⟩
  | 100 => ⟨S1024, .f32⟩
  | 101 => ⟨S1x1024, .f32⟩
  | 102 => ⟨S_, .f32⟩
  | 103 => ⟨S4x1024, .f32⟩
  | 104 => ⟨S4x1024, .f32⟩
  | 105 => ⟨S_, .f32⟩
  | 106 => ⟨S1x2051x1024, .f32⟩
  | 107 => ⟨S1x2051x1024, .f32⟩
  | 108 => ⟨S1x3x1024, .f32⟩
  | 109 => ⟨S1x2048x1024, .f32⟩
  | 110 => ⟨S1x1024, .f32⟩
  | 111 => ⟨S1x4x1024, .f32⟩
  | 112 => ⟨S2x2048x1024, .f32⟩
  | 113 => ⟨S2x2048x1024, .bf16⟩
  | 114 => ⟨S1024x1024, .f32⟩
  | 115 => ⟨S1024x1024, .bf16⟩
  | 116 => ⟨S4x256x256, .f32⟩
  | 117 => ⟨S4x256x256, .f32⟩
  | 118 => ⟨S1x1024, .f32⟩
  | 119 => ⟨S1x1024, .f32⟩
  | 120 => ⟨S4x1024, .f32⟩
  | _ => ⟨S1x2048x7168, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1x2048x7168, .f32⟩

abbrev bufTy : (tb : Table) → Fin (tcTables nBuf tb) → BufTy
  | .hbm, ⟨i, _⟩ => hbmTy i
  | _, _ => ⟨S1x2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_1 : Ref sig .tc := ⟨.hbm, 67, rfl⟩
abbrev main_v55 : Ref sig .tc := ⟨.hbm, 68, rfl⟩
abbrev main_v56 : Ref sig .tc := ⟨.hbm, 69, rfl⟩
abbrev main_cst_2 : Ref sig .tc := ⟨.hbm, 70, rfl⟩
abbrev main_v57 : Ref sig .tc := ⟨.hbm, 71, rfl⟩
abbrev main_v58 : Ref sig .tc := ⟨.hbm, 72, rfl⟩
abbrev main_cst_3 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_4 : Ref sig .tc := ⟨.hbm, 85, rfl⟩
abbrev main_v70 : Ref sig .tc := ⟨.hbm, 86, rfl⟩
abbrev main_v71 : Ref sig .tc := ⟨.hbm, 87, rfl⟩
abbrev main_cst_5 : Ref sig .tc := ⟨.hbm, 88, rfl⟩
abbrev main_v72 : Ref sig .tc := ⟨.hbm, 89, rfl⟩
abbrev main_v73 : Ref sig .tc := ⟨.hbm, 90, rfl⟩
abbrev main_cst_6 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_7 : Ref sig .tc := ⟨.hbm, 96, rfl⟩
abbrev main_v78 : Ref sig .tc := ⟨.hbm, 97, rfl⟩
abbrev main_v79 : Ref sig .tc := ⟨.hbm, 98, rfl⟩
abbrev main_call0_v0 : Ref sig .tc := ⟨.hbm, 99, rfl⟩
abbrev main_call0_call0_cst : Ref sig .tc := ⟨.hbm, 100, rfl⟩
abbrev main_call0_call0_v0 : Ref sig .tc := ⟨.hbm, 101, rfl⟩
abbrev main_call0_call0_v1 : Ref sig .tc := ⟨.hbm, 102, rfl⟩
abbrev main_call0_call0_v2 : Ref sig .tc := ⟨.hbm, 103, rfl⟩
abbrev main_call0_call0_v3 : Ref sig .tc := ⟨.hbm, 104, rfl⟩
abbrev main_call0_call0_v4 : Ref sig .tc := ⟨.hbm, 105, rfl⟩
abbrev main_call0_call0_v5 : Ref sig .tc := ⟨.hbm, 106, rfl⟩
abbrev main_call0_call0_v6 : Ref sig .tc := ⟨.hbm, 107, rfl⟩
abbrev main_call0_call0_v7 : Ref sig .tc := ⟨.hbm, 108, rfl⟩
abbrev main_call0_call0_v8 : Ref sig .tc := ⟨.hbm, 109, rfl⟩
abbrev main_call0_call0_v9 : Ref sig .tc := ⟨.hbm, 110, rfl⟩
abbrev main_call0_call0_v10 : Ref sig .tc := ⟨.hbm, 111, rfl⟩
abbrev main_call0_call0_v11 : Ref sig .tc := ⟨.hbm, 112, rfl⟩
abbrev main_call0_v1_0 : Ref sig .tc := ⟨.hbm, 113, rfl⟩
abbrev main_call0_call0_cst_0 : Ref sig .tc := ⟨.hbm, 114, rfl⟩
abbrev main_call0_call0_v13 : Ref sig .tc := ⟨.hbm, 115, rfl⟩
abbrev main_call0_call0_v14 : Ref sig .tc := ⟨.hbm, 116, rfl⟩
abbrev main_call0_call0_cst_1 : Ref sig .tc := ⟨.hbm, 117, rfl⟩
abbrev main_call0_call0_v15 : Ref sig .tc := ⟨.hbm, 118, rfl⟩
abbrev main_call0_call0_v16 : Ref sig .tc := ⟨.hbm, 119, rfl⟩
abbrev main_call0_call0_cst_2 : Ref sig .tc := ⟨.hbm, 120, rfl⟩
abbrev main_call0_call0_v17 : Ref sig .tc := ⟨.hbm, 121, rfl⟩
abbrev main_call0_call0_v18 : Ref sig .tc := ⟨.hbm, 122, rfl⟩
abbrev main_call0_call0_cst_3 : Ref sig .tc := ⟨.hbm, 123, rfl⟩
abbrev main_call0_call0_v19 : Ref sig .tc := ⟨.hbm, 124, rfl⟩
abbrev main_call0_call0_v20 : Ref sig .tc := ⟨.hbm, 125, rfl⟩
abbrev main_call0_call0_v21 : Ref sig .tc := ⟨.hbm, 126, rfl⟩
abbrev main_v80_1 : Ref sig .tc := ⟨.hbm, 127, rfl⟩
abbrev main_call0_call0_cst_4 : Ref sig .tc := ⟨.hbm, 128, rfl⟩
abbrev main_call0_call0_cst_5 : Ref sig .tc := ⟨.hbm, 129, rfl⟩
abbrev main_call0_call0_v23 : Ref sig .tc := ⟨.hbm, 130, rfl⟩
abbrev main_call0_call0_cst_6 : Ref sig .tc := ⟨.hbm, 131, rfl⟩
abbrev main_call0_call0_cst_7 : Ref sig .tc := ⟨.hbm, 132, rfl⟩
abbrev main_call0_call0_v24 : Ref sig .tc := ⟨.hbm, 133, rfl⟩
abbrev main_call0_call0_cst_8 : Ref sig .tc := ⟨.hbm, 134, rfl⟩
abbrev main_call0_call0_v25 : Ref sig .tc := ⟨.hbm, 135, rfl⟩
abbrev main_call0_call0_v26 : Ref sig .tc := ⟨.hbm, 136, rfl⟩
abbrev main_call0_call0_cst_9 : Ref sig .tc := ⟨.hbm, 137, rfl⟩
abbrev main_call0_call0_v27 : Ref sig .tc := ⟨.hbm, 138, rfl⟩
abbrev main_call0_call0_v28 : Ref sig .tc := ⟨.hbm, 139, rfl⟩
abbrev main_call0_call0_v29 : Ref sig .tc := ⟨.hbm, 140, rfl⟩
abbrev main_call0_call0_v30 : Ref sig .tc := ⟨.hbm, 141, rfl⟩
abbrev main_call0_call0_v31 : Ref sig .tc := ⟨.hbm, 142, rfl⟩
abbrev main_call0_call0_cst_10 : Ref sig .tc := ⟨.hbm, 143, rfl⟩
abbrev main_call0_call0_v32 : Ref sig .tc := ⟨.hbm, 144, rfl⟩
abbrev main_v80_2 : Ref sig .tc := ⟨.hbm, 145, rfl⟩
abbrev main_v80_0 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_cst_8 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_cst_9 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_c : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_cst_10 : Ref sig .tc := ⟨.hbm, 166, rfl⟩
abbrev main_call1_v0 : Ref sig .tc := ⟨.hbm, 167, rfl⟩
abbrev main_v97_1 : Ref sig .tc := ⟨.hbm, 168, rfl⟩
abbrev main_call1_v2 : Ref sig .tc := ⟨.hbm, 169, rfl⟩
abbrev main_v97_0 : Ref sig .tc := ⟨.hbm, 170, rfl⟩
abbrev main_call1_cst : Ref sig .tc := ⟨.hbm, 171, rfl⟩
abbrev main_v97_2 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_cst_11 : Ref sig .tc := ⟨.hbm, 274, rfl⟩
abbrev main_v199 : Ref sig .tc := ⟨.hbm, 275, rfl⟩
abbrev main_v200 : Ref sig .tc := ⟨.hbm, 276, rfl⟩
abbrev main_cst_12 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_cst_13 : Ref sig .tc := ⟨.hbm, 284, rfl⟩
abbrev main_v207 : Ref sig .tc := ⟨.hbm, 285, rfl⟩
abbrev main_v208 : Ref sig .tc := ⟨.hbm, 286, rfl⟩
abbrev main_cst_14 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_cst_15 : Ref sig .tc := ⟨.hbm, 294, rfl⟩
abbrev main_v215 : Ref sig .tc := ⟨.hbm, 295, rfl⟩
abbrev main_v216 : Ref sig .tc := ⟨.hbm, 296, rfl⟩
abbrev main_cst_16 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_cst_17 : Ref sig .tc := ⟨.hbm, 304, rfl⟩
abbrev main_v223 : Ref sig .tc := ⟨.hbm, 305, rfl⟩
abbrev main_v224 : Ref sig .tc := ⟨.hbm, 306, rfl⟩
abbrev main_cst_18 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_cst_19 : Ref sig .tc := ⟨.hbm, 314, rfl⟩
abbrev main_v231 : Ref sig .tc := ⟨.hbm, 315, rfl⟩
abbrev main_v232 : Ref sig .tc := ⟨.hbm, 316, rfl⟩
abbrev main_cst_20 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_cst_21 : Ref sig .tc := ⟨.hbm, 324, rfl⟩
abbrev main_v239 : Ref sig .tc := ⟨.hbm, 325, rfl⟩
abbrev main_v240 : Ref sig .tc := ⟨.hbm, 326, rfl⟩
abbrev main_cst_22 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_cst_23 : Ref sig .tc := ⟨.hbm, 334, rfl⟩
abbrev main_v247 : Ref sig .tc := ⟨.hbm, 335, rfl⟩
abbrev main_v248 : Ref sig .tc := ⟨.hbm, 336, rfl⟩
abbrev main_cst_24 : Ref sig .tc := ⟨.hbm, 337, rfl⟩
abbrev main_v249 : Ref sig .tc := ⟨.hbm, 338, rfl⟩
abbrev main_v250 : Ref sig .tc := ⟨.hbm, 339, rfl⟩
abbrev main_v251 : Ref sig .tc := ⟨.hbm, 340, rfl⟩
abbrev main_v252 : Ref sig .tc := ⟨.hbm, 341, rfl⟩
abbrev main_v253 : Ref sig .tc := ⟨.hbm, 342, rfl⟩
abbrev main_v254 : Ref sig .tc := ⟨.hbm, 343, rfl⟩
abbrev main_cst_25 : Ref sig .tc := ⟨.hbm, 344, rfl⟩
abbrev main_v255 : Ref sig .tc := ⟨.hbm, 345, rfl⟩
abbrev main_v256 : Ref sig .tc := ⟨.hbm, 346, rfl⟩
abbrev main_cst_26 : Ref sig .tc := ⟨.hbm, 347, rfl⟩
abbrev main_v257 : Ref sig .tc := ⟨.hbm, 348, rfl⟩
abbrev main_v258 : Ref sig .tc := ⟨.hbm, 349, rfl⟩
abbrev main_v259 : Ref sig .tc := ⟨.hbm, 350, rfl⟩
abbrev main_v260 : Ref sig .tc := ⟨.hbm, 351, rfl⟩
abbrev main_v261 : Ref sig .tc := ⟨.hbm, 352, rfl⟩
abbrev main_v262 : Ref sig .tc := ⟨.hbm, 353, rfl⟩
abbrev main_cst_27 : Ref sig .tc := ⟨.hbm, 354, rfl⟩
abbrev main_v263 : Ref sig .tc := ⟨.hbm, 355, rfl⟩
abbrev main_v264 : Ref sig .tc := ⟨.hbm, 356, rfl⟩
abbrev main_cst_28 : Ref sig .tc := ⟨.hbm, 357, rfl⟩
abbrev main_v265 : Ref sig .tc := ⟨.hbm, 358, rfl⟩
abbrev main_v266 : Ref sig .tc := ⟨.hbm, 359, rfl⟩
abbrev main_v267 : Ref sig .tc := ⟨.hbm, 360, rfl⟩
abbrev main_v268 : Ref sig .tc := ⟨.hbm, 361, rfl⟩
abbrev main_v269 : Ref sig .tc := ⟨.hbm, 362, rfl⟩
abbrev main_v270 : Ref sig .tc := ⟨.hbm, 363, rfl⟩
abbrev main_cst_29 : Ref sig .tc := ⟨.hbm, 364, rfl⟩
abbrev main_v271 : Ref sig .tc := ⟨.hbm, 365, rfl⟩
abbrev main_v272 : Ref sig .tc := ⟨.hbm, 366, rfl⟩
abbrev main_cst_30 : Ref sig .tc := ⟨.hbm, 367, rfl⟩
abbrev main_v273 : Ref sig .tc := ⟨.hbm, 368, rfl⟩
abbrev main_v274 : Ref sig .tc := ⟨.hbm, 369, rfl⟩
abbrev main_v275 : Ref sig .tc := ⟨.hbm, 370, rfl⟩
abbrev main_v276 : Ref sig .tc := ⟨.hbm, 371, rfl⟩
abbrev main_v277 : Ref sig .tc := ⟨.hbm, 372, rfl⟩
abbrev main_v278 : Ref sig .tc := ⟨.hbm, 373, rfl⟩
abbrev main_cst_31 : Ref sig .tc := ⟨.hbm, 374, rfl⟩
abbrev main_v279 : Ref sig .tc := ⟨.hbm, 375, rfl⟩
abbrev main_v280 : Ref sig .tc := ⟨.hbm, 376, rfl⟩
abbrev main_cst_32 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_v286 : Ref sig .tc := ⟨.hbm, 383, rfl⟩
abbrev main_cst_33 : Ref sig .tc := ⟨.hbm, 384, rfl⟩
abbrev main_cst_34 : Ref sig .tc := ⟨.hbm, 385, rfl⟩
abbrev main_v287 : Ref sig .tc := ⟨.hbm, 386, rfl⟩
abbrev main_v288 : Ref sig .tc := ⟨.hbm, 387, rfl⟩
abbrev main_v289 : Ref sig .tc := ⟨.hbm, 388, rfl⟩
abbrev main_v290 : Ref sig .tc := ⟨.hbm, 389, rfl⟩
abbrev main_cst_35 : Ref sig .tc := ⟨.hbm, 390, rfl⟩
abbrev main_v291 : Ref sig .tc := ⟨.hbm, 391, rfl⟩
abbrev main_v292 : Ref sig .tc := ⟨.hbm, 392, rfl⟩
abbrev main_v293 : Ref sig .tc := ⟨.hbm, 393, rfl⟩
abbrev main_v294 : Ref sig .tc := ⟨.hbm, 394, rfl⟩
abbrev main_v295 : Ref sig .tc := ⟨.hbm, 395, rfl⟩
abbrev main_cst_36 : Ref sig .tc := ⟨.hbm, 396, rfl⟩
abbrev main_v296 : Ref sig .tc := ⟨.hbm, 397, rfl⟩
abbrev main_v297 : Ref sig .tc := ⟨.hbm, 398, rfl⟩
abbrev main_v298 : Ref sig .tc := ⟨.hbm, 399, rfl⟩
abbrev main_cst_37 : Ref sig .tc := ⟨.hbm, 400, rfl⟩
abbrev main_v299 : Ref sig .tc := ⟨.hbm, 401, rfl⟩
abbrev main_v300 : Ref sig .tc := ⟨.hbm, 402, rfl⟩
abbrev main_cst_38 : Ref sig .tc := ⟨.hbm, 403, rfl⟩
abbrev main_v301 : Ref sig .tc := ⟨.hbm, 404, rfl⟩
abbrev main_v302 : Ref sig .tc := ⟨.hbm, 405, rfl⟩
abbrev main_v303 : Ref sig .tc := ⟨.hbm, 406, rfl⟩
abbrev main_cst_39 : Ref sig .tc := ⟨.hbm, 407, rfl⟩
abbrev main_v304 : Ref sig .tc := ⟨.hbm, 408, rfl⟩
abbrev main_v305 : Ref sig .tc := ⟨.hbm, 409, rfl⟩
abbrev main_cst_40 : Ref sig .tc := ⟨.hbm, 410, rfl⟩
abbrev main_v306 : Ref sig .tc := ⟨.hbm, 411, rfl⟩
abbrev main_v307 : Ref sig .tc := ⟨.hbm, 412, rfl⟩
abbrev main_v308 : Ref sig .tc := ⟨.hbm, 413, rfl⟩
abbrev main_v309 : Ref sig .tc := ⟨.hbm, 414, rfl⟩
abbrev main_v310 : Ref sig .tc := ⟨.hbm, 415, rfl⟩
abbrev main_v311 : Ref sig .tc := ⟨.hbm, 416, rfl⟩
abbrev main_v312 : Ref sig .tc := ⟨.hbm, 417, rfl⟩
abbrev main_v313 : Ref sig .tc := ⟨.hbm, 418, rfl⟩
abbrev main_v314 : Ref sig .tc := ⟨.hbm, 419, rfl⟩
abbrev main_v315 : Ref sig .tc := ⟨.hbm, 420, rfl⟩
abbrev main_v316 : Ref sig .tc := ⟨.hbm, 421, rfl⟩
abbrev main_v317 : Ref sig .tc := ⟨.hbm, 422, rfl⟩
abbrev main_v318 : Ref sig .tc := ⟨.hbm, 423, rfl⟩
abbrev main_v319 : Ref sig .tc := ⟨.hbm, 424, rfl⟩
abbrev main_cst_41 : Ref sig .tc := ⟨.hbm, 425, rfl⟩
abbrev main_v320 : Ref sig .tc := ⟨.hbm, 426, rfl⟩
abbrev main_v321 : Ref sig .tc := ⟨.hbm, 427, rfl⟩
abbrev main_v322 : Ref sig .tc := ⟨.hbm, 428, rfl⟩
abbrev main_cst_42 : Ref sig .tc := ⟨.hbm, 429, rfl⟩
abbrev main_v323 : Ref sig .tc := ⟨.hbm, 430, rfl⟩
abbrev main_v324 : Ref sig .tc := ⟨.hbm, 431, rfl⟩
abbrev main_v325 : Ref sig .tc := ⟨.hbm, 432, rfl⟩
abbrev main_v326 : Ref sig .tc := ⟨.hbm, 433, rfl⟩
abbrev main_v327 : Ref sig .tc := ⟨.hbm, 434, rfl⟩
abbrev main_v328 : Ref sig .tc := ⟨.hbm, 435, rfl⟩
abbrev main_v329 : Ref sig .tc := ⟨.hbm, 436, rfl⟩
abbrev main_v330 : Ref sig .tc := ⟨.hbm, 437, rfl⟩
abbrev main_v331 : Ref sig .tc := ⟨.hbm, 438, rfl⟩
abbrev main_v332 : Ref sig .tc := ⟨.hbm, 439, rfl⟩
abbrev main_v333 : Ref sig .tc := ⟨.hbm, 440, rfl⟩
abbrev main_v334 : Ref sig .tc := ⟨.hbm, 441, rfl⟩
abbrev main_cst_43 : Ref sig .tc := ⟨.hbm, 442, rfl⟩
abbrev main_v335 : Ref sig .tc := ⟨.hbm, 443, rfl⟩
abbrev main_v336 : Ref sig .tc := ⟨.hbm, 444, rfl⟩
abbrev main_v337 : Ref sig .tc := ⟨.hbm, 445, rfl⟩
abbrev main_v338 : Ref sig .tc := ⟨.hbm, 446, rfl⟩
abbrev main_v339 : Ref sig .tc := ⟨.hbm, 447, rfl⟩
abbrev main_v340 : Ref sig .tc := ⟨.hbm, 448, rfl⟩
abbrev main_v341 : Ref sig .tc := ⟨.hbm, 449, rfl⟩
abbrev main_v342 : Ref sig .tc := ⟨.hbm, 450, rfl⟩
abbrev main_v343 : Ref sig .tc := ⟨.hbm, 451, rfl⟩
abbrev main_cst_44 : Ref sig .tc := ⟨.hbm, 452, rfl⟩
abbrev main_v344 : Ref sig .tc := ⟨.hbm, 453, rfl⟩
abbrev main_v345 : Ref sig .tc := ⟨.hbm, 454, rfl⟩
abbrev main_v346 : Ref sig .tc := ⟨.hbm, 455, rfl⟩
abbrev main_v347 : Ref sig .tc := ⟨.hbm, 456, rfl⟩
abbrev main_v348 : Ref sig .tc := ⟨.hbm, 457, rfl⟩
abbrev main_v349 : Ref sig .tc := ⟨.hbm, 458, rfl⟩
abbrev main_v350 : Ref sig .tc := ⟨.hbm, 459, rfl⟩
abbrev main_v351 : Ref sig .tc := ⟨.hbm, 460, rfl⟩
abbrev main_v352 : Ref sig .tc := ⟨.hbm, 461, rfl⟩
abbrev main_cst_45 : Ref sig .tc := ⟨.hbm, 462, rfl⟩
abbrev main_v353 : Ref sig .tc := ⟨.hbm, 463, rfl⟩
abbrev main_v354 : Ref sig .tc := ⟨.hbm, 464, rfl⟩
abbrev main_v355 : Ref sig .tc := ⟨.hbm, 465, rfl⟩
abbrev main_v356 : Ref sig .tc := ⟨.hbm, 466, rfl⟩
abbrev main_v357 : Ref sig .tc := ⟨.hbm, 467, rfl⟩
abbrev main_v358 : Ref sig .tc := ⟨.hbm, 468, rfl⟩
abbrev main_v359 : Ref sig .tc := ⟨.hbm, 469, rfl⟩
abbrev main_v360 : Ref sig .tc := ⟨.hbm, 470, rfl⟩
abbrev main_v361 : Ref sig .tc := ⟨.hbm, 471, rfl⟩
abbrev main_cst_46 : Ref sig .tc := ⟨.hbm, 472, rfl⟩
abbrev main_v362 : Ref sig .tc := ⟨.hbm, 473, rfl⟩
abbrev main_v363 : Ref sig .tc := ⟨.hbm, 474, rfl⟩
abbrev main_v364 : Ref sig .tc := ⟨.hbm, 475, rfl⟩
abbrev main_v365 : Ref sig .tc := ⟨.hbm, 476, rfl⟩
abbrev main_v366 : Ref sig .tc := ⟨.hbm, 477, rfl⟩
abbrev main_v367 : Ref sig .tc := ⟨.hbm, 478, rfl⟩
abbrev main_v368 : Ref sig .tc := ⟨.hbm, 479, rfl⟩
abbrev main_v369 : Ref sig .tc := ⟨.hbm, 480, rfl⟩
abbrev main_v370 : Ref sig .tc := ⟨.hbm, 481, rfl⟩
abbrev main_cst_47 : Ref sig .tc := ⟨.hbm, 482, rfl⟩
abbrev main_v371 : Ref sig .tc := ⟨.hbm, 483, rfl⟩
abbrev main_v372 : Ref sig .tc := ⟨.hbm, 484, rfl⟩
abbrev main_v373 : Ref sig .tc := ⟨.hbm, 485, rfl⟩
abbrev main_v374 : Ref sig .tc := ⟨.hbm, 486, rfl⟩
abbrev main_v375 : Ref sig .tc := ⟨.hbm, 487, rfl⟩
abbrev main_v376 : Ref sig .tc := ⟨.hbm, 488, rfl⟩
abbrev main_v377 : Ref sig .tc := ⟨.hbm, 489, rfl⟩
abbrev main_v378 : Ref sig .tc := ⟨.hbm, 490, rfl⟩
abbrev main_v379 : Ref sig .tc := ⟨.hbm, 491, rfl⟩
abbrev main_cst_48 : Ref sig .tc := ⟨.hbm, 492, rfl⟩
abbrev main_v380 : Ref sig .tc := ⟨.hbm, 493, rfl⟩
abbrev main_v381 : Ref sig .tc := ⟨.hbm, 494, rfl⟩
abbrev main_v382 : Ref sig .tc := ⟨.hbm, 495, rfl⟩
abbrev main_v383 : Ref sig .tc := ⟨.hbm, 496, rfl⟩
abbrev main_v384 : Ref sig .tc := ⟨.hbm, 497, rfl⟩
abbrev main_v385 : Ref sig .tc := ⟨.hbm, 498, rfl⟩
abbrev main_v386 : Ref sig .tc := ⟨.hbm, 499, rfl⟩
abbrev main_v387 : Ref sig .tc := ⟨.hbm, 500, rfl⟩
abbrev main_v388 : Ref sig .tc := ⟨.hbm, 501, rfl⟩
abbrev main_cst_49 : Ref sig .tc := ⟨.hbm, 502, rfl⟩
abbrev main_v389 : Ref sig .tc := ⟨.hbm, 503, rfl⟩
abbrev main_v390 : Ref sig .tc := ⟨.hbm, 504, rfl⟩
abbrev main_v391 : Ref sig .tc := ⟨.hbm, 505, rfl⟩
abbrev main_v392 : Ref sig .tc := ⟨.hbm, 506, rfl⟩
abbrev main_v393 : Ref sig .tc := ⟨.hbm, 507, rfl⟩
abbrev main_v394 : Ref sig .tc := ⟨.hbm, 508, rfl⟩
abbrev main_v395 : Ref sig .tc := ⟨.hbm, 509, rfl⟩
abbrev main_v396 : Ref sig .tc := ⟨.hbm, 510, rfl⟩
abbrev main_v397 : Ref sig .tc := ⟨.hbm, 511, rfl⟩
abbrev main_cst_50 : Ref sig .tc := ⟨.hbm, 512, rfl⟩
abbrev main_v398 : Ref sig .tc := ⟨.hbm, 513, rfl⟩
abbrev main_v399 : Ref sig .tc := ⟨.hbm, 514, rfl⟩
abbrev main_v400 : Ref sig .tc := ⟨.hbm, 515, rfl⟩
abbrev main_v401 : Ref sig .tc := ⟨.hbm, 516, rfl⟩
abbrev main_v402 : Ref sig .tc := ⟨.hbm, 517, rfl⟩
abbrev main_v403 : Ref sig .tc := ⟨.hbm, 518, rfl⟩
abbrev main_v404 : Ref sig .tc := ⟨.hbm, 519, rfl⟩
abbrev main_v405 : Ref sig .tc := ⟨.hbm, 520, rfl⟩
abbrev main_v406 : Ref sig .tc := ⟨.hbm, 521, rfl⟩
abbrev main_cst_51 : Ref sig .tc := ⟨.hbm, 522, rfl⟩
abbrev main_v407 : Ref sig .tc := ⟨.hbm, 523, rfl⟩
abbrev main_v408 : Ref sig .tc := ⟨.hbm, 524, rfl⟩
abbrev main_v409 : Ref sig .tc := ⟨.hbm, 525, rfl⟩
abbrev main_v410 : Ref sig .tc := ⟨.hbm, 526, rfl⟩
abbrev main_v411 : Ref sig .tc := ⟨.hbm, 527, rfl⟩
abbrev main_v412 : Ref sig .tc := ⟨.hbm, 528, rfl⟩
abbrev main_v413 : Ref sig .tc := ⟨.hbm, 529, rfl⟩
abbrev main_v414 : Ref sig .tc := ⟨.hbm, 530, rfl⟩
abbrev main_v415 : Ref sig .tc := ⟨.hbm, 531, rfl⟩
abbrev main_cst_52 : Ref sig .tc := ⟨.hbm, 532, rfl⟩
abbrev main_v416 : Ref sig .tc := ⟨.hbm, 533, rfl⟩
abbrev main_v417 : Ref sig .tc := ⟨.hbm, 534, rfl⟩
abbrev main_v418 : Ref sig .tc := ⟨.hbm, 535, rfl⟩
abbrev main_v419 : Ref sig .tc := ⟨.hbm, 536, rfl⟩
abbrev main_v420 : Ref sig .tc := ⟨.hbm, 537, rfl⟩
abbrev main_v421 : Ref sig .tc := ⟨.hbm, 538, rfl⟩
abbrev main_v422 : Ref sig .tc := ⟨.hbm, 539, rfl⟩
abbrev main_v423 : Ref sig .tc := ⟨.hbm, 540, rfl⟩
abbrev main_v424 : Ref sig .tc := ⟨.hbm, 541, rfl⟩
abbrev main_cst_53 : Ref sig .tc := ⟨.hbm, 542, rfl⟩
abbrev main_v425 : Ref sig .tc := ⟨.hbm, 543, rfl⟩
abbrev main_v426 : Ref sig .tc := ⟨.hbm, 544, rfl⟩
abbrev main_v427 : Ref sig .tc := ⟨.hbm, 545, rfl⟩
abbrev main_v428 : Ref sig .tc := ⟨.hbm, 546, rfl⟩
abbrev main_v429 : Ref sig .tc := ⟨.hbm, 547, rfl⟩
abbrev main_v430 : Ref sig .tc := ⟨.hbm, 548, rfl⟩
abbrev main_v431 : Ref sig .tc := ⟨.hbm, 549, rfl⟩
abbrev main_cst_54 : Ref sig .tc := ⟨.hbm, 550, rfl⟩
abbrev main_v432 : Ref sig .tc := ⟨.hbm, 551, rfl⟩
abbrev main_cst_55 : Ref sig .tc := ⟨.hbm, 552, rfl⟩
abbrev main_v433 : Ref sig .tc := ⟨.hbm, 553, rfl⟩
abbrev main_v434 : Ref sig .tc := ⟨.hbm, 554, rfl⟩
abbrev main_cst_56 : Ref sig .tc := ⟨.hbm, 555, rfl⟩
abbrev main_v435 : Ref sig .tc := ⟨.hbm, 556, rfl⟩
abbrev main_cst_57 : Ref sig .tc := ⟨.hbm, 557, rfl⟩
abbrev main_v436 : Ref sig .tc := ⟨.hbm, 558, rfl⟩
abbrev main_v437 : Ref sig .tc := ⟨.hbm, 559, rfl⟩
abbrev main_v438 : Ref sig .tc := ⟨.hbm, 560, rfl⟩
abbrev main_v439 : Ref sig .tc := ⟨.hbm, 561, rfl⟩
abbrev main_v440 : Ref sig .tc := ⟨.hbm, 562, rfl⟩
abbrev main_v441 : Ref sig .tc := ⟨.hbm, 563, rfl⟩
abbrev main_v442 : Ref sig .tc := ⟨.hbm, 564, rfl⟩
abbrev main_v443 : Ref sig .tc := ⟨.hbm, 565, rfl⟩
abbrev main_v444 : Ref sig .tc := ⟨.hbm, 566, rfl⟩
abbrev main_v445 : Ref sig .tc := ⟨.hbm, 567, rfl⟩
abbrev main_v446 : Ref sig .tc := ⟨.hbm, 568, rfl⟩
abbrev main_cst_58 : Ref sig .tc := ⟨.hbm, 569, rfl⟩
abbrev main_v447 : Ref sig .tc := ⟨.hbm, 570, rfl⟩
abbrev main_cst_59 : Ref sig .tc := ⟨.hbm, 571, rfl⟩
abbrev main_v448 : Ref sig .tc := ⟨.hbm, 572, rfl⟩
abbrev main_v449 : Ref sig .tc := ⟨.hbm, 573, rfl⟩
abbrev main_cst_60 : Ref sig .tc := ⟨.hbm, 574, rfl⟩
abbrev main_v450 : Ref sig .tc := ⟨.hbm, 575, rfl⟩
abbrev main_cst_61 : Ref sig .tc := ⟨.hbm, 576, rfl⟩
abbrev main_v451 : Ref sig .tc := ⟨.hbm, 577, rfl⟩
abbrev main_v452 : Ref sig .tc := ⟨.hbm, 578, rfl⟩
abbrev main_v453 : Ref sig .tc := ⟨.hbm, 579, rfl⟩
abbrev main_v454 : Ref sig .tc := ⟨.hbm, 580, rfl⟩
abbrev main_v455 : Ref sig .tc := ⟨.hbm, 581, rfl⟩
abbrev main_v456 : Ref sig .tc := ⟨.hbm, 582, rfl⟩
abbrev main_v457 : Ref sig .tc := ⟨.hbm, 583, rfl⟩
abbrev main_v458 : Ref sig .tc := ⟨.hbm, 584, rfl⟩
abbrev main_v459 : Ref sig .tc := ⟨.hbm, 585, rfl⟩
abbrev main_v460 : Ref sig .tc := ⟨.hbm, 586, rfl⟩
abbrev main_v461 : Ref sig .tc := ⟨.hbm, 587, rfl⟩
abbrev main_cst_62 : Ref sig .tc := ⟨.hbm, 588, rfl⟩
abbrev main_v462 : Ref sig .tc := ⟨.hbm, 589, rfl⟩
abbrev main_cst_63 : Ref sig .tc := ⟨.hbm, 590, rfl⟩
abbrev main_v463 : Ref sig .tc := ⟨.hbm, 591, rfl⟩
abbrev main_v464 : Ref sig .tc := ⟨.hbm, 592, rfl⟩
abbrev main_cst_64 : Ref sig .tc := ⟨.hbm, 593, rfl⟩
abbrev main_v465 : Ref sig .tc := ⟨.hbm, 594, rfl⟩
abbrev main_cst_65 : Ref sig .tc := ⟨.hbm, 595, rfl⟩
abbrev main_v466 : Ref sig .tc := ⟨.hbm, 596, rfl⟩
abbrev main_v467 : Ref sig .tc := ⟨.hbm, 597, rfl⟩
abbrev main_v468 : Ref sig .tc := ⟨.hbm, 598, rfl⟩
abbrev main_v469 : Ref sig .tc := ⟨.hbm, 599, rfl⟩
abbrev main_v470 : Ref sig .tc := ⟨.hbm, 600, rfl⟩
abbrev main_v471 : Ref sig .tc := ⟨.hbm, 601, rfl⟩
abbrev main_v472 : Ref sig .tc := ⟨.hbm, 602, rfl⟩
abbrev main_v473 : Ref sig .tc := ⟨.hbm, 603, rfl⟩
abbrev main_v474 : Ref sig .tc := ⟨.hbm, 604, rfl⟩
abbrev main_v475 : Ref sig .tc := ⟨.hbm, 605, rfl⟩
abbrev main_v476 : Ref sig .tc := ⟨.hbm, 606, rfl⟩
abbrev main_cst_66 : Ref sig .tc := ⟨.hbm, 607, rfl⟩
abbrev main_v477 : Ref sig .tc := ⟨.hbm, 608, rfl⟩
abbrev main_cst_67 : Ref sig .tc := ⟨.hbm, 609, rfl⟩
abbrev main_v478 : Ref sig .tc := ⟨.hbm, 610, rfl⟩
abbrev main_v479 : Ref sig .tc := ⟨.hbm, 611, rfl⟩
abbrev main_cst_68 : Ref sig .tc := ⟨.hbm, 612, rfl⟩
abbrev main_v480 : Ref sig .tc := ⟨.hbm, 613, rfl⟩
abbrev main_cst_69 : Ref sig .tc := ⟨.hbm, 614, rfl⟩
abbrev main_v481 : Ref sig .tc := ⟨.hbm, 615, rfl⟩
abbrev main_v482 : Ref sig .tc := ⟨.hbm, 616, rfl⟩
abbrev main_v483 : Ref sig .tc := ⟨.hbm, 617, rfl⟩
abbrev main_v484 : Ref sig .tc := ⟨.hbm, 618, rfl⟩
abbrev main_v485 : Ref sig .tc := ⟨.hbm, 619, rfl⟩
abbrev main_v486 : Ref sig .tc := ⟨.hbm, 620, rfl⟩
abbrev main_v487 : Ref sig .tc := ⟨.hbm, 621, rfl⟩
abbrev main_v488 : Ref sig .tc := ⟨.hbm, 622, rfl⟩
abbrev main_v489 : Ref sig .tc := ⟨.hbm, 623, rfl⟩
abbrev main_v490 : Ref sig .tc := ⟨.hbm, 624, rfl⟩
abbrev main_v491 : Ref sig .tc := ⟨.hbm, 625, rfl⟩
abbrev main_cst_70 : Ref sig .tc := ⟨.hbm, 626, rfl⟩
abbrev main_v492 : Ref sig .tc := ⟨.hbm, 627, rfl⟩
abbrev main_cst_71 : Ref sig .tc := ⟨.hbm, 628, rfl⟩
abbrev main_v493 : Ref sig .tc := ⟨.hbm, 629, rfl⟩
abbrev main_v494 : Ref sig .tc := ⟨.hbm, 630, rfl⟩
abbrev main_cst_72 : Ref sig .tc := ⟨.hbm, 631, rfl⟩
abbrev main_v495 : Ref sig .tc := ⟨.hbm, 632, rfl⟩
abbrev main_cst_73 : Ref sig .tc := ⟨.hbm, 633, rfl⟩
abbrev main_v496 : Ref sig .tc := ⟨.hbm, 634, rfl⟩
abbrev main_v497 : Ref sig .tc := ⟨.hbm, 635, rfl⟩
abbrev main_v498 : Ref sig .tc := ⟨.hbm, 636, rfl⟩
abbrev main_v499 : Ref sig .tc := ⟨.hbm, 637, rfl⟩
abbrev main_v500 : Ref sig .tc := ⟨.hbm, 638, rfl⟩
abbrev main_v501 : Ref sig .tc := ⟨.hbm, 639, rfl⟩
abbrev main_v502 : Ref sig .tc := ⟨.hbm, 640, rfl⟩
abbrev main_v503 : Ref sig .tc := ⟨.hbm, 641, rfl⟩
abbrev main_v504 : Ref sig .tc := ⟨.hbm, 642, rfl⟩
abbrev main_v505 : Ref sig .tc := ⟨.hbm, 643, rfl⟩
abbrev main_v506 : Ref sig .tc := ⟨.hbm, 644, rfl⟩
abbrev main_cst_74 : Ref sig .tc := ⟨.hbm, 645, rfl⟩
abbrev main_v507 : Ref sig .tc := ⟨.hbm, 646, rfl⟩
abbrev main_cst_75 : Ref sig .tc := ⟨.hbm, 647, rfl⟩
abbrev main_v508 : Ref sig .tc := ⟨.hbm, 648, rfl⟩
abbrev main_v509 : Ref sig .tc := ⟨.hbm, 649, rfl⟩
abbrev main_cst_76 : Ref sig .tc := ⟨.hbm, 650, rfl⟩
abbrev main_v510 : Ref sig .tc := ⟨.hbm, 651, rfl⟩
abbrev main_cst_77 : Ref sig .tc := ⟨.hbm, 652, rfl⟩
abbrev main_v511 : Ref sig .tc := ⟨.hbm, 653, rfl⟩
abbrev main_v512 : Ref sig .tc := ⟨.hbm, 654, rfl⟩
abbrev main_v513 : Ref sig .tc := ⟨.hbm, 655, rfl⟩
abbrev main_v514 : Ref sig .tc := ⟨.hbm, 656, rfl⟩
abbrev main_v515 : Ref sig .tc := ⟨.hbm, 657, rfl⟩
abbrev main_v516 : Ref sig .tc := ⟨.hbm, 658, rfl⟩
abbrev main_v517 : Ref sig .tc := ⟨.hbm, 659, rfl⟩
abbrev main_v518 : Ref sig .tc := ⟨.hbm, 660, rfl⟩
abbrev main_v519 : Ref sig .tc := ⟨.hbm, 661, rfl⟩
abbrev main_v520 : Ref sig .tc := ⟨.hbm, 662, rfl⟩
abbrev main_v521 : Ref sig .tc := ⟨.hbm, 663, rfl⟩
abbrev main_cst_78 : Ref sig .tc := ⟨.hbm, 664, rfl⟩
abbrev main_v522 : Ref sig .tc := ⟨.hbm, 665, rfl⟩
abbrev main_cst_79 : Ref sig .tc := ⟨.hbm, 666, rfl⟩
abbrev main_v523 : Ref sig .tc := ⟨.hbm, 667, rfl⟩
abbrev main_v524 : Ref sig .tc := ⟨.hbm, 668, rfl⟩
abbrev main_cst_80 : Ref sig .tc := ⟨.hbm, 669, rfl⟩
abbrev main_v525 : Ref sig .tc := ⟨.hbm, 670, rfl⟩
abbrev main_cst_81 : Ref sig .tc := ⟨.hbm, 671, rfl⟩
abbrev main_v526 : Ref sig .tc := ⟨.hbm, 672, rfl⟩
abbrev main_v527 : Ref sig .tc := ⟨.hbm, 673, rfl⟩
abbrev main_v528 : Ref sig .tc := ⟨.hbm, 674, rfl⟩
abbrev main_v529 : Ref sig .tc := ⟨.hbm, 675, rfl⟩
abbrev main_v530 : Ref sig .tc := ⟨.hbm, 676, rfl⟩
abbrev main_v531 : Ref sig .tc := ⟨.hbm, 677, rfl⟩
abbrev main_v532 : Ref sig .tc := ⟨.hbm, 678, rfl⟩
abbrev main_v533 : Ref sig .tc := ⟨.hbm, 679, rfl⟩
abbrev main_v534 : Ref sig .tc := ⟨.hbm, 680, rfl⟩
abbrev main_v535 : Ref sig .tc := ⟨.hbm, 681, rfl⟩
abbrev main_v536 : Ref sig .tc := ⟨.hbm, 682, rfl⟩
abbrev main_cst_82 : Ref sig .tc := ⟨.hbm, 683, rfl⟩
abbrev main_v537 : Ref sig .tc := ⟨.hbm, 684, rfl⟩
abbrev main_cst_83 : Ref sig .tc := ⟨.hbm, 685, rfl⟩
abbrev main_v538 : Ref sig .tc := ⟨.hbm, 686, rfl⟩
abbrev main_v539 : Ref sig .tc := ⟨.hbm, 687, rfl⟩
abbrev main_cst_84 : Ref sig .tc := ⟨.hbm, 688, rfl⟩
abbrev main_v540 : Ref sig .tc := ⟨.hbm, 689, rfl⟩
abbrev main_cst_85 : Ref sig .tc := ⟨.hbm, 690, rfl⟩
abbrev main_v541 : Ref sig .tc := ⟨.hbm, 691, rfl⟩
abbrev main_v542 : Ref sig .tc := ⟨.hbm, 692, rfl⟩
abbrev main_v543 : Ref sig .tc := ⟨.hbm, 693, rfl⟩
abbrev main_v544 : Ref sig .tc := ⟨.hbm, 694, rfl⟩
abbrev main_v545 : Ref sig .tc := ⟨.hbm, 695, rfl⟩
abbrev main_v546 : Ref sig .tc := ⟨.hbm, 696, rfl⟩
abbrev main_v547 : Ref sig .tc := ⟨.hbm, 697, rfl⟩
abbrev main_v548 : Ref sig .tc := ⟨.hbm, 698, rfl⟩
abbrev main_v549 : Ref sig .tc := ⟨.hbm, 699, rfl⟩
abbrev main_v550 : Ref sig .tc := ⟨.hbm, 700, rfl⟩
abbrev main_v551 : Ref sig .tc := ⟨.hbm, 701, rfl⟩
abbrev main_cst_86 : Ref sig .tc := ⟨.hbm, 702, rfl⟩
abbrev main_v552 : Ref sig .tc := ⟨.hbm, 703, rfl⟩
abbrev main_cst_87 : Ref sig .tc := ⟨.hbm, 704, rfl⟩
abbrev main_v553 : Ref sig .tc := ⟨.hbm, 705, rfl⟩
abbrev main_v554 : Ref sig .tc := ⟨.hbm, 706, rfl⟩
abbrev main_cst_88 : Ref sig .tc := ⟨.hbm, 707, rfl⟩
abbrev main_v555 : Ref sig .tc := ⟨.hbm, 708, rfl⟩
abbrev main_cst_89 : Ref sig .tc := ⟨.hbm, 709, rfl⟩
abbrev main_v556 : Ref sig .tc := ⟨.hbm, 710, rfl⟩
abbrev main_v557 : Ref sig .tc := ⟨.hbm, 711, rfl⟩
abbrev main_v558 : Ref sig .tc := ⟨.hbm, 712, rfl⟩
abbrev main_v559 : Ref sig .tc := ⟨.hbm, 713, rfl⟩
abbrev main_v560 : Ref sig .tc := ⟨.hbm, 714, rfl⟩
abbrev main_v561 : Ref sig .tc := ⟨.hbm, 715, rfl⟩
abbrev main_v562 : Ref sig .tc := ⟨.hbm, 716, rfl⟩
abbrev main_v563 : Ref sig .tc := ⟨.hbm, 717, rfl⟩
abbrev main_v564 : Ref sig .tc := ⟨.hbm, 718, rfl⟩
abbrev main_v565 : Ref sig .tc := ⟨.hbm, 719, rfl⟩
abbrev main_v566 : Ref sig .tc := ⟨.hbm, 720, rfl⟩
abbrev main_cst_90 : Ref sig .tc := ⟨.hbm, 721, rfl⟩
abbrev main_v567 : Ref sig .tc := ⟨.hbm, 722, rfl⟩
abbrev main_cst_91 : Ref sig .tc := ⟨.hbm, 723, rfl⟩
abbrev main_v568 : Ref sig .tc := ⟨.hbm, 724, rfl⟩
abbrev main_v569 : Ref sig .tc := ⟨.hbm, 725, rfl⟩
abbrev main_cst_92 : Ref sig .tc := ⟨.hbm, 726, rfl⟩
abbrev main_v570 : Ref sig .tc := ⟨.hbm, 727, rfl⟩
abbrev main_cst_93 : Ref sig .tc := ⟨.hbm, 728, rfl⟩
abbrev main_v571 : Ref sig .tc := ⟨.hbm, 729, rfl⟩
abbrev main_v572 : Ref sig .tc := ⟨.hbm, 730, rfl⟩
abbrev main_v573 : Ref sig .tc := ⟨.hbm, 731, rfl⟩
abbrev main_v574 : Ref sig .tc := ⟨.hbm, 732, rfl⟩
abbrev main_v575 : Ref sig .tc := ⟨.hbm, 733, rfl⟩
abbrev main_v576 : Ref sig .tc := ⟨.hbm, 734, rfl⟩
abbrev main_v577 : Ref sig .tc := ⟨.hbm, 735, rfl⟩
abbrev main_v578 : Ref sig .tc := ⟨.hbm, 736, rfl⟩
abbrev main_v579 : Ref sig .tc := ⟨.hbm, 737, rfl⟩
abbrev main_v580 : Ref sig .tc := ⟨.hbm, 738, rfl⟩
abbrev main_v581 : Ref sig .tc := ⟨.hbm, 739, rfl⟩
abbrev main_cst_94 : Ref sig .tc := ⟨.hbm, 740, rfl⟩
abbrev main_v582 : Ref sig .tc := ⟨.hbm, 741, rfl⟩
abbrev main_cst_95 : Ref sig .tc := ⟨.hbm, 742, rfl⟩
abbrev main_v583 : Ref sig .tc := ⟨.hbm, 743, rfl⟩
abbrev main_v584 : Ref sig .tc := ⟨.hbm, 744, rfl⟩
abbrev main_cst_96 : Ref sig .tc := ⟨.hbm, 745, rfl⟩
abbrev main_v585 : Ref sig .tc := ⟨.hbm, 746, rfl⟩
abbrev main_cst_97 : Ref sig .tc := ⟨.hbm, 747, rfl⟩
abbrev main_v586 : Ref sig .tc := ⟨.hbm, 748, rfl⟩
abbrev main_v587 : Ref sig .tc := ⟨.hbm, 749, rfl⟩
abbrev main_v588 : Ref sig .tc := ⟨.hbm, 750, rfl⟩
abbrev main_v589 : Ref sig .tc := ⟨.hbm, 751, rfl⟩
abbrev main_v590 : Ref sig .tc := ⟨.hbm, 752, rfl⟩
abbrev main_v591 : Ref sig .tc := ⟨.hbm, 753, rfl⟩
abbrev main_v592 : Ref sig .tc := ⟨.hbm, 754, rfl⟩
abbrev main_v593 : Ref sig .tc := ⟨.hbm, 755, rfl⟩
abbrev main_call2_cst : Ref sig .tc := ⟨.hbm, 756, rfl⟩
abbrev main_call2_v0 : Ref sig .tc := ⟨.hbm, 757, rfl⟩
abbrev main_v594 : Ref sig .tc := ⟨.hbm, 758, rfl⟩
abbrev main_v595 : Ref sig .tc := ⟨.hbm, 759, rfl⟩
abbrev main_v596 : Ref sig .tc := ⟨.hbm, 760, rfl⟩
abbrev main_v597 : Ref sig .tc := ⟨.hbm, 761, rfl⟩
abbrev main_cst_98 : Ref sig .tc := ⟨.hbm, 762, rfl⟩
abbrev main_v598 : Ref sig .tc := ⟨.hbm, 763, rfl⟩
abbrev main_v599 : Ref sig .tc := ⟨.hbm, 764, rfl⟩
abbrev main_v600 : Ref sig .tc := ⟨.hbm, 765, rfl⟩
abbrev main_v601 : Ref sig .tc := ⟨.hbm, 766, rfl⟩
abbrev main_v602 : Ref sig .tc := ⟨.hbm, 767, rfl⟩
abbrev main_cst_99 : Ref sig .tc := ⟨.hbm, 768, rfl⟩
abbrev main_v603 : Ref sig .tc := ⟨.hbm, 769, rfl⟩
abbrev main_v604 : Ref sig .tc := ⟨.hbm, 770, rfl⟩
abbrev main_v605 : Ref sig .tc := ⟨.hbm, 771, rfl⟩
abbrev main_v606 : Ref sig .tc := ⟨.hbm, 772, rfl⟩
abbrev main_cst_100 : Ref sig .tc := ⟨.hbm, 773, rfl⟩
abbrev main_v607 : Ref sig .tc := ⟨.hbm, 774, rfl⟩
abbrev main_call3_v0 : Ref sig .tc := ⟨.hbm, 775, rfl⟩
abbrev main_call3_v1 : Ref sig .tc := ⟨.hbm, 776, rfl⟩
abbrev main_v608 : Ref sig .tc := ⟨.hbm, 777, rfl⟩
abbrev main_cst_101 : Ref sig .tc := ⟨.hbm, 778, rfl⟩
abbrev main_v609 : Ref sig .tc := ⟨.hbm, 779, rfl⟩
abbrev main_v610 : Ref sig .tc := ⟨.hbm, 780, rfl⟩
abbrev main_v611 : Ref sig .tc := ⟨.hbm, 781, rfl⟩
abbrev main_v612 : Ref sig .tc := ⟨.hbm, 782, rfl⟩
abbrev main_cst_102 : Ref sig .tc := ⟨.hbm, 783, rfl⟩
abbrev main_v613 : Ref sig .tc := ⟨.hbm, 784, rfl⟩
abbrev main_v614 : Ref sig .tc := ⟨.hbm, 785, rfl⟩
abbrev main_cst_103 : Ref sig .tc := ⟨.hbm, 786, rfl⟩
abbrev main_v615 : Ref sig .tc := ⟨.hbm, 787, rfl⟩
abbrev main_v616 : Ref sig .tc := ⟨.hbm, 788, rfl⟩
abbrev main_v617 : Ref sig .tc := ⟨.hbm, 789, rfl⟩
abbrev main_v618 : Ref sig .tc := ⟨.hbm, 790, rfl⟩
abbrev main_v619 : Ref sig .tc := ⟨.hbm, 791, rfl⟩
abbrev main_v620 : Ref sig .tc := ⟨.hbm, 792, rfl⟩
abbrev main_v621 : Ref sig .tc := ⟨.hbm, 793, rfl⟩
abbrev main_v622 : Ref sig .tc := ⟨.hbm, 794, rfl⟩
abbrev main_cst_104 : Ref sig .tc := ⟨.hbm, 795, rfl⟩
abbrev main_v623 : Ref sig .tc := ⟨.hbm, 796, rfl⟩
abbrev main_v624 : Ref sig .tc := ⟨.hbm, 797, rfl⟩
abbrev main_cst_105 : Ref sig .tc := ⟨.hbm, 798, rfl⟩
abbrev main_v625 : Ref sig .tc := ⟨.hbm, 799, rfl⟩
abbrev main_v626 : Ref sig .tc := ⟨.hbm, 800, rfl⟩
abbrev main_v627 : Ref sig .tc := ⟨.hbm, 801, rfl⟩
abbrev main_v628 : Ref sig .tc := ⟨.hbm, 802, rfl⟩
abbrev main_v629 : Ref sig .tc := ⟨.hbm, 803, rfl⟩
abbrev main_v630 : Ref sig .tc := ⟨.hbm, 804, rfl⟩
abbrev main_v631 : Ref sig .tc := ⟨.hbm, 805, rfl⟩
abbrev main_v632 : Ref sig .tc := ⟨.hbm, 806, rfl⟩
abbrev main_v633 : Ref sig .tc := ⟨.hbm, 807, rfl⟩
abbrev main_v634 : Ref sig .tc := ⟨.hbm, 808, rfl⟩
abbrev main_v635 : Ref sig .tc := ⟨.hbm, 809, rfl⟩
abbrev main_v636 : Ref sig .tc := ⟨.hbm, 810, rfl⟩
abbrev main_v637 : Ref sig .tc := ⟨.hbm, 811, rfl⟩
abbrev main_v638 : Ref sig .tc := ⟨.hbm, 812, rfl⟩
abbrev main_cst_106 : Ref sig .tc := ⟨.hbm, 813, rfl⟩
abbrev main_v639 : Ref sig .tc := ⟨.hbm, 814, rfl⟩
abbrev main_v640 : Ref sig .tc := ⟨.hbm, 815, rfl⟩
abbrev main_cst_107 : Ref sig .tc := ⟨.hbm, 816, rfl⟩
abbrev main_v641 : Ref sig .tc := ⟨.hbm, 817, rfl⟩
abbrev main_v642 : Ref sig .tc := ⟨.hbm, 818, rfl⟩
abbrev main_cst_108 : Ref sig .tc := ⟨.hbm, 819, rfl⟩
abbrev main_v643 : Ref sig .tc := ⟨.hbm, 820, rfl⟩
abbrev main_v644 : Ref sig .tc := ⟨.hbm, 821, rfl⟩
abbrev main_v645 : Ref sig .tc := ⟨.hbm, 822, rfl⟩
abbrev main_v646 : Ref sig .tc := ⟨.hbm, 823, rfl⟩
abbrev main_cst_109 : Ref sig .tc := ⟨.hbm, 824, rfl⟩
abbrev main_v647 : Ref sig .tc := ⟨.hbm, 825, rfl⟩
abbrev main_v648 : Ref sig .tc := ⟨.hbm, 826, rfl⟩
abbrev main_cst_110 : Ref sig .tc := ⟨.hbm, 827, rfl⟩
abbrev main_v649 : Ref sig .tc := ⟨.hbm, 828, rfl⟩
abbrev main_cst_111 : Ref sig .tc := ⟨.hbm, 829, rfl⟩
abbrev main_v650 : Ref sig .tc := ⟨.hbm, 830, rfl⟩
abbrev main_v651 : Ref sig .tc := ⟨.hbm, 831, rfl⟩
abbrev main_cst_112 : Ref sig .tc := ⟨.hbm, 832, rfl⟩
abbrev main_v652 : Ref sig .tc := ⟨.hbm, 833, rfl⟩
abbrev main_v653 : Ref sig .tc := ⟨.hbm, 834, rfl⟩
abbrev main_v654 : Ref sig .tc := ⟨.hbm, 835, rfl⟩
abbrev main_v655 : Ref sig .tc := ⟨.hbm, 836, rfl⟩
abbrev main_cst_113 : Ref sig .tc := ⟨.hbm, 837, rfl⟩
abbrev main_v656 : Ref sig .tc := ⟨.hbm, 838, rfl⟩
abbrev main_v657 : Ref sig .tc := ⟨.hbm, 839, rfl⟩
abbrev main_cst_114 : Ref sig .tc := ⟨.hbm, 840, rfl⟩
abbrev main_v658 : Ref sig .tc := ⟨.hbm, 841, rfl⟩
abbrev main_v659 : Ref sig .tc := ⟨.hbm, 842, rfl⟩
abbrev main_cst_115 : Ref sig .tc := ⟨.hbm, 843, rfl⟩
abbrev main_v660 : Ref sig .tc := ⟨.hbm, 844, rfl⟩
abbrev main_v661 : Ref sig .tc := ⟨.hbm, 845, rfl⟩
abbrev main_v662 : Ref sig .tc := ⟨.hbm, 846, rfl⟩
abbrev main_cst_116 : Ref sig .tc := ⟨.hbm, 847, rfl⟩
abbrev main_v663 : Ref sig .tc := ⟨.hbm, 848, rfl⟩
abbrev main_v664 : Ref sig .tc := ⟨.hbm, 849, rfl⟩
abbrev main_v665 : Ref sig .tc := ⟨.hbm, 850, rfl⟩
abbrev main_v666 : Ref sig .tc := ⟨.hbm, 851, rfl⟩
abbrev main_cst_117 : Ref sig .tc := ⟨.hbm, 852, rfl⟩
abbrev main_v667 : Ref sig .tc := ⟨.hbm, 853, rfl⟩
abbrev main_v668 : Ref sig .tc := ⟨.hbm, 854, rfl⟩
abbrev main_cst_118 : Ref sig .tc := ⟨.hbm, 855, rfl⟩
abbrev main_v669 : Ref sig .tc := ⟨.hbm, 856, rfl⟩
abbrev main_v670 : Ref sig .tc := ⟨.hbm, 857, rfl⟩
abbrev main_cst_119 : Ref sig .tc := ⟨.hbm, 858, rfl⟩
abbrev main_v671 : Ref sig .tc := ⟨.hbm, 859, rfl⟩
abbrev main_v672 : Ref sig .tc := ⟨.hbm, 860, rfl⟩
abbrev main_v673 : Ref sig .tc := ⟨.hbm, 861, rfl⟩
abbrev main_cst_120 : Ref sig .tc := ⟨.hbm, 862, rfl⟩
abbrev main_v674 : Ref sig .tc := ⟨.hbm, 863, rfl⟩
abbrev main_v675 : Ref sig .tc := ⟨.hbm, 864, rfl⟩
abbrev main_v676 : Ref sig .tc := ⟨.hbm, 865, rfl⟩
abbrev main_v677 : Ref sig .tc := ⟨.hbm, 866, rfl⟩
abbrev main_cst_121 : Ref sig .tc := ⟨.hbm, 867, rfl⟩
abbrev main_v678 : Ref sig .tc := ⟨.hbm, 868, rfl⟩
abbrev main_v679 : Ref sig .tc := ⟨.hbm, 869, rfl⟩
abbrev main_cst_122 : Ref sig .tc := ⟨.hbm, 870, rfl⟩
abbrev main_v680 : Ref sig .tc := ⟨.hbm, 871, rfl⟩
abbrev main_v681 : Ref sig .tc := ⟨.hbm, 872, rfl⟩
abbrev main_cst_123 : Ref sig .tc := ⟨.hbm, 873, rfl⟩
abbrev main_v682 : Ref sig .tc := ⟨.hbm, 874, rfl⟩
abbrev main_v683 : Ref sig .tc := ⟨.hbm, 875, rfl⟩
abbrev main_v684 : Ref sig .tc := ⟨.hbm, 876, rfl⟩
abbrev main_v685 : Ref sig .tc := ⟨.hbm, 877, rfl⟩
abbrev main_v686 : Ref sig .tc := ⟨.hbm, 878, rfl⟩
abbrev main_v687 : Ref sig .tc := ⟨.hbm, 879, rfl⟩
abbrev main_v688 : Ref sig .tc := ⟨.hbm, 880, rfl⟩
abbrev main_v689 : Ref sig .tc := ⟨.hbm, 881, rfl⟩
abbrev main_v690 : Ref sig .tc := ⟨.hbm, 882, rfl⟩
abbrev main_v691 : Ref sig .tc := ⟨.hbm, 883, rfl⟩
abbrev main_v692 : Ref sig .tc := ⟨.hbm, 884, rfl⟩
abbrev main_v693 : Ref sig .tc := ⟨.hbm, 885, rfl⟩
abbrev main_v694 : Ref sig .tc := ⟨.hbm, 886, rfl⟩
abbrev main_v695 : Ref sig .tc := ⟨.hbm, 887, rfl⟩
abbrev main_v696 : Ref sig .tc := ⟨.hbm, 888, rfl⟩

abbrev nD : Nat := 1
abbrev τ : Topo := Topo.v7x

variable {F : FTy → Type} [FloatOps F]
-- ==== Proof.Reals.lean ====
/- Arithmetic that the value claims share: finite arrays as arrays of reals, the constants the
   programs write, and the operations of the extended reals on real operands. -/
module

public import Idealize.ShloMosaic.Lib.Claim
public import Idealize.ShloMosaic.Lib.Pipeline.ValueKit
public import Idealize.ShloMosaic.Lib.Pointwise

@[expose] public section

noncomputable section

namespace Cert.Reals

open Idealize.ShloMosaic

/-- The sum of real numbers, taken over the extended reals. -/
theorem coe_sum {ι : Type*} (s : Finset ι) (f : ι → ℝ) : ((∑ k ∈ s, f k : ℝ) : EReal) = ∑ k ∈ s, (f k : EReal) := by
  induction s using Finset.cons_induction with
  | empty => simp
  | cons a s ha ih => rw [Finset.sum_cons, Finset.sum_cons, EReal.coe_add, ih]

/-- The quotient of two real numbers, the divisor not zero. -/
theorem div_coe_coe {a b : ℝ} (hb : b ≠ 0) : Ideal.div (a : EReal) (b : EReal) = ((a / b : ℝ) : EReal) := by
  rw [Ideal.div_coe hb, ← EReal.coe_mul, mul_one_div]

/-- The reciprocal square root of a positive real number. -/
theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

theorem ofBits_1024 : Ideal.ofBits .f32 0x44800000#32 = ((1024 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

theorem ofBits_inv_2048 : Ideal.ofBits .f32 0x3A000000#32 = ((1 / 2048 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

/-- The number that the norms add under their root, as the word for it reads. -/
def eps : ℝ := 8796093 / 8796093022208

theorem eps_pos : 0 < eps := by unfold eps; norm_num

theorem ofBits_eps : Ideal.ofBits .f32 0x358637BD#32 = ((eps : ℝ) : EReal) := by
  simp [Ideal.ofBits, Ideal.ieee, -EReal.coe_mul, eps]; norm_num

/-- An array none of whose entries is infinite is an array of real numbers. -/
theorem exists_real {ι : Type*} {x : ι → EReal} (h : ∀ i, x i ≠ ⊤ ∧ x i ≠ ⊥) : ∃ r : ι → ℝ, x = fun i => (r i : EReal) :=
  ⟨fun i => (x i).toReal, funext fun i => (EReal.coe_toReal (h i).1 (h i).2).symm⟩

theorem ofBits_inf : Ideal.ofBits .f32 0x7F800000#32 = ⊤ := by
  simp [Ideal.ofBits, Ideal.ieee]

/-- Two real factors have a real product. -/
theorem mul_of_coe {a b : EReal} {x y : ℝ} (ha : a = (x : EReal)) (hb : b = (y : EReal)) : a * b = ((x * y : ℝ) : EReal) := by
  rw [ha, hb, ← EReal.coe_mul]

/-- An array whose absolute values all compare less than infinity is an array of real numbers. -/
theorem exists_real_of_abs_lt {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) :
    ∃ r : s.Idx → ℝ, x = fun i => (r i : EReal) := by
  refine exists_real fun i => ?_
  have h1 : Ideal.cmp .olt (max (x i) (-x i)) (Ideal.ofBits .f32 0x7F800000#32) = 1#1 := congrFun h i
  rw [ofBits_inf] at h1
  have h2 : max (x i) (-x i) < ⊤ := by
    by_contra hn
    simp [Ideal.cmp, hn] at h1
  refine ⟨fun ht => ?_, fun hb => ?_⟩
  · rw [ht] at h2; simp at h2
  · rw [hb] at h2; simp at h2

/-- A host sum at one index, the indices that reduce to it listed by `f`. -/
theorem hostReduceAdd_of {n : ℕ} {s t : Shape} {axes : List (Fin s.rank)} (h : s.ReducesTo axes t) (x : s.Idx → EReal) (init : EReal) (j : t.Idx)
    (f : Fin n → s.Idx) (hf : Function.Injective f) (hj : ∀ i, h.drop i = j ↔ ∃ k, f k = i) :
    Ideal.hostReduceAdd h x init j = init + ∑ k, x (f k) := by
  unfold Ideal.hostReduceAdd
  congr 1
  rw [← Finset.sum_image (g := f) (s := Finset.univ) (f := x) (fun a _ b _ hab => hf hab)]
  refine Finset.sum_congr ?_ fun _ _ => rfl
  ext i
  simp [hj i]

/-- A sum over the two unit axes around the axis that stays. -/
theorem hostReduceAdd_units_02 {n : ℕ} (h : (⟨3, ![1, n, 1]⟩ : Shape).ReducesTo [0, 2] ⟨1, ![n]⟩)
    (x : (⟨3, ![1, n, 1]⟩ : Shape).Idx → EReal) (init : EReal) (r : Fin n) :
    Ideal.hostReduceAdd h x init (ix1 r) = init + x (ix3 0 r 0) := by
  rw [hostReduceAdd_of h x init (ix1 r) (fun _ : Fin 1 => ix3 0 r 0) (fun a b _ => Subsingleton.elim a b), Fin.sum_univ_one]
  intro i
  constructor
  · intro hi
    refine ⟨0, ?_⟩
    have h1 : i 1 = r := congrFun hi 0
    rw [eq_ix3 i, h1]
    exact congrArg₂ (fun a b => ix3 a r b) (Subsingleton.elim (α := Fin 1) _ _) (Subsingleton.elim (α := Fin 1) _ _)
  · rintro ⟨_, rfl⟩
    funext b
    fin_cases b
    rfl

/-- A sum over the two axes before the axis that stays. -/
theorem hostReduceAdd_rows_01 {l n : ℕ} (h : (⟨3, ![1, l, n]⟩ : Shape).ReducesTo [0, 1] ⟨1, ![n]⟩)
    (x : (⟨3, ![1, l, n]⟩ : Shape).Idx → EReal) (init : EReal) (j : Fin n) :
    Ideal.hostReduceAdd h x init (ix1 j) = init + ∑ k, x (ix3 0 k j) := by
  refine hostReduceAdd_of h x init (ix1 j) (fun k : Fin l => ix3 0 k j) (fun a b hab => congrFun hab 1) ?_
  intro i
  constructor
  · intro hi
    refine ⟨i 1, ?_⟩
    have h1 : i 2 = j := congrFun hi 0
    conv_rhs => rw [eq_ix3 i, h1]
    exact congrArg (fun a => ix3 a (i 1) j) (Subsingleton.elim (α := Fin 1) _ _)
  · rintro ⟨_, rfl⟩
    funext b
    fin_cases b
    rfl

end Cert.Reals

end
-- ==== Proof.Norm.lean ====
/- The norm y = x · rsqrt(mean x² + eps) · g of one row of 1024 numbers and its derivative: over the
   reals, as the kernels compute them, and as the host program of the reference computes them. -/
module

public import proofs.«01_k».proof.Proof.Reals
public import proofs.«01_k».proof.Proof.Gen.NormInRefIdeal

@[expose] public section

set_option maxRecDepth 16384

noncomputable section

namespace Cert.Norm

open Idealize.ShloMosaic Cert.Reals

/-- The mean square of a row, and the number its root is taken of. -/
def var (x : Fin 1024 → ℝ) : ℝ := (∑ k, x k * x k) / 1024 + eps

/-- The reciprocal root of a row. -/
def rs (x : Fin 1024 → ℝ) : ℝ := (Real.sqrt (var x))⁻¹

/-- The derivative of the norm without its gain, applied to `u`. -/
def dnorm (x u : Fin 1024 → ℝ) (j : Fin 1024) : ℝ :=
  rs x * (u j - x j * rs x * ((∑ k, u k * (x k * rs x)) / 1024))

theorem var_pos (x : Fin 1024 → ℝ) : 0 < var x :=
  add_pos_of_nonneg_of_pos (div_nonneg (Finset.sum_nonneg fun k _ => mul_self_nonneg _) (by norm_num)) eps_pos

theorem rs_sq (x : Fin 1024 → ℝ) : rs x * rs x = (var x)⁻¹ := by
  unfold rs
  rw [← mul_inv, Real.mul_self_sqrt (var_pos x).le]

/-- The mean square plus eps as a program spells it, of a row of real numbers. -/
theorem var_eq (x : Fin 1024 → ℝ) :
    Ideal.div (∑ k, (x k : EReal) * (x k : EReal)) (Ideal.ofBits .f32 0x44800000#32) + Ideal.ofBits .f32 0x358637BD#32
      = (var x : EReal) := by
  rw [ofBits_1024, ofBits_eps]
  simp only [← EReal.coe_mul, ← coe_sum]
  rw [div_coe_coe (by norm_num), ← EReal.coe_add]
  rfl

/-- The reciprocal root as a program spells it, of a row of real numbers. -/
theorem rs_eq (x : Fin 1024 → ℝ) :
    Ideal.rsqrt (Ideal.div (∑ k, (x k : EReal) * (x k : EReal)) (Ideal.ofBits .f32 0x44800000#32) + Ideal.ofBits .f32 0x358637BD#32)
      = (rs x : EReal) := by
  rw [var_eq, rsqrt_coe_pos (var_pos x)]
  rfl

/-- The derivative as the kernels compute it. -/
theorem dnorm_ker (x u : Fin 1024 → ℝ) (j : Fin 1024) :
    (rs x : EReal) * ((u j : EReal) - (x j : EReal) * (rs x : EReal)
        * Ideal.div (∑ k, (u k : EReal) * ((x k : EReal) * (rs x : EReal))) (Ideal.ofBits .f32 0x44800000#32))
      = (dnorm x u j : EReal) := by
  rw [ofBits_1024]
  simp only [← EReal.coe_mul, ← coe_sum]
  rw [div_coe_coe (by norm_num)]
  simp only [← EReal.coe_mul, ← EReal.coe_sub]
  rfl

/-- The derivative as differentiating the root gives it. -/
theorem dnorm_eq (x u : Fin 1024 → ℝ) (j : Fin 1024) :
    u j * rs x + x j * ((∑ k, x k * u k) * (-(1 / 2) * (rs x / var x)) / 1024)
      + (∑ k, x k * u k) * (-(1 / 2) * (rs x / var x)) / 1024 * x j = dnorm x u j := by
  have h : ∑ k, u k * (x k * rs x) = rs x * ∑ k, x k * u k := by
    rw [Finset.mul_sum]; exact Finset.sum_congr rfl fun k _ => by ring
  unfold dnorm
  rw [h, div_eq_mul_inv (rs x), ← rs_sq]
  ring

open Cert.NormInRefIdeal Cert.NormInRefIdeal.Gen

/-- The mean square plus eps, row by row, on the host. -/
def varV (X : FVec Ideal S1x2048x1024 .f32) : FVec Ideal S1x2048x1 .f32 :=
  addf (Host.divf (broadcastInDim S1x2048x1 ![0, 1] bcast_S1x2048_S1x2048x1_0_1
      (Host.reduceAdd (mulf X X) (constant S_ .f32 0x00000000#32) reducesTo_S1x2048x1024_S1x2048_d2 h_S_))
    (broadcastInDim S1x2048x1 ![] bcast_S_S1x2048x1 (constant S_ .f32 0x44800000#32)))
    (broadcastInDim S1x2048x1 ![] bcast_S_S1x2048x1 (constant S_ .f32 0x358637BD#32))

/-- A column of rows' numbers spread over the rows. -/
def spread (v : FVec Ideal S1x2048x1 .f32) : FVec Ideal S1x2048x1024 .f32 :=
  broadcastInDim S1x2048x1024 ![0, 1, 2] bcast_S1x2048x1_S1x2048x1024_0_1_2 v

/-- The gain spread over the rows. -/
def gain (G : FVec Ideal S1x1024 .f32) : FVec Ideal S1x2048x1024 .f32 :=
  broadcastInDim S1x2048x1024 ![0, 1, 2] bcast_S1x1x1024_S1x2048x1024_0_1_2
    (broadcastInDim S1x1x1024 ![2] bcast_S1024_S1x1x1024_2 (shapeCast S1024 G shapeCasts_S1x1024_S1024))

/-- What reaches a row through its mean square: the inner product of the row with `U`, times the
    derivative of the root, over the row's length; spread over the row. -/
def throughV (X U : FVec Ideal S1x2048x1024 .f32) : FVec Ideal S1x2048x1024 .f32 :=
  broadcastInDim S1x2048x1024 ![0, 1] bcast_S1x2048_S1x2048x1024_0_1 (broadcastInDim S1x2048 ![1] bcast_S2048_S1x2048_1
    (Host.reduceAdd (Host.divf (mulf (shapeCast S1x2048x1
          (Host.reduceAdd (mulf X U) (constant S_ .f32 0x00000000#32) reducesTo_S1x2048x1024_S1x2048_d2 h_S_) shapeCasts_S1x2048_S1x2048x1)
        (mulf (broadcastInDim S1x2048x1 ![] bcast_S_S1x2048x1 (constant S_ .f32 0xBF000000#32)) (Host.divf (Host.rsqrt (varV X)) (varV X))))
      (broadcastInDim S1x2048x1 ![] bcast_S_S1x2048x1 (constant S_ .f32 0x44800000#32)))
      (constant S_ .f32 0x00000000#32) reducesTo_S1x2048x1_S2048_d0_2 h_S_))

/-- The gradient of the gain: the sum over the rows. -/
def gainGrad (X DH : FVec Ideal S1x2048x1024 .f32) : FVec Ideal S1x1024 .f32 :=
  broadcastInDim S1x1024 ![1] bcast_S1024_S1x1024_1 (Host.reduceAdd (shapeCast S1x1x1024
    (Host.reduceAdd (mulf (mulf X (spread (Host.rsqrt (varV X)))) DH) (constant S_ .f32 0x00000000#32) reducesTo_S1x2048x1024_S1x1024_d1 h_S_)
    shapeCasts_S1x1024_S1x1x1024) (constant S_ .f32 0x00000000#32) reducesTo_S1x1x1024_S1024_d0_1 h_S_)

theorem varV_at (X : FVec Ideal S1x2048x1024 .f32) (r : Fin 2048) :
    varV X (ix3 0 r 0) = Ideal.div (∑ k : Fin 1024, X (ix3 0 r k) * X (ix3 0 r k)) (Ideal.ofBits .f32 0x44800000#32) + Ideal.ofBits .f32 0x358637BD#32 := by
  pointwise [varV]

theorem spread_at (v : FVec Ideal S1x2048x1 .f32) (r : Fin 2048) (j : Fin 1024) : spread v (ix3 0 r j) = v (ix3 0 r 0) := by
  pointwise [spread]

theorem gain_at (G : FVec Ideal S1x1024 .f32) (r : Fin 2048) (j : Fin 1024) : gain G (ix3 0 r j) = G (ix2 0 j) := by
  pointwise [gain]

/-- The gain's gradient: the sum over the rows of the normed row times what comes in. -/
theorem gainGrad_at (X U : FVec Ideal S1x2048x1024 .f32) (j : Fin 1024) :
    gainGrad X U (ix2 0 j) = ∑ r : Fin 2048, X (ix3 0 r j) * Ideal.rsqrt (varV X (ix3 0 r 0)) * U (ix3 0 r j) := by
  pointwise [gainGrad]
  rw [hostReduceAdd_rows_01, Fin.sum_univ_one, zero_add]
  pointwise [spread]

theorem throughV_at (X U : FVec Ideal S1x2048x1024 .f32) (r : Fin 2048) (j : Fin 1024) (x u : Fin 1024 → ℝ)
    (hx : ∀ k, X (ix3 0 r k) = (x k : EReal)) (hu : ∀ k, U (ix3 0 r k) = (u k : EReal)) :
    throughV X U (ix3 0 r j) = (((∑ k, x k * u k) * (-(1 / 2) * (rs x / var x)) / 1024 : ℝ) : EReal) := by
  pointwise [throughV]
  rw [hostReduceAdd_units_02, zero_add]
  pointwise [varV_at, hx, hu]
  rw [rs_eq, var_eq, ofBits_neg_half, ofBits_1024, div_coe_coe (var_pos x).ne']
  simp only [← EReal.coe_mul, ← coe_sum]
  rw [div_coe_coe (by norm_num)]

/-- The derivative of the norm on the host, at a row of real numbers: the three terms that reach it. -/
theorem dnorm_host (X U : FVec Ideal S1x2048x1024 .f32) (r : Fin 2048) (j : Fin 1024) (x u : Fin 1024 → ℝ) (D : EReal)
    (hx : ∀ k, X (ix3 0 r k) = (x k : EReal)) (hu : ∀ k, U (ix3 0 r k) = (u k : EReal)) :
    D + (U (ix3 0 r j)) * Ideal.rsqrt (varV X (ix3 0 r 0)) + X (ix3 0 r j) * throughV X U (ix3 0 r j)
      + throughV X U (ix3 0 r j) * X (ix3 0 r j) = D + (dnorm x u j : EReal) := by
  rw [throughV_at X U r j x u hx hu, varV_at]
  simp only [hx, hu, rs_eq]
  rw [add_assoc, add_assoc, ← dnorm_eq]
  simp only [← EReal.coe_mul, ← EReal.coe_add]
  rw [add_assoc]

/-- The norm of every row, with its gain. -/
def normV (X : FVec Ideal S1x2048x1024 .f32) (G : FVec Ideal S1x1024 .f32) : FVec Ideal S1x2048x1024 .f32 :=
  mulf (mulf X (spread (Host.rsqrt (varV X)))) (gain G)

/-- The gradient through the norm of what comes in times the gain, without and with what reaches the rows beside the norm. -/
def backN (X U : FVec Ideal S1x2048x1024 .f32) : FVec Ideal S1x2048x1024 .f32 :=
  addf (addf (mulf U (spread (Host.rsqrt (varV X)))) (mulf X (throughV X U))) (mulf (throughV X U) X)

def backR (D X U : FVec Ideal S1x2048x1024 .f32) : FVec Ideal S1x2048x1024 .f32 :=
  addf (addf (addf D (mulf U (spread (Host.rsqrt (varV X))))) (mulf X (throughV X U))) (mulf (throughV X U) X)

theorem normV_at (X : FVec Ideal S1x2048x1024 .f32) (G : FVec Ideal S1x1024 .f32) (r : Fin 2048) (j : Fin 1024) :
    normV X G (ix3 0 r j) = X (ix3 0 r j) * Ideal.rsqrt (varV X (ix3 0 r 0)) * G (ix2 0 j) := by
  pointwise [normV, gain_at, spread_at]

theorem backR_at (D X U : FVec Ideal S1x2048x1024 .f32) (r : Fin 2048) (j : Fin 1024) (x u : Fin 1024 → ℝ)
    (hx : ∀ k, X (ix3 0 r k) = (x k : EReal)) (hu : ∀ k, U (ix3 0 r k) = (u k : EReal)) :
    backR D X U (ix3 0 r j) = D (ix3 0 r j) + (dnorm x u j : EReal) := by
  rw [← dnorm_host X U r j x u _ hx hu]
  pointwise [backR, spread_at]

theorem backN_at (X U : FVec Ideal S1x2048x1024 .f32) (r : Fin 2048) (j : Fin 1024) (x u : Fin 1024 → ℝ)
    (hx : ∀ k, X (ix3 0 r k) = (x k : EReal)) (hu : ∀ k, U (ix3 0 r k) = (u k : EReal)) :
    backN X U (ix3 0 r j) = (dnorm x u j : EReal) := by
  have h := dnorm_host X U r j x u 0 hx hu
  rw [zero_add, zero_add] at h
  rw [← h]
  pointwise [backN, spread_at]

/-- What one row adds to the gradient of the gain. -/
def gainTerm (X U : FVec Ideal S1x2048x1024 .f32) (j : Fin 1024) (r : Fin 2048) : EReal :=
  X (ix3 0 r j) * Ideal.rsqrt (varV X (ix3 0 r 0)) * U (ix3 0 r j)

end Cert.Norm

end
-- ==== Proof.NormIn.lean ====
/- The gradient of x ↦ (x, norm x): the kernel's two result arrays are the reference's. -/
module

public import proofs.«01_k».proof.Proof.Norm
public import proofs.«01_k».proof.Proof.Gen.NormInIdeal.Value
public import proofs.«01_k».proof.Proof.Gen.NormInRefIdeal.Run

@[expose] public section

set_option maxRecDepth 16384

noncomputable section

open Idealize.ShloMosaic Idealize.ShloMosaic.TcCoe Idealize.SL.Sem
open Idealize.ShloMosaic.Pipeline (Dat)
open Cert.Reals

namespace Cert.NormInRefIdeal.Value
open Cert.NormInRefIdeal Cert.NormInRefIdeal.Gen Cert.Norm

variable (m : (ℓ : Loc nD τ sig) → Buf (Elt Ideal) ℓ) (c : Dev nD)

/-- The reference's gradient of the row array, in the parts that `Norm` names. -/
def dx (X DH DR : FVec Ideal S1x2048x1024 .f32) (G : FVec Ideal S1x1024 .f32) : FVec Ideal S2048x1024 .f32 :=
  shapeCast S2048x1024 (backR DR X (mulf DH (gain G))) shapeCasts_S1x2048x1024_S2048x1024

theorem res_dx : res_out0 m c = dx (m ((c.tc : Thread nD τ).loc main_arg0)) (m ((c.tc : Thread nD τ).loc main_arg2))
    (m ((c.tc : Thread nD τ).loc main_arg3)) (m ((c.tc : Thread nD τ).loc main_arg1)) := by
  unfold res_out0 res_main_v40 dx; rfl

theorem dx_at (X DH DR : FVec Ideal S1x2048x1024 .f32) (G : FVec Ideal S1x1024 .f32) (r : Fin 2048) (j : Fin 1024)
    (x u : Fin 1024 → ℝ) (hx : ∀ k, X (ix3 0 r k) = (x k : EReal)) (hu : ∀ k, DH (ix3 0 r k) * G (ix2 0 k) = (u k : EReal)) :
    dx X DH DR G (ix2 r j) = DR (ix3 0 r j) + (dnorm x u j : EReal) := by
  have hU : ∀ k, mulf DH (gain G) (ix3 0 r k) = (u k : EReal) := fun k => by pointwise [gain_at]; exact hu k
  pointwise [dx]
  exact backR_at DR X _ r j x u hx hU

end Cert.NormInRefIdeal.Value

namespace Cert.NormInIdeal.Value
open Cert.NormInIdeal Cert.NormInIdeal.Gen Cert.Norm

theorem pay_dx (x dh dr : FVec Ideal S512x1024 .f32) (g : FVec Ideal S1x1024 .f32) (r : Fin 512) (j : Fin 1024)
    (xr u : Fin 1024 → ℝ) (hx : ∀ k, x (ix2 r k) = (xr k : EReal)) (hu : ∀ k, dh (ix2 r k) * g (ix2 0 k) = (u k : EReal)) :
    k0_pay8 (F := Ideal) x g dh dr (ix2 r j) = dr (ix2 r j) + (dnorm xr u j : EReal) := by
  pointwise [k0_pay8, k0_pay3, k0_pay4, k0_pay5, k0_pay6, hx, hu]
  rw [rs_eq, dnorm_ker]

theorem pay_part (x dh : FVec Ideal S512x1024 .f32) (a : FVec Ideal S1x1024 .f32) (j : Fin 1024) :
    k0_pay1 (F := Ideal) (k0_pay7 x dh) (k0_pay9 a) (ix2 0 j) = a (ix2 0 j) + ∑ r : Fin 512, dh (ix2 r j) * k0_pay5 (F := Ideal) x (ix2 r j) := by
  pointwise [k0_pay1, k0_pay7, k0_pay9, k0_pay6]

theorem zero_fill (i : S1x1024.Idx) : k0_pay2 (F := Ideal) i = 0 := by
  pointwise [k0_pay2]

theorem idx : ∀ t : Fin cfg0.N, win0_0.index t = ![t.val, 0] ∧ win0_1.index t = ![t.val, 0] ∧ win0_2.index t = ![t.val, 0]
    ∧ win0_3.index t = ![0, 0] ∧ win0_4.index t = ![t.val, 0] := (by decide +kernel : ∀ t : Fin grid0.N, _)

variable (m : (ℓ : Loc nD τ sig) → Buf (Elt Ideal) ℓ) (c : Dev nD)

/-- A row of the array at the grid point that works on it. -/
abbrev row (t : Fin cfg0.N) (r : Fin 512) : Fin 2048 := ⟨t.val * 512 + r.val, by have := lt_of_lt_of_eq t.isLt N_0; omega⟩

theorem blk_dh (t : Fin cfg0.N) (r : Fin 512) (k : Fin 1024) :
    (show FVec Ideal S512x1024 .f32 from iblk m c 0 t) (ix2 r k) = m ((c.tc : Thread nD τ).loc main_arg2) (ix3 0 (row t r) k) := by
  blk_point [iblk, V, idx t]

theorem blk_x (t : Fin cfg0.N) (r : Fin 512) (k : Fin 1024) :
    (show FVec Ideal S512x1024 .f32 from iblk m c 1 t) (ix2 r k) = m ((c.tc : Thread nD τ).loc main_arg0) (ix3 0 (row t r) k) := by
  blk_point [iblk, V, idx t]

theorem blk_dr (t : Fin cfg0.N) (r : Fin 512) (k : Fin 1024) :
    (show FVec Ideal S512x1024 .f32 from iblk m c 2 t) (ix2 r k) = m ((c.tc : Thread nD τ).loc main_arg3) (ix3 0 (row t r) k) := by
  blk_point [iblk, V, idx t]

theorem blk_g (t : Fin cfg0.N) (k : Fin 1024) :
    (show FVec Ideal S1x1024 .f32 from iblk m c 3 t) (ix2 0 k) = m ((c.tc : Thread nD τ).loc main_arg1) (ix2 0 k) := by
  blk_point [iblk, V, idx t]

theorem emb_dx (t : Fin cfg0.N) (r : Fin 512) (j : Fin 1024) :
    ((View.whole main_v3_0).slice (win0_4.rect t)).emb (ix2 r j : S512x1024.Idx) = (ix2 (row t r) j : S2048x1024.Idx) := by
  blk_ext [idx t]

section
variable (X DH DR : FVec Ideal S1x2048x1024 .f32) (G : FVec Ideal S1x1024 .f32)
    (hX : m ((c.tc : Thread nD τ).loc main_arg0) = X) (hG : m ((c.tc : Thread nD τ).loc main_arg1) = G)
    (hDH : m ((c.tc : Thread nD τ).loc main_arg2) = DH) (hDR : m ((c.tc : Thread nD τ).loc main_arg3) = DR)
include hX hG hDH hDR

theorem final_dx (x u : Fin 2048 → Fin 1024 → ℝ)
    (hx : ∀ r k, X (ix3 0 r k) = (x r k : EReal)) (hu : ∀ r k, DH (ix3 0 r k) * G (ix2 0 k) = (u r k : EReal)) :
    (dats m 0 c).arrAt 4 (cfgs 0).N = Cert.NormInRefIdeal.Value.dx X DH DR G := by
  refine (dats m 0 c).arrAt_eq_of_covers 4 _ (by decide +kernel) fun t hf y => ?_
  obtain ⟨r, j, rfl⟩ : ∃ (r : Fin 512) (j : Fin 1024), y = (ix2 r j : S512x1024.Idx) := ⟨y 0, y 1, eq_ix2 y⟩
  blk_simp
  rw [after0_4]
  have key : k0_pay8 (F := Ideal) (iblk m c 1 t) (iblk m c 3 t) (iblk m c 0 t) (iblk m c 2 t) (ix2 r j)
      = Cert.NormInRefIdeal.Value.dx X DH DR G (((View.whole main_v3_0).slice (win0_4.rect t)).emb (ix2 r j : S512x1024.Idx)) := by
    rw [emb_dx, Cert.NormInRefIdeal.Value.dx_at X DH DR G _ j (x (row t r)) (u (row t r)) (hx _) (hu _)]
    refine (pay_dx _ _ _ _ r j (x (row t r)) (u (row t r)) (fun k => ?_) (fun k => ?_)).trans ?_
    · exact (blk_x m c t r k).trans (hX ▸ hx _ _)
    · exact (congrArg₂ (fun a b : EReal => a * b) (blk_dh m c t r k) (blk_g m c t k)).trans (hDH ▸ hG ▸ hu _ _)
    · exact congrArg (fun a : EReal => a + (dnorm (x (row t r)) (u (row t r)) j : EReal)) ((blk_dr m c t r j).trans (hDR ▸ rfl))
  by_cases h : t.val % 4 = 0
  · rw [outsAt0_A m c t h]; frame_out
    exact key
  · rw [outsAt0_B m c t h]; frame_out
    exact key

theorem step_dg (t : Fin cfg0.N) (a : FVec Ideal S1x1024 .f32) (j : Fin 1024) :
    k0_pay1 (F := Ideal) (k0_pay7 (iblk m c 1 t) (iblk m c 0 t)) (k0_pay9 a) (ix2 0 j)
      = a (ix2 0 j) + ∑ r : Fin 512, gainTerm X DH j (row t r) := by
  refine (pay_part _ _ _ j).trans (congrArg (a (ix2 0 j) + ·) (Finset.sum_congr rfl fun r _ => ?_))
  have h1 := blk_x m c t r
  have h2 := blk_dh m c t r j
  rw [hX] at h1
  rw [hDH] at h2
  unfold gainTerm
  rw [varV_at, mul_comm]
  refine congrArg₂ (fun a b : EReal => a * b) ?_ h2
  pointwise [k0_pay5, k0_pay4, k0_pay3, h1]

theorem final_dg : (dats m 0 c).arrAt 5 (cfgs 0).N = gainGrad X DH := by
  refine (dats m 0 c).arrAt_eq_of_after_last 5 t0_3 (by decide +kernel) _ fun y => ?_
  obtain ⟨j, rfl⟩ : ∃ (j : Fin 1024), y = (ix2 0 j : S1x1024.Idx) := ⟨y 1, (eq_ix2 y).trans (congrArg (fun a => ix2 a (y 1)) (Subsingleton.elim (α := Fin 1) _ _))⟩
  blk_simp
  rw [after0_5, Pipeline.eq_sum_fin_of_reset_step_apply_last (fun n h => (outsAt0 m c n h).2) 4 (fun _ => 0)
    (fun p i => ∑ r : Fin 512, gainTerm X DH (i 1) (row p r))
    (fun t h i => by
      obtain ⟨j, rfl⟩ : ∃ (j : Fin 1024), i = (ix2 0 j : S1x1024.Idx) := ⟨i 1, (eq_ix2 i).trans (congrArg (fun a => ix2 a (i 1)) (Subsingleton.elim (α := Fin 1) _ _))⟩
      rw [outsAt0_A m c t h]; frame_out
      refine (step_dg m c X DH DR G hX hG hDH hDR t _ j).trans ?_
      rw [zero_fill]
      rfl)
    (fun t h i => by
      obtain ⟨j, rfl⟩ : ∃ (j : Fin 1024), i = (ix2 0 j : S1x1024.Idx) := ⟨i 1, (eq_ix2 i).trans (congrArg (fun a => ix2 a (i 1)) (Subsingleton.elim (α := Fin 1) _ _))⟩
      rw [outsAt0_B m c t h]; frame_out
      exact step_dg m c X DH DR G hX hG hDH hDR t _ j)
    (le_of_eq N_0) t0_3 rfl _, zero_add]
  refine Eq.trans ?_ (gainGrad_at X DH j).symm
  refine Fin.sum_mul_add_congr fun s k hl => ?_
  rfl

end

end Cert.NormInIdeal.Value
-- ==== Proof.NormInClaim.lean ====
/- The claims about the gradient of x ↦ (x, norm x), from the two programs' runs. -/
module

public import proofs.«01_k».proof.Defs
public import proofs.«01_k».proof.Proof.NormIn
public import proofs.«01_k».proof.Proof.Gen.NormIn.Frame
public import proofs.«01_k».proof.Proof.Gen.Pre_norm_in_finite

@[expose] public section

set_option maxRecDepth 16384

noncomputable section

namespace Cert.Proof

open Idealize.ShloMosaic Idealize.SL.Sem Cert.Reals

theorem normIn_frame : Cert.quiescent_NormIn := fun m g _ => Cert.NormIn.Gen.frame m g

theorem normIn_frameIdeal : Cert.quiescent_NormInIdeal := fun m g _ => Cert.NormInIdeal.Gen.frame m g

theorem normIn_frameRef : Cert.quiescent_NormInRefIdeal := fun m g _ =>
  (θ_run Cert.NormInRefIdeal.defs _ _).mono (fun r h => ⟨fun c => (h c).2.2, sem_eq_zero_of_no_sems (by decide) r.2⟩)
    (Cert.NormInRefIdeal.Value.run m g)

theorem normIn_value : Cert.algebraic_NormInIdeal_NormInRefIdeal_pre_norm_in_finite := by
  pair_intro
  · run_from Cert.NormInIdeal.Value.run_blocks m g
  · run_from Cert.NormInRefIdeal.Value.run m' g'
    · obtain ⟨x, hx⟩ := exists_real_of_abs_lt _ _ (hpre c).1
      obtain ⟨w, hw⟩ := exists_real_of_abs_lt _ _ (hpre c).2.1
      obtain ⟨u, hu⟩ := exists_real_of_abs_lt _ _ (hpre c).2.2
      refine (Cert.NormInRefIdeal.Value.res_dx m' c).trans ?_
      rw [(hagree c).1, (hagree c).2.1, (hagree c).2.2.1, (hagree c).2.2.2]
      refine (Cert.NormInIdeal.Value.final_dx m c _ _ _ _ rfl rfl rfl rfl (fun r k => x (ix3 0 r k))
        (fun r k => u (ix3 0 r k) * w (ix2 0 k)) (fun r k => congrFun hx _) fun r k =>
          mul_of_coe (congrFun hu _) (congrFun hw _)).symm
    · exact (Cert.NormInIdeal.Value.final_dg m c _ _ _ _ rfl rfl rfl rfl).symm

end Cert.Proof

end
-- ==== Proof.NormsMid.lean ====
/- The gradient through the two norms in the middle of the layer: the kernel's four result arrays are the reference's. -/
module

public import proofs.«01_k».proof.Proof.Norm
public import proofs.«01_k».proof.Proof.Gen.NormsMidIdeal.Value
public import proofs.«01_k».proof.Proof.Gen.NormsMidRefIdeal.Run

@[expose] public section

set_option maxRecDepth 16384

noncomputable section

open Idealize.ShloMosaic Idealize.ShloMosaic.TcCoe Idealize.SL.Sem
open Idealize.ShloMosaic.Pipeline (Dat)
open Cert.Reals

namespace Cert.NormsMidRefIdeal.Value
open Cert.NormsMidRefIdeal Cert.NormsMidRefIdeal.Gen Cert.Norm

variable (m : (ℓ : Loc nD τ sig) → Buf (Elt Ideal) ℓ) (c : Dev nD)

/-- The rows between the two norms: the input plus the normed mixer output. -/
def mid (X M : FVec Ideal S1x2048x1024 .f32) (G2 : FVec Ideal S1x1024 .f32) : FVec Ideal S1x2048x1024 .f32 := addf X (normV M G2)

/-- The gradient of those rows. -/
def dmid (X M DH DY : FVec Ideal S1x2048x1024 .f32) (G2 G3 : FVec Ideal S1x1024 .f32) : FVec Ideal S1x2048x1024 .f32 :=
  shapeCast S1x2048x1024 (backR DY (mid X M G2) (mulf DH (gain G3))) shapeCasts_S1x2048x1024_S1x2048x1024

def flat (X : FVec Ideal S1x2048x1024 .f32) : FVec Ideal S2048x1024 .f32 := shapeCast S2048x1024 X shapeCasts_S1x2048x1024_S2048x1024

/-- The gradient of the mixer output. -/
def dmix (M U : FVec Ideal S1x2048x1024 .f32) (G2 : FVec Ideal S1x1024 .f32) : FVec Ideal S2048x1024 .bf16 :=
  truncf .bf16 (flat (backN M (mulf U (gain G2))))

section
variable (X M DH DY : FVec Ideal S1x2048x1024 .f32) (G2 G3 : FVec Ideal S1x1024 .f32)
    (hX : m ((c.tc : Thread nD τ).loc main_arg0) = X) (hM : m ((c.tc : Thread nD τ).loc main_arg1) = M)
    (hG2 : m ((c.tc : Thread nD τ).loc main_arg2) = G2) (hG3 : m ((c.tc : Thread nD τ).loc main_arg3) = G3)
    (hDH : m ((c.tc : Thread nD τ).loc main_arg4) = DH) (hDY : m ((c.tc : Thread nD τ).loc main_arg5) = DY)
include hX hM hG2 hG3 hDH hDY

theorem res_dx : res_out0 m c = flat (backR DY (mid X M G2) (mulf DH (gain G3))) := by
  subst hX hM hG2 hG3 hDH hDY
  unfold res_out0 res_main_v81 flat mid; rfl

theorem res_dmix : res_out1 m c = dmix M (dmid X M DH DY G2 G3) G2 := by
  subst hX hM hG2 hG3 hDH hDY
  unfold res_out1 res_main_v83 dmix dmid
  rfl

theorem res_dg2 : res_out3 m c = gainGrad M (dmid X M DH DY G2 G3) := by
  subst hX hM hG2 hG3 hDH hDY
  unfold res_out3 res_main_v80 dmid
  rfl

end

end Cert.NormsMidRefIdeal.Value

namespace Cert.NormsMidIdeal.Value
open Cert.NormsMidIdeal Cert.NormsMidIdeal.Gen Cert.Norm

theorem pay_dx (x dh dy : FVec Ideal S512x1024 .f32) (g : FVec Ideal S1x1024 .f32) (r : Fin 512) (j : Fin 1024)
    (xr u : Fin 1024 → ℝ) (hx : ∀ k, x (ix2 r k) = (xr k : EReal)) (hu : ∀ k, dh (ix2 r k) * g (ix2 0 k) = (u k : EReal)) :
    k0_pay8 (F := Ideal) x g dh dy (ix2 r j) = dy (ix2 r j) + (dnorm xr u j : EReal) := by
  pointwise [k0_pay8, k0_pay3, k0_pay4, k0_pay5, k0_pay6, hx, hu]
  rw [rs_eq, dnorm_ker]

theorem pay_dmix (x dn : FVec Ideal S512x1024 .f32) (g : FVec Ideal S1x1024 .f32) (r : Fin 512) (j : Fin 1024)
    (xr u : Fin 1024 → ℝ) (hx : ∀ k, x (ix2 r k) = (xr k : EReal)) (hu : ∀ k, dn (ix2 r k) * g (ix2 0 k) = (u k : EReal)) :
    k0_pay14 (F := Ideal) dn x g (ix2 r j) = (dnorm xr u j : EReal) := by
  pointwise [k0_pay14, k0_pay13, k0_pay12, k0_pay11, hx, hu]
  rw [rs_eq, dnorm_ker]

theorem pay_g3 (x dh : FVec Ideal S512x1024 .f32) (a : FVec Ideal S1x1024 .f32) (j : Fin 1024) :
    k0_pay10 (F := Ideal) (k0_pay7 x dh) (k0_pay9 a) (ix2 0 j) = a (ix2 0 j) + ∑ r : Fin 512, dh (ix2 r j) * k0_pay5 (F := Ideal) x (ix2 r j) := by
  pointwise [k0_pay10, k0_pay7, k0_pay9, k0_pay6]

theorem pay_g2 (x dn : FVec Ideal S512x1024 .f32) (a : FVec Ideal S1x1024 .f32) (j : Fin 1024) :
    k0_pay15 (F := Ideal) dn x a (ix2 0 j) = a (ix2 0 j) + ∑ r : Fin 512, dn (ix2 r j) * k0_pay13 (F := Ideal) x (ix2 r j) := by
  pointwise [k0_pay15]

theorem zero_fill (i : S1x1024.Idx) : k0_pay1 (F := Ideal) i = 0 := by
  pointwise [k0_pay1]

theorem zero_fill2 (i : S1x1024.Idx) : k0_pay2 (F := Ideal) i = 0 := by
  pointwise [k0_pay2]

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0]
    ∧ win0_6.index t = ![t.val, 0] ∧ win0_7.index t = ![t.val, 0] := (by decide +kernel : ∀ t : Fin grid0.N, _)

variable (m : (ℓ : Loc nD τ sig) → Buf (Elt Ideal) ℓ) (c : Dev nD)

/-- A row of the array at the grid point that works on it. -/
abbrev row (t : Fin cfg0.N) (r : Fin 512) : Fin 2048 := ⟨t.val * 512 + r.val, by have := lt_of_lt_of_eq t.isLt N_0; omega⟩

theorem emb_dx (t : Fin cfg0.N) (r : Fin 512) (j : Fin 1024) :
    ((View.whole main_v19_0).slice (win0_6.rect t)).emb (ix2 r j : S512x1024.Idx) = (ix2 (row t r) j : S2048x1024.Idx) := by
  blk_ext [idx t]

theorem emb_dmix (t : Fin cfg0.N) (r : Fin 512) (j : Fin 1024) :
    ((View.whole main_v19_1).slice (win0_7.rect t)).emb (ix2 r j : S512x1024.Idx) = (ix2 (row t r) j : S2048x1024.Idx) := by
  blk_ext [idx t]

theorem unit_row (y : S1x1024.Idx) : ∃ j : Fin 1024, y = (ix2 0 j : S1x1024.Idx) :=
  ⟨y 1, (eq_ix2 y).trans (congrArg (fun a => ix2 a (y 1)) (Subsingleton.elim (α := Fin 1) _ _))⟩

section
variable (X M DH DY : FVec Ideal S1x2048x1024 .f32) (G2 G3 : FVec Ideal S1x1024 .f32)
    (hX : m ((c.tc : Thread nD τ).loc main_arg0) = X) (hM : m ((c.tc : Thread nD τ).loc main_arg1) = M)
    (hG2 : m ((c.tc : Thread nD τ).loc main_arg2) = G2) (hG3 : m ((c.tc : Thread nD τ).loc main_arg3) = G3)
    (hDH : m ((c.tc : Thread nD τ).loc main_arg4) = DH) (hDY : m ((c.tc : Thread nD τ).loc main_arg5) = DY)
include hX hM hG2 hG3 hDH hDY

theorem blk_dh (t : Fin cfg0.N) (r : Fin 512) (k : Fin 1024) :
    (show FVec Ideal S512x1024 .f32 from iblk m c 0 t) (ix2 r k) = DH (ix3 0 (row t r) k) := by
  subst hDH; blk_point [iblk, V, idx t]

theorem V_x2 : V m c main_v16 = Cert.NormsMidRefIdeal.Value.flat (Cert.NormsMidRefIdeal.Value.mid X M G2) := by
  subst hX hM hG2
  unfold V
  after_results
  rfl

theorem blk_x2 (t : Fin cfg0.N) (r : Fin 512) (k : Fin 1024) :
    (show FVec Ideal S512x1024 .f32 from iblk m c 1 t) (ix2 r k) = Cert.NormsMidRefIdeal.Value.mid X M G2 (ix3 0 (row t r) k) := by
  have h : (show FVec Ideal S512x1024 .f32 from iblk m c 1 t) (ix2 r k) = V m c main_v16 (ix2 (row t r) k) := by
    blk_point [iblk, idx t]
  rw [h, V_x2 m c X M DH DY G2 G3 hX hM hG2 hG3 hDH hDY]
  pointwise [Cert.NormsMidRefIdeal.Value.flat]

theorem blk_dy (t : Fin cfg0.N) (r : Fin 512) (k : Fin 1024) :
    (show FVec Ideal S512x1024 .f32 from iblk m c 2 t) (ix2 r k) = DY (ix3 0 (row t r) k) := by
  subst hDY; blk_point [iblk, V, idx t]

theorem blk_m (t : Fin cfg0.N) (r : Fin 512) (k : Fin 1024) :
    (show FVec Ideal S512x1024 .f32 from iblk m c 3 t) (ix2 r k) = M (ix3 0 (row t r) k) := by
  subst hM; blk_point [iblk, V, idx t]

theorem blk_g3 (t : Fin cfg0.N) (k : Fin 1024) : (show FVec Ideal S1x1024 .f32 from iblk m c 4 t) (ix2 0 k) = G3 (ix2 0 k) := by
  subst hG3; blk_point [iblk, V, idx t]

theorem blk_g2 (t : Fin cfg0.N) (k : Fin 1024) : (show FVec Ideal S1x1024 .f32 from iblk m c 5 t) (ix2 0 k) = G2 (ix2 0 k) := by
  subst hG2; blk_point [iblk, V, idx t]

section
variable (x u : Fin 2048 → Fin 1024 → ℝ)
    (hx : ∀ r k, Cert.NormsMidRefIdeal.Value.mid X M G2 (ix3 0 r k) = (x r k : EReal))
    (hu : ∀ r k, DH (ix3 0 r k) * G3 (ix2 0 k) = (u r k : EReal))
include hx hu

theorem dmid_at (r : Fin 2048) (j : Fin 1024) :
    Cert.NormsMidRefIdeal.Value.dmid X M DH DY G2 G3 (ix3 0 r j) = DY (ix3 0 r j) + (dnorm (x r) (u r) j : EReal) := by
  pointwise [Cert.NormsMidRefIdeal.Value.dmid]
  exact backR_at _ _ _ r j (x r) (u r) (hx r) fun k => by pointwise [gain_at]; exact hu r k

/-- What a grid point writes as the gradient of the middle rows. -/
theorem point_dx (t : Fin cfg0.N) (r : Fin 512) (j : Fin 1024) :
    k0_pay8 (F := Ideal) (iblk m c 1 t) (iblk m c 4 t) (iblk m c 0 t) (iblk m c 2 t) (ix2 r j)
      = Cert.NormsMidRefIdeal.Value.dmid X M DH DY G2 G3 (ix3 0 (row t r) j) := by
  rw [dmid_at m c X M DH DY G2 G3 hX hM hG2 hG3 hDH hDY x u hx hu]
  refine (pay_dx _ _ _ _ r j (x (row t r)) (u (row t r)) (fun k => ?_) (fun k => ?_)).trans ?_
  · exact (blk_x2 m c X M DH DY G2 G3 hX hM hG2 hG3 hDH hDY t r k).trans (hx _ _)
  · exact (congrArg₂ (fun a b : EReal => a * b) (blk_dh m c X M DH DY G2 G3 hX hM hG2 hG3 hDH hDY t r k)
      (blk_g3 m c X M DH DY G2 G3 hX hM hG2 hG3 hDH hDY t k)).trans (hu _ _)
  · exact congrArg (fun a : EReal => a + (dnorm (x (row t r)) (u (row t r)) j : EReal)) (blk_dy m c X M DH DY G2 G3 hX hM hG2 hG3 hDH hDY t r j)

theorem final_dx : (dats m 0 c).arrAt 6 (cfgs 0).N
    = Cert.NormsMidRefIdeal.Value.flat (Cert.NormsMidRefIdeal.Value.dmid X M DH DY G2 G3) := by
  refine (dats m 0 c).arrAt_eq_of_covers 6 _ (by decide +kernel) fun t hf y => ?_
  obtain ⟨r, j, rfl⟩ : ∃ (r : Fin 512) (j : Fin 1024), y = (ix2 r j : S512x1024.Idx) := ⟨y 0, y 1, eq_ix2 y⟩
  blk_simp
  rw [after0_6, emb_dx]
  have key := point_dx m c X M DH DY G2 G3 hX hM hG2 hG3 hDH hDY x u hx hu t r j
  have e : Cert.NormsMidRefIdeal.Value.flat (Cert.NormsMidRefIdeal.Value.dmid X M DH DY G2 G3) (ix2 (row t r) j)
      = Cert.NormsMidRefIdeal.Value.dmid X M DH DY G2 G3 (ix3 0 (row t r) j) := by pointwise [Cert.NormsMidRefIdeal.Value.flat]
  rw [e]
  by_cases h : t.val % 4 = 0
  · rw [outsAt0_A m c t h]; frame_out
    exact key
  · rw [outsAt0_B m c t h]; frame_out
    exact key

theorem final_dmix (y v : Fin 2048 → Fin 1024 → ℝ) (hy : ∀ r k, M (ix3 0 r k) = (y r k : EReal))
    (hv : ∀ r k, Cert.NormsMidRefIdeal.Value.dmid X M DH DY G2 G3 (ix3 0 r k) * G2 (ix2 0 k) = (v r k : EReal)) :
    (dats m 0 c).arrAt 7 (cfgs 0).N
    = Cert.NormsMidRefIdeal.Value.dmix M (Cert.NormsMidRefIdeal.Value.dmid X M DH DY G2 G3) G2 := by
  refine (dats m 0 c).arrAt_eq_of_covers 7 _ (by decide +kernel) fun t hf y => ?_
  obtain ⟨r, j, rfl⟩ : ∃ (r : Fin 512) (j : Fin 1024), y = (ix2 r j : S512x1024.Idx) := ⟨y 0, y 1, eq_ix2 y⟩
  blk_simp
  rw [after0_7, emb_dmix]
  have e : Cert.NormsMidRefIdeal.Value.dmix M (Cert.NormsMidRefIdeal.Value.dmid X M DH DY G2 G3) G2 (ix2 (row t r) j)
      = backN M (mulf (Cert.NormsMidRefIdeal.Value.dmid X M DH DY G2 G3) (gain G2)) (ix3 0 (row t r) j) := by
    pointwise [Cert.NormsMidRefIdeal.Value.dmix, Cert.NormsMidRefIdeal.Value.flat]
  have key : k0_pay14 (F := Ideal) (k0_pay8 (F := Ideal) (iblk m c 1 t) (iblk m c 4 t) (iblk m c 0 t) (iblk m c 2 t)) (iblk m c 3 t) (iblk m c 5 t) (ix2 r j)
      = backN M (mulf (Cert.NormsMidRefIdeal.Value.dmid X M DH DY G2 G3) (gain G2)) (ix3 0 (row t r) j) := by
    rw [backN_at M _ (row t r) j _ (v (row t r)) (hy _) fun k => by pointwise [gain_at]; exact hv _ k]
    refine pay_dmix _ _ _ r j _ (v (row t r)) (fun k => ?_) (fun k => ?_)
    · exact (blk_m m c X M DH DY G2 G3 hX hM hG2 hG3 hDH hDY t r k).trans (hy _ _)
    · exact (congrArg₂ (fun a b : EReal => a * b) (point_dx m c X M DH DY G2 G3 hX hM hG2 hG3 hDH hDY x u hx hu t r k)
        (blk_g2 m c X M DH DY G2 G3 hX hM hG2 hG3 hDH hDY t k)).trans (hv _ _)
  rw [e]
  by_cases h : t.val % 4 = 0
  · rw [outsAt0_A m c t h]; frame_out
    exact key
  · rw [outsAt0_B m c t h]; frame_out
    exact key

theorem step_g2 (t : Fin cfg0.N) (a : FVec Ideal S1x1024 .f32) (j : Fin 1024) :
    k0_pay15 (F := Ideal) (k0_pay8 (F := Ideal) (iblk m c 1 t) (iblk m c 4 t) (iblk m c 0 t) (iblk m c 2 t)) (iblk m c 3 t) a (ix2 0 j)
      = a (ix2 0 j) + ∑ r : Fin 512, gainTerm M (Cert.NormsMidRefIdeal.Value.dmid X M DH DY G2 G3) j (row t r) := by
  refine (pay_g2 _ _ _ j).trans (congrArg (a (ix2 0 j) + ·) (Finset.sum_congr rfl fun r _ => ?_))
  have h1 := blk_m m c X M DH DY G2 G3 hX hM hG2 hG3 hDH hDY t r
  unfold gainTerm
  rw [varV_at, mul_comm]
  refine congrArg₂ (fun a b : EReal => a * b) ?_ (point_dx m c X M DH DY G2 G3 hX hM hG2 hG3 hDH hDY x u hx hu t r j)
  pointwise [k0_pay13, k0_pay12, k0_pay11, h1]

theorem final_g2 : (dats m 0 c).arrAt 9 (cfgs 0).N = gainGrad M (Cert.NormsMidRefIdeal.Value.dmid X M DH DY G2 G3) := by
  refine (dats m 0 c).arrAt_eq_of_after_last 9 t0_3 (by decide +kernel) _ fun y => ?_
  obtain ⟨j, rfl⟩ := unit_row y
  blk_simp
  rw [after0_9, Pipeline.eq_sum_fin_of_reset_step_apply_last (fun n h => (outsAt0 m c n h).2.2.2) 4 (fun _ => 0)
    (fun p i => ∑ r : Fin 512, gainTerm M (Cert.NormsMidRefIdeal.Value.dmid X M DH DY G2 G3) (i 1) (row p r))
    (fun t h i => by
      obtain ⟨j, rfl⟩ := unit_row i
      rw [outsAt0_A m c t h]; frame_out
      refine (step_g2 m c X M DH DY G2 G3 hX hM hG2 hG3 hDH hDY x u hx hu t _ j).trans ?_
      rw [zero_fill2]
      rfl)
    (fun t h i => by
      obtain ⟨j, rfl⟩ := unit_row i
      rw [outsAt0_B m c t h]; frame_out
      exact step_g2 m c X M DH DY G2 G3 hX hM hG2 hG3 hDH hDY x u hx hu t _ j)
    (le_of_eq N_0) t0_3 rfl _, zero_add]
  refine Eq.trans ?_ (gainGrad_at M _ j).symm
  refine Fin.sum_mul_add_congr fun s k hl => ?_
  rfl

end

theorem step_g3 (t : Fin cfg0.N) (a : FVec Ideal S1x1024 .f32) (j : Fin 1024) :
    k0_pay10 (F := Ideal) (k0_pay7 (iblk m c 1 t) (iblk m c 0 t)) (k0_pay9 a) (ix2 0 j)
      = a (ix2 0 j) + ∑ r : Fin 512, gainTerm (Cert.NormsMidRefIdeal.Value.mid X M G2) DH j (row t r) := by
  refine (pay_g3 _ _ _ j).trans (congrArg (a (ix2 0 j) + ·) (Finset.sum_congr rfl fun r _ => ?_))
  have h1 := blk_x2 m c X M DH DY G2 G3 hX hM hG2 hG3 hDH hDY t r
  unfold gainTerm
  rw [varV_at, mul_comm]
  refine congrArg₂ (fun a b : EReal => a * b) ?_ (blk_dh m c X M DH DY G2 G3 hX hM hG2 hG3 hDH hDY t r j)
  pointwise [k0_pay5, k0_pay4, k0_pay3, h1]

theorem final_g3 : (dats m 0 c).arrAt 8 (cfgs 0).N = gainGrad (Cert.NormsMidRefIdeal.Value.mid X M G2) DH := by
  refine (dats m 0 c).arrAt_eq_of_after_last 8 t0_3 (by decide +kernel) _ fun y => ?_
  obtain ⟨j, rfl⟩ := unit_row y
  blk_simp
  rw [after0_8, Pipeline.eq_sum_fin_of_reset_step_apply_last (fun n h => (outsAt0 m c n h).2.2.1) 4 (fun _ => 0)
    (fun p i => ∑ r : Fin 512, gainTerm (Cert.NormsMidRefIdeal.Value.mid X M G2) DH (i 1) (row p r))
    (fun t h i => by
      obtain ⟨j, rfl⟩ := unit_row i
      rw [outsAt0_A m c t h]; frame_out
      refine (step_g3 m c X M DH DY G2 G3 hX hM hG2 hG3 hDH hDY t _ j).trans ?_
      rw [zero_fill]
      rfl)
    (fun t h i => by
      obtain ⟨j, rfl⟩ := unit_row i
      rw [outsAt0_B m c t h]; frame_out
      exact step_g3 m c X M DH DY G2 G3 hX hM hG2 hG3 hDH hDY t _ j)
    (le_of_eq N_0) t0_3 rfl _, zero_add]
  refine Eq.trans ?_ (gainGrad_at _ DH j).symm
  refine Fin.sum_mul_add_congr fun s k hl => ?_
  rfl

end

end Cert.NormsMidIdeal.Value

end
-- ==== Proof.NormsMidClaim.lean ====
/- The claims about the gradient through the two norms in the middle of the layer, from the two programs' runs. -/
module

public import proofs.«01_k».proof.Defs
public import proofs.«01_k».proof.Proof.NormsMid
public import proofs.«01_k».proof.Proof.Gen.NormsMid.Frame
public import proofs.«01_k».proof.Proof.Gen.Pre_norms_mid_finite

@[expose] public section

set_option maxRecDepth 16384

noncomputable section

namespace Cert.Proof

open Idealize.ShloMosaic Idealize.SL.Sem Cert.Reals Cert.Norm

theorem normsMid_frame : Cert.quiescent_NormsMid := fun m g _ => Cert.NormsMid.Gen.frame m g

theorem normsMid_frameIdeal : Cert.quiescent_NormsMidIdeal := fun m g _ => Cert.NormsMidIdeal.Gen.frame m g

theorem normsMid_frameRef : Cert.quiescent_NormsMidRefIdeal := fun m g _ =>
  (θ_run Cert.NormsMidRefIdeal.defs _ _).mono (fun r h => ⟨fun c => (h c).2.2.2.2, sem_eq_zero_of_no_sems (by decide) r.2⟩)
    (Cert.NormsMidRefIdeal.Value.run m g)

section
open Cert.NormsMidRefIdeal Cert.NormsMidRefIdeal.Value

/-- Rows of real numbers stay rows of real numbers through the residual sum. -/
theorem normsMid_mid (x y : S1x2048x1024.Idx → ℝ) (g : S1x1024.Idx → ℝ) (r : Fin 2048) (k : Fin 1024) :
    mid (fun i => (x i : EReal)) (fun i => (y i : EReal)) (fun i => (g i : EReal)) (ix3 0 r k)
      = ((x (ix3 0 r k) + y (ix3 0 r k) * rs (fun k => y (ix3 0 r k)) * g (ix2 0 k) : ℝ) : EReal) := by
  pointwise [mid, normV_at, varV_at]
  rw [rs_eq (fun k => y (ix3 0 r k))]
  simp only [← EReal.coe_mul, ← EReal.coe_add]

end

/-- The four result arrays agree where the argument arrays hold real numbers. -/
theorem normsMid_results (m : (ℓ : Loc Cert.NormsMidIdeal.nD Cert.NormsMidIdeal.τ Cert.NormsMidIdeal.sig) → Buf (Elt Ideal) ℓ)
    (m' : (ℓ : Loc Cert.NormsMidRefIdeal.nD Cert.NormsMidRefIdeal.τ Cert.NormsMidRefIdeal.sig) → Buf (Elt Ideal) ℓ) (c : Dev Cert.NormsMidIdeal.nD)
    (X M DH DY : FVec Ideal Cert.NormsMidIdeal.S1x2048x1024 .f32) (G2 G3 : FVec Ideal Cert.NormsMidIdeal.S1x1024 .f32)
    (h0 : m ((c.tc : Thread _ _).loc Cert.NormsMidIdeal.main_arg0) = X) (h1 : m ((c.tc : Thread _ _).loc Cert.NormsMidIdeal.main_arg1) = M)
    (h2 : m ((c.tc : Thread _ _).loc Cert.NormsMidIdeal.main_arg2) = G2) (h3 : m ((c.tc : Thread _ _).loc Cert.NormsMidIdeal.main_arg3) = G3)
    (h4 : m ((c.tc : Thread _ _).loc Cert.NormsMidIdeal.main_arg4) = DH) (h5 : m ((c.tc : Thread _ _).loc Cert.NormsMidIdeal.main_arg5) = DY)
    (k0 : m' ((c.tc : Thread _ _).loc Cert.NormsMidRefIdeal.main_arg0) = X) (k1 : m' ((c.tc : Thread _ _).loc Cert.NormsMidRefIdeal.main_arg1) = M)
    (k2 : m' ((c.tc : Thread _ _).loc Cert.NormsMidRefIdeal.main_arg2) = G2) (k3 : m' ((c.tc : Thread _ _).loc Cert.NormsMidRefIdeal.main_arg3) = G3)
    (k4 : m' ((c.tc : Thread _ _).loc Cert.NormsMidRefIdeal.main_arg4) = DH) (k5 : m' ((c.tc : Thread _ _).loc Cert.NormsMidRefIdeal.main_arg5) = DY)
    (rX : ∃ x : Cert.NormsMidIdeal.S1x2048x1024.Idx → ℝ, X = fun i => (x i : EReal)) (rM : ∃ y : Cert.NormsMidIdeal.S1x2048x1024.Idx → ℝ, M = fun i => (y i : EReal))
    (r2 : ∃ g : Cert.NormsMidIdeal.S1x1024.Idx → ℝ, G2 = fun i => (g i : EReal)) (r3 : ∃ g : Cert.NormsMidIdeal.S1x1024.Idx → ℝ, G3 = fun i => (g i : EReal))
    (rH : ∃ x : Cert.NormsMidIdeal.S1x2048x1024.Idx → ℝ, DH = fun i => (x i : EReal)) (rY : ∃ x : Cert.NormsMidIdeal.S1x2048x1024.Idx → ℝ, DY = fun i => (x i : EReal)) :
    Cert.NormsMidRefIdeal.Value.res_out0 m' c = (Cert.NormsMidIdeal.Gen.dats m 0 c).arrAt 6 Cert.NormsMidIdeal.cfg0.N
    ∧ Cert.NormsMidRefIdeal.Value.res_out1 m' c = (Cert.NormsMidIdeal.Gen.dats m 0 c).arrAt 7 Cert.NormsMidIdeal.cfg0.N
    ∧ gainGrad (Cert.NormsMidRefIdeal.Value.mid X M G2) DH = (Cert.NormsMidIdeal.Gen.dats m 0 c).arrAt 8 Cert.NormsMidIdeal.cfg0.N
    ∧ Cert.NormsMidRefIdeal.Value.res_out3 m' c = (Cert.NormsMidIdeal.Gen.dats m 0 c).arrAt 9 Cert.NormsMidIdeal.cfg0.N := by
  obtain ⟨x, rfl⟩ := rX
  obtain ⟨y, rfl⟩ := rM
  obtain ⟨g2, rfl⟩ := r2
  obtain ⟨g3, rfl⟩ := r3
  obtain ⟨dh, rfl⟩ := rH
  obtain ⟨dy, rfl⟩ := rY
  have hxr := normsMid_mid x y g2
  have hu : ∀ (r : Fin 2048) (k : Fin 1024), ((dh (ix3 0 r k) : ℝ) : EReal) * (g3 (ix2 0 k) : EReal) = ((dh (ix3 0 r k) * g3 (ix2 0 k) : ℝ) : EReal) :=
    fun r k => (EReal.coe_mul _ _).symm
  have hd := Cert.NormsMidIdeal.Value.dmid_at m c _ _ _ _ _ _ h0 h1 h2 h3 h4 h5 _ _ hxr hu
  refine ⟨?_, ?_, ?_, ?_⟩
  · refine (Cert.NormsMidRefIdeal.Value.res_dx m' c _ _ _ _ _ _ k0 k1 k2 k3 k4 k5).trans ?_
    refine Eq.trans ?_ (Cert.NormsMidIdeal.Value.final_dx m c _ _ _ _ _ _ h0 h1 h2 h3 h4 h5 _ _ hxr hu).symm
    unfold Cert.NormsMidRefIdeal.Value.dmid
    rw [shapeCast_id]
  · refine (Cert.NormsMidRefIdeal.Value.res_dmix m' c _ _ _ _ _ _ k0 k1 k2 k3 k4 k5).trans ?_
    refine (Cert.NormsMidIdeal.Value.final_dmix m c _ _ _ _ _ _ h0 h1 h2 h3 h4 h5 _ _ hxr hu (fun r k => y (ix3 0 r k))
      (fun r k => (dy (ix3 0 r k) + dnorm (fun k => x (ix3 0 r k) + y (ix3 0 r k) * rs (fun k => y (ix3 0 r k)) * g2 (ix2 0 k))
        (fun k => dh (ix3 0 r k) * g3 (ix2 0 k)) k) * g2 (ix2 0 k)) (fun r k => rfl) fun r k => ?_).symm
    rw [hd]
    simp only [← EReal.coe_mul, ← EReal.coe_add]
  · exact (Cert.NormsMidIdeal.Value.final_g3 m c _ _ _ _ _ _ h0 h1 h2 h3 h4 h5).symm
  · refine (Cert.NormsMidRefIdeal.Value.res_dg2 m' c _ _ _ _ _ _ k0 k1 k2 k3 k4 k5).trans ?_
    exact (Cert.NormsMidIdeal.Value.final_g2 m c _ _ _ _ _ _ h0 h1 h2 h3 h4 h5 _ _ hxr hu).symm

theorem normsMid_value : Cert.algebraic_NormsMidIdeal_NormsMidRefIdeal_pre_norms_mid_finite := by
  pair_intro
  · run_from Cert.NormsMidIdeal.Value.run_blocks m g
  · have key := fun c => normsMid_results m m' c _ _ _ _ _ _ rfl rfl rfl rfl rfl rfl (hagree c).1 (hagree c).2.1 (hagree c).2.2.1
      (hagree c).2.2.2.1 (hagree c).2.2.2.2.1 (hagree c).2.2.2.2.2 (exists_real_of_abs_lt _ _ (hpre c).1)
      (exists_real_of_abs_lt _ _ (hpre c).2.1) (exists_real_of_abs_lt _ _ (hpre c).2.2.1) (exists_real_of_abs_lt _ _ (hpre c).2.2.2.1)
      (exists_real_of_abs_lt _ _ (hpre c).2.2.2.2.1) (exists_real_of_abs_lt _ _ (hpre c).2.2.2.2.2)
    run_from Cert.NormsMidRefIdeal.Value.run m' g'
    · exact (key c).1
    · exact (key c).2.1
    · exact (key c).2.2.1
    · exact (key c).2.2.2

end Cert.Proof

end
-- ==== Proof.FfnLoss.lean ====
/- The loss and the gradient through it and the last norm: the kernel's four result arrays are the reference's. -/
module

public import proofs.«01_k».proof.Proof.Norm
public import proofs.«01_k».proof.Proof.Gen.FfnLossIdeal.Value
public import proofs.«01_k».proof.Proof.Gen.FfnLossRefIdeal.Run

@[expose] public section

set_option maxRecDepth 16384

noncomputable section

open Idealize.ShloMosaic Idealize.ShloMosaic.TcCoe Idealize.SL.Sem
open Idealize.ShloMosaic.Pipeline (Dat)
open Cert.Reals

namespace Cert.FfnLossRefIdeal.Value
open Cert.FfnLossRefIdeal Cert.FfnLossRefIdeal.Gen Cert.Norm

variable (m : (ℓ : Loc nD τ sig) → Buf (Elt Ideal) ℓ) (c : Dev nD)

/-- The down projection. -/
def outV (A : FVec Ideal S1x2048x3072 .f32) (W : FVec Ideal S1x3072x1024 .f32) : FVec Ideal S1x2048x1024 .f32 :=
  Host.dotGeneral dot_S1x2048x3072_S3072x1024_S1x2048x1024_2_0_01_1_n_n none A (shapeCast S3072x1024 W shapeCasts_S1x3072x1024_S3072x1024)

/-- The layer's output less the target. -/
def errV (O X T : FVec Ideal S1x2048x1024 .f32) (G : FVec Ideal S1x1024 .f32) : FVec Ideal S1x2048x1024 .f32 := subf (addf X (normV O G)) T

/-- The gradient of the layer's output. -/
def dyV (E : FVec Ideal S1x2048x1024 .f32) : FVec Ideal S1x2048x1024 .f32 :=
  mulf (broadcastInDim S1x2048x1024 ![0, 1] bcast_S1x2048_S1x2048x1024_0_1 (Host.divf (broadcastInDim S1x2048 ![] bcast_S_S1x2048 (mulf (constant S_ .f32 0x3F000000#32) (constant S_ .f32 0x3F800000#32)))
    (broadcastInDim S1x2048 ![] bcast_S_S1x2048 (constant S_ .f32 0x44800000#32))))
    (mulf (broadcastInDim S1x2048x1024 ![] bcast_S_S1x2048x1024 (constant S_ .f32 0x40000000#32)) E)

/-- Half the sum over the rows of the mean square of the error. -/
def lossV (E : FVec Ideal S1x2048x1024 .f32) : FVec Ideal S1x128 .f32 :=
  broadcastInDim S1x128 ![] bcast_S_S1x128 (mulf (constant S_ .f32 0x3F000000#32)
    (Host.reduceAdd (Host.divf (Host.reduceAdd (mulf E E) (constant S_ .f32 0x00000000#32) reducesTo_S1x2048x1024_S1x2048_d2 h_S_)
      (broadcastInDim S1x2048 ![] bcast_S_S1x2048 (constant S_ .f32 0x44800000#32))) (constant S_ .f32 0x00000000#32) reducesTo_S1x2048_S_d0_1 h_S_))

def flat (X : FVec Ideal S1x2048x1024 .f32) : FVec Ideal S2048x1024 .f32 := shapeCast S2048x1024 X shapeCasts_S1x2048x1024_S2048x1024

/-- The gradient of the down projection. -/
def dout (O U : FVec Ideal S1x2048x1024 .f32) (G : FVec Ideal S1x1024 .f32) : FVec Ideal S2048x1024 .bf16 :=
  truncf .bf16 (flat (backN O (mulf U (gain G))))

section
variable (A : FVec Ideal S1x2048x3072 .f32) (W : FVec Ideal S1x3072x1024 .f32) (X T : FVec Ideal S1x2048x1024 .f32) (G : FVec Ideal S1x1024 .f32)
    (hA : m ((c.tc : Thread nD τ).loc main_arg0) = A) (hW : m ((c.tc : Thread nD τ).loc main_arg1) = W)
    (hX : m ((c.tc : Thread nD τ).loc main_arg2) = X) (hT : m ((c.tc : Thread nD τ).loc main_arg3) = T)
    (hG : m ((c.tc : Thread nD τ).loc main_arg4) = G)
include hA hW hX hT hG

theorem res_dout : res_out1 m c = dout (outV A W) (dyV (errV (outV A W) X T G)) G := by
  subst hA hW hX hT hG
  unfold res_out1 res_main_v59 dout
  rfl

end

theorem outV_at (A : FVec Ideal S1x2048x3072 .f32) (W : FVec Ideal S1x3072x1024 .f32) (r : Fin 2048) (j : Fin 1024) :
    outV A W (ix3 0 r j) = ∑ k : Fin 3072, A (ix3 0 r k) * W (ix3 0 k j) := by
  pointwise [outV]

theorem errV_at (O X T : FVec Ideal S1x2048x1024 .f32) (G : FVec Ideal S1x1024 .f32) (r : Fin 2048) (j : Fin 1024) :
    errV O X T G (ix3 0 r j) = X (ix3 0 r j) + O (ix3 0 r j) * Ideal.rsqrt (varV O (ix3 0 r 0)) * G (ix2 0 j) - T (ix3 0 r j) := by
  pointwise [errV, normV_at]

theorem dyV_at (E : FVec Ideal S1x2048x1024 .f32) (r : Fin 2048) (j : Fin 1024) (e : ℝ) (he : E (ix3 0 r j) = (e : EReal)) :
    dyV E (ix3 0 r j) = ((e * (1 / 1024) : ℝ) : EReal) := by
  pointwise [dyV, he]
  rw [ofBits_half, ofBits_two, ofBits_1024, ← EReal.coe_mul, div_coe_coe (by norm_num)]
  simp only [← EReal.coe_mul]
  congr 1; ring

theorem lossV_at (E : FVec Ideal S1x2048x1024 .f32) (j : Fin 128) (e : Fin 2048 → Fin 1024 → ℝ) (he : ∀ r k, E (ix3 0 r k) = (e r k : EReal)) :
    lossV E (ix2 0 j) = (((1 / 2048) * ∑ r, ∑ k, e r k * e r k : ℝ) : EReal) := by
  pointwise [lossV, he]
  simp only [Finset.univ_unique, Finset.sum_singleton]
  rw [ofBits_half, ofBits_1024]
  simp only [← EReal.coe_mul, ← coe_sum, div_coe_coe (show (1024 : ℝ) ≠ 0 by norm_num)]
  rw [← Finset.sum_div]
  congr 1; ring

end Cert.FfnLossRefIdeal.Value

namespace Cert.FfnLossIdeal.Value
open Cert.FfnLossIdeal Cert.FfnLossIdeal.Gen Cert.Norm

theorem pay_out (f : FVec Ideal S512x3072 .bf16) (w : FVec Ideal S3072x1024 .bf16) (r : Fin 512) (j : Fin 1024) :
    k0_pay6 (F := Ideal) f w (ix2 r j) = ∑ k : Fin 3072, f (ix2 r k) * w (ix2 k j) := by
  pointwise [k0_pay6]

theorem pay_normed (f : FVec Ideal S512x3072 .bf16) (w : FVec Ideal S3072x1024 .bf16) (r : Fin 512) (j : Fin 1024) :
    k0_pay8 (F := Ideal) f w (ix2 r j) = k0_pay6 (F := Ideal) f w (ix2 r j) * Ideal.rsqrt (Ideal.div (∑ k : Fin 1024, k0_pay6 (F := Ideal) f w (ix2 r k) * k0_pay6 (F := Ideal) f w (ix2 r k))
      (Ideal.ofBits .f32 0x44800000#32) + Ideal.ofBits .f32 0x358637BD#32) := by
  pointwise [k0_pay8, k0_pay7]

theorem pay_err (f : FVec Ideal S512x3072 .bf16) (w : FVec Ideal S3072x1024 .bf16) (x t : FVec Ideal S512x1024 .f32) (g : FVec Ideal S1x1024 .f32)
    (r : Fin 512) (j : Fin 1024) :
    k0_pay9 (F := Ideal) f w x g t (ix2 r j) = x (ix2 r j) + k0_pay8 (F := Ideal) f w (ix2 r j) * g (ix2 0 j) - t (ix2 r j) := by
  pointwise [k0_pay9]

theorem pay_dy (v : FVec Ideal S512x1024 .f32) (r : Fin 512) (j : Fin 1024) (e : ℝ) (he : v (ix2 r j) = (e : EReal)) :
    k0_pay1 (F := Ideal) v (ix2 r j) = ((e * (1 / 1024) : ℝ) : EReal) := by
  pointwise [k0_pay1, he]
  rw [ofBits_inv_1024, ← EReal.coe_mul]

theorem pay_dout (f : FVec Ideal S512x3072 .bf16) (w : FVec Ideal S3072x1024 .bf16) (v : FVec Ideal S512x1024 .f32) (g : FVec Ideal S1x1024 .f32)
    (r : Fin 512) (j : Fin 1024) (o u : Fin 1024 → ℝ) (ho : ∀ k, k0_pay6 (F := Ideal) f w (ix2 r k) = (o k : EReal))
    (hu : ∀ k, k0_pay1 (F := Ideal) v (ix2 r k) * g (ix2 0 k) = (u k : EReal)) :
    k0_pay2 (F := Ideal) (k0_pay7 f w) (k0_pay8 f w) v g (ix2 r j) = (dnorm o u j : EReal) := by
  pointwise [k0_pay2, k0_pay8, k0_pay7, ho, hu]
  rw [rs_eq, dnorm_ker]

theorem pay_g4 (n v : FVec Ideal S512x1024 .f32) (a : FVec Ideal S1x1024 .f32) (j : Fin 1024) :
    k0_pay3 (F := Ideal) n v a (ix2 0 j) = a (ix2 0 j) + ∑ r : Fin 512, k0_pay1 (F := Ideal) v (ix2 r j) * n (ix2 r j) := by
  pointwise [k0_pay3]

/-- The end of the loss's payload, over the error it is given. -/
def lossOf (v : FVec Ideal S512x1024 .f32) (a : FVec Ideal S1x128 .f32) : FVec Ideal S1x128 .f32 :=
  addf (shapeCast S1x128 a shapeCasts_S1x128_S1x128) (broadcast S1x128 (Scalar.mulf (F := Ideal) (φ := .f32) (Scalar.ofBits .f32 0x3A000000#32)
    (extractAt ![0, 0, 0] (shapeCast S1x1x1 (multiReduction .add [1, 2] S1 (shapeCast S1x512x1024 (mulf v v) shapeCasts_S512x1024_S1x512x1024)
      0x00000000#32 reduces_S1x512x1024_S1 (.inl rfl) rfl) shapeCasts_S1_S1x1x1) inpos_S1x1x1_p0_0_0)))

theorem lossOf_at (v : FVec Ideal S512x1024 .f32) (a : FVec Ideal S1x128 .f32) (j : Fin 128) :
    lossOf v a (ix2 0 j) = a (ix2 0 j) + Ideal.ofBits .f32 0x3A000000#32 * ∑ r : Fin 512, ∑ k : Fin 1024, v (ix2 r k) * v (ix2 r k) := by
  pointwise [lossOf]

theorem pay_loss (f : FVec Ideal S512x3072 .bf16) (w : FVec Ideal S3072x1024 .bf16) (x t : FVec Ideal S512x1024 .f32) (g : FVec Ideal S1x1024 .f32)
    (a : FVec Ideal S1x128 .f32) (j : Fin 128) (e : Fin 512 → Fin 1024 → ℝ) (he : ∀ r k, k0_pay9 (F := Ideal) f w x g t (ix2 r k) = (e r k : EReal)) :
    k0_pay10 (F := Ideal) f w x g t a (ix2 0 j) = a (ix2 0 j) + (((1 / 2048) * ∑ r, ∑ k, e r k * e r k : ℝ) : EReal) := by
  refine (lossOf_at (k0_pay9 (F := Ideal) f w x g t) a j).trans ?_
  simp only [he, ofBits_inv_2048, ← EReal.coe_mul, ← coe_sum]

theorem zero_loss (i : S1x128.Idx) : k0_pay4 (F := Ideal) i = 0 := by
  pointwise [k0_pay4]

theorem zero_fill (i : S1x1024.Idx) : k0_pay5 (F := Ideal) i = 0 := by
  pointwise [k0_pay5]

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0]
    ∧ win0_6.index t = ![t.val, 0] := (by decide +kernel : ∀ t : Fin grid0.N, _)

variable (m : (ℓ : Loc nD τ sig) → Buf (Elt Ideal) ℓ) (c : Dev nD)

/-- A row of the array at the grid point that works on it. -/
abbrev row (t : Fin cfg0.N) (r : Fin 512) : Fin 2048 := ⟨t.val * 512 + r.val, by have := lt_of_lt_of_eq t.isLt N_0; omega⟩

theorem emb_dy (t : Fin cfg0.N) (r : Fin 512) (j : Fin 1024) :
    ((View.whole main_v6_0).slice (win0_5.rect t)).emb (ix2 r j : S512x1024.Idx) = (ix2 (row t r) j : S2048x1024.Idx) := by
  blk_ext [idx t]

theorem emb_dout (t : Fin cfg0.N) (r : Fin 512) (j : Fin 1024) :
    ((View.whole main_v6_1).slice (win0_6.rect t)).emb (ix2 r j : S512x1024.Idx) = (ix2 (row t r) j : S2048x1024.Idx) := by
  blk_ext [idx t]

theorem unit_row {n : ℕ} (y : (⟨2, ![1, n]⟩ : Shape).Idx) : ∃ j : Fin n, y = ix2 0 j :=
  ⟨y 1, (eq_ix2 y).trans (congrArg (fun a => ix2 a (y 1)) (Subsingleton.elim (α := Fin 1) _ _))⟩

section
variable (A : FVec Ideal S1x2048x3072 .f32) (W : FVec Ideal S1x3072x1024 .f32) (X T : FVec Ideal S1x2048x1024 .f32) (G : FVec Ideal S1x1024 .f32)
    (hA : m ((c.tc : Thread nD τ).loc main_arg0) = A) (hW : m ((c.tc : Thread nD τ).loc main_arg1) = W)
    (hX : m ((c.tc : Thread nD τ).loc main_arg2) = X) (hT : m ((c.tc : Thread nD τ).loc main_arg3) = T)
    (hG : m ((c.tc : Thread nD τ).loc main_arg4) = G)

include hA in
theorem blk_f (t : Fin cfg0.N) (r : Fin 512) (k : Fin 3072) :
    (show FVec Ideal S512x3072 .bf16 from iblk m c 0 t) (ix2 r k) = A (ix3 0 (row t r) k) := by
  subst hA; blk_point [iblk, V, idx t]

include hW in
theorem blk_w (t : Fin cfg0.N) (k : Fin 3072) (j : Fin 1024) :
    (show FVec Ideal S3072x1024 .bf16 from iblk m c 1 t) (ix2 k j) = W (ix3 0 k j) := by
  subst hW; blk_point [iblk, V, idx t]

include hX in
theorem blk_x (t : Fin cfg0.N) (r : Fin 512) (k : Fin 1024) :
    (show FVec Ideal S512x1024 .f32 from iblk m c 2 t) (ix2 r k) = X (ix3 0 (row t r) k) := by
  subst hX; blk_point [iblk, V, idx t]

include hT in
theorem blk_t (t : Fin cfg0.N) (r : Fin 512) (k : Fin 1024) :
    (show FVec Ideal S512x1024 .f32 from iblk m c 3 t) (ix2 r k) = T (ix3 0 (row t r) k) := by
  subst hT; blk_point [iblk, V, idx t]

include hG in
theorem blk_g (t : Fin cfg0.N) (k : Fin 1024) : (show FVec Ideal S1x1024 .f32 from iblk m c 4 t) (ix2 0 k) = G (ix2 0 k) := by
  subst hG; blk_point [iblk, V, idx t]

open Cert.FfnLossRefIdeal.Value in
include hA hW in
theorem point_out (t : Fin cfg0.N) (r : Fin 512) (j : Fin 1024) :
    k0_pay6 (F := Ideal) (iblk m c 0 t) (iblk m c 1 t) (ix2 r j) = outV A W (ix3 0 (row t r) j) := by
  rw [pay_out, outV_at]
  exact Finset.sum_congr rfl fun k _ => congrArg₂ (fun a b : EReal => a * b) (blk_f m c A hA t r k) (blk_w m c W hW t k j)

open Cert.FfnLossRefIdeal.Value in
include hA hW in
theorem point_normed (t : Fin cfg0.N) (r : Fin 512) (j : Fin 1024) :
    k0_pay8 (F := Ideal) (iblk m c 0 t) (iblk m c 1 t) (ix2 r j)
      = outV A W (ix3 0 (row t r) j) * Ideal.rsqrt (varV (outV A W) (ix3 0 (row t r) 0)) := by
  rw [pay_normed, varV_at]
  simp only [point_out m c A W hA hW]

include hA hW hX hT hG

open Cert.FfnLossRefIdeal.Value in
theorem point_err (t : Fin cfg0.N) (r : Fin 512) (j : Fin 1024) :
    k0_pay9 (F := Ideal) (iblk m c 0 t) (iblk m c 1 t) (iblk m c 2 t) (iblk m c 4 t) (iblk m c 3 t) (ix2 r j)
      = errV (outV A W) X T G (ix3 0 (row t r) j) := by
  rw [pay_err, errV_at, point_normed m c A W hA hW]
  exact congrArg₂ (fun a b : EReal => a - b) (congrArg₂ (fun a b : EReal => a + b) (blk_x m c X hX t r j)
    (congrArg (fun b : EReal => _ * b) (blk_g m c G hG t j))) (blk_t m c T hT t r j)

section
variable (e : Fin 2048 → Fin 1024 → ℝ) (he : ∀ r k, Cert.FfnLossRefIdeal.Value.errV (Cert.FfnLossRefIdeal.Value.outV A W) X T G (ix3 0 r k) = (e r k : EReal))
include he

open Cert.FfnLossRefIdeal.Value in
theorem point_dy (t : Fin cfg0.N) (r : Fin 512) (j : Fin 1024) :
    k0_pay1 (F := Ideal) (k0_pay9 (iblk m c 0 t) (iblk m c 1 t) (iblk m c 2 t) (iblk m c 4 t) (iblk m c 3 t)) (ix2 r j)
      = dyV (errV (outV A W) X T G) (ix3 0 (row t r) j) := by
  rw [dyV_at _ _ j _ (he _ j)]
  exact pay_dy _ r j _ ((point_err m c A W X T G hA hW hX hT hG t r j).trans (he _ j))

open Cert.FfnLossRefIdeal.Value in
theorem final_dy : (dats m 0 c).arrAt 5 (cfgs 0).N = flat (dyV (errV (outV A W) X T G)) := by
  refine (dats m 0 c).arrAt_eq_of_covers 5 _ (by decide +kernel) fun t hf y => ?_
  obtain ⟨r, j, rfl⟩ : ∃ (r : Fin 512) (j : Fin 1024), y = (ix2 r j : S512x1024.Idx) := ⟨y 0, y 1, eq_ix2 y⟩
  blk_simp
  rw [after0_5, emb_dy]
  have key := point_dy m c A W X T G hA hW hX hT hG e he t r j
  have e : flat (dyV (errV (outV A W) X T G)) (ix2 (row t r) j) = dyV (errV (outV A W) X T G) (ix3 0 (row t r) j) := by pointwise [flat]
  rw [e]
  by_cases h : t.val % 4 = 0
  · rw [outsAt0_A m c t h]; frame_out
    exact key
  · rw [outsAt0_B m c t h]; frame_out
    exact key

open Cert.FfnLossRefIdeal.Value in
theorem final_dout (o : Fin 2048 → Fin 1024 → ℝ) (g : Fin 1024 → ℝ) (ho : ∀ r k, outV A W (ix3 0 r k) = (o r k : EReal))
    (hg : ∀ k, G (ix2 0 k) = (g k : EReal)) :
    (dats m 0 c).arrAt 6 (cfgs 0).N = dout (outV A W) (dyV (errV (outV A W) X T G)) G := by
  refine (dats m 0 c).arrAt_eq_of_covers 6 _ (by decide +kernel) fun t hf y => ?_
  obtain ⟨r, j, rfl⟩ : ∃ (r : Fin 512) (j : Fin 1024), y = (ix2 r j : S512x1024.Idx) := ⟨y 0, y 1, eq_ix2 y⟩
  blk_simp
  rw [after0_6, emb_dout]
  have hv : ∀ k, dyV (errV (outV A W) X T G) (ix3 0 (row t r) k) * G (ix2 0 k) = ((e (row t r) k * (1 / 1024) * g k : ℝ) : EReal) :=
    fun k => mul_of_coe (dyV_at _ _ k _ (he _ k)) (hg k)
  have e' : dout (outV A W) (dyV (errV (outV A W) X T G)) G (ix2 (row t r) j)
      = backN (outV A W) (mulf (dyV (errV (outV A W) X T G)) (gain G)) (ix3 0 (row t r) j) := by
    pointwise [dout, flat]
  have key : k0_pay2 (F := Ideal) (k0_pay7 (iblk m c 0 t) (iblk m c 1 t)) (k0_pay8 (iblk m c 0 t) (iblk m c 1 t))
      (k0_pay9 (iblk m c 0 t) (iblk m c 1 t) (iblk m c 2 t) (iblk m c 4 t) (iblk m c 3 t)) (iblk m c 4 t) (ix2 r j)
      = backN (outV A W) (mulf (dyV (errV (outV A W) X T G)) (gain G)) (ix3 0 (row t r) j) := by
    rw [backN_at (outV A W) _ (row t r) j _ _ (ho _) fun k => by pointwise [gain_at]; exact hv k]
    refine pay_dout _ _ _ _ r j _ _ (fun k => ?_) (fun k => ?_)
    · exact (point_out m c A W hA hW t r k).trans (ho _ _)
    · exact (congrArg₂ (fun a b : EReal => a * b) (point_dy m c A W X T G hA hW hX hT hG e he t r k) (blk_g m c G hG t k)).trans (hv k)
  rw [e']
  by_cases h : t.val % 4 = 0
  · rw [outsAt0_A m c t h]; frame_out
    exact key
  · rw [outsAt0_B m c t h]; frame_out
    exact key

open Cert.FfnLossRefIdeal.Value in
theorem step_g4 (t : Fin cfg0.N) (a : FVec Ideal S1x1024 .f32) (j : Fin 1024) :
    k0_pay3 (F := Ideal) (k0_pay8 (iblk m c 0 t) (iblk m c 1 t))
      (k0_pay9 (iblk m c 0 t) (iblk m c 1 t) (iblk m c 2 t) (iblk m c 4 t) (iblk m c 3 t)) a (ix2 0 j)
      = a (ix2 0 j) + ∑ r : Fin 512, gainTerm (outV A W) (dyV (errV (outV A W) X T G)) j (row t r) := by
  refine (pay_g4 _ _ _ j).trans (congrArg (a (ix2 0 j) + ·) (Finset.sum_congr rfl fun r _ => ?_))
  unfold gainTerm
  rw [mul_comm]
  exact congrArg₂ (fun a b : EReal => a * b) (point_normed m c A W hA hW t r j) (point_dy m c A W X T G hA hW hX hT hG e he t r j)

open Cert.FfnLossRefIdeal.Value in
theorem final_g4 : (dats m 0 c).arrAt 8 (cfgs 0).N = gainGrad (outV A W) (dyV (errV (outV A W) X T G)) := by
  refine (dats m 0 c).arrAt_eq_of_after_last 8 t0_3 (by decide +kernel) _ fun y => ?_
  obtain ⟨j, rfl⟩ := unit_row y
  blk_simp
  rw [after0_8, Pipeline.eq_sum_fin_of_reset_step_apply_last (fun n h => (outsAt0 m c n h).2.2.2) 4 (fun _ => 0)
    (fun p i => ∑ r : Fin 512, gainTerm (outV A W) (dyV (errV (outV A W) X T G)) (i 1) (row p r))
    (fun t h i => by
      obtain ⟨j, rfl⟩ := unit_row i
      rw [outsAt0_A m c t h]; frame_out
      refine (step_g4 m c A W X T G hA hW hX hT hG e he t _ j).trans ?_
      rw [zero_fill]
      rfl)
    (fun t h i => by
      obtain ⟨j, rfl⟩ := unit_row i
      rw [outsAt0_B m c t h]; frame_out
      exact step_g4 m c A W X T G hA hW hX hT hG e he t _ j)
    (le_of_eq N_0) t0_3 rfl _, zero_add]
  refine Eq.trans ?_ (gainGrad_at _ _ j).symm
  refine Fin.sum_mul_add_congr fun s k hl => ?_
  rfl

/-- What one row of the error adds to the loss. -/
def lossTerm (e : Fin 2048 → Fin 1024 → ℝ) (r : Fin 2048) : ℝ := ∑ k, e r k * e r k

theorem step_loss (t : Fin cfg0.N) (a : FVec Ideal S1x128 .f32) (j : Fin 128) :
    k0_pay10 (F := Ideal) (iblk m c 0 t) (iblk m c 1 t) (iblk m c 2 t) (iblk m c 4 t) (iblk m c 3 t) a (ix2 0 j)
      = a (ix2 0 j) + (((1 / 2048) * ∑ r : Fin 512, lossTerm e (row t r) : ℝ) : EReal) :=
  pay_loss _ _ _ _ _ a j (fun r k => e (row t r) k) fun r k => (point_err m c A W X T G hA hW hX hT hG t r k).trans (he _ k)

open Cert.FfnLossRefIdeal.Value in
theorem final_loss : (dats m 0 c).arrAt 7 (cfgs 0).N = lossV (errV (outV A W) X T G) := by
  refine (dats m 0 c).arrAt_eq_of_after_last 7 t0_3 (by decide +kernel) _ fun y => ?_
  obtain ⟨j, rfl⟩ := unit_row y
  blk_simp
  rw [after0_7, Pipeline.eq_sum_fin_of_reset_step_apply_last (fun n h => (outsAt0 m c n h).2.2.1) 4 (fun _ => 0)
    (fun p i => (((1 / 2048) * ∑ r : Fin 512, lossTerm e (row p r) : ℝ) : EReal))
    (fun t h i => by
      obtain ⟨j, rfl⟩ := unit_row i
      rw [outsAt0_A m c t h]; frame_out
      refine (step_loss m c A W X T G hA hW hX hT hG e he t _ j).trans ?_
      rw [zero_loss])
    (fun t h i => by
      obtain ⟨j, rfl⟩ := unit_row i
      rw [outsAt0_B m c t h]; frame_out
      exact step_loss m c A W X T G hA hW hX hT hG e he t _ j)
    (le_of_eq N_0) t0_3 rfl _, zero_add]
  refine Eq.trans ?_ (lossV_at _ j e he).symm
  rw [← coe_sum, ← Finset.mul_sum]
  refine congrArg (fun a : ℝ => ((1 / 2048 * a : ℝ) : EReal)) ?_
  refine Fin.sum_mul_add_congr fun s k hl => ?_
  rfl

end

end

end Cert.FfnLossIdeal.Value

end
-- ==== Proof.FfnLossClaim.lean ====
/- The claims about the loss and the gradient through the last norm, from the two programs' runs. -/
module

public import proofs.«01_k».proof.Defs
public import proofs.«01_k».proof.Proof.FfnLoss
public import proofs.«01_k».proof.Proof.Gen.FfnLoss.Frame
public import proofs.«01_k».proof.Proof.Gen.Pre_ffn_loss_finite

@[expose] public section

set_option maxRecDepth 16384

noncomputable section

namespace Cert.Proof

open Idealize.ShloMosaic Idealize.SL.Sem Cert.Reals Cert.Norm

theorem ffnLoss_frame : Cert.quiescent_FfnLoss := fun m g _ => Cert.FfnLoss.Gen.frame m g

theorem ffnLoss_frameIdeal : Cert.quiescent_FfnLossIdeal := fun m g _ => Cert.FfnLossIdeal.Gen.frame m g

theorem ffnLoss_frameRef : Cert.quiescent_FfnLossRefIdeal := fun m g _ =>
  (θ_run Cert.FfnLossRefIdeal.defs _ _).mono (fun r h => ⟨fun c => (h c).2.2.2.2, sem_eq_zero_of_no_sems (by decide) r.2⟩)
    (Cert.FfnLossRefIdeal.Value.run m g)

section
open Cert.FfnLossRefIdeal Cert.FfnLossRefIdeal.Value

theorem ffnLoss_out (a : S1x2048x3072.Idx → ℝ) (w : S1x3072x1024.Idx → ℝ) (r : Fin 2048) (j : Fin 1024) :
    outV (fun i => (a i : EReal)) (fun i => (w i : EReal)) (ix3 0 r j) = ((∑ k : Fin 3072, a (ix3 0 r k) * w (ix3 0 k j) : ℝ) : EReal) := by
  rw [outV_at]
  simp only [← EReal.coe_mul, ← coe_sum]

/-- Real arguments give a real error. -/
theorem ffnLoss_err (O : FVec Ideal S1x2048x1024 .f32) (o : Fin 2048 → Fin 1024 → ℝ) (ho : ∀ r k, O (ix3 0 r k) = (o r k : EReal))
    (x t : S1x2048x1024.Idx → ℝ) (g : S1x1024.Idx → ℝ) (r : Fin 2048) (j : Fin 1024) :
    errV O (fun i => (x i : EReal)) (fun i => (t i : EReal)) (fun i => (g i : EReal)) (ix3 0 r j)
      = ((x (ix3 0 r j) + o r j * rs (o r) * g (ix2 0 j) - t (ix3 0 r j) : ℝ) : EReal) := by
  rw [errV_at, varV_at]
  simp only [ho]
  rw [rs_eq]
  simp only [← EReal.coe_mul, ← EReal.coe_add, ← EReal.coe_sub]

end

/-- The four result arrays agree where the argument arrays hold real numbers. -/
theorem ffnLoss_results (m : (ℓ : Loc Cert.FfnLossIdeal.nD Cert.FfnLossIdeal.τ Cert.FfnLossIdeal.sig) → Buf (Elt Ideal) ℓ)
    (m' : (ℓ : Loc Cert.FfnLossRefIdeal.nD Cert.FfnLossRefIdeal.τ Cert.FfnLossRefIdeal.sig) → Buf (Elt Ideal) ℓ) (c : Dev Cert.FfnLossIdeal.nD)
    (A : FVec Ideal Cert.FfnLossIdeal.S1x2048x3072 .f32)
    (W : FVec Ideal Cert.FfnLossIdeal.S1x3072x1024 .f32)
    (X : FVec Ideal Cert.FfnLossIdeal.S1x2048x1024 .f32)
    (T : FVec Ideal Cert.FfnLossIdeal.S1x2048x1024 .f32)
    (G : FVec Ideal Cert.FfnLossIdeal.S1x1024 .f32)
    (h0 : m ((c.tc : Thread _ _).loc Cert.FfnLossIdeal.main_arg0) = A) (k0 : m' ((c.tc : Thread _ _).loc Cert.FfnLossRefIdeal.main_arg0) = A)
    (h1 : m ((c.tc : Thread _ _).loc Cert.FfnLossIdeal.main_arg1) = W) (k1 : m' ((c.tc : Thread _ _).loc Cert.FfnLossRefIdeal.main_arg1) = W)
    (h2 : m ((c.tc : Thread _ _).loc Cert.FfnLossIdeal.main_arg2) = X) (k2 : m' ((c.tc : Thread _ _).loc Cert.FfnLossRefIdeal.main_arg2) = X)
    (h3 : m ((c.tc : Thread _ _).loc Cert.FfnLossIdeal.main_arg3) = T) (k3 : m' ((c.tc : Thread _ _).loc Cert.FfnLossRefIdeal.main_arg3) = T)
    (h4 : m ((c.tc : Thread _ _).loc Cert.FfnLossIdeal.main_arg4) = G) (k4 : m' ((c.tc : Thread _ _).loc Cert.FfnLossRefIdeal.main_arg4) = G)
    (rA : ∃ x : Cert.FfnLossIdeal.S1x2048x3072.Idx → ℝ, A = fun i => (x i : EReal))
    (rW : ∃ x : Cert.FfnLossIdeal.S1x3072x1024.Idx → ℝ, W = fun i => (x i : EReal))
    (rX : ∃ x : Cert.FfnLossIdeal.S1x2048x1024.Idx → ℝ, X = fun i => (x i : EReal))
    (rT : ∃ x : Cert.FfnLossIdeal.S1x2048x1024.Idx → ℝ, T = fun i => (x i : EReal))
    (rG : ∃ x : Cert.FfnLossIdeal.S1x1024.Idx → ℝ, G = fun i => (x i : EReal)) :
    Cert.FfnLossRefIdeal.Value.flat (Cert.FfnLossRefIdeal.Value.dyV (Cert.FfnLossRefIdeal.Value.errV (Cert.FfnLossRefIdeal.Value.outV A W) X T G)) = (Cert.FfnLossIdeal.Gen.dats m 0 c).arrAt 5 Cert.FfnLossIdeal.cfg0.N
    ∧ Cert.FfnLossRefIdeal.Value.res_out1 m' c = (Cert.FfnLossIdeal.Gen.dats m 0 c).arrAt 6 Cert.FfnLossIdeal.cfg0.N
    ∧ Cert.FfnLossRefIdeal.Value.lossV (Cert.FfnLossRefIdeal.Value.errV (Cert.FfnLossRefIdeal.Value.outV A W) X T G) = (Cert.FfnLossIdeal.Gen.dats m 0 c).arrAt 7 Cert.FfnLossIdeal.cfg0.N
    ∧ gainGrad (Cert.FfnLossRefIdeal.Value.outV A W) (Cert.FfnLossRefIdeal.Value.dyV (Cert.FfnLossRefIdeal.Value.errV (Cert.FfnLossRefIdeal.Value.outV A W) X T G)) = (Cert.FfnLossIdeal.Gen.dats m 0 c).arrAt 8 Cert.FfnLossIdeal.cfg0.N := by
  obtain ⟨a, rfl⟩ := rA
  obtain ⟨w, rfl⟩ := rW
  obtain ⟨x, rfl⟩ := rX
  obtain ⟨t, rfl⟩ := rT
  obtain ⟨g, rfl⟩ := rG
  have ho := ffnLoss_out a w
  have he := ffnLoss_err _ _ ho x t g
  refine ⟨?_, ?_, ?_, ?_⟩
  · exact (Cert.FfnLossIdeal.Value.final_dy m c _ _ _ _ _ h0 h1 h2 h3 h4 _ he).symm
  · exact (Cert.FfnLossRefIdeal.Value.res_dout m' c _ _ _ _ _ k0 k1 k2 k3 k4).trans
      (Cert.FfnLossIdeal.Value.final_dout m c _ _ _ _ _ h0 h1 h2 h3 h4 _ he _ _ ho fun k => rfl).symm
  · exact (Cert.FfnLossIdeal.Value.final_loss m c _ _ _ _ _ h0 h1 h2 h3 h4 _ he).symm
  · exact (Cert.FfnLossIdeal.Value.final_g4 m c _ _ _ _ _ h0 h1 h2 h3 h4 _ he).symm

theorem ffnLoss_value : Cert.algebraic_FfnLossIdeal_FfnLossRefIdeal_pre_ffn_loss_finite := by
  pair_intro
  · run_from Cert.FfnLossIdeal.Value.run_blocks m g
  · have key := fun c => ffnLoss_results m m' c _ _ _ _ _ rfl (hagree c).1 rfl (hagree c).2.1 rfl (hagree c).2.2.1 rfl
      (hagree c).2.2.2.1 rfl (hagree c).2.2.2.2 (exists_real_of_abs_lt _ _ (hpre c).1)
      (exists_real_of_abs_lt _ _ (hpre c).2.1) (exists_real_of_abs_lt _ _ (hpre c).2.2.1) (exists_real_of_abs_lt _ _ (hpre c).2.2.2.1)
      (exists_real_of_abs_lt _ _ (hpre c).2.2.2.2)
    run_from Cert.FfnLossRefIdeal.Value.run m' g'
    · exact (key c).1
    · exact (key c).2.1
    · exact (key c).2.2.1
    · exact (key c).2.2.2

end Cert.Proof

end
-- ==== Proof.Conv.lean ====
/- Moving the rows of an array up and down, and sums over moved rows: what a causal depthwise convolution and its gradient are
   made of. -/
module

public import proofs.«01_k».proof.Proof.Reals
public import Idealize.ShloMosaic.Lib.WordCmp

@[expose] public section

noncomputable section

namespace Cert.Conv

/-- Row `r` of an array moved down by `k` rows, zeros coming in at the top. -/
def down {n : ℕ} (k : ℕ) (f : Fin n → EReal) (r : Fin n) : EReal := if h : k ≤ r.val then f ⟨r.val - k, by omega⟩ else 0

/-- Row `r` of an array moved up by `k` rows, zeros coming in at the bottom. -/
def up {n : ℕ} (k : ℕ) (f : Fin n → EReal) (r : Fin n) : EReal := if h : r.val + k < n then f ⟨r.val + k, h⟩ else 0

/-- A value that is zero in the first `k` rows and `f`'s row `k` above in the others. -/
theorem eq_down {n : ℕ} (k : ℕ) (f : Fin n → EReal) (r : Fin n) (v : EReal) (h0 : r.val < k → v = 0)
    (h1 : ∀ q : Fin n, q.val + k = r.val → v = f q) : v = down k f r := by
  unfold down
  split
  · exact h1 _ (by simp only; omega)
  · exact h0 (by omega)

/-- A value that is zero in the last `k` rows and `f`'s row `k` below in the others. -/
theorem eq_up {n : ℕ} (k : ℕ) (f : Fin n → EReal) (r : Fin n) (v : EReal) (h0 : n ≤ r.val + k → v = 0)
    (h1 : ∀ q : Fin n, q.val = r.val + k → v = f q) : v = up k f r := by
  unfold up
  split
  · exact h1 _ rfl
  · exact h0 (by omega)

theorem up_mul {n : ℕ} (k : ℕ) (f : Fin n → EReal) (w : EReal) (r : Fin n) : up k (fun r => f r * w) r = up k f r * w := by
  unfold up; split <;> simp

theorem mul_down {n : ℕ} (k : ℕ) (f : Fin n → EReal) (w : EReal) (r : Fin n) : down k (fun r => w * f r) r = w * down k f r := by
  unfold down; split <;> simp

theorem mul_up {n : ℕ} (k : ℕ) (f : Fin n → EReal) (w : EReal) (r : Fin n) : up k (fun r => w * f r) r = w * up k f r := by
  unfold up; split <;> simp

open Idealize.ShloMosaic in
/-- A choice by the row's number. -/
theorem choose_slt {a b : ℕ} (ha : a < 2 ^ 31) (hb : b < 2 ^ 31) (x y : EReal) :
    Scalar.select (IntOp.cmpi .slt (BitVec.ofNat 32 a) (BitVec.ofNat 32 b)) x y = if a < b then x else y := by
  have e := WordCmp.cmpi_slt_ofNat_eq_one_iff (w := 32) (a := a) (b := b) ha hb
  unfold Scalar.select
  by_cases h : a < b
  · rw [if_pos h]; exact if_pos (e.mpr h)
  · rw [if_neg h]; exact if_neg fun h' => h (e.mp h')

open Idealize.ShloMosaic in
/-- A rotation with the rows that came round the end put to zero: the rows move up. -/
theorem choose_up {n : ℕ} (k : ℕ) (hn : n < 2 ^ 31) (hk : k ≤ n) (f : Fin n → EReal) (r q : Fin n) (hq : r.val + k < n → q.val = r.val + k) :
    Scalar.select (IntOp.cmpi .slt (BitVec.ofNat 32 r.val) (BitVec.ofNat 32 (n - k))) (f q) 0 = up k f r := by
  rw [choose_slt (by omega) (by omega)]
  refine eq_up k f r _ (fun h => if_neg (by omega)) fun p hp => (if_pos (by omega)).trans (congrArg f (Fin.ext ?_))
  omega

open Idealize.ShloMosaic in
/-- A rotation with the rows that came round the start put to zero: the rows move down. -/
theorem choose_down {n : ℕ} (k : ℕ) (hn : n < 2 ^ 31) (hk : k < 2 ^ 31) (f : Fin n → EReal) (r q : Fin n) (hq : k ≤ r.val → q.val + k = r.val) :
    Scalar.select (IntOp.cmpi .sge (BitVec.ofNat 32 r.val) (BitVec.ofNat 32 k)) (f q) 0 = down k f r := by
  have e := WordCmp.cmpi_sge_ofNat_eq_one_iff (w := 32) (a := r.val) (b := k) (by omega) hk
  refine eq_down k f r _ (fun h => ?_) fun p hp => ?_
  · exact if_neg fun h' => by have := e.mp h'; omega
  · exact (if_pos (e.mpr (by omega))).trans (congrArg f (Fin.ext (by have := hq (by omega); omega)))

theorem up_zero {n : ℕ} (f : Fin n → EReal) (r : Fin n) : up 0 f r = f r := dif_pos (show r.val + 0 < n from r.isLt)

theorem down_zero {n : ℕ} (f : Fin n → EReal) (r : Fin n) : down 0 f r = f r := dif_pos (Nat.zero_le _)

/-- A sum of products may move the other factor instead. -/
theorem sum_down_mul {n : ℕ} (k : ℕ) (f g : Fin n → EReal) : ∑ r, down k f r * g r = ∑ r, up k g r * f r := by
  have e1 : ∀ r : Fin n, down k f r * g r = ∑ q : Fin n, if r.val = q.val + k then f q * g r else 0 := by
    intro r
    unfold down
    by_cases h : k ≤ r.val
    · rw [dif_pos h, Finset.sum_eq_single (⟨r.val - k, by omega⟩ : Fin n)]
      · rw [if_pos (show r.val = r.val - k + k by omega)]
      · intro q _ hq
        exact if_neg fun e => hq (Fin.ext (show q.val = r.val - k by omega))
      · intro hq; exact absurd (Finset.mem_univ _) hq
    · rw [dif_neg h, zero_mul]
      exact (Finset.sum_eq_zero fun q _ => if_neg (by omega)).symm
  have e2 : ∀ q : Fin n, up k g q * f q = ∑ r : Fin n, if r.val = q.val + k then f q * g r else 0 := by
    intro q
    unfold up
    by_cases h : q.val + k < n
    · rw [dif_pos h, Finset.sum_eq_single (⟨q.val + k, h⟩ : Fin n)]
      · rw [if_pos (show q.val + k = q.val + k from rfl), mul_comm]
      · intro r _ hr
        exact if_neg fun e => hr (Fin.ext e)
      · intro hq; exact absurd (Finset.mem_univ _) hq
    · rw [dif_neg h, zero_mul]
      exact (Finset.sum_eq_zero fun r _ => if_neg (by omega)).symm
  rw [Finset.sum_congr rfl fun r _ => e1 r, Finset.sum_congr rfl fun r _ => e2 r, Finset.sum_comm]

end Cert.Conv

end
-- ==== Proof.MixConv.lean ====
/- The gradient of the gated short convolution: the kernel's three result arrays are the reference's. -/
module

public import proofs.«01_k».proof.Proof.Conv
public import proofs.«01_k».proof.Proof.Gen.MixConvIdeal.Value
public import proofs.«01_k».proof.Proof.Gen.MixConvRefIdeal.Run

@[expose] public section

set_option maxRecDepth 16384

noncomputable section

open Idealize.ShloMosaic Idealize.ShloMosaic.TcCoe Idealize.SL.Sem
open Idealize.ShloMosaic.Pipeline (Dat)
open Cert.Reals

namespace Cert.MixConvRefIdeal.Value
open Cert.MixConvRefIdeal Cert.MixConvRefIdeal.Gen Cert.Conv

variable (m : (ℓ : Loc nD τ sig) → Buf (Elt Ideal) ℓ) (c : Dev nD)

/-- The three bands of the projection. -/
def cb (P : FVec Ideal S1x2048x7168 .f32) : FVec Ideal S1x2048x1024 .f32 := extractStridedSlice S1x2048x1024 ![0, 0, 0] P slices_S1x2048x7168_S1x2048x1024_0_0_0
def cc (P : FVec Ideal S1x2048x7168 .f32) : FVec Ideal S1x2048x1024 .f32 := extractStridedSlice S1x2048x1024 ![0, 0, 1024] P slices_S1x2048x7168_S1x2048x1024_0_0_1024
def cx (P : FVec Ideal S1x2048x7168 .f32) : FVec Ideal S1x2048x1024 .f32 := extractStridedSlice S1x2048x1024 ![0, 0, 2048] P slices_S1x2048x7168_S1x2048x1024_0_0_2048

/-- Two rows of zeros above an array. -/
def zpad (X : FVec Ideal S1x2048x1024 .f32) : FVec Ideal S1x2050x1024 .f32 :=
  concatenate S1x2050x1024 1 [⟨S1x2x1024, (broadcastInDim S1x2x1024 ![] bcast_S_S1x2x1024 (constant S_ .f32 0x00000000#32))⟩, ⟨S1x2048x1024, X⟩] concatenates_S1x2x1024_S1x2048x1024_S1x2050x1024_d1

/-- The array moved down by two rows, by one, by none. -/
def down2 (X : FVec Ideal S1x2048x1024 .f32) : FVec Ideal S1x2048x1024 .f32 := extractStridedSlice S1x2048x1024 ![0, 0, 0] (zpad X) slices_S1x2050x1024_S1x2048x1024_0_0_0
def down1 (X : FVec Ideal S1x2048x1024 .f32) : FVec Ideal S1x2048x1024 .f32 := extractStridedSlice S1x2048x1024 ![0, 1, 0] (zpad X) slices_S1x2050x1024_S1x2048x1024_0_1_0
def down0 (X : FVec Ideal S1x2048x1024 .f32) : FVec Ideal S1x2048x1024 .f32 := extractStridedSlice S1x2048x1024 ![0, 2, 0] (zpad X) slices_S1x2050x1024_S1x2048x1024_0_2_0

/-- A tap, laid along the rows. -/
def spreadTap (w : FVec Ideal S1x1024 .f32) : FVec Ideal S1x2048x1024 .f32 :=
  broadcastInDim S1x2048x1024 ![0, 1, 2] bcast_S1x1x1024_S1x2048x1024_0_1_2 (broadcastInDim S1x1x1024 ![2] bcast_S1024_S1x1x1024_2 (shapeCast S1024 w shapeCasts_S1x1024_S1024))
def tap0 (T : FVec Ideal S1x3x1024 .f32) : FVec Ideal S1x2048x1024 .f32 := spreadTap (extractStridedSlice S1x1024 ![0, 0] (shapeCast S3x1024 T shapeCasts_S1x3x1024_S3x1024) slices_S3x1024_S1x1024_0_0)
def tap1 (T : FVec Ideal S1x3x1024 .f32) : FVec Ideal S1x2048x1024 .f32 := spreadTap (extractStridedSlice S1x1024 ![1, 0] (shapeCast S3x1024 T shapeCasts_S1x3x1024_S3x1024) slices_S3x1024_S1x1024_1_0)
def tap2 (T : FVec Ideal S1x3x1024 .f32) : FVec Ideal S1x2048x1024 .f32 := spreadTap (extractStridedSlice S1x1024 ![2, 0] (shapeCast S3x1024 T shapeCasts_S1x3x1024_S3x1024) slices_S3x1024_S1x1024_2_0)

/-- The causal convolution. -/
def convV (X : FVec Ideal S1x2048x1024 .f32) (T : FVec Ideal S1x3x1024 .f32) : FVec Ideal S1x2048x1024 .f32 :=
  addf (addf (mulf (down2 X) (tap0 T)) (mulf (down1 X) (tap1 T))) (mulf (down0 X) (tap2 T))

/-- The gradient that reaches the convolution's input. -/
def convBack (U : FVec Ideal S1x2048x1024 .f32) (T : FVec Ideal S1x3x1024 .f32) : FVec Ideal S1x2048x1024 .f32 :=
  extractStridedSlice S1x2048x1024 ![0, 2, 0] (addf (addf
    (pad S1x2050x1024 ![0, 2, 0] ![0, 0, 0] ![0, 0, 0] (mulf U (tap2 T)) (constant S_ .f32 0x00000000#32) pads_S1x2048x1024_S1x2050x1024_000_200_000 h_S_)
    (pad S1x2050x1024 ![0, 1, 0] ![0, 1, 0] ![0, 0, 0] (mulf U (tap1 T)) (constant S_ .f32 0x00000000#32) pads_S1x2048x1024_S1x2050x1024_000_110_000 h_S_))
    (pad S1x2050x1024 ![0, 0, 0] ![0, 2, 0] ![0, 0, 0] (mulf U (tap0 T)) (constant S_ .f32 0x00000000#32) pads_S1x2048x1024_S1x2050x1024_000_020_000 h_S_))
    slices_S1x2050x1024_S1x2048x1024_0_2_0

/-- A sum over the rows. -/
def rowSum (X : FVec Ideal S1x2048x1024 .f32) : FVec Ideal S1x1024 .f32 :=
  broadcastInDim S1x1024 ![1] bcast_S1024_S1x1024_1 (Host.reduceAdd (shapeCast S1x1x1024 (Host.reduceAdd X (constant S_ .f32 0x00000000#32) reducesTo_S1x2048x1024_S1x1024_d1 h_S_) shapeCasts_S1x1024_S1x1x1024) (constant S_ .f32 0x00000000#32) reducesTo_S1x1x1024_S1024_d0_1 h_S_)

/-- The gradient of the taps. -/
def tapGrad (X U : FVec Ideal S1x2048x1024 .f32) : FVec Ideal S3x1024 .f32 :=
  shapeCast S3x1024 (broadcastInDim S1x3x1024 ![1, 2] bcast_S3x1024_S1x3x1024_1_2 (addf (addf
    (pad S3x1024 ![2, 0] ![0, 0] ![0, 0] (rowSum (mulf (down0 X) U)) (constant S_ .f32 0x00000000#32) pads_S1x1024_S3x1024_200_000 h_S_)
    (pad S3x1024 ![1, 0] ![1, 0] ![0, 0] (rowSum (mulf (down1 X) U)) (constant S_ .f32 0x00000000#32) pads_S1x1024_S3x1024_110_000 h_S_))
    (pad S3x1024 ![0, 0] ![2, 0] ![0, 0] (rowSum (mulf (down2 X) U)) (constant S_ .f32 0x00000000#32) pads_S1x1024_S3x1024_020_000 h_S_)))
    shapeCasts_S1x3x1024_S3x1024

/-- The gradient of the branch's input to its projection. -/
def dya (D : FVec Ideal S1x2048x1024 .f32) (W : FVec Ideal S1x1024x1024 .f32) : FVec Ideal S1x2048x1024 .f32 :=
  Host.dotGeneral dot_S1x2048x1024_S1024x1024_S1x2048x1024_2_1_01_0_n_n none D (shapeCast S1024x1024 W shapeCasts_S1x1024x1024_S1024x1024)

/-- The gradient of the projection's weight. -/
def dw (D Y : FVec Ideal S1x2048x1024 .f32) : FVec Ideal S1024x1024 .bf16 :=
  truncf .bf16 (shapeCast S1024x1024 (broadcastInDim S1x1024x1024 ![1, 2] bcast_S1024x1024_S1x1024x1024_1_2 (transpose S1024x1024 [1, 0]
    (Host.dotGeneral dot_S1x2048x1024_S1x2048x1024_S1024x1024_01_01_2_2_n_n none D Y) transposes_S1024x1024_S1024x1024_1_0)) shapeCasts_S1x1024x1024_S1024x1024)

/-- Three arrays, one after the other. -/
def three (A B C : FVec Ideal S1x2048x1024 .f32) : FVec Ideal S3x2048x1024 .bf16 :=
  truncf .bf16 (concatenate S3x2048x1024 0 [⟨S1x2048x1024, A⟩, ⟨S1x2048x1024, B⟩, ⟨S1x2048x1024, C⟩] concatenates_S1x2048x1024_S1x2048x1024_S1x2048x1024_S3x2048x1024_d0)

section
variable (P : FVec Ideal S1x2048x7168 .f32) (T : FVec Ideal S1x3x1024 .f32) (W : FVec Ideal S1x1024x1024 .f32) (D : FVec Ideal S1x2048x1024 .f32)
    (hP : m ((c.tc : Thread nD τ).loc main_arg0) = P) (hT : m ((c.tc : Thread nD τ).loc main_arg1) = T)
    (hW : m ((c.tc : Thread nD τ).loc main_arg2) = W) (hD : m ((c.tc : Thread nD τ).loc main_arg3) = D)
include hP hT hW hD

theorem res_dc : res_out0 m c = three (mulf (dya D W) (convV (mulf (cc P) (cx P)) T)) (mulf (convBack (mulf (cb P) (dya D W)) T) (cx P))
    (mulf (cc P) (convBack (mulf (cb P) (dya D W)) T)) := by
  subst hP hT hW hD
  unfold res_out0 res_main_v78 three
  rfl

end

theorem cb_at (P : FVec Ideal S1x2048x7168 .f32) (r : Fin 2048) (j : Fin 1024) : cb P (ix3 0 r j) = P (ix3 0 r ⟨j.val, by omega⟩) := by
  pointwise [cb]
theorem cc_at (P : FVec Ideal S1x2048x7168 .f32) (r : Fin 2048) (j : Fin 1024) : cc P (ix3 0 r j) = P (ix3 0 r ⟨1024 + j.val, by omega⟩) := by
  pointwise [cc]
theorem cx_at (P : FVec Ideal S1x2048x7168 .f32) (r : Fin 2048) (j : Fin 1024) : cx P (ix3 0 r j) = P (ix3 0 r ⟨2048 + j.val, by omega⟩) := by
  pointwise [cx]

theorem down2_at (X : FVec Ideal S1x2048x1024 .f32) (r : Fin 2048) (j : Fin 1024) : down2 X (ix3 0 r j) = down 2 (fun r => X (ix3 0 r j)) r := by
  pointwise [down2, zpad]
  refine eq_down 2 _ r _ (fun h => dif_pos h) fun q hq => (dif_neg (by omega)).trans ?_
  exact congrArg (fun a => X (ix3 0 a j)) (Fin.ext (show r.val - 2 = q.val by omega))
theorem down1_at (X : FVec Ideal S1x2048x1024 .f32) (r : Fin 2048) (j : Fin 1024) : down1 X (ix3 0 r j) = down 1 (fun r => X (ix3 0 r j)) r := by
  pointwise [down1, zpad]
  refine eq_down 1 _ r _ (fun h => dif_pos (by omega)) fun q hq => (dif_neg (by omega)).trans ?_
  exact congrArg (fun a => X (ix3 0 a j)) (Fin.ext (show 1 + r.val - 2 = q.val by omega))
theorem down0_at (X : FVec Ideal S1x2048x1024 .f32) (r : Fin 2048) (j : Fin 1024) : down0 X (ix3 0 r j) = X (ix3 0 r j) := by
  pointwise [down0, zpad]
theorem tap0_at (T : FVec Ideal S1x3x1024 .f32) (r : Fin 2048) (j : Fin 1024) : tap0 T (ix3 0 r j) = T (ix3 0 0 j) := by
  pointwise [tap0, spreadTap]
theorem tap1_at (T : FVec Ideal S1x3x1024 .f32) (r : Fin 2048) (j : Fin 1024) : tap1 T (ix3 0 r j) = T (ix3 0 1 j) := by
  pointwise [tap1, spreadTap]
theorem tap2_at (T : FVec Ideal S1x3x1024 .f32) (r : Fin 2048) (j : Fin 1024) : tap2 T (ix3 0 r j) = T (ix3 0 2 j) := by
  pointwise [tap2, spreadTap]
theorem rowSum_at (X : FVec Ideal S1x2048x1024 .f32) (j : Fin 1024) : rowSum X (ix2 0 j) = ∑ r : Fin 2048, X (ix3 0 r j) := by
  pointwise [rowSum]
  rw [hostReduceAdd_rows_01, zero_add, Fin.sum_univ_one]
  pointwise
theorem convBack_at (U : FVec Ideal S1x2048x1024 .f32) (T : FVec Ideal S1x3x1024 .f32) (r : Fin 2048) (j : Fin 1024) :
    convBack U T (ix3 0 r j) = U (ix3 0 r j) * T (ix3 0 2 j) + up 1 (fun r => U (ix3 0 r j)) r * T (ix3 0 1 j) + up 2 (fun r => U (ix3 0 r j)) r * T (ix3 0 0 j) := by
  pointwise [convBack, tap0_at, tap1_at, tap2_at]
  refine congrArg₂ (fun a b : EReal => a + b) (congrArg₂ (fun a b : EReal => a + b) rfl ?_) ?_
  · rw [← up_mul]
    refine eq_up 1 _ r _ (fun h => dif_neg (by omega)) fun q hq => (dif_pos (by omega)).trans ?_
    exact congrArg (fun a => U (ix3 0 a j) * T (ix3 0 1 j)) (Fin.ext (show 2 + r.val - 1 = q.val by omega))
  · rw [← up_mul]
    refine eq_up 2 _ r _ (fun h => dif_neg (by omega)) fun q hq => (dif_pos (by omega)).trans ?_
    exact congrArg (fun a => U (ix3 0 a j) * T (ix3 0 0 j)) (Fin.ext (show 2 + r.val = q.val by omega))
theorem tapGrad0_at (X U : FVec Ideal S1x2048x1024 .f32) (j : Fin 1024) :
    tapGrad X U (ix2 0 j) = rowSum (mulf (down2 X) U) (ix2 0 j) := by
  pointwise [tapGrad]
theorem tapGrad1_at (X U : FVec Ideal S1x2048x1024 .f32) (j : Fin 1024) :
    tapGrad X U (ix2 1 j) = rowSum (mulf (down1 X) U) (ix2 0 j) := by
  pointwise [tapGrad]
theorem tapGrad2_at (X U : FVec Ideal S1x2048x1024 .f32) (j : Fin 1024) :
    tapGrad X U (ix2 2 j) = rowSum (mulf (down0 X) U) (ix2 0 j) := by
  pointwise [tapGrad]
theorem dya_at (D : FVec Ideal S1x2048x1024 .f32) (W : FVec Ideal S1x1024x1024 .f32) (r : Fin 2048) (j : Fin 1024) :
    dya D W (ix3 0 r j) = ∑ k : Fin 1024, D (ix3 0 r k) * W (ix3 0 j k) := by
  pointwise [dya]
theorem dw_at (D Y : FVec Ideal S1x2048x1024 .f32) (i j : Fin 1024) :
    dw D Y (ix2 i j) = ∑ r : Fin 2048, D (ix3 0 r j) * Y (ix3 0 r i) := by
  pointwise [dw]
  rw [Fin.sum_univ_one]
theorem three_at0 (A B C : FVec Ideal S1x2048x1024 .f32) (r : Fin 2048) (j : Fin 1024) : three A B C (ix3 0 r j) = A (ix3 0 r j) := by
  pointwise [three]
theorem three_at1 (A B C : FVec Ideal S1x2048x1024 .f32) (r : Fin 2048) (j : Fin 1024) : three A B C (ix3 1 r j) = B (ix3 0 r j) := by
  pointwise [three]
theorem three_at2 (A B C : FVec Ideal S1x2048x1024 .f32) (r : Fin 2048) (j : Fin 1024) : three A B C (ix3 2 r j) = C (ix3 0 r j) := by
  pointwise [three]

end Cert.MixConvRefIdeal.Value

namespace Cert.MixConvIdeal.Value
open Cert.MixConvIdeal Cert.MixConvIdeal.Gen Cert.Conv

theorem pay_dya (d : FVec Ideal S2048x1024 .bf16) (w : FVec Ideal S256x1024 .bf16) (r : Fin 2048) (j : Fin 256) :
    k0_pay2 (F := Ideal) d w (ix2 r j) = ∑ k : Fin 1024, d (ix2 r k) * w (ix2 j k) := by
  pointwise [k0_pay2, k0_pay1]

theorem pay_dq (d : FVec Ideal S2048x1024 .bf16) (w : FVec Ideal S256x1024 .bf16) (b : FVec Ideal S2048x256 .f32) (r : Fin 2048) (j : Fin 256) :
    k0_pay9 (F := Ideal) d w b (ix2 r j) = k0_pay2 (F := Ideal) d w (ix2 r j) * b (ix2 r j) := by
  pointwise [k0_pay9, k0_pay3]

theorem pay_dq1 (d : FVec Ideal S2048x1024 .bf16) (w : FVec Ideal S256x1024 .bf16) (b : FVec Ideal S2048x256 .f32) (r : Fin 2048) (j : Fin 256) :
    k0_pay10 (F := Ideal) d w b (ix2 r j) = up 1 (fun r => k0_pay9 (F := Ideal) d w b (ix2 r j)) r := by
  pointwise [k0_pay10]
  exact choose_up 1 (by norm_num) (by norm_num) (fun r => k0_pay9 (F := Ideal) d w b (ix2 r j)) r _ fun h => by simp only; omega

theorem pay_dq2 (u : FVec Ideal S2048x256 .f32) (r : Fin 2048) (j : Fin 256) :
    k0_pay12 (F := Ideal) u k0_pay11 2046#32 (ix2 r j) = up 2 (fun r => u (ix2 r j)) r := by
  pointwise [k0_pay12, k0_pay11]
  exact choose_up 2 (by norm_num) (by norm_num) (fun r => u (ix2 r j)) r _ fun h => by simp only; omega

theorem pay_dp (u u1 : FVec Ideal S2048x256 .f32) (a b c : FVec Ideal S1x256 .f32) (r : Fin 2048) (j : Fin 256) :
    k0_pay13 (F := Ideal) u u1 k0_pay11 2046#32 a b c (ix2 r j)
      = a (ix2 0 j) * u (ix2 r j) + b (ix2 0 j) * u1 (ix2 r j) + c (ix2 0 j) * up 2 (fun r => u (ix2 r j)) r := by
  pointwise [k0_pay13, pay_dq2]

theorem pay_dw (d : FVec Ideal S2048x1024 .bf16) (b q : FVec Ideal S2048x256 .f32) (i : Fin 256) (k : Fin 1024) :
    k0_pay7 (F := Ideal) d b q (ix2 i k) = ∑ r : Fin 2048, b (ix2 r i) * q (ix2 r i) * d (ix2 r k) := by
  pointwise [k0_pay7, k0_pay3, k0_pay6, k0_pay1]

theorem pay_db (d : FVec Ideal S2048x1024 .bf16) (w : FVec Ideal S256x1024 .bf16) (q : FVec Ideal S2048x256 .f32) (r : Fin 2048) (j : Fin 256) :
    k0_pay8 (F := Ideal) d w q (ix3 0 r j) = k0_pay2 (F := Ideal) d w (ix2 r j) * q (ix2 r j) := by
  pointwise [k0_pay8, k0_pay6]

theorem pay_dc (x u u1 : FVec Ideal S2048x256 .f32) (a b c : FVec Ideal S1x256 .f32) (r : Fin 2048) (j : Fin 256) :
    k0_pay15 (F := Ideal) x u u1 k0_pay11 2046#32 a b c (ix3 0 r j) = k0_pay13 (F := Ideal) u u1 k0_pay11 2046#32 a b c (ix2 r j) * x (ix2 r j) := by
  pointwise [k0_pay15]

theorem pay_dx (x u u1 : FVec Ideal S2048x256 .f32) (a b c : FVec Ideal S1x256 .f32) (r : Fin 2048) (j : Fin 256) :
    k0_pay16 (F := Ideal) x u u1 k0_pay11 2046#32 a b c (ix3 0 r j) = k0_pay13 (F := Ideal) u u1 k0_pay11 2046#32 a b c (ix2 r j) * x (ix2 r j) := by
  pointwise [k0_pay16]

theorem pay_taps0 (x y u u1 : FVec Ideal S2048x256 .f32) (j : Fin 256) :
    k0_pay14 (F := Ideal) x y u u1 k0_pay11 2046#32 (ix2 0 j) = ∑ r : Fin 2048, up 2 (fun r => u (ix2 r j)) r * (x (ix2 r j) * y (ix2 r j)) := by
  pointwise [k0_pay14, pay_dq2]

theorem pay_taps1 (x y u u1 : FVec Ideal S2048x256 .f32) (j : Fin 256) :
    k0_pay14 (F := Ideal) x y u u1 k0_pay11 2046#32 (ix2 1 j) = ∑ r : Fin 2048, u1 (ix2 r j) * (x (ix2 r j) * y (ix2 r j)) := by
  pointwise [k0_pay14]

theorem pay_taps2 (x y u u1 : FVec Ideal S2048x256 .f32) (j : Fin 256) :
    k0_pay14 (F := Ideal) x y u u1 k0_pay11 2046#32 (ix2 2 j) = ∑ r : Fin 2048, u (ix2 r j) * (x (ix2 r j) * y (ix2 r j)) := by
  pointwise [k0_pay14]

theorem idx : ∀ t : Fin cfg0.N, win0_0.index t = ![0, 0] ∧ win0_1.index t = ![t.val, 0] ∧ win0_2.index t = ![0, t.val]
    ∧ win0_3.index t = ![0, 4 + t.val] ∧ win0_4.index t = ![0, 8 + t.val] ∧ win0_5.index t = ![0, t.val] ∧ win0_6.index t = ![0, t.val]
    ∧ win0_7.index t = ![0, 0, t.val] ∧ win0_8.index t = ![t.val, 0] ∧ win0_9.index t = ![0, t.val] := (by decide +kernel : ∀ t : Fin grid0.N, _)

variable (m : (ℓ : Loc nD τ sig) → Buf (Elt Ideal) ℓ) (c : Dev nD)

/-- A column of the array at the grid point that works on it. -/
abbrev col (t : Fin cfg0.N) (j : Fin 256) : Fin 1024 := ⟨t.val * 256 + j.val, by have := lt_of_lt_of_eq t.isLt N_0; omega⟩

theorem emb_dc (t : Fin cfg0.N) (k : Fin 3) (r : Fin 2048) (j : Fin 256) :
    ((View.whole main_v38_0).slice (win0_7.rect t)).emb (ix3 k r j : S3x2048x256.Idx) = (ix3 k r (col t j) : S3x2048x1024.Idx) := by
  blk_ext [idx t]

theorem emb_dw (t : Fin cfg0.N) (i : Fin 256) (k : Fin 1024) :
    ((View.whole main_v38_1).slice (win0_8.rect t)).emb (ix2 i k : S256x1024.Idx) = (ix2 (col t i) k : S1024x1024.Idx) := by
  blk_ext [idx t]

theorem emb_taps (t : Fin cfg0.N) (k : Fin 3) (j : Fin 256) :
    ((View.whole main_v38_2).slice (win0_9.rect t)).emb (ix2 k j : S3x256.Idx) = (ix2 k (col t j) : S3x1024.Idx) := by
  blk_ext [idx t]

section
variable (P : FVec Ideal S1x2048x7168 .f32) (T : FVec Ideal S1x3x1024 .f32) (W : FVec Ideal S1x1024x1024 .f32) (D : FVec Ideal S1x2048x1024 .f32)
    (hP : m ((c.tc : Thread nD τ).loc main_arg0) = P) (hT : m ((c.tc : Thread nD τ).loc main_arg1) = T)
    (hW : m ((c.tc : Thread nD τ).loc main_arg2) = W) (hD : m ((c.tc : Thread nD τ).loc main_arg3) = D)

include hD in
theorem blk_d (t : Fin cfg0.N) (r : Fin 2048) (k : Fin 1024) : (show FVec Ideal S2048x1024 .bf16 from iblk m c 0 t) (ix2 r k) = D (ix3 0 r k) := by
  subst hD; blk_point [iblk, V, idx t]

include hW in
theorem blk_w (t : Fin cfg0.N) (j : Fin 256) (k : Fin 1024) : (show FVec Ideal S256x1024 .bf16 from iblk m c 1 t) (ix2 j k) = W (ix3 0 (col t j) k) := by
  subst hW; blk_point [iblk, V, idx t]

open Cert.MixConvRefIdeal.Value in
include hP in
theorem blk_b (t : Fin cfg0.N) (r : Fin 2048) (j : Fin 256) : (show FVec Ideal S2048x256 .f32 from iblk m c 2 t) (ix2 r j) = cb P (ix3 0 r (col t j)) := by
  subst hP; rw [cb_at]; blk_point [iblk, V, idx t]

open Cert.MixConvRefIdeal.Value in
include hP in
theorem blk_c (t : Fin cfg0.N) (r : Fin 2048) (j : Fin 256) : (show FVec Ideal S2048x256 .f32 from iblk m c 3 t) (ix2 r j) = cc P (ix3 0 r (col t j)) := by
  subst hP; rw [cc_at]; blk_point [iblk, V, idx t]

open Cert.MixConvRefIdeal.Value in
include hP in
theorem blk_x (t : Fin cfg0.N) (r : Fin 2048) (j : Fin 256) : (show FVec Ideal S2048x256 .f32 from iblk m c 4 t) (ix2 r j) = cx P (ix3 0 r (col t j)) := by
  subst hP; rw [cx_at]; blk_point [iblk, V, idx t]

include hT in
theorem blk_taps (t : Fin cfg0.N) (k : Fin 3) (j : Fin 256) : (show FVec Ideal S3x256 .f32 from iblk m c 6 t) (ix2 k j) = T (ix3 0 k (col t j)) := by
  subst hT; blk_point [iblk, V, idx t]

open Cert.MixConvRefIdeal.Value in
include hP hT in
theorem V_q : V m c main_v31 = shapeCast S2048x1024 (convV (mulf (cc P) (cx P)) T) shapeCasts_S1x2048x1024_S2048x1024 := by
  subst hP hT
  unfold V
  after_results
  rfl

open Cert.MixConvRefIdeal.Value in
include hP hT in
theorem blk_q (t : Fin cfg0.N) (r : Fin 2048) (j : Fin 256) :
    (show FVec Ideal S2048x256 .f32 from iblk m c 5 t) (ix2 r j) = convV (mulf (cc P) (cx P)) T (ix3 0 r (col t j)) := by
  have h : (show FVec Ideal S2048x256 .f32 from iblk m c 5 t) (ix2 r j) = V m c main_v31 (ix2 r (col t j)) := by
    blk_point [iblk, idx t]
  rw [h, V_q m c P T hP hT]
  pointwise

open Cert.MixConvRefIdeal.Value in
include hW hD in
theorem point_dya (t : Fin cfg0.N) (r : Fin 2048) (j : Fin 256) :
    k0_pay2 (F := Ideal) (iblk m c 0 t) (iblk m c 1 t) (ix2 r j) = dya D W (ix3 0 r (col t j)) := by
  rw [pay_dya, dya_at]
  exact Finset.sum_congr rfl fun k _ => congrArg₂ (fun a b : EReal => a * b) (blk_d m c D hD t r k) (blk_w m c W hW t j k)

open Cert.MixConvRefIdeal.Value in
include hP hW hD in
theorem point_dq (t : Fin cfg0.N) (r : Fin 2048) (j : Fin 256) :
    k0_pay9 (F := Ideal) (iblk m c 0 t) (iblk m c 1 t) (iblk m c 2 t) (ix2 r j) = mulf (cb P) (dya D W) (ix3 0 r (col t j)) := by
  rw [pay_dq, point_dya m c W D hW hD]
  refine (congrArg (fun b : EReal => _ * b) (blk_b m c P hP t r j)).trans (mul_comm _ _)

open Cert.MixConvRefIdeal.Value in
include hP hT hD in
theorem point_dw (t : Fin cfg0.N) (i : Fin 256) (k : Fin 1024) :
    k0_pay7 (F := Ideal) (iblk m c 0 t) (iblk m c 2 t) (iblk m c 5 t) (ix2 i k)
      = dw D (mulf (cb P) (convV (mulf (cc P) (cx P)) T)) (ix2 (col t i) k) := by
  refine (pay_dw _ _ _ i k).trans (Eq.trans (Finset.sum_congr rfl fun r _ => ?_) (dw_at D _ (col t i) k).symm)
  exact (congrArg₂ (fun a b : EReal => a * b) (congrArg₂ (fun a b : EReal => a * b) (blk_b m c P hP t r i) (blk_q m c P T hP hT t r i))
    (blk_d m c D hD t r k)).trans (mul_comm (G := EReal) _ _)

open Cert.MixConvRefIdeal.Value in
include hP hW hD in
theorem point_dq1 (t : Fin cfg0.N) (r : Fin 2048) (j : Fin 256) :
    k0_pay10 (F := Ideal) (iblk m c 0 t) (iblk m c 1 t) (iblk m c 2 t) (ix2 r j) = up 1 (fun r => mulf (cb P) (dya D W) (ix3 0 r (col t j))) r := by
  refine (pay_dq1 _ _ _ r j).trans (congrArg (fun f => up 1 f r) (funext fun r => ?_))
  exact point_dq m c P W D hP hW hD t r j

open Cert.MixConvRefIdeal.Value in
include hP hW hD in
theorem point_dp (t : Fin cfg0.N) (r : Fin 2048) (j : Fin 256) (a b e : FVec Ideal S1x256 .f32)
    (ha : a (ix2 0 j) = T (ix3 0 2 (col t j))) (hb : b (ix2 0 j) = T (ix3 0 1 (col t j))) (he : e (ix2 0 j) = T (ix3 0 0 (col t j))) :
    k0_pay13 (F := Ideal) (k0_pay9 (F := Ideal) (iblk m c 0 t) (iblk m c 1 t) (iblk m c 2 t)) (k0_pay10 (F := Ideal) (iblk m c 0 t) (iblk m c 1 t) (iblk m c 2 t))
      k0_pay11 2046#32 a b e (ix2 r j) = convBack (mulf (cb P) (dya D W)) T (ix3 0 r (col t j)) := by
  rw [pay_dp, convBack_at, ha, hb, he, point_dq1 m c P W D hP hW hD]
  simp only [point_dq m c P W D hP hW hD]
  exact congrArg₂ (fun a b : EReal => a + b) (congrArg₂ (fun a b : EReal => a + b) (mul_comm _ _) (mul_comm _ _)) (mul_comm _ _)

theorem pay_c (x : FVec Ideal S2048x256 .f32) : k0_pay4 (F := Ideal) x = x := shapeCast_id _ _
theorem pay_x (x : FVec Ideal S2048x256 .f32) : k0_pay5 (F := Ideal) x = x := shapeCast_id _ _

open Cert.MixConvRefIdeal.Value in
include hP in
theorem point_p (t : Fin cfg0.N) (r : Fin 2048) (j : Fin 256) :
    k0_pay4 (F := Ideal) (iblk m c 3 t) (ix2 r j) * k0_pay5 (F := Ideal) (iblk m c 4 t) (ix2 r j) = mulf (cc P) (cx P) (ix3 0 r (col t j)) := by
  rw [pay_c, pay_x]
  exact congrArg₂ (fun a b : EReal => a * b) (blk_c m c P hP t r j) (blk_x m c P hP t r j)

open Cert.MixConvRefIdeal.Value in
include hP hW hD in
theorem point_taps (t : Fin cfg0.N) (k : Fin 3) (j : Fin 256) :
    k0_pay14 (F := Ideal) (k0_pay4 (F := Ideal) (iblk m c 3 t)) (k0_pay5 (F := Ideal) (iblk m c 4 t))
      (k0_pay9 (F := Ideal) (iblk m c 0 t) (iblk m c 1 t) (iblk m c 2 t)) (k0_pay10 (F := Ideal) (iblk m c 0 t) (iblk m c 1 t) (iblk m c 2 t))
      k0_pay11 2046#32 (ix2 k j) = tapGrad (mulf (cc P) (cx P)) (mulf (cb P) (dya D W)) (ix2 k (col t j)) := by
  have hp := fun r => point_p m c P hP t r j
  have hu := fun r => point_dq m c P W D hP hW hD t r j
  match k with
  | 0 =>
    refine (pay_taps0 _ _ _ _ j).trans (Eq.trans ?_ (tapGrad0_at _ _ _).symm)
    rw [rowSum_at]
    simp only [hp, hu]
    refine (sum_down_mul 2 _ _).symm.trans (Finset.sum_congr rfl fun r _ => ?_)
    exact congrArg (fun a : EReal => a * _) (down2_at _ r (col t j)).symm
  | 1 =>
    refine (pay_taps1 _ _ _ _ j).trans (Eq.trans ?_ (tapGrad1_at _ _ _).symm)
    rw [rowSum_at]
    simp only [hp, point_dq1 m c P W D hP hW hD]
    refine (sum_down_mul 1 _ _).symm.trans (Finset.sum_congr rfl fun r _ => ?_)
    exact congrArg (fun a : EReal => a * _) (down1_at _ r (col t j)).symm
  | 2 =>
    refine (pay_taps2 _ _ _ _ j).trans (Eq.trans ?_ (tapGrad2_at _ _ _).symm)
    rw [rowSum_at]
    simp only [hp, hu]
    refine Finset.sum_congr rfl fun r _ => (mul_comm (G := EReal) _ _).trans ?_
    exact congrArg (fun a : EReal => a * _) (down0_at _ r (col t j)).symm

theorem piece_index (n k : Fin 3) (r : Fin 2048) (j : Fin 256) (x : S1x2048x256.Idx) (e0 : k.val = n.val + (x 0).val) (e : (x 0).val < 1)
    (e1 : r.val = (x 1).val) (e2 : j.val = (x 2).val) : k = n ∧ x = ix3 0 r j := by
  refine ⟨Fin.ext (by omega), (eq_ix3 x).trans ?_⟩
  exact congr (congrArg₂ ix3 (Fin.ext (by show (x 0).val = 0; omega)) (Fin.ext e1.symm)) (Fin.ext e2.symm)

open Cert.MixConvRefIdeal.Value in
include hP hT hW hD in
theorem final_dc : (dats m 0 c).arrAt 7 (cfgs 0).N = three (mulf (dya D W) (convV (mulf (cc P) (cx P)) T))
    (mulf (convBack (mulf (cb P) (dya D W)) T) (cx P)) (mulf (cc P) (convBack (mulf (cb P) (dya D W)) T)) := by
  refine (dats m 0 c).arrAt_eq_of_covers 7 _ (by decide +kernel) fun t hf y => ?_
  obtain ⟨k, r, j, rfl⟩ : ∃ (k : Fin 3) (r : Fin 2048) (j : Fin 256), y = (ix3 k r j : S3x2048x256.Idx) := ⟨y 0, y 1, y 2, eq_ix3 y⟩
  blk_simp
  rw [after0_7, emb_dc]
  unfold_out out0_7
  frame_out
  canon_tiles x h
  · obtain ⟨rfl, rfl⟩ := piece_index 2 k r j x h0 x0_lt h1 h2
    rw [three_at2]
    refine (pay_dx _ _ _ _ _ _ r j).trans ?_
    rw [point_dp m c P T W D hP hW hD, pay_c]
    · exact (congrArg (fun b : EReal => _ * b) (blk_c m c P hP t r j)).trans (mul_comm (G := EReal) _ _)
    · pointwise; exact blk_taps m c T hT t 2 j
    · pointwise; exact blk_taps m c T hT t 1 j
    · pointwise; exact blk_taps m c T hT t 0 j
  · obtain ⟨rfl, rfl⟩ := piece_index 1 k r j x h0 x0_lt h1 h2
    rw [three_at1]
    refine (pay_dc _ _ _ _ _ _ r j).trans ?_
    rw [point_dp m c P T W D hP hW hD, pay_x]
    · exact congrArg (fun b : EReal => _ * b) (blk_x m c P hP t r j)
    · pointwise; exact blk_taps m c T hT t 2 j
    · pointwise; exact blk_taps m c T hT t 1 j
    · pointwise; exact blk_taps m c T hT t 0 j
  · obtain ⟨rfl, rfl⟩ := piece_index 0 k r j x (h0.trans (Nat.zero_add _).symm) x0_lt h1 h2
    rw [three_at0]
    refine (pay_db _ _ _ r j).trans ?_
    exact congrArg₂ (fun a b : EReal => a * b) (point_dya m c W D hW hD t r j) (blk_q m c P T hP hT t r j)

open Cert.MixConvRefIdeal.Value in
include hP hT hW hD in
theorem final_dw : (dats m 0 c).arrAt 8 (cfgs 0).N = dw D (mulf (cb P) (convV (mulf (cc P) (cx P)) T)) := by
  refine (dats m 0 c).arrAt_eq_of_covers 8 _ (by decide +kernel) fun t hf y => ?_
  obtain ⟨i, k, rfl⟩ : ∃ (i : Fin 256) (k : Fin 1024), y = (ix2 i k : S256x1024.Idx) := ⟨y 0, y 1, eq_ix2 y⟩
  blk_simp
  rw [after0_8, emb_dw]
  frame_out
  exact point_dw m c P T D hP hT hD t i k

open Cert.MixConvRefIdeal.Value in
include hP hT hW hD in
theorem final_taps : (dats m 0 c).arrAt 9 (cfgs 0).N = tapGrad (mulf (cc P) (cx P)) (mulf (cb P) (dya D W)) := by
  refine (dats m 0 c).arrAt_eq_of_covers 9 _ (by decide +kernel) fun t hf y => ?_
  obtain ⟨k, j, rfl⟩ : ∃ (k : Fin 3) (j : Fin 256), y = (ix2 k j : S3x256.Idx) := ⟨y 0, y 1, eq_ix2 y⟩
  blk_simp
  rw [after0_9, emb_taps]
  unfold_out out0_9
  frame_out
  exact point_taps m c P W D hP hW hD t k j

end

end Cert.MixConvIdeal.Value

end
-- ==== Proof.MixConvClaim.lean ====
/- The claims about the gradient through the gated short convolution, from the two programs' runs. -/
module

public import proofs.«01_k».proof.Defs
public import proofs.«01_k».proof.Proof.MixConv
public import proofs.«01_k».proof.Proof.Gen.MixConv.Frame

@[expose] public section

set_option maxRecDepth 16384

noncomputable section

namespace Cert.Proof

open Idealize.ShloMosaic Idealize.SL.Sem

theorem mixConv_frame : Cert.quiescent_MixConv := fun m g _ => Cert.MixConv.Gen.frame m g

theorem mixConv_frameIdeal : Cert.quiescent_MixConvIdeal := fun m g _ => Cert.MixConvIdeal.Gen.frame m g

theorem mixConv_frameRef : Cert.quiescent_MixConvRefIdeal := fun m g _ =>
  (θ_run Cert.MixConvRefIdeal.defs _ _).mono (fun r h => ⟨fun c => (h c).2.2.2, sem_eq_zero_of_no_sems (by decide) r.2⟩)
    (Cert.MixConvRefIdeal.Value.run m g)

open Cert.MixConvRefIdeal.Value in
/-- The three result arrays agree, whatever the argument arrays hold. -/
theorem mixConv_results (m : (ℓ : Loc Cert.MixConvIdeal.nD Cert.MixConvIdeal.τ Cert.MixConvIdeal.sig) → Buf (Elt Ideal) ℓ)
    (m' : (ℓ : Loc Cert.MixConvRefIdeal.nD Cert.MixConvRefIdeal.τ Cert.MixConvRefIdeal.sig) → Buf (Elt Ideal) ℓ) (c : Dev Cert.MixConvIdeal.nD)
    (P : FVec Ideal Cert.MixConvIdeal.S1x2048x7168 .f32)
    (T : FVec Ideal Cert.MixConvIdeal.S1x3x1024 .f32)
    (W : FVec Ideal Cert.MixConvIdeal.S1x1024x1024 .f32)
    (D : FVec Ideal Cert.MixConvIdeal.S1x2048x1024 .f32)
    (h0 : m ((c.tc : Thread _ _).loc Cert.MixConvIdeal.main_arg0) = P) (k0 : m' ((c.tc : Thread _ _).loc Cert.MixConvRefIdeal.main_arg0) = P)
    (h1 : m ((c.tc : Thread _ _).loc Cert.MixConvIdeal.main_arg1) = T) (k1 : m' ((c.tc : Thread _ _).loc Cert.MixConvRefIdeal.main_arg1) = T)
    (h2 : m ((c.tc : Thread _ _).loc Cert.MixConvIdeal.main_arg2) = W) (k2 : m' ((c.tc : Thread _ _).loc Cert.MixConvRefIdeal.main_arg2) = W)
    (h3 : m ((c.tc : Thread _ _).loc Cert.MixConvIdeal.main_arg3) = D) (k3 : m' ((c.tc : Thread _ _).loc Cert.MixConvRefIdeal.main_arg3) = D) :
    res_out0 m' c = (Cert.MixConvIdeal.Gen.dats m 0 c).arrAt 7 Cert.MixConvIdeal.cfg0.N
    ∧ dw D (mulf (cb P) (convV (mulf (cc P) (cx P)) T)) = (Cert.MixConvIdeal.Gen.dats m 0 c).arrAt 8 Cert.MixConvIdeal.cfg0.N
    ∧ tapGrad (mulf (cc P) (cx P)) (mulf (cb P) (dya D W)) = (Cert.MixConvIdeal.Gen.dats m 0 c).arrAt 9 Cert.MixConvIdeal.cfg0.N :=
  ⟨(res_dc m' c _ _ _ _ k0 k1 k2 k3).trans (Cert.MixConvIdeal.Value.final_dc m c _ _ _ _ h0 h1 h2 h3).symm,
    (Cert.MixConvIdeal.Value.final_dw m c _ _ _ _ h0 h1 h2 h3).symm, (Cert.MixConvIdeal.Value.final_taps m c _ _ _ _ h0 h1 h2 h3).symm⟩

theorem mixConv_value : Cert.algebraic_MixConvIdeal_MixConvRefIdeal := by
  pair_intro
  · run_from Cert.MixConvIdeal.Value.run_blocks m g
  · have key := fun c => mixConv_results m m' c _ _ _ _ rfl (hagree c).1 rfl (hagree c).2.1 rfl (hagree c).2.2.1 rfl (hagree c).2.2.2
    run_from Cert.MixConvRefIdeal.Value.run m' g'
    · exact (key c).1
    · exact (key c).2.1
    · exact (key c).2.2

end Cert.Proof

end
-- ==== Proof.MixOut.lean ====
/- The gradient of the gated merge: the kernel's four result arrays are the reference's. -/
module

public import proofs.«01_k».proof.Proof.Reals
public import proofs.«01_k».proof.Proof.Gen.MixOutIdeal.Value
public import proofs.«01_k».proof.Proof.Gen.MixOutRefIdeal.Run

@[expose] public section

set_option maxRecDepth 16384

noncomputable section

open Idealize.ShloMosaic Idealize.ShloMosaic.TcCoe Idealize.SL.Sem
open Idealize.ShloMosaic.Pipeline (Dat)
open Cert.Reals

namespace Cert.MixOutRefIdeal.Value
open Cert.MixOutRefIdeal Cert.MixOutRefIdeal.Gen

/-- The two bands of the projection that hold the gates. -/
def gc (P : FVec Ideal S1x2048x7168 .f32) : FVec Ideal S1x2048x1024 .f32 := extractStridedSlice S1x2048x1024 ![0, 0, 5120] P slices_S1x2048x7168_S1x2048x1024_0_0_5120
def gl (P : FVec Ideal S1x2048x7168 .f32) : FVec Ideal S1x2048x1024 .f32 := extractStridedSlice S1x2048x1024 ![0, 0, 6144] P slices_S1x2048x7168_S1x2048x1024_0_0_6144

def one : FVec Ideal S1x2048x1024 .f32 := broadcastInDim S1x2048x1024 ![] bcast_S_S1x2048x1024 (constant S_ .f32 0x3F800000#32)

/-- The logistic function. -/
def gate (Q : FVec Ideal S1x2048x1024 .f32) : FVec Ideal S1x2048x1024 .f32 := Host.divf one (addf one (Host.exp (Host.negf Q)))

/-- The gradient of the merged array. -/
def dm (D : FVec Ideal S1x2048x1024 .f32) (W : FVec Ideal S1x1024x1024 .f32) : FVec Ideal S1x2048x1024 .f32 :=
  Host.dotGeneral dot_S1x2048x1024_S1024x1024_S1x2048x1024_2_1_01_0_n_n none D (shapeCast S1024x1024 W shapeCasts_S1x1024x1024_S1024x1024)

/-- The gradient of a branch whose gate is `Q`. -/
def dbr (Q : FVec Ideal S1x2048x1024 .f32) (D : FVec Ideal S1x2048x1024 .f32) (W : FVec Ideal S1x1024x1024 .f32) : FVec Ideal S2048x1024 .bf16 :=
  truncf .bf16 (shapeCast S2048x1024 (mulf (gate Q) (dm D W)) shapeCasts_S1x2048x1024_S2048x1024) bitsLt_bf16_f32

/-- The merged array. -/
def merged (P : FVec Ideal S1x2048x7168 .f32) (A B : FVec Ideal S1x2048x1024 .f32) : FVec Ideal S1x2048x1024 .f32 :=
  addf (mulf (gate (gc P)) A) (mulf (gate (gl P)) B)

/-- The gradient of the projection's weight. -/
def dw (D Y : FVec Ideal S1x2048x1024 .f32) : FVec Ideal S1024x1024 .bf16 :=
  truncf .bf16 (shapeCast S1024x1024 (broadcastInDim S1x1024x1024 ![1, 2] bcast_S1024x1024_S1x1024x1024_1_2 (transpose S1024x1024 [1, 0]
    (Host.dotGeneral dot_S1x2048x1024_S1x2048x1024_S1024x1024_01_01_2_2_n_n none D Y) transposes_S1024x1024_S1024x1024_1_0)) shapeCasts_S1x1024x1024_S1024x1024) bitsLt_bf16_f32

/-- The gradient of a gate. -/
def dgate (Q A : FVec Ideal S1x2048x1024 .f32) (D : FVec Ideal S1x2048x1024 .f32) (W : FVec Ideal S1x1024x1024 .f32) : FVec Ideal S1x2048x1024 .f32 :=
  mulf (mulf (dm D W) A) (mulf (gate Q) (subf one (gate Q)))

/-- Two arrays, one after the other. -/
def two (A B : FVec Ideal S1x2048x1024 .f32) : FVec Ideal S2x2048x1024 .bf16 :=
  truncf .bf16 (concatenate S2x2048x1024 0 [⟨S1x2048x1024, A⟩, ⟨S1x2048x1024, B⟩] concatenates_S1x2048x1024_S1x2048x1024_S2x2048x1024_d0) bitsLt_bf16_f32

theorem gc_at (P : FVec Ideal S1x2048x7168 .f32) (r : Fin 2048) (j : Fin 1024) : gc P (ix3 0 r j) = P (ix3 0 r ⟨5120 + j.val, by omega⟩) := by
  pointwise [gc]
theorem gl_at (P : FVec Ideal S1x2048x7168 .f32) (r : Fin 2048) (j : Fin 1024) : gl P (ix3 0 r j) = P (ix3 0 r ⟨6144 + j.val, by omega⟩) := by
  pointwise [gl]
theorem dm_at (D : FVec Ideal S1x2048x1024 .f32) (W : FVec Ideal S1x1024x1024 .f32) (r : Fin 2048) (j : Fin 1024) :
    dm D W (ix3 0 r j) = ∑ k : Fin 1024, D (ix3 0 r k) * W (ix3 0 j k) := by
  pointwise [dm]
theorem dw_at (D Y : FVec Ideal S1x2048x1024 .f32) (i j : Fin 1024) :
    dw D Y (ix2 i j) = ∑ r : Fin 2048, D (ix3 0 r j) * Y (ix3 0 r i) := by
  pointwise [dw]
  rw [Fin.sum_univ_one]
theorem dbr_at (Q : FVec Ideal S1x2048x1024 .f32) (D : FVec Ideal S1x2048x1024 .f32) (W : FVec Ideal S1x1024x1024 .f32) (r : Fin 2048) (j : Fin 1024) :
    dbr Q D W (ix2 r j) = gate Q (ix3 0 r j) * dm D W (ix3 0 r j) := by
  pointwise [dbr]
theorem dgate_at (Q A D : FVec Ideal S1x2048x1024 .f32) (W : FVec Ideal S1x1024x1024 .f32) (r : Fin 2048) (j : Fin 1024) :
    dgate Q A D W (ix3 0 r j) = dm D W (ix3 0 r j) * A (ix3 0 r j) * (gate Q (ix3 0 r j) * (1 - gate Q (ix3 0 r j))) := by
  pointwise [dgate, one]
theorem two_at0 (A B : FVec Ideal S1x2048x1024 .f32) (r : Fin 2048) (j : Fin 1024) : two A B (ix3 0 r j) = A (ix3 0 r j) := by
  pointwise [two]
theorem two_at1 (A B : FVec Ideal S1x2048x1024 .f32) (r : Fin 2048) (j : Fin 1024) : two A B (ix3 1 r j) = B (ix3 0 r j) := by
  pointwise [two]

end Cert.MixOutRefIdeal.Value

namespace Cert.MixOutIdeal.Value
open Cert.MixOutIdeal Cert.MixOutIdeal.Gen

theorem pay_dm (d : FVec Ideal S2048x1024 .bf16) (w : FVec Ideal S256x1024 .bf16) (r : Fin 2048) (j : Fin 256) :
    k0_pay2 (F := Ideal) d w (ix2 r j) = ∑ k : Fin 1024, d (ix2 r k) * w (ix2 j k) := by
  pointwise [k0_pay2, k0_pay1]
theorem pay_dw (d : FVec Ideal S2048x1024 .bf16) (y : FVec Ideal S2048x256 .bf16) (i : Fin 256) (k : Fin 1024) :
    k0_pay3 (F := Ideal) d y (ix2 i k) = ∑ r : Fin 2048, y (ix2 r i) * d (ix2 r k) := by
  pointwise [k0_pay3, k0_pay1]
open Cert.MixOutRefIdeal.Value in
theorem pay_sig (q : FVec Ideal S128x256 .f32) (i : Fin 128) (j : Fin 256) (Q : FVec Ideal S1x2048x1024 .f32) (r : Fin 2048) (k : Fin 1024)
    (h : q (ix2 i j) = Q (ix3 0 r k)) : k0_pay6 (F := Ideal) q (ix2 i j) = gate Q (ix3 0 r k) := by
  pointwise [k0_pay6, gate, one, h, zero_sub]
open Cert.MixOutRefIdeal.Value in
theorem pay_sig' (q : FVec Ideal S128x256 .f32) (i : Fin 128) (j : Fin 256) (Q : FVec Ideal S1x2048x1024 .f32) (r : Fin 2048) (k : Fin 1024)
    (h : q (ix2 i j) = Q (ix3 0 r k)) : k0_pay7 (F := Ideal) q (ix2 i j) = gate Q (ix3 0 r k) := by
  pointwise [k0_pay7, gate, one, h, zero_sub]
theorem pay_da (d q : FVec Ideal S128x256 .f32) (i : Fin 128) (j : Fin 256) :
    k0_pay8 (F := Ideal) d q (ix2 i j) = d (ix2 i j) * k0_pay6 (F := Ideal) q (ix2 i j) := by
  pointwise [k0_pay8]
theorem pay_db (d q : FVec Ideal S128x256 .f32) (i : Fin 128) (j : Fin 256) :
    k0_pay9 (F := Ideal) d q (ix2 i j) = d (ix2 i j) * k0_pay7 (F := Ideal) q (ix2 i j) := by
  pointwise [k0_pay9]
theorem pay_dgc (d q a : FVec Ideal S128x256 .f32) (i : Fin 128) (j : Fin 256) :
    k0_pay4 (F := Ideal) (k0_pay10 (F := Ideal) d q a) (ix3 0 i j)
      = d (ix2 i j) * a (ix2 i j) * k0_pay6 (F := Ideal) q (ix2 i j) * (1 - k0_pay6 (F := Ideal) q (ix2 i j)) := by
  pointwise [k0_pay4, k0_pay10]
theorem pay_dgl (d s a : FVec Ideal S128x256 .f32) (i : Fin 128) (j : Fin 256) :
    k0_pay5 (F := Ideal) d s a (ix3 0 i j)
      = d (ix2 i j) * a (ix2 i j) * s (ix2 i j) * (1 - s (ix2 i j)) := by
  pointwise [k0_pay5]

end Cert.MixOutIdeal.Value

namespace Cert.MixOutIdeal.Value
open Cert.MixOutIdeal Cert.MixOutIdeal.Gen

variable (m : (ℓ : Loc nD τ sig) → Buf (Elt Ideal) ℓ) (c : Dev nD)

/-- What the loop's trips before the `n`-th have stored at a grid point. -/
abbrev stored (t : Fin cfg0.N) (n : ℕ) :=
  pb_k0_t1 (F := Ideal) Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    scM0_0 (Memref.isWhole_whole _) ((hs0_3 t).unread (iblk m c 3 t)) ((hs0_4 t).unread (iblk m c 4 t)) ((hs0_5 t).unread (iblk m c 5 t))
    ((hs0_6 t).unread (iblk m c 6 t)) ((View.whole cc0_scratch0).writes (Elt Ideal) (View.whole cc0_scratch0).junk
      (kernelRun0_A.sl.HS0_1 c (ms0_0 t) (hs0_0 t) (ms0_1 t) (hs0_1 t) (iblk m c 0 t) (iblk m c 1 t))) n

/-- What one trip stores. -/
abbrev trip (t : Fin cfg0.N) (n : Fin k0_t1_loop.trips) :=
  tripL_k0_t1 (F := Ideal) Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    scM0_0 (Memref.isWhole_whole _) ((hs0_3 t).unread (iblk m c 3 t)) ((hs0_4 t).unread (iblk m c 4 t)) ((hs0_5 t).unread (iblk m c 5 t))
    ((hs0_6 t).unread (iblk m c 6 t)) ((View.whole cc0_scratch0).writes (Elt Ideal) (View.whole cc0_scratch0).junk
      (kernelRun0_A.sl.HS0_1 c (ms0_0 t) (hs0_0 t) (ms0_1 t) (hs0_1 t) (iblk m c 0 t) (iblk m c 1 t))) n

theorem stored_forall (t : Fin cfg0.N) (A B : View.Piece (Elt Ideal) S2048x256 .bf16 → Prop) (C : View.Piece (Elt Ideal) S2x2048x256 .bf16 → Prop)
    (h : ∀ n, (∀ p ∈ (trip m c t n).1, A p) ∧ (∀ p ∈ (trip m c t n).2.1, B p) ∧ ∀ p ∈ (trip m c t n).2.2, C p) (n : ℕ) :
    (∀ p ∈ (stored m c t n).1, A p) ∧ (∀ p ∈ (stored m c t n).2.1, B p) ∧ ∀ p ∈ (stored m c t n).2.2, C p := by
  induction n with
  | zero => simp [stored, pb_k0_t1]
  | succ n ih =>
    unfold stored
    rw [pb_k0_t1.eq_2]
    unfold pb_k0_t1Step
    by_cases hn : n < k0_t1_loop.trips
    · rw [dif_pos hn]
      obtain ⟨a, b, e⟩ := h ⟨n, hn⟩
      refine ⟨fun p hp => ?_, fun p hp => ?_, fun p hp => ?_⟩
      · exact (List.mem_append.mp hp).elim (a p) (ih.1 p)
      · exact (List.mem_append.mp hp).elim (b p) (ih.2.1 p)
      · exact (List.mem_append.mp hp).elim (e p) (ih.2.2 p)
    · rw [dif_neg hn]; exact ih

theorem off1 : ∀ n : Fin k0_t1_loop.trips, k0_off1 n = ![n.val * 128, 0] := by decide +kernel
theorem off2 : ∀ n : Fin k0_t1_loop.trips, k0_off2 n = ![0, n.val * 128, 0] := by decide +kernel
theorem off3 : ∀ n : Fin k0_t1_loop.trips, k0_off3 n = ![1, n.val * 128, 0] := by decide +kernel
theorem trips_lt (n : Fin k0_t1_loop.trips) : n.val < 16 := Nat.lt_of_lt_of_le n.isLt k0_t1_abs.2.1

/-- A row of the block at the trip that works on it. -/
abbrev row (n : Fin k0_t1_loop.trips) (i : Fin 128) : Fin 2048 := ⟨n.val * 128 + i.val, by have := trips_lt n; omega⟩

theorem emb1 (n : Fin k0_t1_loop.trips) (i : Fin 128) (j : Fin 256) :
    (Rect.unit (s := S2048x256) (k0_off1 n) S128x256.size (k0_off1_inb n)).emb (ix2 i j : S128x256.Idx) = ix2 (row n i) j := by
  funext a; refine Fin.ext ?_; fin_cases a <;> simp [Rect.emb, Rect.unit, off1]
theorem emb2 (n : Fin k0_t1_loop.trips) (i : Fin 128) (j : Fin 256) :
    (Rect.unit (s := S2x2048x256) (k0_off2 n) S1x128x256.size (k0_off2_inb n)).emb (ix3 0 i j : S1x128x256.Idx) = ix3 0 (row n i) j := by
  funext a; refine Fin.ext ?_; fin_cases a <;> simp [Rect.emb, Rect.unit, off2]
theorem emb3 (n : Fin k0_t1_loop.trips) (i : Fin 128) (j : Fin 256) :
    (Rect.unit (s := S2x2048x256) (k0_off3 n) S1x128x256.size (k0_off3_inb n)).emb (ix3 0 i j : S1x128x256.Idx) = ix3 1 (row n i) j := by
  funext a; refine Fin.ext ?_; fin_cases a <;> simp [Rect.emb, Rect.unit, off3]

theorem idx1 (n : Fin k0_t1_loop.trips) (i : Fin 128) (j : Fin 256) :
    (Rect.unit (s := S2048x256) (k0_off1 n) S128x256.size (k0_off1_inb n)).toLoadRect.idx (ix2 i j : S128x256.Idx) = ix2 (row n i) j := emb1 n i j

theorem rd {M : Memref sig .tc .vmem S2048x256 .f32} (h : M.IsWhole) (X : FVec Ideal S2048x256 .f32) (n : Fin k0_t1_loop.trips) (i : Fin 128) (j : Fin 256) :
    View.readAt (Elt Ideal) M.view (Rect.unit (s := S2048x256) (k0_off1 n) S128x256.size (k0_off1_inb n)).toLoadRect (h.unread X) (ix2 i j) = X (ix2 (row n i) j) := by
  have e : M.view.read (Elt Ideal) (h.unread X) = X := h.read_unread (Val := Elt Ideal) X
  exact (congrFun e _).trans (congrArg (fun q : S2048x256.Idx => X q) (emb1 n i j))

theorem rd_scr (t : Fin cfg0.N) (n : Fin k0_t1_loop.trips) (i : Fin 128) (j : Fin 256) :
    View.readAt (Elt Ideal) (View.whole cc0_scratch0) (Rect.unit (s := S2048x256) (k0_off1 n) S128x256.size (k0_off1_inb n)).toLoadRect
      ((View.whole cc0_scratch0).writes (Elt Ideal) (View.whole cc0_scratch0).junk
      (kernelRun0_A.sl.HS0_1 c (ms0_0 t) (hs0_0 t) (ms0_1 t) (hs0_1 t) (iblk m c 0 t) (iblk m c 1 t))) (ix2 i j)
      = k0_pay2 (F := Ideal) (iblk m c 0 t) (iblk m c 1 t) (ix2 (row n i) j) := by
  rw [View.readAt_writes_junk_eq_canon]
  unfold kernelRun0_A.sl.HS0_1
  have e0 : View.readAt (Elt Ideal) (ms0_0 t).view (Rect.unit ![0, 0] S2048x1024.size inb_S2048x1024_S2048x1024_0_0).toLoadRect ((hs0_0 t).unread (iblk m c 0 t)) = iblk m c 0 t := by
    frame_out
  have e1 : View.readAt (Elt Ideal) (ms0_1 t).view (Rect.unit ![0, 0] S256x1024.size inb_S256x1024_S256x1024_0_0).toLoadRect ((hs0_1 t).unread (iblk m c 1 t)) = iblk m c 1 t := by
    frame_out
  rw [e0, e1]
  have z : (![0, 0] : Fin 2 → Nat) = fun _ => 0 := by funext a; fin_cases a <;> rfl
  exact (congrFun (View.canon_unit_zero (Val := Elt Ideal) (S := S2048x256) (e := .f32) z inb_S2048x256_S2048x256_0_0 (k0_pay2 (F := Ideal) (iblk m c 0 t) (iblk m c 1 t))) _).trans
    (congrArg (fun q : S2048x256.Idx => k0_pay2 (F := Ideal) (iblk m c 0 t) (iblk m c 1 t) q) (emb1 n i j))

end Cert.MixOutIdeal.Value

namespace Cert.MixOutIdeal.Value
open Cert.MixOutIdeal Cert.MixOutIdeal.Gen

theorem idx : ∀ t : Fin cfg0.N, win0_0.index t = ![0, 0] ∧ win0_1.index t = ![t.val, 0] ∧ win0_2.index t = ![0, t.val]
    ∧ win0_3.index t = ![0, t.val] ∧ win0_4.index t = ![0, t.val] ∧ win0_5.index t = ![0, 20 + t.val] ∧ win0_6.index t = ![0, 24 + t.val]
    ∧ win0_7.index t = ![0, t.val] ∧ win0_8.index t = ![0, t.val] ∧ win0_9.index t = ![t.val, 0] ∧ win0_10.index t = ![0, 0, t.val] := (by decide +kernel : ∀ t : Fin grid0.N, _)

variable (m : (ℓ : Loc nD τ sig) → Buf (Elt Ideal) ℓ) (c : Dev nD)

/-- A column of the array at the grid point that works on it. -/
abbrev col (t : Fin cfg0.N) (j : Fin 256) : Fin 1024 := ⟨t.val * 256 + j.val, by have := lt_of_lt_of_eq t.isLt N_0; omega⟩

theorem emb_da (t : Fin cfg0.N) (r : Fin 2048) (j : Fin 256) :
    ((View.whole main_v31_0).slice (win0_7.rect t)).emb (ix2 r j : S2048x256.Idx) = (ix2 r (col t j) : S2048x1024.Idx) := by
  blk_ext [idx t]
theorem emb_db (t : Fin cfg0.N) (r : Fin 2048) (j : Fin 256) :
    ((View.whole main_v31_1).slice (win0_8.rect t)).emb (ix2 r j : S2048x256.Idx) = (ix2 r (col t j) : S2048x1024.Idx) := by
  blk_ext [idx t]
theorem emb_dw (t : Fin cfg0.N) (i : Fin 256) (k : Fin 1024) :
    ((View.whole main_v31_2).slice (win0_9.rect t)).emb (ix2 i k : S256x1024.Idx) = (ix2 (col t i) k : S1024x1024.Idx) := by
  blk_ext [idx t]
theorem emb_dg (t : Fin cfg0.N) (k : Fin 2) (r : Fin 2048) (j : Fin 256) :
    ((View.whole main_v31_3).slice (win0_10.rect t)).emb (ix3 k r j : S2x2048x256.Idx) = (ix3 k r (col t j) : S2x2048x1024.Idx) := by
  blk_ext [idx t]

section
variable (P : FVec Ideal S1x2048x7168 .f32) (A B : FVec Ideal S1x2048x1024 .f32) (W : FVec Ideal S1x1024x1024 .f32) (D : FVec Ideal S1x2048x1024 .f32)
    (hP : m ((c.tc : Thread nD τ).loc main_arg0) = P) (hA : m ((c.tc : Thread nD τ).loc main_arg1) = A) (hB : m ((c.tc : Thread nD τ).loc main_arg2) = B)
    (hW : m ((c.tc : Thread nD τ).loc main_arg3) = W) (hD : m ((c.tc : Thread nD τ).loc main_arg4) = D)

include hD in
theorem blk_d (t : Fin cfg0.N) (r : Fin 2048) (k : Fin 1024) : (show FVec Ideal S2048x1024 .bf16 from iblk m c 0 t) (ix2 r k) = D (ix3 0 r k) := by
  subst hD; blk_point [iblk, V, idx t]

include hW in
theorem blk_w (t : Fin cfg0.N) (j : Fin 256) (k : Fin 1024) : (show FVec Ideal S256x1024 .bf16 from iblk m c 1 t) (ix2 j k) = W (ix3 0 (col t j) k) := by
  subst hW; blk_point [iblk, V, idx t]

include hA in
theorem blk_a (t : Fin cfg0.N) (r : Fin 2048) (j : Fin 256) : (show FVec Ideal S2048x256 .f32 from iblk m c 3 t) (ix2 r j) = A (ix3 0 r (col t j)) := by
  subst hA; blk_point [iblk, V, idx t]

include hB in
theorem blk_b (t : Fin cfg0.N) (r : Fin 2048) (j : Fin 256) : (show FVec Ideal S2048x256 .f32 from iblk m c 4 t) (ix2 r j) = B (ix3 0 r (col t j)) := by
  subst hB; blk_point [iblk, V, idx t]

open Cert.MixOutRefIdeal.Value in
include hP in
theorem blk_gc (t : Fin cfg0.N) (r : Fin 2048) (j : Fin 256) : (show FVec Ideal S2048x256 .f32 from iblk m c 5 t) (ix2 r j) = gc P (ix3 0 r (col t j)) := by
  subst hP; rw [gc_at]; blk_point [iblk, V, idx t]

open Cert.MixOutRefIdeal.Value in
include hP in
theorem blk_gl (t : Fin cfg0.N) (r : Fin 2048) (j : Fin 256) : (show FVec Ideal S2048x256 .f32 from iblk m c 6 t) (ix2 r j) = gl P (ix3 0 r (col t j)) := by
  subst hP; rw [gl_at]; blk_point [iblk, V, idx t]

open Cert.MixOutRefIdeal.Value in
include hP hA hB in
theorem V_merged : V m c main_v27 = truncf .bf16 (shapeCast S2048x1024 (merged P A B) shapeCasts_S1x2048x1024_S2048x1024) bitsLt_bf16_f32 := by
  subst hP hA hB
  unfold V
  after_results
  rfl

open Cert.MixOutRefIdeal.Value in
include hP hA hB in
theorem blk_merged (t : Fin cfg0.N) (r : Fin 2048) (j : Fin 256) :
    (show FVec Ideal S2048x256 .bf16 from iblk m c 2 t) (ix2 r j) = merged P A B (ix3 0 r (col t j)) := by
  have h : (show FVec Ideal S2048x256 .bf16 from iblk m c 2 t) (ix2 r j) = V m c main_v27 (ix2 r (col t j)) := by
    blk_point [iblk, idx t]
  rw [h, V_merged m c P A B hP hA hB]
  pointwise

open Cert.MixOutRefIdeal.Value in
include hW hD in
theorem point_dm (t : Fin cfg0.N) (r : Fin 2048) (j : Fin 256) :
    k0_pay2 (F := Ideal) (iblk m c 0 t) (iblk m c 1 t) (ix2 r j) = dm D W (ix3 0 r (col t j)) := by
  rw [pay_dm, dm_at]
  exact Finset.sum_congr rfl fun k _ => congrArg₂ (fun a b : EReal => a * b) (blk_d m c D hD t r k) (blk_w m c W hW t j k)

open Cert.MixOutRefIdeal.Value in
include hP hA hB hD in
theorem point_dw (t : Fin cfg0.N) (i : Fin 256) (k : Fin 1024) :
    k0_pay3 (F := Ideal) (iblk m c 0 t) (iblk m c 2 t) (ix2 i k) = dw D (merged P A B) (ix2 (col t i) k) := by
  refine (pay_dw _ _ i k).trans (Eq.trans (Finset.sum_congr rfl fun r _ => ?_) (dw_at D _ (col t i) k).symm)
  exact (congrArg₂ (fun a b : EReal => a * b) (blk_merged m c P A B hP hA hB t r i) (blk_d m c D hD t r k)).trans (mul_comm (G := EReal) _ _)

open Cert.MixOutRefIdeal.Value in
include hP hW hD in
theorem point_da (t : Fin cfg0.N) (r : Fin 2048) (l : Fin 256) (i : Fin 128) (d q : FVec Ideal S128x256 .f32)
    (hd : d (ix2 i l) = k0_pay2 (F := Ideal) (iblk m c 0 t) (iblk m c 1 t) (ix2 r l)) (hq : q (ix2 i l) = (show FVec Ideal S2048x256 .f32 from iblk m c 5 t) (ix2 r l)) :
    k0_pay8 (F := Ideal) d q (ix2 i l) = dbr (gc P) D W (ix2 r (col t l)) := by
  rw [pay_da, dbr_at, hd, point_dm m c W D hW hD]
  rw [pay_sig q i l (gc P) r (col t l) (hq.trans (blk_gc m c P hP t r l))]
  exact mul_comm _ _

open Cert.MixOutRefIdeal.Value in
include hP hW hD in
theorem point_db (t : Fin cfg0.N) (r : Fin 2048) (l : Fin 256) (i : Fin 128) (d q : FVec Ideal S128x256 .f32)
    (hd : d (ix2 i l) = k0_pay2 (F := Ideal) (iblk m c 0 t) (iblk m c 1 t) (ix2 r l)) (hq : q (ix2 i l) = (show FVec Ideal S2048x256 .f32 from iblk m c 6 t) (ix2 r l)) :
    k0_pay9 (F := Ideal) d q (ix2 i l) = dbr (gl P) D W (ix2 r (col t l)) := by
  rw [pay_db, dbr_at, hd, point_dm m c W D hW hD]
  rw [pay_sig' q i l (gl P) r (col t l) (hq.trans (blk_gl m c P hP t r l))]
  exact mul_comm _ _

open Cert.MixOutRefIdeal.Value in
include hP hA hW hD in
theorem point_dgc (t : Fin cfg0.N) (r : Fin 2048) (l : Fin 256) (i : Fin 128) (d q a : FVec Ideal S128x256 .f32)
    (hd : d (ix2 i l) = k0_pay2 (F := Ideal) (iblk m c 0 t) (iblk m c 1 t) (ix2 r l)) (hq : q (ix2 i l) = (show FVec Ideal S2048x256 .f32 from iblk m c 5 t) (ix2 r l))
    (ha : a (ix2 i l) = (show FVec Ideal S2048x256 .f32 from iblk m c 3 t) (ix2 r l)) (X : FVec Ideal S1x2048x1024 .f32) :
    k0_pay4 (F := Ideal) (k0_pay10 (F := Ideal) d q a) (ix3 0 i l) = two (dgate (gc P) A D W) X (ix3 0 r (col t l)) := by
  rw [pay_dgc, two_at0, dgate_at, hd, point_dm m c W D hW hD, ha, blk_a m c A hA]
  rw [pay_sig q i l (gc P) r (col t l) (hq.trans (blk_gc m c P hP t r l))]
  exact mul_assoc _ _ _

open Cert.MixOutRefIdeal.Value in
include hP hB hW hD in
theorem point_dgl (t : Fin cfg0.N) (r : Fin 2048) (l : Fin 256) (i : Fin 128) (d q a : FVec Ideal S128x256 .f32)
    (hd : d (ix2 i l) = k0_pay2 (F := Ideal) (iblk m c 0 t) (iblk m c 1 t) (ix2 r l)) (hq : q (ix2 i l) = (show FVec Ideal S2048x256 .f32 from iblk m c 6 t) (ix2 r l))
    (ha : a (ix2 i l) = (show FVec Ideal S2048x256 .f32 from iblk m c 4 t) (ix2 r l)) (X : FVec Ideal S1x2048x1024 .f32) :
    k0_pay5 (F := Ideal) d (k0_pay7 (F := Ideal) q) a (ix3 0 i l) = two X (dgate (gl P) B D W) (ix3 1 r (col t l)) := by
  rw [pay_dgl, two_at1, dgate_at, hd, point_dm m c W D hW hD, ha, blk_b m c B hB]
  rw [pay_sig' q i l (gl P) r (col t l) (hq.trans (blk_gl m c P hP t r l))]
  exact mul_assoc _ _ _

open Cert.MixOutRefIdeal.Value in
include hP hA hB hW hD in
/-- What each trip stores, at the place it stores it. -/
theorem trip_stores (t : Fin cfg0.N) (n : Fin k0_t1_loop.trips) (G H : S2048x256.Idx → EReal) (K : S2x2048x256.Idx → EReal)
    (hG : ∀ r l, G (ix2 r l) = dbr (gc P) D W (ix2 r (col t l))) (hH : ∀ r l, H (ix2 r l) = dbr (gl P) D W (ix2 r (col t l)))
    (hK : ∀ k r l, K (ix3 k r l) = two (dgate (gc P) A D W) (dgate (gl P) B D W) (ix3 k r (col t l))) :
    (∀ p ∈ (trip m c t n).1, ∀ x, p.2 x = G (p.1.emb x)) ∧ (∀ p ∈ (trip m c t n).2.1, ∀ x, p.2 x = H (p.1.emb x))
    ∧ ∀ p ∈ (trip m c t n).2.2, ∀ x, p.2 x = K (p.1.emb x) := by
  unfold trip tripL_k0_t1 trip_k0_t1 trip_k0_t1.sl.r trip_k0_t1.sl.r_1 trip_k0_t1.sl.r_2; dsimp only
  refine ⟨?_, ?_, ?_⟩
  · intro p hp
    rw [List.mem_singleton] at hp; subst hp
    intro x
    obtain ⟨i, l, rfl⟩ : ∃ (i : Fin 128) (l : Fin 256), x = (ix2 i l : S128x256.Idx) := ⟨x 0, x 1, eq_ix2 x⟩
    refine Eq.trans (point_da m c P W D hP hW hD t (row n i) l i _ _ (rd_scr m c t n i l) (rd (hs0_5 t) _ n i l)) ?_
    exact (hG _ _).symm.trans (congrArg G (emb1 n i l).symm)
  · intro p hp
    rw [List.mem_singleton] at hp; subst hp
    intro x
    obtain ⟨i, l, rfl⟩ : ∃ (i : Fin 128) (l : Fin 256), x = (ix2 i l : S128x256.Idx) := ⟨x 0, x 1, eq_ix2 x⟩
    refine Eq.trans (point_db m c P W D hP hW hD t (row n i) l i _ _ (rd_scr m c t n i l) (rd (hs0_6 t) _ n i l)) ?_
    exact (hH _ _).symm.trans (congrArg H (emb1 n i l).symm)
  · intro p hp
    rw [List.mem_cons, List.mem_singleton] at hp
    rcases hp with rfl | rfl
    · intro x
      obtain ⟨i, l, rfl⟩ : ∃ (i : Fin 128) (l : Fin 256), x = (ix3 0 i l : S1x128x256.Idx) := ⟨x 1, x 2, (eq_ix3 x).trans (congrArg (fun a => ix3 a (x 1) (x 2)) (Subsingleton.elim (α := Fin 1) _ _))⟩
      refine Eq.trans (point_dgl m c P B W D hP hB hW hD t (row n i) l i _ _ _ (rd_scr m c t n i l) (rd (hs0_6 t) _ n i l) (rd (hs0_4 t) _ n i l) (dgate (gc P) A D W)) ?_
      exact (hK _ _ _).symm.trans (congrArg K (emb3 n i l).symm)
    · intro x
      obtain ⟨i, l, rfl⟩ : ∃ (i : Fin 128) (l : Fin 256), x = (ix3 0 i l : S1x128x256.Idx) := ⟨x 1, x 2, (eq_ix3 x).trans (congrArg (fun a => ix3 a (x 1) (x 2)) (Subsingleton.elim (α := Fin 1) _ _))⟩
      refine Eq.trans (point_dgc m c P A W D hP hA hW hD t (row n i) l i _ _ _ (rd_scr m c t n i l) (rd (hs0_5 t) _ n i l) (rd (hs0_3 t) _ n i l) (dgate (gl P) B D W)) ?_
      exact (hK _ _ _).symm.trans (congrArg K (emb2 n i l).symm)

open Cert.MixOutRefIdeal.Value in
include hP hA hB hW hD in
theorem final_da : (dats m 0 c).arrAt 7 (cfgs 0).N = dbr (gc P) D W := by
  refine (dats m 0 c).arrAt_eq_of_covers 7 _ (by decide +kernel) fun t hf y => ?_
  obtain ⟨r, j, rfl⟩ : ∃ (r : Fin 2048) (j : Fin 256), y = (ix2 r j : S2048x256.Idx) := ⟨y 0, y 1, eq_ix2 y⟩
  blk_simp
  rw [after0_7, emb_da]
  unfold outsAt0; dsimp only; unfold out0_A_7
  refine View.read_writes_apply_of_pieces (Val := Elt Ideal) VO0_7 _ (fun y : S2048x256.Idx => dbr (gc P) D W (ix2 (y 0) (col t (y 1)))) _ ?_ (ix2 r j) (cover0_A_7 c _ _ _ _ _ _ _ _ _ _ _ _ _ _ _ _ _ _ _ _ _ _ _ _ _ _ _ _ _ _ _ _ (ix2 r j))
  unfold kernelRun0_A; dsimp only
  exact (stored_forall m c t _ _ _ (fun n => trip_stores m c P A B W D hP hA hB hW hD t n
    (fun y => dbr (gc P) D W (ix2 (y 0) (col t (y 1)))) (fun y => dbr (gl P) D W (ix2 (y 0) (col t (y 1))))
    (fun y => two (dgate (gc P) A D W) (dgate (gl P) B D W) (ix3 (y 0) (y 1) (col t (y 2)))) (fun _ _ => rfl) (fun _ _ => rfl) (fun _ _ _ => rfl)) _).1

open Cert.MixOutRefIdeal.Value in
include hP hA hB hW hD in
theorem final_db : (dats m 0 c).arrAt 8 (cfgs 0).N = dbr (gl P) D W := by
  refine (dats m 0 c).arrAt_eq_of_covers 8 _ (by decide +kernel) fun t hf y => ?_
  obtain ⟨r, j, rfl⟩ : ∃ (r : Fin 2048) (j : Fin 256), y = (ix2 r j : S2048x256.Idx) := ⟨y 0, y 1, eq_ix2 y⟩
  blk_simp
  rw [after0_8, emb_db]
  unfold outsAt0; dsimp only; unfold out0_A_8
  refine View.read_writes_apply_of_pieces (Val := Elt Ideal) VO0_8 _ (fun y : S2048x256.Idx => dbr (gl P) D W (ix2 (y 0) (col t (y 1)))) _ ?_ (ix2 r j) (cover0_A_8 c _ _ _ _ _ _ _ _ _ _ _ _ _ _ _ _ _ _ _ _ _ _ _ _ _ _ _ _ _ _ _ _ (ix2 r j))
  unfold kernelRun0_A; dsimp only
  exact (stored_forall m c t _ _ _ (fun n => trip_stores m c P A B W D hP hA hB hW hD t n
    (fun y => dbr (gc P) D W (ix2 (y 0) (col t (y 1)))) (fun y => dbr (gl P) D W (ix2 (y 0) (col t (y 1))))
    (fun y => two (dgate (gc P) A D W) (dgate (gl P) B D W) (ix3 (y 0) (y 1) (col t (y 2)))) (fun _ _ => rfl) (fun _ _ => rfl) (fun _ _ _ => rfl)) _).2.1

open Cert.MixOutRefIdeal.Value in
include hP hA hB hD in
theorem final_dw : (dats m 0 c).arrAt 9 (cfgs 0).N = dw D (merged P A B) := by
  refine (dats m 0 c).arrAt_eq_of_covers 9 _ (by decide +kernel) fun t hf y => ?_
  obtain ⟨i, k, rfl⟩ : ∃ (i : Fin 256) (k : Fin 1024), y = (ix2 i k : S256x1024.Idx) := ⟨y 0, y 1, eq_ix2 y⟩
  blk_simp
  rw [after0_9, emb_dw]
  unfold outsAt0; dsimp only; unfold out0_A_9
  unfold kernelRun0_A; dsimp only
  frame_out
  exact point_dw m c P A B D hP hA hB hD t i k

open Cert.MixOutRefIdeal.Value in
include hP hA hB hW hD in
theorem final_dg : (dats m 0 c).arrAt 10 (cfgs 0).N = two (dgate (gc P) A D W) (dgate (gl P) B D W) := by
  refine (dats m 0 c).arrAt_eq_of_covers 10 _ (by decide +kernel) fun t hf y => ?_
  obtain ⟨k, r, j, rfl⟩ : ∃ (k : Fin 2) (r : Fin 2048) (j : Fin 256), y = (ix3 k r j : S2x2048x256.Idx) := ⟨y 0, y 1, y 2, eq_ix3 y⟩
  blk_simp
  rw [after0_10, emb_dg]
  unfold outsAt0; dsimp only; unfold out0_A_10
  refine View.read_writes_apply_of_pieces (Val := Elt Ideal) VO0_10 _ (fun y : S2x2048x256.Idx => two (dgate (gc P) A D W) (dgate (gl P) B D W) (ix3 (y 0) (y 1) (col t (y 2)))) _ ?_ (ix3 k r j) (cover0_A_10 c _ _ _ _ _ _ _ _ _ _ _ _ _ _ _ _ _ _ _ _ _ _ _ _ _ _ _ _ _ _ _ _ (ix3 k r j))
  unfold kernelRun0_A; dsimp only
  exact (stored_forall m c t _ _ _ (fun n => trip_stores m c P A B W D hP hA hB hW hD t n
    (fun y => dbr (gc P) D W (ix2 (y 0) (col t (y 1)))) (fun y => dbr (gl P) D W (ix2 (y 0) (col t (y 1))))
    (fun y => two (dgate (gc P) A D W) (dgate (gl P) B D W) (ix3 (y 0) (y 1) (col t (y 2)))) (fun _ _ => rfl) (fun _ _ => rfl) (fun _ _ _ => rfl)) _).2.2

end

end Cert.MixOutIdeal.Value

end
-- ==== Proof.MixOutClaim.lean ====
/- The claims about the gradient of the gated merge, from the two programs' runs. -/
module

public import proofs.«01_k».proof.Defs
public import proofs.«01_k».proof.Proof.MixOut
public import proofs.«01_k».proof.Proof.Gen.MixOut.Frame

@[expose] public section

set_option maxRecDepth 16384

noncomputable section

namespace Cert.Proof

open Idealize.ShloMosaic Idealize.SL.Sem

theorem mixOut_frame : Cert.quiescent_MixOut := fun m g _ => Cert.MixOut.Gen.frame m g

theorem mixOut_frameIdeal : Cert.quiescent_MixOutIdeal := fun m g _ => Cert.MixOutIdeal.Gen.frame m g

theorem mixOut_frameRef : Cert.quiescent_MixOutRefIdeal := fun m g _ =>
  (θ_run Cert.MixOutRefIdeal.defs _ _).mono (fun r h => ⟨fun c => (h c).2.2.2.2, sem_eq_zero_of_no_sems (by decide) r.2⟩)
    (Cert.MixOutRefIdeal.Value.run m g)

open Cert.MixOutRefIdeal.Value in
/-- The four result arrays agree, whatever the argument arrays hold. -/
theorem mixOut_results (m : (ℓ : Loc Cert.MixOutIdeal.nD Cert.MixOutIdeal.τ Cert.MixOutIdeal.sig) → Buf (Elt Ideal) ℓ)
    (m' : (ℓ : Loc Cert.MixOutRefIdeal.nD Cert.MixOutRefIdeal.τ Cert.MixOutRefIdeal.sig) → Buf (Elt Ideal) ℓ) (c : Dev Cert.MixOutIdeal.nD)
    (P : FVec Ideal Cert.MixOutIdeal.S1x2048x7168 .f32)
    (A : FVec Ideal Cert.MixOutIdeal.S1x2048x1024 .f32)
    (B : FVec Ideal Cert.MixOutIdeal.S1x2048x1024 .f32)
    (W : FVec Ideal Cert.MixOutIdeal.S1x1024x1024 .f32)
    (D : FVec Ideal Cert.MixOutIdeal.S1x2048x1024 .f32)
    (h0 : m ((c.tc : Thread _ _).loc Cert.MixOutIdeal.main_arg0) = P) (k0 : m' ((c.tc : Thread _ _).loc Cert.MixOutRefIdeal.main_arg0) = P)
    (h1 : m ((c.tc : Thread _ _).loc Cert.MixOutIdeal.main_arg1) = A) (k1 : m' ((c.tc : Thread _ _).loc Cert.MixOutRefIdeal.main_arg1) = A)
    (h2 : m ((c.tc : Thread _ _).loc Cert.MixOutIdeal.main_arg2) = B) (k2 : m' ((c.tc : Thread _ _).loc Cert.MixOutRefIdeal.main_arg2) = B)
    (h3 : m ((c.tc : Thread _ _).loc Cert.MixOutIdeal.main_arg3) = W) (k3 : m' ((c.tc : Thread _ _).loc Cert.MixOutRefIdeal.main_arg3) = W)
    (h4 : m ((c.tc : Thread _ _).loc Cert.MixOutIdeal.main_arg4) = D) (k4 : m' ((c.tc : Thread _ _).loc Cert.MixOutRefIdeal.main_arg4) = D) :
    dbr (gc P) D W = (Cert.MixOutIdeal.Gen.dats m 0 c).arrAt 7 Cert.MixOutIdeal.cfg0.N ∧ dbr (gl P) D W = (Cert.MixOutIdeal.Gen.dats m 0 c).arrAt 8 Cert.MixOutIdeal.cfg0.N
    ∧ dw D (merged P A B) = (Cert.MixOutIdeal.Gen.dats m 0 c).arrAt 9 Cert.MixOutIdeal.cfg0.N
    ∧ two (dgate (gc P) A D W) (dgate (gl P) B D W) = (Cert.MixOutIdeal.Gen.dats m 0 c).arrAt 10 Cert.MixOutIdeal.cfg0.N :=
  ⟨(Cert.MixOutIdeal.Value.final_da m c _ _ _ _ _ h0 h1 h2 h3 h4).symm, (Cert.MixOutIdeal.Value.final_db m c _ _ _ _ _ h0 h1 h2 h3 h4).symm,
    (Cert.MixOutIdeal.Value.final_dw m c _ _ _ _ h0 h1 h2 h4).symm, (Cert.MixOutIdeal.Value.final_dg m c _ _ _ _ _ h0 h1 h2 h3 h4).symm⟩

theorem mixOut_value : Cert.algebraic_MixOutIdeal_MixOutRefIdeal := by
  pair_intro
  · run_from Cert.MixOutIdeal.Value.run_blocks m g
  · have key := fun c => mixOut_results m m' c _ _ _ _ _ rfl (hagree c).1 rfl (hagree c).2.1 rfl (hagree c).2.2.1 rfl (hagree c).2.2.2.1 rfl (hagree c).2.2.2.2
    run_from Cert.MixOutRefIdeal.Value.run m' g'
    · exact (key c).1
    · exact (key c).2.1
    · exact (key c).2.2.1
    · rw [(hagree c).2.2.2.2]; exact (key c).2.2.2

end Cert.Proof

end
-- ==== Proof.FfnUpRef.lean ====
/- The reference for the gradient through the gated ConvFFN: its result arrays, entry by entry. -/
module

public import proofs.«01_k».proof.Proof.Conv
public import proofs.«01_k».proof.Proof.Gen.FfnUpRefIdeal.Run

@[expose] public section

set_option maxRecDepth 16384

noncomputable section

open Idealize.ShloMosaic Idealize.ShloMosaic.TcCoe Idealize.SL.Sem
open Idealize.ShloMosaic.Pipeline (Dat)
open Cert.Reals

namespace Cert.Gelu

/-- The factor of the activation's tangent, as its word reads. -/
def scale : ℝ := 13386282 / 16777216

theorem ofBits_scale : Ideal.ofBits .f32 0x3F4C422A#32 = ((scale : ℝ) : EReal) := by
  simp [Ideal.ofBits, Ideal.ieee, -EReal.coe_mul, scale]; norm_num

theorem ofBits_three : Ideal.ofBits .f32 0x40400000#32 = ((3 : ℝ) : EReal) := by
  simp [Ideal.ofBits, Ideal.ieee, -EReal.coe_mul]; norm_num

/-- The cubic term's factor, written as a quotient. -/
theorem quotient : Ideal.div (Ideal.ofBits .f32 0x472EAB00#32) (Ideal.ofBits .f32 0x49742400#32) = ((8943 / 200000 : ℝ) : EReal) := by
  have a : Ideal.ofBits .f32 0x472EAB00#32 = ((44715 : ℝ) : EReal) := by
    simp [Ideal.ofBits, Ideal.ieee, -EReal.coe_mul]; norm_num
  have b : Ideal.ofBits .f32 0x49742400#32 = ((1000000 : ℝ) : EReal) := by
    simp [Ideal.ofBits, Ideal.ieee, -EReal.coe_mul]; norm_num
  rw [a, b, div_coe_coe (by norm_num)]
  norm_num

/-- The tangent. -/
def th (g : EReal) : EReal := Ideal.tanh (((scale : ℝ) : EReal) * (g + ((8943 / 200000 : ℝ) : EReal) * (g * g * g)))

theorem th_coe (g : ℝ) : th (g : EReal) = ((Real.tanh (scale * (g + 8943 / 200000 * (g * g * g))) : ℝ) : EReal) := by
  unfold th
  simp only [← EReal.coe_mul, ← EReal.coe_add, Ideal.tanh_coe]

/-- The two ways of writing the cubic term. -/
theorem th_eq (g : EReal) : Ideal.tanh (((scale : ℝ) : EReal) * (g + ((8943 / 200000 : ℝ) : EReal) * g * (g * g))) = th g := by
  unfold th
  rw [mul_assoc, mul_assoc g g g]

/-- The two ways of writing the activation's gradient, where its argument and what reaches it are real. -/
theorem grad_eq (g u : ℝ) (t : EReal) (ht : t = th (g : EReal)) :
    (u : EReal) * (((1 / 2 : ℝ) : EReal) * ((1 : EReal) + t)
      + ((1 / 2 : ℝ) : EReal) * (g : EReal) * ((1 : EReal) - t * t) * ((scale : ℝ) : EReal) * ((1 : EReal) + ((26829 / 200000 : ℝ) : EReal) * ((g : EReal) * (g : EReal))))
    = (u : EReal) * (((1 / 2 : ℝ) : EReal) * ((1 : EReal) + t))
      + ((scale : ℝ) : EReal) * (((1 / 2 : ℝ) : EReal) * ((g : EReal) * (u : EReal)) * (((1 : EReal) + t) * ((1 : EReal) - t)))
      + ((8943 / 200000 : ℝ) : EReal) * (((scale : ℝ) : EReal) * (((1 / 2 : ℝ) : EReal) * ((g : EReal) * (u : EReal)) * (((1 : EReal) + t) * ((1 : EReal) - t))))
        * (((3 : ℝ) : EReal) * ((g : EReal) * (g : EReal))) := by
  rw [ht, th_coe]
  generalize Real.tanh _ = s
  simp only [← EReal.coe_one, ← EReal.coe_mul, ← EReal.coe_add, ← EReal.coe_sub]
  congr 1
  ring

/-- A value that is a real number. -/
def IsReal (a : EReal) : Prop := ∃ r : ℝ, a = (r : EReal)

theorem IsReal.add {a b : EReal} : IsReal a → IsReal b → IsReal (a + b) := by
  rintro ⟨x, rfl⟩ ⟨y, rfl⟩
  exact ⟨x + y, (EReal.coe_add x y).symm⟩
theorem IsReal.mul {a b : EReal} : IsReal a → IsReal b → IsReal (a * b) := by
  rintro ⟨x, rfl⟩ ⟨y, rfl⟩
  exact ⟨x * y, (EReal.coe_mul x y).symm⟩
theorem IsReal.zero : IsReal 0 := ⟨0, EReal.coe_zero.symm⟩
theorem IsReal.sum {ι : Type*} (s : Finset ι) (f : ι → EReal) (h : ∀ i, IsReal (f i)) : IsReal (∑ i ∈ s, f i) := by
  choose g hg using h
  exact ⟨∑ i ∈ s, g i, by simp only [hg, coe_sum]⟩
theorem IsReal.down {n : ℕ} (k : ℕ) (f : Fin n → EReal) (r : Fin n) (h : ∀ i, IsReal (f i)) : IsReal (Cert.Conv.down k f r) := by
  unfold Cert.Conv.down
  split
  · exact h _
  · exact IsReal.zero

end Cert.Gelu

namespace Cert.FfnUpRefIdeal.Value
open Cert.Gelu
open Idealize.ShloMosaic.StableHlo (launchContents)
open Cert.FfnUpRefIdeal Cert.FfnUpRefIdeal.Gen Cert.Conv

variable (m : (ℓ : Loc nD τ sig) → Buf (Elt Ideal) ℓ) (c : Dev nD)

/-- The up projection's weight, and the up projection. -/
def wflat (W : FVec Ideal S1x1024x6144 .f32) : FVec Ideal S1024x6144 .f32 := shapeCast S1024x6144 W shapeCasts_S1x1024x6144_S1024x6144
def upV (H : FVec Ideal S1x2048x1024 .f32) (W : FVec Ideal S1x1024x6144 .f32) : FVec Ideal S1x2048x6144 .f32 :=
  Host.dotGeneral dot_S1x2048x1024_S1024x6144_S1x2048x6144_2_0_01_1_n_n none H (wflat W)

/-- Two rows of zeros above an array. -/
def zpad (X : FVec Ideal S1x2048x6144 .f32) : FVec Ideal S1x2050x6144 .f32 :=
  concatenate S1x2050x6144 1 [⟨S1x2x6144, (broadcastInDim S1x2x6144 ![] bcast_S_S1x2x6144 (constant S_ .f32 0x00000000#32))⟩, ⟨S1x2048x6144, X⟩] concatenates_S1x2x6144_S1x2048x6144_S1x2050x6144_d1

/-- The array moved down by two rows, by one, by none. -/
def down2 (X : FVec Ideal S1x2048x6144 .f32) : FVec Ideal S1x2048x6144 .f32 := extractStridedSlice S1x2048x6144 ![0, 0, 0] (zpad X) slices_S1x2050x6144_S1x2048x6144_0_0_0
def down1 (X : FVec Ideal S1x2048x6144 .f32) : FVec Ideal S1x2048x6144 .f32 := extractStridedSlice S1x2048x6144 ![0, 1, 0] (zpad X) slices_S1x2050x6144_S1x2048x6144_0_1_0
def down0 (X : FVec Ideal S1x2048x6144 .f32) : FVec Ideal S1x2048x6144 .f32 := extractStridedSlice S1x2048x6144 ![0, 2, 0] (zpad X) slices_S1x2050x6144_S1x2048x6144_0_2_0

/-- A tap, laid along the rows. -/
def spreadTap (w : FVec Ideal S1x6144 .f32) : FVec Ideal S1x2048x6144 .f32 :=
  broadcastInDim S1x2048x6144 ![0, 1, 2] bcast_S1x1x6144_S1x2048x6144_0_1_2 (broadcastInDim S1x1x6144 ![2] bcast_S6144_S1x1x6144_2 (shapeCast S6144 w shapeCasts_S1x6144_S6144))
def tap0 (T : FVec Ideal S1x3x6144 .f32) : FVec Ideal S1x2048x6144 .f32 := spreadTap (extractStridedSlice S1x6144 ![0, 0] (shapeCast S3x6144 T shapeCasts_S1x3x6144_S3x6144) slices_S3x6144_S1x6144_0_0)
def tap1 (T : FVec Ideal S1x3x6144 .f32) : FVec Ideal S1x2048x6144 .f32 := spreadTap (extractStridedSlice S1x6144 ![1, 0] (shapeCast S3x6144 T shapeCasts_S1x3x6144_S3x6144) slices_S3x6144_S1x6144_1_0)
def tap2 (T : FVec Ideal S1x3x6144 .f32) : FVec Ideal S1x2048x6144 .f32 := spreadTap (extractStridedSlice S1x6144 ![2, 0] (shapeCast S3x6144 T shapeCasts_S1x3x6144_S3x6144) slices_S3x6144_S1x6144_2_0)

/-- The causal convolution with its bias. -/
def convV (X : FVec Ideal S1x2048x6144 .f32) (T : FVec Ideal S1x3x6144 .f32) (B : FVec Ideal S1x6144 .f32) : FVec Ideal S1x2048x6144 .f32 :=
  addf (addf (addf (mulf (down2 X) (tap0 T)) (mulf (down1 X) (tap1 T))) (mulf (down0 X) (tap2 T))) (spreadTap B)

/-- The columns that the gate takes, and those that it multiplies. -/
def gateV (A : FVec Ideal S1x2048x6144 .f32) : FVec Ideal S1x2048x3072 .f32 := extractStridedSlice S1x2048x3072 ![0, 0, 0] A slices_S1x2048x6144_S1x2048x3072_0_0_0
def valV (A : FVec Ideal S1x2048x6144 .f32) : FVec Ideal S1x2048x3072 .f32 := extractStridedSlice S1x2048x3072 ![0, 0, 3072] A slices_S1x2048x6144_S1x2048x3072_0_0_3072

/-- A number, laid over the array. -/
def fill (b : BitVec 32) : FVec Ideal S1x2048x3072 .f32 := broadcastInDim S1x2048x3072 ![] bcast_S_S1x2048x3072 (constant S_ .f32 b)
def fillK : FVec Ideal S1x2048x3072 .f32 := broadcastInDim S1x2048x3072 ![] bcast_S_S1x2048x3072 (Host.divf (constant S_ .f32 0x472EAB00#32) (constant S_ .f32 0x49742400#32))

/-- The hyperbolic tangent in the activation. -/
def tanhV (G : FVec Ideal S1x2048x3072 .f32) : FVec Ideal S1x2048x3072 .f32 :=
  Host.tanh (mulf (fill 0x3F4C422A#32) (addf G (mulf fillK (mulf (mulf G G) G))))
def cdfV (G : FVec Ideal S1x2048x3072 .f32) : FVec Ideal S1x2048x3072 .f32 := mulf (fill 0x3F000000#32) (addf (fill 0x3F800000#32) (tanhV G))
/-- The activation. -/
def geluV (G : FVec Ideal S1x2048x3072 .f32) : FVec Ideal S1x2048x3072 .f32 := mulf G (cdfV G)
/-- The gated product. -/
def fV (A : FVec Ideal S1x2048x6144 .f32) : FVec Ideal S1x2048x3072 .f32 := mulf (geluV (gateV A)) (valV A)

/-- The gradient of the gated product. -/
def dfV (D : FVec Ideal S1x2048x1024 .f32) (Z : FVec Ideal S1x3072x1024 .f32) : FVec Ideal S1x2048x3072 .f32 :=
  Host.dotGeneral dot_S1x2048x1024_S3072x1024_S1x2048x3072_2_1_01_0_n_n none D (shapeCast S3072x1024 Z shapeCasts_S1x3072x1024_S3072x1024)
/-- What reaches the activation's argument through the tangent. -/
def dtV (G U : FVec Ideal S1x2048x3072 .f32) : FVec Ideal S1x2048x3072 .f32 :=
  mulf (fill 0x3F4C422A#32) (mulf (mulf (fill 0x3F000000#32) (mulf G U)) (mulf (addf (fill 0x3F800000#32) (tanhV G)) (subf (fill 0x3F800000#32) (tanhV G))))
/-- The gradient of the gate's columns where `U` reaches the activation. -/
def dgateV (G U : FVec Ideal S1x2048x3072 .f32) : FVec Ideal S1x2048x3072 .f32 :=
  addf (addf (mulf U (cdfV G)) (dtV G U)) (mulf (mulf fillK (dtV G U)) (mulf (fill 0x40400000#32) (mulf G G)))
/-- The gradient of the convolution's result. -/
def dactV (A : FVec Ideal S1x2048x6144 .f32) (E : FVec Ideal S1x2048x3072 .f32) : FVec Ideal S1x2048x6144 .f32 :=
  concatenate S1x2048x6144 2 [⟨S1x2048x3072, dgateV (gateV A) (mulf E (valV A))⟩, ⟨S1x2048x3072, mulf (geluV (gateV A)) E⟩] concatenates_S1x2048x3072_S1x2048x3072_S1x2048x6144_d2

/-- The gradient that reaches the convolution's input. -/
def convBack (U : FVec Ideal S1x2048x6144 .f32) (T : FVec Ideal S1x3x6144 .f32) : FVec Ideal S1x2048x6144 .f32 :=
  extractStridedSlice S1x2048x6144 ![0, 2, 0] (addf (addf
    (pad S1x2050x6144 ![0, 2, 0] ![0, 0, 0] ![0, 0, 0] (mulf U (tap2 T)) (constant S_ .f32 0x00000000#32) pads_S1x2048x6144_S1x2050x6144_000_200_000 h_S_)
    (pad S1x2050x6144 ![0, 1, 0] ![0, 1, 0] ![0, 0, 0] (mulf U (tap1 T)) (constant S_ .f32 0x00000000#32) pads_S1x2048x6144_S1x2050x6144_000_110_000 h_S_))
    (pad S1x2050x6144 ![0, 0, 0] ![0, 2, 0] ![0, 0, 0] (mulf U (tap0 T)) (constant S_ .f32 0x00000000#32) pads_S1x2048x6144_S1x2050x6144_000_020_000 h_S_))
    slices_S1x2050x6144_S1x2048x6144_0_2_0

/-- A sum over the rows. -/
def rowSum (X : FVec Ideal S1x2048x6144 .f32) : FVec Ideal S1x6144 .f32 :=
  broadcastInDim S1x6144 ![1] bcast_S6144_S1x6144_1 (Host.reduceAdd (shapeCast S1x1x6144 (Host.reduceAdd X (constant S_ .f32 0x00000000#32) reducesTo_S1x2048x6144_S1x6144_d1 h_S_) shapeCasts_S1x6144_S1x1x6144) (constant S_ .f32 0x00000000#32) reducesTo_S1x1x6144_S6144_d0_1 h_S_)

/-- The gradient of the taps. -/
def tapGrad (X U : FVec Ideal S1x2048x6144 .f32) : FVec Ideal S1x3x6144 .f32 :=
  broadcastInDim S1x3x6144 ![1, 2] bcast_S3x6144_S1x3x6144_1_2 (addf (addf
    (pad S3x6144 ![2, 0] ![0, 0] ![0, 0] (rowSum (mulf (down0 X) U)) (constant S_ .f32 0x00000000#32) pads_S1x6144_S3x6144_200_000 h_S_)
    (pad S3x6144 ![1, 0] ![1, 0] ![0, 0] (rowSum (mulf (down1 X) U)) (constant S_ .f32 0x00000000#32) pads_S1x6144_S3x6144_110_000 h_S_))
    (pad S3x6144 ![0, 0] ![2, 0] ![0, 0] (rowSum (mulf (down2 X) U)) (constant S_ .f32 0x00000000#32) pads_S1x6144_S3x6144_020_000 h_S_))

/-- The five results. -/
def resH (P : FVec Ideal S1x2048x6144 .f32) (W : FVec Ideal S1x1024x6144 .f32) : FVec Ideal S2048x1024 .f32 :=
  shapeCast S2048x1024 (Host.dotGeneral dot_S1x2048x6144_S1024x6144_S1x2048x1024_2_1_01_0_n_n none P (wflat W)) shapeCasts_S1x2048x1024_S2048x1024
def gradW (P : FVec Ideal S1x2048x6144 .f32) (H : FVec Ideal S1x2048x1024 .f32) : FVec Ideal S1x1024x6144 .f32 :=
  broadcastInDim S1x1024x6144 ![1, 2] bcast_S1024x6144_S1x1024x6144_1_2 (transpose S1024x6144 [1, 0] (Host.dotGeneral dot_S1x2048x6144_S1x2048x1024_S6144x1024_01_01_2_2_n_n none P H) transposes_S6144x1024_S1024x6144_1_0)
def resW (P : FVec Ideal S1x2048x6144 .f32) (H : FVec Ideal S1x2048x1024 .f32) : FVec Ideal S2x1024x3072 .bf16 :=
  truncf .bf16 (concatenate S2x1024x3072 0 [⟨S1x1024x3072, (extractStridedSlice S1x1024x3072 ![0, 0, 0] (gradW P H) slices_S1x1024x6144_S1x1024x3072_0_0_0)⟩, ⟨S1x1024x3072, (extractStridedSlice S1x1024x3072 ![0, 0, 3072] (gradW P H) slices_S1x1024x6144_S1x1024x3072_0_0_3072)⟩] concatenates_S1x1024x3072_S1x1024x3072_S2x1024x3072_d0) bitsLt_bf16_f32
def resZ (D : FVec Ideal S1x2048x1024 .f32) (X : FVec Ideal S1x2048x3072 .f32) : FVec Ideal S3072x1024 .bf16 :=
  truncf .bf16 (shapeCast S3072x1024 (broadcastInDim S1x3072x1024 ![1, 2] bcast_S3072x1024_S1x3072x1024_1_2 (transpose S3072x1024 [1, 0] (Host.dotGeneral dot_S1x2048x1024_S1x2048x3072_S1024x3072_01_01_2_2_n_n none D X) transposes_S1024x3072_S3072x1024_1_0)) shapeCasts_S1x3072x1024_S3072x1024) bitsLt_bf16_f32
def resT (X U : FVec Ideal S1x2048x6144 .f32) : FVec Ideal S2x3x3072 .f32 :=
  concatenate S2x3x3072 0 [⟨S1x3x3072, (extractStridedSlice S1x3x3072 ![0, 0, 0] (tapGrad X U) slices_S1x3x6144_S1x3x3072_0_0_0)⟩, ⟨S1x3x3072, (extractStridedSlice S1x3x3072 ![0, 0, 3072] (tapGrad X U) slices_S1x3x6144_S1x3x3072_0_0_3072)⟩] concatenates_S1x3x3072_S1x3x3072_S2x3x3072_d0
def biasGrad (U : FVec Ideal S1x2048x6144 .f32) : FVec Ideal S1x1x6144 .f32 := shapeCast S1x1x6144 (rowSum U) shapeCasts_S1x6144_S1x1x6144
def resB (U : FVec Ideal S1x2048x6144 .f32) : FVec Ideal S2x1x3072 .f32 :=
  concatenate S2x1x3072 0 [⟨S1x1x3072, (extractStridedSlice S1x1x3072 ![0, 0, 0] (biasGrad U) slices_S1x1x6144_S1x1x3072_0_0_0)⟩, ⟨S1x1x3072, (extractStridedSlice S1x1x3072 ![0, 0, 3072] (biasGrad U) slices_S1x1x6144_S1x1x3072_0_0_3072)⟩] concatenates_S1x1x3072_S1x1x3072_S2x1x3072_d0

section
variable (H : FVec Ideal S1x2048x1024 .f32) (W : FVec Ideal S1x1024x6144 .f32) (T : FVec Ideal S1x3x6144 .f32) (B : FVec Ideal S1x6144 .f32)
    (Z : FVec Ideal S1x3072x1024 .f32) (D : FVec Ideal S1x2048x1024 .f32)

/-- The convolution's result and its gradient, of the arguments. -/
def act : FVec Ideal S1x2048x6144 .f32 := convV (upV H W) T B
def dact : FVec Ideal S1x2048x6144 .f32 := dactV (act H W T B) (dfV D Z)

variable
    (hH : m ((c.tc : Thread nD τ).loc main_arg0) = H) (hW : m ((c.tc : Thread nD τ).loc main_arg1) = W)
    (hT : m ((c.tc : Thread nD τ).loc main_arg2) = T) (hB : m ((c.tc : Thread nD τ).loc main_arg3) = B)
    (hZ : m ((c.tc : Thread nD τ).loc main_arg4) = Z) (hD : m ((c.tc : Thread nD τ).loc main_arg5) = D)
include hH hW hT hB hZ hD

theorem v29_eq : res_main_v29 (launchContents m c) = act H W T B := by
  subst hH hW hT hB
  rfl
theorem v54_eq : res_main_v54 (launchContents m c) = fV (act H W T B) := by
  rw [← v29_eq m c H W T B Z D hH hW hT hB hZ hD]
  rfl
theorem v59_eq : res_main_v59 (launchContents m c) = dfV D Z := by
  subst hZ hD
  rfl
theorem v75_eq : res_main_v75 (launchContents m c) = dact H W T B Z D := by
  unfold dact
  rw [← v29_eq m c H W T B Z D hH hW hT hB hZ hD, ← v59_eq m c H W T B Z D hH hW hT hB hZ hD]
  rfl
theorem v111_eq : res_main_v111 (launchContents m c) = convBack (dact H W T B Z D) T := by
  rw [← v75_eq m c H W T B Z D hH hW hT hB hZ hD]
  subst hT
  rfl
theorem v113_eq : res_main_v113 (launchContents m c) = tapGrad (upV H W) (dact H W T B Z D) := by
  rw [← v75_eq m c H W T B Z D hH hW hT hB hZ hD]
  subst hH hW
  rfl

theorem resH_eq : shapeCast S2048x1024 (Host.dotGeneral (φ₁ := .f32) (φ₂ := .f32) dot_S1x2048x6144_S1024x6144_S1x2048x1024_2_1_01_0_n_n none (res_main_v111 (launchContents m c)) (res_main_v0 (launchContents m c))) shapeCasts_S1x2048x1024_S2048x1024
    = resH (convBack (dact H W T B Z D) T) W := by
  rw [v111_eq m c H W T B Z D hH hW hT hB hZ hD]
  subst hW
  rfl
theorem gradW_eq : res_main_v117 (launchContents m c) = gradW (convBack (dact H W T B Z D) T) H := by
  rw [← v111_eq m c H W T B Z D hH hW hT hB hZ hD]
  subst hH
  rfl
theorem bias_eq : res_main_v128 (launchContents m c) = biasGrad (dact H W T B Z D) := by
  rw [← v75_eq m c H W T B Z D hH hW hT hB hZ hD]
  rfl
end

theorem upV_at (H : FVec Ideal S1x2048x1024 .f32) (W : FVec Ideal S1x1024x6144 .f32) (r : Fin 2048) (j : Fin 6144) :
    upV H W (ix3 0 r j) = ∑ k : Fin 1024, H (ix3 0 r k) * W (ix3 0 k j) := by
  pointwise [upV, wflat]
theorem down2_at (X : FVec Ideal S1x2048x6144 .f32) (r : Fin 2048) (j : Fin 6144) : down2 X (ix3 0 r j) = down 2 (fun r => X (ix3 0 r j)) r := by
  pointwise [down2, zpad]
  refine eq_down 2 _ r _ (fun h => dif_pos h) fun q hq => (dif_neg (by omega)).trans ?_
  exact congrArg (fun a => X (ix3 0 a j)) (Fin.ext (show r.val - 2 = q.val by omega))
theorem down1_at (X : FVec Ideal S1x2048x6144 .f32) (r : Fin 2048) (j : Fin 6144) : down1 X (ix3 0 r j) = down 1 (fun r => X (ix3 0 r j)) r := by
  pointwise [down1, zpad]
  refine eq_down 1 _ r _ (fun h => dif_pos (by omega)) fun q hq => (dif_neg (by omega)).trans ?_
  exact congrArg (fun a => X (ix3 0 a j)) (Fin.ext (show 1 + r.val - 2 = q.val by omega))
theorem down0_at (X : FVec Ideal S1x2048x6144 .f32) (r : Fin 2048) (j : Fin 6144) : down0 X (ix3 0 r j) = X (ix3 0 r j) := by
  pointwise [down0, zpad]
theorem spread_at (B : FVec Ideal S1x6144 .f32) (r : Fin 2048) (j : Fin 6144) : spreadTap B (ix3 0 r j) = B (ix2 0 j) := by
  pointwise [spreadTap]
theorem tap0_at (T : FVec Ideal S1x3x6144 .f32) (r : Fin 2048) (j : Fin 6144) : tap0 T (ix3 0 r j) = T (ix3 0 0 j) := by
  pointwise [tap0, spreadTap]
theorem tap1_at (T : FVec Ideal S1x3x6144 .f32) (r : Fin 2048) (j : Fin 6144) : tap1 T (ix3 0 r j) = T (ix3 0 1 j) := by
  pointwise [tap1, spreadTap]
theorem tap2_at (T : FVec Ideal S1x3x6144 .f32) (r : Fin 2048) (j : Fin 6144) : tap2 T (ix3 0 r j) = T (ix3 0 2 j) := by
  pointwise [tap2, spreadTap]
theorem convV_at (X : FVec Ideal S1x2048x6144 .f32) (T : FVec Ideal S1x3x6144 .f32) (B : FVec Ideal S1x6144 .f32) (r : Fin 2048) (j : Fin 6144) :
    convV X T B (ix3 0 r j) = down 2 (fun r => X (ix3 0 r j)) r * T (ix3 0 0 j) + down 1 (fun r => X (ix3 0 r j)) r * T (ix3 0 1 j)
      + X (ix3 0 r j) * T (ix3 0 2 j) + B (ix2 0 j) := by
  pointwise [convV, down2_at, down1_at, down0_at, tap0_at, tap1_at, tap2_at, spread_at]
theorem gateV_at (A : FVec Ideal S1x2048x6144 .f32) (r : Fin 2048) (j : Fin 3072) : gateV A (ix3 0 r j) = A (ix3 0 r ⟨j.val, by omega⟩) := by
  pointwise [gateV]
theorem valV_at (A : FVec Ideal S1x2048x6144 .f32) (r : Fin 2048) (j : Fin 3072) : valV A (ix3 0 r j) = A (ix3 0 r ⟨3072 + j.val, by omega⟩) := by
  pointwise [valV]
theorem tanhV_at (G : FVec Ideal S1x2048x3072 .f32) (r : Fin 2048) (j : Fin 3072) : tanhV G (ix3 0 r j) = th (G (ix3 0 r j)) := by
  pointwise [tanhV, fill, fillK]
  rw [quotient, ofBits_scale]
  rfl
theorem geluV_at (G : FVec Ideal S1x2048x3072 .f32) (r : Fin 2048) (j : Fin 3072) :
    geluV G (ix3 0 r j) = G (ix3 0 r j) * (((1 / 2 : ℝ) : EReal) * ((1 : EReal) + th (G (ix3 0 r j)))) := by
  pointwise [geluV, cdfV, fill, tanhV_at]
  rw [ofBits_half]
theorem dgateV_at (G U : FVec Ideal S1x2048x3072 .f32) (r : Fin 2048) (j : Fin 3072) (g u : ℝ) (hg : G (ix3 0 r j) = (g : EReal)) (hu : U (ix3 0 r j) = (u : EReal)) :
    dgateV G U (ix3 0 r j) = (u : EReal) * (((1 / 2 : ℝ) : EReal) * ((1 : EReal) + th (g : EReal))
      + ((1 / 2 : ℝ) : EReal) * (g : EReal) * ((1 : EReal) - th (g : EReal) * th (g : EReal)) * ((scale : ℝ) : EReal)
        * ((1 : EReal) + ((26829 / 200000 : ℝ) : EReal) * ((g : EReal) * (g : EReal)))) := by
  rw [grad_eq g u _ rfl]
  pointwise [dgateV, cdfV, dtV, fill, fillK, tanhV_at, hg, hu]
  rw [quotient, ofBits_scale, ofBits_half, ofBits_three]
theorem rowSum_at (X : FVec Ideal S1x2048x6144 .f32) (j : Fin 6144) : rowSum X (ix2 0 j) = ∑ r : Fin 2048, X (ix3 0 r j) := by
  pointwise [rowSum]
  rw [hostReduceAdd_rows_01, zero_add, Fin.sum_univ_one]
  pointwise
theorem convBack_at (U : FVec Ideal S1x2048x6144 .f32) (T : FVec Ideal S1x3x6144 .f32) (r : Fin 2048) (j : Fin 6144) :
    convBack U T (ix3 0 r j) = U (ix3 0 r j) * T (ix3 0 2 j) + up 1 (fun r => U (ix3 0 r j)) r * T (ix3 0 1 j) + up 2 (fun r => U (ix3 0 r j)) r * T (ix3 0 0 j) := by
  pointwise [convBack, tap0_at, tap1_at, tap2_at]
  refine congrArg₂ (fun a b : EReal => a + b) (congrArg₂ (fun a b : EReal => a + b) rfl ?_) ?_
  · rw [← up_mul]
    refine eq_up 1 _ r _ (fun h => dif_neg (by omega)) fun q hq => (dif_pos (by omega)).trans ?_
    exact congrArg (fun a => U (ix3 0 a j) * T (ix3 0 1 j)) (Fin.ext (show 2 + r.val - 1 = q.val by omega))
  · rw [← up_mul]
    refine eq_up 2 _ r _ (fun h => dif_neg (by omega)) fun q hq => (dif_pos (by omega)).trans ?_
    exact congrArg (fun a => U (ix3 0 a j) * T (ix3 0 0 j)) (Fin.ext (show 2 + r.val = q.val by omega))

/-- One entry of the gradient of the taps. -/
theorem tapGrad0_at (X U : FVec Ideal S1x2048x6144 .f32) (j : Fin 6144) :
    tapGrad X U (ix3 0 0 j) = ∑ r : Fin 2048, up 2 (fun r => U (ix3 0 r j)) r * X (ix3 0 r j) := by
  have e : tapGrad X U (ix3 0 0 j) = rowSum (mulf (down2 X) U) (ix2 0 j) := by pointwise [tapGrad]
  rw [e, rowSum_at, ← sum_down_mul]
  exact Finset.sum_congr rfl fun r _ => congrArg (fun a : EReal => a * _) (down2_at X r j)
theorem tapGrad1_at (X U : FVec Ideal S1x2048x6144 .f32) (j : Fin 6144) :
    tapGrad X U (ix3 0 1 j) = ∑ r : Fin 2048, up 1 (fun r => U (ix3 0 r j)) r * X (ix3 0 r j) := by
  have e : tapGrad X U (ix3 0 1 j) = rowSum (mulf (down1 X) U) (ix2 0 j) := by pointwise [tapGrad]
  rw [e, rowSum_at, ← sum_down_mul]
  exact Finset.sum_congr rfl fun r _ => congrArg (fun a : EReal => a * _) (down1_at X r j)
theorem tapGrad2_at (X U : FVec Ideal S1x2048x6144 .f32) (j : Fin 6144) :
    tapGrad X U (ix3 0 2 j) = ∑ r : Fin 2048, U (ix3 0 r j) * X (ix3 0 r j) := by
  have e : tapGrad X U (ix3 0 2 j) = rowSum (mulf (down0 X) U) (ix2 0 j) := by pointwise [tapGrad]
  rw [e, rowSum_at]
  exact Finset.sum_congr rfl fun r _ => (congrArg (fun a : EReal => a * _) (down0_at X r j)).trans (mul_comm _ _)

theorem dfV_at (D : FVec Ideal S1x2048x1024 .f32) (Z : FVec Ideal S1x3072x1024 .f32) (r : Fin 2048) (j : Fin 3072) :
    dfV D Z (ix3 0 r j) = ∑ k : Fin 1024, D (ix3 0 r k) * Z (ix3 0 j k) := by
  pointwise [dfV]
theorem resH_at (P : FVec Ideal S1x2048x6144 .f32) (W : FVec Ideal S1x1024x6144 .f32) (r : Fin 2048) (j : Fin 1024) :
    resH P W (ix2 r j) = ∑ k : Fin 6144, P (ix3 0 r k) * W (ix3 0 j k) := by
  pointwise [resH, wflat]
theorem gradW_at (P : FVec Ideal S1x2048x6144 .f32) (H : FVec Ideal S1x2048x1024 .f32) (i : Fin 1024) (j : Fin 6144) :
    gradW P H (ix3 0 i j) = ∑ r : Fin 2048, P (ix3 0 r j) * H (ix3 0 r i) := by
  pointwise [gradW]
  rw [Fin.sum_univ_one]
theorem resZ_at (D : FVec Ideal S1x2048x1024 .f32) (X : FVec Ideal S1x2048x3072 .f32) (i : Fin 3072) (j : Fin 1024) :
    resZ D X (ix2 i j) = ∑ r : Fin 2048, D (ix3 0 r j) * X (ix3 0 r i) := by
  pointwise [resZ]
  rw [Fin.sum_univ_one]
theorem dactV_at0 (A : FVec Ideal S1x2048x6144 .f32) (E : FVec Ideal S1x2048x3072 .f32) (r : Fin 2048) (j : Fin 3072) :
    dactV A E (ix3 0 r ⟨j.val, by omega⟩) = dgateV (gateV A) (mulf E (valV A)) (ix3 0 r j) := by
  pointwise [dactV]
theorem dactV_at1 (A : FVec Ideal S1x2048x6144 .f32) (E : FVec Ideal S1x2048x3072 .f32) (r : Fin 2048) (j : Fin 3072) :
    dactV A E (ix3 0 r ⟨3072 + j.val, by omega⟩) = geluV (gateV A) (ix3 0 r j) * E (ix3 0 r j) := by
  pointwise [dactV]
theorem resW_at0 (P : FVec Ideal S1x2048x6144 .f32) (H : FVec Ideal S1x2048x1024 .f32) (i : Fin 1024) (j : Fin 3072) : resW P H (ix3 0 i j) = gradW P H (ix3 0 i ⟨j.val, by omega⟩) := by
  pointwise [resW]
theorem resW_at1 (P : FVec Ideal S1x2048x6144 .f32) (H : FVec Ideal S1x2048x1024 .f32) (i : Fin 1024) (j : Fin 3072) : resW P H (ix3 1 i j) = gradW P H (ix3 0 i ⟨3072 + j.val, by omega⟩) := by
  pointwise [resW]
theorem resT_at0 (X U : FVec Ideal S1x2048x6144 .f32) (i : Fin 3) (j : Fin 3072) : resT X U (ix3 0 i j) = tapGrad X U (ix3 0 i ⟨j.val, by omega⟩) := by
  pointwise [resT]
theorem resT_at1 (X U : FVec Ideal S1x2048x6144 .f32) (i : Fin 3) (j : Fin 3072) : resT X U (ix3 1 i j) = tapGrad X U (ix3 0 i ⟨3072 + j.val, by omega⟩) := by
  pointwise [resT]
theorem resB_at0 (U : FVec Ideal S1x2048x6144 .f32) (j : Fin 3072) : resB U (ix3 0 0 j) = biasGrad U (ix3 0 0 ⟨j.val, by omega⟩) := by
  pointwise [resB]
theorem resB_at1 (U : FVec Ideal S1x2048x6144 .f32) (j : Fin 3072) : resB U (ix3 1 0 j) = biasGrad U (ix3 0 0 ⟨3072 + j.val, by omega⟩) := by
  pointwise [resB]
theorem biasGrad_at (U : FVec Ideal S1x2048x6144 .f32) (j : Fin 6144) : biasGrad U (ix3 0 0 j) = ∑ r : Fin 2048, U (ix3 0 r j) := by
  have e : biasGrad U (ix3 0 0 j) = rowSum U (ix2 0 j) := by pointwise [biasGrad]
  rw [e, rowSum_at]

/-- Real arguments give a real activation and a real gradient of the gated product. -/
theorem act_real (H : FVec Ideal S1x2048x1024 .f32) (W : FVec Ideal S1x1024x6144 .f32) (T : FVec Ideal S1x3x6144 .f32) (B : FVec Ideal S1x6144 .f32)
    (hH : ∀ i, IsReal (H i)) (hW : ∀ i, IsReal (W i)) (hT : ∀ i, IsReal (T i)) (hB : ∀ i, IsReal (B i)) (r : Fin 2048) (j : Fin 6144) :
    IsReal (act H W T B (ix3 0 r j)) := by
  have hu : ∀ r j, IsReal (upV H W (ix3 0 r j)) := fun r j => by
    rw [upV_at]
    exact IsReal.sum _ _ fun k => (hH _).mul (hW _)
  unfold act
  rw [convV_at]
  exact ((((IsReal.down 2 _ r fun i => hu i j).mul (hT _)).add ((IsReal.down 1 _ r fun i => hu i j).mul (hT _))).add ((hu r j).mul (hT _))).add (hB _)
theorem dfV_real (D : FVec Ideal S1x2048x1024 .f32) (Z : FVec Ideal S1x3072x1024 .f32) (hD : ∀ i, IsReal (D i)) (hZ : ∀ i, IsReal (Z i))
    (r : Fin 2048) (j : Fin 3072) : IsReal (dfV D Z (ix3 0 r j)) := by
  rw [dfV_at]
  exact IsReal.sum _ _ fun k => (hD _).mul (hZ _)

end Cert.FfnUpRefIdeal.Value

end
-- ==== Proof.FfnUpPay.lean ====
/- What the kernel of the gradient through the gated ConvFFN computes at a grid point, entry by entry. -/
module

public import proofs.«01_k».proof.Proof.Conv
public import proofs.«01_k».proof.Proof.Gen.FfnUpIdeal.Value
public import proofs.«01_k».proof.Proof.FfnUpRef

@[expose] public section

set_option maxRecDepth 16384

noncomputable section

open Idealize.ShloMosaic Idealize.ShloMosaic.TcCoe Idealize.SL.Sem
open Idealize.ShloMosaic.Pipeline (Dat)
open Cert.Reals

namespace Cert.FfnUpIdeal.Value
open Cert.FfnUpIdeal Cert.FfnUpIdeal.Gen Cert.Conv Cert.Gelu

theorem named_k : Named.named (F := Ideal) κ "gelu_k" (φ := .f32) 0x3D372713#32 = ((8943 / 200000 : ℝ) : EReal) :=
  IdealRules.named_const.ideal_named_scalar _ _ _ _ rfl
theorem named_3k : Named.named (F := Ideal) κ "gelu_3k" (φ := .f32) 0x3E095D4F#32 = ((26829 / 200000 : ℝ) : EReal) :=
  IdealRules.named_const.ideal_named_scalar _ _ _ _ rfl

theorem pay_df (d : FVec Ideal S2048x1024 .bf16) (w : FVec Ideal S256x1024 .bf16) (r : Fin 2048) (j : Fin 256) :
    k0_pay5 (F := Ideal) d w (ix2 r j) = ∑ k : Fin 1024, d (ix2 r k) * w (ix2 j k) := by
  pointwise [k0_pay5, k0_pay4]

theorem pay_dh (g v : FVec Ideal S1x2048x256 .bf16) (a : FVec Ideal S2048x1024 .f32) (x y : FVec Ideal S1x1024x256 .bf16) (r : Fin 2048) (j : Fin 1024) :
    k0_pay9 (F := Ideal) g v a x y (ix2 r j) = a (ix2 r j) + (∑ k : Fin 256, g (ix3 0 r k) * x (ix3 0 j k) + ∑ k : Fin 256, v (ix3 0 r k) * y (ix3 0 j k)) := by
  pointwise [k0_pay9, k0_pay6, k0_pay7]

theorem pay_dwg (g : FVec Ideal S1x2048x256 .bf16) (h : FVec Ideal S1024x2048 .bf16) (i : Fin 1024) (j : Fin 256) :
    k0_pay11 (F := Ideal) (k0_pay10 g h) (ix3 0 i j) = ∑ r : Fin 2048, h (ix2 i r) * g (ix3 0 r j) := by
  pointwise [k0_pay11, k0_pay10, k0_pay8, k0_pay6]

theorem pay_dwv (g : FVec Ideal S1x2048x256 .bf16) (h : FVec Ideal S1024x2048 .bf16) (i : Fin 1024) (j : Fin 256) :
    k0_pay12 (F := Ideal) (k0_pay7 g) (k0_pay8 h) (ix3 0 i j) = ∑ r : Fin 2048, h (ix2 i r) * g (ix3 0 r j) := by
  pointwise [k0_pay12, k0_pay8, k0_pay7]

theorem pay_dz (d : FVec Ideal S2048x1024 .bf16) (f : FVec Ideal S2048x256 .bf16) (i : Fin 256) (j : Fin 1024) :
    k0_pay13 (F := Ideal) (k0_pay4 d) f (ix2 i j) = ∑ r : Fin 2048, f (ix2 r i) * d (ix2 r j) := by
  pointwise [k0_pay13, k0_pay4]

theorem pay_val (v : FVec Ideal S1x2048x256 .bf16) (r : Fin 2048) (j : Fin 256) : k0_pay14 (F := Ideal) v (ix2 r j) = v (ix3 0 r j) := by
  pointwise [k0_pay14]
theorem pay_gate (v : FVec Ideal S1x2048x256 .bf16) (r : Fin 2048) (j : Fin 256) : k0_pay15 (F := Ideal) v (ix2 r j) = v (ix3 0 r j) := by
  pointwise [k0_pay15]
theorem pay_sq (v : FVec Ideal S1x2048x256 .bf16) (r : Fin 2048) (j : Fin 256) : k0_pay16 (F := Ideal) v (ix2 r j) = v (ix3 0 r j) * v (ix3 0 r j) := by
  pointwise [k0_pay16, pay_gate]
theorem pay_th (v : FVec Ideal S1x2048x256 .bf16) (r : Fin 2048) (j : Fin 256) : k0_pay17 (F := Ideal) v (ix2 r j) = th (v (ix3 0 r j)) := by
  pointwise [k0_pay17, pay_gate, pay_sq]
  rw [named_k, ofBits_scale]
  exact th_eq _
theorem pay_one (v : FVec Ideal S1x2048x256 .bf16) (r : Fin 2048) (j : Fin 256) : k0_pay19 (F := Ideal) v (ix2 r j) = 1 + th (v (ix3 0 r j)) := by
  pointwise [k0_pay19, pay_th]
theorem pay_half (r : Fin 2048) (j : Fin 256) : k0_pay20 (F := Ideal) (ix2 r j) = ((1 / 2 : ℝ) : EReal) := by
  pointwise [k0_pay20]
  rw [ofBits_half]
theorem pay_gelu (v : FVec Ideal S1x2048x256 .bf16) (r : Fin 2048) (j : Fin 256) :
    k0_pay18 (F := Ideal) v (ix2 r j) = v (ix3 0 r j) * (((1 / 2 : ℝ) : EReal) * (1 + th (v (ix3 0 r j)))) := by
  pointwise [k0_pay18, pay_gate, pay_th]
  rw [ofBits_half, ← mul_assoc, mul_comm (v (ix3 0 r j))]

/-- The gradient of the gate's columns. -/
theorem pay_dgate (e a g s t o h : FVec Ideal S2048x256 .f32) (r : Fin 2048) (j : Fin 256) :
    k0_pay21 (F := Ideal) e a g s t o h (ix2 r j) = e (ix2 r j) * a (ix2 r j) * (h (ix2 r j) * o (ix2 r j)
      + ((1 / 2 : ℝ) : EReal) * g (ix2 r j) * (1 - t (ix2 r j) * t (ix2 r j)) * ((scale : ℝ) : EReal) * (1 + ((26829 / 200000 : ℝ) : EReal) * s (ix2 r j))) := by
  pointwise [k0_pay21]
  rw [named_3k, ofBits_half, ofBits_scale]
theorem pay_dgate1 (e a g s t o h : FVec Ideal S2048x256 .f32) (r : Fin 2048) (j : Fin 256) :
    k0_pay22 (F := Ideal) e a g s t o h (ix2 r j) = up 1 (fun r => k0_pay21 (F := Ideal) e a g s t o h (ix2 r j)) r := by
  unfold k0_pay22
  generalize k0_pay21 (F := Ideal) e a g s t o h = u
  pointwise
  exact choose_up 1 (by norm_num) (by norm_num) (fun r => u (ix2 r j)) r _ fun h => by simp only; omega
theorem pay_dgate2 (e a g s t o h : FVec Ideal S2048x256 .f32) (r : Fin 2048) (j : Fin 256) :
    k0_pay23 (F := Ideal) e a g s t o h (ix2 r j) = up 2 (fun r => k0_pay21 (F := Ideal) e a g s t o h (ix2 r j)) r := by
  unfold k0_pay23
  generalize k0_pay21 (F := Ideal) e a g s t o h = u
  pointwise
  exact choose_up 2 (by norm_num) (by norm_num) (fun r => u (ix2 r j)) r _ fun h => by simp only; omega
theorem pay_dval (e g : FVec Ideal S2048x256 .f32) (r : Fin 2048) (j : Fin 256) :
    k0_pay24 (F := Ideal) e g (ix2 r j) = e (ix2 r j) * g (ix2 r j) := by
  pointwise [k0_pay24]
theorem pay_dval1 (e g : FVec Ideal S2048x256 .f32) (r : Fin 2048) (j : Fin 256) :
    k0_pay25 (F := Ideal) e g (ix2 r j) = up 1 (fun r => k0_pay24 (F := Ideal) e g (ix2 r j)) r := by
  unfold k0_pay25
  generalize k0_pay24 (F := Ideal) e g = u
  pointwise
  exact choose_up 1 (by norm_num) (by norm_num) (fun r => u (ix2 r j)) r _ fun h => by simp only; omega
theorem pay_dval2 (e g : FVec Ideal S2048x256 .f32) (r : Fin 2048) (j : Fin 256) :
    k0_pay26 (F := Ideal) e g (ix2 r j) = up 2 (fun r => k0_pay24 (F := Ideal) e g (ix2 r j)) r := by
  unfold k0_pay26
  generalize k0_pay24 (F := Ideal) e g = u
  pointwise
  exact choose_up 2 (by norm_num) (by norm_num) (fun r => u (ix2 r j)) r _ fun h => by simp only; omega
theorem pay_taps_g0 (u u1 u2 : FVec Ideal S2048x256 .f32) (x : FVec Ideal S1x2048x256 .f32) (j : Fin 256) :
    k0_pay27 (F := Ideal) u u1 u2 x (ix3 0 0 j) = ∑ r : Fin 2048, u2 (ix2 r j) * x (ix3 0 r j) := by
  pointwise [k0_pay27]
theorem pay_taps_g1 (u u1 u2 : FVec Ideal S2048x256 .f32) (x : FVec Ideal S1x2048x256 .f32) (j : Fin 256) :
    k0_pay27 (F := Ideal) u u1 u2 x (ix3 0 1 j) = ∑ r : Fin 2048, u1 (ix2 r j) * x (ix3 0 r j) := by
  pointwise [k0_pay27]
theorem pay_taps_g2 (u u1 u2 : FVec Ideal S2048x256 .f32) (x : FVec Ideal S1x2048x256 .f32) (j : Fin 256) :
    k0_pay27 (F := Ideal) u u1 u2 x (ix3 0 2 j) = ∑ r : Fin 2048, u (ix2 r j) * x (ix3 0 r j) := by
  pointwise [k0_pay27]
theorem pay_taps_v0 (u u1 u2 : FVec Ideal S2048x256 .f32) (x : FVec Ideal S1x2048x256 .f32) (j : Fin 256) :
    k0_pay28 (F := Ideal) u u1 u2 x (ix3 0 0 j) = ∑ r : Fin 2048, u2 (ix2 r j) * x (ix3 0 r j) := by
  pointwise [k0_pay28]
theorem pay_taps_v1 (u u1 u2 : FVec Ideal S2048x256 .f32) (x : FVec Ideal S1x2048x256 .f32) (j : Fin 256) :
    k0_pay28 (F := Ideal) u u1 u2 x (ix3 0 1 j) = ∑ r : Fin 2048, u1 (ix2 r j) * x (ix3 0 r j) := by
  pointwise [k0_pay28]
theorem pay_taps_v2 (u u1 u2 : FVec Ideal S2048x256 .f32) (x : FVec Ideal S1x2048x256 .f32) (j : Fin 256) :
    k0_pay28 (F := Ideal) u u1 u2 x (ix3 0 2 j) = ∑ r : Fin 2048, u (ix2 r j) * x (ix3 0 r j) := by
  pointwise [k0_pay28]
theorem pay_bias_g (u : FVec Ideal S2048x256 .f32) (j : Fin 256) : k0_pay29 (F := Ideal) u (ix3 0 0 j) = ∑ r : Fin 2048, u (ix2 r j) := by
  pointwise [k0_pay29]
theorem pay_bias_v (u : FVec Ideal S2048x256 .f32) (j : Fin 256) : k0_pay30 (F := Ideal) u (ix3 0 0 j) = ∑ r : Fin 2048, u (ix2 r j) := by
  pointwise [k0_pay30]
theorem pay_back_g (u u1 u2 : FVec Ideal S2048x256 .f32) (a b c : FVec Ideal S1x256 .f32) (r : Fin 2048) (j : Fin 256) :
    k0_pay31 (F := Ideal) u u1 u2 a b c (ix3 0 r j) = a (ix2 0 j) * u (ix2 r j) + b (ix2 0 j) * u1 (ix2 r j) + c (ix2 0 j) * u2 (ix2 r j) := by
  pointwise [k0_pay31]
theorem pay_back_v (u u1 u2 : FVec Ideal S2048x256 .f32) (a b c : FVec Ideal S1x256 .f32) (r : Fin 2048) (j : Fin 256) :
    k0_pay1 (F := Ideal) (k0_pay32 (F := Ideal) u u1 u2 a b c) (ix3 0 r j) = a (ix2 0 j) * u (ix2 r j) + b (ix2 0 j) * u1 (ix2 r j) + c (ix2 0 j) * u2 (ix2 r j) := by
  pointwise [k0_pay1, k0_pay32]
theorem zero_scr (i : S2x2048x256.Idx) : k0_pay2 (F := Ideal) i = 0 := by
  rw [eq_ix3 i]
  pointwise [k0_pay2]
theorem zero_dh (i : S2048x1024.Idx) : k0_pay3 (F := Ideal) i = 0 := by
  pointwise [k0_pay3]

end Cert.FfnUpIdeal.Value

end
-- ==== Proof.FfnUpBlk.lean ====
/- The gradient through the gated ConvFFN: the blocks that the kernel reads, and the places where it writes. -/
module

public import proofs.«01_k».proof.Proof.Conv
public import proofs.«01_k».proof.Proof.FfnUpPay

@[expose] public section

set_option maxRecDepth 16384

noncomputable section

open Idealize.ShloMosaic Idealize.ShloMosaic.TcCoe Idealize.SL.Sem
open Idealize.ShloMosaic.Pipeline (Dat)
open Cert.Reals

namespace Cert.FfnUpIdeal.Value
open Cert.FfnUpIdeal Cert.FfnUpIdeal.Gen Cert.Conv Cert.Gelu

/-- The block that a step works on, and the one whose projection it takes. -/
abbrev cur (t : Fin cfg0.N) : ℕ := min t.val 11
abbrev prev (t : Fin cfg0.N) : ℕ := t.val - 1
theorem cur_le (t : Fin cfg0.N) : cur t ≤ 11 := Nat.min_le_right _ _
theorem prev_le (t : Fin cfg0.N) : prev t ≤ 11 := by
  have := lt_of_lt_of_eq t.isLt N_0
  show t.val - 1 ≤ 11
  omega

theorem idx : ∀ t : Fin cfg0.N, win0_0.index t = ![0, 0] ∧ win0_1.index t = ![cur t, 0] ∧ win0_2.index t = ![0, 0, cur t]
    ∧ win0_3.index t = ![0, 0, cur t] ∧ win0_4.index t = ![0, cur t] ∧ win0_5.index t = ![0, cur t] ∧ win0_6.index t = ![0, 12 + cur t]
    ∧ win0_7.index t = ![prev t / 6, 0, prev t % 6] ∧ win0_8.index t = ![prev t / 6 + 2, 0, prev t % 6] ∧ win0_9.index t = ![0, 0]
    ∧ win0_10.index t = ![0, 0] ∧ win0_11.index t = ![0, 0, prev t] ∧ win0_12.index t = ![cur t, 0] ∧ win0_13.index t = ![0, 0, cur t]
    ∧ win0_14.index t = ![0, 0, cur t] := (by decide +kernel : ∀ t : Fin grid0.N, _)

variable (m : (ℓ : Loc nD τ sig) → Buf (Elt Ideal) ℓ) (c : Dev nD)

/-- A column of a block, in the array. -/
abbrev ccol (t : Fin cfg0.N) (j : Fin 256) : Fin 3072 := ⟨cur t * 256 + j.val, by have := cur_le t; omega⟩
abbrev pcol (t : Fin cfg0.N) (j : Fin 256) : Fin 3072 := ⟨prev t * 256 + j.val, by have := prev_le t; omega⟩
/-- A column of the gate, and one of the columns that it multiplies. -/
abbrev lo (j : Fin 3072) : Fin 6144 := ⟨j.val, by omega⟩
abbrev hi (j : Fin 3072) : Fin 6144 := ⟨3072 + j.val, by omega⟩

theorem emb_w (t : Fin cfg0.N) (h : Fin 2) (i : Fin 1024) (j : Fin 256) :
    ((View.whole main_v67_1).slice (win0_11.rect t)).emb (ix3 h i j : S2x1024x256.Idx) = (ix3 h i (pcol t j) : S2x1024x3072.Idx) := by
  blk_ext [idx t]
theorem emb_z (t : Fin cfg0.N) (i : Fin 256) (j : Fin 1024) :
    ((View.whole main_v67_2).slice (win0_12.rect t)).emb (ix2 i j : S256x1024.Idx) = (ix2 (ccol t i) j : S3072x1024.Idx) := by
  blk_ext [idx t]
theorem emb_t (t : Fin cfg0.N) (h : Fin 2) (i : Fin 3) (j : Fin 256) :
    ((View.whole main_v67_3).slice (win0_13.rect t)).emb (ix3 h i j : S2x3x256.Idx) = (ix3 h i (ccol t j) : S2x3x3072.Idx) := by
  blk_ext [idx t]
theorem emb_b (t : Fin cfg0.N) (h : Fin 2) (i : Fin 1) (j : Fin 256) :
    ((View.whole main_v67_4).slice (win0_14.rect t)).emb (ix3 h i j : S2x1x256.Idx) = (ix3 h i (ccol t j) : S2x1x3072.Idx) := by
  blk_ext [idx t]

/-- The two halves of an array, one above the other. -/
def halves (A : FVec Ideal S1x2048x6144 .f32) : FVec Ideal S2x2048x3072 .f32 :=
  concatenate S2x2048x3072 0 [⟨S1x2048x3072, extractStridedSlice S1x2048x3072 ![0, 0, 0] A slices_S1x2048x6144_S1x2048x3072_0_0_0⟩,
    ⟨S1x2048x3072, extractStridedSlice S1x2048x3072 ![0, 0, 3072] A slices_S1x2048x6144_S1x2048x3072_0_0_3072⟩] concatenates_S1x2048x3072_S1x2048x3072_S2x2048x3072_d0
theorem emb_u (t : Fin cfg0.N) (h : Fin 2) (r : Fin 2048) (j : Fin 256) :
    ((View.whole main_v56).slice (win0_2.rect t)).emb (ix3 h r j : S2x2048x256.Idx) = (ix3 h r (ccol t j) : S2x2048x3072.Idx) := by
  blk_ext [idx t]
theorem emb_a (t : Fin cfg0.N) (h : Fin 2) (r : Fin 2048) (j : Fin 256) :
    ((View.whole main_v60).slice (win0_3.rect t)).emb (ix3 h r j : S2x2048x256.Idx) = (ix3 h r (ccol t j) : S2x2048x3072.Idx) := by
  blk_ext [idx t]
theorem truncf_halves (A : FVec Ideal S1x2048x6144 .f32) (y : S2x2048x3072.Idx) : truncf .bf16 (halves A) bitsLt_bf16_f32 y = halves A y := by
  generalize halves A = X
  pointwise
theorem halves_at0 (A : FVec Ideal S1x2048x6144 .f32) (r : Fin 2048) (j : Fin 3072) : halves A (ix3 0 r j) = A (ix3 0 r (lo j)) := by
  pointwise [halves]
theorem halves_at1 (A : FVec Ideal S1x2048x6144 .f32) (r : Fin 2048) (j : Fin 3072) : halves A (ix3 1 r j) = A (ix3 0 r (hi j)) := by
  pointwise [halves]

section
variable (H : FVec Ideal S1x2048x1024 .f32) (W : FVec Ideal S1x1024x6144 .f32) (T : FVec Ideal S1x3x6144 .f32) (B : FVec Ideal S1x6144 .f32)
    (Z : FVec Ideal S1x3072x1024 .f32) (D : FVec Ideal S1x2048x1024 .f32)
    (hH : m ((c.tc : Thread nD τ).loc main_arg0) = H) (hW : m ((c.tc : Thread nD τ).loc main_arg1) = W)
    (hT : m ((c.tc : Thread nD τ).loc main_arg2) = T) (hB : m ((c.tc : Thread nD τ).loc main_arg3) = B)
    (hZ : m ((c.tc : Thread nD τ).loc main_arg4) = Z) (hD : m ((c.tc : Thread nD τ).loc main_arg5) = D)

include hD in
theorem V_d : V m c main_v51 = truncf .bf16 (shapeCast S2048x1024 D shapeCasts_S1x2048x1024_S2048x1024) bitsLt_bf16_f32 := by
  subst hD
  unfold V
  after_results
  rfl
include hZ in
theorem V_z : V m c main_v53 = truncf .bf16 (shapeCast S3072x1024 Z shapeCasts_S1x3072x1024_S3072x1024) bitsLt_bf16_f32 := by
  subst hZ
  unfold V
  after_results
  rfl
include hT in
theorem V_t : V m c main_v63 = shapeCast S3x6144 T shapeCasts_S1x3x6144_S3x6144 := by
  subst hT
  unfold V
  after_results
  rfl
/-- The columns of the projection in four blocks. -/
def quarters (W : FVec Ideal S1x1024x6144 .f32) : FVec Ideal S4x1024x1536 .bf16 :=
  truncf .bf16 (transpose S4x1024x1536 [1, 0, 2] (shapeCast S1024x4x1536 (shapeCast S1024x6144 W shapeCasts_S1x1024x6144_S1024x6144)
    shapeCasts_S1024x6144_S1024x4x1536) transposes_S1024x4x1536_S4x1024x1536_1_0_2) bitsLt_bf16_f32
theorem quarters_at (W : FVec Ideal S1x1024x6144 .f32) (a : Fin 4) (i : Fin 1024) (j : Fin 1536) :
    quarters W (ix3 a i j) = W (ix3 0 i ⟨a.val * 1536 + j.val, by omega⟩) := by
  pointwise [quarters]
include hW in
theorem V_w : V m c main_v49 = quarters W := by
  subst hW
  unfold V
  after_results
  rfl
include hH in
theorem V_h : V m c main_v66 = truncf .bf16 (transpose S1024x2048 [1, 0] (shapeCast S2048x1024 H shapeCasts_S1x2048x1024_S2048x1024) transposes_S2048x1024_S1024x2048_1_0) bitsLt_bf16_f32 := by
  subst hH
  unfold V
  after_results
  rfl

include hD in
theorem blk_d (t : Fin cfg0.N) (r : Fin 2048) (k : Fin 1024) : (show FVec Ideal S2048x1024 .bf16 from iblk m c 0 t) (ix2 r k) = D (ix3 0 r k) := by
  have h : (show FVec Ideal S2048x1024 .bf16 from iblk m c 0 t) (ix2 r k) = V m c main_v51 (ix2 r k : S2048x1024.Idx) := by
    blk_point [iblk, idx t]
  rw [h, V_d m c D hD]
  pointwise
include hZ in
theorem blk_z (t : Fin cfg0.N) (j : Fin 256) (k : Fin 1024) : (show FVec Ideal S256x1024 .bf16 from iblk m c 1 t) (ix2 j k) = Z (ix3 0 (ccol t j) k) := by
  have h : (show FVec Ideal S256x1024 .bf16 from iblk m c 1 t) (ix2 j k) = V m c main_v53 (ix2 (ccol t j) k : S3072x1024.Idx) := by
    blk_point [iblk, idx t]
  rw [h, V_z m c Z hZ]
  pointwise
include hT in
theorem blk_t0 (t : Fin cfg0.N) (k : Fin 3) (j : Fin 256) : (show FVec Ideal S3x256 .f32 from iblk m c 5 t) (ix2 k j) = T (ix3 0 k (lo (ccol t j))) := by
  have h : (show FVec Ideal S3x256 .f32 from iblk m c 5 t) (ix2 k j) = V m c main_v63 (ix2 k (lo (ccol t j)) : S3x6144.Idx) := by
    blk_point [iblk, idx t]
  rw [h, V_t m c T hT]
  pointwise
theorem emb_t1 (t : Fin cfg0.N) (k : Fin 3) (j : Fin 256) :
    ((View.whole main_v63).slice (win0_6.rect t)).emb (ix2 k j : S3x256.Idx) = (ix2 k (hi (ccol t j)) : S3x6144.Idx) := by
  blk_ext [idx t]
include hT in
theorem blk_t1 (t : Fin cfg0.N) (k : Fin 3) (j : Fin 256) : (show FVec Ideal S3x256 .f32 from iblk m c 6 t) (ix2 k j) = T (ix3 0 k (hi (ccol t j))) := by
  have h : (show FVec Ideal S3x256 .f32 from iblk m c 6 t) (ix2 k j) = V m c main_v63 (ix2 k (hi (ccol t j)) : S3x6144.Idx) :=
    congrArg (V m c main_v63) (emb_t1 t k j)
  rw [h, V_t m c T hT]
  pointwise
include hH in
theorem blk_h (t : Fin cfg0.N) (i : Fin 1024) (r : Fin 2048) : (show FVec Ideal S1024x2048 .bf16 from iblk m c 9 t) (ix2 i r) = H (ix3 0 r i) := by
  have h : (show FVec Ideal S1024x2048 .bf16 from iblk m c 9 t) (ix2 i r) = V m c main_v66 (ix2 i r : S1024x2048.Idx) := by
    blk_point [iblk, idx t]
  rw [h, V_h m c H hH]
  pointwise
/-- Where a step finds the projection's columns among the four blocks. -/
abbrev qrow (t : Fin cfg0.N) : Fin 4 := ⟨prev t / 6, by have := prev_le t; omega⟩
abbrev qrow2 (t : Fin cfg0.N) : Fin 4 := ⟨prev t / 6 + 2, by have := prev_le t; omega⟩
abbrev qcol (t : Fin cfg0.N) (j : Fin 256) : Fin 1536 := ⟨prev t % 6 * 256 + j.val, by omega⟩
theorem emb_w0 (t : Fin cfg0.N) (i : Fin 1024) (j : Fin 256) :
    ((View.whole main_v49).slice (win0_7.rect t)).emb (ix3 0 i j : S1x1024x256.Idx) = (ix3 (qrow t) i (qcol t j) : S4x1024x1536.Idx) := by
  blk_ext [idx t]
theorem emb_w1 (t : Fin cfg0.N) (i : Fin 1024) (j : Fin 256) :
    ((View.whole main_v49).slice (win0_8.rect t)).emb (ix3 0 i j : S1x1024x256.Idx) = (ix3 (qrow2 t) i (qcol t j) : S4x1024x1536.Idx) := by
  blk_ext [idx t]
theorem lo_pcol (t : Fin cfg0.N) (j : Fin 256) :
    (⟨(qrow t).val * 1536 + (qcol t j).val, by have := (qrow t).isLt; have := (qcol t j).isLt; omega⟩ : Fin 6144) = lo (pcol t j) := by
  apply Fin.ext
  show prev t / 6 * 1536 + (prev t % 6 * 256 + j.val) = prev t * 256 + j.val
  omega
theorem hi_pcol (t : Fin cfg0.N) (j : Fin 256) :
    (⟨(qrow2 t).val * 1536 + (qcol t j).val, by have := (qrow2 t).isLt; have := (qcol t j).isLt; omega⟩ : Fin 6144) = hi (pcol t j) := by
  apply Fin.ext
  show (prev t / 6 + 2) * 1536 + (prev t % 6 * 256 + j.val) = 3072 + (prev t * 256 + j.val)
  omega
include hW in
theorem blk_w0 (t : Fin cfg0.N) (i : Fin 1024) (j : Fin 256) :
    (show FVec Ideal S1x1024x256 .bf16 from iblk m c 7 t) (ix3 0 i j) = W (ix3 0 i (lo (pcol t j))) := by
  have h : (show FVec Ideal S1x1024x256 .bf16 from iblk m c 7 t) (ix3 0 i j) = V m c main_v49 (ix3 (qrow t) i (qcol t j) : S4x1024x1536.Idx) :=
    congrArg (V m c main_v49) (emb_w0 t i j)
  rw [h, V_w m c W hW]
  exact (quarters_at W _ i _).trans (congrArg (fun k : Fin 6144 => W (ix3 0 i k)) (lo_pcol t j))
include hW in
theorem blk_w1 (t : Fin cfg0.N) (i : Fin 1024) (j : Fin 256) :
    (show FVec Ideal S1x1024x256 .bf16 from iblk m c 8 t) (ix3 0 i j) = W (ix3 0 i (hi (pcol t j))) := by
  have h : (show FVec Ideal S1x1024x256 .bf16 from iblk m c 8 t) (ix3 0 i j) = V m c main_v49 (ix3 (qrow2 t) i (qcol t j) : S4x1024x1536.Idx) :=
    congrArg (V m c main_v49) (emb_w1 t i j)
  rw [h, V_w m c W hW]
  exact (quarters_at W _ i _).trans (congrArg (fun k : Fin 6144 => W (ix3 0 i k)) (hi_pcol t j))

open Cert.FfnUpRefIdeal.Value in
include hH hW in
theorem V_up : V m c main_v56 = halves (upV H W) := by
  subst hH hW
  unfold V
  after_results
  rfl
open Cert.FfnUpRefIdeal.Value in
include hH hW hT hB in
theorem V_act : V m c main_v60 = truncf .bf16 (halves (act H W T B)) bitsLt_bf16_f32 := by
  subst hH hW hT hB
  unfold V
  after_results
  rfl
open Cert.FfnUpRefIdeal.Value in
include hH hW hT hB in
theorem V_f : V m c main_v62 = truncf .bf16 (shapeCast S2048x3072 (fV (act H W T B)) shapeCasts_S1x2048x3072_S2048x3072) bitsLt_bf16_f32 := by
  subst hH hW hT hB
  unfold V
  after_results
  rfl

open Cert.FfnUpRefIdeal.Value in
include hH hW in
theorem blk_u0 (t : Fin cfg0.N) (r : Fin 2048) (j : Fin 256) :
    (show FVec Ideal S2x2048x256 .f32 from iblk m c 2 t) (ix3 0 r j) = upV H W (ix3 0 r (lo (ccol t j))) := by
  have h : (show FVec Ideal S2x2048x256 .f32 from iblk m c 2 t) (ix3 0 r j) = V m c main_v56 (ix3 0 r (ccol t j) : S2x2048x3072.Idx) :=
    congrArg (V m c main_v56) (emb_u t 0 r j)
  rw [h, V_up m c H W hH hW]
  exact halves_at0 _ r _
open Cert.FfnUpRefIdeal.Value in
include hH hW in
theorem blk_u1 (t : Fin cfg0.N) (r : Fin 2048) (j : Fin 256) :
    (show FVec Ideal S2x2048x256 .f32 from iblk m c 2 t) (ix3 1 r j) = upV H W (ix3 0 r (hi (ccol t j))) := by
  have h : (show FVec Ideal S2x2048x256 .f32 from iblk m c 2 t) (ix3 1 r j) = V m c main_v56 (ix3 1 r (ccol t j) : S2x2048x3072.Idx) :=
    congrArg (V m c main_v56) (emb_u t 1 r j)
  rw [h, V_up m c H W hH hW]
  exact halves_at1 _ r _
open Cert.FfnUpRefIdeal.Value in
include hH hW hT hB in
theorem blk_a0 (t : Fin cfg0.N) (r : Fin 2048) (j : Fin 256) :
    (show FVec Ideal S2x2048x256 .bf16 from iblk m c 3 t) (ix3 0 r j) = act H W T B (ix3 0 r (lo (ccol t j))) := by
  have h : (show FVec Ideal S2x2048x256 .bf16 from iblk m c 3 t) (ix3 0 r j) = V m c main_v60 (ix3 0 r (ccol t j) : S2x2048x3072.Idx) :=
    congrArg (V m c main_v60) (emb_a t 0 r j)
  rw [h, V_act m c H W T B hH hW hT hB]
  exact (truncf_halves _ _).trans (halves_at0 _ r _)
open Cert.FfnUpRefIdeal.Value in
include hH hW hT hB in
theorem blk_a1 (t : Fin cfg0.N) (r : Fin 2048) (j : Fin 256) :
    (show FVec Ideal S2x2048x256 .bf16 from iblk m c 3 t) (ix3 1 r j) = act H W T B (ix3 0 r (hi (ccol t j))) := by
  have h : (show FVec Ideal S2x2048x256 .bf16 from iblk m c 3 t) (ix3 1 r j) = V m c main_v60 (ix3 1 r (ccol t j) : S2x2048x3072.Idx) :=
    congrArg (V m c main_v60) (emb_a t 1 r j)
  rw [h, V_act m c H W T B hH hW hT hB]
  exact (truncf_halves _ _).trans (halves_at1 _ r _)
open Cert.FfnUpRefIdeal.Value in
include hH hW hT hB in
theorem blk_f (t : Fin cfg0.N) (r : Fin 2048) (j : Fin 256) :
    (show FVec Ideal S2048x256 .bf16 from iblk m c 4 t) (ix2 r j) = fV (act H W T B) (ix3 0 r (ccol t j)) := by
  have h : (show FVec Ideal S2048x256 .bf16 from iblk m c 4 t) (ix2 r j) = V m c main_v62 (ix2 r (ccol t j) : S2048x3072.Idx) := by
    blk_point [iblk, idx t]
  rw [h, V_f m c H W T B hH hW hT hB]
  generalize fV (act H W T B) = X
  pointwise

end

end Cert.FfnUpIdeal.Value

end
-- ==== Proof.FfnUp.lean ====
/- The gradient through the gated ConvFFN: the kernel's five result arrays are the reference's. -/
module

public import proofs.«01_k».proof.Proof.Conv
public import proofs.«01_k».proof.Proof.FfnUpBlk
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Reals

/-- Thirteen points, the first of them empty and each other with a block of the gate's columns and a block of the others. -/
theorem Cert.FfnUp.sum_blocks (f : Fin 13 → EReal) (g : Fin 6144 → EReal) (h0 : f 0 = 0)
    (h : ∀ q : Fin 12, f q.succ = ∑ k : Fin 256, g ⟨q.val * 256 + k.val, by omega⟩ + ∑ k : Fin 256, g ⟨3072 + (q.val * 256 + k.val), by omega⟩) :
    ∑ s, f s = ∑ l, g l := by
  have e0 : ∑ q : Fin 12, ∑ k : Fin 256, g ⟨q.val * 256 + k.val, by omega⟩ = ∑ l : Fin 3072, g (Fin.castAdd 3072 l) :=
    Fin.sum_mul_add_congr fun s k hl => rfl
  have e1 : ∑ q : Fin 12, ∑ k : Fin 256, g ⟨3072 + (q.val * 256 + k.val), by omega⟩ = ∑ l : Fin 3072, g (Fin.natAdd 3072 l) :=
    Fin.sum_mul_add_congr fun s k hl => rfl
  rw [Fin.sum_univ_succ, h0, zero_add, Finset.sum_congr rfl fun q _ => h q, Finset.sum_add_distrib, e0, e1]
  exact (Fin.sum_univ_add (a := 3072) (b := 3072) g).symm

namespace Cert.FfnUpIdeal.Value
open Cert.FfnUpIdeal Cert.FfnUpIdeal.Gen Cert.Conv Cert.Gelu

theorem piece_index_S1x2048x256 (n k : Fin 2) (r : Fin 2048) (j : Fin 256) (x : S1x2048x256.Idx) (e0 : k.val = n.val + (x 0).val) (e : (x 0).val < 1)
    (e1 : r.val = (x 1).val) (e2 : j.val = (x 2).val) : k = n ∧ x = ix3 0 r j := by
  refine ⟨Fin.ext (by omega), (eq_ix3 x).trans ?_⟩
  exact congr (congrArg₂ ix3 (Fin.ext (by show (x 0).val = 0; omega)) (Fin.ext e1.symm)) (Fin.ext e2.symm)
theorem piece_index_S1x1024x256 (n k : Fin 2) (r : Fin 1024) (j : Fin 256) (x : S1x1024x256.Idx) (e0 : k.val = n.val + (x 0).val) (e : (x 0).val < 1)
    (e1 : r.val = (x 1).val) (e2 : j.val = (x 2).val) : k = n ∧ x = ix3 0 r j := by
  refine ⟨Fin.ext (by omega), (eq_ix3 x).trans ?_⟩
  exact congr (congrArg₂ ix3 (Fin.ext (by show (x 0).val = 0; omega)) (Fin.ext e1.symm)) (Fin.ext e2.symm)
theorem piece_index_S1x3x256 (n k : Fin 2) (r : Fin 3) (j : Fin 256) (x : S1x3x256.Idx) (e0 : k.val = n.val + (x 0).val) (e : (x 0).val < 1)
    (e1 : r.val = (x 1).val) (e2 : j.val = (x 2).val) : k = n ∧ x = ix3 0 r j := by
  refine ⟨Fin.ext (by omega), (eq_ix3 x).trans ?_⟩
  exact congr (congrArg₂ ix3 (Fin.ext (by show (x 0).val = 0; omega)) (Fin.ext e1.symm)) (Fin.ext e2.symm)
theorem piece_index_S1x1x256 (n k : Fin 2) (r : Fin 1) (j : Fin 256) (x : S1x1x256.Idx) (e0 : k.val = n.val + (x 0).val) (e : (x 0).val < 1)
    (e1 : r.val = (x 1).val) (e2 : j.val = (x 2).val) : k = n ∧ x = ix3 0 r j := by
  refine ⟨Fin.ext (by omega), (eq_ix3 x).trans ?_⟩
  exact congr (congrArg₂ ix3 (Fin.ext (by show (x 0).val = 0; omega)) (Fin.ext e1.symm)) (Fin.ext e2.symm)

/-- Two stores into the two halves of the scratch array, whatever was stored before. -/
theorem canon_two (L : List (View.Piece (Elt Ideal) S2x2048x256 .bf16)) (w1 w0 : FVec Ideal S1x2048x256 .bf16) (h : Fin 2) (r : Fin 2048) (j : Fin 256) :
    View.canon (Val := Elt Ideal) (s := S2x2048x256) (e := .bf16) ((⟨Rect.unit ![1, 0, 0] ![1, 2048, 256] inb_S2x2048x256_S1x2048x256_1_0_0, w1⟩ : View.Piece (Elt Ideal) S2x2048x256 .bf16)
      :: (⟨Rect.unit ![0, 0, 0] ![1, 2048, 256] inb_S2x2048x256_S1x2048x256_0_0_0, w0⟩ : View.Piece (Elt Ideal) S2x2048x256 .bf16) :: L) (ix3 h r j : S2x2048x256.Idx)
      = if h = 0 then w0 (ix3 0 r j) else w1 (ix3 0 r j) := by
  match h with
  | 0 =>
    refine (View.canon_cons_of_not_mem _ _ fun hm => ?_).trans ?_
    · have q : (1 : ℕ) ≤ 0 := ((Rect.mem_set_unit (inb := inb_S2x2048x256_S1x2048x256_1_0_0)).mp hm 0).1
      exact absurd q (by decide)
    · have e : (ix3 0 r j : S2x2048x256.Idx) = (Rect.unit ![0, 0, 0] ![1, 2048, 256] inb_S2x2048x256_S1x2048x256_0_0_0).emb (ix3 0 r j : S1x2048x256.Idx) := by
        blk_ext
      rw [e]
      exact View.canon_cons_emb _ _ _ _
  | 1 =>
    have e : (ix3 1 r j : S2x2048x256.Idx) = (Rect.unit ![1, 0, 0] ![1, 2048, 256] inb_S2x2048x256_S1x2048x256_1_0_0).emb (ix3 0 r j : S1x2048x256.Idx) := by
      blk_ext
    rw [e]
    exact View.canon_cons_emb _ _ _ _

variable (m : (ℓ : Loc nD τ sig) → Buf (Elt Ideal) ℓ) (c : Dev nD)

section
variable (H : FVec Ideal S1x2048x1024 .f32) (W : FVec Ideal S1x1024x6144 .f32) (T : FVec Ideal S1x3x6144 .f32) (B : FVec Ideal S1x6144 .f32)
    (Z : FVec Ideal S1x3072x1024 .f32) (D : FVec Ideal S1x2048x1024 .f32)
    (hH : m ((c.tc : Thread nD τ).loc main_arg0) = H) (hW : m ((c.tc : Thread nD τ).loc main_arg1) = W)
    (hT : m ((c.tc : Thread nD τ).loc main_arg2) = T) (hB : m ((c.tc : Thread nD τ).loc main_arg3) = B)
    (hZ : m ((c.tc : Thread nD τ).loc main_arg4) = Z) (hD : m ((c.tc : Thread nD τ).loc main_arg5) = D)
    (rH : ∀ i, IsReal (H i)) (rW : ∀ i, IsReal (W i)) (rT : ∀ i, IsReal (T i)) (rB : ∀ i, IsReal (B i)) (rZ : ∀ i, IsReal (Z i)) (rD : ∀ i, IsReal (D i))

open Cert.FfnUpRefIdeal.Value in
include rH rW rT rB rZ rD in
/-- The gradient of the gate's columns, as the kernel writes it. -/
theorem dact_lo (r : Fin 2048) (j : Fin 3072) : dact H W T B Z D (ix3 0 r (lo j))
    = dfV D Z (ix3 0 r j) * act H W T B (ix3 0 r (hi j)) * (((1 / 2 : ℝ) : EReal) * (1 + th (act H W T B (ix3 0 r (lo j))))
      + ((1 / 2 : ℝ) : EReal) * act H W T B (ix3 0 r (lo j)) * (1 - th (act H W T B (ix3 0 r (lo j))) * th (act H W T B (ix3 0 r (lo j)))) * ((scale : ℝ) : EReal)
        * (1 + ((26829 / 200000 : ℝ) : EReal) * (act H W T B (ix3 0 r (lo j)) * act H W T B (ix3 0 r (lo j))))) := by
  obtain ⟨g, hg⟩ := act_real H W T B rH rW rT rB r (lo j)
  obtain ⟨u, hu⟩ := (dfV_real D Z rD rZ r j).mul (act_real H W T B rH rW rT rB r (hi j))
  refine (dactV_at0 _ _ r j).trans ?_
  rw [hg, hu]
  exact dgateV_at _ _ r j g u ((gateV_at _ r j).trans hg) ((congrArg (fun a : EReal => _ * a) (valV_at _ r j)).trans hu)

open Cert.FfnUpRefIdeal.Value in
theorem dact_hi (r : Fin 2048) (j : Fin 3072) : dact H W T B Z D (ix3 0 r (hi j))
    = act H W T B (ix3 0 r (lo j)) * (((1 / 2 : ℝ) : EReal) * (1 + th (act H W T B (ix3 0 r (lo j))))) * dfV D Z (ix3 0 r j) := by
  refine (dactV_at1 _ _ r j).trans ?_
  rw [geluV_at, gateV_at]

open Cert.FfnUpRefIdeal.Value in
include hZ hD in
theorem point_df (t : Fin cfg0.N) (r : Fin 2048) (j : Fin 256) :
    k0_pay5 (F := Ideal) (iblk m c 0 t) (iblk m c 1 t) (ix2 r j) = dfV D Z (ix3 0 r (ccol t j)) := by
  refine (pay_df _ _ r j).trans (Eq.trans (Finset.sum_congr rfl fun k _ => ?_) (dfV_at D Z r (ccol t j)).symm)
  exact congrArg₂ (fun a b : EReal => a * b) (blk_d m c D hD t r k) (blk_z m c Z hZ t j k)

/-- The kernel's two halves of a block of the activation, and of the projection's output. -/
abbrev gx (t : Fin cfg0.N) : FVec Ideal S1x2048x256 .bf16 := View.ld (iblk m c 3 t) (Rect.unit ![0, 0, 0] ![1, 2048, 256] inb_S2x2048x256_S1x2048x256_0_0_0)
abbrev vx (t : Fin cfg0.N) : FVec Ideal S1x2048x256 .bf16 := View.ld (iblk m c 3 t) (Rect.unit ![1, 0, 0] ![1, 2048, 256] inb_S2x2048x256_S1x2048x256_1_0_0)
abbrev gu (t : Fin cfg0.N) : FVec Ideal S1x2048x256 .f32 := View.ld (iblk m c 2 t) (Rect.unit ![0, 0, 0] ![1, 2048, 256] inb_S2x2048x256_S1x2048x256_0_0_0)
abbrev vu (t : Fin cfg0.N) : FVec Ideal S1x2048x256 .f32 := View.ld (iblk m c 2 t) (Rect.unit ![1, 0, 0] ![1, 2048, 256] inb_S2x2048x256_S1x2048x256_1_0_0)
abbrev tap (k : Fin 3) (x : FVec Ideal S3x256 .f32) : FVec Ideal S1x256 .f32 := match k with
  | 0 => View.ld (Val := Elt Ideal) (S := S3x256) (e' := .f32) x (Rect.unit ![0, 0] ![1, 256] inb_S3x256_S1x256_0_0)
  | 1 => View.ld (Val := Elt Ideal) (S := S3x256) (e' := .f32) x (Rect.unit ![1, 0] ![1, 256] inb_S3x256_S1x256_1_0)
  | 2 => View.ld (Val := Elt Ideal) (S := S3x256) (e' := .f32) x (Rect.unit ![2, 0] ![1, 256] inb_S3x256_S1x256_2_0)

open Cert.FfnUpRefIdeal.Value in
include hH hW hT hB in
theorem gx_at (t : Fin cfg0.N) (r : Fin 2048) (j : Fin 256) : gx m c t (ix3 0 r j) = act H W T B (ix3 0 r (lo (ccol t j))) := by
  have e : gx m c t (ix3 0 r j) = (show FVec Ideal S2x2048x256 .bf16 from iblk m c 3 t) (ix3 0 r j) := by pointwise [gx]
  exact e.trans (blk_a0 m c H W T B hH hW hT hB t r j)
open Cert.FfnUpRefIdeal.Value in
include hH hW hT hB in
theorem vx_at (t : Fin cfg0.N) (r : Fin 2048) (j : Fin 256) : vx m c t (ix3 0 r j) = act H W T B (ix3 0 r (hi (ccol t j))) := by
  have e : vx m c t (ix3 0 r j) = (show FVec Ideal S2x2048x256 .bf16 from iblk m c 3 t) (ix3 1 r j) := by pointwise [vx]
  exact e.trans (blk_a1 m c H W T B hH hW hT hB t r j)
open Cert.FfnUpRefIdeal.Value in
include hH hW in
theorem gu_at (t : Fin cfg0.N) (r : Fin 2048) (j : Fin 256) : gu m c t (ix3 0 r j) = upV H W (ix3 0 r (lo (ccol t j))) := by
  have e : gu m c t (ix3 0 r j) = (show FVec Ideal S2x2048x256 .f32 from iblk m c 2 t) (ix3 0 r j) := by pointwise [gu]
  exact e.trans (blk_u0 m c H W hH hW t r j)
open Cert.FfnUpRefIdeal.Value in
include hH hW in
theorem vu_at (t : Fin cfg0.N) (r : Fin 2048) (j : Fin 256) : vu m c t (ix3 0 r j) = upV H W (ix3 0 r (hi (ccol t j))) := by
  have e : vu m c t (ix3 0 r j) = (show FVec Ideal S2x2048x256 .f32 from iblk m c 2 t) (ix3 1 r j) := by pointwise [vu]
  exact e.trans (blk_u1 m c H W hH hW t r j)

/-- The gradient of a block of the gate's columns with its two shifts, and of a block of the others. -/
abbrev dg (t : Fin cfg0.N) : FVec Ideal S2048x256 .f32 := k0_pay21 (F := Ideal) (k0_pay5 (F := Ideal) (iblk m c 0 t) (iblk m c 1 t)) (k0_pay14 (vx m c t))
  (k0_pay15 (gx m c t)) (k0_pay16 (gx m c t)) (k0_pay17 (gx m c t)) (k0_pay19 (gx m c t)) k0_pay20
abbrev dg1 (t : Fin cfg0.N) : FVec Ideal S2048x256 .f32 := k0_pay22 (F := Ideal) (k0_pay5 (F := Ideal) (iblk m c 0 t) (iblk m c 1 t)) (k0_pay14 (vx m c t))
  (k0_pay15 (gx m c t)) (k0_pay16 (gx m c t)) (k0_pay17 (gx m c t)) (k0_pay19 (gx m c t)) k0_pay20
abbrev dg2 (t : Fin cfg0.N) : FVec Ideal S2048x256 .f32 := k0_pay23 (F := Ideal) (k0_pay5 (F := Ideal) (iblk m c 0 t) (iblk m c 1 t)) (k0_pay14 (vx m c t))
  (k0_pay15 (gx m c t)) (k0_pay16 (gx m c t)) (k0_pay17 (gx m c t)) (k0_pay19 (gx m c t)) k0_pay20
abbrev dv (t : Fin cfg0.N) : FVec Ideal S2048x256 .f32 := k0_pay24 (F := Ideal) (k0_pay5 (F := Ideal) (iblk m c 0 t) (iblk m c 1 t)) (k0_pay18 (gx m c t))
abbrev dv1 (t : Fin cfg0.N) : FVec Ideal S2048x256 .f32 := k0_pay25 (F := Ideal) (k0_pay5 (F := Ideal) (iblk m c 0 t) (iblk m c 1 t)) (k0_pay18 (gx m c t))
abbrev dv2 (t : Fin cfg0.N) : FVec Ideal S2048x256 .f32 := k0_pay26 (F := Ideal) (k0_pay5 (F := Ideal) (iblk m c 0 t) (iblk m c 1 t)) (k0_pay18 (gx m c t))

open Cert.FfnUpRefIdeal.Value in
include hH hW hT hB hZ hD rH rW rT rB rZ rD in
theorem dg_at (t : Fin cfg0.N) (r : Fin 2048) (j : Fin 256) : dg m c t (ix2 r j) = dact H W T B Z D (ix3 0 r (lo (ccol t j))) := by
  refine (pay_dgate _ _ _ _ _ _ _ r j).trans ?_
  rw [pay_val, pay_gate, pay_sq, pay_th, pay_one, pay_half, point_df m c Z D hZ hD, gx_at m c H W T B hH hW hT hB, vx_at m c H W T B hH hW hT hB,
    dact_lo H W T B Z D rH rW rT rB rZ rD]
open Cert.FfnUpRefIdeal.Value in
include hH hW hT hB hZ hD in
theorem dv_at (t : Fin cfg0.N) (r : Fin 2048) (j : Fin 256) : dv m c t (ix2 r j) = dact H W T B Z D (ix3 0 r (hi (ccol t j))) := by
  refine (pay_dval _ _ r j).trans ?_
  rw [pay_gelu, point_df m c Z D hZ hD, gx_at m c H W T B hH hW hT hB, dact_hi]
  exact mul_comm (G := EReal) _ _
open Cert.FfnUpRefIdeal.Value in
include hH hW hT hB hZ hD rH rW rT rB rZ rD in
theorem dg1_at (t : Fin cfg0.N) (r : Fin 2048) (j : Fin 256) : dg1 m c t (ix2 r j) = up 1 (fun r => dact H W T B Z D (ix3 0 r (lo (ccol t j)))) r :=
  (pay_dgate1 _ _ _ _ _ _ _ r j).trans (congrArg (fun f => up 1 f r) (funext fun r => dg_at m c H W T B Z D hH hW hT hB hZ hD rH rW rT rB rZ rD t r j))
open Cert.FfnUpRefIdeal.Value in
include hH hW hT hB hZ hD rH rW rT rB rZ rD in
theorem dg2_at (t : Fin cfg0.N) (r : Fin 2048) (j : Fin 256) : dg2 m c t (ix2 r j) = up 2 (fun r => dact H W T B Z D (ix3 0 r (lo (ccol t j)))) r :=
  (pay_dgate2 _ _ _ _ _ _ _ r j).trans (congrArg (fun f => up 2 f r) (funext fun r => dg_at m c H W T B Z D hH hW hT hB hZ hD rH rW rT rB rZ rD t r j))
open Cert.FfnUpRefIdeal.Value in
include hH hW hT hB hZ hD in
theorem dv1_at (t : Fin cfg0.N) (r : Fin 2048) (j : Fin 256) : dv1 m c t (ix2 r j) = up 1 (fun r => dact H W T B Z D (ix3 0 r (hi (ccol t j)))) r :=
  (pay_dval1 _ _ r j).trans (congrArg (fun f => up 1 f r) (funext fun r => dv_at m c H W T B Z D hH hW hT hB hZ hD t r j))
open Cert.FfnUpRefIdeal.Value in
include hH hW hT hB hZ hD in
theorem dv2_at (t : Fin cfg0.N) (r : Fin 2048) (j : Fin 256) : dv2 m c t (ix2 r j) = up 2 (fun r => dact H W T B Z D (ix3 0 r (hi (ccol t j)))) r :=
  (pay_dval2 _ _ r j).trans (congrArg (fun f => up 2 f r) (funext fun r => dv_at m c H W T B Z D hH hW hT hB hZ hD t r j))

theorem tap_at (k : Fin 3) (x : FVec Ideal S3x256 .f32) (j : Fin 256) : tap k x (ix2 0 j) = x (ix2 k j) := by
  match k with
  | 0 => pointwise [tap]
  | 1 => pointwise [tap]
  | 2 => pointwise [tap]

open Cert.FfnUpRefIdeal.Value in
include hH hW hT hB hZ hD rH rW rT rB rZ rD in
theorem point_back_g (t : Fin cfg0.N) (r : Fin 2048) (j : Fin 256) :
    k0_pay31 (F := Ideal) (dg m c t) (dg1 m c t) (dg2 m c t) (tap 2 (iblk m c 5 t)) (tap 1 (iblk m c 5 t)) (tap 0 (iblk m c 5 t)) (ix3 0 r j)
      = convBack (dact H W T B Z D) T (ix3 0 r (lo (ccol t j))) := by
  refine (pay_back_g _ _ _ _ _ _ r j).trans ?_
  rw [tap_at, tap_at, tap_at, dg_at m c H W T B Z D hH hW hT hB hZ hD rH rW rT rB rZ rD, dg1_at m c H W T B Z D hH hW hT hB hZ hD rH rW rT rB rZ rD,
    dg2_at m c H W T B Z D hH hW hT hB hZ hD rH rW rT rB rZ rD, convBack_at]
  refine congrArg₂ (fun a b : EReal => a + b) (congrArg₂ (fun a b : EReal => a + b) ?_ ?_) ?_
  · exact (congrArg (fun a : EReal => a * _) (blk_t0 m c T hT t 2 j)).trans (mul_comm (G := EReal) _ _)
  · exact (congrArg (fun a : EReal => a * _) (blk_t0 m c T hT t 1 j)).trans (mul_comm (G := EReal) _ _)
  · exact (congrArg (fun a : EReal => a * _) (blk_t0 m c T hT t 0 j)).trans (mul_comm (G := EReal) _ _)
open Cert.FfnUpRefIdeal.Value in
include hH hW hT hB hZ hD in
theorem point_back_v (t : Fin cfg0.N) (r : Fin 2048) (j : Fin 256) :
    k0_pay1 (F := Ideal) (k0_pay32 (F := Ideal) (dv m c t) (dv1 m c t) (dv2 m c t) (tap 2 (iblk m c 6 t)) (tap 1 (iblk m c 6 t)) (tap 0 (iblk m c 6 t))) (ix3 0 r j)
      = convBack (dact H W T B Z D) T (ix3 0 r (hi (ccol t j))) := by
  refine (pay_back_v _ _ _ _ _ _ r j).trans ?_
  rw [tap_at, tap_at, tap_at, dv_at m c H W T B Z D hH hW hT hB hZ hD, dv1_at m c H W T B Z D hH hW hT hB hZ hD,
    dv2_at m c H W T B Z D hH hW hT hB hZ hD, convBack_at]
  refine congrArg₂ (fun a b : EReal => a + b) (congrArg₂ (fun a b : EReal => a + b) ?_ ?_) ?_
  · exact (congrArg (fun a : EReal => a * _) (blk_t1 m c T hT t 2 j)).trans (mul_comm (G := EReal) _ _)
  · exact (congrArg (fun a : EReal => a * _) (blk_t1 m c T hT t 1 j)).trans (mul_comm (G := EReal) _ _)
  · exact (congrArg (fun a : EReal => a * _) (blk_t1 m c T hT t 0 j)).trans (mul_comm (G := EReal) _ _)

open Cert.FfnUpRefIdeal.Value in
include hH hW hT hB hZ hD rH rW rT rB rZ rD in
/-- What a step leaves for the next one: its block of the gradient that reaches the projection's output. -/
theorem scr_at (t : Fin cfg0.N) (h : Fin 2) (r : Fin 2048) (j : Fin 256) :
    (show FVec Ideal S2x2048x256 .bf16 from (outsAt0 m c t.val t.isLt).2.2.2.2.2) (ix3 h r j)
      = convBack (dact H W T B Z D) T (ix3 0 r (if h = 0 then lo (ccol t j) else hi (ccol t j))) := by
  by_cases ht : t.val % 13 = 0
  · rw [outsAt0_A m c t ht]
    dsimp only
    frame_out
    refine (canon_two _ _ _ h r j).trans ?_
    split
    · exact point_back_g m c H W T B Z D hH hW hT hB hZ hD rH rW rT rB rZ rD t r j
    · exact point_back_v m c H W T B Z D hH hW hT hB hZ hD t r j
  · rw [outsAt0_B m c t ht]
    dsimp only
    frame_out
    canon_tiles x h
    · obtain ⟨rfl, rfl⟩ := piece_index_S1x2048x256 1 h r j x h0 x0_lt h1 h2
      exact point_back_v m c H W T B Z D hH hW hT hB hZ hD t r j
    · obtain ⟨rfl, rfl⟩ := piece_index_S1x2048x256 0 h r j x (h0.trans (Nat.zero_add _).symm) x0_lt h1 h2
      exact point_back_g m c H W T B Z D hH hW hT hB hZ hD rH rW rT rB rZ rD t r j

open Cert.FfnUpRefIdeal.Value in
include hH hW hT hB hD in
theorem point_dz (t : Fin cfg0.N) (i : Fin 256) (j : Fin 1024) :
    k0_pay13 (F := Ideal) (k0_pay4 (iblk m c 0 t)) (iblk m c 4 t) (ix2 i j) = resZ D (fV (act H W T B)) (ix2 (ccol t i) j) := by
  refine (pay_dz _ _ i j).trans (Eq.trans (Finset.sum_congr rfl fun r _ => ?_) (resZ_at D _ (ccol t i) j).symm)
  exact (congrArg₂ (fun a b : EReal => a * b) (blk_f m c H W T B hH hW hT hB t r i) (blk_d m c D hD t r j)).trans (mul_comm (G := EReal) _ _)

open Cert.FfnUpRefIdeal.Value in
include hH hW hT hB hZ hD rH rW rT rB rZ rD in
theorem point_taps_lo (t : Fin cfg0.N) (k : Fin 3) (j : Fin 256) :
    k0_pay27 (F := Ideal) (dg m c t) (dg1 m c t) (dg2 m c t) (gu m c t) (ix3 0 k j) = resT (upV H W) (dact H W T B Z D) (ix3 0 k (ccol t j)) := by
  refine Eq.trans ?_ (resT_at0 _ _ k (ccol t j)).symm
  match k with
  | 0 =>
    refine (pay_taps_g0 _ _ _ _ j).trans (Eq.trans (Finset.sum_congr rfl fun r _ => ?_) (tapGrad0_at _ _ _).symm)
    rw [dg2_at m c H W T B Z D hH hW hT hB hZ hD rH rW rT rB rZ rD, gu_at m c H W hH hW]
  | 1 =>
    refine (pay_taps_g1 _ _ _ _ j).trans (Eq.trans (Finset.sum_congr rfl fun r _ => ?_) (tapGrad1_at _ _ _).symm)
    rw [dg1_at m c H W T B Z D hH hW hT hB hZ hD rH rW rT rB rZ rD, gu_at m c H W hH hW]
  | 2 =>
    refine (pay_taps_g2 _ _ _ _ j).trans (Eq.trans (Finset.sum_congr rfl fun r _ => ?_) (tapGrad2_at _ _ _).symm)
    rw [dg_at m c H W T B Z D hH hW hT hB hZ hD rH rW rT rB rZ rD, gu_at m c H W hH hW]
open Cert.FfnUpRefIdeal.Value in
include hH hW hT hB hZ hD rH rW rT rB rZ rD in
theorem point_bias_lo (t : Fin cfg0.N) (j : Fin 256) :
    k0_pay29 (F := Ideal) (dg m c t) (ix3 0 0 j) = resB (dact H W T B Z D) (ix3 0 0 (ccol t j)) := by
  refine (pay_bias_g _ j).trans (Eq.trans (Finset.sum_congr rfl fun r _ => ?_) ((resB_at0 _ (ccol t j)).trans (biasGrad_at _ _)).symm)
  rw [dg_at m c H W T B Z D hH hW hT hB hZ hD rH rW rT rB rZ rD]
open Cert.FfnUpRefIdeal.Value in
include hH hW hT hB hZ hD in
theorem point_taps_hi (t : Fin cfg0.N) (k : Fin 3) (j : Fin 256) :
    k0_pay28 (F := Ideal) (dv m c t) (dv1 m c t) (dv2 m c t) (vu m c t) (ix3 0 k j) = resT (upV H W) (dact H W T B Z D) (ix3 1 k (ccol t j)) := by
  refine Eq.trans ?_ (resT_at1 _ _ k (ccol t j)).symm
  match k with
  | 0 =>
    refine (pay_taps_v0 _ _ _ _ j).trans (Eq.trans (Finset.sum_congr rfl fun r _ => ?_) (tapGrad0_at _ _ _).symm)
    rw [dv2_at m c H W T B Z D hH hW hT hB hZ hD, vu_at m c H W hH hW]
  | 1 =>
    refine (pay_taps_v1 _ _ _ _ j).trans (Eq.trans (Finset.sum_congr rfl fun r _ => ?_) (tapGrad1_at _ _ _).symm)
    rw [dv1_at m c H W T B Z D hH hW hT hB hZ hD, vu_at m c H W hH hW]
  | 2 =>
    refine (pay_taps_v2 _ _ _ _ j).trans (Eq.trans (Finset.sum_congr rfl fun r _ => ?_) (tapGrad2_at _ _ _).symm)
    rw [dv_at m c H W T B Z D hH hW hT hB hZ hD, vu_at m c H W hH hW]
open Cert.FfnUpRefIdeal.Value in
include hH hW hT hB hZ hD in
theorem point_bias_hi (t : Fin cfg0.N) (j : Fin 256) :
    k0_pay30 (F := Ideal) (dv m c t) (ix3 0 0 j) = resB (dact H W T B Z D) (ix3 1 0 (ccol t j)) := by
  refine (pay_bias_v _ j).trans (Eq.trans (Finset.sum_congr rfl fun r _ => ?_) ((resB_at1 _ (ccol t j)).trans (biasGrad_at _ _)).symm)
  rw [dv_at m c H W T B Z D hH hW hT hB hZ hD]

open Cert.FfnUpRefIdeal.Value in
include hH hW hT hB hD in
theorem final_dz : (dats m 0 c).arrAt 12 (cfgs 0).N = resZ D (fV (act H W T B)) := by
  refine (dats m 0 c).arrAt_eq_of_covers 12 _ (by decide +kernel) fun t hf y => ?_
  obtain ⟨i, j, rfl⟩ : ∃ (i : Fin 256) (j : Fin 1024), y = (ix2 i j : S256x1024.Idx) := ⟨y 0, y 1, eq_ix2 y⟩
  blk_simp
  rw [after0_12, emb_z]
  by_cases ht : t.val % 13 = 0
  · rw [outsAt0_A m c t ht]
    dsimp only
    frame_out
    exact point_dz m c H W T B D hH hW hT hB hD t i j
  · rw [outsAt0_B m c t ht]
    dsimp only
    frame_out
    exact point_dz m c H W T B D hH hW hT hB hD t i j

open Cert.FfnUpRefIdeal.Value in
include hH hW hT hB hZ hD rH rW rT rB rZ rD in
theorem final_taps : (dats m 0 c).arrAt 13 (cfgs 0).N = resT (upV H W) (dact H W T B Z D) := by
  refine (dats m 0 c).arrAt_eq_of_covers 13 _ (by decide +kernel) fun t hf y => ?_
  obtain ⟨h, k, j, rfl⟩ : ∃ (h : Fin 2) (k : Fin 3) (j : Fin 256), y = (ix3 h k j : S2x3x256.Idx) := ⟨y 0, y 1, y 2, eq_ix3 y⟩
  blk_simp
  rw [after0_13, emb_t]
  by_cases ht : t.val % 13 = 0
  · rw [outsAt0_A m c t ht]
    dsimp only
    frame_out
    canon_tiles x h
    · obtain ⟨rfl, rfl⟩ := piece_index_S1x3x256 1 h k j x h0 x0_lt h1 h2
      exact point_taps_hi m c H W T B Z D hH hW hT hB hZ hD t k j
    · obtain ⟨rfl, rfl⟩ := piece_index_S1x3x256 0 h k j x (h0.trans (Nat.zero_add _).symm) x0_lt h1 h2
      exact point_taps_lo m c H W T B Z D hH hW hT hB hZ hD rH rW rT rB rZ rD t k j
  · rw [outsAt0_B m c t ht]
    dsimp only
    frame_out
    canon_tiles x h
    · obtain ⟨rfl, rfl⟩ := piece_index_S1x3x256 1 h k j x h0 x0_lt h1 h2
      exact point_taps_hi m c H W T B Z D hH hW hT hB hZ hD t k j
    · obtain ⟨rfl, rfl⟩ := piece_index_S1x3x256 0 h k j x (h0.trans (Nat.zero_add _).symm) x0_lt h1 h2
      exact point_taps_lo m c H W T B Z D hH hW hT hB hZ hD rH rW rT rB rZ rD t k j

open Cert.FfnUpRefIdeal.Value in
include hH hW hT hB hZ hD rH rW rT rB rZ rD in
theorem final_bias : (dats m 0 c).arrAt 14 (cfgs 0).N = resB (dact H W T B Z D) := by
  refine (dats m 0 c).arrAt_eq_of_covers 14 _ (by decide +kernel) fun t hf y => ?_
  obtain ⟨h, k, j, rfl⟩ : ∃ (h : Fin 2) (k : Fin 1) (j : Fin 256), y = (ix3 h k j : S2x1x256.Idx) := ⟨y 0, y 1, y 2, eq_ix3 y⟩
  obtain rfl : k = 0 := Subsingleton.elim _ _
  blk_simp
  rw [after0_14, emb_b]
  by_cases ht : t.val % 13 = 0
  · rw [outsAt0_A m c t ht]
    dsimp only
    frame_out
    canon_tiles x h
    · obtain ⟨rfl, rfl⟩ := piece_index_S1x1x256 1 h 0 j x h0 x0_lt h1 h2
      exact point_bias_hi m c H W T B Z D hH hW hT hB hZ hD t j
    · obtain ⟨rfl, rfl⟩ := piece_index_S1x1x256 0 h 0 j x (h0.trans (Nat.zero_add _).symm) x0_lt h1 h2
      exact point_bias_lo m c H W T B Z D hH hW hT hB hZ hD rH rW rT rB rZ rD t j
  · rw [outsAt0_B m c t ht]
    dsimp only
    frame_out
    canon_tiles x h
    · obtain ⟨rfl, rfl⟩ := piece_index_S1x1x256 1 h 0 j x h0 x0_lt h1 h2
      exact point_bias_hi m c H W T B Z D hH hW hT hB hZ hD t j
    · obtain ⟨rfl, rfl⟩ := piece_index_S1x1x256 0 h 0 j x (h0.trans (Nat.zero_add _).symm) x0_lt h1 h2
      exact point_bias_lo m c H W T B Z D hH hW hT hB hZ hD rH rW rT rB rZ rD t j

/-- Reading a half of the scratch array. -/
theorem scr_ld0 (X : FVec Ideal S2x2048x256 .bf16) (h : (Memref.whole cc0_scratch0 : Memref sig .tc .vmem S2x2048x256 .bf16).IsWhole) (r : Fin 2048) (j : Fin 256) :
    (show FVec Ideal S1x2048x256 .bf16 from View.ld (View.read (Elt Ideal) (View.whole cc0_scratch0) (h.unread (Val := Elt Ideal) X)) (Rect.unit ![0, 0, 0] ![1, 2048, 256] inb_S2x2048x256_S1x2048x256_0_0_0)) (ix3 0 r j) = X (ix3 0 r j) := by
  have e : View.read (Elt Ideal) (View.whole cc0_scratch0) (h.unread (Val := Elt Ideal) X) = X := h.read_unread (Val := Elt Ideal) X
  rw [e]
  pointwise
theorem scr_ld1 (X : FVec Ideal S2x2048x256 .bf16) (h : (Memref.whole cc0_scratch0 : Memref sig .tc .vmem S2x2048x256 .bf16).IsWhole) (r : Fin 2048) (j : Fin 256) :
    (show FVec Ideal S1x2048x256 .bf16 from View.ld (View.read (Elt Ideal) (View.whole cc0_scratch0) (h.unread (Val := Elt Ideal) X)) (Rect.unit ![1, 0, 0] ![1, 2048, 256] inb_S2x2048x256_S1x2048x256_1_0_0)) (ix3 0 r j) = X (ix3 1 r j) := by
  have e : View.read (Elt Ideal) (View.whole cc0_scratch0) (h.unread (Val := Elt Ideal) X) = X := h.read_unread (Val := Elt Ideal) X
  rw [e]
  pointwise

/-- The step before: its block is the one whose projection a step takes. -/
abbrev before (t : Fin cfg0.N) : Fin cfg0.N := ⟨t.val - 1, Nat.lt_of_le_of_lt (Nat.sub_le _ _) t.isLt⟩
theorem ccol_before (t : Fin cfg0.N) (j : Fin 256) : ccol (before t) j = pcol t j := by
  apply Fin.ext
  have h : t.val - 1 ≤ 11 := prev_le t
  show min (t.val - 1) 11 * 256 + j.val = (t.val - 1) * 256 + j.val
  rw [Nat.min_eq_left h]

open Cert.FfnUpRefIdeal.Value in
include hH hW hT hB hZ hD rH rW rT rB rZ rD in
theorem scr_before (t : Fin cfg0.N) (r : Fin 2048) (j : Fin 256) :
    (show FVec Ideal S2x2048x256 .bf16 from (outsAt0 m c (t.val - 1) (Nat.lt_of_le_of_lt (Nat.sub_le _ _) t.isLt)).2.2.2.2.2) (ix3 0 r j)
      = convBack (dact H W T B Z D) T (ix3 0 r (lo (pcol t j)))
    ∧ (show FVec Ideal S2x2048x256 .bf16 from (outsAt0 m c (t.val - 1) (Nat.lt_of_le_of_lt (Nat.sub_le _ _) t.isLt)).2.2.2.2.2) (ix3 1 r j)
      = convBack (dact H W T B Z D) T (ix3 0 r (hi (pcol t j))) := by
  rw [← ccol_before]
  exact ⟨scr_at m c H W T B Z D hH hW hT hB hZ hD rH rW rT rB rZ rD (before t) 0 r j, scr_at m c H W T B Z D hH hW hT hB hZ hD rH rW rT rB rZ rD (before t) 1 r j⟩

open Cert.FfnUpRefIdeal.Value in
include hH in
theorem point_dw_lo (t : Fin cfg0.N) (P : FVec Ideal S1x2048x6144 .f32) (g : FVec Ideal S1x2048x256 .bf16)
    (hg : ∀ r j, g (ix3 0 r j) = P (ix3 0 r (lo (pcol t j)))) (i : Fin 1024) (j : Fin 256) :
    k0_pay11 (F := Ideal) (k0_pay10 g (iblk m c 9 t)) (ix3 0 i j) = resW P H (ix3 0 i (pcol t j)) := by
  refine (pay_dwg _ _ i j).trans (Eq.trans (Finset.sum_congr rfl fun r _ => ?_) ((resW_at0 P H i (pcol t j)).trans (gradW_at P H i _)).symm)
  exact (congrArg₂ (fun a b : EReal => a * b) (blk_h m c H hH t i r) (hg r j)).trans (mul_comm (G := EReal) _ _)
open Cert.FfnUpRefIdeal.Value in
include hH in
theorem point_dw_hi (t : Fin cfg0.N) (P : FVec Ideal S1x2048x6144 .f32) (g : FVec Ideal S1x2048x256 .bf16)
    (hg : ∀ r j, g (ix3 0 r j) = P (ix3 0 r (hi (pcol t j)))) (i : Fin 1024) (j : Fin 256) :
    k0_pay12 (F := Ideal) (k0_pay7 g) (k0_pay8 (iblk m c 9 t)) (ix3 0 i j) = resW P H (ix3 1 i (pcol t j)) := by
  refine (pay_dwv _ _ i j).trans (Eq.trans (Finset.sum_congr rfl fun r _ => ?_) ((resW_at1 P H i (pcol t j)).trans (gradW_at P H i _)).symm)
  exact (congrArg₂ (fun a b : EReal => a * b) (blk_h m c H hH t i r) (hg r j)).trans (mul_comm (G := EReal) _ _)

open Cert.FfnUpRefIdeal.Value in
include hH hW hT hB hZ hD rH rW rT rB rZ rD in
theorem final_dw : (dats m 0 c).arrAt 11 (cfgs 0).N = resW (convBack (dact H W T B Z D) T) H := by
  refine (dats m 0 c).arrAt_eq_of_covers 11 _ (by decide +kernel) fun t hf y => ?_
  obtain ⟨h, i, j, rfl⟩ : ∃ (h : Fin 2) (i : Fin 1024) (j : Fin 256), y = (ix3 h i j : S2x1024x256.Idx) := ⟨y 0, y 1, y 2, eq_ix3 y⟩
  have ht : ¬ t.val % 13 = 0 := (by decide +kernel : ∀ t : Fin cfg0.N, (cfg0.win 11).flush t = true → ¬ t.val % 13 = 0) t hf
  blk_simp
  rw [after0_11, emb_w]
  rw [outsAt0_B m c t ht]
  dsimp only
  frame_out
  canon_tiles x h
  · obtain ⟨rfl, rfl⟩ := piece_index_S1x1024x256 1 h i j x h0 x0_lt h1 h2
    exact point_dw_hi m c H hH t (convBack (dact H W T B Z D) T) _
      (fun r j => (scr_ld1 _ _ r j).trans (scr_before m c H W T B Z D hH hW hT hB hZ hD rH rW rT rB rZ rD t r j).2) i j
  · obtain ⟨rfl, rfl⟩ := piece_index_S1x1024x256 0 h i j x (h0.trans (Nat.zero_add _).symm) x0_lt h1 h2
    exact point_dw_lo m c H hH t (convBack (dact H W T B Z D) T) _
      (fun r j => (scr_ld0 _ _ r j).trans (scr_before m c H W T B Z D hH hW hT hB hZ hD rH rW rT rB rZ rD t r j).1) i j

/-- What a step adds to the first result: nothing in the first one, and then the block of the step before. -/
def term (P : FVec Ideal S1x2048x6144 .f32) (t : Fin cfg0.N) (i : S2048x1024.Idx) : EReal :=
  if t.val = 0 then 0 else ∑ k : Fin 256, P (ix3 0 (i 0) (lo (pcol t k))) * W (ix3 0 (i 1) (lo (pcol t k)))
    + ∑ k : Fin 256, P (ix3 0 (i 0) (hi (pcol t k))) * W (ix3 0 (i 1) (hi (pcol t k)))

include hW in
theorem point_dh (t : Fin cfg0.N) (ht : ¬ t.val = 0) (P : FVec Ideal S1x2048x6144 .f32) (g v : FVec Ideal S1x2048x256 .bf16) (a : FVec Ideal S2048x1024 .f32)
    (hg : ∀ r j, g (ix3 0 r j) = P (ix3 0 r (lo (pcol t j)))) (hv : ∀ r j, v (ix3 0 r j) = P (ix3 0 r (hi (pcol t j)))) (r : Fin 2048) (j : Fin 1024) :
    k0_pay9 (F := Ideal) g v a (iblk m c 7 t) (iblk m c 8 t) (ix2 r j) = a (ix2 r j) + term W P t (ix2 r j) := by
  refine (pay_dh _ _ _ _ _ r j).trans (congrArg (fun b : EReal => _ + b) ?_)
  unfold term
  rw [if_neg ht]
  exact congrArg₂ (fun a b : EReal => a + b)
    (Finset.sum_congr rfl fun k _ => congrArg₂ (fun a b : EReal => a * b) (hg r k) (blk_w0 m c W hW t j k))
    (Finset.sum_congr rfl fun k _ => congrArg₂ (fun a b : EReal => a * b) (hv r k) (blk_w1 m c W hW t j k))

theorem point_dh0 (t : Fin cfg0.N) (ht : t.val = 0) (P : FVec Ideal S1x2048x6144 .f32) (g v : FVec Ideal S1x2048x256 .bf16)
    (hg : ∀ r j, g (ix3 0 r j) = 0) (hv : ∀ r j, v (ix3 0 r j) = 0) (r : Fin 2048) (j : Fin 1024) :
    k0_pay9 (F := Ideal) g v (k0_pay3 (F := Ideal)) (iblk m c 7 t) (iblk m c 8 t) (ix2 r j) = 0 + term W P t (ix2 r j) := by
  refine (pay_dh _ _ _ _ _ r j).trans ?_
  unfold term
  rw [if_pos ht, zero_dh]
  refine congrArg (fun b : EReal => 0 + b) ?_
  have e0 : ∀ k : Fin 256, g (ix3 0 r k) * (show FVec Ideal S1x1024x256 .bf16 from iblk m c 7 t) (ix3 0 j k) = (0 : EReal) := fun k => by rw [hg]; exact zero_mul (M₀ := EReal) _
  have e1 : ∀ k : Fin 256, v (ix3 0 r k) * (show FVec Ideal S1x1024x256 .bf16 from iblk m c 8 t) (ix3 0 j k) = (0 : EReal) := fun k => by rw [hv]; exact zero_mul (M₀ := EReal) _
  exact (congrArg₂ (fun a b : EReal => a + b) (Finset.sum_eq_zero fun k _ => e0 k) (Finset.sum_eq_zero fun k _ => e1 k)).trans (add_zero _)

open Cert.FfnUpRefIdeal.Value in
include hH hW hT hB hZ hD rH rW rT rB rZ rD in
theorem final_dh : (dats m 0 c).arrAt 10 (cfgs 0).N = resH (convBack (dact H W T B Z D) T) W := by
  refine (dats m 0 c).arrAt_eq_of_after_last 10 t0_12 (by decide +kernel) _ fun y => ?_
  obtain ⟨r, j, rfl⟩ : ∃ (r : Fin 2048) (j : Fin 1024), y = (ix2 r j : S2048x1024.Idx) := ⟨y 0, y 1, eq_ix2 y⟩
  blk_simp
  rw [after0_10, Pipeline.eq_sum_fin_of_reset_step_apply_last (fun n h => (outsAt0 m c n h).1) 13 (fun _ => 0)
    (fun p i => term W (convBack (dact H W T B Z D) T) p i)
    (fun t h i => by
      obtain ⟨r, j, rfl⟩ : ∃ (r : Fin 2048) (j : Fin 1024), i = (ix2 r j : S2048x1024.Idx) := ⟨i 0, i 1, eq_ix2 i⟩
      rw [outsAt0_A m c t h]; dsimp only; frame_out
      exact point_dh0 m c W t (by have := lt_of_lt_of_eq t.isLt N_0; omega) _ _ _
        (fun r j => (congrFun (View.readCov_fill _ _ _ _ _ (by decide)) _).trans (zero_scr _)) (fun r j => (congrFun (View.readCov_fill _ _ _ _ _ (by decide)) _).trans (zero_scr _)) r j)
    (fun t h i => by
      obtain ⟨r, j, rfl⟩ : ∃ (r : Fin 2048) (j : Fin 1024), i = (ix2 r j : S2048x1024.Idx) := ⟨i 0, i 1, eq_ix2 i⟩
      rw [outsAt0_B m c t h]; dsimp only; frame_out
      exact point_dh m c W hW t (fun h0 => h (by rw [h0])) (convBack (dact H W T B Z D) T) _ _ _
        (fun r j => (scr_ld0 _ _ r j).trans (scr_before m c H W T B Z D hH hW hT hB hZ hD rH rW rT rB rZ rD t r j).1)
        (fun r j => (scr_ld1 _ _ r j).trans (scr_before m c H W T B Z D hH hW hT hB hZ hD rH rW rT rB rZ rD t r j).2) r j)
    (le_of_eq N_0) t0_12 rfl _, zero_add]
  refine Eq.trans ?_ (resH_at _ W r j).symm
  exact Cert.FfnUp.sum_blocks _ (fun k => convBack (dact H W T B Z D) T (ix3 0 r k) * W (ix3 0 j k)) rfl fun q => rfl

end
end Cert.FfnUpIdeal.Value

end
-- ==== Proof.FfnUpClaim.lean ====
/- The claims about the gradient through the gated ConvFFN, from the two programs' runs. -/
module

public import proofs.«01_k».proof.Defs
public import proofs.«01_k».proof.Proof.FfnUp
public import proofs.«01_k».proof.Proof.Gen.FfnUp.Frame
public import proofs.«01_k».proof.Proof.Gen.Pre_ffn_up_finite

@[expose] public section

set_option maxRecDepth 16384

noncomputable section

namespace Cert.FfnUpRefIdeal.Value
open Cert.FfnUpRefIdeal Cert.FfnUpRefIdeal.Gen Idealize.ShloMosaic Idealize.ShloMosaic.TcCoe Idealize.SL.Sem
open Idealize.ShloMosaic.StableHlo (launchContents)

section
variable (m : (ℓ : Loc nD τ sig) → Buf (Elt Ideal) ℓ) (c : Dev nD)
    (H : FVec Ideal S1x2048x1024 .f32) (W : FVec Ideal S1x1024x6144 .f32) (T : FVec Ideal S1x3x6144 .f32) (B : FVec Ideal S1x6144 .f32)
    (Z : FVec Ideal S1x3072x1024 .f32) (D : FVec Ideal S1x2048x1024 .f32)
    (hH : m ((c.tc : Thread nD τ).loc main_arg0) = H) (hW : m ((c.tc : Thread nD τ).loc main_arg1) = W)
    (hT : m ((c.tc : Thread nD τ).loc main_arg2) = T) (hB : m ((c.tc : Thread nD τ).loc main_arg3) = B)
    (hZ : m ((c.tc : Thread nD τ).loc main_arg4) = Z) (hD : m ((c.tc : Thread nD τ).loc main_arg5) = D)

include hH hW hT hB hZ hD
theorem resH_run : shapeCast S2048x1024 (Host.dotGeneral (φ₁ := .f32) (φ₂ := .f32) dot_S1x2048x6144_S1024x6144_S1x2048x1024_2_1_01_0_n_n none (res_main_v111 (launchContents m c)) (res_main_v0 (launchContents m c))) shapeCasts_S1x2048x1024_S2048x1024
    = resH (convBack (dact H W T B Z D) T) W := resH_eq m c H W T B Z D hH hW hT hB hZ hD
theorem resW_run : truncf .bf16 (concatenate S2x1024x3072 0 [⟨S1x1024x3072, (extractStridedSlice S1x1024x3072 ![0, 0, 0] (res_main_v117 (launchContents m c)) slices_S1x1024x6144_S1x1024x3072_0_0_0)⟩, ⟨S1x1024x3072, (extractStridedSlice S1x1024x3072 ![0, 0, 3072] (res_main_v117 (launchContents m c)) slices_S1x1024x6144_S1x1024x3072_0_0_3072)⟩] concatenates_S1x1024x3072_S1x1024x3072_S2x1024x3072_d0) bitsLt_bf16_f32
    = resW (convBack (dact H W T B Z D) T) H := by rw [gradW_eq m c H W T B Z D hH hW hT hB hZ hD]; rfl
theorem resZ_run : truncf .bf16 (shapeCast S3072x1024 (broadcastInDim S1x3072x1024 ![1, 2] bcast_S3072x1024_S1x3072x1024_1_2 (transpose S3072x1024 [1, 0] (Host.dotGeneral (φ₁ := .f32) (φ₂ := .f32) dot_S1x2048x1024_S1x2048x3072_S1024x3072_01_01_2_2_n_n none D (res_main_v54 (launchContents m c))) transposes_S1024x3072_S3072x1024_1_0)) shapeCasts_S1x3072x1024_S3072x1024) bitsLt_bf16_f32
    = resZ D (fV (act H W T B)) := by rw [v54_eq m c H W T B Z D hH hW hT hB hZ hD]; rfl
theorem resT_run : concatenate S2x3x3072 0 [⟨S1x3x3072, (extractStridedSlice S1x3x3072 ![0, 0, 0] (res_main_v113 (launchContents m c)) slices_S1x3x6144_S1x3x3072_0_0_0)⟩, ⟨S1x3x3072, (extractStridedSlice S1x3x3072 ![0, 0, 3072] (res_main_v113 (launchContents m c)) slices_S1x3x6144_S1x3x3072_0_0_3072)⟩] concatenates_S1x3x3072_S1x3x3072_S2x3x3072_d0
    = resT (upV H W) (dact H W T B Z D) := by rw [v113_eq m c H W T B Z D hH hW hT hB hZ hD]; rfl
theorem resB_run : concatenate S2x1x3072 0 [⟨S1x1x3072, (extractStridedSlice S1x1x3072 ![0, 0, 0] (res_main_v128 (launchContents m c)) slices_S1x1x6144_S1x1x3072_0_0_0)⟩, ⟨S1x1x3072, (extractStridedSlice S1x1x3072 ![0, 0, 3072] (res_main_v128 (launchContents m c)) slices_S1x1x6144_S1x1x3072_0_0_3072)⟩] concatenates_S1x1x3072_S1x1x3072_S2x1x3072_d0
    = resB (dact H W T B Z D) := by rw [bias_eq m c H W T B Z D hH hW hT hB hZ hD]; rfl
end
end Cert.FfnUpRefIdeal.Value

namespace Cert.Proof

open Idealize.ShloMosaic Idealize.SL.Sem Cert.Reals Cert.Gelu

theorem ffnUp_frame : Cert.quiescent_FfnUp := fun m g _ => Cert.FfnUp.Gen.frame m g

theorem ffnUp_frameIdeal : Cert.quiescent_FfnUpIdeal := fun m g _ => Cert.FfnUpIdeal.Gen.frame m g

theorem ffnUp_frameRef : Cert.quiescent_FfnUpRefIdeal := fun m g _ =>
  (θ_run Cert.FfnUpRefIdeal.defs _ _).mono (fun r h => ⟨fun c => (h c).2.2.2.2.2, sem_eq_zero_of_no_sems (by decide) r.2⟩)
    (Cert.FfnUpRefIdeal.Value.run m g)

/-- The two constants of the gelu's derivative that the kernel names. -/
theorem ffnUp_preserves : Cert.preserves_FfnUp_FfnUpIdeal :=
  ⟨IdealRules.named_const.statement _ _ _ _ _ rfl, IdealRules.named_const.statement _ _ _ _ _ rfl⟩

/-- The five result arrays agree where the argument arrays hold real numbers. -/
theorem ffnUp_results (m : (ℓ : Loc Cert.FfnUpIdeal.nD Cert.FfnUpIdeal.τ Cert.FfnUpIdeal.sig) → Buf (Elt Ideal) ℓ) (c : Dev Cert.FfnUpIdeal.nD)
    (H : FVec Ideal Cert.FfnUpIdeal.S1x2048x1024 .f32)
    (W : FVec Ideal Cert.FfnUpIdeal.S1x1024x6144 .f32)
    (T : FVec Ideal Cert.FfnUpIdeal.S1x3x6144 .f32)
    (B : FVec Ideal Cert.FfnUpIdeal.S1x6144 .f32)
    (Z : FVec Ideal Cert.FfnUpIdeal.S1x3072x1024 .f32)
    (D : FVec Ideal Cert.FfnUpIdeal.S1x2048x1024 .f32)
    (h0 : m ((c.tc : Thread _ _).loc Cert.FfnUpIdeal.main_arg0) = H)
    (h1 : m ((c.tc : Thread _ _).loc Cert.FfnUpIdeal.main_arg1) = W)
    (h2 : m ((c.tc : Thread _ _).loc Cert.FfnUpIdeal.main_arg2) = T)
    (h3 : m ((c.tc : Thread _ _).loc Cert.FfnUpIdeal.main_arg3) = B)
    (h4 : m ((c.tc : Thread _ _).loc Cert.FfnUpIdeal.main_arg4) = Z)
    (h5 : m ((c.tc : Thread _ _).loc Cert.FfnUpIdeal.main_arg5) = D)
    (rH : ∃ x : Cert.FfnUpIdeal.S1x2048x1024.Idx → ℝ, H = fun i => (x i : EReal))
    (rW : ∃ x : Cert.FfnUpIdeal.S1x1024x6144.Idx → ℝ, W = fun i => (x i : EReal))
    (rT : ∃ x : Cert.FfnUpIdeal.S1x3x6144.Idx → ℝ, T = fun i => (x i : EReal))
    (rB : ∃ x : Cert.FfnUpIdeal.S1x6144.Idx → ℝ, B = fun i => (x i : EReal))
    (rZ : ∃ x : Cert.FfnUpIdeal.S1x3072x1024.Idx → ℝ, Z = fun i => (x i : EReal))
    (rD : ∃ x : Cert.FfnUpIdeal.S1x2048x1024.Idx → ℝ, D = fun i => (x i : EReal)) :
    Cert.FfnUpRefIdeal.Value.resH (Cert.FfnUpRefIdeal.Value.convBack (Cert.FfnUpRefIdeal.Value.dact H W T B Z D) T) W = (Cert.FfnUpIdeal.Gen.dats m 0 c).arrAt 10 Cert.FfnUpIdeal.cfg0.N
    ∧ Cert.FfnUpRefIdeal.Value.resW (Cert.FfnUpRefIdeal.Value.convBack (Cert.FfnUpRefIdeal.Value.dact H W T B Z D) T) H = (Cert.FfnUpIdeal.Gen.dats m 0 c).arrAt 11 Cert.FfnUpIdeal.cfg0.N
    ∧ Cert.FfnUpRefIdeal.Value.resZ D (Cert.FfnUpRefIdeal.Value.fV (Cert.FfnUpRefIdeal.Value.act H W T B)) = (Cert.FfnUpIdeal.Gen.dats m 0 c).arrAt 12 Cert.FfnUpIdeal.cfg0.N
    ∧ Cert.FfnUpRefIdeal.Value.resT (Cert.FfnUpRefIdeal.Value.upV H W) (Cert.FfnUpRefIdeal.Value.dact H W T B Z D) = (Cert.FfnUpIdeal.Gen.dats m 0 c).arrAt 13 Cert.FfnUpIdeal.cfg0.N
    ∧ Cert.FfnUpRefIdeal.Value.resB (Cert.FfnUpRefIdeal.Value.dact H W T B Z D) = (Cert.FfnUpIdeal.Gen.dats m 0 c).arrAt 14 Cert.FfnUpIdeal.cfg0.N := by
  have rH : ∀ i, IsReal (H i) := by obtain ⟨x, rfl⟩ := rH; exact fun i => ⟨x i, rfl⟩
  have rW : ∀ i, IsReal (W i) := by obtain ⟨x, rfl⟩ := rW; exact fun i => ⟨x i, rfl⟩
  have rT : ∀ i, IsReal (T i) := by obtain ⟨x, rfl⟩ := rT; exact fun i => ⟨x i, rfl⟩
  have rB : ∀ i, IsReal (B i) := by obtain ⟨x, rfl⟩ := rB; exact fun i => ⟨x i, rfl⟩
  have rZ : ∀ i, IsReal (Z i) := by obtain ⟨x, rfl⟩ := rZ; exact fun i => ⟨x i, rfl⟩
  have rD : ∀ i, IsReal (D i) := by obtain ⟨x, rfl⟩ := rD; exact fun i => ⟨x i, rfl⟩
  exact ⟨(Cert.FfnUpIdeal.Value.final_dh m c H W T B Z D h0 h1 h2 h3 h4 h5 rH rW rT rB rZ rD).symm, (Cert.FfnUpIdeal.Value.final_dw m c H W T B Z D h0 h1 h2 h3 h4 h5 rH rW rT rB rZ rD).symm, (Cert.FfnUpIdeal.Value.final_dz m c H W T B D h0 h1 h2 h3 h5).symm,
    (Cert.FfnUpIdeal.Value.final_taps m c H W T B Z D h0 h1 h2 h3 h4 h5 rH rW rT rB rZ rD).symm, (Cert.FfnUpIdeal.Value.final_bias m c H W T B Z D h0 h1 h2 h3 h4 h5 rH rW rT rB rZ rD).symm⟩

theorem ffnUp_value : Cert.algebraic_FfnUpIdeal_FfnUpRefIdeal_pre_ffn_up_finite := by
  pair_intro
  · run_from Cert.FfnUpIdeal.Value.run_blocks m g
  · have key := fun c => ffnUp_results m c _ _ _ _ _ _ rfl rfl rfl rfl rfl rfl (exists_real_of_abs_lt _ _ (hpre c).1)
      (exists_real_of_abs_lt _ _ (hpre c).2.1) (exists_real_of_abs_lt _ _ (hpre c).2.2.1) (exists_real_of_abs_lt _ _ (hpre c).2.2.2.1)
      (exists_real_of_abs_lt _ _ (hpre c).2.2.2.2.1) (exists_real_of_abs_lt _ _ (hpre c).2.2.2.2.2)
    run_from Cert.FfnUpRefIdeal.Value.run m' g'
    · exact (Cert.FfnUpRefIdeal.Value.resH_run m' c _ _ _ _ _ _ (hagree c).1 (hagree c).2.1 (hagree c).2.2.1 (hagree c).2.2.2.1 (hagree c).2.2.2.2.1 (hagree c).2.2.2.2.2).trans (key c).1
    · exact (Cert.FfnUpRefIdeal.Value.resW_run m' c _ _ _ _ _ _ (hagree c).1 (hagree c).2.1 (hagree c).2.2.1 (hagree c).2.2.2.1 (hagree c).2.2.2.2.1 (hagree c).2.2.2.2.2).trans (key c).2.1
    · exact (Cert.FfnUpRefIdeal.Value.resZ_run m' c _ _ _ _ _ _ (hagree c).1 (hagree c).2.1 (hagree c).2.2.1 (hagree c).2.2.2.1 (hagree c).2.2.2.2.1 (hagree c).2.2.2.2.2).trans (key c).2.2.1
    · exact (Cert.FfnUpRefIdeal.Value.resT_run m' c _ _ _ _ _ _ (hagree c).1 (hagree c).2.1 (hagree c).2.2.1 (hagree c).2.2.2.1 (hagree c).2.2.2.2.1 (hagree c).2.2.2.2.2).trans (key c).2.2.2.1
    · exact (Cert.FfnUpRefIdeal.Value.resB_run m' c _ _ _ _ _ _ (hagree c).1 (hagree c).2.1 (hagree c).2.2.1 (hagree c).2.2.2.1 (hagree c).2.2.2.2.1 (hagree c).2.2.2.2.2).trans (key c).2.2.2.2

end Cert.Proof

end
-- ==== Proof.FfnAct.lean ====
/- The feed-forward's projection, its short convolution and the gated activation: the kernel's three result arrays are the reference's. -/
module

public import proofs.«01_k».proof.Proof.FfnUpBlk
public import proofs.«01_k».proof.Proof.Gen.FfnActIdeal.Value
public import proofs.«01_k».proof.Proof.Gen.FfnActRefIdeal.Run

@[expose] public section

set_option maxRecDepth 16384

noncomputable section

open Idealize.ShloMosaic Idealize.ShloMosaic.TcCoe Idealize.SL.Sem
open Idealize.ShloMosaic.Pipeline (Dat)

namespace Cert.FfnActRefIdeal.Value
open Cert.FfnUpRefIdeal Cert.FfnUpRefIdeal.Gen Cert.FfnUpRefIdeal.Value

/-- The hyperbolic tangent in the activation, with the constant rounded as the forward pass has it. -/
def tanhF (G : FVec Ideal S1x2048x3072 .f32) : FVec Ideal S1x2048x3072 .f32 :=
  Host.tanh (mulf (fill 0x3F4C422A#32) (addf G (mulf (fill 0x3D372713#32) (mulf (mulf G G) G))))

/-- The gated product. -/
def gatedF (A : FVec Ideal S1x2048x6144 .f32) : FVec Ideal S1x2048x3072 .f32 :=
  mulf (mulf (gateV A) (mulf (fill 0x3F000000#32) (addf (fill 0x3F800000#32) (tanhF (gateV A))))) (valV A)

/-- The same tangent of one number. -/
def thF (g : EReal) : EReal := Ideal.tanh (Ideal.ofBits .f32 0x3F4C422A#32 * (g + Ideal.ofBits .f32 0x3D372713#32 * (g * g * g)))

theorem tanhF_at (G : FVec Ideal S1x2048x3072 .f32) (r : Fin 2048) (j : Fin 3072) : tanhF G (ix3 0 r j) = thF (G (ix3 0 r j)) := by
  pointwise [tanhF, fill, thF]

theorem gatedF_at (A : FVec Ideal S1x2048x6144 .f32) (r : Fin 2048) (j : Fin 3072) :
    gatedF A (ix3 0 r j) = gateV A (ix3 0 r j) * (Ideal.ofBits .f32 0x3F000000#32 * (1 + thF (gateV A (ix3 0 r j)))) * valV A (ix3 0 r j) := by
  pointwise [gatedF, fill, tanhF_at]

end Cert.FfnActRefIdeal.Value

namespace Cert.FfnActIdeal.Value
open Cert.FfnActIdeal Cert.FfnActIdeal.Gen Cert.Conv
open Cert.FfnActRefIdeal.Value (thF gatedF gatedF_at)
open Cert.FfnUpRefIdeal.Value (upV upV_at act convV_at gateV valV gateV_at valV_at)
open Cert.FfnUpIdeal.Value (lo hi halves halves_at0 halves_at1 truncf_halves quarters quarters_at)

theorem pay_gu (h : FVec Ideal S2048x1024 .bf16) (w : FVec Ideal S1x1024x256 .bf16) (r : Fin 2048) (j : Fin 256) :
    k0_pay5 (F := Ideal) h w (ix2 r j) = ∑ k : Fin 1024, h (ix2 r k) * w (ix3 0 k j) := by
  pointwise [k0_pay5, k0_pay4]

theorem pay_vu (h : FVec Ideal S2048x1024 .bf16) (w : FVec Ideal S1x1024x256 .bf16) (r : Fin 2048) (j : Fin 256) :
    k0_pay6 (F := Ideal) h w (ix2 r j) = ∑ k : Fin 1024, h (ix2 r k) * w (ix3 0 k j) := by
  pointwise [k0_pay6, k0_pay4]

theorem pay_gu3 (h : FVec Ideal S2048x1024 .bf16) (w : FVec Ideal S1x1024x256 .bf16) (r : Fin 2048) (j : Fin 256) :
    k0_pay7 (F := Ideal) h w (ix3 0 r j) = k0_pay5 (F := Ideal) h w (ix2 r j) := by
  pointwise [k0_pay7]

theorem pay_vu3 (h : FVec Ideal S2048x1024 .bf16) (w : FVec Ideal S1x1024x256 .bf16) (r : Fin 2048) (j : Fin 256) :
    k0_pay8 (F := Ideal) h w (ix3 0 r j) = k0_pay6 (F := Ideal) h w (ix2 r j) := by
  pointwise [k0_pay8]

theorem pay_down1 (h : FVec Ideal S2048x1024 .bf16) (w : FVec Ideal S1x1024x256 .bf16) (r : Fin 2048) (j : Fin 256) :
    k0_pay9 (F := Ideal) h w (ix2 r j) = down 1 (fun r => k0_pay5 (F := Ideal) h w (ix2 r j)) r := by
  pointwise [k0_pay9]
  exact choose_down 1 (by norm_num) (by norm_num) (fun r => k0_pay5 (F := Ideal) h w (ix2 r j)) r _ fun h => by simp only; omega

theorem pay_down2 (h : FVec Ideal S2048x1024 .bf16) (w : FVec Ideal S1x1024x256 .bf16) (r : Fin 2048) (j : Fin 256) :
    k0_pay10 (F := Ideal) h w (ix2 r j) = down 2 (fun r => k0_pay5 (F := Ideal) h w (ix2 r j)) r := by
  pointwise [k0_pay10]
  exact choose_down 2 (by norm_num) (by norm_num) (fun r => k0_pay5 (F := Ideal) h w (ix2 r j)) r _ fun h => by simp only; omega

theorem pay_gate (h : FVec Ideal S2048x1024 .bf16) (w : FVec Ideal S1x1024x256 .bf16) (b e2 e1 e0 : FVec Ideal S1x256 .f32) (r : Fin 2048) (j : Fin 256) :
    k0_pay12 (F := Ideal) b (k0_pay9 h w) (k0_pay10 h w) (k0_pay11 h w e2) e1 e0 (ix2 r j)
      = e2 (ix2 0 j) * k0_pay5 (F := Ideal) h w (ix2 r j) + e1 (ix2 0 j) * down 1 (fun r => k0_pay5 (F := Ideal) h w (ix2 r j)) r
        + e0 (ix2 0 j) * down 2 (fun r => k0_pay5 (F := Ideal) h w (ix2 r j)) r + b (ix2 0 j) := by
  rw [← pay_down1, ← pay_down2]
  pointwise [k0_pay12, k0_pay11]

theorem pay_val (p : FVec Ideal S2048x256 .f32) (b e2 e1 e0 : FVec Ideal S1x256 .f32) (r : Fin 2048) (j : Fin 256) :
    k0_pay13 (F := Ideal) p b e2 e1 e0 (ix2 r j)
      = e2 (ix2 0 j) * p (ix2 r j) + e1 (ix2 0 j) * down 1 (fun r => p (ix2 r j)) r + e0 (ix2 0 j) * down 2 (fun r => p (ix2 r j)) r + b (ix2 0 j) := by
  pointwise [k0_pay13]
  rw [← mul_down, ← mul_down]
  refine congrArg₂ (fun s t : EReal => e2 (ix2 0 j) * p (ix2 r j) + s + t + b (ix2 0 j)) ?_ ?_
  · exact choose_down 1 (by norm_num) (by norm_num) (fun r => e1 (ix2 0 j) * p (ix2 r j)) r _ fun h => by simp only; omega
  · exact choose_down 2 (by norm_num) (by norm_num) (fun r => e0 (ix2 0 j) * p (ix2 r j)) r _ fun h => by simp only; omega

theorem pay_gate3 (b : FVec Ideal S1x256 .f32) (x y z : FVec Ideal S2048x256 .f32) (e1 e0 : FVec Ideal S1x256 .f32) (r : Fin 2048) (j : Fin 256) :
    k0_pay1 (F := Ideal) (k0_pay14 b x y z e1 e0) (ix3 0 r j) = k0_pay12 (F := Ideal) b x y z e1 e0 (ix2 r j) := by
  pointwise [k0_pay1, k0_pay14]

theorem pay_val3 (x : FVec Ideal S2048x256 .f32) (r : Fin 2048) (j : Fin 256) : k0_pay2 (F := Ideal) x (ix3 0 r j) = x (ix2 r j) := by
  pointwise [k0_pay2]

theorem pay_f (g v : FVec Ideal S2048x256 .f32) (r : Fin 2048) (j : Fin 256) :
    k0_pay3 (F := Ideal) g v (ix2 r j) = g (ix2 r j) * (Ideal.ofBits .f32 0x3F000000#32 * (1 + thF (g (ix2 r j)))) * v (ix2 r j) := by
  have h : k0_pay3 (F := Ideal) g v (ix2 r j) = Ideal.ofBits .f32 0x3F000000#32 * g (ix2 r j) * (1 + Ideal.tanh (Ideal.ofBits .f32 0x3F4C422A#32
      * (g (ix2 r j) + Ideal.ofBits .f32 0x3D372713#32 * g (ix2 r j) * g (ix2 r j) * g (ix2 r j)))) * v (ix2 r j) := by
    pointwise [k0_pay3]
  rw [h, thF, mul_comm (Ideal.ofBits .f32 0x3F000000#32) (g (ix2 r j)), mul_assoc (g (ix2 r j)) (Ideal.ofBits .f32 0x3F000000#32),
    mul_assoc (Ideal.ofBits .f32 0x3D372713#32) (g (ix2 r j)) (g (ix2 r j)), mul_assoc (Ideal.ofBits .f32 0x3D372713#32) (g (ix2 r j) * g (ix2 r j)) (g (ix2 r j))]

theorem idx : ∀ t : Fin cfg0.N, win0_0.index t = ![0, 0] ∧ win0_1.index t = ![t.val / 6, 0, t.val % 6] ∧ win0_2.index t = ![t.val / 6 + 2, 0, t.val % 6]
    ∧ win0_3.index t = ![0, t.val] ∧ win0_4.index t = ![0, 12 + t.val] ∧ win0_5.index t = ![0, t.val] ∧ win0_6.index t = ![0, 12 + t.val]
    ∧ win0_7.index t = ![0, 0, t.val] ∧ win0_8.index t = ![0, 0, t.val] ∧ win0_9.index t = ![0, t.val] := (by decide +kernel : ∀ t : Fin grid0.N, _)

variable (m : (ℓ : Loc nD τ sig) → Buf (Elt Ideal) ℓ) (c : Dev nD)

theorem lt12 (t : Fin cfg0.N) : t.val < 12 := lt_of_lt_of_eq t.isLt N_0

/-- A column of the array at the grid point that works on it. -/
abbrev col (t : Fin cfg0.N) (j : Fin 256) : Fin 3072 := ⟨t.val * 256 + j.val, by have := lt12 t; omega⟩

theorem piece_index (n k : Fin 2) (r : Fin 2048) (j : Fin 256) (x : S1x2048x256.Idx) (e0 : k.val = n.val + (x 0).val) (e : (x 0).val < 1)
    (e1 : r.val = (x 1).val) (e2 : j.val = (x 2).val) : k = n ∧ x = ix3 0 r j := by
  refine ⟨Fin.ext (by omega), (eq_ix3 x).trans ?_⟩
  exact congr (congrArg₂ ix3 (Fin.ext (by show (x 0).val = 0; omega)) (Fin.ext e1.symm)) (Fin.ext e2.symm)

theorem emb_7 (t : Fin cfg0.N) (h : Fin 2) (r : Fin 2048) (j : Fin 256) :
    ((View.whole main_v7_0).slice (win0_7.rect t)).emb (ix3 h r j : S2x2048x256.Idx) = (ix3 h r (col t j) : S2x2048x3072.Idx) := by
  blk_ext [idx t]
theorem emb_8 (t : Fin cfg0.N) (h : Fin 2) (r : Fin 2048) (j : Fin 256) :
    ((View.whole main_v7_1).slice (win0_8.rect t)).emb (ix3 h r j : S2x2048x256.Idx) = (ix3 h r (col t j) : S2x2048x3072.Idx) := by
  blk_ext [idx t]
theorem emb_9 (t : Fin cfg0.N) (r : Fin 2048) (j : Fin 256) :
    ((View.whole main_v7_2).slice (win0_9.rect t)).emb (ix2 r j : S2048x256.Idx) = (ix2 r (col t j) : S2048x3072.Idx) := by
  blk_ext [idx t]

/-- Where a step finds the projection's columns among the four blocks. -/
abbrev qrow (t : Fin cfg0.N) : Fin 4 := ⟨t.val / 6, by have := lt12 t; omega⟩
abbrev qrow2 (t : Fin cfg0.N) : Fin 4 := ⟨t.val / 6 + 2, by have := lt12 t; omega⟩
abbrev qcol (t : Fin cfg0.N) (j : Fin 256) : Fin 1536 := ⟨t.val % 6 * 256 + j.val, by omega⟩
theorem emb_w0 (t : Fin cfg0.N) (i : Fin 1024) (j : Fin 256) :
    ((View.whole main_v3).slice (win0_1.rect t)).emb (ix3 0 i j : S1x1024x256.Idx) = (ix3 (qrow t) i (qcol t j) : S4x1024x1536.Idx) := by
  blk_ext [idx t]
theorem emb_w1 (t : Fin cfg0.N) (i : Fin 1024) (j : Fin 256) :
    ((View.whole main_v3).slice (win0_2.rect t)).emb (ix3 0 i j : S1x1024x256.Idx) = (ix3 (qrow2 t) i (qcol t j) : S4x1024x1536.Idx) := by
  blk_ext [idx t]
theorem lo_col (t : Fin cfg0.N) (j : Fin 256) :
    (⟨(qrow t).val * 1536 + (qcol t j).val, by have := (qrow t).isLt; have := (qcol t j).isLt; omega⟩ : Fin 6144) = lo (col t j) := by
  apply Fin.ext
  show t.val / 6 * 1536 + (t.val % 6 * 256 + j.val) = t.val * 256 + j.val
  omega
theorem hi_col (t : Fin cfg0.N) (j : Fin 256) :
    (⟨(qrow2 t).val * 1536 + (qcol t j).val, by have := (qrow2 t).isLt; have := (qcol t j).isLt; omega⟩ : Fin 6144) = hi (col t j) := by
  apply Fin.ext
  show (t.val / 6 + 2) * 1536 + (t.val % 6 * 256 + j.val) = 3072 + (t.val * 256 + j.val)
  omega
theorem emb_t1 (t : Fin cfg0.N) (k : Fin 3) (j : Fin 256) :
    ((View.whole main_v6).slice (win0_4.rect t)).emb (ix2 k j : S3x256.Idx) = (ix2 k (hi (col t j)) : S3x6144.Idx) := by
  blk_ext [idx t]
theorem emb_b1 (t : Fin cfg0.N) (j : Fin 256) :
    ((View.whole main_arg3).slice (win0_6.rect t)).emb (ix2 0 j : S1x256.Idx) = (ix2 0 (hi (col t j)) : S1x6144.Idx) := by
  blk_ext [idx t]

section
variable (H : FVec Ideal S1x2048x1024 .f32) (W : FVec Ideal S1x1024x6144 .f32) (T : FVec Ideal S1x3x6144 .f32) (B : FVec Ideal S1x6144 .f32)
    (hH : m ((c.tc : Thread nD τ).loc main_arg0) = H) (hW : m ((c.tc : Thread nD τ).loc main_arg1) = W)
    (hT : m ((c.tc : Thread nD τ).loc main_arg2) = T) (hB : m ((c.tc : Thread nD τ).loc main_arg3) = B)

include hH in
theorem blk_h (t : Fin cfg0.N) (r : Fin 2048) (k : Fin 1024) : (show FVec Ideal S2048x1024 .bf16 from iblk m c 0 t) (ix2 r k) = H (ix3 0 r k) := by
  subst hH; blk_point [iblk, V, idx t]

include hW in
theorem V_w : V m c main_v3 = quarters W := by
  subst hW
  unfold V
  after_results
  rfl

include hT in
theorem V_t : V m c main_v6 = shapeCast S3x6144 T shapeCasts_S1x3x6144_S3x6144 := by
  subst hT
  unfold V
  after_results
  rfl

include hW in
theorem blk_w0 (t : Fin cfg0.N) (i : Fin 1024) (j : Fin 256) :
    (show FVec Ideal S1x1024x256 .bf16 from iblk m c 1 t) (ix3 0 i j) = W (ix3 0 i (lo (col t j))) := by
  have h : (show FVec Ideal S1x1024x256 .bf16 from iblk m c 1 t) (ix3 0 i j) = V m c main_v3 (ix3 (qrow t) i (qcol t j) : S4x1024x1536.Idx) :=
    congrArg (V m c main_v3) (emb_w0 t i j)
  rw [h, V_w m c W hW]
  exact (quarters_at W _ i _).trans (congrArg (fun k : Fin 6144 => W (ix3 0 i k)) (lo_col t j))

include hW in
theorem blk_w1 (t : Fin cfg0.N) (i : Fin 1024) (j : Fin 256) :
    (show FVec Ideal S1x1024x256 .bf16 from iblk m c 2 t) (ix3 0 i j) = W (ix3 0 i (hi (col t j))) := by
  have h : (show FVec Ideal S1x1024x256 .bf16 from iblk m c 2 t) (ix3 0 i j) = V m c main_v3 (ix3 (qrow2 t) i (qcol t j) : S4x1024x1536.Idx) :=
    congrArg (V m c main_v3) (emb_w1 t i j)
  rw [h, V_w m c W hW]
  exact (quarters_at W _ i _).trans (congrArg (fun k : Fin 6144 => W (ix3 0 i k)) (hi_col t j))

include hT in
theorem blk_t0 (t : Fin cfg0.N) (k : Fin 3) (j : Fin 256) : (show FVec Ideal S3x256 .f32 from iblk m c 3 t) (ix2 k j) = T (ix3 0 k (lo (col t j))) := by
  have h : (show FVec Ideal S3x256 .f32 from iblk m c 3 t) (ix2 k j) = V m c main_v6 (ix2 k (lo (col t j)) : S3x6144.Idx) := by
    blk_point [iblk, idx t]
  rw [h, V_t m c T hT]
  pointwise

include hT in
theorem blk_t1 (t : Fin cfg0.N) (k : Fin 3) (j : Fin 256) : (show FVec Ideal S3x256 .f32 from iblk m c 4 t) (ix2 k j) = T (ix3 0 k (hi (col t j))) := by
  have h : (show FVec Ideal S3x256 .f32 from iblk m c 4 t) (ix2 k j) = V m c main_v6 (ix2 k (hi (col t j)) : S3x6144.Idx) :=
    congrArg (V m c main_v6) (emb_t1 t k j)
  rw [h, V_t m c T hT]
  pointwise

include hB in
theorem blk_b0 (t : Fin cfg0.N) (j : Fin 256) : (show FVec Ideal S1x256 .f32 from iblk m c 5 t) (ix2 0 j) = B (ix2 0 (lo (col t j))) := by
  subst hB; blk_point [iblk, V, idx t]

include hB in
theorem blk_b1 (t : Fin cfg0.N) (j : Fin 256) : (show FVec Ideal S1x256 .f32 from iblk m c 6 t) (ix2 0 j) = B (ix2 0 (hi (col t j))) := by
  subst hB
  exact (congrArg (V m c main_arg3) (emb_b1 t j)).trans (congrFun (V_main_arg3 m c) _)

include hH hW in
theorem point_gu (t : Fin cfg0.N) (r : Fin 2048) (j : Fin 256) : k0_pay5 (F := Ideal) (iblk m c 0 t) (iblk m c 1 t) (ix2 r j) = upV H W (ix3 0 r (lo (col t j))) :=
  (pay_gu _ _ r j).trans ((Finset.sum_congr rfl fun k _ => congrArg₂ (fun a b : EReal => a * b) (blk_h m c H hH t r k) (blk_w0 m c W hW t k j)).trans
    (upV_at H W r (lo (col t j))).symm)

include hH hW in
theorem point_vu (t : Fin cfg0.N) (r : Fin 2048) (j : Fin 256) : k0_pay6 (F := Ideal) (iblk m c 0 t) (iblk m c 2 t) (ix2 r j) = upV H W (ix3 0 r (hi (col t j))) :=
  (pay_vu _ _ r j).trans ((Finset.sum_congr rfl fun k _ => congrArg₂ (fun a b : EReal => a * b) (blk_h m c H hH t r k) (blk_w1 m c W hW t k j)).trans
    (upV_at H W r (hi (col t j))).symm)

include hH hW in
theorem point_gate (t : Fin cfg0.N) (r : Fin 2048) (j : Fin 256) (b e2 e1 e0 : FVec Ideal S1x256 .f32) (hb : b (ix2 0 j) = B (ix2 0 (lo (col t j))))
    (h2 : e2 (ix2 0 j) = T (ix3 0 2 (lo (col t j)))) (h1 : e1 (ix2 0 j) = T (ix3 0 1 (lo (col t j)))) (h0 : e0 (ix2 0 j) = T (ix3 0 0 (lo (col t j)))) :
    k0_pay12 (F := Ideal) b (k0_pay9 (iblk m c 0 t) (iblk m c 1 t)) (k0_pay10 (iblk m c 0 t) (iblk m c 1 t)) (k0_pay11 (iblk m c 0 t) (iblk m c 1 t) e2) e1 e0 (ix2 r j)
      = act H W T B (ix3 0 r (lo (col t j))) := by
  refine (pay_gate _ _ b e2 e1 e0 r j).trans (Eq.trans ?_ (convV_at (upV H W) T B r (lo (col t j))).symm)
  rw [hb, h2, h1, h0]
  simp only [point_gu m c H W hH hW t]
  refine congrArg (fun a : EReal => a + B (ix2 0 (lo (col t j)))) ?_
  rw [add_comm, add_comm (T _ * _) (T _ * _), ← add_assoc]
  exact congrArg₂ (fun a b : EReal => a + b) (congrArg₂ (fun a b : EReal => a + b) (mul_comm _ _) (mul_comm _ _)) (mul_comm _ _)

include hH hW in
theorem point_val (t : Fin cfg0.N) (r : Fin 2048) (j : Fin 256) (b e2 e1 e0 : FVec Ideal S1x256 .f32) (hb : b (ix2 0 j) = B (ix2 0 (hi (col t j))))
    (h2 : e2 (ix2 0 j) = T (ix3 0 2 (hi (col t j)))) (h1 : e1 (ix2 0 j) = T (ix3 0 1 (hi (col t j)))) (h0 : e0 (ix2 0 j) = T (ix3 0 0 (hi (col t j)))) :
    k0_pay13 (F := Ideal) (k0_pay6 (iblk m c 0 t) (iblk m c 2 t)) b e2 e1 e0 (ix2 r j)
      = act H W T B (ix3 0 r (hi (col t j))) := by
  refine (pay_val _ b e2 e1 e0 r j).trans (Eq.trans ?_ (convV_at (upV H W) T B r (hi (col t j))).symm)
  rw [hb, h2, h1, h0]
  simp only [point_vu m c H W hH hW t]
  refine congrArg (fun a : EReal => a + B (ix2 0 (hi (col t j)))) ?_
  rw [add_comm, add_comm (T _ * _) (T _ * _), ← add_assoc]
  exact congrArg₂ (fun a b : EReal => a + b) (congrArg₂ (fun a b : EReal => a + b) (mul_comm _ _) (mul_comm _ _)) (mul_comm _ _)

include hH hW in
theorem final_up : (dats m 0 c).arrAt 7 (cfgs 0).N = halves (upV H W) := by
  refine (dats m 0 c).arrAt_eq_of_covers 7 _ (by decide +kernel) fun t hf y => ?_
  obtain ⟨k, r, j, rfl⟩ : ∃ (k : Fin 2) (r : Fin 2048) (j : Fin 256), y = (ix3 k r j : S2x2048x256.Idx) := ⟨y 0, y 1, y 2, eq_ix3 y⟩
  blk_simp
  rw [after0_7, emb_7]
  unfold out0_7
  frame_out
  canon_tiles x h
  · obtain ⟨rfl, rfl⟩ := piece_index 1 k r j x h0 x0_lt h1 h2
    exact (pay_vu3 _ _ r j).trans ((point_vu m c H W hH hW t r j).trans (halves_at1 (upV H W) r (col t j)).symm)
  · obtain ⟨rfl, rfl⟩ := piece_index 0 k r j x (h0.trans (Nat.zero_add _).symm) x0_lt h1 h2
    exact (pay_gu3 _ _ r j).trans ((point_gu m c H W hH hW t r j).trans (halves_at0 (upV H W) r (col t j)).symm)

include hH hW hT hB in
theorem final_act : (dats m 0 c).arrAt 8 (cfgs 0).N = (truncf .bf16 (halves (act H W T B)) Cert.FfnActRefIdeal.Gen.bitsLt_bf16_f32 : FVec Ideal S2x2048x3072 .bf16) := by
  refine (dats m 0 c).arrAt_eq_of_covers 8 _ (by decide +kernel) fun t hf y => ?_
  obtain ⟨k, r, j, rfl⟩ : ∃ (k : Fin 2) (r : Fin 2048) (j : Fin 256), y = (ix3 k r j : S2x2048x256.Idx) := ⟨y 0, y 1, y 2, eq_ix3 y⟩
  blk_simp
  rw [after0_8, emb_8]
  unfold out0_8 k0_pay15 k0_pay16 k0_pay17 k0_pay18
  frame_out
  refine Eq.trans ?_ (truncf_halves (act H W T B) _).symm
  canon_tiles x h
  · obtain ⟨rfl, rfl⟩ := piece_index 1 k r j x h0 x0_lt h1 h2
    refine (pay_val3 _ r j).trans ((point_val m c H W T B hH hW t r j _ _ _ _ ?_ ?_ ?_ ?_).trans (halves_at1 (act H W T B) r (col t j)).symm)
    · pointwise; exact blk_b1 m c B hB t j
    · pointwise; exact blk_t1 m c T hT t 2 j
    · pointwise; exact blk_t1 m c T hT t 1 j
    · pointwise; exact blk_t1 m c T hT t 0 j
  · obtain ⟨rfl, rfl⟩ := piece_index 0 k r j x (h0.trans (Nat.zero_add _).symm) x0_lt h1 h2
    refine (pay_gate3 _ _ _ _ _ _ r j).trans ((point_gate m c H W T B hH hW t r j _ _ _ _ ?_ ?_ ?_ ?_).trans (halves_at0 (act H W T B) r (col t j)).symm)
    · pointwise; exact blk_b0 m c B hB t j
    · pointwise; exact blk_t0 m c T hT t 2 j
    · pointwise; exact blk_t0 m c T hT t 1 j
    · pointwise; exact blk_t0 m c T hT t 0 j

include hH hW hT hB in
theorem final_f : (dats m 0 c).arrAt 9 (cfgs 0).N = (truncf .bf16 (shapeCast S2048x3072 (gatedF (act H W T B)) Cert.FfnActRefIdeal.Gen.shapeCasts_S1x2048x3072_S2048x3072)
    Cert.FfnActRefIdeal.Gen.bitsLt_bf16_f32 : FVec Ideal S2048x3072 .bf16) := by
  refine (dats m 0 c).arrAt_eq_of_covers 9 _ (by decide +kernel) fun t hf y => ?_
  obtain ⟨r, j, rfl⟩ : ∃ (r : Fin 2048) (j : Fin 256), y = (ix2 r j : S2048x256.Idx) := ⟨y 0, y 1, eq_ix2 y⟩
  blk_simp
  rw [after0_9, emb_9]
  unfold out0_9 k0_pay15 k0_pay16 k0_pay17 k0_pay18
  frame_out
  refine (pay_f _ _ r j).trans ?_
  have e : (truncf .bf16 (shapeCast S2048x3072 (gatedF (act H W T B)) Cert.FfnActRefIdeal.Gen.shapeCasts_S1x2048x3072_S2048x3072) Cert.FfnActRefIdeal.Gen.bitsLt_bf16_f32 : FVec Ideal S2048x3072 .bf16)
      (ix2 r (col t j)) = gatedF (act H W T B) (ix3 0 r (col t j)) := by
    generalize gatedF (act H W T B) = X
    pointwise
  refine Eq.trans ?_ e.symm
  rw [gatedF_at, gateV_at, valV_at]
  refine congrArg₂ (fun g v : EReal => g * (Ideal.ofBits .f32 0x3F000000#32 * (1 + thF g)) * v)
    (point_gate m c H W T B hH hW t r j _ _ _ _ ?_ ?_ ?_ ?_) (point_val m c H W T B hH hW t r j _ _ _ _ ?_ ?_ ?_ ?_)
  · pointwise; exact blk_b0 m c B hB t j
  · pointwise; exact blk_t0 m c T hT t 2 j
  · pointwise; exact blk_t0 m c T hT t 1 j
  · pointwise; exact blk_t0 m c T hT t 0 j
  · pointwise; exact blk_b1 m c B hB t j
  · pointwise; exact blk_t1 m c T hT t 2 j
  · pointwise; exact blk_t1 m c T hT t 1 j
  · pointwise; exact blk_t1 m c T hT t 0 j

end

end Cert.FfnActIdeal.Value

namespace Cert.FfnActRefIdeal.Value
open Cert.FfnActRefIdeal Cert.FfnActRefIdeal.Gen
open Cert.FfnUpRefIdeal.Value (act)
open Cert.FfnUpIdeal.Value (halves)

variable (m : (ℓ : Loc nD τ sig) → Buf (Elt Ideal) ℓ) (c : Dev nD)
    (H : FVec Ideal S1x2048x1024 .f32) (W : FVec Ideal S1x1024x6144 .f32) (T : FVec Ideal S1x3x6144 .f32) (B : FVec Ideal S1x6144 .f32)
    (hH : m ((c.tc : Thread nD τ).loc main_arg0) = H) (hW : m ((c.tc : Thread nD τ).loc main_arg1) = W)
    (hT : m ((c.tc : Thread nD τ).loc main_arg2) = T) (hB : m ((c.tc : Thread nD τ).loc main_arg3) = B)

include hH hW hT hB in
theorem run_act : res_main_v51 m c = (truncf .bf16 (halves (act H W T B)) bitsLt_bf16_f32 : FVec Ideal S2x2048x3072 .bf16) := by
  subst hH hW hT hB
  unfold res_main_v51
  rfl

include hH hW hT hB in
theorem run_f : res_main_v53 m c = (truncf .bf16 (shapeCast S2048x3072 (gatedF (act H W T B)) shapeCasts_S1x2048x3072_S2048x3072) bitsLt_bf16_f32 : FVec Ideal S2048x3072 .bf16) := by
  subst hH hW hT hB
  unfold res_main_v53
  rfl

end Cert.FfnActRefIdeal.Value

end
-- ==== Proof.FfnActClaim.lean ====
/- The claims about the feed-forward's projection, convolution and activation, from the two programs' runs. -/
module

public import proofs.«01_k».proof.Defs
public import proofs.«01_k».proof.Proof.FfnAct
public import proofs.«01_k».proof.Proof.Gen.FfnAct.Frame

@[expose] public section

set_option maxRecDepth 16384

noncomputable section

namespace Cert.Proof

open Idealize.ShloMosaic Idealize.SL.Sem

theorem ffnAct_frame : Cert.quiescent_FfnAct := fun m g _ => Cert.FfnAct.Gen.frame m g

theorem ffnAct_frameIdeal : Cert.quiescent_FfnActIdeal := fun m g _ => Cert.FfnActIdeal.Gen.frame m g

theorem ffnAct_frameRef : Cert.quiescent_FfnActRefIdeal := fun m g _ =>
  (θ_run Cert.FfnActRefIdeal.defs _ _).mono (fun r h => ⟨fun c => (h c).2.2.2, sem_eq_zero_of_no_sems (by decide) r.2⟩)
    (Cert.FfnActRefIdeal.Value.run m g)

theorem ffnAct_value : Cert.algebraic_FfnActIdeal_FfnActRefIdeal := by
  pair_intro
  · run_from Cert.FfnActIdeal.Value.run_blocks m g
  · run_from Cert.FfnActRefIdeal.Value.run m' g'
    · exact (Cert.FfnActIdeal.Value.final_up m c _ _ rfl rfl).symm
    · exact (Cert.FfnActRefIdeal.Value.run_act m' c _ _ _ _ (hagree c).1 (hagree c).2.1 (hagree c).2.2.1 (hagree c).2.2.2).trans (Cert.FfnActIdeal.Value.final_act m c _ _ _ _ rfl rfl rfl rfl).symm
    · exact (Cert.FfnActRefIdeal.Value.run_f m' c _ _ _ _ (hagree c).1 (hagree c).2.1 (hagree c).2.2.1 (hagree c).2.2.2).trans (Cert.FfnActIdeal.Value.final_f m c _ _ _ _ rfl rfl rfl rfl).symm

end Cert.Proof

end
-- ==== Proof.ConvFwd.lean ====
/- The gated short convolution: the kernel's two result arrays are the reference's. -/
module

public import proofs.«01_k».proof.Proof.MixConv
public import proofs.«01_k».proof.Proof.Gen.ConvFwdIdeal.Value
public import proofs.«01_k».proof.Proof.Gen.ConvFwdRefIdeal.Run

@[expose] public section

set_option maxRecDepth 16384

noncomputable section

open Idealize.ShloMosaic Idealize.ShloMosaic.TcCoe Idealize.SL.Sem
open Idealize.ShloMosaic.Pipeline (Dat)

namespace Cert.MixConvRefIdeal.Value
open Cert.MixConvRefIdeal Cert.MixConvRefIdeal.Gen Cert.Conv

theorem convV_at (X : FVec Ideal S1x2048x1024 .f32) (T : FVec Ideal S1x3x1024 .f32) (r : Fin 2048) (j : Fin 1024) :
    convV X T (ix3 0 r j) = down 2 (fun r => X (ix3 0 r j)) r * T (ix3 0 0 j) + down 1 (fun r => X (ix3 0 r j)) r * T (ix3 0 1 j)
      + X (ix3 0 r j) * T (ix3 0 2 j) := by
  pointwise [convV, down2_at, down1_at, down0_at, tap0_at, tap1_at, tap2_at]

end Cert.MixConvRefIdeal.Value

namespace Cert.ConvFwdIdeal.Value
open Cert.ConvFwdIdeal Cert.ConvFwdIdeal.Gen Cert.Conv

theorem pay_q (x y : FVec Ideal S2048x256 .f32) (a b d : FVec Ideal S1x256 .f32) (r : Fin 2048) (j : Fin 256) :
    k0_pay1 (F := Ideal) x y a b d (ix2 r j) = a (ix2 0 j) * (x (ix2 r j) * y (ix2 r j)) + b (ix2 0 j) * down 1 (fun r => x (ix2 r j) * y (ix2 r j)) r
      + d (ix2 0 j) * down 2 (fun r => x (ix2 r j) * y (ix2 r j)) r := by
  pointwise [k0_pay1]
  rw [← mul_down, ← mul_down]
  refine congrArg₂ (fun s t : EReal => a (ix2 0 j) * (x (ix2 r j) * y (ix2 r j)) + s + t) ?_ ?_
  · exact choose_down 1 (by norm_num) (by norm_num) (fun r => b (ix2 0 j) * (x (ix2 r j) * y (ix2 r j))) r _ fun h => by simp only; omega
  · exact choose_down 2 (by norm_num) (by norm_num) (fun r => d (ix2 0 j) * (x (ix2 r j) * y (ix2 r j))) r _ fun h => by simp only; omega

theorem pay_y (x y : FVec Ideal S2048x256 .f32) (a b d : FVec Ideal S1x256 .f32) (z : FVec Ideal S2048x256 .f32) (r : Fin 2048) (j : Fin 256) :
    k0_pay2 (F := Ideal) x y a b d z (ix2 r j) = z (ix2 r j) * k0_pay1 (F := Ideal) x y a b d (ix2 r j) := by
  pointwise [k0_pay2]

theorem idx : ∀ t : Fin cfg0.N, win0_0.index t = ![0, t.val] ∧ win0_1.index t = ![0, 4 + t.val] ∧ win0_2.index t = ![0, 8 + t.val]
    ∧ win0_3.index t = ![0, t.val] ∧ win0_4.index t = ![0, t.val] ∧ win0_5.index t = ![0, t.val] := (by decide +kernel : ∀ t : Fin grid0.N, _)

variable (m : (ℓ : Loc nD τ sig) → Buf (Elt Ideal) ℓ) (c : Dev nD)

/-- A column of the array at the grid point that works on it. -/
abbrev col (t : Fin cfg0.N) (j : Fin 256) : Fin 1024 := ⟨t.val * 256 + j.val, by have := lt_of_lt_of_eq t.isLt N_0; omega⟩

theorem emb_q (t : Fin cfg0.N) (r : Fin 2048) (j : Fin 256) :
    ((View.whole main_v2_0).slice (win0_4.rect t)).emb (ix2 r j : S2048x256.Idx) = (ix2 r (col t j) : S2048x1024.Idx) := by
  blk_ext [idx t]

theorem emb_y (t : Fin cfg0.N) (r : Fin 2048) (j : Fin 256) :
    ((View.whole main_v2_1).slice (win0_5.rect t)).emb (ix2 r j : S2048x256.Idx) = (ix2 r (col t j) : S2048x1024.Idx) := by
  blk_ext [idx t]

section
variable (P : FVec Ideal S1x2048x7168 .f32) (T : FVec Ideal S1x3x1024 .f32)
    (hP : m ((c.tc : Thread nD τ).loc main_arg0) = P) (hT : m ((c.tc : Thread nD τ).loc main_arg1) = T)

include hP in
theorem blk_b (t : Fin cfg0.N) (r : Fin 2048) (j : Fin 256) : (show FVec Ideal S2048x256 .f32 from iblk m c 0 t) (ix2 r j) = Cert.MixConvRefIdeal.Value.cb P (ix3 0 r (col t j)) := by
  subst hP; rw [Cert.MixConvRefIdeal.Value.cb_at]; blk_point [iblk, V, idx t]

include hP in
theorem blk_c (t : Fin cfg0.N) (r : Fin 2048) (j : Fin 256) : (show FVec Ideal S2048x256 .f32 from iblk m c 1 t) (ix2 r j) = Cert.MixConvRefIdeal.Value.cc P (ix3 0 r (col t j)) := by
  subst hP; rw [Cert.MixConvRefIdeal.Value.cc_at]; blk_point [iblk, V, idx t]

include hP in
theorem blk_x (t : Fin cfg0.N) (r : Fin 2048) (j : Fin 256) : (show FVec Ideal S2048x256 .f32 from iblk m c 2 t) (ix2 r j) = Cert.MixConvRefIdeal.Value.cx P (ix3 0 r (col t j)) := by
  subst hP; rw [Cert.MixConvRefIdeal.Value.cx_at]; blk_point [iblk, V, idx t]

include hT in
theorem blk_taps (t : Fin cfg0.N) (k : Fin 3) (j : Fin 256) : (show FVec Ideal S3x256 .f32 from iblk m c 3 t) (ix2 k j) = T (ix3 0 k (col t j)) := by
  subst hT; blk_point [iblk, V, idx t]

/-- The block of the convolution. -/
theorem point_q (hP : m ((c.tc : Thread nD τ).loc main_arg0) = P) (t : Fin cfg0.N) (r : Fin 2048) (j : Fin 256) (a b e : FVec Ideal S1x256 .f32)
    (ha : a (ix2 0 j) = T (ix3 0 2 (col t j))) (hb : b (ix2 0 j) = T (ix3 0 1 (col t j))) (he : e (ix2 0 j) = T (ix3 0 0 (col t j))) :
    k0_pay1 (F := Ideal) (iblk m c 1 t) (iblk m c 2 t) a b e (ix2 r j)
      = Cert.MixConvRefIdeal.Value.convV (mulf (Cert.MixConvRefIdeal.Value.cc P) (Cert.MixConvRefIdeal.Value.cx P)) T (ix3 0 r (col t j)) := by
  have hp : ∀ r, (show FVec Ideal S2048x256 .f32 from iblk m c 1 t) (ix2 r j) * (show FVec Ideal S2048x256 .f32 from iblk m c 2 t) (ix2 r j)
      = mulf (Cert.MixConvRefIdeal.Value.cc P) (Cert.MixConvRefIdeal.Value.cx P) (ix3 0 r (col t j)) := fun r =>
    congrArg₂ (fun a b : EReal => a * b) (blk_c m c P hP t r j) (blk_x m c P hP t r j)
  refine (pay_q _ _ a b e r j).trans (Eq.trans ?_ (Cert.MixConvRefIdeal.Value.convV_at _ T r (col t j)).symm)
  rw [ha, hb, he]
  simp only [hp]
  rw [add_comm, add_comm (T _ * _) (T _ * _), ← add_assoc]
  exact congrArg₂ (fun a b : EReal => a + b) (congrArg₂ (fun a b : EReal => a + b) (mul_comm _ _) (mul_comm _ _)) (mul_comm _ _)

include hP hT in
theorem final_q : (dats m 0 c).arrAt 4 (cfgs 0).N = (shapeCast S2048x1024 (Cert.MixConvRefIdeal.Value.convV (mulf (Cert.MixConvRefIdeal.Value.cc P) (Cert.MixConvRefIdeal.Value.cx P)) T)
    Cert.ConvFwdRefIdeal.Gen.shapeCasts_S1x2048x1024_S2048x1024 : FVec Ideal S2048x1024 .f32) := by
  refine (dats m 0 c).arrAt_eq_of_covers 4 _ (by decide +kernel) fun t hf y => ?_
  obtain ⟨r, j, rfl⟩ : ∃ (r : Fin 2048) (j : Fin 256), y = (ix2 r j : S2048x256.Idx) := ⟨y 0, y 1, eq_ix2 y⟩
  blk_simp
  rw [after0_4, emb_q]
  frame_out
  refine (point_q m c P T hP t r j _ _ _ ?_ ?_ ?_).trans ?_
  · pointwise; exact blk_taps m c T hT t 2 j
  · pointwise; exact blk_taps m c T hT t 1 j
  · pointwise; exact blk_taps m c T hT t 0 j
  · pointwise

include hP hT in
theorem final_y : (dats m 0 c).arrAt 5 (cfgs 0).N = (truncf .bf16 (shapeCast S2048x1024 (mulf (Cert.MixConvRefIdeal.Value.cb P) (Cert.MixConvRefIdeal.Value.convV (mulf (Cert.MixConvRefIdeal.Value.cc P) (Cert.MixConvRefIdeal.Value.cx P)) T))
    Cert.ConvFwdRefIdeal.Gen.shapeCasts_S1x2048x1024_S2048x1024) Cert.ConvFwdRefIdeal.Gen.bitsLt_bf16_f32 : FVec Ideal S2048x1024 .bf16) := by
  refine (dats m 0 c).arrAt_eq_of_covers 5 _ (by decide +kernel) fun t hf y => ?_
  obtain ⟨r, j, rfl⟩ : ∃ (r : Fin 2048) (j : Fin 256), y = (ix2 r j : S2048x256.Idx) := ⟨y 0, y 1, eq_ix2 y⟩
  blk_simp
  rw [after0_5, emb_y]
  frame_out
  refine (pay_y _ _ _ _ _ _ r j).trans ?_
  pointwise
  refine congrArg₂ (fun a b : EReal => a * b) (blk_b m c P hP t r j) (point_q m c P T hP t r j _ _ _ ?_ ?_ ?_)
  · pointwise; exact blk_taps m c T hT t 2 j
  · pointwise; exact blk_taps m c T hT t 1 j
  · pointwise; exact blk_taps m c T hT t 0 j

end

end Cert.ConvFwdIdeal.Value

end
-- ==== Proof.ConvFwdClaim.lean ====
/- The claims about the gated short convolution, from the two programs' runs. -/
module

public import proofs.«01_k».proof.Defs
public import proofs.«01_k».proof.Proof.ConvFwd
public import proofs.«01_k».proof.Proof.Gen.ConvFwd.Frame

@[expose] public section

set_option maxRecDepth 16384

noncomputable section

namespace Cert.Proof

open Idealize.ShloMosaic Idealize.SL.Sem

theorem convFwd_frame : Cert.quiescent_ConvFwd := fun m g _ => Cert.ConvFwd.Gen.frame m g

theorem convFwd_frameIdeal : Cert.quiescent_ConvFwdIdeal := fun m g _ => Cert.ConvFwdIdeal.Gen.frame m g

theorem convFwd_frameRef : Cert.quiescent_ConvFwdRefIdeal := fun m g _ =>
  (θ_run Cert.ConvFwdRefIdeal.defs _ _).mono (fun r h => ⟨fun c => (h c).2.2, sem_eq_zero_of_no_sems (by decide) r.2⟩)
    (Cert.ConvFwdRefIdeal.Value.run m g)

theorem convFwd_value : Cert.algebraic_ConvFwdIdeal_ConvFwdRefIdeal := by
  pair_intro
  · run_from Cert.ConvFwdIdeal.Value.run_blocks m g
  · run_from Cert.ConvFwdRefIdeal.Value.run m' g'
    · exact (Cert.ConvFwdIdeal.Value.final_q m c _ _ rfl rfl).symm
    · exact (Cert.ConvFwdIdeal.Value.final_y m c _ _ rfl rfl).symm

end Cert.Proof

end
-- ==== Proof.Merge.lean ====
/- The merge of the two branches: the kernel's three result arrays are the reference's. -/
module

public import proofs.«01_k».proof.Proof.MixOut
public import proofs.«01_k».proof.Proof.Gen.MergeIdeal.Value
public import proofs.«01_k».proof.Proof.Gen.MergeRefIdeal.Run

@[expose] public section

set_option maxRecDepth 16384

noncomputable section

open Idealize.ShloMosaic Idealize.ShloMosaic.TcCoe Idealize.SL.Sem
open Idealize.ShloMosaic.Pipeline (Dat)

namespace Cert.MergeRefIdeal.Value
open Cert.MergeRefIdeal Cert.MergeRefIdeal.Gen

/-- The product of the rows with a weight. -/
def dotV (D : FVec Ideal S1x2048x1024 .f32) (W : FVec Ideal S1x1024x1024 .f32) : FVec Ideal S1x2048x1024 .f32 :=
  Host.dotGeneral dot_S1x2048x1024_S1024x1024_S1x2048x1024_2_0_01_1_n_n none D (shapeCast S1024x1024 W shapeCasts_S1x1024x1024_S1024x1024)

theorem dotV_at (D : FVec Ideal S1x2048x1024 .f32) (W : FVec Ideal S1x1024x1024 .f32) (r : Fin 2048) (j : Fin 1024) :
    dotV D W (ix3 0 r j) = ∑ k : Fin 1024, D (ix3 0 r k) * W (ix3 0 k j) := by
  pointwise [dotV]

theorem merged_at (P : FVec Ideal S1x2048x7168 .f32) (A B : FVec Ideal S1x2048x1024 .f32) (r : Fin 2048) (j : Fin 1024) :
    Cert.MixOutRefIdeal.Value.merged P A B (ix3 0 r j)
      = Cert.MixOutRefIdeal.Value.gate (Cert.MixOutRefIdeal.Value.gc P) (ix3 0 r j) * A (ix3 0 r j)
        + Cert.MixOutRefIdeal.Value.gate (Cert.MixOutRefIdeal.Value.gl P) (ix3 0 r j) * B (ix3 0 r j) := by
  pointwise [Cert.MixOutRefIdeal.Value.merged]

end Cert.MergeRefIdeal.Value

namespace Cert.MergeIdeal.Value
open Cert.MergeIdeal Cert.MergeIdeal.Gen
open Cert.MergeRefIdeal.Value (dotV dotV_at merged_at)
open Cert.MixOutRefIdeal.Value (gc gl gate one merged gc_at gl_at)

theorem pay_a (y : FVec Ideal S2048x1024 .bf16) (w : FVec Ideal S1024x256 .bf16) (r : Fin 2048) (j : Fin 256) :
    k0_pay2 (F := Ideal) y w (ix2 r j) = ∑ k : Fin 1024, y (ix2 r k) * w (ix2 k j) := by
  pointwise [k0_pay2]

theorem pay_b (y : FVec Ideal S2048x1024 .bf16) (w : FVec Ideal S1024x256 .bf16) (r : Fin 2048) (j : Fin 256) :
    k0_pay3 (F := Ideal) y w (ix2 r j) = ∑ k : Fin 1024, y (ix2 r k) * w (ix2 k j) := by
  pointwise [k0_pay3]

theorem pay_m (y z : FVec Ideal S2048x1024 .bf16) (w v : FVec Ideal S1024x256 .bf16) (p q : FVec Ideal S2048x256 .f32) (r : Fin 2048) (j : Fin 256)
    (A B P Q : FVec Ideal S1x2048x1024 .f32) (i : Fin 1024) (ha : k0_pay2 (F := Ideal) y w (ix2 r j) = A (ix3 0 r i))
    (hb : k0_pay3 (F := Ideal) z v (ix2 r j) = B (ix3 0 r i)) (hp : p (ix2 r j) = P (ix3 0 r i)) (hq : q (ix2 r j) = Q (ix3 0 r i)) :
    k0_pay1 (F := Ideal) (k0_pay4 y w z v p q) (ix2 r j) = gate P (ix3 0 r i) * A (ix3 0 r i) + gate Q (ix3 0 r i) * B (ix3 0 r i) := by
  pointwise [k0_pay1, k0_pay4, ha, hb, hp, hq, gate, one, zero_sub]

theorem idx : ∀ t : Fin cfg0.N, win0_0.index t = ![0, 0] ∧ win0_1.index t = ![0, 0] ∧ win0_2.index t = ![0, t.val] ∧ win0_3.index t = ![0, t.val]
    ∧ win0_4.index t = ![0, 20 + t.val] ∧ win0_5.index t = ![0, 24 + t.val] ∧ win0_6.index t = ![0, t.val] ∧ win0_7.index t = ![0, t.val]
    ∧ win0_8.index t = ![0, t.val] := (by decide +kernel : ∀ t : Fin grid0.N, _)

variable (m : (ℓ : Loc nD τ sig) → Buf (Elt Ideal) ℓ) (c : Dev nD)

/-- A column of the array at the grid point that works on it. -/
abbrev col (t : Fin cfg0.N) (j : Fin 256) : Fin 1024 := ⟨t.val * 256 + j.val, by have := lt_of_lt_of_eq t.isLt N_0; omega⟩

theorem emb_6 (t : Fin cfg0.N) (r : Fin 2048) (j : Fin 256) :
    ((View.whole main_v9_0).slice (win0_6.rect t)).emb (ix2 r j : S2048x256.Idx) = (ix2 r (col t j) : S2048x1024.Idx) := by
  blk_ext [idx t]

theorem emb_7 (t : Fin cfg0.N) (r : Fin 2048) (j : Fin 256) :
    ((View.whole main_v9_1).slice (win0_7.rect t)).emb (ix2 r j : S2048x256.Idx) = (ix2 r (col t j) : S2048x1024.Idx) := by
  blk_ext [idx t]

theorem emb_8 (t : Fin cfg0.N) (r : Fin 2048) (j : Fin 256) :
    ((View.whole main_v9_2).slice (win0_8.rect t)).emb (ix2 r j : S2048x256.Idx) = (ix2 r (col t j) : S2048x1024.Idx) := by
  blk_ext [idx t]

section
variable (Y Z : FVec Ideal S1x2048x1024 .f32) (U W : FVec Ideal S1x1024x1024 .f32) (P : FVec Ideal S1x2048x7168 .f32)
    (hY : m ((c.tc : Thread nD τ).loc main_arg0) = Y) (hZ : m ((c.tc : Thread nD τ).loc main_arg1) = Z)
    (hU : m ((c.tc : Thread nD τ).loc main_arg2) = U) (hW : m ((c.tc : Thread nD τ).loc main_arg3) = W) (hP : m ((c.tc : Thread nD τ).loc main_arg4) = P)

include hY in
theorem blk_y (t : Fin cfg0.N) (r : Fin 2048) (k : Fin 1024) : (show FVec Ideal S2048x1024 .bf16 from iblk m c 0 t) (ix2 r k) = Y (ix3 0 r k) := by
  subst hY; blk_point [iblk, V, idx t]

include hZ in
theorem blk_z (t : Fin cfg0.N) (r : Fin 2048) (k : Fin 1024) : (show FVec Ideal S2048x1024 .bf16 from iblk m c 1 t) (ix2 r k) = Z (ix3 0 r k) := by
  subst hZ; blk_point [iblk, V, idx t]

include hU in
theorem blk_u (t : Fin cfg0.N) (k : Fin 1024) (j : Fin 256) : (show FVec Ideal S1024x256 .bf16 from iblk m c 2 t) (ix2 k j) = U (ix3 0 k (col t j)) := by
  subst hU; blk_point [iblk, V, idx t]

include hW in
theorem blk_w (t : Fin cfg0.N) (k : Fin 1024) (j : Fin 256) : (show FVec Ideal S1024x256 .bf16 from iblk m c 3 t) (ix2 k j) = W (ix3 0 k (col t j)) := by
  subst hW; blk_point [iblk, V, idx t]

include hP in
theorem blk_gc (t : Fin cfg0.N) (r : Fin 2048) (j : Fin 256) : (show FVec Ideal S2048x256 .f32 from iblk m c 4 t) (ix2 r j) = gc P (ix3 0 r (col t j)) := by
  subst hP; rw [gc_at]; blk_point [iblk, V, idx t]

include hP in
theorem blk_gl (t : Fin cfg0.N) (r : Fin 2048) (j : Fin 256) : (show FVec Ideal S2048x256 .f32 from iblk m c 5 t) (ix2 r j) = gl P (ix3 0 r (col t j)) := by
  subst hP; rw [gl_at]; blk_point [iblk, V, idx t]

include hY hU in
theorem point_a (t : Fin cfg0.N) (r : Fin 2048) (j : Fin 256) : k0_pay2 (F := Ideal) (iblk m c 0 t) (iblk m c 2 t) (ix2 r j) = dotV Y U (ix3 0 r (col t j)) :=
  (pay_a _ _ r j).trans ((Finset.sum_congr rfl fun k _ => congrArg₂ (fun a b : EReal => a * b) (blk_y m c Y hY t r k) (blk_u m c U hU t k j)).trans
    (dotV_at Y U r (col t j)).symm)

include hZ hW in
theorem point_b (t : Fin cfg0.N) (r : Fin 2048) (j : Fin 256) : k0_pay3 (F := Ideal) (iblk m c 1 t) (iblk m c 3 t) (ix2 r j) = dotV Z W (ix3 0 r (col t j)) :=
  (pay_b _ _ r j).trans ((Finset.sum_congr rfl fun k _ => congrArg₂ (fun a b : EReal => a * b) (blk_z m c Z hZ t r k) (blk_w m c W hW t k j)).trans
    (dotV_at Z W r (col t j)).symm)

include hY hU in
theorem final_a : (dats m 0 c).arrAt 6 (cfgs 0).N = (shapeCast S2048x1024 (dotV Y U) Cert.MergeRefIdeal.Gen.shapeCasts_S1x2048x1024_S2048x1024 : FVec Ideal S2048x1024 .f32) := by
  refine (dats m 0 c).arrAt_eq_of_covers 6 _ (by decide +kernel) fun t hf y => ?_
  obtain ⟨r, j, rfl⟩ : ∃ (r : Fin 2048) (j : Fin 256), y = (ix2 r j : S2048x256.Idx) := ⟨y 0, y 1, eq_ix2 y⟩
  blk_simp
  rw [after0_6, emb_6]
  frame_out
  refine (point_a m c Y U hY hU t r j).trans ?_
  pointwise

include hZ hW in
theorem final_b : (dats m 0 c).arrAt 7 (cfgs 0).N = (shapeCast S2048x1024 (dotV Z W) Cert.MergeRefIdeal.Gen.shapeCasts_S1x2048x1024_S2048x1024 : FVec Ideal S2048x1024 .f32) := by
  refine (dats m 0 c).arrAt_eq_of_covers 7 _ (by decide +kernel) fun t hf y => ?_
  obtain ⟨r, j, rfl⟩ : ∃ (r : Fin 2048) (j : Fin 256), y = (ix2 r j : S2048x256.Idx) := ⟨y 0, y 1, eq_ix2 y⟩
  blk_simp
  rw [after0_7, emb_7]
  frame_out
  refine (point_b m c Z W hZ hW t r j).trans ?_
  pointwise

include hY hZ hU hW hP in
theorem final_m : (dats m 0 c).arrAt 8 (cfgs 0).N = (truncf .bf16 (shapeCast S2048x1024 (merged P (dotV Y U) (dotV Z W))
    Cert.MergeRefIdeal.Gen.shapeCasts_S1x2048x1024_S2048x1024) Cert.MergeRefIdeal.Gen.bitsLt_bf16_f32 : FVec Ideal S2048x1024 .bf16) := by
  refine (dats m 0 c).arrAt_eq_of_covers 8 _ (by decide +kernel) fun t hf y => ?_
  obtain ⟨r, j, rfl⟩ : ∃ (r : Fin 2048) (j : Fin 256), y = (ix2 r j : S2048x256.Idx) := ⟨y 0, y 1, eq_ix2 y⟩
  blk_simp
  rw [after0_8, emb_8]
  frame_out
  refine (pay_m _ _ _ _ _ _ r j (dotV Y U) (dotV Z W) (gc P) (gl P) (col t j) (point_a m c Y U hY hU t r j) (point_b m c Z W hZ hW t r j)
    (blk_gc m c P hP t r j) (blk_gl m c P hP t r j)).trans ((merged_at P _ _ r (col t j)).symm.trans ?_)
  pointwise

end

end Cert.MergeIdeal.Value

end
-- ==== Proof.OutFwd.lean ====
/- The output of the mixers with the two norms after it: the kernel's four result arrays are the reference's. -/
module

public import proofs.«01_k».proof.Proof.Norm
public import proofs.«01_k».proof.Proof.Merge
public import proofs.«01_k».proof.Proof.Gen.OutFwdIdeal.Value
public import proofs.«01_k».proof.Proof.Gen.OutFwdRefIdeal.Run

@[expose] public section

set_option maxRecDepth 16384

noncomputable section

open Idealize.ShloMosaic Idealize.ShloMosaic.TcCoe Idealize.SL.Sem
open Idealize.ShloMosaic.Pipeline (Dat)

namespace Cert.OutFwdIdeal.Value
open Cert.OutFwdIdeal Cert.OutFwdIdeal.Gen Cert.Norm
open Cert.MergeRefIdeal.Value (dotV dotV_at)

/-- The stream after the mixers. -/
def midV (X A : FVec Ideal S1x2048x1024 .f32) (G : FVec Ideal S1x1024 .f32) : FVec Ideal S1x2048x1024 .f32 := addf X (normV A G)

theorem midV_at (X A : FVec Ideal S1x2048x1024 .f32) (G : FVec Ideal S1x1024 .f32) (r : Fin 2048) (j : Fin 1024) :
    midV X A G (ix3 0 r j) = X (ix3 0 r j) + normV A G (ix3 0 r j) := by
  pointwise [midV]

theorem pay_mix (y : FVec Ideal S512x1024 .bf16) (w : FVec Ideal S1024x1024 .bf16) (r : Fin 512) (j : Fin 1024) :
    k0_pay3 (F := Ideal) y w (ix2 r j) = ∑ k : Fin 1024, y (ix2 r k) * w (ix2 k j) := by
  pointwise [k0_pay3]

theorem pay_mid (y : FVec Ideal S512x1024 .bf16) (w : FVec Ideal S1024x1024 .bf16) (x : FVec Ideal S512x1024 .f32) (g : FVec Ideal S1x1024 .f32)
    (r : Fin 512) (j : Fin 1024) :
    k0_pay4 (F := Ideal) y w x g (ix2 r j) = x (ix2 r j) + k0_pay3 (F := Ideal) y w (ix2 r j)
      * Ideal.rsqrt (Ideal.div (∑ k : Fin 1024, k0_pay3 (F := Ideal) y w (ix2 r k) * k0_pay3 (F := Ideal) y w (ix2 r k)) (Ideal.ofBits .f32 0x44800000#32) + Ideal.ofBits .f32 0x358637BD#32) * g (ix2 0 j) := by
  pointwise [k0_pay4]

theorem pay_h (y : FVec Ideal S512x1024 .bf16) (w : FVec Ideal S1024x1024 .bf16) (x : FVec Ideal S512x1024 .f32) (g f : FVec Ideal S1x1024 .f32)
    (r : Fin 512) (j : Fin 1024) :
    k0_pay5 (F := Ideal) y w x g f (ix2 r j) = k0_pay4 (F := Ideal) y w x g (ix2 r j)
      * Ideal.rsqrt (Ideal.div (∑ k : Fin 1024, k0_pay4 (F := Ideal) y w x g (ix2 r k) * k0_pay4 (F := Ideal) y w x g (ix2 r k)) (Ideal.ofBits .f32 0x44800000#32) + Ideal.ofBits .f32 0x358637BD#32) * f (ix2 0 j) := by
  pointwise [k0_pay5]

theorem pay_row (a : FVec Ideal S512x1024 .f32) (r : Fin 512) (j : Fin 1024) : k0_pay1 (F := Ideal) a (ix2 r j) = a (ix2 r j) := by
  pointwise [k0_pay1]

theorem pay_col (a : FVec Ideal S512x1024 .f32) (r : Fin 512) (j : Fin 1024) : k0_pay2 (F := Ideal) a (ix2 j r) = a (ix2 r j) := by
  pointwise [k0_pay2]

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0]
    ∧ win0_8.index t = ![0, t.val] := (by decide +kernel : ∀ t : Fin grid0.N, _)

variable (m : (ℓ : Loc nD τ sig) → Buf (Elt Ideal) ℓ) (c : Dev nD)

/-- A row of the array at the grid point that works on it. -/
abbrev row (t : Fin cfg0.N) (r : Fin 512) : Fin 2048 := ⟨t.val * 512 + r.val, by have := lt_of_lt_of_eq t.isLt N_0; omega⟩

theorem emb_5 (t : Fin cfg0.N) (r : Fin 512) (j : Fin 1024) :
    ((View.whole main_v5_0).slice (win0_5.rect t)).emb (ix2 r j : S512x1024.Idx) = (ix2 (row t r) j : S2048x1024.Idx) := by
  blk_ext [idx t]

theorem emb_6 (t : Fin cfg0.N) (r : Fin 512) (j : Fin 1024) :
    ((View.whole main_v5_1).slice (win0_6.rect t)).emb (ix2 r j : S512x1024.Idx) = (ix2 (row t r) j : S2048x1024.Idx) := by
  blk_ext [idx t]

theorem emb_7 (t : Fin cfg0.N) (r : Fin 512) (j : Fin 1024) :
    ((View.whole main_v5_2).slice (win0_7.rect t)).emb (ix2 r j : S512x1024.Idx) = (ix2 (row t r) j : S2048x1024.Idx) := by
  blk_ext [idx t]

theorem emb_8 (t : Fin cfg0.N) (r : Fin 512) (j : Fin 1024) :
    ((View.whole main_v5_3).slice (win0_8.rect t)).emb (ix2 j r : S1024x512.Idx) = (ix2 j (row t r) : S1024x2048.Idx) := by
  blk_ext [idx t]

section
variable (Y X : FVec Ideal S1x2048x1024 .f32) (W : FVec Ideal S1x1024x1024 .f32) (G H : FVec Ideal S1x1024 .f32)
    (hY : m ((c.tc : Thread nD τ).loc main_arg0) = Y) (hW : m ((c.tc : Thread nD τ).loc main_arg1) = W)
    (hX : m ((c.tc : Thread nD τ).loc main_arg2) = X) (hG : m ((c.tc : Thread nD τ).loc main_arg3) = G) (hH : m ((c.tc : Thread nD τ).loc main_arg4) = H)

include hY in
theorem blk_y (t : Fin cfg0.N) (r : Fin 512) (k : Fin 1024) : (show FVec Ideal S512x1024 .bf16 from iblk m c 0 t) (ix2 r k) = Y (ix3 0 (row t r) k) := by
  subst hY; blk_point [iblk, V, idx t]

include hW in
theorem blk_w (t : Fin cfg0.N) (k j : Fin 1024) : (show FVec Ideal S1024x1024 .bf16 from iblk m c 1 t) (ix2 k j) = W (ix3 0 k j) := by
  subst hW; blk_point [iblk, V, idx t]

include hX in
theorem blk_x (t : Fin cfg0.N) (r : Fin 512) (k : Fin 1024) : (show FVec Ideal S512x1024 .f32 from iblk m c 2 t) (ix2 r k) = X (ix3 0 (row t r) k) := by
  subst hX; blk_point [iblk, V, idx t]

include hG in
theorem blk_g (t : Fin cfg0.N) (k : Fin 1024) : (show FVec Ideal S1x1024 .f32 from iblk m c 3 t) (ix2 0 k) = G (ix2 0 k) := by
  subst hG; blk_point [iblk, V, idx t]

include hH in
theorem blk_h (t : Fin cfg0.N) (k : Fin 1024) : (show FVec Ideal S1x1024 .f32 from iblk m c 4 t) (ix2 0 k) = H (ix2 0 k) := by
  subst hH; blk_point [iblk, V, idx t]

include hY hW in
theorem point_mix (t : Fin cfg0.N) (r : Fin 512) (j : Fin 1024) : k0_pay3 (F := Ideal) (iblk m c 0 t) (iblk m c 1 t) (ix2 r j) = dotV Y W (ix3 0 (row t r) j) :=
  (pay_mix _ _ r j).trans ((Finset.sum_congr rfl fun k _ => congrArg₂ (fun a b : EReal => a * b) (blk_y m c Y hY t r k) (blk_w m c W hW t k j)).trans
    (dotV_at Y W (row t r) j).symm)

include hY hW hX hG in
theorem point_mid (t : Fin cfg0.N) (r : Fin 512) (j : Fin 1024) : k0_pay4 (F := Ideal) (iblk m c 0 t) (iblk m c 1 t) (iblk m c 2 t) (iblk m c 3 t) (ix2 r j)
    = midV X (dotV Y W) G (ix3 0 (row t r) j) := by
  refine (pay_mid _ _ _ _ r j).trans ?_
  simp only [point_mix m c Y W hY hW t]
  rw [midV_at, normV_at, varV_at]
  exact congrArg₂ (fun a b : EReal => a + _ * b) (blk_x m c X hX t r j) (blk_g m c G hG t j)

include hY hW hX hG hH in
theorem point_h (t : Fin cfg0.N) (r : Fin 512) (j : Fin 1024) :
    k0_pay5 (F := Ideal) (iblk m c 0 t) (iblk m c 1 t) (iblk m c 2 t) (iblk m c 3 t) (iblk m c 4 t) (ix2 r j)
    = normV (midV X (dotV Y W) G) H (ix3 0 (row t r) j) := by
  refine (pay_h _ _ _ _ _ r j).trans ?_
  simp only [point_mid m c Y X W G hY hW hX hG t]
  rw [normV_at, varV_at]
  exact congrArg (fun b : EReal => _ * b) (blk_h m c H hH t j)

include hY hW in
theorem final_mix : (dats m 0 c).arrAt 5 (cfgs 0).N = (shapeCast S2048x1024 (dotV Y W) Cert.OutFwdRefIdeal.Gen.shapeCasts_S1x2048x1024_S2048x1024 : FVec Ideal S2048x1024 .f32) := by
  refine (dats m 0 c).arrAt_eq_of_covers 5 _ (by decide +kernel) fun t hf y => ?_
  obtain ⟨r, j, rfl⟩ : ∃ (r : Fin 512) (j : Fin 1024), y = (ix2 r j : S512x1024.Idx) := ⟨y 0, y 1, eq_ix2 y⟩
  blk_simp
  rw [after0_5, emb_5]
  frame_out
  refine (point_mix m c Y W hY hW t r j).trans ?_
  pointwise

include hY hW hX hG in
theorem final_mid : (dats m 0 c).arrAt 6 (cfgs 0).N = (shapeCast S2048x1024 (midV X (dotV Y W) G) Cert.OutFwdRefIdeal.Gen.shapeCasts_S1x2048x1024_S2048x1024 : FVec Ideal S2048x1024 .f32) := by
  refine (dats m 0 c).arrAt_eq_of_covers 6 _ (by decide +kernel) fun t hf y => ?_
  obtain ⟨r, j, rfl⟩ : ∃ (r : Fin 512) (j : Fin 1024), y = (ix2 r j : S512x1024.Idx) := ⟨y 0, y 1, eq_ix2 y⟩
  blk_simp
  rw [after0_6, emb_6]
  frame_out
  refine (point_mid m c Y X W G hY hW hX hG t r j).trans ?_
  pointwise

include hY hW hX hG hH in
theorem final_h : (dats m 0 c).arrAt 7 (cfgs 0).N = (shapeCast S2048x1024 (truncf .bf16 (normV (midV X (dotV Y W) G) H) Cert.OutFwdRefIdeal.Gen.bitsLt_bf16_f32) Cert.OutFwdRefIdeal.Gen.shapeCasts_S1x2048x1024_S2048x1024 : FVec Ideal S2048x1024 .bf16) := by
  refine (dats m 0 c).arrAt_eq_of_covers 7 _ (by decide +kernel) fun t hf y => ?_
  obtain ⟨r, j, rfl⟩ : ∃ (r : Fin 512) (j : Fin 1024), y = (ix2 r j : S512x1024.Idx) := ⟨y 0, y 1, eq_ix2 y⟩
  blk_simp
  rw [after0_7, emb_7]
  unfold out0_7 k0_pay6
  frame_out
  refine (pay_row _ r j).trans <| (point_h m c Y X W G H hY hW hX hG hH t r j).trans ?_
  pointwise

include hY hW hX hG hH in
theorem final_ht : (dats m 0 c).arrAt 8 (cfgs 0).N = (transpose S1024x2048 [1, 0] (shapeCast S2048x1024 (truncf .bf16 (normV (midV X (dotV Y W) G) H) Cert.OutFwdRefIdeal.Gen.bitsLt_bf16_f32) Cert.OutFwdRefIdeal.Gen.shapeCasts_S1x2048x1024_S2048x1024) Cert.OutFwdRefIdeal.Gen.transposes_S2048x1024_S1024x2048_1_0 : FVec Ideal S1024x2048 .bf16) := by
  refine (dats m 0 c).arrAt_eq_of_covers 8 _ (by decide +kernel) fun t hf y => ?_
  obtain ⟨j, r, rfl⟩ : ∃ (j : Fin 1024) (r : Fin 512), y = (ix2 j r : S1024x512.Idx) := ⟨y 0, y 1, eq_ix2 y⟩
  blk_simp
  rw [after0_8, emb_8]
  unfold out0_8 k0_pay6
  frame_out
  refine (pay_col _ r j).trans <| (point_h m c Y X W G H hY hW hX hG hH t r j).trans ?_
  pointwise

end

end Cert.OutFwdIdeal.Value

namespace Cert.OutFwdRefIdeal.Value
open Cert.OutFwdRefIdeal Cert.OutFwdRefIdeal.Gen Cert.Norm
open Cert.MergeRefIdeal.Value (dotV)
open Cert.OutFwdIdeal.Value (midV)

variable (m : (ℓ : Loc nD τ sig) → Buf (Elt Ideal) ℓ) (c : Dev nD) (Y X : FVec Ideal S1x2048x1024 .f32) (W : FVec Ideal S1x1024x1024 .f32) (G H : FVec Ideal S1x1024 .f32)
    (hY : m ((c.tc : Thread nD τ).loc main_arg0) = Y) (hW : m ((c.tc : Thread nD τ).loc main_arg1) = W)
    (hX : m ((c.tc : Thread nD τ).loc main_arg2) = X) (hG : m ((c.tc : Thread nD τ).loc main_arg3) = G) (hH : m ((c.tc : Thread nD τ).loc main_arg4) = H)

include hY hW hX hG hH in
theorem run_h : res_main_v34 m c = (shapeCast S2048x1024 (truncf .bf16 (normV (midV X (dotV Y W) G) H) Cert.OutFwdRefIdeal.Gen.bitsLt_bf16_f32) Cert.OutFwdRefIdeal.Gen.shapeCasts_S1x2048x1024_S2048x1024 : FVec Ideal S2048x1024 .bf16) := by
  subst hY hW hX hG hH
  unfold res_main_v34
  rfl

include hY hW hX hG hH in
theorem run_ht : res_main_v36 m c = (transpose S1024x2048 [1, 0] (shapeCast S2048x1024 (truncf .bf16 (normV (midV X (dotV Y W) G) H) Cert.OutFwdRefIdeal.Gen.bitsLt_bf16_f32) Cert.OutFwdRefIdeal.Gen.shapeCasts_S1x2048x1024_S2048x1024) Cert.OutFwdRefIdeal.Gen.transposes_S2048x1024_S1024x2048_1_0 : FVec Ideal S1024x2048 .bf16) := by
  subst hY hW hX hG hH
  unfold res_main_v36
  rfl

end Cert.OutFwdRefIdeal.Value

end
-- ==== Proof.OutFwdClaim.lean ====
/- The claims about the output of the mixers and the two norms after it, from the two programs' runs. -/
module

public import proofs.«01_k».proof.Defs
public import proofs.«01_k».proof.Proof.OutFwd
public import proofs.«01_k».proof.Proof.Gen.OutFwd.Frame

@[expose] public section

set_option maxRecDepth 16384

noncomputable section

namespace Cert.Proof

open Idealize.ShloMosaic Idealize.SL.Sem

theorem outFwd_frame : Cert.quiescent_OutFwd := fun m g _ => Cert.OutFwd.Gen.frame m g

theorem outFwd_frameIdeal : Cert.quiescent_OutFwdIdeal := fun m g _ => Cert.OutFwdIdeal.Gen.frame m g

theorem outFwd_frameRef : Cert.quiescent_OutFwdRefIdeal := fun m g _ =>
  (θ_run Cert.OutFwdRefIdeal.defs _ _).mono (fun r h => ⟨fun c => (h c).2.2.2.2, sem_eq_zero_of_no_sems (by decide) r.2⟩)
    (Cert.OutFwdRefIdeal.Value.run m g)

theorem outFwd_value : Cert.algebraic_OutFwdIdeal_OutFwdRefIdeal := by
  pair_intro
  · run_from Cert.OutFwdIdeal.Value.run_blocks m g
  · run_from Cert.OutFwdRefIdeal.Value.run m' g'
    · exact (Cert.OutFwdIdeal.Value.final_mix m c _ _ rfl rfl).symm
    · exact (Cert.OutFwdIdeal.Value.final_mid m c _ _ _ _ rfl rfl rfl rfl).symm
    · exact (Cert.OutFwdRefIdeal.Value.run_h m' c _ _ _ _ _ (hagree c).1 (hagree c).2.1 (hagree c).2.2.1 (hagree c).2.2.2.1 (hagree c).2.2.2.2).trans (Cert.OutFwdIdeal.Value.final_h m c _ _ _ _ _ rfl rfl rfl rfl rfl).symm
    · exact (Cert.OutFwdRefIdeal.Value.run_ht m' c _ _ _ _ _ (hagree c).1 (hagree c).2.1 (hagree c).2.2.1 (hagree c).2.2.2.1 (hagree c).2.2.2.2).trans (Cert.OutFwdIdeal.Value.final_ht m c _ _ _ _ _ rfl rfl rfl rfl rfl).symm

end Cert.Proof

end
-- ==== Proof.MergeClaim.lean ====
/- The claims about the merge of the two branches, from the two programs' runs. -/
module

public import proofs.«01_k».proof.Defs
public import proofs.«01_k».proof.Proof.Merge
public import proofs.«01_k».proof.Proof.Gen.Merge.Frame

@[expose] public section

set_option maxRecDepth 16384

noncomputable section

namespace Cert.Proof

open Idealize.ShloMosaic Idealize.SL.Sem

theorem merge_frame : Cert.quiescent_Merge := fun m g _ => Cert.Merge.Gen.frame m g

theorem merge_frameIdeal : Cert.quiescent_MergeIdeal := fun m g _ => Cert.MergeIdeal.Gen.frame m g

theorem merge_frameRef : Cert.quiescent_MergeRefIdeal := fun m g _ =>
  (θ_run Cert.MergeRefIdeal.defs _ _).mono (fun r h => ⟨fun c => (h c).2.2.2, sem_eq_zero_of_no_sems (by decide) r.2⟩)
    (Cert.MergeRefIdeal.Value.run m g)

theorem merge_value : Cert.algebraic_MergeIdeal_MergeRefIdeal := by
  pair_intro
  · run_from Cert.MergeIdeal.Value.run_blocks m g
  · run_from Cert.MergeRefIdeal.Value.run m' g'
    · exact (Cert.MergeIdeal.Value.final_a m c _ _ rfl rfl).symm
    · exact (Cert.MergeIdeal.Value.final_b m c _ _ rfl rfl).symm
    · exact (Cert.MergeIdeal.Value.final_m m c _ _ _ _ _ rfl rfl rfl rfl rfl).symm

end Cert.Proof

end
-- ==== Proof.NormFwd.lean ====
/- The norm before the mixers: the kernel's two result arrays are the reference's. -/
module

public import proofs.«01_k».proof.Proof.Norm
public import proofs.«01_k».proof.Proof.Gen.NormFwdIdeal.Value
public import proofs.«01_k».proof.Proof.Gen.NormFwdRefIdeal.Run

@[expose] public section

set_option maxRecDepth 16384

noncomputable section

open Idealize.ShloMosaic Idealize.ShloMosaic.TcCoe Idealize.SL.Sem
open Idealize.ShloMosaic.Pipeline (Dat)

namespace Cert.NormFwdIdeal.Value
open Cert.NormFwdIdeal Cert.NormFwdIdeal.Gen Cert.Norm

theorem pay_h (x : FVec Ideal S512x1024 .f32) (g : FVec Ideal S1x1024 .f32) (r : Fin 512) (j : Fin 1024) :
    k0_pay1 (F := Ideal) x g (ix2 r j) = x (ix2 r j) * Ideal.rsqrt (Ideal.div (∑ k : Fin 1024, x (ix2 r k) * x (ix2 r k)) (Ideal.ofBits .f32 0x44800000#32)
      + Ideal.ofBits .f32 0x358637BD#32) * g (ix2 0 j) := by
  pointwise [k0_pay1]

theorem pay_row (x : FVec Ideal S512x1024 .f32) (g : FVec Ideal S1x1024 .f32) (r : Fin 512) (j : Fin 1024) :
    k0_pay2 (F := Ideal) x g (ix2 r j) = k0_pay1 (F := Ideal) x g (ix2 r j) := by
  pointwise [k0_pay2]

theorem pay_col (x : FVec Ideal S512x1024 .f32) (g : FVec Ideal S1x1024 .f32) (r : Fin 512) (j : Fin 1024) :
    k0_pay3 (F := Ideal) x g (ix2 j r) = k0_pay1 (F := Ideal) x g (ix2 r j) := by
  pointwise [k0_pay3]

theorem idx : ∀ t : Fin cfg0.N, win0_0.index t = ![t.val, 0] ∧ win0_1.index t = ![0, 0] ∧ win0_2.index t = ![t.val, 0]
    ∧ win0_3.index t = ![0, t.val] := (by decide +kernel : ∀ t : Fin grid0.N, _)

variable (m : (ℓ : Loc nD τ sig) → Buf (Elt Ideal) ℓ) (c : Dev nD)

/-- A row of the array at the grid point that works on it. -/
abbrev row (t : Fin cfg0.N) (r : Fin 512) : Fin 2048 := ⟨t.val * 512 + r.val, by have := lt_of_lt_of_eq t.isLt N_0; omega⟩

theorem emb_row (t : Fin cfg0.N) (r : Fin 512) (j : Fin 1024) :
    ((View.whole main_v1_0).slice (win0_2.rect t)).emb (ix2 r j : S512x1024.Idx) = (ix2 (row t r) j : S2048x1024.Idx) := by
  blk_ext [idx t]

theorem emb_col (t : Fin cfg0.N) (r : Fin 512) (j : Fin 1024) :
    ((View.whole main_v1_1).slice (win0_3.rect t)).emb (ix2 j r : S1024x512.Idx) = (ix2 j (row t r) : S1024x2048.Idx) := by
  blk_ext [idx t]

section
variable (X : FVec Ideal S1x2048x1024 .f32) (G : FVec Ideal S1x1024 .f32)
    (hX : m ((c.tc : Thread nD τ).loc main_arg0) = X) (hG : m ((c.tc : Thread nD τ).loc main_arg1) = G)

include hX in
theorem blk_x (t : Fin cfg0.N) (r : Fin 512) (k : Fin 1024) : (show FVec Ideal S512x1024 .f32 from iblk m c 0 t) (ix2 r k) = X (ix3 0 (row t r) k) := by
  subst hX; blk_point [iblk, V, idx t]

include hG in
theorem blk_g (t : Fin cfg0.N) (k : Fin 1024) : (show FVec Ideal S1x1024 .f32 from iblk m c 1 t) (ix2 0 k) = G (ix2 0 k) := by
  subst hG; blk_point [iblk, V, idx t]

include hX hG in
/-- The block of the norm. -/
theorem point (t : Fin cfg0.N) (r : Fin 512) (j : Fin 1024) : k0_pay1 (F := Ideal) (iblk m c 0 t) (iblk m c 1 t) (ix2 r j) = normV X G (ix3 0 (row t r) j) := by
  refine (pay_h _ _ r j).trans ?_
  have h1 := blk_x m c X hX t r
  have h2 := blk_g m c G hG t j
  dsimp only at h1 h2
  rw [normV_at, varV_at]
  simp only [h1, h2]

include hX hG in
theorem final_row : (dats m 0 c).arrAt 2 (cfgs 0).N = (shapeCast S2048x1024 (truncf .bf16 (normV X G) Cert.NormFwdRefIdeal.Gen.bitsLt_bf16_f32)
    Cert.NormFwdRefIdeal.Gen.shapeCasts_S1x2048x1024_S2048x1024 : FVec Ideal S2048x1024 .bf16) := by
  refine (dats m 0 c).arrAt_eq_of_covers 2 _ (by decide +kernel) fun t hf y => ?_
  obtain ⟨r, j, rfl⟩ : ∃ (r : Fin 512) (j : Fin 1024), y = (ix2 r j : S512x1024.Idx) := ⟨y 0, y 1, eq_ix2 y⟩
  blk_simp
  rw [after0_2, emb_row]
  frame_out
  refine (pay_row _ _ r j).trans ((point m c X G hX hG t r j).trans ?_)
  pointwise

include hX hG in
theorem final_col : (dats m 0 c).arrAt 3 (cfgs 0).N = (transpose S1024x2048 [1, 0] (shapeCast S2048x1024 (truncf .bf16 (normV X G) Cert.NormFwdRefIdeal.Gen.bitsLt_bf16_f32)
    Cert.NormFwdRefIdeal.Gen.shapeCasts_S1x2048x1024_S2048x1024) Cert.NormFwdRefIdeal.Gen.transposes_S2048x1024_S1024x2048_1_0 : FVec Ideal S1024x2048 .bf16) := by
  refine (dats m 0 c).arrAt_eq_of_covers 3 _ (by decide +kernel) fun t hf y => ?_
  obtain ⟨j, r, rfl⟩ : ∃ (j : Fin 1024) (r : Fin 512), y = (ix2 j r : S1024x512.Idx) := ⟨y 0, y 1, eq_ix2 y⟩
  blk_simp
  rw [after0_3, emb_col]
  frame_out
  refine (pay_col _ _ r j).trans ((point m c X G hX hG t r j).trans ?_)
  pointwise

end

end Cert.NormFwdIdeal.Value

end
-- ==== Proof.NormFwdClaim.lean ====
/- The claims about the norm before the mixers, from the two programs' runs. -/
module

public import proofs.«01_k».proof.Defs
public import proofs.«01_k».proof.Proof.NormFwd
public import proofs.«01_k».proof.Proof.Gen.NormFwd.Frame

@[expose] public section

set_option maxRecDepth 16384

noncomputable section

namespace Cert.Proof

open Idealize.ShloMosaic Idealize.SL.Sem

theorem normFwd_frame : Cert.quiescent_NormFwd := fun m g _ => Cert.NormFwd.Gen.frame m g

theorem normFwd_frameIdeal : Cert.quiescent_NormFwdIdeal := fun m g _ => Cert.NormFwdIdeal.Gen.frame m g

theorem normFwd_frameRef : Cert.quiescent_NormFwdRefIdeal := fun m g _ =>
  (θ_run Cert.NormFwdRefIdeal.defs _ _).mono (fun r h => ⟨fun c => (h c).2.2, sem_eq_zero_of_no_sems (by decide) r.2⟩)
    (Cert.NormFwdRefIdeal.Value.run m g)

theorem normFwd_value : Cert.algebraic_NormFwdIdeal_NormFwdRefIdeal := by
  pair_intro
  · run_from Cert.NormFwdIdeal.Value.run_blocks m g
  · run_from Cert.NormFwdRefIdeal.Value.run m' g'
    · exact (Cert.NormFwdIdeal.Value.final_row m c _ _ rfl rfl).symm
    · exact (Cert.NormFwdIdeal.Value.final_col m c _ _ rfl rfl).symm

end Cert.Proof

end
-- ==== Proof.LruRunA.lean ====
/-
  The run of the recurrence's backward body on whole buffers: it stores into its nine results and its two scratch buffers, and
  enters its one counted loop by the loop's invariant. The functions that the body calls are first replaced by their skeletons;
  the outermost, which calls the others, is unfolded before those are, so that the loop is met as the invariant states it.
-/
module

public import proofs.«01_k».proof.Proof.Gen.MixLruIdeal.Frame.Runs

@[expose] public section

-- membership in a rectangle of production extents (`View.cover_of_tiled`): the elaborator's structural look
-- recurses once per coordinate of the long axes
set_option maxRecDepth 16384

noncomputable section

namespace Cert.MixLruIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The buffer `a` of core `c` holds `x`. -/
abbrev bufHolds {s : Shape} {e : EltTy} (c : Dev nD) (a : Memref sig .tc .vmem s e) (x : Vec F s e) : sProp 𝕄 :=
  owns (c : Thread nD τ) a fullShare x

/-- It holds something. -/
abbrev bufAny {s : Shape} {e : EltTy} (c : Dev nD) (a : Memref sig .tc .vmem s e) : sProp 𝕄 :=
  iprop(∃ d, owns (c : Thread nD τ) a fullShare d)

/-- It holds the stores `L` over something. -/
abbrev bufStored {s : Shape} {e : EltTy} (c : Dev nD) (a : Memref sig .tc .vmem s e) (L : List (View.Piece (Elt F) s e)) : sProp 𝕄 :=
  iprop(∃ f, a.view.loc (c : Thread nD τ) ↦[a.view.set]{fullShare} a.view.writes (Elt F) f L)

/-- A whole buffer with the contents that read as `x` holds `x`. -/
theorem owns_unread {s : Shape} {e : EltTy} (c : Dev nD) (a : Memref sig .tc .vmem s e) (h : a.IsWhole) (x : Vec F s e) :
    (a.view.loc (c : Thread nD τ) ↦[a.view.set]{fullShare} h.unread x : sProp 𝕄)
      ⊢ iprop(∃ f, ⌜a.view.read (Elt F) f = x⌝ ∗ a.view.loc (c : Thread nD τ) ↦[a.view.set]{fullShare} f) := by
  iintro H
  iexists _
  isplitr
  swap
  · iexact H
  ipureintro
  exact h.read_unread _

set_option maxHeartbeats 1000000 in
/-- The stores that the body makes into each result, with the proof that it runs to its end on whole buffers: the inputs keep
    what they hold, each result is left with its stores. The lists of stores are those that the run meets. -/
def kernelRun0_A (c : Dev nD) (i : grid0.Coords) (arg1 : Memref sig .tc .vmem S2048x1024 .bf16) (harg1 : arg1.IsWhole) (arg2 : Memref sig .tc .vmem S256x1024 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .f32) (harg8 : arg8.IsWhole) (arg9 : Memref sig .tc .vmem S4x256 .f32) (harg9 : arg9.IsWhole) (arg10 : Memref sig .tc .vmem S1x256x256 .bf16) (harg10 : arg10.IsWhole) (arg11 : Memref sig .tc .vmem S1x256x256 .bf16) (harg11 : arg11.IsWhole) (arg12 : Memref sig .tc .vmem S1x256 .f32) (harg12 : arg12.IsWhole) (arg13 : Memref sig .tc .vmem S2x2048x256 .bf16) (harg13 : arg13.IsWhole) (arg14 : Memref sig .tc .vmem S256x1024 .bf16) (harg14 : arg14.IsWhole) (arg15 : Memref sig .tc .vmem S1x256x256 .f32) (harg15 : arg15.IsWhole) (arg16 : Memref sig .tc .vmem S1x256x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S4x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S2048x256 .f32) (harg22 : arg22.IsWhole) (arg23 : Memref sig .tc .vmem S2048x256 .f32) (harg23 : arg23.IsWhole)
    (x0 : Vec F S2048x1024 .bf16) (x1 : Vec F S256x1024 .bf16) (x2 : Vec F S2048x256 .f32) (x3 : Vec F S2048x256 .f32) (x4 : Vec F S2048x256 .bf16) (x5 : Vec F S2048x256 .bf16) (x6 : Vec F S2048x256 .bf16) (x7 : Vec F S2048x256 .f32) (x8 : Vec F S4x256 .f32) (x9 : Vec F S1x256x256 .bf16) (x10 : Vec F S1x256x256 .bf16) (x11 : Vec F S1x256 .f32) :
    Σ' (L12 : List (View.Piece (Elt F) S2x2048x256 .bf16)), Σ' (L13 : List (View.Piece (Elt F) S256x1024 .bf16)), Σ' (L14 : List (View.Piece (Elt F) S1x256x256 .f32)), Σ' (L15 : List (View.Piece (Elt F) S1x256x256 .f32)), Σ' (L16 : List (View.Piece (Elt F) S1x256 .f32)), Σ' (L17 : List (View.Piece (Elt F) S1x256 .f32)), Σ' (L18 : List (View.Piece (Elt F) S4x256 .f32)), Σ' (L19 : List (View.Piece (Elt F) S1x256 .f32)), { L20 : List (View.Piece (Elt F) S1x256 .f32) //
      ∀ (E : Set ℕ) (K : PUnit → sProp 𝕄),
        iprop(bufHolds c arg1 x0 ∗ bufHolds c arg2 x1 ∗ bufHolds c arg3 x2 ∗ bufHolds c arg4 x3 ∗ bufHolds c arg5 x4 ∗ bufHolds c arg6 x5 ∗ bufHolds c arg7 x6 ∗ bufHolds c arg8 x7 ∗ bufHolds c arg9 x8 ∗ bufHolds c arg10 x9 ∗ bufHolds c arg11 x10 ∗ bufHolds c arg12 x11 ∗ bufAny c arg13 ∗ bufAny c arg14 ∗ bufAny c arg15 ∗ bufAny c arg16 ∗ bufAny c arg17 ∗ bufAny c arg18 ∗ bufAny c arg19 ∗ bufAny c arg20 ∗ bufAny c arg21 ∗ bufAny c arg22 ∗ bufAny c arg23
            ∗ (iprop(bufHolds c arg1 x0 ∗ bufHolds c arg2 x1 ∗ bufHolds c arg3 x2 ∗ bufHolds c arg4 x3 ∗ bufHolds c arg5 x4 ∗ bufHolds c arg6 x5 ∗ bufHolds c arg7 x6 ∗ bufHolds c arg8 x7 ∗ bufHolds c arg9 x8 ∗ bufHolds c arg10 x9 ∗ bufHolds c arg11 x10 ∗ bufHolds c arg12 x11 ∗ bufStored c arg13 L12 ∗ bufStored c arg14 L13 ∗ bufStored c arg15 L14 ∗ bufStored c arg16 L15 ∗ bufStored c arg17 L16 ∗ bufStored c arg18 L17 ∗ bufStored c arg19 L18 ∗ bufStored c arg20 L19 ∗ bufStored c arg21 L20 ∗ bufAny c arg22 ∗ bufAny c arg23) -∗ K ⟨⟩))
          ⊢ wp frame (wpE (defs₀ (F := F)) Variants.none c none) E (cc0_mix_lru_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, fun E K => ?run⟩
  case run =>
    simp only [cc0_mix_lru_bwd_eq_skeleton]; unfold cc0_mix_lru_bwd_skel
    simp only [k0_part16_eq_skeleton]; unfold k0_part16_skel
    simp only [k0_part10_eq_skeleton, k0_part11_eq_skeleton, k0_part12_eq_skeleton, k0_part13_eq_skeleton, k0_part14_eq_skeleton, k0_part15_eq_skeleton]
    unfold bufHolds bufAny bufStored owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    sl_exec
    sl_step
    iapply Hk
    isplitl [H0]; · iapply (owns_unread c arg1 harg1 _); iexact H0
    isplitl [H1]; · iapply (owns_unread c arg2 harg2 _); iexact H1
    isplitl [H2]; · iapply (owns_unread c arg3 harg3 _); iexact H2
    isplitl [H3]; · iapply (owns_unread c arg4 harg4 _); iexact H3
    isplitl [H4]; · iapply (owns_unread c arg5 harg5 _); iexact H4
    isplitl [H5]; · iapply (owns_unread c arg6 harg6 _); iexact H5
    isplitl [H6]; · iapply (owns_unread c arg7 harg7 _); iexact H6
    isplitl [H7]; · iapply (owns_unread c arg8 harg8 _); iexact H7
    isplitl [H8]; · iapply (owns_unread c arg9 harg9 _); iexact H8
    isplitl [H9]; · iapply (owns_unread c arg10 harg10 _); iexact H9
    isplitl [H10]; · iapply (owns_unread c arg11 harg11 _); iexact H10
    isplitl [H11]; · iapply (owns_unread c arg12 harg12 _); iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]
    · iexists _, _; isplitr; swap; · iexact H21
      ipureintro; rfl
    iexists _, _; isplitr; swap; · iexact H22
    ipureintro; rfl

end Cert.MixLruIdeal.Gen

end
-- ==== Proof.LruFrame.lean ====
/-
  The frame of the recurrence's backward call at the program whose two constants are named, from the run of its body in
  LruRunA.lean: what the nine result windows hold after a grid point, the body's obligation there, and the run of the whole
  program, with the nine result arrays named by the proof data and the arguments unchanged.
-/
module

public import proofs.«01_k».proof.Proof.LruRunA
public import Idealize.ShloMosaic.Lib.Claim
public import Idealize.ShloMosaic.Lib.Pipeline.Value

@[expose] public section

-- the cover of a window by its stores is evaluated over rectangles of long axes
set_option maxRecDepth 16384

noncomputable section

namespace Cert.MixLruIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section Pieces

variable {s : Shape} {e : EltTy}

/-- The contents that a list of stores leaves in a buffer seen through `V`, over whatever it held. -/
def left (V : View sig .tc .vmem s e) (L : List (View.Piece (Elt F) s e)) : Vec F s e :=
  V.read (Elt F) (V.writes (Elt F) V.junk L)

/-- A buffer whose stores cover it holds these contents, whichever buffer they are read through. -/
theorem owns_left (c : Dev nD) (a : Memref sig .tc .vmem s e) (V : View sig .tc .vmem s e) (L : List (View.Piece (Elt F) s e))
    (h : ∀ y, ∃ p ∈ L, y ∈ p.1.set) (f) :
    (a.view.loc (c : Thread nD τ) ↦[a.view.set]{fullShare} a.view.writes (Elt F) f L : sProp 𝕄)
      ⊢ owns (c : Thread nD τ) a fullShare (left V L) := by
  unfold owns
  iintro H
  iexists _
  isplitr
  swap
  · iexact H
  ipureintro
  exact View.read_writes_of_cover _ _ _ _ _ h

end Pieces

variable (m : (ℓ : Loc nD τ sig) → Buf (Elt F) ℓ) (ρ : Dev nD → PrngReg)

/-- The run of the body at grid point `t`, on the buffers and the input blocks of that point. -/
def runAt (c : Dev nD) (t : Fin cfg0.N) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The stores into each result's buffer cover it. -/
theorem cover (c : Dev nD) (t : Fin cfg0.N) :
    (∀ y, ∃ p ∈ (runAt m c t).1, y ∈ p.1.set)
      ∧ (∀ y, ∃ p ∈ (runAt m c t).2.1, y ∈ p.1.set)
      ∧ (∀ y, ∃ p ∈ (runAt m c t).2.2.1, y ∈ p.1.set)
      ∧ (∀ y, ∃ p ∈ (runAt m c t).2.2.2.1, y ∈ p.1.set)
      ∧ (∀ y, ∃ p ∈ (runAt m c t).2.2.2.2.1, y ∈ p.1.set)
      ∧ (∀ y, ∃ p ∈ (runAt m c t).2.2.2.2.2.1, y ∈ p.1.set)
      ∧ (∀ y, ∃ p ∈ (runAt m c t).2.2.2.2.2.2.1, y ∈ p.1.set)
      ∧ (∀ y, ∃ p ∈ (runAt m c t).2.2.2.2.2.2.2.1, y ∈ p.1.set)
      ∧ (∀ y, ∃ p ∈ (runAt m c t).2.2.2.2.2.2.2.2.1, y ∈ p.1.set) :=
  ⟨View.cover_of_tiledL _ S1x2048x256.size (by sl_kernel_rfl),
    View.cover_of_tiledL _ S256x1024.size (by sl_kernel_rfl),
    View.cover_of_tiledL _ S1x256x256.size (by sl_kernel_rfl),
    View.cover_of_tiledL _ S1x256x256.size (by sl_kernel_rfl),
    View.cover_of_tiledL _ S1x256.size (by sl_kernel_rfl),
    View.cover_of_tiledL _ S1x256.size (by sl_kernel_rfl),
    View.cover_of_tiledL _ S4x256.size (by sl_kernel_rfl),
    View.cover_of_tiledL _ S1x256.size (by sl_kernel_rfl),
    View.cover_of_tiledL _ S1x256.size (by sl_kernel_rfl)⟩

/-- The nine results' buffers after grid point `t`, in the order of their windows. -/
def outsAt0 (c : Dev nD) (t : Fin cfg0.N) : Vec F S2x2048x256 .bf16 × Vec F S256x1024 .bf16 × Vec F S1x256x256 .f32 × Vec F S1x256x256 .f32 × Vec F S1x256 .f32 × Vec F S1x256 .f32 × Vec F S4x256 .f32 × Vec F S1x256 .f32 × Vec F S1x256 .f32 :=
  (left VO0_12 (runAt m c t).1, left VO0_13 (runAt m c t).2.1, left VO0_14 (runAt m c t).2.2.1, left VO0_15 (runAt m c t).2.2.2.1, left VO0_16 (runAt m c t).2.2.2.2.1, left VO0_17 (runAt m c t).2.2.2.2.2.1, left VO0_18 (runAt m c t).2.2.2.2.2.2.1, left VO0_19 (runAt m c t).2.2.2.2.2.2.2.1, left VO0_20 (runAt m c t).2.2.2.2.2.2.2.2.1)

/-- The pipeline's proof data: the arrays as the call finds them; after a point the inputs' buffers at their blocks and the
    results' at `outsAt0`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t).1
    | ⟨13, _⟩ => (outsAt0 m c t).2.1
    | ⟨14, _⟩ => (outsAt0 m c t).2.2.1
    | ⟨15, _⟩ => (outsAt0 m c t).2.2.2.1
    | ⟨16, _⟩ => (outsAt0 m c t).2.2.2.2.1
    | ⟨17, _⟩ => (outsAt0 m c t).2.2.2.2.2.1
    | ⟨18, _⟩ => (outsAt0 m c t).2.2.2.2.2.2.1
    | ⟨19, _⟩ => (outsAt0 m c t).2.2.2.2.2.2.2.1
    | ⟨20, _⟩ => (outsAt0 m c t).2.2.2.2.2.2.2.2
    | ⟨_ + 21, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

section After

variable (c : Dev nD) (t : Fin cfg0.N)

theorem after0_12 : (dats m 0 c).after 12 t = (outsAt0 m c t).1 := by dsimp only [dats]
theorem after0_13 : (dats m 0 c).after 13 t = (outsAt0 m c t).2.1 := by dsimp only [dats]
theorem after0_14 : (dats m 0 c).after 14 t = (outsAt0 m c t).2.2.1 := by dsimp only [dats]
theorem after0_15 : (dats m 0 c).after 15 t = (outsAt0 m c t).2.2.2.1 := by dsimp only [dats]
theorem after0_16 : (dats m 0 c).after 16 t = (outsAt0 m c t).2.2.2.2.1 := by dsimp only [dats]
theorem after0_17 : (dats m 0 c).after 17 t = (outsAt0 m c t).2.2.2.2.2.1 := by dsimp only [dats]
theorem after0_18 : (dats m 0 c).after 18 t = (outsAt0 m c t).2.2.2.2.2.2.1 := by dsimp only [dats]
theorem after0_19 : (dats m 0 c).after 19 t = (outsAt0 m c t).2.2.2.2.2.2.2.1 := by dsimp only [dats]
theorem after0_20 : (dats m 0 c).after 20 t = (outsAt0 m c t).2.2.2.2.2.2.2.2 := by dsimp only [dats]

end After

/-- The body leaves each input's buffer as it was. -/
theorem after_in (c : Dev nD) (t : Fin cfg0.N) :
    (dats m 0 c).after 0 t = iblk m c 0 t
      ∧ (dats m 0 c).after 1 t = iblk m c 1 t
      ∧ (dats m 0 c).after 2 t = iblk m c 2 t
      ∧ (dats m 0 c).after 3 t = iblk m c 3 t
      ∧ (dats m 0 c).after 4 t = iblk m c 4 t
      ∧ (dats m 0 c).after 5 t = iblk m c 5 t
      ∧ (dats m 0 c).after 6 t = iblk m c 6 t
      ∧ (dats m 0 c).after 7 t = iblk m c 7 t
      ∧ (dats m 0 c).after 8 t = iblk m c 8 t
      ∧ (dats m 0 c).after 9 t = iblk m c 9 t
      ∧ (dats m 0 c).after 10 t = iblk m c 10 t
      ∧ (dats m 0 c).after 11 t = iblk m c 11 t := by
  refine ⟨?_, ?_, ?_, ?_, ?_, ?_, ?_, ?_, ?_, ?_, ?_, ?_⟩ <;> dsimp only [dats]

/-- Every input's buffer holds its block when the body starts, as each of them keeps it. -/
theorem before_in (c : Dev nD) (t : Fin cfg0.N) :
    (∀ d, (dats m 0 c).before 0 t d = iblk m c 0 t)
      ∧ (∀ d, (dats m 0 c).before 1 t d = iblk m c 1 t)
      ∧ (∀ d, (dats m 0 c).before 2 t d = iblk m c 2 t)
      ∧ (∀ d, (dats m 0 c).before 3 t d = iblk m c 3 t)
      ∧ (∀ d, (dats m 0 c).before 4 t d = iblk m c 4 t)
      ∧ (∀ d, (dats m 0 c).before 5 t d = iblk m c 5 t)
      ∧ (∀ d, (dats m 0 c).before 6 t d = iblk m c 6 t)
      ∧ (∀ d, (dats m 0 c).before 7 t d = iblk m c 7 t)
      ∧ (∀ d, (dats m 0 c).before 8 t d = iblk m c 8 t)
      ∧ (∀ d, (dats m 0 c).before 9 t d = iblk m c 9 t)
      ∧ (∀ d, (dats m 0 c).before 10 t d = iblk m c 10 t)
      ∧ (∀ d, (dats m 0 c).before 11 t d = iblk m c 11 t) := by
  refine ⟨before0_0_of m _ (A_eq m c 0) (fun _ => ?_) t, before0_1_of m _ (A_eq m c 1) (fun _ => ?_) t, before0_2_of m _ (A_eq m c 2) (fun _ => ?_) t, before0_3_of m _ (A_eq m c 3) (fun _ => ?_) t, before0_4_of m _ (A_eq m c 4) (fun _ => ?_) t, before0_5_of m _ (A_eq m c 5) (fun _ => ?_) t, before0_6_of m _ (A_eq m c 6) (fun _ => ?_) t, before0_7_of m _ (A_eq m c 7) (fun _ => ?_) t, before0_8_of m _ (A_eq m c 8) (fun _ => ?_) t, before0_9_of m _ (A_eq m c 9) (fun _ => ?_) t, before0_10_of m _ (A_eq m c 10) (fun _ => ?_) t, before0_11_of m _ (A_eq m c 11) (fun _ => ?_) t⟩ <;> dsimp only [dats]

set_option maxHeartbeats 2000000 in
/-- The body's obligation at every point: the run applies, and each result's stores cover its buffer. -/
theorem body_obligation (c : Dev nD) : BodyObligation (dats (F := F) m 0 c) (defs₀ (F := F)) Variants.none () Set.univ := fun t => by
  have hrow : defs₀ (F := F) .tc cfg0.body (cfg0.bodyArgs t (cfg0.slots t)) = bodyAt0 t := by
    unfold defs₀; rw [Defs.onTc_tc]
  obtain ⟨b0, b1, b2, b3, b4, b5, b6, b7, b8, b9, b10, b11⟩ := before_in m c t
  obtain ⟨a0, a1, a2, a3, a4, a5, a6, a7, a8, a9, a10, a11⟩ := after_in m c t
  rw [bigSep_W0, bigSep_W0, hrow]
  refine triple_restated (W := wp frame (wpE (defs₀ (F := F)) Variants.none c none) Set.univ (bodyAt0 t))
    (P := iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d))
      ∗ (∃ d, owns (c : Thread nD τ) (ms0_9 t) fullShare ((dats m 0 c).before 9 t d))
      ∗ (∃ d, owns (c : Thread nD τ) (ms0_10 t) fullShare ((dats m 0 c).before 10 t d))
      ∗ (∃ d, owns (c : Thread nD τ) (ms0_11 t) fullShare ((dats m 0 c).before 11 t d))
      ∗ (∃ d, owns (c : Thread nD τ) (ms0_12 t) fullShare ((dats m 0 c).before 12 t d))
      ∗ (∃ d, owns (c : Thread nD τ) (ms0_13 t) fullShare ((dats m 0 c).before 13 t d))
      ∗ (∃ d, owns (c : Thread nD τ) (ms0_14 t) fullShare ((dats m 0 c).before 14 t d))
      ∗ (∃ d, owns (c : Thread nD τ) (ms0_15 t) fullShare ((dats m 0 c).before 15 t d))
      ∗ (∃ d, owns (c : Thread nD τ) (ms0_16 t) fullShare ((dats m 0 c).before 16 t d))
      ∗ (∃ d, owns (c : Thread nD τ) (ms0_17 t) fullShare ((dats m 0 c).before 17 t d))
      ∗ (∃ d, owns (c : Thread nD τ) (ms0_18 t) fullShare ((dats m 0 c).before 18 t d))
      ∗ (∃ d, owns (c : Thread nD τ) (ms0_19 t) fullShare ((dats m 0 c).before 19 t d))
      ∗ (∃ d, owns (c : Thread nD τ) (ms0_20 t) fullShare ((dats m 0 c).before 20 t d))))
    (Q := fun _ => iprop((dats m 0 c).Φ t.succ ∗ (dats m 0 c).owesAt () t.succ
      ∗ owns (c : Thread nD τ) (ms0_0 t) fullShare ((dats m 0 c).after 0 t)
      ∗ owns (c : Thread nD τ) (ms0_1 t) fullShare ((dats m 0 c).after 1 t)
      ∗ owns (c : Thread nD τ) (ms0_2 t) fullShare ((dats m 0 c).after 2 t)
      ∗ owns (c : Thread nD τ) (ms0_3 t) fullShare ((dats m 0 c).after 3 t)
      ∗ owns (c : Thread nD τ) (ms0_4 t) fullShare ((dats m 0 c).after 4 t)
      ∗ owns (c : Thread nD τ) (ms0_5 t) fullShare ((dats m 0 c).after 5 t)
      ∗ owns (c : Thread nD τ) (ms0_6 t) fullShare ((dats m 0 c).after 6 t)
      ∗ owns (c : Thread nD τ) (ms0_7 t) fullShare ((dats m 0 c).after 7 t)
      ∗ owns (c : Thread nD τ) (ms0_8 t) fullShare ((dats m 0 c).after 8 t)
      ∗ owns (c : Thread nD τ) (ms0_9 t) fullShare ((dats m 0 c).after 9 t)
      ∗ owns (c : Thread nD τ) (ms0_10 t) fullShare ((dats m 0 c).after 10 t)
      ∗ owns (c : Thread nD τ) (ms0_11 t) fullShare ((dats m 0 c).after 11 t)
      ∗ owns (c : Thread nD τ) (ms0_12 t) fullShare ((dats m 0 c).after 12 t)
      ∗ owns (c : Thread nD τ) (ms0_13 t) fullShare ((dats m 0 c).after 13 t)
      ∗ owns (c : Thread nD τ) (ms0_14 t) fullShare ((dats m 0 c).after 14 t)
      ∗ owns (c : Thread nD τ) (ms0_15 t) fullShare ((dats m 0 c).after 15 t)
      ∗ owns (c : Thread nD τ) (ms0_16 t) fullShare ((dats m 0 c).after 16 t)
      ∗ owns (c : Thread nD τ) (ms0_17 t) fullShare ((dats m 0 c).after 17 t)
      ∗ owns (c : Thread nD τ) (ms0_18 t) fullShare ((dats m 0 c).after 18 t)
      ∗ owns (c : Thread nD τ) (ms0_19 t) fullShare ((dats m 0 c).after 19 t)
      ∗ owns (c : Thread nD τ) (ms0_20 t) fullShare ((dats m 0 c).after 20 t)))
    ?_ rfl .rfl fun _ => .rfl
  simp only [b0, b1, b2, b3, b4, b5, b6, b7, b8, b9, b10, b11]
  rw [show (dats m 0 c).Φ t.succ = (dats m 0 c).Φ t.castSucc from rfl,
    show (dats m 0 c).owesAt () t.succ = (dats m 0 c).owesAt () t.castSucc from rfl,
    a0, a1, a2, a3, a4, a5, a6, a7, a8, a9, a10, a11,
    after0_12, after0_13, after0_14, after0_15, after0_16, after0_17, after0_18, after0_19, after0_20,
    show (dats m 0 c).Φ t.castSucc = Pipeline.ΦA spec0 c from rfl, PhiA0_eq]
  unfold outsAt0
  dsimp only
  unfold bodyAt0
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((runAt m c t).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (owns_left c (ms0_12 t) VO0_12 (runAt m c t).1 (cover m c t).1 _); iexact H12
  isplitl [H13]; · iapply (owns_left c (ms0_13 t) VO0_13 (runAt m c t).2.1 (cover m c t).2.1 _); iexact H13
  isplitl [H14]; · iapply (owns_left c (ms0_14 t) VO0_14 (runAt m c t).2.2.1 (cover m c t).2.2.1 _); iexact H14
  isplitl [H15]; · iapply (owns_left c (ms0_15 t) VO0_15 (runAt m c t).2.2.2.1 (cover m c t).2.2.2.1 _); iexact H15
  isplitl [H16]; · iapply (owns_left c (ms0_16 t) VO0_16 (runAt m c t).2.2.2.2.1 (cover m c t).2.2.2.2.1 _); iexact H16
  isplitl [H17]; · iapply (owns_left c (ms0_17 t) VO0_17 (runAt m c t).2.2.2.2.2.1 (cover m c t).2.2.2.2.2.1 _); iexact H17
  isplitl [H18]; · iapply (owns_left c (ms0_18 t) VO0_18 (runAt m c t).2.2.2.2.2.2.1 (cover m c t).2.2.2.2.2.2.1 _); iexact H18
  isplitl [H19]; · iapply (owns_left c (ms0_19 t) VO0_19 (runAt m c t).2.2.2.2.2.2.2.1 (cover m c t).2.2.2.2.2.2.2.1 _); iexact H19
  iapply (owns_left c (ms0_20 t) VO0_20 (runAt m c t).2.2.2.2.2.2.2.2.1 (cover m c t).2.2.2.2.2.2.2.2 _); iexact H20

-- the launch's implicit arguments are found by unifying its conclusion, which unfolds plain definitions in a type
set_option backward.isDefEq.respectTransparency.types false in
/-- The program runs to the end, with every array of the pipeline as the proof data say, and every semaphore at zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

end Cert.MixLruIdeal.Gen

namespace Cert.MixLruIdeal.Value

open Cert.MixLruIdeal Cert.MixLruIdeal.Gen Idealize.ShloMosaic Idealize.ShloMosaic.TcCoe Idealize.SL.Sem

variable {F : FTy → Type} [FloatOps F] [Named F]
variable (m : (ℓ : Loc nD τ sig) → Buf (Elt F) ℓ) (ρ : Dev nD → PrngReg)

set_option maxHeartbeats 1000000 in
/-- The run with the nine result arrays named, the arguments unchanged. -/
theorem run_blocks : θ_run defs (onTc (τ := τ) (main (F := F))) ⟨m, fun _ => 0, ρ⟩ fun r => ∀ c : Dev nD,
      r.2.mem ((c : Thread nD τ).loc main_v283_0) = (dats m 0 c).arrAt 12 cfg0.N
      ∧ r.2.mem ((c : Thread nD τ).loc main_v283_1) = (dats m 0 c).arrAt 13 cfg0.N
      ∧ r.2.mem ((c : Thread nD τ).loc main_v283_2) = (dats m 0 c).arrAt 14 cfg0.N
      ∧ r.2.mem ((c : Thread nD τ).loc main_v283_3) = (dats m 0 c).arrAt 15 cfg0.N
      ∧ r.2.mem ((c : Thread nD τ).loc main_v283_4) = (dats m 0 c).arrAt 16 cfg0.N
      ∧ r.2.mem ((c : Thread nD τ).loc main_v283_5) = (dats m 0 c).arrAt 17 cfg0.N
      ∧ r.2.mem ((c : Thread nD τ).loc main_v283_6) = (dats m 0 c).arrAt 18 cfg0.N
      ∧ r.2.mem ((c : Thread nD τ).loc main_v283_7) = (dats m 0 c).arrAt 19 cfg0.N
      ∧ r.2.mem ((c : Thread nD τ).loc main_v283_8) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run defs _ _).mono (fun r h c => ?_) (run_main m ρ)
  have kept := fun (b : Ref sig .tc) hb hs => (h.1 c).2 b (Pipeline.mem_restRefs_of b hb hs)
  exact ⟨(h.1 c).1 12, (h.1 c).1 13, (h.1 c).1 14, (h.1 c).1 15, (h.1 c).1 16, (h.1 c).1 17, (h.1 c).1 18, (h.1 c).1 19, (h.1 c).1 20,
    (kept main_arg0 (by decide) (by decide)).trans (V_main_arg0 m c),
    (kept main_arg1 (by decide) (by decide)).trans (V_main_arg1 m c),
    (kept main_arg2 (by decide) (by decide)).trans (V_main_arg2 m c),
    (kept main_arg3 (by decide) (by decide)).trans (V_main_arg3 m c),
    (kept main_arg4 (by decide) (by decide)).trans (V_main_arg4 m c),
    (kept main_arg5 (by decide) (by decide)).trans (V_main_arg5 m c),
    (kept main_arg6 (by decide) (by decide)).trans (V_main_arg6 m c),
    ((h.1 c).1 11).trans (((dats m 0 c).arrAt_in 11 rfl _).trans ((A_eq m c 11).trans (V_main_arg7 m c))),
    (kept main_arg8 (by decide) (by decide)).trans (V_main_arg8 m c),
    (kept main_arg9 (by decide) (by decide)).trans (V_main_arg9 m c)⟩

end Cert.MixLruIdeal.Value

end
-- ==== Proof.LruHost.lean ====
/-
  The host lines before the recurrence's backward call, read one at a time: each buffer is written once, after the
  buffers that its line reads, so that a line's equation holds of the final contents too. What the lines compute is what
  the reference's forward lines compute.
-/
module

public import proofs.«01_k».proof.Proof.LruFrame
public import proofs.«01_k».proof.Proof.Gen.MixLruRefIdeal.Run
public import Idealize.ShloMosaic.Lib.StableHlo.RunRead

@[expose] public section

set_option maxRecDepth 16384

noncomputable section

namespace Cert.MixLruIdeal.Value

open Idealize.ShloMosaic Idealize.ShloMosaic.TcCoe Idealize.SL.Sem
open Cert.MixLruIdeal.Gen Cert.MixLruRefIdeal.Value
open Idealize.ShloMosaic (HloOp Valuation)
open Idealize.ShloMosaic.StableHlo (after upto)

/-- The host lines before the call, as one list. -/
abbrev lines : List (HloOp τ sig (Elt Ideal)) := List.flatten [hostOps0, hostOps0_1, hostOps0_2, hostOps0_3, hostOps0_4]

/-- What the lines write, one buffer each. -/
def written : List (Ref sig .tc) := [main_v0, main_v1, main_v2, main_v3, main_v4, main_v5, main_v6, main_v7, main_v8, main_cst, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_cst_0, main_v54, main_v55, main_cst_1, main_v56, main_v57, main_v58, main_v59, main_v60, main_v61, main_v62, main_v63, main_v64, main_v65, main_cst_2, main_v66, main_v67, main_cst_3, main_v68, main_v69, main_v70, main_cst_4, main_v71, main_v72, main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v73, main_v74, main_v75, main_v76, main_v77, main_cst_5, main_v78, main_v79, main_v80, main_v81, main_v82, main_v83, main_c, main_v84, main_v85, main_v86, main_cst_6, main_call1_v0, main_call1_v1, main_call1_v2, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_cst_7, main_v189, main_v190, main_v191, main_v192, main_v193, main_v194, main_v195, main_cst_8, main_v196, main_v197, main_v198, main_v199, main_v200, main_v201, main_v202, main_cst_9, main_v203, main_v204, main_v205, main_v206, main_v207, main_v208, main_v209, main_cst_10, main_v210, main_v211, main_v212, main_v213, main_v214, main_v215, main_v216, main_cst_11, main_v217, main_v218, main_v219, main_v220, main_v221, main_v222, main_v223, main_cst_12, main_v224, main_v225, main_v226, main_v227, main_v228, main_v229, main_v230, main_cst_13, main_v231, main_v232, main_v233, main_v234, main_v235, main_v236, main_v237, main_cst_14, main_v238, main_v239, main_v240, main_v241, main_v242, main_v243, main_v244, main_cst_15, main_v245, main_v246, main_v247, main_v248, main_v249, main_v250, main_v251, main_cst_16, main_v252, main_v253, main_v254, main_v255, main_v256, main_v257, main_v258, main_cst_17, main_v259, main_v260, main_v261, main_v262, main_v263, main_v264, main_v265, main_v266, main_v267, main_v268, main_v269, main_v270, main_v271, main_v272, main_v273, main_v274, main_v275, main_v276, main_v277, main_v278, main_v279, main_v280, main_v281, main_v282]

theorem lines_writes : (lines.map HloOp.writes) = written.map fun w => {Proc.devRef (τ := τ) .tc w} := rfl

theorem written_idx : (written.map fun w => w.idx.val) = List.range' 10 321 := by decide +kernel

/-- A buffer of number below `10 + i` is written by none of the lines from `i` on. -/
theorem not_written {i : ℕ} {r : Ref sig .tc} (h : r.idx.val < 10 + i) : r ∉ written.drop i := by
  intro hr
  have h1 : r.idx.val ∈ (written.drop i).map fun w => w.idx.val := List.mem_map.mpr ⟨r, hr, rfl⟩
  rw [List.map_drop, written_idx, List.drop_range', List.mem_range'] at h1
  obtain ⟨j, -, hj⟩ := h1
  omega

theorem after_split (V : Valuation τ sig (Elt Ideal)) (i : ℕ) (r : Ref sig .tc) (h : r.idx.val < 10 + i) :
    upto lines V i (Proc.devRef .tc r) = after lines V (Proc.devRef .tc r) := by
  have e : after lines V = after (lines.drop i) (after (lines.take i) V) := by
    rw [← StableHlo.after_append, List.take_append_drop]
  rw [e]
  refine (StableHlo.after_unwritten (written.drop i) ?_ (not_written h) _).symm
  rw [List.map_drop, lines_writes, List.map_drop]

/-- The line at position `i` gives its buffer what it computes of the contents before it. -/
theorem line {i : ℕ} {op : HloOp τ sig (Elt Ideal)} (hop : lines[i]? = some op) (V : Valuation τ sig (Elt Ideal)) (r : Ref sig .tc)
    (h : r.idx.val < 10 + (i + 1)) : after lines V (Proc.devRef .tc r) = op.result (upto lines V i) (Proc.devRef .tc r) := by
  obtain ⟨hi, ho⟩ := List.getElem?_eq_some_iff.mp hop
  have hseg : lines.drop i = op :: lines.drop (i + 1) := by rw [List.drop_eq_getElem_cons hi, ho]
  refine StableHlo.after_last_write (written.drop (i + 1)) hseg ?_ (not_written h) V
  rw [List.map_drop, lines_writes, List.map_drop]

variable (m : (ℓ : Loc nD τ sig) → Buf (Elt Ideal) ℓ) (c : Dev nD)

theorem line0 (i : ℕ) {y : Ref sig .tc} {v hy} (hop : lines[i]? = some (StableHlo.nullary y v hy))
    (h : y.idx.val < 10 + (i + 1)) : V m c y = v :=
  (line hop _ y h).trans (StableHlo.nullary_result y v hy _)

theorem line1 (i : ℕ) {x y : Ref sig .tc} {f hx hy} (hop : lines[i]? = some (StableHlo.unary x y f hx hy))
    (h : y.idx.val < 10 + (i + 1)) (ha : x.idx.val < 10 + i) : V m c y = f (V m c x) := by
  refine (line hop _ y h).trans ((StableHlo.unary_result x y f hx hy _).trans ?_)
  rw [after_split _ i x ha]

theorem line2 (i : ℕ) {a b y : Ref sig .tc} {f ha hb hy} (hop : lines[i]? = some (StableHlo.binary a b y f ha hb hy))
    (h : y.idx.val < 10 + (i + 1)) (h1 : a.idx.val < 10 + i) (h2 : b.idx.val < 10 + i) : V m c y = f (V m c a) (V m c b) := by
  refine (line hop _ y h).trans ((StableHlo.binary_result a b y f ha hb hy _).trans ?_)
  rw [after_split _ i a h1, after_split _ i b h2]

theorem line3 (i : ℕ) {p a b y : Ref sig .tc} {f hp ha hb hy} (hop : lines[i]? = some (StableHlo.ternary p a b y f hp ha hb hy))
    (h : y.idx.val < 10 + (i + 1)) (h0 : p.idx.val < 10 + i) (h1 : a.idx.val < 10 + i) (h2 : b.idx.val < 10 + i) :
    V m c y = f (V m c p) (V m c a) (V m c b) := by
  refine (line hop _ y h).trans ((StableHlo.ternary_result p a b y f hp ha hb hy _).trans ?_)
  rw [after_split _ i p h0, after_split _ i a h1, after_split _ i b h2]

theorem lineR (i : ℕ) {x y : Ref sig .tc} {he hn hx hy} (hop : lines[i]? = some (StableHlo.reshape (Val := Elt Ideal) x y he hn hx hy))
    (h : y.idx.val < 10 + (i + 1)) (ha : x.idx.val < 10 + i) : V m c y = fun j => he ▸ shapeCast y.ty.shape (V m c x) hn j := by
  refine (line hop _ y h).trans ((StableHlo.reshape_result x y he hn hx hy _).trans ?_)
  rw [after_split _ i x ha]

/-- The kernel's launch holds these arguments. -/
def Held (P0 : FVec Ideal S1x2048x7168 .f32) (P1 : FVec Ideal S1x4x1024 .f32) (P2 : FVec Ideal S1x1024 .f32) (P3 : FVec Ideal S1x4x256x256 .f32) (P4 : FVec Ideal S1x4x256 .f32) (P5 : FVec Ideal S1x4x256x256 .f32) (P6 : FVec Ideal S1x4x256 .f32) (P7 : FVec Ideal S1x1024 .f32) (P8 : FVec Ideal S1x1024x1024 .f32) (P9 : FVec Ideal S1x2048x1024 .f32) : Prop :=
  m ((c : Thread nD τ).loc main_arg0) = P0 ∧ m ((c : Thread nD τ).loc main_arg1) = P1 ∧ m ((c : Thread nD τ).loc main_arg2) = P2 ∧ m ((c : Thread nD τ).loc main_arg3) = P3 ∧ m ((c : Thread nD τ).loc main_arg4) = P4 ∧ m ((c : Thread nD τ).loc main_arg5) = P5 ∧ m ((c : Thread nD τ).loc main_arg6) = P6 ∧ m ((c : Thread nD τ).loc main_arg7) = P7 ∧ m ((c : Thread nD τ).loc main_arg8) = P8 ∧ m ((c : Thread nD τ).loc main_arg9) = P9
/-- The reference's launch holds these arguments. -/
def HeldRef (V0 : Valuation Cert.MixLruRefIdeal.τ Cert.MixLruRefIdeal.sig (Elt Ideal)) (P0 : FVec Ideal S1x2048x7168 .f32) (P1 : FVec Ideal S1x4x1024 .f32) (P2 : FVec Ideal S1x1024 .f32) (P3 : FVec Ideal S1x4x256x256 .f32) (P4 : FVec Ideal S1x4x256 .f32) (P5 : FVec Ideal S1x4x256x256 .f32) (P6 : FVec Ideal S1x4x256 .f32) (P7 : FVec Ideal S1x1024 .f32) (P8 : FVec Ideal S1x1024x1024 .f32) (P9 : FVec Ideal S1x2048x1024 .f32) : Prop :=
  V0 (Proc.devRef .tc Cert.MixLruRefIdeal.main_arg0) = P0 ∧ V0 (Proc.devRef .tc Cert.MixLruRefIdeal.main_arg1) = P1 ∧ V0 (Proc.devRef .tc Cert.MixLruRefIdeal.main_arg2) = P2 ∧ V0 (Proc.devRef .tc Cert.MixLruRefIdeal.main_arg3) = P3 ∧ V0 (Proc.devRef .tc Cert.MixLruRefIdeal.main_arg4) = P4 ∧ V0 (Proc.devRef .tc Cert.MixLruRefIdeal.main_arg5) = P5 ∧ V0 (Proc.devRef .tc Cert.MixLruRefIdeal.main_arg6) = P6 ∧ V0 (Proc.devRef .tc Cert.MixLruRefIdeal.main_arg7) = P7 ∧ V0 (Proc.devRef .tc Cert.MixLruRefIdeal.main_arg8) = P8 ∧ V0 (Proc.devRef .tc Cert.MixLruRefIdeal.main_arg9) = P9

variable {m c} {V0 : Valuation Cert.MixLruRefIdeal.τ Cert.MixLruRefIdeal.sig (Elt Ideal)}
  {P0 : FVec Ideal S1x2048x7168 .f32} {P1 : FVec Ideal S1x4x1024 .f32} {P2 : FVec Ideal S1x1024 .f32} {P3 : FVec Ideal S1x4x256x256 .f32} {P4 : FVec Ideal S1x4x256 .f32} {P5 : FVec Ideal S1x4x256x256 .f32} {P6 : FVec Ideal S1x4x256 .f32} {P7 : FVec Ideal S1x1024 .f32} {P8 : FVec Ideal S1x1024x1024 .f32} {P9 : FVec Ideal S1x2048x1024 .f32}
  (h : Held m c P0 P1 P2 P3 P4 P5 P6 P7 P8 P9) (k : HeldRef V0 P0 P1 P2 P3 P4 P5 P6 P7 P8 P9)
include h k

theorem k_arg0 : ∀ X : FVec Ideal S1x2048x7168 .f32, V0 (Proc.devRef .tc Cert.MixLruRefIdeal.main_arg0) = X → V m c main_arg0 = X :=
  fun X hX => (V_main_arg0 m c).trans (h.1.trans (k.1.symm.trans hX))
theorem k_arg1 : ∀ X : FVec Ideal S1x4x1024 .f32, V0 (Proc.devRef .tc Cert.MixLruRefIdeal.main_arg1) = X → V m c main_arg1 = X :=
  fun X hX => (V_main_arg1 m c).trans (h.2.1.trans (k.2.1.symm.trans hX))
theorem k_arg2 : ∀ X : FVec Ideal S1x1024 .f32, V0 (Proc.devRef .tc Cert.MixLruRefIdeal.main_arg2) = X → V m c main_arg2 = X :=
  fun X hX => (V_main_arg2 m c).trans (h.2.2.1.trans (k.2.2.1.symm.trans hX))
theorem k_arg3 : ∀ X : FVec Ideal S1x4x256x256 .f32, V0 (Proc.devRef .tc Cert.MixLruRefIdeal.main_arg3) = X → V m c main_arg3 = X :=
  fun X hX => (V_main_arg3 m c).trans (h.2.2.2.1.trans (k.2.2.2.1.symm.trans hX))
theorem k_arg4 : ∀ X : FVec Ideal S1x4x256 .f32, V0 (Proc.devRef .tc Cert.MixLruRefIdeal.main_arg4) = X → V m c main_arg4 = X :=
  fun X hX => (V_main_arg4 m c).trans (h.2.2.2.2.1.trans (k.2.2.2.2.1.symm.trans hX))
theorem k_arg5 : ∀ X : FVec Ideal S1x4x256x256 .f32, V0 (Proc.devRef .tc Cert.MixLruRefIdeal.main_arg5) = X → V m c main_arg5 = X :=
  fun X hX => (V_main_arg5 m c).trans (h.2.2.2.2.2.1.trans (k.2.2.2.2.2.1.symm.trans hX))
theorem k_arg6 : ∀ X : FVec Ideal S1x4x256 .f32, V0 (Proc.devRef .tc Cert.MixLruRefIdeal.main_arg6) = X → V m c main_arg6 = X :=
  fun X hX => (V_main_arg6 m c).trans (h.2.2.2.2.2.2.1.trans (k.2.2.2.2.2.2.1.symm.trans hX))
theorem k_arg7 : ∀ X : FVec Ideal S1x1024 .f32, V0 (Proc.devRef .tc Cert.MixLruRefIdeal.main_arg7) = X → V m c main_arg7 = X :=
  fun X hX => (V_main_arg7 m c).trans (h.2.2.2.2.2.2.2.1.trans (k.2.2.2.2.2.2.2.1.symm.trans hX))
theorem k_arg8 : ∀ X : FVec Ideal S1x1024x1024 .f32, V0 (Proc.devRef .tc Cert.MixLruRefIdeal.main_arg8) = X → V m c main_arg8 = X :=
  fun X hX => (V_main_arg8 m c).trans (h.2.2.2.2.2.2.2.2.1.trans (k.2.2.2.2.2.2.2.2.1.symm.trans hX))
theorem k_arg9 : ∀ X : FVec Ideal S1x2048x1024 .f32, V0 (Proc.devRef .tc Cert.MixLruRefIdeal.main_arg9) = X → V m c main_arg9 = X :=
  fun X hX => (V_main_arg9 m c).trans (h.2.2.2.2.2.2.2.2.2.trans (k.2.2.2.2.2.2.2.2.2.symm.trans hX))
theorem k_v7 : ∀ X : Vec Ideal S4x1024 .f32, res_main_v7 (F := Ideal) V0 = X → V m c main_v7 = X := by
  rintro X rfl
  rw [lineR m c 7 (y := main_v7) rfl (by decide) (by decide), k_arg1 h k _ rfl]
  rfl
theorem k_cst : ∀ X : Vec Ideal S_ .f32, res_main_call0_call0_cst (F := Ideal) V0 = X → V m c main_cst = X := by
  rintro X rfl
  rw [line0 m c 9 (y := main_cst) rfl (by decide)]
  rfl
theorem k_v10 : ∀ X : Vec Ideal S1x2051x1024 .f32, res_main_v10 (F := Ideal) V0 = X → V m c main_v10 = X := by
  rintro X rfl
  rw [line2 m c 11 (y := main_v10) rfl (by decide) (by decide) (by decide), line1 m c 10 (y := main_v9) rfl (by decide) (by decide), line1 m c 3 (y := main_v3) rfl (by decide) (by decide), k_arg0 h k _ rfl, k_cst h k _ rfl]
  rfl
theorem k_v11 : ∀ X : Vec Ideal S1x2048x1024 .f32, res_main_v12 (F := Ideal) V0 = X → V m c main_v11 = X := by
  rintro X rfl
  rw [line1 m c 12 (y := main_v11) rfl (by decide) (by decide), k_v10 h k _ rfl]
  rfl
theorem k_v14 : ∀ X : Vec Ideal S1x1x1024 .f32, res_main_v15 (F := Ideal) V0 = X → V m c main_v14 = X := by
  rintro X rfl
  rw [line1 m c 15 (y := main_v14) rfl (by decide) (by decide), lineR m c 14 (y := main_v13) rfl (by decide) (by decide), line1 m c 13 (y := main_v12) rfl (by decide) (by decide), k_v7 h k _ rfl]
  rfl
theorem k_v17 : ∀ X : Vec Ideal S1x2048x1024 .f32, res_main_v18 (F := Ideal) V0 = X → V m c main_v17 = X := by
  rintro X rfl
  rw [line1 m c 18 (y := main_v17) rfl (by decide) (by decide), k_v10 h k _ rfl]
  rfl
theorem k_v20 : ∀ X : Vec Ideal S1x1x1024 .f32, res_main_v21 (F := Ideal) V0 = X → V m c main_v20 = X := by
  rintro X rfl
  rw [line1 m c 21 (y := main_v20) rfl (by decide) (by decide), lineR m c 20 (y := main_v19) rfl (by decide) (by decide), line1 m c 19 (y := main_v18) rfl (by decide) (by decide), k_v7 h k _ rfl]
  rfl
theorem k_v24 : ∀ X : Vec Ideal S1x2048x1024 .f32, res_main_v25 (F := Ideal) V0 = X → V m c main_v24 = X := by
  rintro X rfl
  rw [line1 m c 25 (y := main_v24) rfl (by decide) (by decide), k_v10 h k _ rfl]
  rfl
theorem k_v27 : ∀ X : Vec Ideal S1x1x1024 .f32, res_main_v28 (F := Ideal) V0 = X → V m c main_v27 = X := by
  rintro X rfl
  rw [line1 m c 28 (y := main_v27) rfl (by decide) (by decide), lineR m c 27 (y := main_v26) rfl (by decide) (by decide), line1 m c 26 (y := main_v25) rfl (by decide) (by decide), k_v7 h k _ rfl]
  rfl
theorem k_v31 : ∀ X : Vec Ideal S1x2048x1024 .f32, res_main_v32 (F := Ideal) V0 = X → V m c main_v31 = X := by
  rintro X rfl
  rw [line1 m c 32 (y := main_v31) rfl (by decide) (by decide), k_v10 h k _ rfl]
  rfl
theorem k_v34 : ∀ X : Vec Ideal S1x1x1024 .f32, res_main_v35 (F := Ideal) V0 = X → V m c main_v34 = X := by
  rintro X rfl
  rw [line1 m c 35 (y := main_v34) rfl (by decide) (by decide), lineR m c 34 (y := main_v33) rfl (by decide) (by decide), line1 m c 33 (y := main_v32) rfl (by decide) (by decide), k_v7 h k _ rfl]
  rfl
theorem k_v40 : ∀ X : Vec Ideal S1x2048x1024 .f32, res_main_v41 (F := Ideal) V0 = X → V m c main_v40 = X := by
  rintro X rfl
  rw [line2 m c 41 (y := main_v40) rfl (by decide) (by decide) (by decide), line2 m c 38 (y := main_v37) rfl (by decide) (by decide) (by decide), line2 m c 31 (y := main_v30) rfl (by decide) (by decide) (by decide), line2 m c 24 (y := main_v23) rfl (by decide) (by decide) (by decide), line2 m c 17 (y := main_v16) rfl (by decide) (by decide) (by decide), line1 m c 16 (y := main_v15) rfl (by decide) (by decide), line2 m c 23 (y := main_v22) rfl (by decide) (by decide) (by decide), line1 m c 22 (y := main_v21) rfl (by decide) (by decide), line2 m c 30 (y := main_v29) rfl (by decide) (by decide) (by decide), line1 m c 29 (y := main_v28) rfl (by decide) (by decide), line2 m c 37 (y := main_v36) rfl (by decide) (by decide) (by decide), line1 m c 36 (y := main_v35) rfl (by decide) (by decide), line1 m c 40 (y := main_v39) rfl (by decide) (by decide), line1 m c 39 (y := main_v38) rfl (by decide) (by decide), lineR m c 8 (y := main_v8) rfl (by decide) (by decide), k_arg2 h k _ rfl, k_v11 h k _ rfl, k_v14 h k _ rfl, k_v17 h k _ rfl, k_v20 h k _ rfl, k_v24 h k _ rfl, k_v27 h k _ rfl, k_v31 h k _ rfl, k_v34 h k _ rfl]
  rfl
theorem k_v41 : ∀ X : Vec Ideal S4x256x256 .f32, res_main_v42 (F := Ideal) V0 = X → V m c main_v41 = X := by
  rintro X rfl
  rw [lineR m c 42 (y := main_v41) rfl (by decide) (by decide), k_arg3 h k _ rfl]
  rfl
theorem k_v43 : ∀ X : Vec Ideal S4x256x256 .f32, res_main_v44 (F := Ideal) V0 = X → V m c main_v43 = X := by
  rintro X rfl
  rw [lineR m c 44 (y := main_v43) rfl (by decide) (by decide), k_arg5 h k _ rfl]
  rfl
theorem k_v46 : ∀ X : Vec Ideal S1x2048x4x256 .f32, res_main_v47 (F := Ideal) V0 = X → V m c main_v46 = X := by
  rintro X rfl
  rw [lineR m c 47 (y := main_v46) rfl (by decide) (by decide), k_v40 h k _ rfl]
  rfl
theorem k_v57 : ∀ X : Vec Ideal S1x2048x4x256 .f32, res_main_v58 (F := Ideal) V0 = X → V m c main_v57 = X := by
  rintro X rfl
  rw [line2 m c 60 (y := main_v57) rfl (by decide) (by decide) (by decide), line1 m c 59 (y := main_v56) rfl (by decide) (by decide), line0 m c 58 (y := main_cst_1) rfl (by decide), line2 m c 57 (y := main_v55) rfl (by decide) (by decide) (by decide), line1 m c 56 (y := main_v54) rfl (by decide) (by decide), line0 m c 55 (y := main_cst_0) rfl (by decide), line1 m c 54 (y := main_v53) rfl (by decide) (by decide), line1 m c 53 (y := main_v52) rfl (by decide) (by decide), line2 m c 52 (y := main_v51) rfl (by decide) (by decide) (by decide), line1 m c 49 (y := main_v48) rfl (by decide) (by decide), line2 m c 48 (y := main_v47) rfl (by decide) (by decide) (by decide), line1 m c 51 (y := main_v50) rfl (by decide) (by decide), line1 m c 50 (y := main_v49) rfl (by decide) (by decide), lineR m c 43 (y := main_v42) rfl (by decide) (by decide), k_arg4 h k _ rfl, k_v41 h k _ rfl, k_v46 h k _ rfl]
  rfl
theorem k_v69 : ∀ X : Vec Ideal S1x2048x4x256 .f32, res_main_v73 (F := Ideal) V0 = X → V m c main_v69 = X := by
  rintro X rfl
  rw [line2 m c 74 (y := main_v69) rfl (by decide) (by decide) (by decide), line1 m c 73 (y := main_v68) rfl (by decide) (by decide), line0 m c 72 (y := main_cst_3) rfl (by decide), line2 m c 71 (y := main_v67) rfl (by decide) (by decide) (by decide), line1 m c 70 (y := main_v66) rfl (by decide) (by decide), line0 m c 69 (y := main_cst_2) rfl (by decide), line1 m c 68 (y := main_v65) rfl (by decide) (by decide), line1 m c 67 (y := main_v64) rfl (by decide) (by decide), line2 m c 66 (y := main_v63) rfl (by decide) (by decide) (by decide), line1 m c 63 (y := main_v60) rfl (by decide) (by decide), line2 m c 62 (y := main_v59) rfl (by decide) (by decide) (by decide), line1 m c 65 (y := main_v62) rfl (by decide) (by decide), line1 m c 64 (y := main_v61) rfl (by decide) (by decide), lineR m c 45 (y := main_v44) rfl (by decide) (by decide), k_arg6 h k _ rfl, k_v43 h k _ rfl, k_v46 h k _ rfl]
  rfl
theorem k_v70 : ∀ X : Vec Ideal S1x2048x1024 .f32, res_main_v77 (F := Ideal) V0 = X → V m c main_v70 = X := by
  rintro X rfl
  rw [lineR m c 75 (y := main_v70) rfl (by decide) (by decide), k_v69 h k _ rfl]
  rfl
theorem k_v72 : ∀ X : Vec Ideal S1x2048x1024 .f32, res_main_v79 (F := Ideal) V0 = X → V m c main_v72 = X := by
  rintro X rfl
  rw [line2 m c 78 (y := main_v72) rfl (by decide) (by decide) (by decide), line1 m c 77 (y := main_v71) rfl (by decide) (by decide), line0 m c 76 (y := main_cst_4) rfl (by decide), lineR m c 61 (y := main_v58) rfl (by decide) (by decide), k_v57 h k _ rfl]
  rfl
theorem k_call0_v0 : ∀ X : Vec Ideal S1024 .f32, res_main_call0_v0 (F := Ideal) V0 = X → V m c main_call0_v0 = X := by
  rintro X rfl
  rw [line1 m c 79 (y := main_call0_v0) rfl (by decide) (by decide), lineR m c 46 (y := main_v45) rfl (by decide) (by decide), k_arg7 h k _ rfl]
  rfl
theorem k_call0_call0_cst : ∀ X : Vec Ideal S_ .f32, res_main_call0_call0_cst (F := Ideal) V0 = X → V m c main_call0_call0_cst = X := by
  rintro X rfl
  rw [line0 m c 80 (y := main_call0_call0_cst) rfl (by decide)]
  rfl
theorem k_call0_call0_v3 : ∀ X : Vec Ideal S1024 .f32, res_main_call0_call0_v3 (F := Ideal) V0 = X → V m c main_call0_call0_v3 = X := by
  rintro X rfl
  rw [line2 m c 84 (y := main_call0_call0_v3) rfl (by decide) (by decide) (by decide), line1 m c 83 (y := main_call0_call0_v2) rfl (by decide) (by decide), k_call0_call0_cst h k _ rfl, k_call0_v0 h k _ rfl]
  rfl
theorem k_call0_v1 : ∀ X : Vec Ideal S1024 .f32, res_main_call0_v1_0 (F := Ideal) V0 = X → V m c main_call0_v1 = X := by
  rintro X rfl
  rw [line3 m c 93 (y := main_call0_v1) rfl (by decide) (by decide) (by decide) (by decide), line2 m c 85 (y := main_call0_call0_v4) rfl (by decide) (by decide) (by decide), line2 m c 87 (y := main_call0_call0_v6) rfl (by decide) (by decide) (by decide), line1 m c 86 (y := main_call0_call0_v5) rfl (by decide) (by decide), line2 m c 92 (y := main_call0_call0_v11) rfl (by decide) (by decide) (by decide), line2 m c 82 (y := main_call0_call0_v1) rfl (by decide) (by decide) (by decide), line1 m c 81 (y := main_call0_call0_v0) rfl (by decide) (by decide), line1 m c 91 (y := main_call0_call0_v10) rfl (by decide) (by decide), line1 m c 90 (y := main_call0_call0_v9) rfl (by decide) (by decide), line1 m c 89 (y := main_call0_call0_v8) rfl (by decide) (by decide), line1 m c 88 (y := main_call0_call0_v7) rfl (by decide) (by decide), k_call0_call0_cst h k _ rfl, k_call0_call0_v3 h k _ rfl, k_call0_v0 h k _ rfl]
  rfl
theorem k_v74 : ∀ X : Vec Ideal S1x1x1024 .f32, res_main_v81 (F := Ideal) V0 = X → V m c main_v74 = X := by
  rintro X rfl
  rw [line1 m c 95 (y := main_v74) rfl (by decide) (by decide), line1 m c 94 (y := main_v73) rfl (by decide) (by decide), k_call0_v1 h k _ rfl]
  rfl
theorem k_v76 : ∀ X : Vec Ideal S1x2048x1024 .f32, res_main_v83 (F := Ideal) V0 = X → V m c main_v76 = X := by
  rintro X rfl
  rw [line2 m c 97 (y := main_v76) rfl (by decide) (by decide) (by decide), line1 m c 96 (y := main_v75) rfl (by decide) (by decide), k_v72 h k _ rfl, k_v74 h k _ rfl]
  rfl
theorem k_v77 : ∀ X : Vec Ideal S1x2048x1024 .f32, res_main_v84 (F := Ideal) V0 = X → V m c main_v77 = X := by
  rintro X rfl
  rw [line1 m c 98 (y := main_v77) rfl (by decide) (by decide), k_v76 h k _ rfl]
  rfl
theorem k_v79 : ∀ X : Vec Ideal S1x2048x1024 .f32, res_main_v86 (F := Ideal) V0 = X → V m c main_v79 = X := by
  rintro X rfl
  rw [line2 m c 101 (y := main_v79) rfl (by decide) (by decide) (by decide), line1 m c 100 (y := main_v78) rfl (by decide) (by decide), line0 m c 99 (y := main_cst_5) rfl (by decide), k_v76 h k _ rfl]
  rfl
theorem k_v82 : ∀ X : Vec Ideal S1x2048x1024 .f32, res_main_v90 (F := Ideal) V0 = X → V m c main_v82 = X := by
  rintro X rfl
  rw [line1 m c 104 (y := main_v82) rfl (by decide) (by decide), line1 m c 103 (y := main_v81) rfl (by decide) (by decide), line1 m c 102 (y := main_v80) rfl (by decide) (by decide), k_v79 h k _ rfl]
  rfl
theorem k_call1_v1 : ∀ X : Vec Ideal S1x2048x1024 .i1, res_main_v97_1 (F := Ideal) V0 = X → V m c main_call1_v1 = X := by
  rintro X rfl
  rw [line1 m c 112 (y := main_call1_v1) rfl (by decide) (by decide), line1 m c 109 (y := main_v86) rfl (by decide) (by decide), line2 m c 108 (y := main_v85) rfl (by decide) (by decide) (by decide), line0 m c 105 (y := main_v83) rfl (by decide), line1 m c 107 (y := main_v84) rfl (by decide) (by decide), line0 m c 106 (y := main_c) rfl (by decide)]
  rfl
theorem k_v87 : ∀ X : Vec Ideal S1x2048x1024 .f32, res_main_v97_0 (F := Ideal) V0 = X → V m c main_v87 = X := by
  rintro X rfl
  rw [line3 m c 114 (y := main_v87) rfl (by decide) (by decide) (by decide) (by decide), line1 m c 113 (y := main_call1_v2) rfl (by decide) (by decide), line1 m c 111 (y := main_call1_v0) rfl (by decide) (by decide), line0 m c 110 (y := main_cst_6) rfl (by decide), k_call1_v1 h k _ rfl, k_v82 h k _ rfl]
  rfl
theorem k_v88 : ∀ X : Vec Ideal S1x2048x1024 .f32, res_main_v98 (F := Ideal) V0 = X → V m c main_v88 = X := by
  rintro X rfl
  rw [line2 m c 115 (y := main_v88) rfl (by decide) (by decide) (by decide), k_v40 h k _ rfl, k_v70 h k _ rfl]
  rfl
theorem k_v90 : ∀ X : Vec Ideal S1x1024x2048 .f32, res_main_v100 (F := Ideal) V0 = X → V m c main_v90 = X := by
  rintro X rfl
  rw [lineR m c 117 (y := main_v90) rfl (by decide) (by decide), k_v77 h k _ rfl]
  rfl
theorem k_v91 : ∀ X : Vec Ideal S1x1024x2048 .f32, res_main_v101 (F := Ideal) V0 = X → V m c main_v91 = X := by
  rintro X rfl
  rw [lineR m c 118 (y := main_v91) rfl (by decide) (by decide), line2 m c 116 (y := main_v89) rfl (by decide) (by decide) (by decide), k_v87 h k _ rfl, k_v88 h k _ rfl]
  rfl
theorem k_v92 : ∀ X : Vec Ideal S1x1024x1024 .f32, res_main_v102 (F := Ideal) V0 = X → V m c main_v92 = X := by
  rintro X rfl
  rw [line1 m c 119 (y := main_v92) rfl (by decide) (by decide), k_v90 h k _ rfl]
  rfl
theorem k_v93 : ∀ X : Vec Ideal S1x1024x1024 .f32, res_main_v103 (F := Ideal) V0 = X → V m c main_v93 = X := by
  rintro X rfl
  rw [line1 m c 120 (y := main_v93) rfl (by decide) (by decide), k_v90 h k _ rfl]
  rfl
theorem k_v94 : ∀ X : Vec Ideal S1x1024x1024 .f32, res_main_v104 (F := Ideal) V0 = X → V m c main_v94 = X := by
  rintro X rfl
  rw [line1 m c 121 (y := main_v94) rfl (by decide) (by decide), k_v91 h k _ rfl]
  rfl
theorem k_v99 : ∀ X : Vec Ideal S1x512x2048 .f32, res_main_v109 (F := Ideal) V0 = X → V m c main_v99 = X := by
  rintro X rfl
  rw [lineR m c 126 (y := main_v99) rfl (by decide) (by decide), line2 m c 123 (y := main_v96) rfl (by decide) (by decide) (by decide), k_v92 h k _ rfl, k_v93 h k _ rfl]
  rfl
theorem k_v100 : ∀ X : Vec Ideal S1x512x2048 .f32, res_main_v110 (F := Ideal) V0 = X → V m c main_v100 = X := by
  rintro X rfl
  rw [lineR m c 127 (y := main_v100) rfl (by decide) (by decide), line2 m c 125 (y := main_v98) rfl (by decide) (by decide) (by decide), line2 m c 124 (y := main_v97) rfl (by decide) (by decide) (by decide), line1 m c 122 (y := main_v95) rfl (by decide) (by decide), k_v91 h k _ rfl, k_v93 h k _ rfl, k_v94 h k _ rfl]
  rfl
theorem k_v101 : ∀ X : Vec Ideal S1x512x1024 .f32, res_main_v111 (F := Ideal) V0 = X → V m c main_v101 = X := by
  rintro X rfl
  rw [line1 m c 128 (y := main_v101) rfl (by decide) (by decide), k_v99 h k _ rfl]
  rfl
theorem k_v102 : ∀ X : Vec Ideal S1x512x1024 .f32, res_main_v112 (F := Ideal) V0 = X → V m c main_v102 = X := by
  rintro X rfl
  rw [line1 m c 129 (y := main_v102) rfl (by decide) (by decide), k_v99 h k _ rfl]
  rfl
theorem k_v103 : ∀ X : Vec Ideal S1x512x1024 .f32, res_main_v113 (F := Ideal) V0 = X → V m c main_v103 = X := by
  rintro X rfl
  rw [line1 m c 130 (y := main_v103) rfl (by decide) (by decide), k_v100 h k _ rfl]
  rfl
theorem k_v108 : ∀ X : Vec Ideal S1x256x2048 .f32, res_main_v118 (F := Ideal) V0 = X → V m c main_v108 = X := by
  rintro X rfl
  rw [lineR m c 135 (y := main_v108) rfl (by decide) (by decide), line2 m c 132 (y := main_v105) rfl (by decide) (by decide) (by decide), k_v101 h k _ rfl, k_v102 h k _ rfl]
  rfl
theorem k_v109 : ∀ X : Vec Ideal S1x256x2048 .f32, res_main_v119 (F := Ideal) V0 = X → V m c main_v109 = X := by
  rintro X rfl
  rw [lineR m c 136 (y := main_v109) rfl (by decide) (by decide), line2 m c 134 (y := main_v107) rfl (by decide) (by decide) (by decide), line2 m c 133 (y := main_v106) rfl (by decide) (by decide) (by decide), line1 m c 131 (y := main_v104) rfl (by decide) (by decide), k_v100 h k _ rfl, k_v102 h k _ rfl, k_v103 h k _ rfl]
  rfl
theorem k_v110 : ∀ X : Vec Ideal S1x256x1024 .f32, res_main_v120 (F := Ideal) V0 = X → V m c main_v110 = X := by
  rintro X rfl
  rw [line1 m c 137 (y := main_v110) rfl (by decide) (by decide), k_v108 h k _ rfl]
  rfl
theorem k_v111 : ∀ X : Vec Ideal S1x256x1024 .f32, res_main_v121 (F := Ideal) V0 = X → V m c main_v111 = X := by
  rintro X rfl
  rw [line1 m c 138 (y := main_v111) rfl (by decide) (by decide), k_v108 h k _ rfl]
  rfl
theorem k_v112 : ∀ X : Vec Ideal S1x256x1024 .f32, res_main_v122 (F := Ideal) V0 = X → V m c main_v112 = X := by
  rintro X rfl
  rw [line1 m c 139 (y := main_v112) rfl (by decide) (by decide), k_v109 h k _ rfl]
  rfl
theorem k_v117 : ∀ X : Vec Ideal S1x128x2048 .f32, res_main_v127 (F := Ideal) V0 = X → V m c main_v117 = X := by
  rintro X rfl
  rw [lineR m c 144 (y := main_v117) rfl (by decide) (by decide), line2 m c 141 (y := main_v114) rfl (by decide) (by decide) (by decide), k_v110 h k _ rfl, k_v111 h k _ rfl]
  rfl
theorem k_v118 : ∀ X : Vec Ideal S1x128x2048 .f32, res_main_v128 (F := Ideal) V0 = X → V m c main_v118 = X := by
  rintro X rfl
  rw [lineR m c 145 (y := main_v118) rfl (by decide) (by decide), line2 m c 143 (y := main_v116) rfl (by decide) (by decide) (by decide), line2 m c 142 (y := main_v115) rfl (by decide) (by decide) (by decide), line1 m c 140 (y := main_v113) rfl (by decide) (by decide), k_v109 h k _ rfl, k_v111 h k _ rfl, k_v112 h k _ rfl]
  rfl
theorem k_v119 : ∀ X : Vec Ideal S1x128x1024 .f32, res_main_v129 (F := Ideal) V0 = X → V m c main_v119 = X := by
  rintro X rfl
  rw [line1 m c 146 (y := main_v119) rfl (by decide) (by decide), k_v117 h k _ rfl]
  rfl
theorem k_v120 : ∀ X : Vec Ideal S1x128x1024 .f32, res_main_v130 (F := Ideal) V0 = X → V m c main_v120 = X := by
  rintro X rfl
  rw [line1 m c 147 (y := main_v120) rfl (by decide) (by decide), k_v117 h k _ rfl]
  rfl
theorem k_v121 : ∀ X : Vec Ideal S1x128x1024 .f32, res_main_v131 (F := Ideal) V0 = X → V m c main_v121 = X := by
  rintro X rfl
  rw [line1 m c 148 (y := main_v121) rfl (by decide) (by decide), k_v118 h k _ rfl]
  rfl
theorem k_v126 : ∀ X : Vec Ideal S1x64x2048 .f32, res_main_v136 (F := Ideal) V0 = X → V m c main_v126 = X := by
  rintro X rfl
  rw [lineR m c 153 (y := main_v126) rfl (by decide) (by decide), line2 m c 150 (y := main_v123) rfl (by decide) (by decide) (by decide), k_v119 h k _ rfl, k_v120 h k _ rfl]
  rfl
theorem k_v127 : ∀ X : Vec Ideal S1x64x2048 .f32, res_main_v137 (F := Ideal) V0 = X → V m c main_v127 = X := by
  rintro X rfl
  rw [lineR m c 154 (y := main_v127) rfl (by decide) (by decide), line2 m c 152 (y := main_v125) rfl (by decide) (by decide) (by decide), line2 m c 151 (y := main_v124) rfl (by decide) (by decide) (by decide), line1 m c 149 (y := main_v122) rfl (by decide) (by decide), k_v118 h k _ rfl, k_v120 h k _ rfl, k_v121 h k _ rfl]
  rfl
theorem k_v128 : ∀ X : Vec Ideal S1x64x1024 .f32, res_main_v138 (F := Ideal) V0 = X → V m c main_v128 = X := by
  rintro X rfl
  rw [line1 m c 155 (y := main_v128) rfl (by decide) (by decide), k_v126 h k _ rfl]
  rfl
theorem k_v129 : ∀ X : Vec Ideal S1x64x1024 .f32, res_main_v139 (F := Ideal) V0 = X → V m c main_v129 = X := by
  rintro X rfl
  rw [line1 m c 156 (y := main_v129) rfl (by decide) (by decide), k_v126 h k _ rfl]
  rfl
theorem k_v130 : ∀ X : Vec Ideal S1x64x1024 .f32, res_main_v140 (F := Ideal) V0 = X → V m c main_v130 = X := by
  rintro X rfl
  rw [line1 m c 157 (y := main_v130) rfl (by decide) (by decide), k_v127 h k _ rfl]
  rfl
theorem k_v135 : ∀ X : Vec Ideal S1x32x2048 .f32, res_main_v145 (F := Ideal) V0 = X → V m c main_v135 = X := by
  rintro X rfl
  rw [lineR m c 162 (y := main_v135) rfl (by decide) (by decide), line2 m c 159 (y := main_v132) rfl (by decide) (by decide) (by decide), k_v128 h k _ rfl, k_v129 h k _ rfl]
  rfl
theorem k_v136 : ∀ X : Vec Ideal S1x32x2048 .f32, res_main_v146 (F := Ideal) V0 = X → V m c main_v136 = X := by
  rintro X rfl
  rw [lineR m c 163 (y := main_v136) rfl (by decide) (by decide), line2 m c 161 (y := main_v134) rfl (by decide) (by decide) (by decide), line2 m c 160 (y := main_v133) rfl (by decide) (by decide) (by decide), line1 m c 158 (y := main_v131) rfl (by decide) (by decide), k_v127 h k _ rfl, k_v129 h k _ rfl, k_v130 h k _ rfl]
  rfl
theorem k_v137 : ∀ X : Vec Ideal S1x32x1024 .f32, res_main_v147 (F := Ideal) V0 = X → V m c main_v137 = X := by
  rintro X rfl
  rw [line1 m c 164 (y := main_v137) rfl (by decide) (by decide), k_v135 h k _ rfl]
  rfl
theorem k_v138 : ∀ X : Vec Ideal S1x32x1024 .f32, res_main_v148 (F := Ideal) V0 = X → V m c main_v138 = X := by
  rintro X rfl
  rw [line1 m c 165 (y := main_v138) rfl (by decide) (by decide), k_v135 h k _ rfl]
  rfl
theorem k_v139 : ∀ X : Vec Ideal S1x32x1024 .f32, res_main_v149 (F := Ideal) V0 = X → V m c main_v139 = X := by
  rintro X rfl
  rw [line1 m c 166 (y := main_v139) rfl (by decide) (by decide), k_v136 h k _ rfl]
  rfl
theorem k_v144 : ∀ X : Vec Ideal S1x16x2048 .f32, res_main_v154 (F := Ideal) V0 = X → V m c main_v144 = X := by
  rintro X rfl
  rw [lineR m c 171 (y := main_v144) rfl (by decide) (by decide), line2 m c 168 (y := main_v141) rfl (by decide) (by decide) (by decide), k_v137 h k _ rfl, k_v138 h k _ rfl]
  rfl
theorem k_v145 : ∀ X : Vec Ideal S1x16x2048 .f32, res_main_v155 (F := Ideal) V0 = X → V m c main_v145 = X := by
  rintro X rfl
  rw [lineR m c 172 (y := main_v145) rfl (by decide) (by decide), line2 m c 170 (y := main_v143) rfl (by decide) (by decide) (by decide), line2 m c 169 (y := main_v142) rfl (by decide) (by decide) (by decide), line1 m c 167 (y := main_v140) rfl (by decide) (by decide), k_v136 h k _ rfl, k_v138 h k _ rfl, k_v139 h k _ rfl]
  rfl
theorem k_v146 : ∀ X : Vec Ideal S1x16x1024 .f32, res_main_v156 (F := Ideal) V0 = X → V m c main_v146 = X := by
  rintro X rfl
  rw [line1 m c 173 (y := main_v146) rfl (by decide) (by decide), k_v144 h k _ rfl]
  rfl
theorem k_v147 : ∀ X : Vec Ideal S1x16x1024 .f32, res_main_v157 (F := Ideal) V0 = X → V m c main_v147 = X := by
  rintro X rfl
  rw [line1 m c 174 (y := main_v147) rfl (by decide) (by decide), k_v144 h k _ rfl]
  rfl
theorem k_v148 : ∀ X : Vec Ideal S1x16x1024 .f32, res_main_v158 (F := Ideal) V0 = X → V m c main_v148 = X := by
  rintro X rfl
  rw [line1 m c 175 (y := main_v148) rfl (by decide) (by decide), k_v145 h k _ rfl]
  rfl
theorem k_v153 : ∀ X : Vec Ideal S1x8x2048 .f32, res_main_v163 (F := Ideal) V0 = X → V m c main_v153 = X := by
  rintro X rfl
  rw [lineR m c 180 (y := main_v153) rfl (by decide) (by decide), line2 m c 177 (y := main_v150) rfl (by decide) (by decide) (by decide), k_v146 h k _ rfl, k_v147 h k _ rfl]
  rfl
theorem k_v154 : ∀ X : Vec Ideal S1x8x2048 .f32, res_main_v164 (F := Ideal) V0 = X → V m c main_v154 = X := by
  rintro X rfl
  rw [lineR m c 181 (y := main_v154) rfl (by decide) (by decide), line2 m c 179 (y := main_v152) rfl (by decide) (by decide) (by decide), line2 m c 178 (y := main_v151) rfl (by decide) (by decide) (by decide), line1 m c 176 (y := main_v149) rfl (by decide) (by decide), k_v145 h k _ rfl, k_v147 h k _ rfl, k_v148 h k _ rfl]
  rfl
theorem k_v155 : ∀ X : Vec Ideal S1x8x1024 .f32, res_main_v165 (F := Ideal) V0 = X → V m c main_v155 = X := by
  rintro X rfl
  rw [line1 m c 182 (y := main_v155) rfl (by decide) (by decide), k_v153 h k _ rfl]
  rfl
theorem k_v156 : ∀ X : Vec Ideal S1x8x1024 .f32, res_main_v166 (F := Ideal) V0 = X → V m c main_v156 = X := by
  rintro X rfl
  rw [line1 m c 183 (y := main_v156) rfl (by decide) (by decide), k_v153 h k _ rfl]
  rfl
theorem k_v157 : ∀ X : Vec Ideal S1x8x1024 .f32, res_main_v167 (F := Ideal) V0 = X → V m c main_v157 = X := by
  rintro X rfl
  rw [line1 m c 184 (y := main_v157) rfl (by decide) (by decide), k_v154 h k _ rfl]
  rfl
theorem k_v162 : ∀ X : Vec Ideal S1x4x2048 .f32, res_main_v172 (F := Ideal) V0 = X → V m c main_v162 = X := by
  rintro X rfl
  rw [lineR m c 189 (y := main_v162) rfl (by decide) (by decide), line2 m c 186 (y := main_v159) rfl (by decide) (by decide) (by decide), k_v155 h k _ rfl, k_v156 h k _ rfl]
  rfl
theorem k_v163 : ∀ X : Vec Ideal S1x4x2048 .f32, res_main_v173 (F := Ideal) V0 = X → V m c main_v163 = X := by
  rintro X rfl
  rw [lineR m c 190 (y := main_v163) rfl (by decide) (by decide), line2 m c 188 (y := main_v161) rfl (by decide) (by decide) (by decide), line2 m c 187 (y := main_v160) rfl (by decide) (by decide) (by decide), line1 m c 185 (y := main_v158) rfl (by decide) (by decide), k_v154 h k _ rfl, k_v156 h k _ rfl, k_v157 h k _ rfl]
  rfl
theorem k_v164 : ∀ X : Vec Ideal S1x4x1024 .f32, res_main_v174 (F := Ideal) V0 = X → V m c main_v164 = X := by
  rintro X rfl
  rw [line1 m c 191 (y := main_v164) rfl (by decide) (by decide), k_v162 h k _ rfl]
  rfl
theorem k_v165 : ∀ X : Vec Ideal S1x4x1024 .f32, res_main_v175 (F := Ideal) V0 = X → V m c main_v165 = X := by
  rintro X rfl
  rw [line1 m c 192 (y := main_v165) rfl (by decide) (by decide), k_v162 h k _ rfl]
  rfl
theorem k_v166 : ∀ X : Vec Ideal S1x4x1024 .f32, res_main_v176 (F := Ideal) V0 = X → V m c main_v166 = X := by
  rintro X rfl
  rw [line1 m c 193 (y := main_v166) rfl (by decide) (by decide), k_v163 h k _ rfl]
  rfl
theorem k_v171 : ∀ X : Vec Ideal S1x2x2048 .f32, res_main_v181 (F := Ideal) V0 = X → V m c main_v171 = X := by
  rintro X rfl
  rw [lineR m c 198 (y := main_v171) rfl (by decide) (by decide), line2 m c 195 (y := main_v168) rfl (by decide) (by decide) (by decide), k_v164 h k _ rfl, k_v165 h k _ rfl]
  rfl
theorem k_v172 : ∀ X : Vec Ideal S1x2x2048 .f32, res_main_v182 (F := Ideal) V0 = X → V m c main_v172 = X := by
  rintro X rfl
  rw [lineR m c 199 (y := main_v172) rfl (by decide) (by decide), line2 m c 197 (y := main_v170) rfl (by decide) (by decide) (by decide), line2 m c 196 (y := main_v169) rfl (by decide) (by decide) (by decide), line1 m c 194 (y := main_v167) rfl (by decide) (by decide), k_v163 h k _ rfl, k_v165 h k _ rfl, k_v166 h k _ rfl]
  rfl
theorem k_v173 : ∀ X : Vec Ideal S1x2x1024 .f32, res_main_v183 (F := Ideal) V0 = X → V m c main_v173 = X := by
  rintro X rfl
  rw [line1 m c 200 (y := main_v173) rfl (by decide) (by decide), k_v171 h k _ rfl]
  rfl
theorem k_v174 : ∀ X : Vec Ideal S1x2x1024 .f32, res_main_v184 (F := Ideal) V0 = X → V m c main_v174 = X := by
  rintro X rfl
  rw [line1 m c 201 (y := main_v174) rfl (by decide) (by decide), k_v171 h k _ rfl]
  rfl
theorem k_v175 : ∀ X : Vec Ideal S1x2x1024 .f32, res_main_v185 (F := Ideal) V0 = X → V m c main_v175 = X := by
  rintro X rfl
  rw [line1 m c 202 (y := main_v175) rfl (by decide) (by decide), k_v172 h k _ rfl]
  rfl
theorem k_v180 : ∀ X : Vec Ideal S1x1x2048 .f32, res_main_v190 (F := Ideal) V0 = X → V m c main_v180 = X := by
  rintro X rfl
  rw [lineR m c 207 (y := main_v180) rfl (by decide) (by decide), line2 m c 204 (y := main_v177) rfl (by decide) (by decide) (by decide), k_v173 h k _ rfl, k_v174 h k _ rfl]
  rfl
theorem k_v181 : ∀ X : Vec Ideal S1x1x2048 .f32, res_main_v191 (F := Ideal) V0 = X → V m c main_v181 = X := by
  rintro X rfl
  rw [lineR m c 208 (y := main_v181) rfl (by decide) (by decide), line2 m c 206 (y := main_v179) rfl (by decide) (by decide) (by decide), line2 m c 205 (y := main_v178) rfl (by decide) (by decide) (by decide), line1 m c 203 (y := main_v176) rfl (by decide) (by decide), k_v172 h k _ rfl, k_v174 h k _ rfl, k_v175 h k _ rfl]
  rfl
theorem k_v182 : ∀ X : Vec Ideal S1x1x1024 .f32, res_main_v192 (F := Ideal) V0 = X → V m c main_v182 = X := by
  rintro X rfl
  rw [line1 m c 209 (y := main_v182) rfl (by decide) (by decide), k_v180 h k _ rfl]
  rfl
theorem k_v183 : ∀ X : Vec Ideal S1x1x1024 .f32, res_main_v193 (F := Ideal) V0 = X → V m c main_v183 = X := by
  rintro X rfl
  rw [line1 m c 210 (y := main_v183) rfl (by decide) (by decide), k_v180 h k _ rfl]
  rfl
theorem k_v184 : ∀ X : Vec Ideal S1x1x1024 .f32, res_main_v194 (F := Ideal) V0 = X → V m c main_v184 = X := by
  rintro X rfl
  rw [line1 m c 211 (y := main_v184) rfl (by decide) (by decide), k_v181 h k _ rfl]
  rfl
theorem k_v188 : ∀ X : Vec Ideal S1x1x1024 .f32, res_main_v198 (F := Ideal) V0 = X → V m c main_v188 = X := by
  rintro X rfl
  rw [line2 m c 215 (y := main_v188) rfl (by decide) (by decide) (by decide), line2 m c 214 (y := main_v187) rfl (by decide) (by decide) (by decide), line1 m c 212 (y := main_v185) rfl (by decide) (by decide), k_v181 h k _ rfl, k_v183 h k _ rfl, k_v184 h k _ rfl]
  rfl
theorem k_cst_7 : ∀ X : Vec Ideal S_ .f32, res_main_call0_call0_cst (F := Ideal) V0 = X → V m c main_cst_7 = X := by
  rintro X rfl
  rw [line0 m c 216 (y := main_cst_7) rfl (by decide)]
  rfl
theorem k_v191 : ∀ X : Vec Ideal S1x1x1024 .f32, res_main_v202 (F := Ideal) V0 = X → V m c main_v191 = X := by
  rintro X rfl
  rw [line1 m c 219 (y := main_v191) rfl (by decide) (by decide), line2 m c 218 (y := main_v190) rfl (by decide) (by decide) (by decide), line1 m c 217 (y := main_v189) rfl (by decide) (by decide), k_cst_7 h k _ rfl, k_v188 h k _ rfl]
  rfl
theorem k_v195 : ∀ X : Vec Ideal S1x2x1024 .f32, res_main_v206 (F := Ideal) V0 = X → V m c main_v195 = X := by
  rintro X rfl
  rw [lineR m c 223 (y := main_v195) rfl (by decide) (by decide), line2 m c 222 (y := main_v194) rfl (by decide) (by decide) (by decide), line2 m c 221 (y := main_v193) rfl (by decide) (by decide) (by decide), line2 m c 220 (y := main_v192) rfl (by decide) (by decide) (by decide), k_v182 h k _ rfl, k_v184 h k _ rfl, k_v188 h k _ rfl, k_v191 h k _ rfl]
  rfl
theorem k_cst_8 : ∀ X : Vec Ideal S_ .f32, res_main_call0_call0_cst (F := Ideal) V0 = X → V m c main_cst_8 = X := by
  rintro X rfl
  rw [line0 m c 224 (y := main_cst_8) rfl (by decide)]
  rfl
theorem k_v198 : ∀ X : Vec Ideal S1x2x1024 .f32, res_main_v210 (F := Ideal) V0 = X → V m c main_v198 = X := by
  rintro X rfl
  rw [line1 m c 227 (y := main_v198) rfl (by decide) (by decide), line2 m c 226 (y := main_v197) rfl (by decide) (by decide) (by decide), line1 m c 225 (y := main_v196) rfl (by decide) (by decide), k_cst_8 h k _ rfl, k_v195 h k _ rfl]
  rfl
theorem k_v202 : ∀ X : Vec Ideal S1x4x1024 .f32, res_main_v214 (F := Ideal) V0 = X → V m c main_v202 = X := by
  rintro X rfl
  rw [lineR m c 231 (y := main_v202) rfl (by decide) (by decide), line2 m c 230 (y := main_v201) rfl (by decide) (by decide) (by decide), line2 m c 229 (y := main_v200) rfl (by decide) (by decide) (by decide), line2 m c 228 (y := main_v199) rfl (by decide) (by decide) (by decide), k_v173 h k _ rfl, k_v175 h k _ rfl, k_v195 h k _ rfl, k_v198 h k _ rfl]
  rfl
theorem k_cst_9 : ∀ X : Vec Ideal S_ .f32, res_main_call0_call0_cst (F := Ideal) V0 = X → V m c main_cst_9 = X := by
  rintro X rfl
  rw [line0 m c 232 (y := main_cst_9) rfl (by decide)]
  rfl
theorem k_v205 : ∀ X : Vec Ideal S1x4x1024 .f32, res_main_v218 (F := Ideal) V0 = X → V m c main_v205 = X := by
  rintro X rfl
  rw [line1 m c 235 (y := main_v205) rfl (by decide) (by decide), line2 m c 234 (y := main_v204) rfl (by decide) (by decide) (by decide), line1 m c 233 (y := main_v203) rfl (by decide) (by decide), k_cst_9 h k _ rfl, k_v202 h k _ rfl]
  rfl
theorem k_v209 : ∀ X : Vec Ideal S1x8x1024 .f32, res_main_v222 (F := Ideal) V0 = X → V m c main_v209 = X := by
  rintro X rfl
  rw [lineR m c 239 (y := main_v209) rfl (by decide) (by decide), line2 m c 238 (y := main_v208) rfl (by decide) (by decide) (by decide), line2 m c 237 (y := main_v207) rfl (by decide) (by decide) (by decide), line2 m c 236 (y := main_v206) rfl (by decide) (by decide) (by decide), k_v164 h k _ rfl, k_v166 h k _ rfl, k_v202 h k _ rfl, k_v205 h k _ rfl]
  rfl
theorem k_cst_10 : ∀ X : Vec Ideal S_ .f32, res_main_call0_call0_cst (F := Ideal) V0 = X → V m c main_cst_10 = X := by
  rintro X rfl
  rw [line0 m c 240 (y := main_cst_10) rfl (by decide)]
  rfl
theorem k_v212 : ∀ X : Vec Ideal S1x8x1024 .f32, res_main_v226 (F := Ideal) V0 = X → V m c main_v212 = X := by
  rintro X rfl
  rw [line1 m c 243 (y := main_v212) rfl (by decide) (by decide), line2 m c 242 (y := main_v211) rfl (by decide) (by decide) (by decide), line1 m c 241 (y := main_v210) rfl (by decide) (by decide), k_cst_10 h k _ rfl, k_v209 h k _ rfl]
  rfl
theorem k_v216 : ∀ X : Vec Ideal S1x16x1024 .f32, res_main_v230 (F := Ideal) V0 = X → V m c main_v216 = X := by
  rintro X rfl
  rw [lineR m c 247 (y := main_v216) rfl (by decide) (by decide), line2 m c 246 (y := main_v215) rfl (by decide) (by decide) (by decide), line2 m c 245 (y := main_v214) rfl (by decide) (by decide) (by decide), line2 m c 244 (y := main_v213) rfl (by decide) (by decide) (by decide), k_v155 h k _ rfl, k_v157 h k _ rfl, k_v209 h k _ rfl, k_v212 h k _ rfl]
  rfl
theorem k_cst_11 : ∀ X : Vec Ideal S_ .f32, res_main_call0_call0_cst (F := Ideal) V0 = X → V m c main_cst_11 = X := by
  rintro X rfl
  rw [line0 m c 248 (y := main_cst_11) rfl (by decide)]
  rfl
theorem k_v219 : ∀ X : Vec Ideal S1x16x1024 .f32, res_main_v234 (F := Ideal) V0 = X → V m c main_v219 = X := by
  rintro X rfl
  rw [line1 m c 251 (y := main_v219) rfl (by decide) (by decide), line2 m c 250 (y := main_v218) rfl (by decide) (by decide) (by decide), line1 m c 249 (y := main_v217) rfl (by decide) (by decide), k_cst_11 h k _ rfl, k_v216 h k _ rfl]
  rfl
theorem k_v223 : ∀ X : Vec Ideal S1x32x1024 .f32, res_main_v238 (F := Ideal) V0 = X → V m c main_v223 = X := by
  rintro X rfl
  rw [lineR m c 255 (y := main_v223) rfl (by decide) (by decide), line2 m c 254 (y := main_v222) rfl (by decide) (by decide) (by decide), line2 m c 253 (y := main_v221) rfl (by decide) (by decide) (by decide), line2 m c 252 (y := main_v220) rfl (by decide) (by decide) (by decide), k_v146 h k _ rfl, k_v148 h k _ rfl, k_v216 h k _ rfl, k_v219 h k _ rfl]
  rfl
theorem k_cst_12 : ∀ X : Vec Ideal S_ .f32, res_main_call0_call0_cst (F := Ideal) V0 = X → V m c main_cst_12 = X := by
  rintro X rfl
  rw [line0 m c 256 (y := main_cst_12) rfl (by decide)]
  rfl
theorem k_v226 : ∀ X : Vec Ideal S1x32x1024 .f32, res_main_v242 (F := Ideal) V0 = X → V m c main_v226 = X := by
  rintro X rfl
  rw [line1 m c 259 (y := main_v226) rfl (by decide) (by decide), line2 m c 258 (y := main_v225) rfl (by decide) (by decide) (by decide), line1 m c 257 (y := main_v224) rfl (by decide) (by decide), k_cst_12 h k _ rfl, k_v223 h k _ rfl]
  rfl
theorem k_v230 : ∀ X : Vec Ideal S1x64x1024 .f32, res_main_v246 (F := Ideal) V0 = X → V m c main_v230 = X := by
  rintro X rfl
  rw [lineR m c 263 (y := main_v230) rfl (by decide) (by decide), line2 m c 262 (y := main_v229) rfl (by decide) (by decide) (by decide), line2 m c 261 (y := main_v228) rfl (by decide) (by decide) (by decide), line2 m c 260 (y := main_v227) rfl (by decide) (by decide) (by decide), k_v137 h k _ rfl, k_v139 h k _ rfl, k_v223 h k _ rfl, k_v226 h k _ rfl]
  rfl
theorem k_cst_13 : ∀ X : Vec Ideal S_ .f32, res_main_call0_call0_cst (F := Ideal) V0 = X → V m c main_cst_13 = X := by
  rintro X rfl
  rw [line0 m c 264 (y := main_cst_13) rfl (by decide)]
  rfl
theorem k_v233 : ∀ X : Vec Ideal S1x64x1024 .f32, res_main_v250 (F := Ideal) V0 = X → V m c main_v233 = X := by
  rintro X rfl
  rw [line1 m c 267 (y := main_v233) rfl (by decide) (by decide), line2 m c 266 (y := main_v232) rfl (by decide) (by decide) (by decide), line1 m c 265 (y := main_v231) rfl (by decide) (by decide), k_cst_13 h k _ rfl, k_v230 h k _ rfl]
  rfl
theorem k_v237 : ∀ X : Vec Ideal S1x128x1024 .f32, res_main_v254 (F := Ideal) V0 = X → V m c main_v237 = X := by
  rintro X rfl
  rw [lineR m c 271 (y := main_v237) rfl (by decide) (by decide), line2 m c 270 (y := main_v236) rfl (by decide) (by decide) (by decide), line2 m c 269 (y := main_v235) rfl (by decide) (by decide) (by decide), line2 m c 268 (y := main_v234) rfl (by decide) (by decide) (by decide), k_v128 h k _ rfl, k_v130 h k _ rfl, k_v230 h k _ rfl, k_v233 h k _ rfl]
  rfl
theorem k_cst_14 : ∀ X : Vec Ideal S_ .f32, res_main_call0_call0_cst (F := Ideal) V0 = X → V m c main_cst_14 = X := by
  rintro X rfl
  rw [line0 m c 272 (y := main_cst_14) rfl (by decide)]
  rfl
theorem k_v240 : ∀ X : Vec Ideal S1x128x1024 .f32, res_main_v258 (F := Ideal) V0 = X → V m c main_v240 = X := by
  rintro X rfl
  rw [line1 m c 275 (y := main_v240) rfl (by decide) (by decide), line2 m c 274 (y := main_v239) rfl (by decide) (by decide) (by decide), line1 m c 273 (y := main_v238) rfl (by decide) (by decide), k_cst_14 h k _ rfl, k_v237 h k _ rfl]
  rfl
theorem k_v244 : ∀ X : Vec Ideal S1x256x1024 .f32, res_main_v262 (F := Ideal) V0 = X → V m c main_v244 = X := by
  rintro X rfl
  rw [lineR m c 279 (y := main_v244) rfl (by decide) (by decide), line2 m c 278 (y := main_v243) rfl (by decide) (by decide) (by decide), line2 m c 277 (y := main_v242) rfl (by decide) (by decide) (by decide), line2 m c 276 (y := main_v241) rfl (by decide) (by decide) (by decide), k_v119 h k _ rfl, k_v121 h k _ rfl, k_v237 h k _ rfl, k_v240 h k _ rfl]
  rfl
theorem k_cst_15 : ∀ X : Vec Ideal S_ .f32, res_main_call0_call0_cst (F := Ideal) V0 = X → V m c main_cst_15 = X := by
  rintro X rfl
  rw [line0 m c 280 (y := main_cst_15) rfl (by decide)]
  rfl
theorem k_v247 : ∀ X : Vec Ideal S1x256x1024 .f32, res_main_v266 (F := Ideal) V0 = X → V m c main_v247 = X := by
  rintro X rfl
  rw [line1 m c 283 (y := main_v247) rfl (by decide) (by decide), line2 m c 282 (y := main_v246) rfl (by decide) (by decide) (by decide), line1 m c 281 (y := main_v245) rfl (by decide) (by decide), k_cst_15 h k _ rfl, k_v244 h k _ rfl]
  rfl
theorem k_v251 : ∀ X : Vec Ideal S1x512x1024 .f32, res_main_v270 (F := Ideal) V0 = X → V m c main_v251 = X := by
  rintro X rfl
  rw [lineR m c 287 (y := main_v251) rfl (by decide) (by decide), line2 m c 286 (y := main_v250) rfl (by decide) (by decide) (by decide), line2 m c 285 (y := main_v249) rfl (by decide) (by decide) (by decide), line2 m c 284 (y := main_v248) rfl (by decide) (by decide) (by decide), k_v110 h k _ rfl, k_v112 h k _ rfl, k_v244 h k _ rfl, k_v247 h k _ rfl]
  rfl
theorem k_cst_16 : ∀ X : Vec Ideal S_ .f32, res_main_call0_call0_cst (F := Ideal) V0 = X → V m c main_cst_16 = X := by
  rintro X rfl
  rw [line0 m c 288 (y := main_cst_16) rfl (by decide)]
  rfl
theorem k_v254 : ∀ X : Vec Ideal S1x512x1024 .f32, res_main_v274 (F := Ideal) V0 = X → V m c main_v254 = X := by
  rintro X rfl
  rw [line1 m c 291 (y := main_v254) rfl (by decide) (by decide), line2 m c 290 (y := main_v253) rfl (by decide) (by decide) (by decide), line1 m c 289 (y := main_v252) rfl (by decide) (by decide), k_cst_16 h k _ rfl, k_v251 h k _ rfl]
  rfl
theorem k_v258 : ∀ X : Vec Ideal S1x1024x1024 .f32, res_main_v278 (F := Ideal) V0 = X → V m c main_v258 = X := by
  rintro X rfl
  rw [lineR m c 295 (y := main_v258) rfl (by decide) (by decide), line2 m c 294 (y := main_v257) rfl (by decide) (by decide) (by decide), line2 m c 293 (y := main_v256) rfl (by decide) (by decide) (by decide), line2 m c 292 (y := main_v255) rfl (by decide) (by decide) (by decide), k_v101 h k _ rfl, k_v103 h k _ rfl, k_v251 h k _ rfl, k_v254 h k _ rfl]
  rfl
theorem k_cst_17 : ∀ X : Vec Ideal S_ .f32, res_main_call0_call0_cst (F := Ideal) V0 = X → V m c main_cst_17 = X := by
  rintro X rfl
  rw [line0 m c 296 (y := main_cst_17) rfl (by decide)]
  rfl
theorem k_v261 : ∀ X : Vec Ideal S1x1024x1024 .f32, res_main_v282 (F := Ideal) V0 = X → V m c main_v261 = X := by
  rintro X rfl
  rw [line1 m c 299 (y := main_v261) rfl (by decide) (by decide), line2 m c 298 (y := main_v260) rfl (by decide) (by decide) (by decide), line1 m c 297 (y := main_v259) rfl (by decide) (by decide), k_cst_17 h k _ rfl, k_v258 h k _ rfl]
  rfl
theorem k_v265 : ∀ X : Vec Ideal S1x2048x1024 .f32, res_main_v286 (F := Ideal) V0 = X → V m c main_v265 = X := by
  rintro X rfl
  rw [lineR m c 303 (y := main_v265) rfl (by decide) (by decide), line2 m c 302 (y := main_v264) rfl (by decide) (by decide) (by decide), line2 m c 301 (y := main_v263) rfl (by decide) (by decide) (by decide), line2 m c 300 (y := main_v262) rfl (by decide) (by decide) (by decide), k_v258 h k _ rfl, k_v261 h k _ rfl, k_v92 h k _ rfl, k_v94 h k _ rfl]
  rfl

end Cert.MixLruIdeal.Value

end
-- ==== Proof.LruWin.lean ====
/-
  The blocks that the recurrence's backward call reads and writes, and the gradient of its output weights: what each grid
  point's blocks hold of the arrays, what the first part of the body computes of them, and the reference's terms for it.
-/
module

public import proofs.«01_k».proof.Proof.LruHost
public import proofs.«01_k».proof.Proof.FfnUpRef

@[expose] public section

set_option maxRecDepth 16384

noncomputable section

open Idealize.ShloMosaic Idealize.ShloMosaic.TcCoe Idealize.ShloMosaic.Tactic Idealize.SL.Sem

namespace Cert.MixLruRefIdeal.Value
open Cert.MixLruRefIdeal Cert.MixLruRefIdeal.Gen Cert.Gelu Cert.Reals

/-- A constant in each place. -/
def fill (b : BitVec 32) : FVec Ideal S1x2048x1024 .f32 := broadcastInDim S1x2048x1024 ![] bcast_S_S1x2048x1024 (constant S_ .f32 b)
def fillK : FVec Ideal S1x2048x1024 .f32 := broadcastInDim S1x2048x1024 ![] bcast_S_S1x2048x1024 (Host.divf (constant S_ .f32 0x472EAB00#32) (constant S_ .f32 0x49742400#32))
/-- The tangent in the activation. -/
def tanhV (G : FVec Ideal S1x2048x1024 .f32) : FVec Ideal S1x2048x1024 .f32 :=
  Host.tanh (mulf (fill 0x3F4C422A#32) (addf G (mulf fillK (mulf (mulf G G) G))))
def cdfV (G : FVec Ideal S1x2048x1024 .f32) : FVec Ideal S1x2048x1024 .f32 := mulf (fill 0x3F000000#32) (addf (fill 0x3F800000#32) (tanhV G))
/-- The activation. -/
def geluV (G : FVec Ideal S1x2048x1024 .f32) : FVec Ideal S1x2048x1024 .f32 := mulf G (cdfV G)
/-- The gradient of the output's weights. -/
def dwV (D Y : FVec Ideal S1x2048x1024 .f32) : FVec Ideal S1024x1024 .bf16 :=
  truncf .bf16 (shapeCast S1024x1024 (broadcastInDim S1x1024x1024 ![1, 2] bcast_S1024x1024_S1x1024x1024_1_2 (transpose S1024x1024 [1, 0]
    (Host.dotGeneral dot_S1x2048x1024_S1x2048x1024_S1024x1024_01_01_2_2_n_n none D Y) transposes_S1024x1024_S1024x1024_1_0)) shapeCasts_S1x1024x1024_S1024x1024) bitsLt_bf16_f32
/-- What reaches the branch. -/
def dyV (D : FVec Ideal S1x2048x1024 .f32) (W : FVec Ideal S1x1024x1024 .f32) : FVec Ideal S1x2048x1024 .f32 :=
  Host.dotGeneral dot_S1x2048x1024_S1024x1024_S1x2048x1024_2_1_01_0_n_n none D (shapeCast S1024x1024 W shapeCasts_S1x1024x1024_S1024x1024)
/-- The activation's columns of the projection. -/
def lyV (P : FVec Ideal S1x2048x7168 .f32) : FVec Ideal S1x2048x1024 .f32 := extractStridedSlice S1x2048x1024 ![0, 0, 4096] P slices_S1x2048x7168_S1x2048x1024_0_0_4096

theorem tanhV_at (G : FVec Ideal S1x2048x1024 .f32) (r : Fin 2048) (j : Fin 1024) : tanhV G (ix3 0 r j) = th (G (ix3 0 r j)) := by
  pointwise [tanhV, fill, fillK]
  rw [quotient, ofBits_scale]
  rfl
theorem geluV_at (G : FVec Ideal S1x2048x1024 .f32) (r : Fin 2048) (j : Fin 1024) :
    geluV G (ix3 0 r j) = G (ix3 0 r j) * (((1 / 2 : ℝ) : EReal) * ((1 : EReal) + th (G (ix3 0 r j)))) := by
  pointwise [geluV, cdfV, fill, tanhV_at]
  rw [ofBits_half]
theorem dwV_at (D Y : FVec Ideal S1x2048x1024 .f32) (i j : Fin 1024) :
    dwV D Y (ix2 i j) = ∑ r : Fin 2048, D (ix3 0 r j) * Y (ix3 0 r i) := by
  pointwise [dwV]
  rw [Fin.sum_univ_one]
theorem dyV_at (D : FVec Ideal S1x2048x1024 .f32) (W : FVec Ideal S1x1024x1024 .f32) (r : Fin 2048) (j : Fin 1024) :
    dyV D W (ix3 0 r j) = ∑ k : Fin 1024, D (ix3 0 r k) * W (ix3 0 j k) := by
  pointwise [dyV]
theorem lyV_at (P : FVec Ideal S1x2048x7168 .f32) (r : Fin 2048) (j : Fin 1024) : lyV P (ix3 0 r j) = P (ix3 0 r ⟨4096 + j.val, by omega⟩) := by
  pointwise [lyV]

end Cert.MixLruRefIdeal.Value

namespace Cert.MixLruIdeal.Value
open Cert.MixLruIdeal Cert.MixLruIdeal.Gen Cert.MixLruRefIdeal.Value Cert.Gelu Cert.Reals

theorem idx : ∀ t : Fin cfg0.N, win0_0.index t = ![0, 0] ∧ win0_1.index t = ![t.val, 0] ∧ win0_3.index t = ![0, 16 + t.val]
    ∧ win0_4.index t = ![0, t.val] ∧ win0_5.index t = ![0, t.val] ∧ win0_6.index t = ![0, t.val] ∧ win0_7.index t = ![0, t.val]
    ∧ win0_11.index t = ![0, t.val] ∧ win0_13.index t = ![t.val, 0] ∧ win0_15.index t = ![t.val, 0, 0] ∧ win0_17.index t = ![0, t.val] :=
  (by decide +kernel : ∀ t : Fin grid0.N, _)

theorem named_k : Named.named (F := Ideal) κ "gelu_k" (φ := .f32) 0x3D372713#32 = ((8943 / 200000 : ℝ) : EReal) :=
  IdealRules.named_const.ideal_named_scalar _ _ _ _ rfl

theorem pay_db (d : FVec Ideal S2048x1024 .bf16) (r : Fin 2048) (k : Fin 1024) : k0_pay85 (F := Ideal) d (ix2 r k) = d (ix2 r k) := by
  pointwise [k0_pay85]
theorem pay_dy (d : FVec Ideal S2048x1024 .bf16) (w : FVec Ideal S256x1024 .bf16) (r : Fin 2048) (j : Fin 256) :
    k0_pay86 (F := Ideal) d w (ix2 r j) = ∑ k : Fin 1024, d (ix2 r k) * w (ix2 j k) := by
  pointwise [k0_pay86, pay_db]
theorem pay_h (h : FVec Ideal S2048x256 .f32) (r : Fin 2048) (j : Fin 256) : k0_pay87 (F := Ideal) h (ix2 r j) = h (ix2 r j) := by
  pointwise [k0_pay87]
theorem pay_ly (v : FVec Ideal S2048x256 .f32) (r : Fin 2048) (j : Fin 256) : k0_pay88 (F := Ideal) v (ix2 r j) = v (ix2 r j) := by
  pointwise [k0_pay88]
theorem pay_th (v : FVec Ideal S2048x256 .f32) (r : Fin 2048) (j : Fin 256) : k0_pay90 (F := Ideal) v (ix2 r j) = th (v (ix2 r j)) := by
  pointwise [k0_pay90, k0_pay89, pay_ly]
  rw [named_k, ofBits_scale]
  exact th_eq _
theorem pay_gelu (v : FVec Ideal S2048x256 .f32) (r : Fin 2048) (j : Fin 256) :
    k0_pay91 (F := Ideal) v (ix2 r j) = v (ix2 r j) * (((1 / 2 : ℝ) : EReal) * (1 + th (v (ix2 r j)))) := by
  pointwise [k0_pay91, pay_ly, pay_th]
  rw [ofBits_half, ← mul_assoc, mul_comm (v (ix2 r j))]
theorem pay_dw (d : FVec Ideal S2048x1024 .bf16) (h g : FVec Ideal S2048x256 .f32) (i : Fin 256) (k : Fin 1024) :
    k0_pay94 (F := Ideal) d h g (ix2 i k) = ∑ r : Fin 2048, h (ix2 r i) * g (ix2 r i) * d (ix2 r k) := by
  pointwise [k0_pay94]

variable (m : (ℓ : Loc nD τ sig) → Buf (Elt Ideal) ℓ) (c : Dev nD)

/-- A column of the array at the grid point that works on it. -/
abbrev col (t : Fin cfg0.N) (j : Fin 256) : Fin 1024 := ⟨t.val * 256 + j.val, by have := lt_of_lt_of_eq t.isLt N_0; omega⟩

theorem emb_dw (t : Fin cfg0.N) (i : Fin 256) (k : Fin 1024) :
    ((View.whole (Pipeline.arrRef spec0 13)).slice (win0_13.rect t)).emb (ix2 i k : S256x1024.Idx) = (ix2 (col t i) k : S1024x1024.Idx) := by
  blk_ext [idx t]

theorem emb_p (t : Fin cfg0.N) (r : Fin 2048) (j : Fin 256) (q : Fin 7168) (hq : q.val = 4096 + (t.val * 256 + j.val)) :
    ((View.whole (Pipeline.arrRef spec0 3)).slice (win0_3.rect t)).emb (ix2 r j : S2048x256.Idx) = (ix2 r q : S2048x7168.Idx) := by
  blk_ext [idx t]

theorem emb_h (t : Fin cfg0.N) (r : Fin 2048) (j : Fin 256) :
    ((View.whole (Pipeline.arrRef spec0 7)).slice (win0_7.rect t)).emb (ix2 r j : S2048x256.Idx) = (ix2 r (col t j) : S2048x1024.Idx) := by
  blk_ext [idx t]

theorem read_p (G : (b : Ref sig .tc) → Buf (Elt Ideal) ((c.tc : Thread nD τ).loc b)) (t : Fin cfg0.N) (r : Fin 2048) (j : Fin 256) (q : Fin 7168) (hq : q.val = 4096 + (t.val * 256 + j.val)) :
    (show FVec Ideal S2048x256 .f32 from ((cfg0.win 3).blk t).view.read (Elt Ideal) (G (Pipeline.arrRef spec0 3))) (ix2 r j) = G main_v270 (ix2 r q) :=
  congrArg (fun x : S2048x7168.Idx => G main_v270 x) (emb_p t r j q hq)
theorem read_h (G : (b : Ref sig .tc) → Buf (Elt Ideal) ((c.tc : Thread nD τ).loc b)) (t : Fin cfg0.N) (r : Fin 2048) (j : Fin 256) :
    (show FVec Ideal S2048x256 .f32 from ((cfg0.win 7).blk t).view.read (Elt Ideal) (G (Pipeline.arrRef spec0 7))) (ix2 r j) = G main_v277 (ix2 r (col t j)) :=
  congrArg (fun x : S2048x1024.Idx => G main_v277 x) (emb_h t r j)

section
variable {m c} {V0 : Valuation Cert.MixLruRefIdeal.τ Cert.MixLruRefIdeal.sig (Elt Ideal)}
  {P0 : FVec Ideal S1x2048x7168 .f32} {P1 : FVec Ideal S1x4x1024 .f32} {P2 : FVec Ideal S1x1024 .f32} {P3 : FVec Ideal S1x4x256x256 .f32} {P4 : FVec Ideal S1x4x256 .f32} {P5 : FVec Ideal S1x4x256x256 .f32} {P6 : FVec Ideal S1x4x256 .f32} {P7 : FVec Ideal S1x1024 .f32} {P8 : FVec Ideal S1x1024x1024 .f32} {P9 : FVec Ideal S1x2048x1024 .f32}
  (h : Held m c P0 P1 P2 P3 P4 P5 P6 P7 P8 P9) (k : HeldRef V0 P0 P1 P2 P3 P4 P5 P6 P7 P8 P9)
include h k

theorem V_d : V m c main_v267 = truncf .bf16 (shapeCast S2048x1024 P9 shapeCasts_S1x2048x1024_S2048x1024) bitsLt_bf16_f32 := by
  rw [line1 m c 305 (y := main_v267) rfl (by decide) (by decide), lineR m c 304 (y := main_v266) rfl (by decide) (by decide), k_arg9 h k P9 k.2.2.2.2.2.2.2.2.2]
  rfl
theorem V_w : V m c main_v269 = truncf .bf16 (shapeCast S1024x1024 P8 shapeCasts_S1x1024x1024_S1024x1024) bitsLt_bf16_f32 := by
  rw [line1 m c 307 (y := main_v269) rfl (by decide) (by decide), lineR m c 306 (y := main_v268) rfl (by decide) (by decide), k_arg8 h k P8 k.2.2.2.2.2.2.2.2.1]
  rfl
theorem V_p : V m c main_v270 = shapeCast S2048x7168 P0 shapeCasts_S1x2048x7168_S2048x7168 := by
  rw [lineR m c 308 (y := main_v270) rfl (by decide) (by decide), k_arg0 h k P0 k.1]
  rfl
theorem V_h (X : Vec Ideal S1x2048x1024 .f32) (hX : res_main_v286 (F := Ideal) V0 = X) : V m c main_v277 = shapeCast S2048x1024 X shapeCasts_S1x2048x1024_S2048x1024 := by
  rw [lineR m c 315 (y := main_v277) rfl (by decide) (by decide), k_v265 h k X hX]
  rfl
theorem V_xl (X : Vec Ideal S1x2048x1024 .f32) (hX : res_main_v41 (F := Ideal) V0 = X) : V m c main_v272 = (truncf (F := Ideal) .bf16 (shapeCast S2048x1024 (X : FVec Ideal S1x2048x1024 .f32) shapeCasts_S1x2048x1024_S2048x1024) bitsLt_bf16_f32) := by
  rw [line1 m c 310 (y := main_v272) rfl (by decide) (by decide), lineR m c 309 (y := main_v271) rfl (by decide) (by decide), k_v40 h k X hX]
  rfl
theorem V_r (X : Vec Ideal S1x2048x4x256 .f32) (hX : res_main_v58 (F := Ideal) V0 = X) :
    V m c main_v274 = truncf (F := Ideal) .bf16 (shapeCast S2048x1024 (shapeCast S1x2048x1024 (X : FVec Ideal S1x2048x4x256 .f32) shapeCasts_S1x2048x4x256_S1x2048x1024) shapeCasts_S1x2048x1024_S2048x1024) bitsLt_bf16_f32 := by
  rw [line1 m c 312 (y := main_v274) rfl (by decide) (by decide), lineR m c 311 (y := main_v273) rfl (by decide) (by decide), lineR m c 61 (y := main_v58) rfl (by decide) (by decide), k_v57 h k X hX]
  rfl

theorem blk_d (t : Fin cfg0.N) (r : Fin 2048) (q : Fin 1024) : (show FVec Ideal S2048x1024 .bf16 from iblk m c 0 t) (ix2 r q) = P9 (ix3 0 r q) := by
  have e : (show FVec Ideal S2048x1024 .bf16 from iblk m c 0 t) (ix2 r q) = V m c main_v267 (ix2 r q) := by
    blk_point [iblk, idx t]
  rw [e, V_d h k]
  pointwise

theorem blk_w (t : Fin cfg0.N) (j : Fin 256) (q : Fin 1024) : (show FVec Ideal S256x1024 .bf16 from iblk m c 1 t) (ix2 j q) = P8 (ix3 0 (col t j) q) := by
  have e : (show FVec Ideal S256x1024 .bf16 from iblk m c 1 t) (ix2 j q) = V m c main_v269 (ix2 (col t j) q) := by
    blk_point [iblk, idx t]
  rw [e, V_w h k]
  pointwise

theorem V_p_at (r : Fin 2048) (q : Fin 7168) : V m c main_v270 (ix2 r q) = P0 (ix3 0 r q) := by
  rw [V_p h k]
  pointwise
theorem blk_ly (t : Fin cfg0.N) (r : Fin 2048) (j : Fin 256) : (show FVec Ideal S2048x256 .f32 from iblk m c 3 t) (ix2 r j) = lyV P0 (ix3 0 r (col t j)) :=
  (read_p c (V m c) t r j ⟨4096 + (col t j).val, by have := (col t j).isLt; omega⟩ rfl).trans ((V_p_at h k r _).trans (lyV_at P0 r (col t j)).symm)

theorem blk_h (t : Fin cfg0.N) (r : Fin 2048) (j : Fin 256) (X : Vec Ideal S1x2048x1024 .f32) (hX : res_main_v286 (F := Ideal) V0 = X) :
    (show FVec Ideal S2048x256 .f32 from iblk m c 7 t) (ix2 r j) = X (ix3 0 r (col t j)) := by
  refine (read_h c (V m c) t r j).trans ?_
  rw [V_h h k X hX]
  pointwise

theorem blk_xl (t : Fin cfg0.N) (r : Fin 2048) (j : Fin 256) (X : Vec Ideal S1x2048x1024 .f32) (hX : res_main_v41 (F := Ideal) V0 = X) :
    (show FVec Ideal S2048x256 .bf16 from iblk m c 4 t) (ix2 r j) = X (ix3 0 r (col t j)) := by
  have e : (show FVec Ideal S2048x256 .bf16 from iblk m c 4 t) (ix2 r j) = V m c main_v272 (ix2 r (col t j)) := by
    blk_point [iblk, idx t]
  rw [e, V_xl h k X hX]
  pointwise

theorem point_dy (t : Fin cfg0.N) (r : Fin 2048) (j : Fin 256) :
    k0_pay86 (F := Ideal) (iblk m c 0 t) (iblk m c 1 t) (ix2 r j) = dyV P9 P8 (ix3 0 r (col t j)) := by
  rw [pay_dy, dyV_at]
  exact Finset.sum_congr rfl fun q _ => congrArg₂ (fun a b : EReal => a * b) (blk_d h k t r q) (blk_w h k t j q)

theorem point_dw (t : Fin cfg0.N) (i : Fin 256) (q : Fin 1024) (X : Vec Ideal S1x2048x1024 .f32) (hX : res_main_v286 (F := Ideal) V0 = X) :
    k0_pay94 (F := Ideal) (k0_pay85 (iblk m c 0 t)) (k0_pay87 (iblk m c 7 t)) (k0_pay91 (iblk m c 3 t)) (ix2 i q)
      = dwV P9 (mulf X (geluV (lyV P0))) (ix2 (col t i) q) := by
  rw [pay_dw, dwV_at]
  refine Finset.sum_congr rfl fun r _ => ?_
  rw [pay_h, pay_gelu, pay_db]
  refine (congrArg₂ (fun a b : EReal => a * b) (congrArg₂ (fun a b : EReal => a * b) (blk_h h k t r i X hX)
    (congrArg (fun a : EReal => a * (((1 / 2 : ℝ) : EReal) * (1 + th a))) (blk_ly h k t r i))) (blk_d h k t r q)).trans ?_
  refine (mul_comm (G := EReal) _ _).trans (congrArg (fun a : EReal => P9 (ix3 0 r q) * a) ?_)
  pointwise [geluV_at]

/-- The gradient of the output's weights. -/
theorem final_dw (X : Vec Ideal S1x2048x1024 .f32) (hX : res_main_v286 (F := Ideal) V0 = X) :
    (dats m 0 c).arrAt 13 (cfgs 0).N = dwV P9 (mulf X (geluV (lyV P0))) := by
  refine (dats m 0 c).arrAt_eq_of_covers 13 _ (by decide +kernel) fun t hf y => ?_
  obtain ⟨i, q, rfl⟩ : ∃ (i : Fin 256) (q : Fin 1024), y = (ix2 i q : S256x1024.Idx) := ⟨y 0, y 1, eq_ix2 y⟩
  blk_simp
  rw [after0_13, emb_dw]
  unfold outsAt0; dsimp only; unfold left runAt
  unfold kernelRun0_A; dsimp only
  frame_out
  exact point_dw h k t i q X hX

end

end Cert.MixLruIdeal.Value

end
-- ==== Proof.LruScan.lean ====
/- A linear recurrence computed by pairs of neighbours, forward and backward, over real sequences, and the arrays that hold it. -/
module

public import proofs.«01_k».proof.Proof.Conv
public import Idealize.ShloMosaic.Lib.KernelVsHost

@[expose] public section

set_option maxRecDepth 16384

noncomputable section

open Idealize.ShloMosaic Idealize.ShloMosaic.TcCoe Idealize.SL.Sem

namespace Cert.Scan

/-- A row of every channel, at every time. -/
abbrev Seq := ℕ → Fin 1024 → ℝ

/-- The factors of the recurrence over pairs. -/
def dnA (a : Seq) : Seq := fun j c => a (2 * j) c * a (2 * j + 1) c
/-- The terms of the recurrence over pairs. -/
def dnU (a u : Seq) : Seq := fun j c => a (2 * j + 1) c * u (2 * j) c + u (2 * j + 1) c
/-- What reaches the states of the recurrence over pairs. -/
def dnY (a y : Seq) : Seq := fun j c => y (2 * j + 1) c + a (2 * j + 2) c * y (2 * j + 2) c
/-- The state before a row, zero before the first. -/
def prev (h : Seq) : Seq := fun j c => if j = 0 then 0 else h (j - 1) c
/-- Even rows from one sequence, odd rows from another. -/
def mix (e o : Seq) : Seq := fun t c => if t % 2 = 0 then e (t / 2) c else o (t / 2) c
/-- The even states. -/
def evenH (a u h : Seq) : Seq := fun j c => a (2 * j) c * prev h j c + u (2 * j) c
/-- The gradient of the even terms. -/
def evenG (a y g : Seq) : Seq := fun j c => y (2 * j) c + a (2 * j + 1) c * g j c
/-- The gradient of the odd factors. -/
def oddB (a u g b : Seq) : Seq := fun j c => g j c * u (2 * j) c + a (2 * j) c * b j c
/-- The gradient of the even factors. -/
def evenB (a y h b : Seq) : Seq := fun j c => y (2 * j) c * prev h j c + b j c * a (2 * j + 1) c

/-- The states, `k` halvings deep. -/
def H : ℕ → Seq → Seq → Seq
  | 0, _, u => u
  | k + 1, a, u => mix (evenH a u (H k (dnA a) (dnU a u))) (H k (dnA a) (dnU a u))
/-- The gradient of the terms. -/
def G : ℕ → Seq → Seq → Seq
  | 0, _, y => y
  | k + 1, a, y => mix (evenG a y (G k (dnA a) (dnY a y))) (G k (dnA a) (dnY a y))
/-- The gradient of the factors. -/
def B : ℕ → Seq → Seq → Seq → Seq
  | 0, _, _, _ => fun _ _ => 0
  | k + 1, a, u, y => mix (evenB a y (H k (dnA a) (dnU a u)) (B k (dnA a) (dnU a u) (dnY a y)))
      (oddB a u (G k (dnA a) (dnY a y)) (B k (dnA a) (dnU a u) (dnY a y)))

theorem mix_even (e o : Seq) (j : ℕ) (c : Fin 1024) : mix e o (2 * j) c = e j c := by
  unfold mix; rw [if_pos (by omega), show 2 * j / 2 = j by omega]
theorem mix_odd (e o : Seq) (j : ℕ) (c : Fin 1024) : mix e o (2 * j + 1) c = o j c := by
  unfold mix; rw [if_neg (by omega), show (2 * j + 1) / 2 = j by omega]

theorem dnY_zero (a y : Seq) (n : ℕ) (h : ∀ t, 2 * n ≤ t → ∀ c, y t c = 0) (t : ℕ) (ht : n ≤ t) (c : Fin 1024) : dnY a y t c = 0 := by
  unfold dnY; rw [h _ (by omega), h _ (by omega)]; ring

/-- The gradient of the terms obeys the reversed recurrence. -/
theorem G_rec (k : ℕ) : ∀ (a y : Seq) (_ : ∀ t, 2 ^ k ≤ t → ∀ c, y t c = 0) (t : ℕ) (c : Fin 1024),
    G k a y t c = y t c + a (t + 1) c * G k a y (t + 1) c := by
  induction k with
  | zero =>
    intro a y h t c
    show y t c = y t c + a (t + 1) c * y (t + 1) c
    rw [h (t + 1) (by simp)]; ring
  | succ k ih =>
    intro a y h t c
    have ih' := ih (dnA a) (dnY a y) (dnY_zero a y (2 ^ k) (fun t ht => h t (by rw [pow_succ]; omega)))
    rcases Nat.even_or_odd' t with ⟨j, rfl | rfl⟩
    · simp only [G, mix_even, mix_odd, evenG]
    · rw [show 2 * j + 1 + 1 = 2 * (j + 1) by ring]
      simp only [G, mix_even, mix_odd, evenG]
      rw [ih' j c]
      simp only [dnA, dnY]
      rw [show 2 * j + 2 = 2 * (j + 1) by ring]
      ring

/-- The gradient of a factor is the gradient of its term times the state before. -/
theorem B_eq (k : ℕ) : ∀ (a u y : Seq) (_ : ∀ t, 2 ^ k ≤ t → ∀ c, y t c = 0) (t : ℕ) (c : Fin 1024),
    B k a u y t c = G k a y t c * prev (H k a u) t c := by
  induction k with
  | zero =>
    intro a u y h t c
    show (0 : ℝ) = y t c * prev u t c
    unfold prev
    split_ifs with h0
    · ring
    · rw [h t (by simp; omega)]; ring
  | succ k ih =>
    intro a u y h t c
    have ih' := ih (dnA a) (dnU a u) (dnY a y) (dnY_zero a y (2 ^ k) (fun t ht => h t (by rw [pow_succ]; omega)))
    rcases Nat.even_or_odd' t with ⟨j, rfl | rfl⟩
    · have e : prev (H (k + 1) a u) (2 * j) c = prev (H k (dnA a) (dnU a u)) j c := by
        unfold prev
        by_cases hj : j = 0
        · rw [if_pos (by omega), if_pos hj]
        · rw [if_neg (by omega), if_neg hj, show 2 * j - 1 = 2 * (j - 1) + 1 by omega]
          simp only [H, mix_odd]
      rw [e]
      simp only [G, B, mix_even, evenB, evenG]
      rw [ih' j c]; ring
    · have e : prev (H (k + 1) a u) (2 * j + 1) c = evenH a u (H k (dnA a) (dnU a u)) j c := by
        unfold prev
        rw [if_neg (by omega), show 2 * j + 1 - 1 = 2 * j by omega]
        simp only [H, mix_even]
      rw [e]
      simp only [G, B, mix_odd, oddB, evenH]
      rw [ih' j c]; ring

/-- The states obey the recurrence. -/
theorem G_unique (n : ℕ) (a y g g' : Seq) (h : ∀ t < n, ∀ c, g t c = y t c + a (t + 1) c * g (t + 1) c)
    (h' : ∀ t < n, ∀ c, g' t c = y t c + a (t + 1) c * g' (t + 1) c) (e : ∀ c, g n c = g' n c) :
    ∀ t ≤ n, ∀ c, g t c = g' t c := by
  intro t ht
  induction k : n - t generalizing t with
  | zero => have : t = n := by omega
            subst this; exact e
  | succ k ih => intro c; rw [h t (by omega), h' t (by omega), ih (t + 1) (by omega) (by omega)]

/-! ## The arrays -/

/-- `n` rows of the channels. -/
abbrev flatS (n : ℕ) : Shape := ⟨3, ![1, n, 1024]⟩
/-- `n` pairs of rows. -/
abbrev pairS (n : ℕ) : Shape := ⟨3, ![1, n, 2048]⟩

/-- An array of `n` rows holds a sequence. -/
def Is (n : ℕ) (X : FVec Ideal (flatS n) .f32) (f : Seq) : Prop := ∀ (t : Fin n) (c : Fin 1024), X (ix3 0 t c) = ((f t.val c : ℝ) : EReal)
/-- An array of `n` pairs holds a sequence. -/
def IsP (n : ℕ) (X : FVec Ideal (pairS n) .f32) (f : Seq) : Prop :=
  ∀ (j : Fin n) (c : Fin 1024), X (ix3 0 j ⟨c.val, by omega⟩) = ((f (2 * j.val) c : ℝ) : EReal)
    ∧ X (ix3 0 j ⟨1024 + c.val, by omega⟩) = ((f (2 * j.val + 1) c : ℝ) : EReal)

theorem Is.congr {n : ℕ} {X : FVec Ideal (flatS n) .f32} {f g : Seq} (h : Is n X f) (e : ∀ t < n, ∀ c, f t c = g t c) : Is n X g :=
  fun t c => by rw [h t c, e t.val t.isLt c]

theorem Is.mul {n : ℕ} {X Y : FVec Ideal (flatS n) .f32} {f g : Seq} (h : Is n X f) (h' : Is n Y g) :
    Is n (mulf X Y) (fun t c => f t c * g t c) := fun t c => by
  show X (ix3 0 t c) * Y (ix3 0 t c) = _
  rw [h t c, h' t c, EReal.coe_mul]

theorem Is.add {n : ℕ} {X Y : FVec Ideal (flatS n) .f32} {f g : Seq} (h : Is n X f) (h' : Is n Y g) :
    Is n (addf X Y) (fun t c => f t c + g t c) := fun t c => by
  show X (ix3 0 t c) + Y (ix3 0 t c) = _
  rw [h t c, h' t c, EReal.coe_add]

theorem Is.pairs {N n : ℕ} {X : FVec Ideal (flatS N) .f32} {f : Seq} (h : Is N X f) (hN : N = 2 * n) (hc : (flatS N).ShapeCasts (pairS n)) :
    IsP n (shapeCast (pairS n) X hc) f := by
  subst hN
  intro j c
  have hj := j.isLt; have hcc := c.isLt
  constructor
  · rw [shapeCast_apply X hc _ (ix3 0 ⟨2 * j.val, by omega⟩ c) (by
      rw [Shape.rowMajor_val_three, Shape.rowMajor_val_three]; show (0 * (2 * n) + 2 * j.val) * 1024 + c.val = (0 * n + j.val) * 2048 + c.val; omega)]
    exact h _ _
  · rw [shapeCast_apply X hc _ (ix3 0 ⟨2 * j.val + 1, by omega⟩ c) (by
      rw [Shape.rowMajor_val_three, Shape.rowMajor_val_three]; show (0 * (2 * n) + (2 * j.val + 1)) * 1024 + c.val = (0 * n + j.val) * 2048 + (1024 + c.val); omega)]
    exact h _ _

theorem IsP.flat {N n : ℕ} {X : FVec Ideal (pairS n) .f32} {f : Seq} (h : IsP n X f) (hN : N = 2 * n) (hc : (pairS n).ShapeCasts (flatS N)) :
    Is N (shapeCast (flatS N) X hc) f := by
  subst hN
  intro t c
  have ht := t.isLt; have hcc := c.isLt
  rcases Nat.even_or_odd' t.val with ⟨j, e | e⟩
  · rw [shapeCast_apply X hc _ (ix3 0 ⟨j, by omega⟩ ⟨c.val, by omega⟩) (by
      rw [Shape.rowMajor_val_three, Shape.rowMajor_val_three]; show (0 * n + j) * 2048 + c.val = (0 * (2 * n) + t.val) * 1024 + c.val; omega), (h _ _).1, e]
  · rw [shapeCast_apply X hc _ (ix3 0 ⟨j, by omega⟩ ⟨1024 + c.val, by omega⟩) (by
      rw [Shape.rowMajor_val_three, Shape.rowMajor_val_three]; show (0 * n + j) * 2048 + (1024 + c.val) = (0 * (2 * n) + t.val) * 1024 + c.val; omega), (h _ _).2, e]

theorem IsP.lo {n : ℕ} {X : FVec Ideal (pairS n) .f32} {f : Seq} (h : IsP n X f) (hs : (pairS n).Slices ![0, 0, 0] (flatS n)) :
    Is n (extractStridedSlice (flatS n) ![0, 0, 0] X hs) (fun j c => f (2 * j) c) := fun t c => by
  rw [extractStridedSlice_apply _ X hs _ (ix3 0 t ⟨c.val, by omega⟩) (by
    intro a; fin_cases a <;> simp [ix3])]
  exact (h t c).1

theorem IsP.hi {n : ℕ} {X : FVec Ideal (pairS n) .f32} {f : Seq} (h : IsP n X f) (hs : (pairS n).Slices ![0, 0, 1024] (flatS n)) :
    Is n (extractStridedSlice (flatS n) ![0, 0, 1024] X hs) (fun j c => f (2 * j + 1) c) := fun t c => by
  rw [extractStridedSlice_apply _ X hs _ (ix3 0 t ⟨1024 + c.val, by omega⟩) (by
    intro a; fin_cases a <;> simp [ix3])]
  exact (h t c).2

theorem Is.before {m n : ℕ} {X : FVec Ideal (flatS n) .f32} {f : Seq} (h : Is n X f) (hm : m = n + 1) (Z : FVec Ideal (flatS 1) .f32)
    (hz : ∀ c, Z (ix3 0 0 c) = 0) (hc : Shape.Concatenates [flatS 1, flatS n] (flatS m) 1) (hs : (flatS m).Slices ![0, 0, 0] (flatS n)) :
    Is n (extractStridedSlice (flatS n) ![0, 0, 0] (concatenate (flatS m) 1 [⟨flatS 1, Z⟩, ⟨flatS n, X⟩] hc) hs) (prev f) := by
  subst hm
  intro t c
  have ht := t.isLt
  rw [extractStridedSlice_apply _ _ hs _ (ix3 0 ⟨t.val, by omega⟩ c) (by
    intro a; fin_cases a <;> simp [ix3])]
  unfold prev
  by_cases h0 : t.val = 0
  · rw [concatenate_pair_apply_left 1 Z X hc _ rfl (ix3 0 0 c) (by
      intro a; fin_cases a <;> simp [ix3, h0]), if_pos h0, hz]; rfl
  · rw [concatenate_pair_apply_right 1 Z X hc _ rfl rfl (ix3 0 ⟨t.val - 1, by omega⟩ c) (by
      intro a ha; fin_cases a <;> simp_all [ix3]) (by show t.val - 1 + 1 = t.val; omega), if_neg h0]
    exact h _ _

theorem Is.next {m n : ℕ} {X : FVec Ideal (flatS n) .f32} {f : Seq} (h : Is n X f) (hm : m = n + 1) (hf : ∀ c, f n c = 0)
    {u : Shape} (Z : FVec Ideal u .f32) (hu : 0 < u.numel) (hz : Z (Shape.Idx.first hu) = 0)
    (hp : (flatS n).Pads (![0, 0, 0] : Fin 3 → Nat) ![0, 1, 0] ![0, 0, 0] (flatS m)) (hs : (flatS m).Slices ![0, 1, 0] (flatS n)) :
    Is n (extractStridedSlice (flatS n) ![0, 1, 0] (pad (flatS m) ![0, 0, 0] ![0, 1, 0] ![0, 0, 0] X Z hp hu) hs) (fun j c => f (j + 1) c) := by
  subst hm
  intro t c
  have ht := t.isLt
  rw [extractStridedSlice_apply _ _ hs _ (ix3 0 ⟨1 + t.val, by omega⟩ c) (by
    intro a; fin_cases a <;> simp [ix3])]
  by_cases h0 : t.val + 1 < n
  · rw [pad_apply_of_inside _ _ _ X Z hp hu _ (ix3 0 ⟨t.val + 1, h0⟩ c) (by
      intro a; fin_cases a <;> simp [ix3]; omega)]
    exact h _ _
  · rw [pad_apply_of_not_inside _ _ _ X Z hp hu _ 1 (by
      show ¬(0 ≤ 1 + t.val ∧ (1 + t.val - 0) % (0 + 1) = 0 ∧ (1 + t.val - 0) / (0 + 1) < n); simp; omega), hz]
    show (0 : EReal) = ((f (t.val + 1) c : ℝ) : EReal)
    rw [show t.val + 1 = n by omega, hf]; rfl

theorem mixes {n : ℕ} {X Y : FVec Ideal (flatS n) .f32} {e o : Seq} (h : Is n X e) (h' : Is n Y o)
    (hc : Shape.Concatenates [flatS n, flatS n] (pairS n) 2) :
    IsP n (concatenate (pairS n) 2 [⟨flatS n, X⟩, ⟨flatS n, Y⟩] hc) (mix e o) := fun j c => by
  constructor
  · rw [concatenate_pair_apply_left 2 X Y hc _ rfl (ix3 0 j c) (by intro a; fin_cases a <;> simp [ix3]), mix_even]
    exact h _ _
  · rw [concatenate_pair_apply_right 2 X Y hc _ rfl rfl (ix3 0 j c) (by
      intro a ha; fin_cases a <;> simp_all [ix3]) (by show c.val + 1024 = 1024 + c.val; omega), mix_odd]
    exact h' _ _

theorem joins {n : ℕ} {X Y : FVec Ideal (flatS n) .f32} {e o : Seq} (h' : Is n Y o) (h : Is n X e)
    {u : Shape} (Z : FVec Ideal u .f32) (hu : 0 < u.numel) (hz : Z (Shape.Idx.first hu) = 0)
    (hp : (flatS n).Pads (![0, 0, 1024] : Fin 3 → Nat) ![0, 0, 0] ![0, 0, 0] (pairS n))
    (hq : (flatS n).Pads (![0, 0, 0] : Fin 3 → Nat) ![0, 0, 1024] ![0, 0, 0] (pairS n)) :
    IsP n (addf (pad (pairS n) ![0, 0, 1024] ![0, 0, 0] ![0, 0, 0] Y Z hp hu) (pad (pairS n) ![0, 0, 0] ![0, 0, 1024] ![0, 0, 0] X Z hq hu)) (mix e o) := fun j c => by
  have hcc := c.isLt
  constructor
  · show pad (pairS n) ![0, 0, 1024] ![0, 0, 0] ![0, 0, 0] Y Z hp hu _ + pad (pairS n) ![0, 0, 0] ![0, 0, 1024] ![0, 0, 0] X Z hq hu _ = _
    rw [pad_apply_of_not_inside _ _ _ Y Z hp hu _ 2 (by
      show ¬(1024 ≤ c.val ∧ (c.val - 1024) % (0 + 1) = 0 ∧ (c.val - 1024) / (0 + 1) < 1024); omega), hz,
      pad_apply_of_inside _ _ _ X Z hq hu _ (ix3 0 j c) (by intro a; fin_cases a <;> simp [ix3]), mix_even, h j c]
    exact zero_add _
  · show pad (pairS n) ![0, 0, 1024] ![0, 0, 0] ![0, 0, 0] Y Z hp hu _ + pad (pairS n) ![0, 0, 0] ![0, 0, 1024] ![0, 0, 0] X Z hq hu _ = _
    rw [pad_apply_of_inside _ _ _ Y Z hp hu _ (ix3 0 j c) (by intro a; fin_cases a <;> simp [ix3]),
      pad_apply_of_not_inside _ _ _ X Z hq hu _ 2 (by
        show ¬(0 ≤ 1024 + c.val ∧ (1024 + c.val - 0) % (0 + 1) = 0 ∧ (1024 + c.val - 0) / (0 + 1) < 1024); simp), hz, mix_odd, h' j c]
    exact add_zero _

end Cert.Scan

end
-- ==== Proof.LruRef.lean ====
/-
  The reference's recurrence in the backward direction, level by level: what each named array of its run holds, as sequences over
  the real numbers, from the factors, the terms and what reaches the states.
-/
module

public import proofs.«01_k».proof.Proof.LruWin
public import proofs.«01_k».proof.Proof.LruScan

@[expose] public section

set_option maxRecDepth 16384

noncomputable section

open Idealize.ShloMosaic Idealize.ShloMosaic.TcCoe Idealize.ShloMosaic.Tactic Idealize.SL.Sem

namespace Cert.MixLruRefIdeal.Levels
open Cert.MixLruRefIdeal Cert.MixLruRefIdeal.Gen Cert.MixLruRefIdeal.Value Cert.Scan Cert.Reals

/-- The factors, the terms and what reaches the states, some halvings deep. -/
def fA : ℕ → Seq → Seq
  | 0, a => a
  | l + 1, a => dnA (fA l a)
def fU : ℕ → Seq → Seq → Seq
  | 0, _, u => u
  | l + 1, a, u => dnU (fA l a) (fU l a u)
def fY : ℕ → Seq → Seq → Seq
  | 0, _, y => y
  | l + 1, a, y => dnY (fA l a) (fY l a y)

theorem fY_zero (a y : Seq) (N : ℕ) (l n : ℕ) (hN : 2 ^ l * n = N) (h : ∀ t, N ≤ t → ∀ c, y t c = 0) (t : ℕ) (ht : n ≤ t) (c : Fin 1024) : fY l a y t c = 0 := by
  induction l generalizing n t c with
  | zero => exact h t (by simpa [← hN] using ht) c
  | succ l ih => exact dnY_zero (fA l a) (fY l a y) n (fun t ht c => ih (2 * n) (by rw [← hN, pow_succ]; ring) t ht c) t ht c

theorem zero1 (hu : 0 < (S_ : Shape).numel) : (constant (F := Ideal) S_ .f32 0x00000000#32 : FVec Ideal S_ .f32) (Shape.Idx.first hu) = 0 := Ideal.ofBits_zero .f32
theorem zeroRow (c : Fin 1024) : (broadcastInDim S1x1x1024 ![] bcast_S_S1x1x1024 (constant (F := Ideal) S_ .f32 0x00000000#32) : FVec Ideal (flatS 1) .f32) (ix3 0 0 c) = 0 := Ideal.ofBits_zero .f32

section levels
variable (V0 : Valuation τ sig (Elt Ideal)) (a u y : Seq) (hy : ∀ t, 2048 ≤ t → ∀ c, y t c = 0)
variable (ha : Is 2048 (res_main_v84 (F := Ideal) V0) a) (hu : Is 2048 (mulf (F := Ideal) (φ := .f32) (res_main_v97_0 (F := Ideal) V0 : FVec Ideal S1x2048x1024 .f32) (res_main_v98 (F := Ideal) V0 : FVec Ideal S1x2048x1024 .f32)) u)
variable (hY : Is 2048 (mulf (F := Ideal) (φ := .f32) (res_main_v314 (F := Ideal) V0 : FVec Ideal S1x2048x1024 .f32) (res_main_v308 (F := Ideal) V0 : FVec Ideal S1x2048x1024 .f32)) y)
include hy ha hu hY

theorem a100 : IsP 1024 (res_main_v100 (F := Ideal) V0) (fA 0 a) := by
  unfold res_main_v100
  exact ha.pairs rfl _
theorem a101 : IsP 1024 (res_main_v101 (F := Ideal) V0) (fU 0 a u) := by
  unfold res_main_v101
  exact hu.pairs rfl _
theorem a102 : Is 1024 (res_main_v102 (F := Ideal) V0) (fun j c => (fA 0 a) (2 * j) c) := by
  unfold res_main_v102
  exact IsP.lo (a100 V0 a u y hy ha hu hY) _
theorem a103 : Is 1024 (res_main_v103 (F := Ideal) V0) (fun j c => (fA 0 a) (2 * j + 1) c) := by
  unfold res_main_v103
  exact IsP.hi (a100 V0 a u y hy ha hu hY) _
theorem a104 : Is 1024 (res_main_v104 (F := Ideal) V0) (fun j c => (fU 0 a u) (2 * j) c) := by
  unfold res_main_v104
  exact IsP.lo (a101 V0 a u y hy ha hu hY) _
theorem a109 : IsP 512 (res_main_v109 (F := Ideal) V0) (fA 1 a) := by
  unfold res_main_v109
  exact Is.pairs (f := fA 1 a) ((a102 V0 a u y hy ha hu hY).mul (a103 V0 a u y hy ha hu hY)) rfl _
theorem a110 : IsP 512 (res_main_v110 (F := Ideal) V0) (fU 1 a u) := by
  unfold res_main_v110
  exact Is.pairs (f := fU 1 a u) (((a103 V0 a u y hy ha hu hY).mul (a104 V0 a u y hy ha hu hY)).add ((a101 V0 a u y hy ha hu hY).hi _)) rfl _
theorem a111 : Is 512 (res_main_v111 (F := Ideal) V0) (fun j c => (fA 1 a) (2 * j) c) := by
  unfold res_main_v111
  exact IsP.lo (a109 V0 a u y hy ha hu hY) _
theorem a112 : Is 512 (res_main_v112 (F := Ideal) V0) (fun j c => (fA 1 a) (2 * j + 1) c) := by
  unfold res_main_v112
  exact IsP.hi (a109 V0 a u y hy ha hu hY) _
theorem a113 : Is 512 (res_main_v113 (F := Ideal) V0) (fun j c => (fU 1 a u) (2 * j) c) := by
  unfold res_main_v113
  exact IsP.lo (a110 V0 a u y hy ha hu hY) _
theorem a118 : IsP 256 (res_main_v118 (F := Ideal) V0) (fA 2 a) := by
  unfold res_main_v118
  exact Is.pairs (f := fA 2 a) ((a111 V0 a u y hy ha hu hY).mul (a112 V0 a u y hy ha hu hY)) rfl _
theorem a119 : IsP 256 (res_main_v119 (F := Ideal) V0) (fU 2 a u) := by
  unfold res_main_v119
  exact Is.pairs (f := fU 2 a u) (((a112 V0 a u y hy ha hu hY).mul (a113 V0 a u y hy ha hu hY)).add ((a110 V0 a u y hy ha hu hY).hi _)) rfl _
theorem a120 : Is 256 (res_main_v120 (F := Ideal) V0) (fun j c => (fA 2 a) (2 * j) c) := by
  unfold res_main_v120
  exact IsP.lo (a118 V0 a u y hy ha hu hY) _
theorem a121 : Is 256 (res_main_v121 (F := Ideal) V0) (fun j c => (fA 2 a) (2 * j + 1) c) := by
  unfold res_main_v121
  exact IsP.hi (a118 V0 a u y hy ha hu hY) _
theorem a122 : Is 256 (res_main_v122 (F := Ideal) V0) (fun j c => (fU 2 a u) (2 * j) c) := by
  unfold res_main_v122
  exact IsP.lo (a119 V0 a u y hy ha hu hY) _
theorem a127 : IsP 128 (res_main_v127 (F := Ideal) V0) (fA 3 a) := by
  unfold res_main_v127
  exact Is.pairs (f := fA 3 a) ((a120 V0 a u y hy ha hu hY).mul (a121 V0 a u y hy ha hu hY)) rfl _
theorem a128 : IsP 128 (res_main_v128 (F := Ideal) V0) (fU 3 a u) := by
  unfold res_main_v128
  exact Is.pairs (f := fU 3 a u) (((a121 V0 a u y hy ha hu hY).mul (a122 V0 a u y hy ha hu hY)).add ((a119 V0 a u y hy ha hu hY).hi _)) rfl _
theorem a129 : Is 128 (res_main_v129 (F := Ideal) V0) (fun j c => (fA 3 a) (2 * j) c) := by
  unfold res_main_v129
  exact IsP.lo (a127 V0 a u y hy ha hu hY) _
theorem a130 : Is 128 (res_main_v130 (F := Ideal) V0) (fun j c => (fA 3 a) (2 * j + 1) c) := by
  unfold res_main_v130
  exact IsP.hi (a127 V0 a u y hy ha hu hY) _
theorem a131 : Is 128 (res_main_v131 (F := Ideal) V0) (fun j c => (fU 3 a u) (2 * j) c) := by
  unfold res_main_v131
  exact IsP.lo (a128 V0 a u y hy ha hu hY) _
theorem a136 : IsP 64 (res_main_v136 (F := Ideal) V0) (fA 4 a) := by
  unfold res_main_v136
  exact Is.pairs (f := fA 4 a) ((a129 V0 a u y hy ha hu hY).mul (a130 V0 a u y hy ha hu hY)) rfl _
theorem a137 : IsP 64 (res_main_v137 (F := Ideal) V0) (fU 4 a u) := by
  unfold res_main_v137
  exact Is.pairs (f := fU 4 a u) (((a130 V0 a u y hy ha hu hY).mul (a131 V0 a u y hy ha hu hY)).add ((a128 V0 a u y hy ha hu hY).hi _)) rfl _
theorem a138 : Is 64 (res_main_v138 (F := Ideal) V0) (fun j c => (fA 4 a) (2 * j) c) := by
  unfold res_main_v138
  exact IsP.lo (a136 V0 a u y hy ha hu hY) _
theorem a139 : Is 64 (res_main_v139 (F := Ideal) V0) (fun j c => (fA 4 a) (2 * j + 1) c) := by
  unfold res_main_v139
  exact IsP.hi (a136 V0 a u y hy ha hu hY) _
theorem a140 : Is 64 (res_main_v140 (F := Ideal) V0) (fun j c => (fU 4 a u) (2 * j) c) := by
  unfold res_main_v140
  exact IsP.lo (a137 V0 a u y hy ha hu hY) _
theorem a145 : IsP 32 (res_main_v145 (F := Ideal) V0) (fA 5 a) := by
  unfold res_main_v145
  exact Is.pairs (f := fA 5 a) ((a138 V0 a u y hy ha hu hY).mul (a139 V0 a u y hy ha hu hY)) rfl _
theorem a146 : IsP 32 (res_main_v146 (F := Ideal) V0) (fU 5 a u) := by
  unfold res_main_v146
  exact Is.pairs (f := fU 5 a u) (((a139 V0 a u y hy ha hu hY).mul (a140 V0 a u y hy ha hu hY)).add ((a137 V0 a u y hy ha hu hY).hi _)) rfl _
theorem a147 : Is 32 (res_main_v147 (F := Ideal) V0) (fun j c => (fA 5 a) (2 * j) c) := by
  unfold res_main_v147
  exact IsP.lo (a145 V0 a u y hy ha hu hY) _
theorem a148 : Is 32 (res_main_v148 (F := Ideal) V0) (fun j c => (fA 5 a) (2 * j + 1) c) := by
  unfold res_main_v148
  exact IsP.hi (a145 V0 a u y hy ha hu hY) _
theorem a149 : Is 32 (res_main_v149 (F := Ideal) V0) (fun j c => (fU 5 a u) (2 * j) c) := by
  unfold res_main_v149
  exact IsP.lo (a146 V0 a u y hy ha hu hY) _
theorem a154 : IsP 16 (res_main_v154 (F := Ideal) V0) (fA 6 a) := by
  unfold res_main_v154
  exact Is.pairs (f := fA 6 a) ((a147 V0 a u y hy ha hu hY).mul (a148 V0 a u y hy ha hu hY)) rfl _
theorem a155 : IsP 16 (res_main_v155 (F := Ideal) V0) (fU 6 a u) := by
  unfold res_main_v155
  exact Is.pairs (f := fU 6 a u) (((a148 V0 a u y hy ha hu hY).mul (a149 V0 a u y hy ha hu hY)).add ((a146 V0 a u y hy ha hu hY).hi _)) rfl _
theorem a156 : Is 16 (res_main_v156 (F := Ideal) V0) (fun j c => (fA 6 a) (2 * j) c) := by
  unfold res_main_v156
  exact IsP.lo (a154 V0 a u y hy ha hu hY) _
theorem a157 : Is 16 (res_main_v157 (F := Ideal) V0) (fun j c => (fA 6 a) (2 * j + 1) c) := by
  unfold res_main_v157
  exact IsP.hi (a154 V0 a u y hy ha hu hY) _
theorem a158 : Is 16 (res_main_v158 (F := Ideal) V0) (fun j c => (fU 6 a u) (2 * j) c) := by
  unfold res_main_v158
  exact IsP.lo (a155 V0 a u y hy ha hu hY) _
theorem a163 : IsP 8 (res_main_v163 (F := Ideal) V0) (fA 7 a) := by
  unfold res_main_v163
  exact Is.pairs (f := fA 7 a) ((a156 V0 a u y hy ha hu hY).mul (a157 V0 a u y hy ha hu hY)) rfl _
theorem a164 : IsP 8 (res_main_v164 (F := Ideal) V0) (fU 7 a u) := by
  unfold res_main_v164
  exact Is.pairs (f := fU 7 a u) (((a157 V0 a u y hy ha hu hY).mul (a158 V0 a u y hy ha hu hY)).add ((a155 V0 a u y hy ha hu hY).hi _)) rfl _
theorem a165 : Is 8 (res_main_v165 (F := Ideal) V0) (fun j c => (fA 7 a) (2 * j) c) := by
  unfold res_main_v165
  exact IsP.lo (a163 V0 a u y hy ha hu hY) _
theorem a166 : Is 8 (res_main_v166 (F := Ideal) V0) (fun j c => (fA 7 a) (2 * j + 1) c) := by
  unfold res_main_v166
  exact IsP.hi (a163 V0 a u y hy ha hu hY) _
theorem a167 : Is 8 (res_main_v167 (F := Ideal) V0) (fun j c => (fU 7 a u) (2 * j) c) := by
  unfold res_main_v167
  exact IsP.lo (a164 V0 a u y hy ha hu hY) _
theorem a172 : IsP 4 (res_main_v172 (F := Ideal) V0) (fA 8 a) := by
  unfold res_main_v172
  exact Is.pairs (f := fA 8 a) ((a165 V0 a u y hy ha hu hY).mul (a166 V0 a u y hy ha hu hY)) rfl _
theorem a173 : IsP 4 (res_main_v173 (F := Ideal) V0) (fU 8 a u) := by
  unfold res_main_v173
  exact Is.pairs (f := fU 8 a u) (((a166 V0 a u y hy ha hu hY).mul (a167 V0 a u y hy ha hu hY)).add ((a164 V0 a u y hy ha hu hY).hi _)) rfl _
theorem a174 : Is 4 (res_main_v174 (F := Ideal) V0) (fun j c => (fA 8 a) (2 * j) c) := by
  unfold res_main_v174
  exact IsP.lo (a172 V0 a u y hy ha hu hY) _
theorem a175 : Is 4 (res_main_v175 (F := Ideal) V0) (fun j c => (fA 8 a) (2 * j + 1) c) := by
  unfold res_main_v175
  exact IsP.hi (a172 V0 a u y hy ha hu hY) _
theorem a176 : Is 4 (res_main_v176 (F := Ideal) V0) (fun j c => (fU 8 a u) (2 * j) c) := by
  unfold res_main_v176
  exact IsP.lo (a173 V0 a u y hy ha hu hY) _
theorem a181 : IsP 2 (res_main_v181 (F := Ideal) V0) (fA 9 a) := by
  unfold res_main_v181
  exact Is.pairs (f := fA 9 a) ((a174 V0 a u y hy ha hu hY).mul (a175 V0 a u y hy ha hu hY)) rfl _
theorem a182 : IsP 2 (res_main_v182 (F := Ideal) V0) (fU 9 a u) := by
  unfold res_main_v182
  exact Is.pairs (f := fU 9 a u) (((a175 V0 a u y hy ha hu hY).mul (a176 V0 a u y hy ha hu hY)).add ((a173 V0 a u y hy ha hu hY).hi _)) rfl _
theorem a183 : Is 2 (res_main_v183 (F := Ideal) V0) (fun j c => (fA 9 a) (2 * j) c) := by
  unfold res_main_v183
  exact IsP.lo (a181 V0 a u y hy ha hu hY) _
theorem a184 : Is 2 (res_main_v184 (F := Ideal) V0) (fun j c => (fA 9 a) (2 * j + 1) c) := by
  unfold res_main_v184
  exact IsP.hi (a181 V0 a u y hy ha hu hY) _
theorem a185 : Is 2 (res_main_v185 (F := Ideal) V0) (fun j c => (fU 9 a u) (2 * j) c) := by
  unfold res_main_v185
  exact IsP.lo (a182 V0 a u y hy ha hu hY) _
theorem a190 : IsP 1 (res_main_v190 (F := Ideal) V0) (fA 10 a) := by
  unfold res_main_v190
  exact Is.pairs (f := fA 10 a) ((a183 V0 a u y hy ha hu hY).mul (a184 V0 a u y hy ha hu hY)) rfl _
theorem a191 : IsP 1 (res_main_v191 (F := Ideal) V0) (fU 10 a u) := by
  unfold res_main_v191
  exact Is.pairs (f := fU 10 a u) (((a184 V0 a u y hy ha hu hY).mul (a185 V0 a u y hy ha hu hY)).add ((a182 V0 a u y hy ha hu hY).hi _)) rfl _
theorem a192 : Is 1 (res_main_v192 (F := Ideal) V0) (fun j c => (fA 10 a) (2 * j) c) := by
  unfold res_main_v192
  exact IsP.lo (a190 V0 a u y hy ha hu hY) _
theorem a193 : Is 1 (res_main_v193 (F := Ideal) V0) (fun j c => (fA 10 a) (2 * j + 1) c) := by
  unfold res_main_v193
  exact IsP.hi (a190 V0 a u y hy ha hu hY) _
theorem a194 : Is 1 (res_main_v194 (F := Ideal) V0) (fun j c => (fU 10 a u) (2 * j) c) := by
  unfold res_main_v194
  exact IsP.lo (a191 V0 a u y hy ha hu hY) _
theorem a198 : Is 1 (res_main_v198 (F := Ideal) V0) (H 0 (fA 11 a) (fU 11 a u)) := by
  unfold res_main_v198
  exact ((a193 V0 a u y hy ha hu hY).mul (a194 V0 a u y hy ha hu hY)).add ((a191 V0 a u y hy ha hu hY).hi _)
theorem a202 : Is 1 (res_main_v202 (F := Ideal) V0) (prev (H 0 (fA 11 a) (fU 11 a u))) := by
  unfold res_main_v202
  exact Is.before (a198 V0 a u y hy ha hu hY) rfl _ zeroRow _ _
theorem a206 : Is 2 (res_main_v206 (F := Ideal) V0) (H 1 (fA 10 a) (fU 10 a u)) := by
  unfold res_main_v206
  exact IsP.flat (f := H 1 (fA 10 a) (fU 10 a u)) (mixes (((a192 V0 a u y hy ha hu hY).mul (a202 V0 a u y hy ha hu hY)).add (a194 V0 a u y hy ha hu hY)) (a198 V0 a u y hy ha hu hY) _) rfl _
theorem a210 : Is 2 (res_main_v210 (F := Ideal) V0) (prev (H 1 (fA 10 a) (fU 10 a u))) := by
  unfold res_main_v210
  exact Is.before (a206 V0 a u y hy ha hu hY) rfl _ zeroRow _ _
theorem a214 : Is 4 (res_main_v214 (F := Ideal) V0) (H 2 (fA 9 a) (fU 9 a u)) := by
  unfold res_main_v214
  exact IsP.flat (f := H 2 (fA 9 a) (fU 9 a u)) (mixes (((a183 V0 a u y hy ha hu hY).mul (a210 V0 a u y hy ha hu hY)).add (a185 V0 a u y hy ha hu hY)) (a206 V0 a u y hy ha hu hY) _) rfl _
theorem a218 : Is 4 (res_main_v218 (F := Ideal) V0) (prev (H 2 (fA 9 a) (fU 9 a u))) := by
  unfold res_main_v218
  exact Is.before (a214 V0 a u y hy ha hu hY) rfl _ zeroRow _ _
theorem a222 : Is 8 (res_main_v222 (F := Ideal) V0) (H 3 (fA 8 a) (fU 8 a u)) := by
  unfold res_main_v222
  exact IsP.flat (f := H 3 (fA 8 a) (fU 8 a u)) (mixes (((a174 V0 a u y hy ha hu hY).mul (a218 V0 a u y hy ha hu hY)).add (a176 V0 a u y hy ha hu hY)) (a214 V0 a u y hy ha hu hY) _) rfl _
theorem a226 : Is 8 (res_main_v226 (F := Ideal) V0) (prev (H 3 (fA 8 a) (fU 8 a u))) := by
  unfold res_main_v226
  exact Is.before (a222 V0 a u y hy ha hu hY) rfl _ zeroRow _ _
theorem a230 : Is 16 (res_main_v230 (F := Ideal) V0) (H 4 (fA 7 a) (fU 7 a u)) := by
  unfold res_main_v230
  exact IsP.flat (f := H 4 (fA 7 a) (fU 7 a u)) (mixes (((a165 V0 a u y hy ha hu hY).mul (a226 V0 a u y hy ha hu hY)).add (a167 V0 a u y hy ha hu hY)) (a222 V0 a u y hy ha hu hY) _) rfl _
theorem a234 : Is 16 (res_main_v234 (F := Ideal) V0) (prev (H 4 (fA 7 a) (fU 7 a u))) := by
  unfold res_main_v234
  exact Is.before (a230 V0 a u y hy ha hu hY) rfl _ zeroRow _ _
theorem a238 : Is 32 (res_main_v238 (F := Ideal) V0) (H 5 (fA 6 a) (fU 6 a u)) := by
  unfold res_main_v238
  exact IsP.flat (f := H 5 (fA 6 a) (fU 6 a u)) (mixes (((a156 V0 a u y hy ha hu hY).mul (a234 V0 a u y hy ha hu hY)).add (a158 V0 a u y hy ha hu hY)) (a230 V0 a u y hy ha hu hY) _) rfl _
theorem a242 : Is 32 (res_main_v242 (F := Ideal) V0) (prev (H 5 (fA 6 a) (fU 6 a u))) := by
  unfold res_main_v242
  exact Is.before (a238 V0 a u y hy ha hu hY) rfl _ zeroRow _ _
theorem a246 : Is 64 (res_main_v246 (F := Ideal) V0) (H 6 (fA 5 a) (fU 5 a u)) := by
  unfold res_main_v246
  exact IsP.flat (f := H 6 (fA 5 a) (fU 5 a u)) (mixes (((a147 V0 a u y hy ha hu hY).mul (a242 V0 a u y hy ha hu hY)).add (a149 V0 a u y hy ha hu hY)) (a238 V0 a u y hy ha hu hY) _) rfl _
theorem a250 : Is 64 (res_main_v250 (F := Ideal) V0) (prev (H 6 (fA 5 a) (fU 5 a u))) := by
  unfold res_main_v250
  exact Is.before (a246 V0 a u y hy ha hu hY) rfl _ zeroRow _ _
theorem a254 : Is 128 (res_main_v254 (F := Ideal) V0) (H 7 (fA 4 a) (fU 4 a u)) := by
  unfold res_main_v254
  exact IsP.flat (f := H 7 (fA 4 a) (fU 4 a u)) (mixes (((a138 V0 a u y hy ha hu hY).mul (a250 V0 a u y hy ha hu hY)).add (a140 V0 a u y hy ha hu hY)) (a246 V0 a u y hy ha hu hY) _) rfl _
theorem a258 : Is 128 (res_main_v258 (F := Ideal) V0) (prev (H 7 (fA 4 a) (fU 4 a u))) := by
  unfold res_main_v258
  exact Is.before (a254 V0 a u y hy ha hu hY) rfl _ zeroRow _ _
theorem a262 : Is 256 (res_main_v262 (F := Ideal) V0) (H 8 (fA 3 a) (fU 3 a u)) := by
  unfold res_main_v262
  exact IsP.flat (f := H 8 (fA 3 a) (fU 3 a u)) (mixes (((a129 V0 a u y hy ha hu hY).mul (a258 V0 a u y hy ha hu hY)).add (a131 V0 a u y hy ha hu hY)) (a254 V0 a u y hy ha hu hY) _) rfl _
theorem a266 : Is 256 (res_main_v266 (F := Ideal) V0) (prev (H 8 (fA 3 a) (fU 3 a u))) := by
  unfold res_main_v266
  exact Is.before (a262 V0 a u y hy ha hu hY) rfl _ zeroRow _ _
theorem a270 : Is 512 (res_main_v270 (F := Ideal) V0) (H 9 (fA 2 a) (fU 2 a u)) := by
  unfold res_main_v270
  exact IsP.flat (f := H 9 (fA 2 a) (fU 2 a u)) (mixes (((a120 V0 a u y hy ha hu hY).mul (a266 V0 a u y hy ha hu hY)).add (a122 V0 a u y hy ha hu hY)) (a262 V0 a u y hy ha hu hY) _) rfl _
theorem a274 : Is 512 (res_main_v274 (F := Ideal) V0) (prev (H 9 (fA 2 a) (fU 2 a u))) := by
  unfold res_main_v274
  exact Is.before (a270 V0 a u y hy ha hu hY) rfl _ zeroRow _ _
theorem a278 : Is 1024 (res_main_v278 (F := Ideal) V0) (H 10 (fA 1 a) (fU 1 a u)) := by
  unfold res_main_v278
  exact IsP.flat (f := H 10 (fA 1 a) (fU 1 a u)) (mixes (((a111 V0 a u y hy ha hu hY).mul (a274 V0 a u y hy ha hu hY)).add (a113 V0 a u y hy ha hu hY)) (a270 V0 a u y hy ha hu hY) _) rfl _
theorem a282 : Is 1024 (res_main_v282 (F := Ideal) V0) (prev (H 10 (fA 1 a) (fU 1 a u))) := by
  unfold res_main_v282
  exact Is.before (a278 V0 a u y hy ha hu hY) rfl _ zeroRow _ _
theorem a286 : Is 2048 (res_main_v286 (F := Ideal) V0) (H 11 (fA 0 a) (fU 0 a u)) := by
  unfold res_main_v286
  exact IsP.flat (f := H 11 (fA 0 a) (fU 0 a u)) (mixes (((a102 V0 a u y hy ha hu hY).mul (a282 V0 a u y hy ha hu hY)).add (a104 V0 a u y hy ha hu hY)) (a278 V0 a u y hy ha hu hY) _) rfl _
theorem a330 : IsP 1024 (res_main_v330 (F := Ideal) V0) (fY 0 a y) := by
  unfold res_main_v330
  exact hY.pairs rfl _
theorem a331 : Is 1024 (res_main_v331 (F := Ideal) V0) (fun j c => (fY 0 a y) (2 * j) c) := by
  unfold res_main_v331
  exact IsP.lo (a330 V0 a u y hy ha hu hY) _
theorem n0 : Is 1024 (extractStridedSlice (flatS 1024) ![0, 1, 0] (res_main_v335 (F := Ideal) V0 : FVec Ideal (flatS 1025) .f32) slices_S1x1025x1024_S1x1024x1024_0_1_0)
    (fun j c => fA 0 a (2 * (j + 1)) c * (fY 0 a y) (2 * (j + 1)) c) := by
  unfold res_main_v335
  exact Is.next (f := fun j c => fA 0 a (2 * j) c * (fY 0 a y) (2 * j) c) ((a102 V0 a u y hy ha hu hY).mul (a331 V0 a u y hy ha hu hY)) rfl
    (fun c => by simp only [fY_zero a y 2048 0 2048 (by norm_num) hy (2 * 1024) (by norm_num) c, mul_zero]) _ h_S_ (zero1 _) _ _
theorem a339 : IsP 512 (res_main_v339 (F := Ideal) V0) (fY 1 a y) := by
  unfold res_main_v339
  exact Is.pairs (f := fY 1 a y) (((a330 V0 a u y hy ha hu hY).hi _).add (n0 V0 a u y hy ha hu hY)) rfl _
theorem a340 : Is 512 (res_main_v340 (F := Ideal) V0) (fun j c => (fY 1 a y) (2 * j) c) := by
  unfold res_main_v340
  exact IsP.lo (a339 V0 a u y hy ha hu hY) _
theorem n1 : Is 512 (extractStridedSlice (flatS 512) ![0, 1, 0] (res_main_v344 (F := Ideal) V0 : FVec Ideal (flatS 513) .f32) slices_S1x513x1024_S1x512x1024_0_1_0)
    (fun j c => fA 1 a (2 * (j + 1)) c * (fY 1 a y) (2 * (j + 1)) c) := by
  unfold res_main_v344
  exact Is.next (f := fun j c => fA 1 a (2 * j) c * (fY 1 a y) (2 * j) c) ((a111 V0 a u y hy ha hu hY).mul (a340 V0 a u y hy ha hu hY)) rfl
    (fun c => by simp only [fY_zero a y 2048 1 1024 (by norm_num) hy (2 * 512) (by norm_num) c, mul_zero]) _ h_S_ (zero1 _) _ _
theorem a348 : IsP 256 (res_main_v348 (F := Ideal) V0) (fY 2 a y) := by
  unfold res_main_v348
  exact Is.pairs (f := fY 2 a y) (((a339 V0 a u y hy ha hu hY).hi _).add (n1 V0 a u y hy ha hu hY)) rfl _
theorem a349 : Is 256 (res_main_v349 (F := Ideal) V0) (fun j c => (fY 2 a y) (2 * j) c) := by
  unfold res_main_v349
  exact IsP.lo (a348 V0 a u y hy ha hu hY) _
theorem n2 : Is 256 (extractStridedSlice (flatS 256) ![0, 1, 0] (res_main_v353 (F := Ideal) V0 : FVec Ideal (flatS 257) .f32) slices_S1x257x1024_S1x256x1024_0_1_0)
    (fun j c => fA 2 a (2 * (j + 1)) c * (fY 2 a y) (2 * (j + 1)) c) := by
  unfold res_main_v353
  exact Is.next (f := fun j c => fA 2 a (2 * j) c * (fY 2 a y) (2 * j) c) ((a120 V0 a u y hy ha hu hY).mul (a349 V0 a u y hy ha hu hY)) rfl
    (fun c => by simp only [fY_zero a y 2048 2 512 (by norm_num) hy (2 * 256) (by norm_num) c, mul_zero]) _ h_S_ (zero1 _) _ _
theorem a357 : IsP 128 (res_main_v357 (F := Ideal) V0) (fY 3 a y) := by
  unfold res_main_v357
  exact Is.pairs (f := fY 3 a y) (((a348 V0 a u y hy ha hu hY).hi _).add (n2 V0 a u y hy ha hu hY)) rfl _
theorem a358 : Is 128 (res_main_v358 (F := Ideal) V0) (fun j c => (fY 3 a y) (2 * j) c) := by
  unfold res_main_v358
  exact IsP.lo (a357 V0 a u y hy ha hu hY) _
theorem n3 : Is 128 (extractStridedSlice (flatS 128) ![0, 1, 0] (res_main_v362 (F := Ideal) V0 : FVec Ideal (flatS 129) .f32) slices_S1x129x1024_S1x128x1024_0_1_0)
    (fun j c => fA 3 a (2 * (j + 1)) c * (fY 3 a y) (2 * (j + 1)) c) := by
  unfold res_main_v362
  exact Is.next (f := fun j c => fA 3 a (2 * j) c * (fY 3 a y) (2 * j) c) ((a129 V0 a u y hy ha hu hY).mul (a358 V0 a u y hy ha hu hY)) rfl
    (fun c => by simp only [fY_zero a y 2048 3 256 (by norm_num) hy (2 * 128) (by norm_num) c, mul_zero]) _ h_S_ (zero1 _) _ _
theorem a366 : IsP 64 (res_main_v366 (F := Ideal) V0) (fY 4 a y) := by
  unfold res_main_v366
  exact Is.pairs (f := fY 4 a y) (((a357 V0 a u y hy ha hu hY).hi _).add (n3 V0 a u y hy ha hu hY)) rfl _
theorem a367 : Is 64 (res_main_v367 (F := Ideal) V0) (fun j c => (fY 4 a y) (2 * j) c) := by
  unfold res_main_v367
  exact IsP.lo (a366 V0 a u y hy ha hu hY) _
theorem n4 : Is 64 (extractStridedSlice (flatS 64) ![0, 1, 0] (res_main_v371 (F := Ideal) V0 : FVec Ideal (flatS 65) .f32) slices_S1x65x1024_S1x64x1024_0_1_0)
    (fun j c => fA 4 a (2 * (j + 1)) c * (fY 4 a y) (2 * (j + 1)) c) := by
  unfold res_main_v371
  exact Is.next (f := fun j c => fA 4 a (2 * j) c * (fY 4 a y) (2 * j) c) ((a138 V0 a u y hy ha hu hY).mul (a367 V0 a u y hy ha hu hY)) rfl
    (fun c => by simp only [fY_zero a y 2048 4 128 (by norm_num) hy (2 * 64) (by norm_num) c, mul_zero]) _ h_S_ (zero1 _) _ _
theorem a375 : IsP 32 (res_main_v375 (F := Ideal) V0) (fY 5 a y) := by
  unfold res_main_v375
  exact Is.pairs (f := fY 5 a y) (((a366 V0 a u y hy ha hu hY).hi _).add (n4 V0 a u y hy ha hu hY)) rfl _
theorem a376 : Is 32 (res_main_v376 (F := Ideal) V0) (fun j c => (fY 5 a y) (2 * j) c) := by
  unfold res_main_v376
  exact IsP.lo (a375 V0 a u y hy ha hu hY) _
theorem n5 : Is 32 (extractStridedSlice (flatS 32) ![0, 1, 0] (res_main_v380 (F := Ideal) V0 : FVec Ideal (flatS 33) .f32) slices_S1x33x1024_S1x32x1024_0_1_0)
    (fun j c => fA 5 a (2 * (j + 1)) c * (fY 5 a y) (2 * (j + 1)) c) := by
  unfold res_main_v380
  exact Is.next (f := fun j c => fA 5 a (2 * j) c * (fY 5 a y) (2 * j) c) ((a147 V0 a u y hy ha hu hY).mul (a376 V0 a u y hy ha hu hY)) rfl
    (fun c => by simp only [fY_zero a y 2048 5 64 (by norm_num) hy (2 * 32) (by norm_num) c, mul_zero]) _ h_S_ (zero1 _) _ _
theorem a384 : IsP 16 (res_main_v384 (F := Ideal) V0) (fY 6 a y) := by
  unfold res_main_v384
  exact Is.pairs (f := fY 6 a y) (((a375 V0 a u y hy ha hu hY).hi _).add (n5 V0 a u y hy ha hu hY)) rfl _
theorem a385 : Is 16 (res_main_v385 (F := Ideal) V0) (fun j c => (fY 6 a y) (2 * j) c) := by
  unfold res_main_v385
  exact IsP.lo (a384 V0 a u y hy ha hu hY) _
theorem n6 : Is 16 (extractStridedSlice (flatS 16) ![0, 1, 0] (res_main_v389 (F := Ideal) V0 : FVec Ideal (flatS 17) .f32) slices_S1x17x1024_S1x16x1024_0_1_0)
    (fun j c => fA 6 a (2 * (j + 1)) c * (fY 6 a y) (2 * (j + 1)) c) := by
  unfold res_main_v389
  exact Is.next (f := fun j c => fA 6 a (2 * j) c * (fY 6 a y) (2 * j) c) ((a156 V0 a u y hy ha hu hY).mul (a385 V0 a u y hy ha hu hY)) rfl
    (fun c => by simp only [fY_zero a y 2048 6 32 (by norm_num) hy (2 * 16) (by norm_num) c, mul_zero]) _ h_S_ (zero1 _) _ _
theorem a393 : IsP 8 (res_main_v393 (F := Ideal) V0) (fY 7 a y) := by
  unfold res_main_v393
  exact Is.pairs (f := fY 7 a y) (((a384 V0 a u y hy ha hu hY).hi _).add (n6 V0 a u y hy ha hu hY)) rfl _
theorem a394 : Is 8 (res_main_v394 (F := Ideal) V0) (fun j c => (fY 7 a y) (2 * j) c) := by
  unfold res_main_v394
  exact IsP.lo (a393 V0 a u y hy ha hu hY) _
theorem n7 : Is 8 (extractStridedSlice (flatS 8) ![0, 1, 0] (res_main_v398 (F := Ideal) V0 : FVec Ideal (flatS 9) .f32) slices_S1x9x1024_S1x8x1024_0_1_0)
    (fun j c => fA 7 a (2 * (j + 1)) c * (fY 7 a y) (2 * (j + 1)) c) := by
  unfold res_main_v398
  exact Is.next (f := fun j c => fA 7 a (2 * j) c * (fY 7 a y) (2 * j) c) ((a165 V0 a u y hy ha hu hY).mul (a394 V0 a u y hy ha hu hY)) rfl
    (fun c => by simp only [fY_zero a y 2048 7 16 (by norm_num) hy (2 * 8) (by norm_num) c, mul_zero]) _ h_S_ (zero1 _) _ _
theorem a402 : IsP 4 (res_main_v402 (F := Ideal) V0) (fY 8 a y) := by
  unfold res_main_v402
  exact Is.pairs (f := fY 8 a y) (((a393 V0 a u y hy ha hu hY).hi _).add (n7 V0 a u y hy ha hu hY)) rfl _
theorem a403 : Is 4 (res_main_v403 (F := Ideal) V0) (fun j c => (fY 8 a y) (2 * j) c) := by
  unfold res_main_v403
  exact IsP.lo (a402 V0 a u y hy ha hu hY) _
theorem n8 : Is 4 (extractStridedSlice (flatS 4) ![0, 1, 0] (res_main_v407 (F := Ideal) V0 : FVec Ideal (flatS 5) .f32) slices_S1x5x1024_S1x4x1024_0_1_0)
    (fun j c => fA 8 a (2 * (j + 1)) c * (fY 8 a y) (2 * (j + 1)) c) := by
  unfold res_main_v407
  exact Is.next (f := fun j c => fA 8 a (2 * j) c * (fY 8 a y) (2 * j) c) ((a174 V0 a u y hy ha hu hY).mul (a403 V0 a u y hy ha hu hY)) rfl
    (fun c => by simp only [fY_zero a y 2048 8 8 (by norm_num) hy (2 * 4) (by norm_num) c, mul_zero]) _ h_S_ (zero1 _) _ _
theorem a411 : IsP 2 (res_main_v411 (F := Ideal) V0) (fY 9 a y) := by
  unfold res_main_v411
  exact Is.pairs (f := fY 9 a y) (((a402 V0 a u y hy ha hu hY).hi _).add (n8 V0 a u y hy ha hu hY)) rfl _
theorem a412 : Is 2 (res_main_v412 (F := Ideal) V0) (fun j c => (fY 9 a y) (2 * j) c) := by
  unfold res_main_v412
  exact IsP.lo (a411 V0 a u y hy ha hu hY) _
theorem n9 : Is 2 (extractStridedSlice (flatS 2) ![0, 1, 0] (res_main_v416 (F := Ideal) V0 : FVec Ideal (flatS 3) .f32) slices_S1x3x1024_S1x2x1024_0_1_0)
    (fun j c => fA 9 a (2 * (j + 1)) c * (fY 9 a y) (2 * (j + 1)) c) := by
  unfold res_main_v416
  exact Is.next (f := fun j c => fA 9 a (2 * j) c * (fY 9 a y) (2 * j) c) ((a183 V0 a u y hy ha hu hY).mul (a412 V0 a u y hy ha hu hY)) rfl
    (fun c => by simp only [fY_zero a y 2048 9 4 (by norm_num) hy (2 * 2) (by norm_num) c, mul_zero]) _ h_S_ (zero1 _) _ _
theorem a420 : IsP 1 (res_main_v420 (F := Ideal) V0) (fY 10 a y) := by
  unfold res_main_v420
  exact Is.pairs (f := fY 10 a y) (((a411 V0 a u y hy ha hu hY).hi _).add (n9 V0 a u y hy ha hu hY)) rfl _
theorem a421 : Is 1 (res_main_v421 (F := Ideal) V0) (fun j c => (fY 10 a y) (2 * j) c) := by
  unfold res_main_v421
  exact IsP.lo (a420 V0 a u y hy ha hu hY) _
theorem n10 : Is 1 (extractStridedSlice (flatS 1) ![0, 1, 0] (res_main_v425 (F := Ideal) V0 : FVec Ideal (flatS 2) .f32) slices_S1x2x1024_S1x1x1024_0_1_0)
    (fun j c => fA 10 a (2 * (j + 1)) c * (fY 10 a y) (2 * (j + 1)) c) := by
  unfold res_main_v425
  exact Is.next (f := fun j c => fA 10 a (2 * j) c * (fY 10 a y) (2 * j) c) ((a192 V0 a u y hy ha hu hY).mul (a421 V0 a u y hy ha hu hY)) rfl
    (fun c => by simp only [fY_zero a y 2048 10 2 (by norm_num) hy (2 * 1) (by norm_num) c, mul_zero]) _ h_S_ (zero1 _) _ _
theorem a428 : Is 1 (res_main_v428 (F := Ideal) V0) (G 0 (fA 11 a) (fY 11 a y)) := by
  unfold res_main_v428
  exact Is.add ((a420 V0 a u y hy ha hu hY).hi _) (n10 V0 a u y hy ha hu hY)
theorem a438 : Is 2 (res_main_v438 (F := Ideal) V0) (G 1 (fA 10 a) (fY 10 a y)) := by
  unfold res_main_v438
  exact IsP.flat (f := G 1 (fA 10 a) (fY 10 a y)) (joins (a428 V0 a u y hy ha hu hY) ((a421 V0 a u y hy ha hu hY).add ((a193 V0 a u y hy ha hu hY).mul (a428 V0 a u y hy ha hu hY))) _ h_S_ (zero1 _) _ _) rfl _
theorem a453 : Is 4 (res_main_v453 (F := Ideal) V0) (G 2 (fA 9 a) (fY 9 a y)) := by
  unfold res_main_v453
  exact IsP.flat (f := G 2 (fA 9 a) (fY 9 a y)) (joins (a438 V0 a u y hy ha hu hY) ((a412 V0 a u y hy ha hu hY).add ((a184 V0 a u y hy ha hu hY).mul (a438 V0 a u y hy ha hu hY))) _ h_S_ (zero1 _) _ _) rfl _
theorem a468 : Is 8 (res_main_v468 (F := Ideal) V0) (G 3 (fA 8 a) (fY 8 a y)) := by
  unfold res_main_v468
  exact IsP.flat (f := G 3 (fA 8 a) (fY 8 a y)) (joins (a453 V0 a u y hy ha hu hY) ((a403 V0 a u y hy ha hu hY).add ((a175 V0 a u y hy ha hu hY).mul (a453 V0 a u y hy ha hu hY))) _ h_S_ (zero1 _) _ _) rfl _
theorem a483 : Is 16 (res_main_v483 (F := Ideal) V0) (G 4 (fA 7 a) (fY 7 a y)) := by
  unfold res_main_v483
  exact IsP.flat (f := G 4 (fA 7 a) (fY 7 a y)) (joins (a468 V0 a u y hy ha hu hY) ((a394 V0 a u y hy ha hu hY).add ((a166 V0 a u y hy ha hu hY).mul (a468 V0 a u y hy ha hu hY))) _ h_S_ (zero1 _) _ _) rfl _
theorem a498 : Is 32 (res_main_v498 (F := Ideal) V0) (G 5 (fA 6 a) (fY 6 a y)) := by
  unfold res_main_v498
  exact IsP.flat (f := G 5 (fA 6 a) (fY 6 a y)) (joins (a483 V0 a u y hy ha hu hY) ((a385 V0 a u y hy ha hu hY).add ((a157 V0 a u y hy ha hu hY).mul (a483 V0 a u y hy ha hu hY))) _ h_S_ (zero1 _) _ _) rfl _
theorem a513 : Is 64 (res_main_v513 (F := Ideal) V0) (G 6 (fA 5 a) (fY 5 a y)) := by
  unfold res_main_v513
  exact IsP.flat (f := G 6 (fA 5 a) (fY 5 a y)) (joins (a498 V0 a u y hy ha hu hY) ((a376 V0 a u y hy ha hu hY).add ((a148 V0 a u y hy ha hu hY).mul (a498 V0 a u y hy ha hu hY))) _ h_S_ (zero1 _) _ _) rfl _
theorem a528 : Is 128 (res_main_v528 (F := Ideal) V0) (G 7 (fA 4 a) (fY 4 a y)) := by
  unfold res_main_v528
  exact IsP.flat (f := G 7 (fA 4 a) (fY 4 a y)) (joins (a513 V0 a u y hy ha hu hY) ((a367 V0 a u y hy ha hu hY).add ((a139 V0 a u y hy ha hu hY).mul (a513 V0 a u y hy ha hu hY))) _ h_S_ (zero1 _) _ _) rfl _
theorem a543 : Is 256 (res_main_v543 (F := Ideal) V0) (G 8 (fA 3 a) (fY 3 a y)) := by
  unfold res_main_v543
  exact IsP.flat (f := G 8 (fA 3 a) (fY 3 a y)) (joins (a528 V0 a u y hy ha hu hY) ((a358 V0 a u y hy ha hu hY).add ((a130 V0 a u y hy ha hu hY).mul (a528 V0 a u y hy ha hu hY))) _ h_S_ (zero1 _) _ _) rfl _
theorem a558 : Is 512 (res_main_v558 (F := Ideal) V0) (G 9 (fA 2 a) (fY 2 a y)) := by
  unfold res_main_v558
  exact IsP.flat (f := G 9 (fA 2 a) (fY 2 a y)) (joins (a543 V0 a u y hy ha hu hY) ((a349 V0 a u y hy ha hu hY).add ((a121 V0 a u y hy ha hu hY).mul (a543 V0 a u y hy ha hu hY))) _ h_S_ (zero1 _) _ _) rfl _
theorem a573 : Is 1024 (res_main_v573 (F := Ideal) V0) (G 10 (fA 1 a) (fY 1 a y)) := by
  unfold res_main_v573
  exact IsP.flat (f := G 10 (fA 1 a) (fY 1 a y)) (joins (a558 V0 a u y hy ha hu hY) ((a340 V0 a u y hy ha hu hY).add ((a112 V0 a u y hy ha hu hY).mul (a558 V0 a u y hy ha hu hY))) _ h_S_ (zero1 _) _ _) rfl _
theorem a588 : Is 2048 (res_main_v588 (F := Ideal) V0) (G 11 (fA 0 a) (fY 0 a y)) := by
  unfold res_main_v588
  exact IsP.flat (f := G 11 (fA 0 a) (fY 0 a y)) (joins (a573 V0 a u y hy ha hu hY) ((a331 V0 a u y hy ha hu hY).add ((a103 V0 a u y hy ha hu hY).mul (a573 V0 a u y hy ha hu hY))) _ h_S_ (zero1 _) _ _) rfl _
theorem a439 : Is 2 (res_main_v439 (F := Ideal) V0) (B 1 (fA 10 a) (fU 10 a u) (fY 10 a y)) := by
  unfold res_main_v439
  exact (IsP.flat (joins ((a428 V0 a u y hy ha hu hY).mul (a194 V0 a u y hy ha hu hY)) ((a421 V0 a u y hy ha hu hY).mul (a202 V0 a u y hy ha hu hY)) _ h_S_ (zero1 _) _ _) rfl _).congr fun t _ c => by
    show mix _ _ t c = mix _ _ t c
    unfold mix
    split_ifs
    · simp only [evenB, B, zero_mul, add_zero]; rfl
    · simp only [oddB, B, mul_zero, add_zero]; rfl
theorem a454 : Is 4 (res_main_v454 (F := Ideal) V0) (B 2 (fA 9 a) (fU 9 a u) (fY 9 a y)) := by
  unfold res_main_v454
  exact IsP.flat (f := B 2 (fA 9 a) (fU 9 a u) (fY 9 a y)) (joins (((a438 V0 a u y hy ha hu hY).mul (a185 V0 a u y hy ha hu hY)).add ((a183 V0 a u y hy ha hu hY).mul (a439 V0 a u y hy ha hu hY))) (((a412 V0 a u y hy ha hu hY).mul (a210 V0 a u y hy ha hu hY)).add ((a439 V0 a u y hy ha hu hY).mul (a184 V0 a u y hy ha hu hY))) _ h_S_ (zero1 _) _ _) rfl _
theorem a469 : Is 8 (res_main_v469 (F := Ideal) V0) (B 3 (fA 8 a) (fU 8 a u) (fY 8 a y)) := by
  unfold res_main_v469
  exact IsP.flat (f := B 3 (fA 8 a) (fU 8 a u) (fY 8 a y)) (joins (((a453 V0 a u y hy ha hu hY).mul (a176 V0 a u y hy ha hu hY)).add ((a174 V0 a u y hy ha hu hY).mul (a454 V0 a u y hy ha hu hY))) (((a403 V0 a u y hy ha hu hY).mul (a218 V0 a u y hy ha hu hY)).add ((a454 V0 a u y hy ha hu hY).mul (a175 V0 a u y hy ha hu hY))) _ h_S_ (zero1 _) _ _) rfl _
theorem a484 : Is 16 (res_main_v484 (F := Ideal) V0) (B 4 (fA 7 a) (fU 7 a u) (fY 7 a y)) := by
  unfold res_main_v484
  exact IsP.flat (f := B 4 (fA 7 a) (fU 7 a u) (fY 7 a y)) (joins (((a468 V0 a u y hy ha hu hY).mul (a167 V0 a u y hy ha hu hY)).add ((a165 V0 a u y hy ha hu hY).mul (a469 V0 a u y hy ha hu hY))) (((a394 V0 a u y hy ha hu hY).mul (a226 V0 a u y hy ha hu hY)).add ((a469 V0 a u y hy ha hu hY).mul (a166 V0 a u y hy ha hu hY))) _ h_S_ (zero1 _) _ _) rfl _
theorem a499 : Is 32 (res_main_v499 (F := Ideal) V0) (B 5 (fA 6 a) (fU 6 a u) (fY 6 a y)) := by
  unfold res_main_v499
  exact IsP.flat (f := B 5 (fA 6 a) (fU 6 a u) (fY 6 a y)) (joins (((a483 V0 a u y hy ha hu hY).mul (a158 V0 a u y hy ha hu hY)).add ((a156 V0 a u y hy ha hu hY).mul (a484 V0 a u y hy ha hu hY))) (((a385 V0 a u y hy ha hu hY).mul (a234 V0 a u y hy ha hu hY)).add ((a484 V0 a u y hy ha hu hY).mul (a157 V0 a u y hy ha hu hY))) _ h_S_ (zero1 _) _ _) rfl _
theorem a514 : Is 64 (res_main_v514 (F := Ideal) V0) (B 6 (fA 5 a) (fU 5 a u) (fY 5 a y)) := by
  unfold res_main_v514
  exact IsP.flat (f := B 6 (fA 5 a) (fU 5 a u) (fY 5 a y)) (joins (((a498 V0 a u y hy ha hu hY).mul (a149 V0 a u y hy ha hu hY)).add ((a147 V0 a u y hy ha hu hY).mul (a499 V0 a u y hy ha hu hY))) (((a376 V0 a u y hy ha hu hY).mul (a242 V0 a u y hy ha hu hY)).add ((a499 V0 a u y hy ha hu hY).mul (a148 V0 a u y hy ha hu hY))) _ h_S_ (zero1 _) _ _) rfl _
theorem a529 : Is 128 (res_main_v529 (F := Ideal) V0) (B 7 (fA 4 a) (fU 4 a u) (fY 4 a y)) := by
  unfold res_main_v529
  exact IsP.flat (f := B 7 (fA 4 a) (fU 4 a u) (fY 4 a y)) (joins (((a513 V0 a u y hy ha hu hY).mul (a140 V0 a u y hy ha hu hY)).add ((a138 V0 a u y hy ha hu hY).mul (a514 V0 a u y hy ha hu hY))) (((a367 V0 a u y hy ha hu hY).mul (a250 V0 a u y hy ha hu hY)).add ((a514 V0 a u y hy ha hu hY).mul (a139 V0 a u y hy ha hu hY))) _ h_S_ (zero1 _) _ _) rfl _
theorem a544 : Is 256 (res_main_v544 (F := Ideal) V0) (B 8 (fA 3 a) (fU 3 a u) (fY 3 a y)) := by
  unfold res_main_v544
  exact IsP.flat (f := B 8 (fA 3 a) (fU 3 a u) (fY 3 a y)) (joins (((a528 V0 a u y hy ha hu hY).mul (a131 V0 a u y hy ha hu hY)).add ((a129 V0 a u y hy ha hu hY).mul (a529 V0 a u y hy ha hu hY))) (((a358 V0 a u y hy ha hu hY).mul (a258 V0 a u y hy ha hu hY)).add ((a529 V0 a u y hy ha hu hY).mul (a130 V0 a u y hy ha hu hY))) _ h_S_ (zero1 _) _ _) rfl _
theorem a559 : Is 512 (res_main_v559 (F := Ideal) V0) (B 9 (fA 2 a) (fU 2 a u) (fY 2 a y)) := by
  unfold res_main_v559
  exact IsP.flat (f := B 9 (fA 2 a) (fU 2 a u) (fY 2 a y)) (joins (((a543 V0 a u y hy ha hu hY).mul (a122 V0 a u y hy ha hu hY)).add ((a120 V0 a u y hy ha hu hY).mul (a544 V0 a u y hy ha hu hY))) (((a349 V0 a u y hy ha hu hY).mul (a266 V0 a u y hy ha hu hY)).add ((a544 V0 a u y hy ha hu hY).mul (a121 V0 a u y hy ha hu hY))) _ h_S_ (zero1 _) _ _) rfl _
theorem a574 : Is 1024 (res_main_v574 (F := Ideal) V0) (B 10 (fA 1 a) (fU 1 a u) (fY 1 a y)) := by
  unfold res_main_v574
  exact IsP.flat (f := B 10 (fA 1 a) (fU 1 a u) (fY 1 a y)) (joins (((a558 V0 a u y hy ha hu hY).mul (a113 V0 a u y hy ha hu hY)).add ((a111 V0 a u y hy ha hu hY).mul (a559 V0 a u y hy ha hu hY))) (((a340 V0 a u y hy ha hu hY).mul (a274 V0 a u y hy ha hu hY)).add ((a559 V0 a u y hy ha hu hY).mul (a112 V0 a u y hy ha hu hY))) _ h_S_ (zero1 _) _ _) rfl _
/-- The gradient of the factors, as the run has it in place. -/
def gradA (V0 : Valuation τ sig (Elt Ideal)) : FVec Ideal S1x2048x1024 .f32 :=
  shapeCast _ (addf (pad S1x1024x2048 ![0, 0, 1024] ![0, 0, 0] ![0, 0, 0] (addf (mulf (res_main_v573 V0) (res_main_v104 V0)) (mulf (res_main_v102 V0) (res_main_v574 V0))) (constant S_ .f32 0x00000000#32) pads_S1x1024x1024_S1x1024x2048_000_000_102400 h_S_) (pad S1x1024x2048 ![0, 0, 0] ![0, 0, 1024] ![0, 0, 0] (addf (mulf (res_main_v331 V0) (res_main_v282 V0)) (mulf (res_main_v574 V0) (res_main_v103 V0))) (constant S_ .f32 0x00000000#32) pads_S1x1024x1024_S1x1024x2048_000_000_010240 h_S_)) shapeCasts_S1x1024x2048_S1x2048x1024
theorem aGrad : Is 2048 (gradA V0) (B 11 (fA 0 a) (fU 0 a u) (fY 0 a y)) := by
  unfold gradA
  exact IsP.flat (f := B 11 (fA 0 a) (fU 0 a u) (fY 0 a y)) (joins (((a573 V0 a u y hy ha hu hY).mul (a104 V0 a u y hy ha hu hY)).add ((a102 V0 a u y hy ha hu hY).mul (a574 V0 a u y hy ha hu hY))) (((a331 V0 a u y hy ha hu hY).mul (a282 V0 a u y hy ha hu hY)).add ((a574 V0 a u y hy ha hu hY).mul (a103 V0 a u y hy ha hu hY))) _ h_S_ (zero1 _) _ _) rfl _
end levels

end Cert.MixLruRefIdeal.Levels
-- ==== Proof.LruGate.lean ====
/- The gates of the reference's recurrence: its host products and sums at one index, and what is real in it. -/
module

public import proofs.«01_k».proof.Proof.LruRef
public import proofs.«01_k».proof.Proof.FfnUpRef

@[expose] public section

set_option maxRecDepth 16384

noncomputable section

open Idealize.ShloMosaic Idealize.ShloMosaic.TcCoe Idealize.ShloMosaic.Tactic Idealize.SL.Sem

namespace Cert.MixLruRefIdeal.Gates
open Cert.MixLruRefIdeal Cert.MixLruRefIdeal.Gen Cert.MixLruRefIdeal.Value Cert.Scan Cert.Reals

/-! ### Products, sums and changes of shape at one index -/

theorem dot1 (A : FVec Ideal S4x256x256 .f32) (B : FVec Ideal S1x2048x4x256 .f32) (q : Fin 4) (i : Fin 256) (t : Fin 2048) :
    Host.dotGeneral dot_S4x256x256_S1x2048x4x256_S4x256x1x2048_1_3_2_01_0_2 none A B (ix4 q i 0 t) = ∑ k : Fin 256, A (ix3 q k i) * B (ix4 0 t q k) := by
  pointwise
theorem dot2 (A : FVec Ideal S4x256x1x2048 .f32) (B : FVec Ideal S1x2048x4x256 .f32) (q : Fin 4) (j i : Fin 256) :
    Host.dotGeneral dot_S4x256x1x2048_S1x2048x4x256_S4x256x256_23_01_1_3_0_2 none A B (ix3 q j i) = ∑ t : Fin 2048, A (ix4 q j 0 t) * B (ix4 0 t q i) := by
  pointwise
  rw [Fin.sum_univ_one]
theorem dot3 (A : FVec Ideal S4x256x1x2048 .f32) (W : FVec Ideal S4x256x256 .f32) (q : Fin 4) (k : Fin 256) (t : Fin 2048) :
    Host.dotGeneral dot_S4x256x1x2048_S4x256x256_S4x1x2048x256_1_2_23_1_0_0 none A W (ix4 q 0 t k) = ∑ j : Fin 256, A (ix4 q j 0 t) * W (ix3 q k j) := by
  pointwise
/-- The zero a host sum starts from. -/
theorem zero1 : (constant (F := Ideal) S_ .f32 0x00000000#32 : FVec Ideal S_ .f32) (Shape.Idx.first h_S_) = 0 := Ideal.ofBits_zero .f32
theorem sum1 (A : FVec Ideal S1x2048x1024 .f32) (c : Fin 1024) :
    Host.reduceAdd A (constant S_ .f32 0x00000000#32) reducesTo_S1x2048x1024_S1x1024_d1 h_S_ (ix2 0 c) = ∑ t : Fin 2048, A (ix3 0 t c) := by
  pointwise
theorem sum2 (A : FVec Ideal S1x1x1024 .f32) (c : Fin 1024) :
    Host.reduceAdd A (constant S_ .f32 0x00000000#32) reducesTo_S1x1x1024_S1024_d0_1 h_S_ (ix1 c) = A (ix3 0 0 c) := by
  refine (hostReduceAdd_rows_01 _ _ _ c).trans ?_
  rw [Fin.sum_univ_one, zero1, zero_add]
theorem sum3 (A : FVec Ideal S1x2048x4x256 .f32) (q : Fin 4) (j : Fin 256) :
    Host.reduceAdd A (constant S_ .f32 0x00000000#32) reducesTo_S1x2048x4x256_S1x4x256_d1 h_S_ (ix3 0 q j) = ∑ t : Fin 2048, A (ix4 0 t q j) := by
  pointwise
theorem sum4 (A : FVec Ideal S1x1x4x256 .f32) (q : Fin 4) (j : Fin 256) :
    Host.reduceAdd A (constant S_ .f32 0x00000000#32) reducesTo_S1x1x4x256_S4x256_d0_1 h_S_ (ix2 q j) = A (ix4 0 0 q j) := by
  refine (hostReduceAdd_of _ _ _ (ix2 q j) (fun _ : Fin 1 => ix4 0 0 q j) (fun a b _ => Subsingleton.elim a b) fun i => ⟨fun hi => ⟨0, ?_⟩, ?_⟩).trans ?_
  · have h1 : i 2 = q := congrFun hi 0
    have h2 : i 3 = j := congrFun hi 1
    rw [eq_ix4 i, h1, h2]
    exact congrArg₂ (fun a b => ix4 a b q j) (Subsingleton.elim (α := Fin 1) _ _) (Subsingleton.elim (α := Fin 1) _ _)
  · rintro ⟨_, rfl⟩
    funext b
    fin_cases b <;> rfl
  · rw [Fin.sum_univ_one, zero1, zero_add]
theorem heads (X : FVec Ideal S1x2048x1024 .f32) (t : Fin 2048) (q : Fin 4) (j : Fin 256) :
    shapeCast S1x2048x4x256 X shapeCasts_S1x2048x1024_S1x2048x4x256 (ix4 0 t q j) = X (ix3 0 t ⟨q.val * 256 + j.val, by omega⟩) := by
  pointwise
theorem flat4 (X : FVec Ideal S1x2048x4x256 .f32) (t : Fin 2048) (q : Fin 4) (j : Fin 256) :
    shapeCast S1x2048x1024 X shapeCasts_S1x2048x4x256_S1x2048x1024 (ix3 0 t ⟨q.val * 256 + j.val, by omega⟩) = X (ix4 0 t q j) := by
  pointwise

/-! ### Arrays of reals -/

/-- Every entry is a real number. -/
def Re {s : Shape} (X : s.Idx → EReal) : Prop := ∀ i, ∃ r : ℝ, X i = (r : EReal)

section
variable {s t : Shape}
theorem Re.mul {X Y : FVec Ideal s .f32} (hX : Re X) (hY : Re Y) : Re (mulf X Y : FVec Ideal s .f32) := fun i => by
  obtain ⟨a, ha⟩ := hX i
  obtain ⟨b, hb⟩ := hY i
  refine ⟨a * b, ?_⟩
  show X i * Y i = _
  rw [ha, hb, EReal.coe_mul]
theorem Re.add {X Y : FVec Ideal s .f32} (hX : Re X) (hY : Re Y) : Re (addf X Y : FVec Ideal s .f32) := fun i => by
  obtain ⟨a, ha⟩ := hX i
  obtain ⟨b, hb⟩ := hY i
  refine ⟨a + b, ?_⟩
  show X i + Y i = _
  rw [ha, hb, EReal.coe_add]
theorem Re.bcast {X : s.Idx → EReal} (hX : Re X) (d h) : Re (broadcastInDim t d h X) := fun _ => hX _
theorem Re.cast {X : s.Idx → EReal} (hX : Re X) (h) : Re (shapeCast t X h) := fun _ => hX _
theorem Re.slice {X : s.Idx → EReal} (hX : Re X) (d h) : Re (extractStridedSlice t d X h) := fun _ => hX _
theorem Re.perm {X : s.Idx → EReal} (hX : Re X) (d h) : Re (transpose t d X h) := fun _ => hX _
theorem Re.cat {a : Fin t.rank} {xs : List ((s : Shape) × (s.Idx → EReal))} {h} (hx : ∀ p ∈ xs, Re p.2) : Re (concatenate t a xs h) := fun _ => hx _ (List.getElem_mem _) _
theorem Re.const {b : BitVec 32} {r : ℝ} (h : Ideal.ofBits .f32 b = (r : EReal)) : Re (constant (F := Ideal) s .f32 b : FVec Ideal s .f32) := fun _ => ⟨r, h⟩
theorem Re.dot1 {A : FVec Ideal S4x256x256 .f32} {B : FVec Ideal S1x2048x4x256 .f32} (hA : Re A) (hB : Re B) :
    Re (Host.dotGeneral dot_S4x256x256_S1x2048x4x256_S4x256x1x2048_1_3_2_01_0_2 none A B : FVec Ideal S4x256x1x2048 .f32) := fun i => by
  choose a ha using hA
  choose b hb using hB
  have key : ∀ (q : Fin 4) (j : Fin 256) (t : Fin 2048), ∃ r : ℝ, (Host.dotGeneral dot_S4x256x256_S1x2048x4x256_S4x256x1x2048_1_3_2_01_0_2 none A B : FVec Ideal S4x256x1x2048 .f32) (ix4 q j 0 t) = (r : EReal) := fun q j t => by
    refine ⟨∑ k : Fin 256, a (ix3 q k j) * b (ix4 0 t q k), ?_⟩
    rw [Gates.dot1, coe_sum]
    refine Finset.sum_congr rfl fun k _ => ?_
    rw [ha, hb, EReal.coe_mul]
  have e : i = ix4 (i 0) (i 1) 0 (i 3) := (eq_ix4 i).trans (congrArg (fun z => ix4 (i 0) (i 1) z (i 3)) (Subsingleton.elim (α := Fin 1) _ _))
  rw [e]
  exact key _ _ _
/-- The sigmoid of reals. -/
theorem Re.sig {X : FVec Ideal s .f32} (hX : Re X) {O O' : FVec Ideal s .f32} (hO : ∀ i, O i = ((1 : ℝ) : EReal)) (hO' : ∀ i, O' i = ((1 : ℝ) : EReal)) (i : s.Idx) :
    ∃ r : ℝ, 0 < r ∧ (Host.divf O (addf O' (Host.exp (Host.negf X))) : FVec Ideal s .f32) i = (r : EReal) := by
  obtain ⟨a, ha⟩ := hX i
  have hp := Real.exp_pos (-a)
  refine ⟨1 / (1 + Real.exp (-a)), by positivity, ?_⟩
  show Ideal.div (O i) (O' i + Ideal.exp (-(X i))) = _
  rw [hO, hO', ha, ← EReal.coe_neg, Ideal.exp_coe, ← EReal.coe_add, div_coe_coe (by positivity)]
end

variable (V0 : Valuation τ sig (Elt Ideal))

/-- The ten arguments are real. -/
structure Args : Prop where
  p0 : Re (s := S1x2048x7168) (V0 (Proc.devRef .tc main_arg0))
  p1 : Re (s := S1x4x1024) (V0 (Proc.devRef .tc main_arg1))
  p2 : Re (s := S1x1024) (V0 (Proc.devRef .tc main_arg2))
  p3 : Re (s := S1x4x256x256) (V0 (Proc.devRef .tc main_arg3))
  p4 : Re (s := S1x4x256) (V0 (Proc.devRef .tc main_arg4))
  p5 : Re (s := S1x4x256x256) (V0 (Proc.devRef .tc main_arg5))
  p6 : Re (s := S1x4x256) (V0 (Proc.devRef .tc main_arg6))
  p7 : Re (s := S1x1024) (V0 (Proc.devRef .tc main_arg7))
  p8 : Re (s := S1x1024x1024) (V0 (Proc.devRef .tc main_arg8))
  p9 : Re (s := S1x2048x1024) (V0 (Proc.devRef .tc main_arg9))

variable {V0} (h : Args V0)
include h

theorem re10 : Re (s := S1x2051x1024) (res_main_v10 (F := Ideal) V0) := Re.cat fun p hp => by
  simp only [List.mem_cons, List.not_mem_nil, or_false] at hp
  rcases hp with rfl | rfl
  · exact fun _ => ⟨0, Ideal.ofBits_zero .f32⟩
  · exact h.p0.slice _ slices_S1x2048x7168_S1x2048x1024_0_0_3072
theorem re7 : Re (s := S4x1024) (res_main_v7 (F := Ideal) V0) := h.p1.cast _
theorem re41 : Re (s := S1x2048x1024) (res_main_v41 (F := Ideal) V0) :=
  (((((re10 h).slice _ _).mul (((((re7 h).slice _ _).cast _).bcast _ _).bcast _ _)).add (((re10 h).slice _ _).mul (((((re7 h).slice _ _).cast _).bcast _ _).bcast _ _))).add
    (((re10 h).slice _ _).mul (((((re7 h).slice _ _).cast _).bcast _ _).bcast _ _))).add (((re10 h).slice _ _).mul (((((re7 h).slice _ _).cast _).bcast _ _).bcast _ _)) |>.add
    (((h.p2.cast _).bcast _ _).bcast _ _)
theorem re58 (i : (S1x2048x4x256).Idx) : ∃ r : ℝ, 0 < r ∧ (res_main_v58 (F := Ideal) V0 : FVec Ideal S1x2048x4x256 .f32) i = (r : EReal) :=
  Re.sig (((Re.dot1 (h.p3.cast _) ((re41 h).cast _)).perm _ _).add (((h.p4.cast _).bcast _ _).bcast _ _)) (fun _ => ofBits_one) (fun _ => ofBits_one) i
theorem re73 (i : (S1x2048x4x256).Idx) : ∃ r : ℝ, 0 < r ∧ (res_main_v73 (F := Ideal) V0 : FVec Ideal S1x2048x4x256 .f32) i = (r : EReal) :=
  Re.sig (((Re.dot1 (h.p5.cast _) ((re41 h).cast _)).perm _ _).add (((h.p6.cast _).bcast _ _).bcast _ _)) (fun _ => ofBits_one) (fun _ => ofBits_one) i

theorem re4 : Re (s := S1x2048x1024) (res_main_v4 (F := Ideal) V0) := h.p0.slice _ _
omit h in
theorem Re.tanh {s : Shape} {X : FVec Ideal s .f32} (hX : Re X) : Re (Host.tanh X : FVec Ideal s .f32) := fun i => by
  obtain ⟨a, ha⟩ := hX i
  refine ⟨Real.tanh a, ?_⟩
  show Ideal.tanh (X i) = _
  rw [ha, Ideal.tanh_coe]
theorem re308 : Re (s := S1x2048x1024) (res_main_v308 (F := Ideal) V0) :=
  (re4 h).mul (((Re.const ofBits_half).bcast _ _).mul (((Re.const ofBits_one).bcast _ _).add (Re.tanh (((Re.const Cert.Gelu.ofBits_scale).bcast _ _).mul
    ((re4 h).add ((Re.bcast (fun _ => ⟨_, Cert.Gelu.quotient⟩) _ _).mul (((re4 h).mul (re4 h)).mul (re4 h))))))))
omit h in
theorem Re.dot4 {A : FVec Ideal S1x2048x1024 .f32} {B : FVec Ideal S1024x1024 .f32} (hA : Re A) (hB : Re B) :
    Re (Host.dotGeneral dot_S1x2048x1024_S1024x1024_S1x2048x1024_2_1_01_0_n_n none A B : FVec Ideal S1x2048x1024 .f32) := fun i => by
  choose a ha using hA
  choose b hb using hB
  have key : ∀ (t : Fin 2048) (c : Fin 1024), ∃ r : ℝ, (Host.dotGeneral dot_S1x2048x1024_S1024x1024_S1x2048x1024_2_1_01_0_n_n none A B : FVec Ideal S1x2048x1024 .f32) (ix3 0 t c) = (r : EReal) := fun t c => by
    refine ⟨∑ k : Fin 1024, a (ix3 0 t k) * b (ix2 c k), ?_⟩
    pointwise
    rw [coe_sum]
    refine Finset.sum_congr rfl fun k _ => ?_
    rw [ha, hb, EReal.coe_mul]
  have e : i = ix3 0 (i 1) (i 2) := (eq_ix3 i).trans (congrArg (fun z => ix3 z (i 1) (i 2)) (Subsingleton.elim (α := Fin 1) _ _))
  rw [e]
  exact key _ _
theorem re314 : Re (s := S1x2048x1024) (res_main_v314 (F := Ideal) V0) := Re.dot4 h.p9 (h.p8.cast _)

end Cert.MixLruRefIdeal.Gates

/-! ### The gates as sequences -/

namespace Cert.Gates
open Cert.Scan

/-- What the recurrence is made of: the branch's input, the two gates, what reaches its states and its parameter. -/
structure Dat where
  xl : Seq
  r : Seq
  i : Seq
  y : Seq
  lam : Fin 1024 → ℝ
/-- The gates are positive, and nothing reaches the states after the last row. -/
structure Dat.Ok (D : Dat) : Prop where
  r_pos : ∀ t < 2048, ∀ c, 0 < D.r t c
  y_zero : ∀ t, 2048 ≤ t → ∀ c, D.y t c = 0

/-- The logarithm of the sigmoid. -/
def lsig (x : ℝ) : ℝ := min x 0 - Real.log (1 + Real.exp (-|x|))
theorem lsig_neg (x : ℝ) : lsig x < 0 := by
  unfold lsig
  have := Real.log_pos (show 1 < 1 + Real.exp (-|x|) by linarith [Real.exp_pos (-|x|)])
  linarith [min_le_right x 0]

namespace Dat
variable (D : Dat)
/-- The logarithm of the factor. -/
def la : Seq := fun t c => 8 * D.r t c * lsig (D.lam c)
/-- The factor. -/
def A : Seq := fun t c => Real.exp (D.la t c)
/-- What is left for the term, at every row. -/
def M0 : Seq := fun t c => Real.sqrt (1 - Real.exp (2 * D.la t c))
/-- What is left for the term. -/
def M : Seq := fun t c => if t = 0 then 1 else D.M0 t c
/-- The term. -/
def U : Seq := fun t c => D.M t c * (D.i t c * D.xl t c)
/-- The states. -/
def h : Seq := H 11 D.A D.U
/-- The gradient of the terms. -/
def g : Seq := G 11 D.A D.y
/-- The gradient of the factor's logarithm. -/
def dla : Seq := fun t c => D.g t c * prev D.h t c * D.A t c - if t = 0 then 0 else D.g t c * D.i t c * D.xl t c * D.A t c * D.A t c / D.M t c
/-- The gradient of the first gate's argument. -/
def zr : Seq := fun t c => D.dla t c * (8 * lsig (D.lam c)) * D.r t c * (1 - D.r t c)
/-- The gradient of the second gate's argument. -/
def zi : Seq := fun t c => D.g t c * D.M t c * D.xl t c * D.i t c * (1 - D.i t c)
/-- What reaches the branch's input directly. -/
def dx : Seq := fun t c => D.g t c * D.M t c * D.i t c

theorem la_neg (hD : D.Ok) (t : ℕ) (ht : t < 2048) (c : Fin 1024) : D.la t c < 0 :=
  mul_neg_of_pos_of_neg (mul_pos (by norm_num) (hD.r_pos t ht c)) (lsig_neg _)
theorem exp_lt (hD : D.Ok) (t : ℕ) (ht : t < 2048) (c : Fin 1024) : Real.exp (2 * D.la t c) < 1 := by
  rw [Real.exp_lt_one_iff]; linarith [D.la_neg hD t ht c]
theorem M0_pos (hD : D.Ok) (t : ℕ) (ht : t < 2048) (c : Fin 1024) : 0 < D.M0 t c := Real.sqrt_pos.mpr (by linarith [D.exp_lt hD t ht c])
theorem M_pos (hD : D.Ok) (t : ℕ) (ht : t < 2048) (c : Fin 1024) : 0 < D.M t c := by
  unfold M; split_ifs
  · norm_num
  · exact D.M0_pos hD t ht c
theorem A_sq (t : ℕ) (c : Fin 1024) : Real.exp (2 * D.la t c) = D.A t c * D.A t c := by unfold A; rw [← Real.exp_add, two_mul]
theorem g_rec (hD : D.Ok) (t : ℕ) (c : Fin 1024) : D.g t c = D.y t c + D.A (t + 1) c * D.g (t + 1) c := G_rec 11 D.A D.y (fun t ht => hD.y_zero t (by simpa using ht)) t c
theorem G_zero (k : ℕ) : ∀ (a y : Seq) (_ : ∀ t, 2 ^ k ≤ t → ∀ c, y t c = 0) (t : ℕ) (_ : 2 ^ k ≤ t) (c : Fin 1024), G k a y t c = 0 := by
  induction k with
  | zero => exact fun a y h t ht c => h t ht c
  | succ k ih =>
    intro a y h t ht c
    have ih' := ih (dnA a) (dnY a y) (dnY_zero a y (2 ^ k) (fun t ht => h t (by rw [pow_succ]; omega)))
    rw [pow_succ] at ht h
    rcases Nat.even_or_odd' t with ⟨j, rfl | rfl⟩
    · simp only [G, mix_even, evenG]
      rw [ih' j (by omega), h _ (by omega)]; ring
    · simp only [G, mix_odd]
      exact ih' j (by omega) c
theorem g_zero (hD : D.Ok) (t : ℕ) (ht : 2048 ≤ t) (c : Fin 1024) : D.g t c = 0 := G_zero 11 D.A D.y (fun t ht => hD.y_zero t (by simpa using ht)) t (by simpa using ht) c
end Dat
end Cert.Gates
-- ==== Proof.LruVals.lean ====
/- The reference's arrays as the sequences of the gates and of the recurrence. -/
module

public import proofs.«01_k».proof.Proof.LruGate

@[expose] public section

set_option maxRecDepth 16384

noncomputable section

open Idealize.ShloMosaic Idealize.ShloMosaic.TcCoe Idealize.ShloMosaic.Tactic Idealize.SL.Sem

namespace Cert.MixLruRefIdeal.Gates
open Cert.MixLruRefIdeal Cert.MixLruRefIdeal.Gen Cert.MixLruRefIdeal.Value Cert.Scan Cert.Reals Cert.Gates

/-- A real array as a sequence, zero after its last row. -/
def seq (X : FVec Ideal S1x2048x1024 .f32) : Seq := fun t c => if h : t < 2048 then (X (ix3 0 ⟨t, h⟩ c)).toReal else 0
theorem Re.is {X : FVec Ideal S1x2048x1024 .f32} (hX : Re X) : Is 2048 X (seq X) := fun t c => by
  obtain ⟨r, hr⟩ := hX (ix3 0 t c)
  unfold seq
  rw [dif_pos t.isLt, show (⟨t.val, t.isLt⟩ : Fin 2048) = t from rfl, hr, EReal.toReal_coe]

/-- A gate over heads, as rows of channels. -/
def flat (X : FVec Ideal S1x2048x4x256 .f32) : FVec Ideal S1x2048x1024 .f32 := shapeCast S1x2048x1024 X shapeCasts_S1x2048x4x256_S1x2048x1024

/-- The reference's data. -/
def dat (V0 : Valuation τ sig (Elt Ideal)) : Dat where
  xl := seq (res_main_v41 (F := Ideal) V0)
  r := seq (flat (res_main_v58 (F := Ideal) V0))
  i := seq (flat (res_main_v73 (F := Ideal) V0))
  y := seq (mulf (F := Ideal) (φ := .f32) (res_main_v314 (F := Ideal) V0 : FVec Ideal S1x2048x1024 .f32) (res_main_v308 (F := Ideal) V0 : FVec Ideal S1x2048x1024 .f32))
  lam := fun c => ((V0 (Proc.devRef .tc main_arg7) : FVec Ideal S1x1024 .f32) (ix2 0 c)).toReal

variable {V0 : Valuation τ sig (Elt Ideal)} (h : Args V0)
include h

theorem is_xl : Is 2048 (res_main_v41 (F := Ideal) V0) (dat V0).xl := (re41 h).is
theorem is_r : Is 2048 (flat (res_main_v58 (F := Ideal) V0)) (dat V0).r := Re.is fun i => by
  obtain ⟨r, _, hr⟩ := re58 h (Shape.reshapeEquiv shapeCasts_S1x2048x4x256_S1x2048x1024 i)
  exact ⟨r, hr⟩
theorem is_i : Is 2048 (flat (res_main_v73 (F := Ideal) V0)) (dat V0).i := Re.is fun i => by
  obtain ⟨r, _, hr⟩ := re73 h (Shape.reshapeEquiv shapeCasts_S1x2048x4x256_S1x2048x1024 i)
  exact ⟨r, hr⟩
theorem is_y : Is 2048 (mulf (F := Ideal) (φ := .f32) (res_main_v314 (F := Ideal) V0 : FVec Ideal S1x2048x1024 .f32) (res_main_v308 (F := Ideal) V0 : FVec Ideal S1x2048x1024 .f32)) (dat V0).y :=
  Re.is ((re314 h).mul (re308 h))
theorem is_lam (c : Fin 1024) : (V0 (Proc.devRef .tc main_arg7) : FVec Ideal S1x1024 .f32) (ix2 0 c) = (((dat V0).lam c : ℝ) : EReal) := by
  obtain ⟨r, hr⟩ := h.p7 (ix2 0 c)
  show _ = ((((V0 (Proc.devRef .tc main_arg7) : FVec Ideal S1x1024 .f32) (ix2 0 c)).toReal : ℝ) : EReal)
  rw [hr, EReal.toReal_coe]
theorem ok : (dat V0).Ok where
  r_pos t ht c := by
    obtain ⟨r, hp, hr⟩ := re58 h (Shape.reshapeEquiv shapeCasts_S1x2048x4x256_S1x2048x1024 (ix3 0 ⟨t, ht⟩ c))
    have e := is_r h ⟨t, ht⟩ c
    have e' : (flat (res_main_v58 (F := Ideal) V0)) (ix3 0 ⟨t, ht⟩ c) = (r : EReal) := hr
    rw [e'] at e
    exact (EReal.coe_eq_coe_iff.mp e) ▸ hp
  y_zero t ht c := dif_neg (by omega)
omit h

theorem bits8 : Ideal.ofBits .f32 0x41000000#32 = ((8 : ℝ) : EReal) := by
  simp [Ideal.ofBits, Ideal.ieee, -EReal.coe_mul]; norm_num
theorem coe_max (a b : ℝ) : ((max a b : ℝ) : EReal) = max (a : EReal) (b : EReal) := EReal.coe_strictMono.monotone.map_max
/-- The parameter with its sign turned. -/
def negL (L : FVec Ideal S1x1024 .f32) : FVec Ideal S1024 .f32 := Host.negf (shapeCast S1024 L shapeCasts_S1x1024_S1024)
def zeros : FVec Ideal S1024 .f32 := broadcastInDim S1024 ![] bcast_S_S1024 (constant S_ .f32 0x00000000#32)
def negL0 (L : FVec Ideal S1x1024 .f32) : FVec Ideal S1024 .f32 := subf (negL L) zeros
/-- The reference's softplus of the turned parameter. -/
def softV (L : FVec Ideal S1x1024 .f32) : FVec Ideal S1024 .f32 :=
  select (cmpf .une (negL0 L) (negL0 L)) (addf (negL L) zeros) (addf (maximumf (negL L) zeros) (Host.log1p (Host.exp (Host.negf (Host.absf (negL0 L))))))
theorem negL_at (L : FVec Ideal S1x1024 .f32) (c : Fin 1024) : negL L (ix1 c) = -L (ix2 0 c) := by pointwise [negL]
theorem zeros_at (c : Fin 1024) : zeros (ix1 c) = 0 := Ideal.ofBits_zero .f32
theorem negL0_at (L : FVec Ideal S1x1024 .f32) (c : Fin 1024) : negL0 L (ix1 c) = -L (ix2 0 c) := by
  pointwise [negL0, negL_at, zeros_at]
theorem softV_at (L : FVec Ideal S1x1024 .f32) (c : Fin 1024) (x : ℝ) (hx : L (ix2 0 c) = (x : EReal)) : softV L (ix1 c) = ((-(lsig x) : ℝ) : EReal) := by
  have e : softV L (ix1 c) = Scalar.select (Ideal.cmp .une (negL0 L (ix1 c)) (negL0 L (ix1 c))) (negL L (ix1 c) + zeros (ix1 c))
      (max (negL L (ix1 c)) (zeros (ix1 c)) + Ideal.log (1 + Ideal.exp (-(max (negL0 L (ix1 c)) (-(negL0 L (ix1 c))))))) := rfl
  rw [e, negL0_at, negL_at, zeros_at, hx]
  have c0 : Ideal.cmp .une (-(x : EReal)) (-(x : EReal)) = 0#1 := by simp [Ideal.cmp]
  rw [c0]
  show max (-(x : EReal)) 0 + Ideal.log (1 + Ideal.exp (-(max (-(x : EReal)) (- -(x : EReal))))) = _
  have e2 : max (-(x : EReal)) (- -(x : EReal)) = ((|x| : ℝ) : EReal) := by
    rw [neg_neg, ← EReal.coe_neg, ← coe_max]; congr 1; rw [max_comm]; rfl
  have hp := Real.exp_pos (-|x|)
  rw [e2, ← EReal.coe_neg, ← EReal.coe_neg, Ideal.exp_coe, ← EReal.coe_one, ← EReal.coe_add, Ideal.log_coe, if_neg (by linarith), ← EReal.coe_zero, ← coe_max, ← EReal.coe_add]
  congr 1
  unfold lsig
  rw [neg_sub, sub_eq_neg_add, ← max_neg_neg, neg_zero, add_comm]
include h

theorem at81 (c : Fin 1024) : (res_main_v81 (F := Ideal) V0 : FVec Ideal S1x1x1024 .f32) (ix3 0 0 c) = ((lsig ((dat V0).lam c) : ℝ) : EReal) := by
  have e : (res_main_v81 (F := Ideal) V0 : FVec Ideal S1x1x1024 .f32) = broadcastInDim S1x1x1024 ![2] bcast_S1024_S1x1x1024_2 (Host.negf (softV (V0 (Proc.devRef .tc main_arg7)))) := rfl
  rw [e]
  pointwise [softV_at _ c _ (is_lam h c)]
  rw [← EReal.coe_neg, neg_neg]
theorem is83 : Is 2048 (res_main_v83 (F := Ideal) V0) (dat V0).la := fun t c => by
  have e : (res_main_v83 (F := Ideal) V0 : FVec Ideal S1x2048x1024 .f32) (ix3 0 t c)
    = Ideal.ofBits .f32 0x41000000#32 * (flat (res_main_v58 (F := Ideal) V0)) (ix3 0 t c) * (broadcastInDim S1x2048x1024 ![0, 1, 2] bcast_S1x1x1024_S1x2048x1024_0_1_2 (res_main_v81 (F := Ideal) V0 : FVec Ideal S1x1x1024 .f32)) (ix3 0 t c) := rfl
  rw [e, is_r h t c]
  pointwise [at81 h c, bits8]
  rw [← EReal.coe_mul, ← EReal.coe_mul]
  rfl
theorem is84 : Is 2048 (res_main_v84 (F := Ideal) V0) (dat V0).A := fun t c => by
  have e : (res_main_v84 (F := Ideal) V0 : FVec Ideal S1x2048x1024 .f32) (ix3 0 t c) = Ideal.exp ((res_main_v83 (F := Ideal) V0 : FVec Ideal S1x2048x1024 .f32) (ix3 0 t c)) := rfl
  rw [e, is83 h t c, Ideal.exp_coe]
  rfl
theorem is86 : Is 2048 (res_main_v86 (F := Ideal) V0) (fun t c => 2 * (dat V0).la t c) := fun t c => by
  have e : (res_main_v86 (F := Ideal) V0 : FVec Ideal S1x2048x1024 .f32) (ix3 0 t c) = Ideal.ofBits .f32 0x40000000#32 * (res_main_v83 (F := Ideal) V0 : FVec Ideal S1x2048x1024 .f32) (ix3 0 t c) := rfl
  rw [e, is83 h t c, ofBits_two, ← EReal.coe_mul]
theorem is90 : Is 2048 (res_main_v90 (F := Ideal) V0) (dat V0).M0 := fun t c => by
  have e : (res_main_v90 (F := Ideal) V0 : FVec Ideal S1x2048x1024 .f32) (ix3 0 t c) = Ideal.sqrt (-(Ideal.exp ((res_main_v86 (F := Ideal) V0 : FVec Ideal S1x2048x1024 .f32) (ix3 0 t c)) - 1)) := rfl
  have hl := (dat V0).exp_lt (ok h) t.val t.isLt c
  rw [e, is86 h t c, Ideal.exp_coe, ← EReal.coe_one, ← EReal.coe_sub, ← EReal.coe_neg, Ideal.sqrt_coe, if_neg (by linarith)]
  congr 1
  unfold Dat.M0
  congr 1
  ring
omit h
/-- A choice by the first row. -/
theorem first_row {t : ℕ} (ht : t < 2 ^ 31) (x y : EReal) : Scalar.select (IntOp.cmpi .eq (BitVec.ofNat 32 t) 0#32) x y = if t = 0 then x else y := by
  unfold Scalar.select
  by_cases h0 : t = 0
  · subst h0; rw [if_pos rfl]; rfl
  · rw [if_neg h0]
    refine if_neg fun h' => h0 ?_
    have e : (BitVec.ofNat 32 t) = 0#32 := by
      by_contra hne
      have e1 : IntOp.cmpi .eq (BitVec.ofNat 32 t) 0#32 = 0#1 := by
        simp only [IntOp.cmpi, beq_eq_false_iff_ne.mpr hne]; rfl
      rw [e1] at h'
      exact absurd h' (by decide)
    have := congrArg BitVec.toNat e
    simp at this
    omega
theorem choose97 (X Y : FVec Ideal S1x2048x1024 .f32) (t : Fin 2048) (c : Fin 1024) :
    (select (res_main_v97_1 (F := Ideal) V0 : IVec S1x2048x1024 1) X Y) (ix3 0 t c) = if t.val = 0 then X (ix3 0 t c) else Y (ix3 0 t c) := by
  have e : (select (res_main_v97_1 (F := Ideal) V0 : IVec S1x2048x1024 1) X Y) (ix3 0 t c) = Scalar.select (IntOp.cmpi .eq (BitVec.ofNat 32 t.val) 0#32) (X (ix3 0 t c)) (Y (ix3 0 t c)) := by
    unfold res_main_v97_1
    pointwise
  rw [e, first_row (by omega)]
include h
theorem is97 : Is 2048 (res_main_v97_0 (F := Ideal) V0) (dat V0).M := fun t c => by
  refine (choose97 _ _ t c).trans ?_
  unfold Dat.M
  split_ifs
  · exact ofBits_one
  · exact is90 h t c
theorem is98 : Is 2048 (res_main_v98 (F := Ideal) V0) (fun t c => (dat V0).i t c * (dat V0).xl t c) := fun t c =>
  mul_of_coe (is_i h t c) (is_xl h t c)
theorem isU : Is 2048 (mulf (F := Ideal) (φ := .f32) (res_main_v97_0 (F := Ideal) V0 : FVec Ideal S1x2048x1024 .f32) (res_main_v98 (F := Ideal) V0 : FVec Ideal S1x2048x1024 .f32)) (dat V0).U := fun t c =>
  mul_of_coe (is97 h t c) (is98 h t c)
theorem is_h : Is 2048 (res_main_v286 (F := Ideal) V0) (dat V0).h := Levels.a286 V0 _ _ _ (ok h).y_zero (is84 h) (isU h) (is_y h)
theorem is_g : Is 2048 (res_main_v588 (F := Ideal) V0) (dat V0).g := Levels.a588 V0 _ _ _ (ok h).y_zero (is84 h) (isU h) (is_y h)
theorem is_ga : Is 2048 (Levels.gradA V0) (fun t c => (dat V0).g t c * prev (dat V0).h t c) := fun t c => by
  rw [Levels.aGrad V0 _ _ _ (ok h).y_zero (is84 h) (isU h) (is_y h) t c]
  congr 1
  exact B_eq 11 _ _ _ (fun t ht => (ok h).y_zero t (by simpa using ht)) _ _

theorem is590 : Is 2048 (res_main_v590 (F := Ideal) V0) (fun t c => (dat V0).M t c * (dat V0).g t c) := fun t c => mul_of_coe (is97 h t c) (is_g h t c)
omit h in
theorem dla_of (Q G X W E K F : FVec Ideal S1x2048x1024 .f32) (i : (S1x2048x1024).Idx) :
    (addf (mulf (broadcastInDim S1x2048x1024 ![] bcast_S_S1x2048x1024 (constant S_ .f32 0x40000000#32)) (mulf (Host.negf (mulf Q (Host.divf (broadcastInDim S1x2048x1024 ![] bcast_S_S1x2048x1024 (constant S_ .f32 0x3F000000#32)) W))) (Host.exp E))) (mulf K F)) i
      = Ideal.ofBits .f32 0x40000000#32 * (-(Q i * Ideal.div (Ideal.ofBits .f32 0x3F000000#32) (W i)) * Ideal.exp (E i)) + K i * F i := rfl
/-- The gradient of the factor's logarithm. -/
theorem is601 : Is 2048 (res_main_v601 (F := Ideal) V0) (dat V0).dla := fun t c => by
  refine (dla_of (select (res_main_v97_1 (F := Ideal) V0 : IVec S1x2048x1024 1) (broadcastInDim S1x2048x1024 ![] bcast_S_S1x2048x1024 (constant (F := Ideal) S_ .f32 0x00000000#32) : FVec Ideal S1x2048x1024 .f32)
        (mulf (res_main_v588 (F := Ideal) V0 : FVec Ideal S1x2048x1024 .f32) (res_main_v98 (F := Ideal) V0 : FVec Ideal S1x2048x1024 .f32)))
    (res_main_v588 (F := Ideal) V0) (res_main_v98 (F := Ideal) V0) (res_main_v90 (F := Ideal) V0) (res_main_v86 (F := Ideal) V0) (Levels.gradA V0) (res_main_v84 (F := Ideal) V0) (ix3 0 t c)).trans ?_
  have hm := (dat V0).M0_pos (ok h) t.val t.isLt c
  have e1 : (mulf (res_main_v588 (F := Ideal) V0 : FVec Ideal S1x2048x1024 .f32) (res_main_v98 (F := Ideal) V0 : FVec Ideal S1x2048x1024 .f32) : FVec Ideal S1x2048x1024 .f32) (ix3 0 t c)
    = (((dat V0).g t c * ((dat V0).i t c * (dat V0).xl t c) : ℝ) : EReal) := mul_of_coe (is_g h t c) (is98 h t c)
  have e0 : (broadcastInDim S1x2048x1024 ![] bcast_S_S1x2048x1024 (constant (F := Ideal) S_ .f32 0x00000000#32) : FVec Ideal S1x2048x1024 .f32) (ix3 0 t c) = ((0 : ℝ) : EReal) := Ideal.ofBits_zero .f32
  rw [choose97, e0, e1, is90 h t c, is86 h t c, is_ga h t c, is84 h t c, ofBits_two, ofBits_half, div_coe_coe hm.ne', Ideal.exp_coe, (dat V0).A_sq]
  unfold Dat.dla Dat.M
  by_cases h0 : t.val = 0
  · simp only [if_pos h0, ← EReal.coe_mul, ← EReal.coe_neg, ← EReal.coe_add]
    congr 1
    ring
  · simp only [if_neg h0, ← EReal.coe_mul, ← EReal.coe_neg, ← EReal.coe_add]
    congr 1
    field_simp
    ring

/-- A row's channels under one head. -/
abbrev chan (q : Fin 4) (j : Fin 256) : Fin 1024 := ⟨q.val * 256 + j.val, by omega⟩
theorem r4 (t : Fin 2048) (q : Fin 4) (j : Fin 256) : (res_main_v58 (F := Ideal) V0 : FVec Ideal S1x2048x4x256 .f32) (ix4 0 t q j) = (((dat V0).r t (chan q j) : ℝ) : EReal) :=
  (flat4 _ t q j).symm.trans (is_r h t _)
theorem i4 (t : Fin 2048) (q : Fin 4) (j : Fin 256) : (res_main_v73 (F := Ideal) V0 : FVec Ideal S1x2048x4x256 .f32) (ix4 0 t q j) = (((dat V0).i t (chan q j) : ℝ) : EReal) :=
  (flat4 _ t q j).symm.trans (is_i h t _)
omit h in
theorem zi_of (X Y : FVec Ideal S1x2048x1024 .f32) (I : FVec Ideal S1x2048x4x256 .f32) (t : Fin 2048) (q : Fin 4) (j : Fin 256) :
    (mulf (shapeCast S1x2048x4x256 (mulf X Y) shapeCasts_S1x2048x1024_S1x2048x4x256) (mulf I (subf (broadcastInDim S1x2048x4x256 ![] bcast_S_S1x2048x4x256 (constant S_ .f32 0x3F800000#32)) I))) (ix4 0 t q j)
      = X (ix3 0 t (chan q j)) * Y (ix3 0 t (chan q j)) * (I (ix4 0 t q j) * (1 - I (ix4 0 t q j))) := by
  pointwise [heads]
omit h in
theorem zr_of (X : FVec Ideal S1x2048x1024 .f32) (L : FVec Ideal S1x1x1024 .f32) (I : FVec Ideal S1x2048x4x256 .f32) (t : Fin 2048) (q : Fin 4) (j : Fin 256) :
    (mulf (shapeCast S1x2048x4x256 (mulf (broadcastInDim S1x2048x1024 ![] bcast_S_S1x2048x1024 (constant S_ .f32 0x41000000#32)) (mulf X (broadcastInDim S1x2048x1024 ![0, 1, 2] bcast_S1x1x1024_S1x2048x1024_0_1_2 L))) shapeCasts_S1x2048x1024_S1x2048x4x256) (mulf I (subf (broadcastInDim S1x2048x4x256 ![] bcast_S_S1x2048x4x256 (constant S_ .f32 0x3F800000#32)) I))) (ix4 0 t q j)
      = ((8 : ℝ) : EReal) * (X (ix3 0 t (chan q j)) * L (ix3 0 0 (chan q j))) * (I (ix4 0 t q j) * (1 - I (ix4 0 t q j))) := by
  pointwise [heads, bits8]
theorem zi4 (t : Fin 2048) (q : Fin 4) (j : Fin 256) : (res_main_v612 (F := Ideal) V0 : FVec Ideal S1x2048x4x256 .f32) (ix4 0 t q j) = (((dat V0).zi t (chan q j) : ℝ) : EReal) := by
  refine (zi_of (res_main_v590 (F := Ideal) V0) (res_main_v41 (F := Ideal) V0) (res_main_v73 (F := Ideal) V0) t q j).trans ?_
  rw [i4 h, is590 h t (chan q j), is_xl h t (chan q j)]
  simp only [← EReal.coe_mul, ← EReal.coe_sub, ← EReal.coe_one]
  congr 1
  unfold Dat.zi
  ring
theorem zr4 (t : Fin 2048) (q : Fin 4) (j : Fin 256) : (res_main_v622 (F := Ideal) V0 : FVec Ideal S1x2048x4x256 .f32) (ix4 0 t q j) = (((dat V0).zr t (chan q j) : ℝ) : EReal) := by
  refine (zr_of (res_main_v601 (F := Ideal) V0) (res_main_v81 (F := Ideal) V0) (res_main_v58 (F := Ideal) V0) t q j).trans ?_
  rw [r4 h, is601 h t (chan q j), at81 h (chan q j)]
  simp only [← EReal.coe_mul, ← EReal.coe_sub, ← EReal.coe_one]
  congr 1
  unfold Dat.zr
  ring

end Cert.MixLruRefIdeal.Gates
-- ==== Proof.LruLoop.lean ====
/-
  The loop of the recurrence's backward call: it goes through the rows from the last to the first, eight rows at a time, folding each
  group by three rotations and joining it to the row carried from the group after it. What it leaves in the scratch array is the
  recurrence's solution.
-/
module

public import proofs.«01_k».proof.Proof.LruWin
public import Idealize.ShloMosaic.Lib.WritesUnit
public import Idealize.ShloMosaic.Lib.KernelVsHost

@[expose] public section

set_option maxRecDepth 16384

noncomputable section

open Idealize.ShloMosaic Idealize.ShloMosaic.TcCoe Idealize.ShloMosaic.Tactic Idealize.SL.Sem

namespace Cert.MixLruIdeal.Loop
open Cert.MixLruIdeal Cert.MixLruIdeal.Gen Cert.Conv Cert.Reals

/-- Eight rows moved up by a rotation, the rows that come round the end replaced by a constant. -/
def rot (q : BitVec 32) (v : IVec S8x256 32) (X : FVec Ideal S8x256 .f32) (z : BitVec 32) : FVec Ideal S8x256 .f32 :=
  select (cmpi .slt v (broadcast S8x256 q)) (dynamicRotate 0 q none X rotates_S8x256_d0) (broadcast S8x256 (Scalar.ofBits .f32 z))
def stA (q : BitVec 32) (v : IVec S8x256 32) (A : FVec Ideal S8x256 .f32) : FVec Ideal S8x256 .f32 := mulf A (rot q v A 0x3F800000#32)
def stB (q : BitVec 32) (v : IVec S8x256 32) (A B : FVec Ideal S8x256 .f32) : FVec Ideal S8x256 .f32 := addf (mulf A (rot q v B 0x00000000#32)) B
def A1 (v : IVec S8x256 32) (A : FVec Ideal S8x256 .f32) := stA 7#32 v A
def B1 (v : IVec S8x256 32) (A B : FVec Ideal S8x256 .f32) := stB 7#32 v A B
def A2 (v : IVec S8x256 32) (A : FVec Ideal S8x256 .f32) := stA 6#32 v (A1 v A)
def B2 (v : IVec S8x256 32) (A B : FVec Ideal S8x256 .f32) := stB 6#32 v (A1 v A) (B1 v A B)
def A3 (v : IVec S8x256 32) (A : FVec Ideal S8x256 .f32) := stA 4#32 v (A2 v A)
def B3 (v : IVec S8x256 32) (A B : FVec Ideal S8x256 .f32) := stB 4#32 v (A2 v A) (B2 v A B)
/-- Eight rows joined to the row after them. -/
def grp (v : IVec S8x256 32) (A B : FVec Ideal S8x256 .f32) (K : FVec Ideal S1x256 .f32) : FVec Ideal S8x256 .f32 :=
  addf (mulf (A3 v A) (broadcastTo S8x256 K broadcasts_S1x256_S8x256)) (B3 v A B)
/-- The first of eight rows. -/
def top (X : FVec Ideal S8x256 .f32) : FVec Ideal S1x256 .f32 := extractStridedSlice S1x256 ![0, 0] X slices_S8x256_o0_0_S1x256
def same (X : FVec Ideal S8x256 .f32) : FVec Ideal S8x256 .f32 := shapeCast S8x256 X shapeCasts_S8x256_S8x256

def Rows (v : IVec S8x256 32) : Prop := ∀ (i : Fin 8) (j : Fin 256), v (ix2 i j) = BitVec.ofNat 32 i.val

theorem rot_at (s : ℕ) (hs : s ≤ 8) (v : IVec S8x256 32) (hv : Rows v) (X : FVec Ideal S8x256 .f32) (z : BitVec 32) (i : Fin 8) (j : Fin 256)
    (hs1 : 1 ≤ s) :
    rot (BitVec.ofNat 32 (8 - s)) v X z (ix2 i j) = if h : i.val + s < 8 then X (ix2 ⟨i.val + s, h⟩ j) else Ideal.ofBits FTy.f32 z := by
  have e : rot (BitVec.ofNat 32 (8 - s)) v X z (ix2 i j)
      = Scalar.select (IntOp.cmpi .slt (v (ix2 i j)) (BitVec.ofNat 32 (8 - s)))
        (dynamicRotate 0 (BitVec.ofNat 32 (8 - s)) none X rotates_S8x256_d0 (ix2 i j)) (Ideal.ofBits FTy.f32 z) := rfl
  rw [e, hv i j, choose_slt (by omega) (by omega)]
  by_cases h : i.val + s < 8
  · rw [if_pos (by omega), dif_pos h]
    refine dynamicRotate_apply _ _ X _ _ (ix2 (⟨i.val + s, h⟩ : Fin 8) j) fun b => ?_
    fin_cases b
    · have e2 : (BitVec.ofNat 32 (8 - s)).toNat = 8 - s := by rw [BitVec.toNat_ofNat]; omega
      simp only [e2]
      show i.val + s = (i.val + 8 - (8 - s) % 8) % 8
      omega
    · rfl
  · rw [if_neg (by omega), dif_neg h]

/-- What a window of rows says of the recurrence: each row is given by the row `s` rows further, or by the row after the eight. -/
def Win (s : ℕ) (A B : FVec Ideal S8x256 .f32) (γ : ℕ → Fin 256 → ℝ) : Prop :=
  ∀ (i : Fin 8) (j : Fin 256), ∃ α β : ℝ, A (ix2 i j) = (α : EReal) ∧ B (ix2 i j) = (β : EReal) ∧ γ i.val j = β + α * γ (min (i.val + s) 8) j

theorem Win.step {s : ℕ} (hs1 : 1 ≤ s) (hs : s ≤ 8) {v : IVec S8x256 32} (hv : Rows v) {A B : FVec Ideal S8x256 .f32} {γ : ℕ → Fin 256 → ℝ}
    (h : Win s A B γ) : Win (2 * s) (stA (BitVec.ofNat 32 (8 - s)) v A) (stB (BitVec.ofNat 32 (8 - s)) v A B) γ := by
  intro i j
  obtain ⟨α, β, eA, eB, e⟩ := h i j
  have hA : stA (BitVec.ofNat 32 (8 - s)) v A (ix2 i j) = A (ix2 i j) * rot (BitVec.ofNat 32 (8 - s)) v A 0x3F800000#32 (ix2 i j) := rfl
  have hB : stB (BitVec.ofNat 32 (8 - s)) v A B (ix2 i j) = A (ix2 i j) * rot (BitVec.ofNat 32 (8 - s)) v B 0x00000000#32 (ix2 i j) + B (ix2 i j) := rfl
  rw [hA, hB, rot_at s hs v hv A _ i j hs1, rot_at s hs v hv B _ i j hs1]
  by_cases q : i.val + s < 8
  · obtain ⟨α', β', eA', eB', e'⟩ := h ⟨i.val + s, q⟩ j
    rw [dif_pos q, dif_pos q, eA, eB, eA', eB']
    refine ⟨α * α', α * β' + β, (EReal.coe_mul _ _).symm, by rw [← EReal.coe_mul, ← EReal.coe_add], ?_⟩
    rw [e, Nat.min_eq_left (by omega : i.val + s ≤ 8), e']
    have : i.val + s + s = i.val + 2 * s := by omega
    simp only [this]
    ring
  · rw [dif_neg q, dif_neg q, eA, eB, ofBits_one, Ideal.ofBits_zero]
    refine ⟨α, β, mul_one _, by rw [mul_zero, zero_add], ?_⟩
    rw [e, Nat.min_eq_right (by omega), Nat.min_eq_right (by omega)]

/-- The recurrence, from the last row to the first. -/
def Back (a b g : ℕ → Fin 256 → ℝ) : Prop := ∀ t j, g t j = b t j + a t j * g (t + 1) j

/-- Eight rows of a column sequence. -/
def At (X : FVec Ideal S8x256 .f32) (s : ℕ) (f : ℕ → Fin 256 → ℝ) : Prop := ∀ (i : Fin 8) (j : Fin 256), X (ix2 i j) = ((f (s + i.val) j : ℝ) : EReal)
def At1 (X : FVec Ideal S1x256 .f32) (s : ℕ) (f : ℕ → Fin 256 → ℝ) : Prop := ∀ j : Fin 256, X (ix2 0 j) = ((f s j : ℝ) : EReal)

theorem grp_at {a b g : ℕ → Fin 256 → ℝ} (hg : Back a b g) {v : IVec S8x256 32} (hv : Rows v) {A B : FVec Ideal S8x256 .f32}
    {K : FVec Ideal S1x256 .f32} {s : ℕ} (hA : At A s a) (hB : At B s b) (hK : At1 K (s + 8) g) : At (grp v A B K) s g := by
  have w1 : Win 1 A B fun i j => g (s + i) j := fun i j => ⟨_, _, hA i j, hB i j, by
    rw [Nat.min_eq_left (by omega : i.val + 1 ≤ 8)]; exact hg _ _⟩
  have w8 := ((w1.step le_rfl (by omega) hv).step (by omega) (by omega) hv).step (by omega) (by omega) hv
  intro i j
  obtain ⟨α, β, eA, eB, e⟩ := w8 i j
  have h : grp v A B K (ix2 i j) = A3 v A (ix2 i j) * broadcastTo S8x256 K broadcasts_S1x256_S8x256 (ix2 i j) + B3 v A B (ix2 i j) := rfl
  have hb : broadcastTo S8x256 K broadcasts_S1x256_S8x256 (ix2 i j) = K (ix2 0 j) := by pointwise
  have eA' : A3 v A (ix2 i j) = (α : EReal) := eA
  have eB' : B3 v A B (ix2 i j) = (β : EReal) := eB
  rw [Nat.min_eq_right (by omega : 8 ≤ i.val + 2 * (2 * (2 * 1)))] at e
  have e' : g (s + i.val) j = β + α * g (s + 8) j := e
  rw [h, hb, hK j, eA', eB', e', ← EReal.coe_mul, ← EReal.coe_add, add_comm]

theorem top_at {X : FVec Ideal S8x256 .f32} {s : ℕ} {g : ℕ → Fin 256 → ℝ} (h : At X s g) : At1 (top X) s g := fun j => by
  have e : top X (ix2 0 j) = X (ix2 0 j) := by pointwise [top]
  rw [e]; exact h 0 j
theorem same_at {X : FVec Ideal S8x256 .f32} {s : ℕ} {g : ℕ → Fin 256 → ℝ} (h : At X s g) : At (same X) s g := fun i j => by
  have e : same X (ix2 i j) = X (ix2 i j) := by pointwise [same]
  rw [e]; exact h i j

/-- The rows from `s` to `e` hold the recurrence's solution, the others what was there. -/
def Fill {M : Memref sig .tc .vmem S2048x256 .f32} (f : BufTy.Contents (Elt Ideal) M.view.ty) (g : ℕ → Fin 256 → ℝ)
    (L : List (View.Piece (Elt Ideal) S2048x256 .f32)) (s e : ℕ) : Prop :=
  ∀ (t : Fin 2048) (j : Fin 256), M.view.read (Elt Ideal) (M.view.writes (Elt Ideal) f L) (ix2 t j)
    = if s ≤ t.val ∧ t.val < e then ((g t.val j : ℝ) : EReal) else M.view.read (Elt Ideal) f (ix2 t j)

theorem Fill.nil {M : Memref sig .tc .vmem S2048x256 .f32} (f : BufTy.Contents (Elt Ideal) M.view.ty) (g : ℕ → Fin 256 → ℝ) (e : ℕ) :
    Fill f g [] e e := fun t j => by rw [if_neg (by omega)]; rfl

theorem Fill.cons {M : Memref sig .tc .vmem S2048x256 .f32} {f : BufTy.Contents (Elt Ideal) M.view.ty} {g : ℕ → Fin 256 → ℝ}
    {L : List (View.Piece (Elt Ideal) S2048x256 .f32)} {s s' e : ℕ} (h : Fill f g L s' e) (hs : s' = s + 8) (he : s' ≤ e)
    {off : Fin 2 → ℕ} (inb : ∀ a : Fin 2, off a + S8x256.size a ≤ S2048x256.size a) (hoff : off = ![s, 0])
    {X : FVec Ideal S8x256 .f32} (hX : At X s g) : Fill f g (⟨Rect.unit (s := S2048x256) off S8x256.size inb, X⟩ :: L) s e := by
  intro t j
  by_cases q : s ≤ t.val ∧ t.val < s + 8
  · rw [if_pos (by omega)]
    refine (View.read_writes_cons_rows_of_mem M.view f inb X L (ix2 t j) (ix2 (⟨t.val - s, by omega⟩ : Fin 8) j) hoff ?_ rfl).trans ?_
    · show t.val = s + (t.val - s); omega
    · refine (hX _ j).trans ?_
      have : s + (t.val - s) = t.val := by omega
      simp only [this]
  · refine (View.read_writes_cons_rows_of_not_mem M.view f inb X L (ix2 t j) hoff (W := 8) rfl ?_).trans ((h t j).trans ?_)
    · show t.val < s ∨ s + 8 ≤ t.val; omega
    · by_cases q' : s' ≤ t.val ∧ t.val < e
      · rw [if_pos q', if_pos (by omega)]
      · rw [if_neg q', if_neg (by omega)]

/-- Where a trip's groups lie. -/
theorem off_0 : ∀ n : Fin k0_t1_loop.trips, k0_off1 n 0#32 = ![(31 - n.val) * 64 + 0, 0] := by decide +kernel
theorem off_8 : ∀ n : Fin k0_t1_loop.trips, k0_off1 n 8#32 = ![(31 - n.val) * 64 + 8, 0] := by decide +kernel
theorem off_16 : ∀ n : Fin k0_t1_loop.trips, k0_off1 n 16#32 = ![(31 - n.val) * 64 + 16, 0] := by decide +kernel
theorem off_24 : ∀ n : Fin k0_t1_loop.trips, k0_off1 n 24#32 = ![(31 - n.val) * 64 + 24, 0] := by decide +kernel
theorem off_32 : ∀ n : Fin k0_t1_loop.trips, k0_off1 n 32#32 = ![(31 - n.val) * 64 + 32, 0] := by decide +kernel
theorem off_40 : ∀ n : Fin k0_t1_loop.trips, k0_off1 n 40#32 = ![(31 - n.val) * 64 + 40, 0] := by decide +kernel
theorem off_48 : ∀ n : Fin k0_t1_loop.trips, k0_off1 n 48#32 = ![(31 - n.val) * 64 + 48, 0] := by decide +kernel
theorem off_56 : ∀ n : Fin k0_t1_loop.trips, k0_off1 n 56#32 = ![(31 - n.val) * 64 + 56, 0] := by decide +kernel
theorem trips_lt (n : Fin k0_t1_loop.trips) : n.val < 32 := Nat.lt_of_lt_of_le n.isLt k0_t1_abs.2.1

theorem rd {M : Memref sig .tc .vmem S2048x256 .f32} (X : BufTy.Contents (Elt Ideal) M.view.ty) {off : Fin 2 → ℕ} {s : ℕ}
    (inb : ∀ a : Fin 2, off a + S8x256.size a ≤ S2048x256.size a) (hoff : off = ![s, 0]) (hs : s + 8 ≤ 2048) {f : ℕ → Fin 256 → ℝ}
    (h : ∀ (i : Fin 8) (j : Fin 256), M.view.read (Elt Ideal) X (ix2 (⟨s + i.val, by omega⟩ : Fin 2048) j) = ((f (s + i.val) j : ℝ) : EReal)) :
    At (View.readAt (Elt Ideal) M.view (Rect.unit (s := S2048x256) off S8x256.size inb).toLoadRect X) s f := by
  intro i j
  have e : (Rect.unit (s := S2048x256) off S8x256.size inb).toLoadRect.idx (ix2 i j : S8x256.Idx) = ix2 (⟨s + i.val, by omega⟩ : Fin 2048) j := by
    subst hoff
    funext a; refine Fin.ext ?_; fin_cases a <;> simp [Rect.emb, Rect.unit, LoadRect.idx, Rect.toLoadRect]
  exact (congrArg (fun q : S2048x256.Idx => M.view.read (Elt Ideal) X q) e).trans (h i j)

section trip
variable (c : Dev nD) (i : grid0.Coords) (arg1 : Memref sig .tc .vmem S2048x1024 .bf16) (harg1 : arg1.IsWhole) (arg2 : Memref sig .tc .vmem S256x1024 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .f32) (harg8 : arg8.IsWhole) (arg9 : Memref sig .tc .vmem S4x256 .f32) (harg9 : arg9.IsWhole) (arg10 : Memref sig .tc .vmem S1x256x256 .bf16) (harg10 : arg10.IsWhole) (arg11 : Memref sig .tc .vmem S1x256x256 .bf16) (harg11 : arg11.IsWhole) (arg12 : Memref sig .tc .vmem S1x256 .f32) (harg12 : arg12.IsWhole) (arg13 : Memref sig .tc .vmem S2x2048x256 .bf16) (harg13 : arg13.IsWhole) (arg14 : Memref sig .tc .vmem S256x1024 .bf16) (harg14 : arg14.IsWhole) (arg15 : Memref sig .tc .vmem S1x256x256 .f32) (harg15 : arg15.IsWhole) (arg16 : Memref sig .tc .vmem S1x256x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S4x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S2048x256 .f32) (harg22 : arg22.IsWhole) (arg23 : Memref sig .tc .vmem S2048x256 .f32) (harg23 : arg23.IsWhole) (v4 : FVec Ideal S2048x256 .f32) (v6 : FVec Ideal S2048x256 .f32) (v21 : FVec Ideal S2048x256 .f32) (v53 : FVec Ideal S2048x256 .f32) (v56 : FVec Ideal S2048x256 .f32) (v59 : FVec Ideal S2048x256 .f32) (v77 : FVec Ideal S1x256 .f32) (v82 : FVec Ideal S2048x256 .f32) (v115 : FVec Ideal S2048x256 .f32) (v121 : FVec Ideal S2048x256 .f32) (v129 : IVec S8x256 32) (X_arg22 : BufTy.Contents (Elt Ideal) arg22.view.ty)

theorem trip_eq (k : Fin k0_t1_loop.trips) (acc : FVec Ideal S1x256 .f32) (f : BufTy.Contents (Elt Ideal) arg23.view.ty) :
    let Y0 := grp v129 (View.readAt (Elt Ideal) arg22.view (Rect.unit (s := S2048x256) (k0_off1 k 56#32) S8x256.size (k0_off1_inb k 7)).toLoadRect X_arg22) (View.readAt (Elt Ideal) arg23.view (Rect.unit (s := S2048x256) (k0_off1 k 56#32) S8x256.size (k0_off1_inb k 7)).toLoadRect f) acc
    let Y1 := grp v129 (View.readAt (Elt Ideal) arg22.view (Rect.unit (s := S2048x256) (k0_off1 k 48#32) S8x256.size (k0_off1_inb k 6)).toLoadRect X_arg22) (View.readAt (Elt Ideal) arg23.view (Rect.unit (s := S2048x256) (k0_off1 k 48#32) S8x256.size (k0_off1_inb k 6)).toLoadRect f) (top Y0)
    let Y2 := grp v129 (View.readAt (Elt Ideal) arg22.view (Rect.unit (s := S2048x256) (k0_off1 k 40#32) S8x256.size (k0_off1_inb k 5)).toLoadRect X_arg22) (View.readAt (Elt Ideal) arg23.view (Rect.unit (s := S2048x256) (k0_off1 k 40#32) S8x256.size (k0_off1_inb k 5)).toLoadRect f) (top Y1)
    let Y3 := grp v129 (View.readAt (Elt Ideal) arg22.view (Rect.unit (s := S2048x256) (k0_off1 k 32#32) S8x256.size (k0_off1_inb k 4)).toLoadRect X_arg22) (View.readAt (Elt Ideal) arg23.view (Rect.unit (s := S2048x256) (k0_off1 k 32#32) S8x256.size (k0_off1_inb k 4)).toLoadRect f) (top Y2)
    let Y4 := grp v129 (View.readAt (Elt Ideal) arg22.view (Rect.unit (s := S2048x256) (k0_off1 k 24#32) S8x256.size (k0_off1_inb k 3)).toLoadRect X_arg22) (View.readAt (Elt Ideal) arg23.view (Rect.unit (s := S2048x256) (k0_off1 k 24#32) S8x256.size (k0_off1_inb k 3)).toLoadRect f) (top Y3)
    let Y5 := grp v129 (View.readAt (Elt Ideal) arg22.view (Rect.unit (s := S2048x256) (k0_off1 k 16#32) S8x256.size (k0_off1_inb k 2)).toLoadRect X_arg22) (View.readAt (Elt Ideal) arg23.view (Rect.unit (s := S2048x256) (k0_off1 k 16#32) S8x256.size (k0_off1_inb k 2)).toLoadRect f) (top Y4)
    let Y6 := grp v129 (View.readAt (Elt Ideal) arg22.view (Rect.unit (s := S2048x256) (k0_off1 k 8#32) S8x256.size (k0_off1_inb k 1)).toLoadRect X_arg22) (View.readAt (Elt Ideal) arg23.view (Rect.unit (s := S2048x256) (k0_off1 k 8#32) S8x256.size (k0_off1_inb k 1)).toLoadRect f) (top Y5)
    let Y7 := grp v129 (View.readAt (Elt Ideal) arg22.view (Rect.unit (s := S2048x256) (k0_off1 k 0#32) S8x256.size (k0_off1_inb k 0)).toLoadRect X_arg22) (View.readAt (Elt Ideal) arg23.view (Rect.unit (s := S2048x256) (k0_off1 k 0#32) S8x256.size (k0_off1_inb k 0)).toLoadRect f) (top Y6)
    tripR_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v4 v6 v21 v53 v56 v59 v77 v82 v115 v121 v129 X_arg22 k acc f = top Y7 ∧
    tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v4 v6 v21 v53 v56 v59 v77 v82 v115 v121 v129 X_arg22 k acc f = [⟨Rect.unit (s := S2048x256) (k0_off1 k 0#32) S8x256.size (k0_off1_inb k 0), same Y7⟩,
      ⟨Rect.unit (s := S2048x256) (k0_off1 k 8#32) S8x256.size (k0_off1_inb k 1), same Y6⟩,
      ⟨Rect.unit (s := S2048x256) (k0_off1 k 16#32) S8x256.size (k0_off1_inb k 2), same Y5⟩,
      ⟨Rect.unit (s := S2048x256) (k0_off1 k 24#32) S8x256.size (k0_off1_inb k 3), same Y4⟩,
      ⟨Rect.unit (s := S2048x256) (k0_off1 k 32#32) S8x256.size (k0_off1_inb k 4), same Y3⟩,
      ⟨Rect.unit (s := S2048x256) (k0_off1 k 40#32) S8x256.size (k0_off1_inb k 5), same Y2⟩,
      ⟨Rect.unit (s := S2048x256) (k0_off1 k 48#32) S8x256.size (k0_off1_inb k 6), same Y1⟩,
      ⟨Rect.unit (s := S2048x256) (k0_off1 k 56#32) S8x256.size (k0_off1_inb k 7), same Y0⟩] := by
  intro Y0 Y1 Y2 Y3 Y4 Y5 Y6 Y7
  unfold tripR_k0_t1 tripL_k0_t1 trip_k0_t1
  exact ⟨rfl, rfl⟩

/-- A trip takes the recurrence 64 rows further. -/
theorem trip_spec {a b g : ℕ → Fin 256 → ℝ} (hg : Back a b g) (hv : Rows v129)
    (hA : ∀ (t : Fin 2048) (j : Fin 256), arg22.view.read (Elt Ideal) X_arg22 (ix2 t j) = ((a t.val j : ℝ) : EReal))
    (k : Fin k0_t1_loop.trips) (acc : FVec Ideal S1x256 .f32) (f : BufTy.Contents (Elt Ideal) arg23.view.ty)
    (hB : ∀ (t : Fin 2048) (j : Fin 256), t.val < (31 - k.val) * 64 + 64 → arg23.view.read (Elt Ideal) f (ix2 t j) = ((b t.val j : ℝ) : EReal))
    (hK : At1 acc ((31 - k.val) * 64 + 64) g) :
    At1 (tripR_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v4 v6 v21 v53 v56 v59 v77 v82 v115 v121 v129 X_arg22 k acc f) ((31 - k.val) * 64) g ∧
    Fill f g (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v4 v6 v21 v53 v56 v59 v77 v82 v115 v121 v129 X_arg22 k acc f) ((31 - k.val) * 64) ((31 - k.val) * 64 + 64) := by
  have hk := trips_lt k
  obtain ⟨eR, eL⟩ := trip_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v4 v6 v21 v53 v56 v59 v77 v82 v115 v121 v129 X_arg22 k acc f
  rw [eR, eL]
  have hA0 := rd (M := arg22) X_arg22 (k0_off1_inb k 7) (off_56 k) (by omega) (f := a) fun i j => hA _ j
  have hB0 := rd (M := arg23) f (k0_off1_inb k 7) (off_56 k) (by omega) (f := b) fun i j => hB _ j (by show (31 - k.val) * 64 + 56 + i.val < _; omega)
  have h0 := grp_at hg hv hA0 hB0 hK
  have hA1 := rd (M := arg22) X_arg22 (k0_off1_inb k 6) (off_48 k) (by omega) (f := a) fun i j => hA _ j
  have hB1 := rd (M := arg23) f (k0_off1_inb k 6) (off_48 k) (by omega) (f := b) fun i j => hB _ j (by show (31 - k.val) * 64 + 48 + i.val < _; omega)
  have h1 := grp_at hg hv hA1 hB1 (top_at h0)
  have hA2 := rd (M := arg22) X_arg22 (k0_off1_inb k 5) (off_40 k) (by omega) (f := a) fun i j => hA _ j
  have hB2 := rd (M := arg23) f (k0_off1_inb k 5) (off_40 k) (by omega) (f := b) fun i j => hB _ j (by show (31 - k.val) * 64 + 40 + i.val < _; omega)
  have h2 := grp_at hg hv hA2 hB2 (top_at h1)
  have hA3 := rd (M := arg22) X_arg22 (k0_off1_inb k 4) (off_32 k) (by omega) (f := a) fun i j => hA _ j
  have hB3 := rd (M := arg23) f (k0_off1_inb k 4) (off_32 k) (by omega) (f := b) fun i j => hB _ j (by show (31 - k.val) * 64 + 32 + i.val < _; omega)
  have h3 := grp_at hg hv hA3 hB3 (top_at h2)
  have hA4 := rd (M := arg22) X_arg22 (k0_off1_inb k 3) (off_24 k) (by omega) (f := a) fun i j => hA _ j
  have hB4 := rd (M := arg23) f (k0_off1_inb k 3) (off_24 k) (by omega) (f := b) fun i j => hB _ j (by show (31 - k.val) * 64 + 24 + i.val < _; omega)
  have h4 := grp_at hg hv hA4 hB4 (top_at h3)
  have hA5 := rd (M := arg22) X_arg22 (k0_off1_inb k 2) (off_16 k) (by omega) (f := a) fun i j => hA _ j
  have hB5 := rd (M := arg23) f (k0_off1_inb k 2) (off_16 k) (by omega) (f := b) fun i j => hB _ j (by show (31 - k.val) * 64 + 16 + i.val < _; omega)
  have h5 := grp_at hg hv hA5 hB5 (top_at h4)
  have hA6 := rd (M := arg22) X_arg22 (k0_off1_inb k 1) (off_8 k) (by omega) (f := a) fun i j => hA _ j
  have hB6 := rd (M := arg23) f (k0_off1_inb k 1) (off_8 k) (by omega) (f := b) fun i j => hB _ j (by show (31 - k.val) * 64 + 8 + i.val < _; omega)
  have h6 := grp_at hg hv hA6 hB6 (top_at h5)
  have hA7 := rd (M := arg22) X_arg22 (k0_off1_inb k 0) (off_0 k) (by omega) (f := a) fun i j => hA _ j
  have hB7 := rd (M := arg23) f (k0_off1_inb k 0) (off_0 k) (by omega) (f := b) fun i j => hB _ j (by show (31 - k.val) * 64 + 0 + i.val < _; omega)
  have h7 := grp_at hg hv hA7 hB7 (top_at h6)
  refine ⟨top_at h7, ?_⟩
  have F0 := Fill.nil (M := arg23) f g ((31 - k.val) * 64 + 64)
  have F1 := F0.cons (s := (31 - k.val) * 64 + 56) (by omega) (by omega) (k0_off1_inb k 7) (off_56 k) (same_at h0)
  have F2 := F1.cons (s := (31 - k.val) * 64 + 48) (by omega) (by omega) (k0_off1_inb k 6) (off_48 k) (same_at h1)
  have F3 := F2.cons (s := (31 - k.val) * 64 + 40) (by omega) (by omega) (k0_off1_inb k 5) (off_40 k) (same_at h2)
  have F4 := F3.cons (s := (31 - k.val) * 64 + 32) (by omega) (by omega) (k0_off1_inb k 4) (off_32 k) (same_at h3)
  have F5 := F4.cons (s := (31 - k.val) * 64 + 24) (by omega) (by omega) (k0_off1_inb k 3) (off_24 k) (same_at h4)
  have F6 := F5.cons (s := (31 - k.val) * 64 + 16) (by omega) (by omega) (k0_off1_inb k 2) (off_16 k) (same_at h5)
  have F7 := F6.cons (s := (31 - k.val) * 64 + 8) (by omega) (by omega) (k0_off1_inb k 1) (off_8 k) (same_at h6)
  have F8 := F7.cons (s := (31 - k.val) * 64 + 0) (by omega) (by omega) (k0_off1_inb k 0) (off_0 k) (same_at h7)
  exact F8

abbrev st (G : BufTy.Contents (Elt Ideal) arg23.view.ty) (n : ℕ) := st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v4 v6 v21 v53 v56 v59 v77 v82 v115 v121 v129 X_arg22 G (k0_pay107 (F := Ideal)) n

/-- All trips together. -/
theorem st_spec {a b g : ℕ → Fin 256 → ℝ} (hg : Back a b g) (hv : Rows v129) (h0 : ∀ j, g 2048 j = 0)
    (hA : ∀ (t : Fin 2048) (j : Fin 256), arg22.view.read (Elt Ideal) X_arg22 (ix2 t j) = ((a t.val j : ℝ) : EReal))
    (G : BufTy.Contents (Elt Ideal) arg23.view.ty)
    (hB : ∀ (t : Fin 2048) (j : Fin 256), arg23.view.read (Elt Ideal) G (ix2 t j) = ((b t.val j : ℝ) : EReal)) (n : ℕ) (hn : n ≤ 32) :
    At1 (st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v4 v6 v21 v53 v56 v59 v77 v82 v115 v121 v129 X_arg22 G n).1 ((32 - n) * 64) g ∧ Fill (M := arg23) G g (st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v4 v6 v21 v53 v56 v59 v77 v82 v115 v121 v129 X_arg22 G n).2 ((32 - n) * 64) 2048 := by
  induction n with
  | zero =>
    unfold st
    rw [st_k0_t1_zero]
    exact ⟨fun j => by rw [show (32 - 0) * 64 = 2048 from rfl, h0]; exact Ideal.ofBits_zero .f32, Fill.nil (M := arg23) G g 2048⟩
  | succ n ih =>
    obtain ⟨i1, i2⟩ := ih (by omega)
    have ht : k0_t1_loop.trips = 32 := by decide +kernel
    have e := st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v4 v6 v21 v53 v56 v59 v77 v82 v115 v121 v129 X_arg22 G (k0_pay107 (F := Ideal)) ⟨n, by omega⟩
    have es : (31 - n) * 64 + 64 = (32 - n) * 64 := by omega
    have es' : (32 - (n + 1)) * 64 = (31 - n) * 64 := by omega
    obtain ⟨t1, t2⟩ := trip_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v4 v6 v21 v53 v56 v59 v77 v82 v115 v121 v129 X_arg22 hg hv hA ⟨n, by omega⟩ (st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v4 v6 v21 v53 v56 v59 v77 v82 v115 v121 v129 X_arg22 G n).1 (arg23.view.writes (Elt Ideal) G (st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v4 v6 v21 v53 v56 v59 v77 v82 v115 v121 v129 X_arg22 G n).2)
      (fun t j ht => by
        refine (i2 t j).trans ?_
        have ht' : t.val < (31 - n) * 64 + 64 := ht
        rw [if_neg (by omega)]; exact hB t j)
      (by show At1 _ ((31 - n) * 64 + 64) g; rw [es]; exact i1)
    unfold st
    rw [e, es']
    refine ⟨t1, fun t j => ?_⟩
    rw [View.writes_append]
    refine (t2 t j).trans ?_
    have hh : ((⟨n, by omega⟩ : Fin k0_t1_loop.trips) : ℕ) = n := rfl
    rw [hh]
    by_cases q : (31 - n) * 64 ≤ t.val ∧ t.val < (31 - n) * 64 + 64
    · rw [if_pos q, if_pos ⟨q.1, t.isLt⟩]
    · rw [if_neg q]
      refine (i2 t j).trans ?_
      by_cases q' : (32 - n) * 64 ≤ t.val ∧ t.val < 2048
      · rw [if_pos q', if_pos (by omega)]
      · rw [if_neg q', if_neg (by omega)]

/-- What the loop leaves. -/
theorem st_all {a b g : ℕ → Fin 256 → ℝ} (hg : Back a b g) (hv : Rows v129) (h0 : ∀ j, g 2048 j = 0)
    (hA : ∀ (t : Fin 2048) (j : Fin 256), arg22.view.read (Elt Ideal) X_arg22 (ix2 t j) = ((a t.val j : ℝ) : EReal))
    (G : BufTy.Contents (Elt Ideal) arg23.view.ty)
    (hB : ∀ (t : Fin 2048) (j : Fin 256), arg23.view.read (Elt Ideal) G (ix2 t j) = ((b t.val j : ℝ) : EReal)) (t : Fin 2048) (j : Fin 256) :
    arg23.view.read (Elt Ideal) (arg23.view.writes (Elt Ideal) G (st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v4 v6 v21 v53 v56 v59 v77 v82 v115 v121 v129 X_arg22 G 32).2) (ix2 t j) = ((g t.val j : ℝ) : EReal) := by
  refine ((st_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v4 v6 v21 v53 v56 v59 v77 v82 v115 v121 v129 X_arg22 hg hv h0 hA G hB 32 le_rfl).2 t j).trans ?_
  exact if_pos ⟨by omega, t.isLt⟩
end trip

end Cert.MixLruIdeal.Loop
-- ==== Proof.LruPay.lean ====
/- What the kernel computes from the gates' values, at one row and one column. -/
module

public import proofs.«01_k».proof.Proof.LruVals
public import proofs.«01_k».proof.Proof.LruLoop

@[expose] public section

set_option maxRecDepth 16384

noncomputable section

open Idealize.ShloMosaic Idealize.ShloMosaic.TcCoe Idealize.ShloMosaic.Tactic Idealize.SL.Sem

namespace Cert.MixLruIdeal.Pay
open Cert.MixLruIdeal Cert.MixLruIdeal.Gen Cert.Scan Cert.Reals Cert.Gates Cert.Conv
open Cert.MixLruRefIdeal.Gates (bits8 coe_max first_row)

/-- A block holds some columns of a sequence. -/
def Ib (κ : Fin 256 → Fin 1024) (X : FVec Ideal S2048x256 .f32) (f : Seq) : Prop := ∀ (r : Fin 2048) (j : Fin 256), X (ix2 r j) = ((f r.val (κ j) : ℝ) : EReal)

theorem log_sig (x : ℝ) (v : FVec Ideal S1x256 .f32) (j : Fin 256) (hv : v (ix2 0 j) = (x : EReal)) : k0_pay100 (F := Ideal) v (ix2 0 j) = ((lsig x : ℝ) : EReal) := by
  have e : k0_pay100 (F := Ideal) v (ix2 0 j) = (fun E : EReal => min (v (ix2 0 j)) (Ideal.ofBits .f32 0x00000000#32)
      - Scalar.select (Ideal.cmp .oeq (Ideal.ofBits .f32 0x3F800000#32 + E) (Ideal.ofBits .f32 0x3F800000#32)) E
        (Ideal.div (Ideal.log (Ideal.ofBits .f32 0x3F800000#32 + E) * E) (Ideal.ofBits .f32 0x3F800000#32 + E - Ideal.ofBits .f32 0x3F800000#32)))
      (Ideal.exp (Ideal.ofBits .f32 0x00000000#32 - max (v (ix2 0 j)) (-(v (ix2 0 j))))) := rfl
  have e2 : max (x : EReal) (-(x : EReal)) = ((|x| : ℝ) : EReal) := by
    rw [← EReal.coe_neg, ← coe_max]; rfl
  have hp := Real.exp_pos (0 - |x|)
  rw [e, hv, e2, Ideal.ofBits_zero, ofBits_one, ← EReal.coe_zero, ← EReal.coe_sub, Ideal.exp_coe]
  simp only [← EReal.coe_add, ← EReal.coe_sub]
  rw [Ideal.log_coe, if_neg (by linarith), ← EReal.coe_mul, div_coe_coe (by linarith)]
  have c0 : Ideal.cmp .oeq (((1 + Real.exp (0 - |x|) : ℝ)) : EReal) ((1 : ℝ) : EReal) = 0#1 := by
    have : ¬ (((1 + Real.exp (0 - |x|) : ℝ)) : EReal) = ((1 : ℝ) : EReal) := fun h => by have := EReal.coe_eq_coe_iff.mp h; linarith
    simp only [Ideal.cmp, this]
    simp
  rw [c0]
  have s0 : ∀ a b : EReal, Scalar.select (0#1) a b = b := fun a b => rfl
  have m0 : min (x : EReal) ((0 : ℝ) : EReal) = ((min x 0 : ℝ) : EReal) := (EReal.coe_strictMono.monotone.map_min).symm
  rw [s0, m0, ← EReal.coe_sub]
  congr 1
  unfold lsig
  rw [zero_sub]
  have hp' := (Real.exp_pos (-|x|)).ne'
  field_simp
  ring

section
variable {κ : Fin 256 → Fin 1024} {D : Dat} (ok : D.Ok) {R I X : FVec Ideal S2048x256 .f32} {L : FVec Ideal S1x256 .f32}
  (hR : Ib κ R D.r) (hI : Ib κ I D.i) (hX : Ib κ X D.xl) (hL : ∀ j : Fin 256, L (ix2 0 j) = ((lsig (D.lam (κ j)) : ℝ) : EReal))
include hR hL

theorem pay_la : Ib κ (k0_pay101 (F := Ideal) R L) D.la := fun r j => by
  pointwise [k0_pay101, hR r j, hL j, bits8]
  rw [← EReal.coe_mul, ← EReal.coe_mul]
  rfl
theorem pay_a : Ib κ (k0_pay102 (F := Ideal) R L) D.A := fun r j => by
  have e : k0_pay102 (F := Ideal) R L (ix2 r j) = Ideal.exp (k0_pay101 (F := Ideal) R L (ix2 r j)) := rfl
  rw [e, pay_la hR hL r j, Ideal.exp_coe]
  rfl

/-- The factors moved one row up, zero at the last row. -/
def A' (D : Dat) : Seq := fun t c => if t + 1 < 2048 then D.A (t + 1) c else 0
theorem pay_a' : Ib κ (k0_pay104 (F := Ideal) R L) (A' D) := fun r j => by
  have e : k0_pay104 (F := Ideal) R L (ix2 r j)
      = Scalar.select (IntOp.cmpi .slt (BitVec.ofNat 32 r.val) (BitVec.ofNat 32 (2048 - 1)))
        (dynamicRotate 0 2047#32 none (k0_pay102 (F := Ideal) R L) rotates_S2048x256_d0 (ix2 r j)) (Ideal.ofBits FTy.f32 0x00000000#32) := by
    pointwise [k0_pay104]
  rw [e, choose_slt (by omega) (by omega)]
  unfold A'
  by_cases h : r.val + 1 < 2048
  · rw [if_pos (by omega), if_pos h]
    refine (dynamicRotate_apply _ _ (k0_pay102 (F := Ideal) R L) _ _ (ix2 (⟨r.val + 1, h⟩ : Fin 2048) j) fun b => ?_).trans (pay_a hR hL ⟨r.val + 1, h⟩ j)
    fin_cases b
    · show r.val + 1 = (r.val + 2048 - 2047 % 2048) % 2048
      omega
    · rfl
  · rw [if_neg (by omega), if_neg h]
    exact Ideal.ofBits_zero .f32

/-- The bound under which the series isn't used. -/
def cut : ℝ := -(13421773 / 67108864)
omit hR hL in
theorem ofBits_cut : Ideal.ofBits .f32 0xBE4CCCCD#32 = ((cut : ℝ) : EReal) := by
  unfold cut
  simp [Ideal.ofBits, Ideal.ieee, -EReal.coe_mul]; norm_num
include ok in
theorem pay_m (hc : ∀ t, 1 ≤ t → t < 2048 → ∀ c, 2 * D.la t c ≤ cut) : Ib κ (k0_pay103 (F := Ideal) R L) D.M := fun r j => by
  have e : ∃ S : EReal, k0_pay103 (F := Ideal) R L (ix2 r j) = Scalar.select (IntOp.cmpi .eq (BitVec.ofNat 32 r.val) 0#32) (Ideal.ofBits .f32 0x3F800000#32)
      (Ideal.sqrt (Scalar.select (Ideal.cmp .ogt (Ideal.ofBits .f32 0x40000000#32 * k0_pay101 (F := Ideal) R L (ix2 r j)) (Ideal.ofBits .f32 0xBE4CCCCD#32)) S
        (Ideal.ofBits .f32 0x3F800000#32 - Ideal.exp (Ideal.ofBits .f32 0x40000000#32 * k0_pay101 (F := Ideal) R L (ix2 r j))))) := by
    refine ⟨?_, ?_⟩
    rotate_left
    · pointwise [k0_pay103]
      rfl
  obtain ⟨S, e⟩ := e
  rw [e, first_row (by omega)]
  unfold Dat.M
  by_cases h0 : r.val = 0
  · rw [if_pos h0, if_pos h0]; exact ofBits_one
  · rw [if_neg h0, if_neg h0, pay_la hR hL r j, ofBits_two, ofBits_cut, ofBits_one, ← EReal.coe_mul]
    have hl := D.exp_lt ok r.val r.isLt (κ j)
    have hcut := hc r.val (by omega) r.isLt (κ j)
    have c0 : Ideal.cmp .ogt ((2 * D.la r.val (κ j) : ℝ) : EReal) ((cut : ℝ) : EReal) = 0#1 := by
      have : ¬ ((cut : ℝ) : EReal) < ((2 * D.la r.val (κ j) : ℝ) : EReal) := not_lt.mpr (EReal.coe_le_coe_iff.mpr hcut)
      simp only [Ideal.cmp, this]
      simp
    have s0 : ∀ a b : EReal, Scalar.select (0#1) a b = b := fun a b => rfl
    rw [c0, s0, Ideal.exp_coe, ← EReal.coe_sub, Ideal.sqrt_coe, if_neg (by linarith)]
    rfl
end

section
variable {κ : Fin 256 → Fin 1024} {D : Dat} (ok : D.Ok) {R I X A M V W Z Y : FVec Ideal S2048x256 .f32} {L : FVec Ideal S1x256 .f32}
  (hR : Ib κ R D.r) (hI : Ib κ I D.i) (hX : Ib κ X D.xl) (hL : ∀ j : Fin 256, L (ix2 0 j) = ((lsig (D.lam (κ j)) : ℝ) : EReal))
  (hA : Ib κ A D.A) (hM : Ib κ M D.M) (hV : Ib κ V D.g) (hW : Ib κ W D.h)

include hX hM hV in
theorem pay_gx : Ib κ (k0_pay112 (F := Ideal) X M V) (fun t c => D.g t c * D.M t c * D.xl t c) := fun r j => by
  pointwise [k0_pay112, hX r j, hM r j, hV r j]
  rw [← EReal.coe_mul, ← EReal.coe_mul]
include hI hM hV in
theorem pay_dx : Ib κ (k0_pay113 (F := Ideal) I M V) D.dx := fun r j => by
  pointwise [k0_pay113, hI r j, hM r j, hV r j]
  rw [← EReal.coe_mul, ← EReal.coe_mul]
  rfl
include ok hI hX hA hM hV hW in
theorem pay_dla : Ib κ (k0_pay114 (F := Ideal) W I X A M V) D.dla := fun r j => by
  have e : k0_pay114 (F := Ideal) W I X A M V (ix2 r j)
      = V (ix2 r j) * Scalar.select (IntOp.cmpi .sge (BitVec.ofNat 32 r.val) (BitVec.ofNat 32 1)) (dynamicRotate 0 1#32 none W rotates_S2048x256_d0 (ix2 r j)) (Ideal.ofBits FTy.f32 0x00000000#32) * A (ix2 r j)
        - Scalar.select (IntOp.cmpi .eq (BitVec.ofNat 32 r.val) 0#32) (Ideal.ofBits FTy.f32 0x00000000#32) (Ideal.div (V (ix2 r j) * I (ix2 r j) * X (ix2 r j) * A (ix2 r j) * A (ix2 r j)) (M (ix2 r j))) := by
    pointwise [k0_pay114]
  have e1 : Scalar.select (IntOp.cmpi .sge (BitVec.ofNat 32 r.val) (BitVec.ofNat 32 1)) (dynamicRotate 0 1#32 none W rotates_S2048x256_d0 (ix2 r j)) (Ideal.ofBits FTy.f32 0x00000000#32) = ((prev D.h r.val (κ j) : ℝ) : EReal) := by
    unfold Scalar.select prev
    have e := WordCmp.cmpi_sge_ofNat_eq_one_iff (w := 32) (a := r.val) (b := 1) (by omega) (by omega)
    by_cases h0 : r.val = 0
    · rw [if_pos h0]
      refine Eq.trans (if_neg fun h' => ?_) (Ideal.ofBits_zero .f32)
      have := e.mp h'; omega
    · rw [if_neg h0]
      refine Eq.trans (if_pos (e.mpr (by omega))) ?_
      refine (dynamicRotate_apply _ _ W _ _ (ix2 (⟨r.val - 1, by omega⟩ : Fin 2048) j) fun b => ?_).trans (hW ⟨r.val - 1, by omega⟩ j)
      fin_cases b
      · show r.val - 1 = (r.val + 2048 - 1 % 2048) % 2048
        omega
      · rfl
  have hm := D.M_pos ok r.val r.isLt (κ j)
  rw [e, e1, first_row (by omega), hV r j, hA r j, hI r j, hX r j, hM r j, Ideal.ofBits_zero]
  simp only [← EReal.coe_mul]
  rw [div_coe_coe hm.ne']
  unfold Dat.dla
  split_ifs
  · rw [← EReal.coe_zero, ← EReal.coe_sub]
  · rw [← EReal.coe_sub]
include ok hI hX hA hM hV hW hL in
theorem pay_dlr : Ib κ (k0_pay115 (F := Ideal) W I X L A M V) (fun t c => D.dla t c * (8 * lsig (D.lam c))) := fun r j => by
  pointwise [k0_pay115, pay_dla ok hI hX hA hM hV hW r j, hL j, bits8]
  rw [← EReal.coe_mul, ← EReal.coe_mul]
include ok hI hX hA hM hV hW hR in
theorem pay_dll : Ib κ (k0_pay116 (F := Ideal) W R I X A M V) (fun t c => D.dla t c * D.r t c) := fun r j => by
  pointwise [k0_pay116, pay_dla ok hI hX hA hM hV hW r j, hR r j]
  rw [← EReal.coe_mul]
include hR in
theorem pay_zr (hZ : Ib κ Z (fun t c => D.dla t c * (8 * lsig (D.lam c)))) : Ib κ (k0_pay118 (F := Ideal) R Z) D.zr := fun r j => by
  pointwise [k0_pay118, hR r j, hZ r j]
  rw [← EReal.coe_one]
  simp only [← EReal.coe_mul, ← EReal.coe_sub]
  rfl
include hI in
theorem pay_zi (hY : Ib κ Y (fun t c => D.g t c * D.M t c * D.xl t c)) : Ib κ (k0_pay119 (F := Ideal) I Y) D.zi := fun r j => by
  pointwise [k0_pay119, hI r j, hY r j]
  rw [← EReal.coe_one]
  simp only [← EReal.coe_mul, ← EReal.coe_sub]
  rfl
theorem pay_sum (U : FVec Ideal S2048x256 .f32) (j : Fin 256) :
    (shapeCast S1x256 (multiReduction (F := Ideal) .add [0] S256 U 0x00000000#32 reduces_S2048x256_S256 (.inl rfl) rfl) shapeCasts_S256_S1x256 : FVec Ideal S1x256 .f32) (ix2 0 j) = ∑ r : Fin 2048, U (ix2 r j) := by
  pointwise
/-- The gradients of the gates' biases. -/
theorem pay_dba (j : Fin 256) : k0_pay120 (F := Ideal) R Z (ix2 0 j) = ∑ r : Fin 2048, k0_pay118 (F := Ideal) R Z (ix2 r j) := pay_sum _ j
theorem pay_dbx (j : Fin 256) : k0_pay121 (F := Ideal) I Y (ix2 0 j) = ∑ r : Fin 2048, k0_pay119 (F := Ideal) I Y (ix2 r j) := pay_sum _ j
theorem pay_dbl (U : FVec Ideal S2048x256 .f32) (j : Fin 256) : k0_pay135 (F := Ideal) U (ix2 0 j) = ∑ r : Fin 2048, U (ix2 r j) := pay_sum _ j
/-- The gradients of the gates' weights. -/
theorem pay_dwa (B : FVec Ideal S2048x256 .bf16) (i j : Fin 256) : k0_pay124 (F := Ideal) R B Z (ix3 0 i j) = ∑ r : Fin 2048, B (ix2 r i) * k0_pay118 (F := Ideal) R Z (ix2 r j) := by
  pointwise [k0_pay124, k0_pay122]
theorem pay_dwx (B : FVec Ideal S2048x256 .bf16) (i j : Fin 256) : k0_pay126 (F := Ideal) (k0_pay125 (F := Ideal) I B Y) (ix3 0 i j) = ∑ r : Fin 2048, B (ix2 r i) * k0_pay119 (F := Ideal) I Y (ix2 r j) := by
  pointwise [k0_pay126, k0_pay125, k0_pay123]
/-- What reaches the branch's input. -/
theorem pay_dxl (U : FVec Ideal S2048x256 .f32) (P Q : FVec Ideal S2048x256 .bf16) (wa wx : FVec Ideal S1x256x256 .bf16) (r : Fin 2048) (j : Fin 256) :
    k0_pay127 (F := Ideal) U P Q wa wx (ix2 r j) = U (ix2 r j) + (∑ k : Fin 256, P (ix2 r k) * wa (ix3 0 j k)) + ∑ k : Fin 256, Q (ix2 r k) * wx (ix3 0 j k) := by
  pointwise [k0_pay127]
end

/-- The gradient of the parameter. -/
theorem pay_dlam (v : FVec Ideal S1x256 .f32) (U : FVec Ideal S2048x256 .f32) (j : Fin 256) (x : ℝ) (hv : v (ix2 0 j) = (x : EReal)) (f : Fin 2048 → ℝ) (hU : ∀ r, U (ix2 r j) = ((f r : ℝ) : EReal)) :
    k0_pay117 (F := Ideal) v U (ix2 0 j) = (((∑ r, f r) * (8 * (1 - 1 / (1 + Real.exp (-x)))) : ℝ) : EReal) := by
  have e : k0_pay117 (F := Ideal) v U (ix2 0 j) = (∑ r : Fin 2048, U (ix2 r j)) * (Ideal.ofBits .f32 0x41000000#32 * (Ideal.ofBits .f32 0x3F800000#32 - Ideal.div (Ideal.ofBits .f32 0x3F800000#32)
      (Ideal.ofBits .f32 0x3F800000#32 + Ideal.exp (Ideal.ofBits .f32 0x00000000#32 - v (ix2 0 j))))) :=
    congrArg (fun z : EReal => z * (Ideal.ofBits .f32 0x41000000#32 * (Ideal.ofBits .f32 0x3F800000#32 - Ideal.div (Ideal.ofBits .f32 0x3F800000#32)
      (Ideal.ofBits .f32 0x3F800000#32 + Ideal.exp (Ideal.ofBits .f32 0x00000000#32 - v (ix2 0 j)))))) (pay_sum U j)
  have hp := Real.exp_pos (-x)
  rw [e, Finset.sum_congr rfl fun r _ => hU r, ← coe_sum, hv, Ideal.ofBits_zero, ofBits_one, bits8, ← EReal.coe_zero, ← EReal.coe_sub, zero_sub, Ideal.exp_coe, ← EReal.coe_add, div_coe_coe (by linarith), ← EReal.coe_sub, ← EReal.coe_mul, ← EReal.coe_mul]

/-! ### The convolution's gradients -/

section
variable (U : FVec Ideal S2048x256 .f32) (P Q : FVec Ideal S2048x256 .bf16) (wa wx : FVec Ideal S1x256x256 .bf16)
theorem pay_up1 (r : Fin 2048) (j : Fin 256) : k0_pay128 (F := Ideal) U P Q wa wx (ix2 r j) = up 1 (fun r => k0_pay127 (F := Ideal) U P Q wa wx (ix2 r j)) r := by
  pointwise [k0_pay128]
  exact choose_up 1 (by norm_num) (by norm_num) (fun r => k0_pay127 (F := Ideal) U P Q wa wx (ix2 r j)) r _ fun h => by simp only; omega
theorem pay_up2 (r : Fin 2048) (j : Fin 256) : k0_pay129 (F := Ideal) U P Q wa wx (ix2 r j) = up 2 (fun r => k0_pay127 (F := Ideal) U P Q wa wx (ix2 r j)) r := by
  pointwise [k0_pay129]
  exact choose_up 2 (by norm_num) (by norm_num) (fun r => k0_pay127 (F := Ideal) U P Q wa wx (ix2 r j)) r _ fun h => by simp only; omega
theorem pay_up3 (r : Fin 2048) (j : Fin 256) : k0_pay130 (F := Ideal) U P Q wa wx (ix2 r j) = up 3 (fun r => k0_pay127 (F := Ideal) U P Q wa wx (ix2 r j)) r := by
  pointwise [k0_pay130]
  exact choose_up 3 (by norm_num) (by norm_num) (fun r => k0_pay127 (F := Ideal) U P Q wa wx (ix2 r j)) r _ fun h => by simp only; omega
theorem pay_dl (T1 T2 T3 : FVec Ideal S2048x256 .f32) (w3 w2 w1 w0 : FVec Ideal S1x256 .f32) (r : Fin 2048) (j : Fin 256) :
    k0_pay133 (F := Ideal) T1 T2 T3 (k0_pay131 (F := Ideal) U P Q wa wx w3) (k0_pay132 (F := Ideal) w2) w1 w0 (ix3 0 r j)
      = w3 (ix2 0 j) * k0_pay127 (F := Ideal) U P Q wa wx (ix2 r j) + w2 (ix2 0 j) * T1 (ix2 r j) + w1 (ix2 0 j) * T2 (ix2 r j) + w0 (ix2 0 j) * T3 (ix2 r j) := by
  pointwise [k0_pay133, k0_pay131, k0_pay132]
theorem pay_dwl (T0 T1 T2 T3 Y : FVec Ideal S2048x256 .f32) (j : Fin 256) :
    k0_pay134 (F := Ideal) T0 T1 T2 T3 Y (ix2 0 j) = (∑ r : Fin 2048, T3 (ix2 r j) * Y (ix2 r j)) ∧ k0_pay134 (F := Ideal) T0 T1 T2 T3 Y (ix2 1 j) = (∑ r : Fin 2048, T2 (ix2 r j) * Y (ix2 r j))
      ∧ k0_pay134 (F := Ideal) T0 T1 T2 T3 Y (ix2 2 j) = (∑ r : Fin 2048, T1 (ix2 r j) * Y (ix2 r j)) ∧ k0_pay134 (F := Ideal) T0 T1 T2 T3 Y (ix2 3 j) = (∑ r : Fin 2048, T0 (ix2 r j) * Y (ix2 r j)) := by
  refine ⟨?_, ?_, ?_, ?_⟩ <;> pointwise [k0_pay134]
end

end Cert.MixLruIdeal.Pay
-- ==== Proof.LruBlk.lean ====
/-
  The blocks of the recurrence's backward call as columns of the reference's sequences: the gates, the branch's input, the
  states and what reaches them, as each grid point finds them.
-/
module

public import proofs.«01_k».proof.Proof.LruWin
public import proofs.«01_k».proof.Proof.LruPay
public import proofs.«01_k».proof.Proof.LruLoop

@[expose] public section

set_option maxRecDepth 16384

noncomputable section

open Idealize.ShloMosaic Idealize.ShloMosaic.TcCoe Idealize.ShloMosaic.Tactic Idealize.SL.Sem

namespace Cert.MixLruIdeal.Value
open Cert.MixLruIdeal Cert.MixLruIdeal.Gen Cert.MixLruRefIdeal.Value Cert.MixLruRefIdeal.Gates Cert.Gates Cert.MixLruIdeal.Pay Cert.Reals Cert.Scan

theorem idx' : ∀ t : Fin cfg0.N, win0_2.index t = ![0, 12 + t.val] ∧ win0_8.index t = ![0, t.val] ∧ win0_9.index t = ![t.val, 0, 0]
    ∧ win0_10.index t = ![t.val, 0, 0] ∧ win0_12.index t = ![0, 0, t.val] ∧ win0_14.index t = ![t.val, 0, 0] ∧ win0_16.index t = ![0, t.val]
    ∧ win0_18.index t = ![0, t.val] ∧ win0_19.index t = ![0, t.val] ∧ win0_20.index t = ![0, t.val] :=
  (by decide +kernel : ∀ t : Fin grid0.N, _)

variable (m : (ℓ : Loc nD τ sig) → Buf (Elt Ideal) ℓ) (c : Dev nD)

/-- A head is a grid point. -/
abbrev head (t : Fin cfg0.N) : Fin 4 := ⟨t.val, lt_of_lt_of_eq t.isLt N_0⟩

theorem emb_lx (t : Fin cfg0.N) (r : Fin 2048) (j : Fin 256) (q : Fin 7168) (hq : q.val = 3072 + (t.val * 256 + j.val)) :
    ((View.whole (Pipeline.arrRef spec0 2)).slice (win0_2.rect t)).emb (ix2 r j : S2048x256.Idx) = (ix2 r q : S2048x7168.Idx) := by
  blk_ext [idx' t]
theorem read_lx (G : (b : Ref sig .tc) → Buf (Elt Ideal) ((c.tc : Thread nD τ).loc b)) (t : Fin cfg0.N) (r : Fin 2048) (j : Fin 256) (q : Fin 7168) (hq : q.val = 3072 + (t.val * 256 + j.val)) :
    (show FVec Ideal S2048x256 .f32 from ((cfg0.win 2).blk t).view.read (Elt Ideal) (G (Pipeline.arrRef spec0 2))) (ix2 r j) = G main_v270 (ix2 r q) :=
  congrArg (fun x : S2048x7168.Idx => G main_v270 x) (emb_lx t r j q hq)
theorem emb_cw (t : Fin cfg0.N) (a : Fin 4) (j : Fin 256) :
    ((View.whole (Pipeline.arrRef spec0 8)).slice (win0_8.rect t)).emb (ix2 a j : S4x256.Idx) = (ix2 a (col t j) : S4x1024.Idx) := by
  blk_ext [idx' t]
theorem read_cw (G : (b : Ref sig .tc) → Buf (Elt Ideal) ((c.tc : Thread nD τ).loc b)) (t : Fin cfg0.N) (a : Fin 4) (j : Fin 256) :
    (show FVec Ideal S4x256 .f32 from ((cfg0.win 8).blk t).view.read (Elt Ideal) (G (Pipeline.arrRef spec0 8))) (ix2 a j) = G main_v278 (ix2 a (col t j)) :=
  congrArg (fun x : S4x1024.Idx => G main_v278 x) (emb_cw t a j)
theorem emb_lam (t : Fin cfg0.N) (j : Fin 256) :
    ((View.whole (Pipeline.arrRef spec0 11)).slice (win0_11.rect t)).emb (ix2 0 j : S1x256.Idx) = (ix2 0 (col t j) : S1x1024.Idx) := by
  blk_ext [idx t]
theorem read_lam (G : (b : Ref sig .tc) → Buf (Elt Ideal) ((c.tc : Thread nD τ).loc b)) (t : Fin cfg0.N) (j : Fin 256) :
    (show FVec Ideal S1x256 .f32 from ((cfg0.win 11).blk t).view.read (Elt Ideal) (G (Pipeline.arrRef spec0 11))) (ix2 0 j) = G main_arg7 (ix2 0 (col t j)) :=
  congrArg (fun x : S1x1024.Idx => G main_arg7 x) (emb_lam t j)

section
variable {m c} {V0 : Valuation Cert.MixLruRefIdeal.τ Cert.MixLruRefIdeal.sig (Elt Ideal)}
  {P0 : FVec Ideal S1x2048x7168 .f32} {P1 : FVec Ideal S1x4x1024 .f32} {P2 : FVec Ideal S1x1024 .f32} {P3 : FVec Ideal S1x4x256x256 .f32} {P4 : FVec Ideal S1x4x256 .f32} {P5 : FVec Ideal S1x4x256x256 .f32} {P6 : FVec Ideal S1x4x256 .f32} {P7 : FVec Ideal S1x1024 .f32} {P8 : FVec Ideal S1x1024x1024 .f32} {P9 : FVec Ideal S1x2048x1024 .f32}
  (h : Held m c P0 P1 P2 P3 P4 P5 P6 P7 P8 P9) (k : HeldRef V0 P0 P1 P2 P3 P4 P5 P6 P7 P8 P9)
include h k

theorem V_i (X : FVec Ideal S1x2048x1024 .f32) (hX : res_main_v77 (F := Ideal) V0 = X) :
    V m c main_v276 = truncf (F := Ideal) .bf16 (shapeCast S2048x1024 X shapeCasts_S1x2048x1024_S2048x1024) bitsLt_bf16_f32 := by
  rw [line1 m c 314 (y := main_v276) rfl (by decide) (by decide), lineR m c 313 (y := main_v275) rfl (by decide) (by decide), k_v70 h k X hX]
  rfl
theorem V_cw : V m c main_v278 = shapeCast S4x1024 P1 shapeCasts_S1x4x1024_S4x1024 := by
  rw [lineR m c 316 (y := main_v278) rfl (by decide) (by decide), k_arg1 h k P1 k.2.1]
  rfl
theorem V_wa : V m c main_v280 = truncf .bf16 (shapeCast S4x256x256 P3 shapeCasts_S1x4x256x256_S4x256x256) bitsLt_bf16_f32 := by
  rw [line1 m c 318 (y := main_v280) rfl (by decide) (by decide), lineR m c 317 (y := main_v279) rfl (by decide) (by decide), k_arg3 h k P3 k.2.2.2.1]
  rfl
theorem V_wx : V m c main_v282 = truncf .bf16 (shapeCast S4x256x256 P5 shapeCasts_S1x4x256x256_S4x256x256) bitsLt_bf16_f32 := by
  rw [line1 m c 320 (y := main_v282) rfl (by decide) (by decide), lineR m c 319 (y := main_v281) rfl (by decide) (by decide), k_arg5 h k P5 k.2.2.2.2.2.1]
  rfl
theorem V_cw_at (a : Fin 4) (q : Fin 1024) : V m c main_v278 (ix2 a q) = P1 (ix3 0 a q) := by
  rw [V_cw h k]
  pointwise

theorem blk_lx (t : Fin cfg0.N) (r : Fin 2048) (j : Fin 256) : (show FVec Ideal S2048x256 .f32 from iblk m c 2 t) (ix2 r j) = P0 (ix3 0 r ⟨3072 + (col t j).val, by have := (col t j).isLt; omega⟩) :=
  (read_lx c (V m c) t r j ⟨3072 + (col t j).val, by have := (col t j).isLt; omega⟩ rfl).trans (V_p_at h k r _)
theorem blk_cw (t : Fin cfg0.N) (a : Fin 4) (j : Fin 256) : (show FVec Ideal S4x256 .f32 from iblk m c 8 t) (ix2 a j) = P1 (ix3 0 a (col t j)) :=
  (read_cw c (V m c) t a j).trans (V_cw_at h k a _)
theorem blk_lam (t : Fin cfg0.N) (j : Fin 256) : (show FVec Ideal S1x256 .f32 from iblk m c 11 t) (ix2 0 j) = P7 (ix2 0 (col t j)) :=
  (read_lam c (V m c) t j).trans (congrFun (k_arg7 h k P7 k.2.2.2.2.2.2.2.1) _)
theorem blk_wa (t : Fin cfg0.N) (i j : Fin 256) : (show FVec Ideal S1x256x256 .bf16 from iblk m c 9 t) (ix3 0 i j) = P3 (ix4 0 (head t) i j) := by
  have e : (show FVec Ideal S1x256x256 .bf16 from iblk m c 9 t) (ix3 0 i j) = V m c main_v280 (ix3 (head t) i j) := by
    blk_point [iblk, idx' t]
  rw [e, V_wa h k]
  pointwise
theorem blk_wx (t : Fin cfg0.N) (i j : Fin 256) : (show FVec Ideal S1x256x256 .bf16 from iblk m c 10 t) (ix3 0 i j) = P5 (ix4 0 (head t) i j) := by
  have e : (show FVec Ideal S1x256x256 .bf16 from iblk m c 10 t) (ix3 0 i j) = V m c main_v282 (ix3 (head t) i j) := by
    blk_point [iblk, idx' t]
  rw [e, V_wx h k]
  pointwise
theorem blk_r (t : Fin cfg0.N) (r : Fin 2048) (j : Fin 256) (X : FVec Ideal S1x2048x4x256 .f32) (hX : res_main_v58 (F := Ideal) V0 = X) :
    (show FVec Ideal S2048x256 .bf16 from iblk m c 5 t) (ix2 r j) = flat X (ix3 0 r (col t j)) := by
  have e : (show FVec Ideal S2048x256 .bf16 from iblk m c 5 t) (ix2 r j) = V m c main_v274 (ix2 r (col t j)) := by
    blk_point [iblk, idx t]
  rw [e, V_r h k X hX]
  show shapeCast S2048x1024 (flat X) shapeCasts_S1x2048x1024_S2048x1024 (ix2 r (col t j)) = _
  pointwise
theorem blk_i (t : Fin cfg0.N) (r : Fin 2048) (j : Fin 256) (X : FVec Ideal S1x2048x1024 .f32) (hX : res_main_v77 (F := Ideal) V0 = X) :
    (show FVec Ideal S2048x256 .bf16 from iblk m c 6 t) (ix2 r j) = X (ix3 0 r (col t j)) := by
  have e : (show FVec Ideal S2048x256 .bf16 from iblk m c 6 t) (ix2 r j) = V m c main_v276 (ix2 r (col t j)) := by
    blk_point [iblk, idx t]
  rw [e, V_i h k X hX]
  pointwise

variable (ha : Args V0)
include ha

theorem ib_x (t : Fin cfg0.N) : Ib (col t) (k0_pay99 (F := Ideal) (iblk m c 4 t)) (dat V0).xl := fun r j => by
  refine Eq.trans ?_ ((blk_xl h k t r j _ rfl).trans (is_xl ha r (col t j)))
  pointwise [k0_pay99, k0_pay98]
theorem ib_r (t : Fin cfg0.N) : Ib (col t) (k0_pay96 (F := Ideal) (iblk m c 5 t)) (dat V0).r := fun r j => by
  refine Eq.trans ?_ ((blk_r h k t r j _ rfl).trans (is_r ha r (col t j)))
  pointwise [k0_pay96]
theorem ib_i (t : Fin cfg0.N) : Ib (col t) (k0_pay97 (F := Ideal) (iblk m c 6 t)) (dat V0).i := fun r j => by
  refine Eq.trans ?_ ((blk_i h k t r j _ rfl).trans (is_i ha r (col t j)))
  pointwise [k0_pay97]
theorem ib_h (t : Fin cfg0.N) : Ib (col t) (k0_pay87 (F := Ideal) (iblk m c 7 t)) (dat V0).h := fun r j =>
  (pay_h _ r j).trans ((blk_h h k t r j _ rfl).trans (is_h ha r (col t j)))
theorem lam_at (t : Fin cfg0.N) (j : Fin 256) : (show FVec Ideal S1x256 .f32 from iblk m c 11 t) (ix2 0 j) = (((dat V0).lam (col t j) : ℝ) : EReal) :=
  (blk_lam h k t j).trans ((congrFun k.2.2.2.2.2.2.2.1 _).symm.trans (is_lam ha (col t j)))
theorem ib_l (t : Fin cfg0.N) (j : Fin 256) : k0_pay100 (F := Ideal) (iblk m c 11 t) (ix2 0 j) = ((lsig ((dat V0).lam (col t j)) : ℝ) : EReal) :=
  log_sig _ _ j (lam_at h k ha t j)
theorem ib_y (t : Fin cfg0.N) : Ib (col t) (k0_pay106 (F := Ideal) (k0_pay86 (iblk m c 0 t) (iblk m c 1 t)) (k0_pay91 (iblk m c 3 t))) (dat V0).y := fun r j => by
  have e : k0_pay106 (F := Ideal) (k0_pay86 (iblk m c 0 t) (iblk m c 1 t)) (k0_pay91 (iblk m c 3 t)) (ix2 r j)
      = k0_pay86 (F := Ideal) (iblk m c 0 t) (iblk m c 1 t) (ix2 r j) * k0_pay91 (F := Ideal) (iblk m c 3 t) (ix2 r j) := by
    pointwise [k0_pay106]
  have e1 : dyV P9 P8 = res_main_v314 (F := Ideal) V0 := by
    rw [← k.2.2.2.2.2.2.2.2.1, ← k.2.2.2.2.2.2.2.2.2]
    rfl
  have e2 : geluV (lyV P0) = res_main_v308 (F := Ideal) V0 := by
    rw [← k.1]
    rfl
  refine (e.trans (congrArg₂ (fun a b : EReal => a * b) (point_dy h k t r j) ((pay_gelu _ r j).trans ((congrArg (fun a : EReal => a * (((1 / 2 : ℝ) : EReal) * (1 + Cert.Gelu.th a))) (blk_ly h k t r j)).trans
    (geluV_at (lyV P0) r (col t j)).symm)))).trans ?_
  rw [e1, e2]
  exact is_y ha r (col t j)
end

end Cert.MixLruIdeal.Value

end
-- ==== Proof.LruGrad.lean ====
/-
  The run of the recurrence's backward body at a grid point: what it reads of its blocks, and what its loop leaves in the scratch
  buffer, which are the gradients of the recurrence's terms.
-/
module

public import proofs.«01_k».proof.Proof.LruBlk

@[expose] public section

set_option maxRecDepth 16384

noncomputable section

open Idealize.ShloMosaic Idealize.ShloMosaic.TcCoe Idealize.ShloMosaic.Tactic Idealize.SL.Sem

namespace Cert.MixLruIdeal.Value
open Cert.MixLruIdeal Cert.MixLruIdeal.Gen Cert.MixLruRefIdeal.Value Cert.MixLruRefIdeal.Gates Cert.Gates Cert.MixLruIdeal.Pay Cert.Reals Cert.Scan

variable (m : (ℓ : Loc nD τ sig) → Buf (Elt Ideal) ℓ) (c : Dev nD) (t : Fin cfg0.N)

/-! ### What the body reads of its blocks -/

theorem in_0 : View.readAt (Elt Ideal) (ms0_0 t).view (Rect.unit ![0, 0] S2048x1024.size inb_S2048x1024_S2048x1024_0_0).toLoadRect ((hs0_0 t).unread (iblk m c 0 t)) = iblk m c 0 t := by
  frame_out
theorem in_1 : View.readAt (Elt Ideal) (ms0_1 t).view (Rect.unit ![0, 0] S256x1024.size inb_S256x1024_S256x1024_0_0).toLoadRect ((hs0_1 t).unread (iblk m c 1 t)) = iblk m c 1 t := by
  frame_out
theorem in_3 : View.readAt (Elt Ideal) (ms0_3 t).view (Rect.unit ![0, 0] S2048x256.size inb_S2048x256_S2048x256_0_0).toLoadRect ((hs0_3 t).unread (iblk m c 3 t)) = iblk m c 3 t := by
  frame_out
theorem in_4 : View.readAt (Elt Ideal) (ms0_4 t).view (Rect.unit ![0, 0] S2048x256.size inb_S2048x256_S2048x256_0_0).toLoadRect ((hs0_4 t).unread (iblk m c 4 t)) = iblk m c 4 t := by
  frame_out
theorem in_5 : View.readAt (Elt Ideal) (ms0_5 t).view (Rect.unit ![0, 0] S2048x256.size inb_S2048x256_S2048x256_0_0).toLoadRect ((hs0_5 t).unread (iblk m c 5 t)) = iblk m c 5 t := by
  frame_out
theorem in_6 : View.readAt (Elt Ideal) (ms0_6 t).view (Rect.unit ![0, 0] S2048x256.size inb_S2048x256_S2048x256_0_0).toLoadRect ((hs0_6 t).unread (iblk m c 6 t)) = iblk m c 6 t := by
  frame_out
theorem in_7 : View.readAt (Elt Ideal) (ms0_7 t).view (Rect.unit ![0, 0] S2048x256.size inb_S2048x256_S2048x256_0_0).toLoadRect ((hs0_7 t).unread (iblk m c 7 t)) = iblk m c 7 t := by
  frame_out
theorem in_11 : View.readAt (Elt Ideal) (ms0_11 t).view (Rect.unit ![0, 0] S1x256.size inb_S1x256_S1x256_0_0).toLoadRect ((hs0_11 t).unread (iblk m c 11 t)) = iblk m c 11 t := by
  frame_out
theorem er_1 : kernelRun0_A.sl.r_1 (F := Ideal) c (ms0_0 t) (hs0_0 t) (ms0_1 t) (hs0_1 t) (iblk m c 0 t) (iblk m c 1 t) = k0_pay86 (iblk m c 0 t) (iblk m c 1 t) := by
  unfold kernelRun0_A.sl.r_1
  rw [in_0 m c t, in_1 m c t]
theorem er_2 : kernelRun0_A.sl.r_2 (F := Ideal) c (ms0_7 t) (hs0_7 t) (iblk m c 7 t) = k0_pay87 (iblk m c 7 t) := by
  unfold kernelRun0_A.sl.r_2
  rw [in_7 m c t]
theorem er_3 : kernelRun0_A.sl.r_3 (F := Ideal) c (ms0_3 t) (hs0_3 t) (iblk m c 3 t) = k0_pay91 (iblk m c 3 t) := by
  unfold kernelRun0_A.sl.r_3
  rw [in_3 m c t]
theorem er_6 : kernelRun0_A.sl.r_6 (F := Ideal) c (ms0_5 t) (hs0_5 t) (iblk m c 5 t) = k0_pay96 (iblk m c 5 t) := by
  unfold kernelRun0_A.sl.r_6
  rw [in_5 m c t]
theorem er_7 : kernelRun0_A.sl.r_7 (F := Ideal) c (ms0_6 t) (hs0_6 t) (iblk m c 6 t) = k0_pay97 (iblk m c 6 t) := by
  unfold kernelRun0_A.sl.r_7
  rw [in_6 m c t]
theorem er_8 : kernelRun0_A.sl.r_8 (F := Ideal) c (ms0_4 t) (hs0_4 t) (iblk m c 4 t) = k0_pay98 (iblk m c 4 t) := by
  unfold kernelRun0_A.sl.r_8
  rw [in_4 m c t]
theorem er_9 : kernelRun0_A.sl.r_9 (F := Ideal) c (ms0_4 t) (hs0_4 t) (iblk m c 4 t) = k0_pay99 (iblk m c 4 t) := by
  unfold kernelRun0_A.sl.r_9
  rw [in_4 m c t]
theorem er_11 : kernelRun0_A.sl.r_11 (F := Ideal) c (ms0_11 t) (hs0_11 t) (iblk m c 11 t) = k0_pay100 (iblk m c 11 t) := by
  unfold kernelRun0_A.sl.r_11
  rw [in_11 m c t]
theorem er_12 : kernelRun0_A.sl.r_12 (F := Ideal) c (ms0_5 t) (hs0_5 t) (ms0_11 t) (hs0_11 t) (iblk m c 5 t) (iblk m c 11 t) = k0_pay102 (k0_pay96 (iblk m c 5 t)) (k0_pay100 (iblk m c 11 t)) := by
  unfold kernelRun0_A.sl.r_12
  rw [er_6 m c t, er_11 m c t]
theorem er_13 : kernelRun0_A.sl.r_13 (F := Ideal) c (ms0_5 t) (hs0_5 t) (ms0_11 t) (hs0_11 t) (iblk m c 5 t) (iblk m c 11 t) = k0_pay103 (k0_pay96 (iblk m c 5 t)) (k0_pay100 (iblk m c 11 t)) := by
  unfold kernelRun0_A.sl.r_13
  rw [er_6 m c t, er_11 m c t]
theorem er_14 : kernelRun0_A.sl.r_14 (F := Ideal) c (ms0_5 t) (hs0_5 t) (ms0_11 t) (hs0_11 t) (iblk m c 5 t) (iblk m c 11 t) = k0_pay104 (k0_pay96 (iblk m c 5 t)) (k0_pay100 (iblk m c 11 t)) := by
  unfold kernelRun0_A.sl.r_14
  rw [er_6 m c t, er_11 m c t]

theorem off0 : (![0, 0] : Fin 2 → Nat) = fun _ => 0 := by funext a; fin_cases a <;> rfl
theorem emb0 (r : Fin 2048) (j : Fin 256) : (Rect.unit (s := S2048x256) ![0, 0] S2048x256.size inb_S2048x256_S2048x256_0_0).emb (ix2 r j : S2048x256.Idx) = (ix2 r j : S2048x256.Idx) := by
  funext a
  apply Fin.ext
  fin_cases a <;> simp [Rect.emb, Rect.unit, ix2]
theorem rows : Cert.MixLruIdeal.Loop.Rows kernelRun0_A.sl.v129 := fun i j => by
  unfold kernelRun0_A.sl.v129
  pointwise
theorem scr0 (r : Fin 2048) (j : Fin 256) : scM0_0.view.read (Elt Ideal) (scM0_0.view.writes (Elt Ideal) scM0_0.view.junk
      (kernelRun0_A.sl.H21_1 (F := Ideal) c (ms0_5 t) (hs0_5 t) (ms0_11 t) (hs0_11 t) (iblk m c 5 t) (iblk m c 11 t))) (ix2 r j) = k0_pay104 (F := Ideal) (k0_pay96 (iblk m c 5 t)) (k0_pay100 (iblk m c 11 t)) (ix2 r j) := by
  rw [View.read_writes_junk_eq_canon]
  unfold kernelRun0_A.sl.H21_1
  rw [er_14 m c t]
  refine (congrFun (View.canon_unit_zero (Val := Elt Ideal) (S := S2048x256) (e := .f32) off0 inb_S2048x256_S2048x256_0_0 _) _).trans ?_
  pointwise [k0_pay105]
theorem scr1 (r : Fin 2048) (j : Fin 256) : scM0_1.view.read (Elt Ideal) (scM0_1.view.writes (Elt Ideal) scM0_1.view.junk
      (kernelRun0_A.sl.H22_1 (F := Ideal) c (ms0_0 t) (hs0_0 t) (ms0_1 t) (hs0_1 t) (ms0_3 t) (hs0_3 t) (iblk m c 0 t) (iblk m c 1 t) (iblk m c 3 t))) (ix2 r j) = k0_pay106 (F := Ideal) (k0_pay86 (iblk m c 0 t) (iblk m c 1 t)) (k0_pay91 (iblk m c 3 t)) (ix2 r j) := by
  rw [View.read_writes_junk_eq_canon]
  unfold kernelRun0_A.sl.H22_1
  rw [er_1 m c t, er_3 m c t]
  exact congrFun (View.canon_unit_zero (Val := Elt Ideal) (S := S2048x256) (e := .f32) off0 inb_S2048x256_S2048x256_0_0 _) _

/-- What the second scratch holds after the loop. -/
def grads : FVec Ideal S2048x256 .f32 := kernelRun0_A.sl.v133 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (iblk m c 0 t) (iblk m c 1 t) (iblk m c 3 t) (iblk m c 4 t) (iblk m c 5 t) (iblk m c 6 t) (iblk m c 7 t) (iblk m c 11 t)
theorem grads_eq : kernelRun0_A.sl.v133 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (iblk m c 0 t) (iblk m c 1 t) (iblk m c 3 t) (iblk m c 4 t) (iblk m c 5 t) (iblk m c 6 t) (iblk m c 7 t) (iblk m c 11 t) = grads m c t := rfl

section
variable {m c} {V0 : Valuation Cert.MixLruRefIdeal.τ Cert.MixLruRefIdeal.sig (Elt Ideal)}
  {P0 : FVec Ideal S1x2048x7168 .f32} {P1 : FVec Ideal S1x4x1024 .f32} {P2 : FVec Ideal S1x1024 .f32} {P3 : FVec Ideal S1x4x256x256 .f32} {P4 : FVec Ideal S1x4x256 .f32} {P5 : FVec Ideal S1x4x256x256 .f32} {P6 : FVec Ideal S1x4x256 .f32} {P7 : FVec Ideal S1x1024 .f32} {P8 : FVec Ideal S1x1024x1024 .f32} {P9 : FVec Ideal S1x2048x1024 .f32}
  (h : Held m c P0 P1 P2 P3 P4 P5 P6 P7 P8 P9) (k : HeldRef V0 P0 P1 P2 P3 P4 P5 P6 P7 P8 P9) (ha : Args V0)
include h k ha

/-- The loop leaves the gradients of the terms. -/
theorem ib_g : Ib (col t) (grads m c t) (dat V0).g := fun r j => by
  unfold grads kernelRun0_A.sl.v133 View.readCov
  rw [View.writes_append]
  have ht : Scf.trips k0_t1_loop.lb k0_t1_loop.ub k0_t1_loop.st = 32 := by decide +kernel
  rw [ht]
  refine (congrArg (fun q : S2048x256.Idx => scM0_1.view.read (Elt Ideal) _ q) (emb0 r j)).trans ?_
  refine Cert.MixLruIdeal.Loop.st_all c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) _ _ _ _ _ _ _ _ _ _ kernelRun0_A.sl.v129 _
    (a := fun t' j' => A' (dat V0) t' (col t j')) (b := fun t' j' => (dat V0).y t' (col t j')) (g := fun t' j' => (dat V0).g t' (col t j')) ?_ rows ?_ ?_ _ ?_ r j
  · intro t' j'
    have e := (dat V0).g_rec (ok ha) t' (col t j')
    show (dat V0).g t' (col t j') = (dat V0).y t' (col t j') + A' (dat V0) t' (col t j') * (dat V0).g (t' + 1) (col t j')
    rw [e]
    unfold A'
    split_ifs with q
    · rfl
    · rw [(dat V0).g_zero (ok ha) (t' + 1) (by omega), mul_zero, mul_zero]
  · exact fun j' => (dat V0).g_zero (ok ha) 2048 le_rfl _
  · exact fun r' j' => (scr0 m c t r' j').trans (pay_a' (ib_r h k ha t) (ib_l h k ha t) r' j')
  · exact fun r' j' => (scr1 m c t r' j').trans (ib_y h k ha t r' j')
end

end Cert.MixLruIdeal.Value

end
-- ==== Proof.LruOut.lean ====
/-
  The results of the recurrence's backward call that its gates make: the gradients of the two gates' weights and biases and of
  the parameter, as sums over the sequences.
-/
module

public import proofs.«01_k».proof.Proof.LruGrad

@[expose] public section

set_option maxRecDepth 16384

noncomputable section

open Idealize.ShloMosaic Idealize.ShloMosaic.TcCoe Idealize.ShloMosaic.Tactic Idealize.SL.Sem

namespace Cert.MixLruIdeal.Value
open Cert.MixLruIdeal Cert.MixLruIdeal.Gen Cert.MixLruRefIdeal.Value Cert.MixLruRefIdeal.Gates Cert.Gates Cert.MixLruIdeal.Pay Cert.Reals Cert.Scan

variable (m : (ℓ : Loc nD τ sig) → Buf (Elt Ideal) ℓ) (c : Dev nD)

/-- Nothing of the rows after the first needs the series. -/
def Low (D : Dat) : Prop := ∀ t, 1 ≤ t → t < 2048 → ∀ c, 2 * D.la t c ≤ cut

theorem emb_dwa (t : Fin cfg0.N) (i j : Fin 256) :
    ((View.whole (Pipeline.arrRef spec0 14)).slice (win0_14.rect t)).emb (ix3 0 i j : S1x256x256.Idx) = (ix3 (head t) i j : S4x256x256.Idx) := by
  blk_ext [idx' t]
theorem emb_dwx (t : Fin cfg0.N) (i j : Fin 256) :
    ((View.whole (Pipeline.arrRef spec0 15)).slice (win0_15.rect t)).emb (ix3 0 i j : S1x256x256.Idx) = (ix3 (head t) i j : S4x256x256.Idx) := by
  blk_ext [idx t]
theorem emb_dba (t : Fin cfg0.N) (j : Fin 256) :
    ((View.whole (Pipeline.arrRef spec0 16)).slice (win0_16.rect t)).emb (ix2 0 j : S1x256.Idx) = (ix2 0 (col t j) : S1x1024.Idx) := by
  blk_ext [idx' t]
theorem emb_dbx (t : Fin cfg0.N) (j : Fin 256) :
    ((View.whole (Pipeline.arrRef spec0 17)).slice (win0_17.rect t)).emb (ix2 0 j : S1x256.Idx) = (ix2 0 (col t j) : S1x1024.Idx) := by
  blk_ext [idx t]
theorem emb_dbl (t : Fin cfg0.N) (j : Fin 256) :
    ((View.whole (Pipeline.arrRef spec0 19)).slice (win0_19.rect t)).emb (ix2 0 j : S1x256.Idx) = (ix2 0 (col t j) : S1x1024.Idx) := by
  blk_ext [idx' t]
theorem emb_dlam (t : Fin cfg0.N) (j : Fin 256) :
    ((View.whole (Pipeline.arrRef spec0 20)).slice (win0_20.rect t)).emb (ix2 0 j : S1x256.Idx) = (ix2 0 (col t j) : S1x1024.Idx) := by
  blk_ext [idx' t]
theorem ix3_0 (y : S1x256x256.Idx) : ∃ i j : Fin 256, y = (ix3 0 i j : S1x256x256.Idx) :=
  ⟨y 1, y 2, (eq_ix3 y).trans (congrArg (fun z => ix3 z (y 1) (y 2)) (Subsingleton.elim (α := Fin 1) _ _))⟩
theorem ix2_0 (y : S1x256.Idx) : ∃ j : Fin 256, y = (ix2 0 j : S1x256.Idx) :=
  ⟨y 1, (eq_ix2 y).trans (congrArg (fun z => ix2 z (y 1)) (Subsingleton.elim (α := Fin 1) _ _))⟩

section
variable {m c} {V0 : Valuation Cert.MixLruRefIdeal.τ Cert.MixLruRefIdeal.sig (Elt Ideal)}
  {P0 : FVec Ideal S1x2048x7168 .f32} {P1 : FVec Ideal S1x4x1024 .f32} {P2 : FVec Ideal S1x1024 .f32} {P3 : FVec Ideal S1x4x256x256 .f32} {P4 : FVec Ideal S1x4x256 .f32} {P5 : FVec Ideal S1x4x256x256 .f32} {P6 : FVec Ideal S1x4x256 .f32} {P7 : FVec Ideal S1x1024 .f32} {P8 : FVec Ideal S1x1024x1024 .f32} {P9 : FVec Ideal S1x2048x1024 .f32}
  (h : Held m c P0 P1 P2 P3 P4 P5 P6 P7 P8 P9) (k : HeldRef V0 P0 P1 P2 P3 P4 P5 P6 P7 P8 P9) (ha : Args V0) (hc : Low (dat V0))
include h k ha hc

/-! ### What the body computes, as sequences -/

theorem ib_m (t : Fin cfg0.N) : Ib (col t) (k0_pay103 (F := Ideal) (k0_pay96 (iblk m c 5 t)) (k0_pay100 (iblk m c 11 t))) (dat V0).M :=
  pay_m (ok ha) (ib_r h k ha t) (ib_l h k ha t) hc
/-- The part of the second gate's gradient that the gate multiplies. -/
abbrev gx (m : (ℓ : Loc nD τ sig) → Buf (Elt Ideal) ℓ) (c : Dev nD) (t : Fin cfg0.N) := k0_pay112 (F := Ideal) (k0_pay99 (iblk m c 4 t)) (k0_pay103 (k0_pay96 (iblk m c 5 t)) (k0_pay100 (iblk m c 11 t))) (grads m c t)
/-- The part of the first gate's gradient that the gate multiplies. -/
abbrev dlr (m : (ℓ : Loc nD τ sig) → Buf (Elt Ideal) ℓ) (c : Dev nD) (t : Fin cfg0.N) := k0_pay115 (F := Ideal) (k0_pay87 (iblk m c 7 t)) (k0_pay97 (iblk m c 6 t)) (k0_pay99 (iblk m c 4 t)) (k0_pay100 (iblk m c 11 t))
  (k0_pay102 (k0_pay96 (iblk m c 5 t)) (k0_pay100 (iblk m c 11 t))) (k0_pay103 (k0_pay96 (iblk m c 5 t)) (k0_pay100 (iblk m c 11 t))) (grads m c t)
theorem ib_gx (t : Fin cfg0.N) : Ib (col t) (gx m c t) (fun t c => (dat V0).g t c * (dat V0).M t c * (dat V0).xl t c) :=
  pay_gx (ib_x h k ha t) (ib_m h k ha hc t) (ib_g t h k ha)
theorem ib_dx (t : Fin cfg0.N) : Ib (col t) (k0_pay113 (F := Ideal) (k0_pay97 (iblk m c 6 t)) (k0_pay103 (k0_pay96 (iblk m c 5 t)) (k0_pay100 (iblk m c 11 t))) (grads m c t)) (dat V0).dx :=
  pay_dx (ib_i h k ha t) (ib_m h k ha hc t) (ib_g t h k ha)
theorem ib_dlr (t : Fin cfg0.N) : Ib (col t) (dlr m c t) (fun t c => (dat V0).dla t c * (8 * lsig ((dat V0).lam c))) :=
  pay_dlr (ok ha) (ib_i h k ha t) (ib_x h k ha t) (ib_l h k ha t) (pay_a (ib_r h k ha t) (ib_l h k ha t)) (ib_m h k ha hc t) (ib_g t h k ha) (ib_h h k ha t)
theorem ib_dll (t : Fin cfg0.N) : Ib (col t) (k0_pay116 (F := Ideal) (k0_pay87 (iblk m c 7 t)) (k0_pay96 (iblk m c 5 t)) (k0_pay97 (iblk m c 6 t)) (k0_pay99 (iblk m c 4 t))
    (k0_pay102 (k0_pay96 (iblk m c 5 t)) (k0_pay100 (iblk m c 11 t))) (k0_pay103 (k0_pay96 (iblk m c 5 t)) (k0_pay100 (iblk m c 11 t))) (grads m c t)) (fun t c => (dat V0).dla t c * (dat V0).r t c) :=
  pay_dll (ok ha) (ib_r h k ha t) (ib_i h k ha t) (ib_x h k ha t) (pay_a (ib_r h k ha t) (ib_l h k ha t)) (ib_m h k ha hc t) (ib_g t h k ha) (ib_h h k ha t)
theorem ib_zr (t : Fin cfg0.N) : Ib (col t) (k0_pay118 (F := Ideal) (k0_pay96 (iblk m c 5 t)) (dlr m c t)) (dat V0).zr := pay_zr (ib_r h k ha t) (ib_dlr h k ha hc t)
theorem ib_zi (t : Fin cfg0.N) : Ib (col t) (k0_pay119 (F := Ideal) (k0_pay97 (iblk m c 6 t)) (gx m c t)) (dat V0).zi := pay_zi (ib_i h k ha t) (ib_gx h k ha hc t)
omit hc in
theorem ib_xb (t : Fin cfg0.N) (r : Fin 2048) (j : Fin 256) : k0_pay98 (F := Ideal) (iblk m c 4 t) (ix2 r j) = (((dat V0).xl r (col t j) : ℝ) : EReal) := by
  refine Eq.trans ?_ ((blk_xl h k t r j _ rfl).trans (is_xl ha r (col t j)))
  pointwise [k0_pay98]

/-! ### The results of the gates -/

theorem final_dwa (G : FVec Ideal S4x256x256 .f32) (hG : ∀ q i j, G (ix3 q i j) = ((∑ r : Fin 2048, (dat V0).xl r (chan q i) * (dat V0).zr r (chan q j) : ℝ) : EReal)) :
    (dats m 0 c).arrAt 14 (cfgs 0).N = G := by
  refine (dats m 0 c).arrAt_eq_of_covers 14 _ (by decide +kernel) fun t hf y => ?_
  obtain ⟨i, j, rfl⟩ := ix3_0 y
  blk_simp
  rw [after0_14, emb_dwa]
  unfold outsAt0; dsimp only; unfold left runAt
  unfold kernelRun0_A; dsimp only
  unfold kernelRun0_A.sl.r_17
  rw [grads_eq m c t]
  frame_out
  refine (pay_dwa (k0_pay98 (F := Ideal) (iblk m c 4 t)) i j).trans ?_
  rw [hG, coe_sum]
  refine Finset.sum_congr rfl fun r _ => ?_
  exact mul_of_coe (ib_xb h k ha t r i) (ib_zr h k ha hc t r j)

theorem final_dwx (G : FVec Ideal S4x256x256 .f32) (hG : ∀ q i j, G (ix3 q i j) = ((∑ r : Fin 2048, (dat V0).xl r (chan q i) * (dat V0).zi r (chan q j) : ℝ) : EReal)) :
    (dats m 0 c).arrAt 15 (cfgs 0).N = G := by
  refine (dats m 0 c).arrAt_eq_of_covers 15 _ (by decide +kernel) fun t hf y => ?_
  obtain ⟨i, j, rfl⟩ := ix3_0 y
  blk_simp
  rw [after0_15, emb_dwx]
  unfold outsAt0; dsimp only; unfold left runAt
  unfold kernelRun0_A; dsimp only
  unfold kernelRun0_A.sl.r_21 kernelRun0_A.sl.r_15
  rw [grads_eq m c t]
  frame_out
  refine (pay_dwx (k0_pay98 (F := Ideal) (iblk m c 4 t)) i j).trans ?_
  rw [hG, coe_sum]
  refine Finset.sum_congr rfl fun r _ => ?_
  exact mul_of_coe (ib_xb h k ha t r i) (ib_zi h k ha hc t r j)

theorem final_dba (G : FVec Ideal S1x1024 .f32) (hG : ∀ q, G (ix2 0 q) = ((∑ r : Fin 2048, (dat V0).zr r q : ℝ) : EReal)) :
    (dats m 0 c).arrAt 16 (cfgs 0).N = G := by
  refine (dats m 0 c).arrAt_eq_of_covers 16 _ (by decide +kernel) fun t hf y => ?_
  obtain ⟨j, rfl⟩ := ix2_0 y
  blk_simp
  rw [after0_16, emb_dba]
  unfold outsAt0; dsimp only; unfold left runAt
  unfold kernelRun0_A; dsimp only
  unfold kernelRun0_A.sl.r_17
  rw [grads_eq m c t]
  frame_out
  refine (pay_dba j).trans ?_
  rw [hG, coe_sum]
  exact Finset.sum_congr rfl fun r _ => ib_zr h k ha hc t r j

theorem final_dbx (G : FVec Ideal S1x1024 .f32) (hG : ∀ q, G (ix2 0 q) = ((∑ r : Fin 2048, (dat V0).zi r q : ℝ) : EReal)) :
    (dats m 0 c).arrAt 17 (cfgs 0).N = G := by
  refine (dats m 0 c).arrAt_eq_of_covers 17 _ (by decide +kernel) fun t hf y => ?_
  obtain ⟨j, rfl⟩ := ix2_0 y
  blk_simp
  rw [after0_17, emb_dbx]
  unfold outsAt0; dsimp only; unfold left runAt
  unfold kernelRun0_A; dsimp only
  unfold kernelRun0_A.sl.r_15
  rw [grads_eq m c t]
  frame_out
  refine (pay_dbx j).trans ?_
  rw [hG, coe_sum]
  exact Finset.sum_congr rfl fun r _ => ib_zi h k ha hc t r j

theorem final_dlam (G : FVec Ideal S1x1024 .f32) (hG : ∀ q, G (ix2 0 q) = (((∑ r : Fin 2048, (dat V0).dla r q * (dat V0).r r q) * (8 * (1 - 1 / (1 + Real.exp (-(dat V0).lam q)))) : ℝ) : EReal)) :
    (dats m 0 c).arrAt 20 (cfgs 0).N = G := by
  refine (dats m 0 c).arrAt_eq_of_covers 20 _ (by decide +kernel) fun t hf y => ?_
  obtain ⟨j, rfl⟩ := ix2_0 y
  blk_simp
  rw [after0_20, emb_dlam]
  unfold outsAt0; dsimp only; unfold left runAt
  unfold kernelRun0_A; dsimp only
  unfold kernelRun0_A.sl.r_18
  rw [grads_eq m c t]
  frame_out
  rw [hG]
  exact pay_dlam _ _ j _ (lam_at h k ha t j) _ fun r => ib_dll h k ha hc t r j
end

end Cert.MixLruIdeal.Value

end
-- ==== Proof.LruConv.lean ====
/-
  The results of the recurrence's backward call that its convolution and its branch make: what reaches the two branches, and
  the gradients of the taps and of the convolution's bias.
-/
module

public import proofs.«01_k».proof.Proof.LruOut

@[expose] public section

set_option maxRecDepth 16384

noncomputable section

open Idealize.ShloMosaic Idealize.ShloMosaic.TcCoe Idealize.ShloMosaic.Tactic Idealize.SL.Sem

namespace Cert.MixLruIdeal.Value
open Cert.MixLruIdeal Cert.MixLruIdeal.Gen Cert.MixLruRefIdeal.Value Cert.MixLruRefIdeal.Gates Cert.Gates Cert.MixLruIdeal.Pay Cert.Reals Cert.Scan Cert.Gelu Cert.Conv

/-- What reaches the activation's argument where `u` reaches the activation. -/
def actGrad (u g : EReal) : EReal := u * (((1 / 2 : ℝ) : EReal) * ((1 : EReal) + th g)
  + ((1 / 2 : ℝ) : EReal) * g * ((1 : EReal) - th g * th g) * ((scale : ℝ) : EReal) * ((1 : EReal) + ((26829 / 200000 : ℝ) : EReal) * (g * g)))
theorem named_3k : Named.named (F := Ideal) κ "gelu_3k" (φ := .f32) 0x3E095D4F#32 = ((26829 / 200000 : ℝ) : EReal) :=
  IdealRules.named_const.ideal_named_scalar _ _ _ _ rfl
theorem pay_dly (A H : FVec Ideal S2048x256 .f32) (v : FVec Ideal S2048x256 .f32) (r : Fin 2048) (j : Fin 256) :
    k0_pay95 (F := Ideal) A H (k0_pay92 v) (k0_pay93 v) (ix3 0 r j) = actGrad (A (ix2 r j) * H (ix2 r j)) (v (ix2 r j)) := by
  pointwise [k0_pay95, k0_pay92, k0_pay93, k0_pay89, pay_th, pay_ly]
  rw [named_3k, ofBits_scale, ofBits_half]
  rfl
theorem pay_bf (R Z : FVec Ideal S2048x256 .f32) (r : Fin 2048) (j : Fin 256) : k0_pay122 (F := Ideal) R Z (ix2 r j) = k0_pay118 (F := Ideal) R Z (ix2 r j) := by
  pointwise [k0_pay122]
theorem pay_bg (R Z : FVec Ideal S2048x256 .f32) (r : Fin 2048) (j : Fin 256) : k0_pay123 (F := Ideal) R Z (ix2 r j) = k0_pay119 (F := Ideal) R Z (ix2 r j) := by
  pointwise [k0_pay123]

variable (m : (ℓ : Loc nD τ sig) → Buf (Elt Ideal) ℓ) (c : Dev nD)

theorem emb_dwl (t : Fin cfg0.N) (a : Fin 4) (j : Fin 256) :
    ((View.whole (Pipeline.arrRef spec0 18)).slice (win0_18.rect t)).emb (ix2 a j : S4x256.Idx) = (ix2 a (col t j) : S4x1024.Idx) := by
  blk_ext [idx' t]
theorem emb_dl (t : Fin cfg0.N) (a : Fin 2) (r : Fin 2048) (j : Fin 256) :
    ((View.whole (Pipeline.arrRef spec0 12)).slice (win0_12.rect t)).emb (ix3 a r j : S2x2048x256.Idx) = (ix3 a r (col t j) : S2x2048x1024.Idx) := by
  blk_ext [idx' t]
theorem piece_index (n k : Fin 2) (r : Fin 2048) (j : Fin 256) (x : S1x2048x256.Idx) (e0 : k.val = n.val + (x 0).val) (e : (x 0).val < 1)
    (e1 : r.val = (x 1).val) (e2 : j.val = (x 2).val) : k = n ∧ x = ix3 0 r j := by
  refine ⟨Fin.ext (by omega), (eq_ix3 x).trans ?_⟩
  exact congr (congrArg₂ ix3 (Fin.ext (by show (x 0).val = 0; omega)) (Fin.ext e1.symm)) (Fin.ext e2.symm)

/-- What reaches the convolution's result at a grid point. -/
abbrev dxl (t : Fin cfg0.N) := k0_pay127 (F := Ideal) (k0_pay113 (k0_pay97 (iblk m c 6 t)) (k0_pay103 (k0_pay96 (iblk m c 5 t)) (k0_pay100 (iblk m c 11 t))) (grads m c t))
  (k0_pay122 (k0_pay96 (iblk m c 5 t)) (dlr m c t)) (k0_pay123 (k0_pay97 (iblk m c 6 t)) (gx m c t)) (iblk m c 9 t) (iblk m c 10 t)

section
variable {m c} {V0 : Valuation Cert.MixLruRefIdeal.τ Cert.MixLruRefIdeal.sig (Elt Ideal)}
  {P0 : FVec Ideal S1x2048x7168 .f32} {P1 : FVec Ideal S1x4x1024 .f32} {P2 : FVec Ideal S1x1024 .f32} {P3 : FVec Ideal S1x4x256x256 .f32} {P4 : FVec Ideal S1x4x256 .f32} {P5 : FVec Ideal S1x4x256x256 .f32} {P6 : FVec Ideal S1x4x256 .f32} {P7 : FVec Ideal S1x1024 .f32} {P8 : FVec Ideal S1x1024x1024 .f32} {P9 : FVec Ideal S1x2048x1024 .f32}
  (h : Held m c P0 P1 P2 P3 P4 P5 P6 P7 P8 P9) (k : HeldRef V0 P0 P1 P2 P3 P4 P5 P6 P7 P8 P9) (ha : Args V0) (hc : Low (dat V0))
  (X : FVec Ideal S1x2048x1024 .f32)
  (hX : ∀ r q j, X (ix3 0 r (chan q j)) = (((dat V0).dx r (chan q j) : ℝ) : EReal) + (∑ i : Fin 256, (((dat V0).zr r (chan q i) : ℝ) : EReal) * P3 (ix4 0 q j i))
    + ∑ i : Fin 256, (((dat V0).zi r (chan q i) : ℝ) : EReal) * P5 (ix4 0 q j i))
include h k ha hc hX

theorem dxl_at (t : Fin cfg0.N) (r : Fin 2048) (j : Fin 256) : dxl m c t (ix2 r j) = X (ix3 0 r (col t j)) := by
  refine (pay_dxl _ (k0_pay122 (F := Ideal) (k0_pay96 (iblk m c 5 t)) (dlr m c t)) (k0_pay123 (F := Ideal) (k0_pay97 (iblk m c 6 t)) (gx m c t)) (iblk m c 9 t) (iblk m c 10 t) r j).trans (Eq.trans ?_ (hX r (head t) j).symm)
  refine congrArg₂ (fun a b : EReal => a + b) (congrArg₂ (fun a b : EReal => a + b) (ib_dx h k ha hc t r j) ?_) ?_
  · exact Finset.sum_congr rfl fun i _ => congrArg₂ (fun a b : EReal => a * b) ((pay_bf _ _ r i).trans (ib_zr h k ha hc t r i)) (blk_wa h k t j i)
  · exact Finset.sum_congr rfl fun i _ => congrArg₂ (fun a b : EReal => a * b) ((pay_bg _ _ r i).trans (ib_zi h k ha hc t r i)) (blk_wx h k t j i)
theorem dxl_col (t : Fin cfg0.N) (j : Fin 256) : (fun r => dxl m c t (ix2 r j)) = fun r => X (ix3 0 r (col t j)) := funext fun r => dxl_at h k ha hc X hX t r j

set_option maxHeartbeats 4000000 in
theorem final_dbl (G : FVec Ideal S1x1024 .f32) (hG : ∀ q, G (ix2 0 q) = ∑ r : Fin 2048, X (ix3 0 r q)) : (dats m 0 c).arrAt 19 (cfgs 0).N = G := by
  refine (dats m 0 c).arrAt_eq_of_covers 19 _ (by decide +kernel) fun t hf y => ?_
  obtain ⟨j, rfl⟩ := ix2_0 y
  blk_simp
  rw [after0_19, emb_dbl]
  unfold outsAt0; dsimp only; unfold left runAt
  unfold kernelRun0_A; dsimp only
  unfold kernelRun0_A.sl.r_22 kernelRun0_A.sl.r_16 kernelRun0_A.sl.r_19 kernelRun0_A.sl.r_20 kernelRun0_A.sl.r_15 kernelRun0_A.sl.r_17
  rw [grads_eq m c t]
  frame_out
  rw [hG]
  exact (pay_dbl (dxl m c t) j).trans (Finset.sum_congr rfl fun r _ => dxl_at h k ha hc X hX t r j)

set_option maxHeartbeats 4000000 in
theorem final_dwl (G : FVec Ideal S4x1024 .f32)
    (h0 : ∀ q : Fin 1024, G (ix2 0 q) = ∑ r : Fin 2048, up 3 (fun r => X (ix3 0 r q)) r * P0 (ix3 0 r ⟨3072 + q.val, by omega⟩))
    (h1 : ∀ q : Fin 1024, G (ix2 1 q) = ∑ r : Fin 2048, up 2 (fun r => X (ix3 0 r q)) r * P0 (ix3 0 r ⟨3072 + q.val, by omega⟩))
    (h2 : ∀ q : Fin 1024, G (ix2 2 q) = ∑ r : Fin 2048, up 1 (fun r => X (ix3 0 r q)) r * P0 (ix3 0 r ⟨3072 + q.val, by omega⟩))
    (h3 : ∀ q : Fin 1024, G (ix2 3 q) = ∑ r : Fin 2048, X (ix3 0 r q) * P0 (ix3 0 r ⟨3072 + q.val, by omega⟩)) : (dats m 0 c).arrAt 18 (cfgs 0).N = G := by
  refine (dats m 0 c).arrAt_eq_of_covers 18 _ (by decide +kernel) fun t hf y => ?_
  obtain ⟨a, j, rfl⟩ : ∃ (a : Fin 4) (j : Fin 256), y = (ix2 a j : S4x256.Idx) := ⟨y 0, y 1, eq_ix2 y⟩
  blk_simp
  rw [after0_18, emb_dwl]
  unfold outsAt0; dsimp only; unfold left runAt
  unfold kernelRun0_A; dsimp only
  unfold kernelRun0_A.sl.r_22 kernelRun0_A.sl.r_23 kernelRun0_A.sl.r_24 kernelRun0_A.sl.r_25 kernelRun0_A.sl.r_16 kernelRun0_A.sl.r_19 kernelRun0_A.sl.r_20 kernelRun0_A.sl.r_15 kernelRun0_A.sl.r_17
  rw [grads_eq m c t]
  frame_out
  fin_cases a
  · refine (pay_dwl _ _ _ _ _ j).1.trans (Eq.trans ?_ (h0 (col t j)).symm)
    exact Finset.sum_congr rfl fun r _ => congrArg₂ (fun a b : EReal => a * b) ((pay_up3 _ _ _ _ _ r j).trans (congrArg (fun f => up 3 f r) (dxl_col h k ha hc X hX t j))) (blk_lx h k t r j)
  · refine (pay_dwl _ _ _ _ _ j).2.1.trans (Eq.trans ?_ (h1 (col t j)).symm)
    exact Finset.sum_congr rfl fun r _ => congrArg₂ (fun a b : EReal => a * b) ((pay_up2 _ _ _ _ _ r j).trans (congrArg (fun f => up 2 f r) (dxl_col h k ha hc X hX t j))) (blk_lx h k t r j)
  · refine (pay_dwl _ _ _ _ _ j).2.2.1.trans (Eq.trans ?_ (h2 (col t j)).symm)
    exact Finset.sum_congr rfl fun r _ => congrArg₂ (fun a b : EReal => a * b) ((pay_up1 _ _ _ _ _ r j).trans (congrArg (fun f => up 1 f r) (dxl_col h k ha hc X hX t j))) (blk_lx h k t r j)
  · refine (pay_dwl _ _ _ _ _ j).2.2.2.trans (Eq.trans ?_ (h3 (col t j)).symm)
    exact Finset.sum_congr rfl fun r _ => congrArg₂ (fun a b : EReal => a * b) (dxl_at h k ha hc X hX t r j) (blk_lx h k t r j)

set_option maxHeartbeats 4000000 in
theorem final_dl (G : FVec Ideal S2x2048x1024 .bf16)
    (g0 : ∀ r q, G (ix3 0 r q) = P1 (ix3 0 3 q) * X (ix3 0 r q) + P1 (ix3 0 2 q) * up 1 (fun r => X (ix3 0 r q)) r
      + P1 (ix3 0 1 q) * up 2 (fun r => X (ix3 0 r q)) r + P1 (ix3 0 0 q) * up 3 (fun r => X (ix3 0 r q)) r)
    (g1 : ∀ r q, G (ix3 1 r q) = actGrad (dyV P9 P8 (ix3 0 r q) * (((dat V0).h r q : ℝ) : EReal)) (lyV P0 (ix3 0 r q))) : (dats m 0 c).arrAt 12 (cfgs 0).N = G := by
  refine (dats m 0 c).arrAt_eq_of_covers 12 _ (by decide +kernel) fun t hf y => ?_
  obtain ⟨a, r, j, rfl⟩ : ∃ (a : Fin 2) (r : Fin 2048) (j : Fin 256), y = (ix3 a r j : S2x2048x256.Idx) := ⟨y 0, y 1, y 2, eq_ix3 y⟩
  blk_simp
  rw [after0_12, emb_dl]
  unfold outsAt0; dsimp only; unfold left runAt
  unfold kernelRun0_A; dsimp only
  unfold kernelRun0_A.sl.r_23 kernelRun0_A.sl.r_24 kernelRun0_A.sl.r_25 kernelRun0_A.sl.r_26 kernelRun0_A.sl.r_16 kernelRun0_A.sl.r_19 kernelRun0_A.sl.r_20 kernelRun0_A.sl.r_15 kernelRun0_A.sl.r_17
  rw [grads_eq m c t]
  frame_out
  canon_tiles x h
  · obtain ⟨rfl, rfl⟩ := piece_index 0 a r j x (h0.trans (Nat.zero_add _).symm) x0_lt h1 h2
    refine (pay_dl _ _ _ _ _ _ _ _ _ _ _ _ r j).trans (Eq.trans ?_ (g0 r (col t j)).symm)
    refine congrArg₂ (fun a b : EReal => a + b) (congrArg₂ (fun a b : EReal => a + b) (congrArg₂ (fun a b : EReal => a + b)
      (congrArg₂ (fun a b : EReal => a * b) ?_ (dxl_at h k ha hc X hX t r j))
      (congrArg₂ (fun a b : EReal => a * b) ?_ ((pay_up1 _ _ _ _ _ r j).trans (congrArg (fun f => up 1 f r) (dxl_col h k ha hc X hX t j)))))
      (congrArg₂ (fun a b : EReal => a * b) ?_ ((pay_up2 _ _ _ _ _ r j).trans (congrArg (fun f => up 2 f r) (dxl_col h k ha hc X hX t j)))))
      (congrArg₂ (fun a b : EReal => a * b) ?_ ((pay_up3 _ _ _ _ _ r j).trans (congrArg (fun f => up 3 f r) (dxl_col h k ha hc X hX t j))))
    · refine Eq.trans ?_ (blk_cw h k t 3 j)
      pointwise
    · refine Eq.trans ?_ (blk_cw h k t 2 j)
      pointwise
    · refine Eq.trans ?_ (blk_cw h k t 1 j)
      pointwise
    · refine Eq.trans ?_ (blk_cw h k t 0 j)
      pointwise
  · obtain ⟨rfl, rfl⟩ := piece_index 1 a r j x h0 x0_lt h1 h2
    refine (pay_dly _ _ (iblk m c 3 t) r j).trans (Eq.trans ?_ (g1 r (col t j)).symm)
    rw [point_dy h k t r j, ib_h h k ha t r j]
    exact congrArg (actGrad _) (blk_ly h k t r j)

end

end Cert.MixLruIdeal.Value

end
-- ==== Proof.LruRes.lean ====
/- The reference's results of the recurrence's backward call, entry by entry. -/
module

public import proofs.«01_k».proof.Proof.LruVals
public import proofs.«01_k».proof.Proof.LruWin

@[expose] public section

set_option maxRecDepth 16384

noncomputable section

open Idealize.ShloMosaic Idealize.ShloMosaic.TcCoe Idealize.ShloMosaic.Tactic Idealize.SL.Sem

namespace Cert.MixLruRefIdeal.Value
open Cert.MixLruRefIdeal Cert.MixLruRefIdeal.Gen Cert.MixLruRefIdeal.Gates Cert.Gelu Cert.Reals Cert.Conv Cert.Scan Cert.Gates

/-- The sums over the rows. -/
def colSum (X : FVec Ideal S1x2048x1024 .f32) : FVec Ideal S1024 .f32 :=
  Host.reduceAdd (shapeCast S1x1x1024 (Host.reduceAdd X (constant S_ .f32 0x00000000#32) reducesTo_S1x2048x1024_S1x1024_d1 h_S_) shapeCasts_S1x1024_S1x1x1024) (constant S_ .f32 0x00000000#32) reducesTo_S1x1x1024_S1024_d0_1 h_S_
def rowOf (X : FVec Ideal S1024 .f32) : FVec Ideal S1x1024 .f32 := broadcastInDim S1x1024 ![1] bcast_S1024_S1x1024_1 X
theorem cast1 (X : FVec Ideal S1x1024 .f32) (c : Fin 1024) : shapeCast S1x1x1024 X shapeCasts_S1x1024_S1x1x1024 (ix3 0 0 c) = X (ix2 0 c) := by pointwise
theorem colSum_at (X : FVec Ideal S1x2048x1024 .f32) (c : Fin 1024) : colSum X (ix1 c) = ∑ r : Fin 2048, X (ix3 0 r c) :=
  (sum2 _ c).trans ((cast1 _ c).trans (sum1 X c))
theorem rowOf_at (X : FVec Ideal S1024 .f32) (c : Fin 1024) : rowOf X (ix2 0 c) = X (ix1 c) := by pointwise [rowOf]

/-- The branch under three rows of zeros, and its four shifts. -/
def zpad (P : FVec Ideal S1x2048x7168 .f32) : FVec Ideal S1x2051x1024 .f32 :=
  concatenate S1x2051x1024 1 [⟨S1x3x1024, (broadcastInDim S1x3x1024 ![] bcast_S_S1x3x1024 (constant S_ .f32 0x00000000#32))⟩, ⟨S1x2048x1024, (extractStridedSlice S1x2048x1024 ![0, 0, 3072] P slices_S1x2048x7168_S1x2048x1024_0_0_3072)⟩] concatenates_S1x3x1024_S1x2048x1024_S1x2051x1024_d1
def shift0 (P : FVec Ideal S1x2048x7168 .f32) : FVec Ideal S1x2048x1024 .f32 := extractStridedSlice S1x2048x1024 ![0, 0, 0] (zpad P) slices_S1x2051x1024_S1x2048x1024_0_0_0
def shift1 (P : FVec Ideal S1x2048x7168 .f32) : FVec Ideal S1x2048x1024 .f32 := extractStridedSlice S1x2048x1024 ![0, 1, 0] (zpad P) slices_S1x2051x1024_S1x2048x1024_0_1_0
def shift2 (P : FVec Ideal S1x2048x7168 .f32) : FVec Ideal S1x2048x1024 .f32 := extractStridedSlice S1x2048x1024 ![0, 2, 0] (zpad P) slices_S1x2051x1024_S1x2048x1024_0_2_0
def shift3 (P : FVec Ideal S1x2048x7168 .f32) : FVec Ideal S1x2048x1024 .f32 := extractStridedSlice S1x2048x1024 ![0, 3, 0] (zpad P) slices_S1x2051x1024_S1x2048x1024_0_3_0
/-- The branch at a place. -/
abbrev lx (P : FVec Ideal S1x2048x7168 .f32) (j : Fin 1024) (r : Fin 2048) : EReal := P (ix3 0 r ⟨3072 + j.val, by omega⟩)
theorem shift0_at (P : FVec Ideal S1x2048x7168 .f32) (r : Fin 2048) (j : Fin 1024) : shift0 P (ix3 0 r j) = down 3 (lx P j) r := by
  pointwise [shift0, zpad]
  refine eq_down 3 _ r _ (fun h => dif_pos (by omega)) fun q hq => (dif_neg (by omega)).trans ?_
  exact congrArg (fun a => P (ix3 0 a ⟨3072 + j.val, by omega⟩)) (Fin.ext (by simp only; omega))
theorem shift1_at (P : FVec Ideal S1x2048x7168 .f32) (r : Fin 2048) (j : Fin 1024) : shift1 P (ix3 0 r j) = down 2 (lx P j) r := by
  pointwise [shift1, zpad]
  refine eq_down 2 _ r _ (fun h => dif_pos (by omega)) fun q hq => (dif_neg (by omega)).trans ?_
  exact congrArg (fun a => P (ix3 0 a ⟨3072 + j.val, by omega⟩)) (Fin.ext (by simp only; omega))
theorem shift2_at (P : FVec Ideal S1x2048x7168 .f32) (r : Fin 2048) (j : Fin 1024) : shift2 P (ix3 0 r j) = down 1 (lx P j) r := by
  pointwise [shift2, zpad]
  refine eq_down 1 _ r _ (fun h => dif_pos (by omega)) fun q hq => (dif_neg (by omega)).trans ?_
  exact congrArg (fun a => P (ix3 0 a ⟨3072 + j.val, by omega⟩)) (Fin.ext (by simp only; omega))
theorem shift3_at (P : FVec Ideal S1x2048x7168 .f32) (r : Fin 2048) (j : Fin 1024) : shift3 P (ix3 0 r j) = lx P j r := by
  pointwise [shift3, zpad]

/-- The taps' rows. -/
def flatT (T : FVec Ideal S1x4x1024 .f32) : FVec Ideal S4x1024 .f32 := shapeCast S4x1024 T shapeCasts_S1x4x1024_S4x1024
def tap0 (T : FVec Ideal S1x4x1024 .f32) : FVec Ideal S1x2048x1024 .f32 := broadcastInDim S1x2048x1024 ![0, 1, 2] bcast_S1x1x1024_S1x2048x1024_0_1_2 (broadcastInDim S1x1x1024 ![2] bcast_S1024_S1x1x1024_2 (shapeCast S1024 (extractStridedSlice S1x1024 ![0, 0] (flatT T) slices_S4x1024_S1x1024_0_0) shapeCasts_S1x1024_S1024))
def tap1 (T : FVec Ideal S1x4x1024 .f32) : FVec Ideal S1x2048x1024 .f32 := broadcastInDim S1x2048x1024 ![0, 1, 2] bcast_S1x1x1024_S1x2048x1024_0_1_2 (broadcastInDim S1x1x1024 ![2] bcast_S1024_S1x1x1024_2 (shapeCast S1024 (extractStridedSlice S1x1024 ![1, 0] (flatT T) slices_S4x1024_S1x1024_1_0) shapeCasts_S1x1024_S1024))
def tap2 (T : FVec Ideal S1x4x1024 .f32) : FVec Ideal S1x2048x1024 .f32 := broadcastInDim S1x2048x1024 ![0, 1, 2] bcast_S1x1x1024_S1x2048x1024_0_1_2 (broadcastInDim S1x1x1024 ![2] bcast_S1024_S1x1x1024_2 (shapeCast S1024 (extractStridedSlice S1x1024 ![2, 0] (flatT T) slices_S4x1024_S1x1024_2_0) shapeCasts_S1x1024_S1024))
def tap3 (T : FVec Ideal S1x4x1024 .f32) : FVec Ideal S1x2048x1024 .f32 := broadcastInDim S1x2048x1024 ![0, 1, 2] bcast_S1x1x1024_S1x2048x1024_0_1_2 (broadcastInDim S1x1x1024 ![2] bcast_S1024_S1x1x1024_2 (shapeCast S1024 (extractStridedSlice S1x1024 ![3, 0] (flatT T) slices_S4x1024_S1x1024_3_0) shapeCasts_S1x1024_S1024))
theorem tap_at (T : FVec Ideal S1x4x1024 .f32) (r : Fin 2048) (j : Fin 1024) : tap0 T (ix3 0 r j) = T (ix3 0 0 j) ∧ tap1 T (ix3 0 r j) = T (ix3 0 1 j) ∧ tap2 T (ix3 0 r j) = T (ix3 0 2 j) ∧ tap3 T (ix3 0 r j) = T (ix3 0 3 j) := by
  refine ⟨?_, ?_, ?_, ?_⟩
  · pointwise [tap0, flatT]
  · pointwise [tap1, flatT]
  · pointwise [tap2, flatT]
  · pointwise [tap3, flatT]

/-- What reaches the convolution's argument. -/
def convBack (X : FVec Ideal S1x2048x1024 .f32) (T : FVec Ideal S1x4x1024 .f32) : FVec Ideal S1x2051x1024 .f32 :=
  addf (addf (addf (pad S1x2051x1024 ![0, 3, 0] ![0, 0, 0] ![0, 0, 0] (mulf X (tap3 T)) (constant S_ .f32 0x00000000#32) pads_S1x2048x1024_S1x2051x1024_000_300_000 h_S_)
    (pad S1x2051x1024 ![0, 2, 0] ![0, 1, 0] ![0, 0, 0] (mulf X (tap2 T)) (constant S_ .f32 0x00000000#32) pads_S1x2048x1024_S1x2051x1024_000_210_000 h_S_))
    (pad S1x2051x1024 ![0, 1, 0] ![0, 2, 0] ![0, 0, 0] (mulf X (tap1 T)) (constant S_ .f32 0x00000000#32) pads_S1x2048x1024_S1x2051x1024_000_120_000 h_S_))
    (pad S1x2051x1024 ![0, 0, 0] ![0, 3, 0] ![0, 0, 0] (mulf X (tap0 T)) (constant S_ .f32 0x00000000#32) pads_S1x2048x1024_S1x2051x1024_000_030_000 h_S_)
def convGrad (X : FVec Ideal S1x2048x1024 .f32) (T : FVec Ideal S1x4x1024 .f32) : FVec Ideal S1x2048x1024 .f32 :=
  extractStridedSlice S1x2048x1024 ![0, 3, 0] (convBack X T) slices_S1x2051x1024_S1x2048x1024_0_3_0
theorem convGrad_at (X : FVec Ideal S1x2048x1024 .f32) (T : FVec Ideal S1x4x1024 .f32) (r : Fin 2048) (q : Fin 1024) :
    convGrad X T (ix3 0 r q) = T (ix3 0 3 q) * X (ix3 0 r q) + T (ix3 0 2 q) * up 1 (fun r => X (ix3 0 r q)) r
      + T (ix3 0 1 q) * up 2 (fun r => X (ix3 0 r q)) r + T (ix3 0 0 q) * up 3 (fun r => X (ix3 0 r q)) r := by
  have t0 := fun r => (tap_at T r q).1
  have t1 := fun r => (tap_at T r q).2.1
  have t2 := fun r => (tap_at T r q).2.2.1
  have t3 := fun r => (tap_at T r q).2.2.2
  pointwise [convGrad, convBack, t0, t1, t2, t3]
  refine congrArg₂ (fun a b : EReal => a + b) (congrArg₂ (fun a b : EReal => a + b) (congrArg₂ (fun a b : EReal => a + b) (mul_comm (G := EReal) _ _) ?_) ?_) ?_
  · rw [mul_comm (G := EReal) (T _), ← up_mul]
    refine eq_up 1 _ r _ (fun h => dif_neg (by omega)) fun q' hq => (dif_pos (by omega)).trans ?_
    exact congrArg (fun a => X (ix3 0 a q) * T (ix3 0 2 q)) (Fin.ext (by simp only; omega))
  · rw [mul_comm (G := EReal) (T _), ← up_mul]
    refine eq_up 2 _ r _ (fun h => dif_neg (by omega)) fun q' hq => (dif_pos (by omega)).trans ?_
    exact congrArg (fun a => X (ix3 0 a q) * T (ix3 0 1 q)) (Fin.ext (by simp only; omega))
  · rw [mul_comm (G := EReal) (T _), ← up_mul]
    refine eq_up 3 _ r _ (fun h => dif_neg (by omega)) fun q' hq => (dif_pos (by omega)).trans ?_
    exact congrArg (fun a => X (ix3 0 a q) * T (ix3 0 0 q)) (Fin.ext (by simp only; omega))

/-- What reaches the activation's argument. -/
def dtV (G U : FVec Ideal S1x2048x1024 .f32) : FVec Ideal S1x2048x1024 .f32 :=
  mulf (fill 0x3F4C422A#32) (mulf (mulf (fill 0x3F000000#32) (mulf G U)) (mulf (addf (fill 0x3F800000#32) (tanhV G)) (subf (fill 0x3F800000#32) (tanhV G))))
def dgateV (G U : FVec Ideal S1x2048x1024 .f32) : FVec Ideal S1x2048x1024 .f32 :=
  addf (addf (mulf U (cdfV G)) (dtV G U)) (mulf (mulf fillK (dtV G U)) (mulf (fill 0x40400000#32) (mulf G G)))
theorem dgateV_at (G U : FVec Ideal S1x2048x1024 .f32) (r : Fin 2048) (j : Fin 1024) (g u : ℝ) (hg : G (ix3 0 r j) = (g : EReal)) (hu : U (ix3 0 r j) = (u : EReal)) :
    dgateV G U (ix3 0 r j) = (u : EReal) * (((1 / 2 : ℝ) : EReal) * ((1 : EReal) + th (g : EReal))
      + ((1 / 2 : ℝ) : EReal) * (g : EReal) * ((1 : EReal) - th (g : EReal) * th (g : EReal)) * ((scale : ℝ) : EReal)
        * ((1 : EReal) + ((26829 / 200000 : ℝ) : EReal) * ((g : EReal) * (g : EReal)))) := by
  rw [grad_eq g u _ rfl]
  pointwise [dgateV, cdfV, dtV, fill, fillK, tanhV_at, hg, hu]
  rw [quotient, ofBits_scale, ofBits_half, ofBits_three]

/-- What reaches the two branches. -/
def dlV (A B : FVec Ideal S1x2048x1024 .f32) : FVec Ideal S2x2048x1024 .bf16 :=
  truncf .bf16 (concatenate S2x2048x1024 0 [⟨S1x2048x1024, A⟩, ⟨S1x2048x1024, B⟩] concatenates_S1x2048x1024_S1x2048x1024_S2x2048x1024_d0) bitsLt_bf16_f32
theorem dlV_0 (A B : FVec Ideal S1x2048x1024 .f32) (r : Fin 2048) (q : Fin 1024) : dlV A B (ix3 0 r q) = A (ix3 0 r q) := by pointwise [dlV]
theorem dlV_1 (A B : FVec Ideal S1x2048x1024 .f32) (r : Fin 2048) (q : Fin 1024) : dlV A B (ix3 1 r q) = B (ix3 0 r q) := by pointwise [dlV]

/-- The gradients of the taps. -/
def tapsV (Q0 Q1 Q2 Q3 : FVec Ideal S1024 .f32) : FVec Ideal S4x1024 .f32 :=
  shapeCast S4x1024 (broadcastInDim S1x4x1024 ![1, 2] bcast_S4x1024_S1x4x1024_1_2 (addf (addf (addf
    (pad S4x1024 ![3, 0] ![0, 0] ![0, 0] (rowOf Q3) (constant S_ .f32 0x00000000#32) pads_S1x1024_S4x1024_300_000 h_S_)
    (pad S4x1024 ![2, 0] ![1, 0] ![0, 0] (rowOf Q2) (constant S_ .f32 0x00000000#32) pads_S1x1024_S4x1024_210_000 h_S_))
    (pad S4x1024 ![1, 0] ![2, 0] ![0, 0] (rowOf Q1) (constant S_ .f32 0x00000000#32) pads_S1x1024_S4x1024_120_000 h_S_))
    (pad S4x1024 ![0, 0] ![3, 0] ![0, 0] (rowOf Q0) (constant S_ .f32 0x00000000#32) pads_S1x1024_S4x1024_030_000 h_S_))) shapeCasts_S1x4x1024_S4x1024
theorem tapsV_at (Q0 Q1 Q2 Q3 : FVec Ideal S1024 .f32) (q : Fin 1024) : tapsV Q0 Q1 Q2 Q3 (ix2 0 q) = Q0 (ix1 q) ∧ tapsV Q0 Q1 Q2 Q3 (ix2 1 q) = Q1 (ix1 q)
    ∧ tapsV Q0 Q1 Q2 Q3 (ix2 2 q) = Q2 (ix1 q) ∧ tapsV Q0 Q1 Q2 Q3 (ix2 3 q) = Q3 (ix1 q) := by
  refine ⟨?_, ?_, ?_, ?_⟩ <;> (pointwise [tapsV, rowOf_at]; try simp)
theorem tapSum (X S : FVec Ideal S1x2048x1024 .f32) (q : Fin 1024) (n : ℕ) (f : Fin 2048 → EReal) (hS : ∀ r, S (ix3 0 r q) = down n f r) :
    colSum (mulf S X) (ix1 q) = ∑ r : Fin 2048, up n (fun r => X (ix3 0 r q)) r * f r := by
  rw [colSum_at, ← sum_down_mul]
  exact Finset.sum_congr rfl fun r _ => congrArg (fun a : EReal => a * X (ix3 0 r q)) (hS r)

/-- What reaches the convolution's result. -/
def headsBack (Z : FVec Ideal S1x2048x4x256 .f32) (W : FVec Ideal S1x4x256x256 .f32) : FVec Ideal S1x2048x4x256 .f32 :=
  transpose S1x2048x4x256 [1, 2, 0, 3] (Host.dotGeneral dot_S4x256x1x2048_S4x256x256_S4x1x2048x256_1_2_23_1_0_0 none
    (transpose S4x256x1x2048 [2, 3, 0, 1] Z transposes_S1x2048x4x256_S4x256x1x2048_2_3_0_1) (shapeCast S4x256x256 W shapeCasts_S1x4x256x256_S4x256x256)) transposes_S4x1x2048x256_S1x2048x4x256_1_2_0_3
theorem headsBack_at (Z : FVec Ideal S1x2048x4x256 .f32) (W : FVec Ideal S1x4x256x256 .f32) (t : Fin 2048) (q : Fin 4) (k : Fin 256) :
    headsBack Z W (ix4 0 t q k) = ∑ j : Fin 256, Z (ix4 0 t q j) * W (ix4 0 q k j) := by
  have e : headsBack Z W (ix4 0 t q k) = Host.dotGeneral dot_S4x256x1x2048_S4x256x256_S4x1x2048x256_1_2_23_1_0_0 none
    (transpose S4x256x1x2048 [2, 3, 0, 1] Z transposes_S1x2048x4x256_S4x256x1x2048_2_3_0_1) (shapeCast S4x256x256 W shapeCasts_S1x4x256x256_S4x256x256) (ix4 q 0 t k) := by
    unfold headsBack
    generalize Host.dotGeneral (F := Ideal) dot_S4x256x1x2048_S4x256x256_S4x1x2048x256_1_2_23_1_0_0 none (transpose S4x256x1x2048 [2, 3, 0, 1] Z transposes_S1x2048x4x256_S4x256x1x2048_2_3_0_1) (shapeCast S4x256x256 W shapeCasts_S1x4x256x256_S4x256x256) = D
    pointwise
  rw [e, dot3]
  refine Finset.sum_congr rfl fun j _ => ?_
  pointwise
def dxlV (I M : FVec Ideal S1x2048x1024 .f32) (Zi : FVec Ideal S1x2048x4x256 .f32) (Wi : FVec Ideal S1x4x256x256 .f32) (Zr : FVec Ideal S1x2048x4x256 .f32) (Wr : FVec Ideal S1x4x256x256 .f32) : FVec Ideal S1x2048x1024 .f32 :=
  addf (mulf I M) (shapeCast S1x2048x1024 (addf (headsBack Zi Wi) (headsBack Zr Wr)) shapeCasts_S1x2048x4x256_S1x2048x1024)
theorem dxlV_at (I M : FVec Ideal S1x2048x1024 .f32) (Zi : FVec Ideal S1x2048x4x256 .f32) (Wi : FVec Ideal S1x4x256x256 .f32) (Zr : FVec Ideal S1x2048x4x256 .f32) (Wr : FVec Ideal S1x4x256x256 .f32) (r : Fin 2048) (q : Fin 4) (j : Fin 256) :
    dxlV I M Zi Wi Zr Wr (ix3 0 r (chan q j)) = I (ix3 0 r (chan q j)) * M (ix3 0 r (chan q j)) + (∑ k : Fin 256, Zr (ix4 0 r q k) * Wr (ix4 0 q j k)) + ∑ k : Fin 256, Zi (ix4 0 r q k) * Wi (ix4 0 q j k) := by
  rw [add_assoc, add_comm (∑ k : Fin 256, Zr (ix4 0 r q k) * Wr (ix4 0 q j k))]
  exact congrArg (fun a : EReal => I (ix3 0 r (chan q j)) * M (ix3 0 r (chan q j)) + a) ((flat4 _ r q j).trans
    (congrArg₂ (fun a b : EReal => a + b) (headsBack_at Zi Wi r q j) (headsBack_at Zr Wr r q j)))

/-- The gradient of a gate's weights. -/
def headsGrad (Z X : FVec Ideal S1x2048x4x256 .f32) : FVec Ideal S4x256x256 .f32 :=
  shapeCast S4x256x256 (broadcastInDim S1x4x256x256 ![1, 2, 3] bcast_S4x256x256_S1x4x256x256_1_2_3 (transpose S4x256x256 [0, 2, 1]
    (Host.dotGeneral dot_S4x256x1x2048_S1x2048x4x256_S4x256x256_23_01_1_3_0_2 none (transpose S4x256x1x2048 [2, 3, 0, 1] Z transposes_S1x2048x4x256_S4x256x1x2048_2_3_0_1) X)
    transposes_S4x256x256_S4x256x256_0_2_1)) shapeCasts_S1x4x256x256_S4x256x256
theorem headsGrad_at (Z X : FVec Ideal S1x2048x4x256 .f32) (q : Fin 4) (i j : Fin 256) : headsGrad Z X (ix3 q i j) = ∑ t : Fin 2048, Z (ix4 0 t q j) * X (ix4 0 t q i) := by
  have e : headsGrad Z X (ix3 q i j) = Host.dotGeneral dot_S4x256x1x2048_S1x2048x4x256_S4x256x256_23_01_1_3_0_2 none (transpose S4x256x1x2048 [2, 3, 0, 1] Z transposes_S1x2048x4x256_S4x256x1x2048_2_3_0_1) X (ix3 q j i) := by
    unfold headsGrad
    generalize Host.dotGeneral (F := Ideal) dot_S4x256x1x2048_S1x2048x4x256_S4x256x256_23_01_1_3_0_2 none (transpose S4x256x1x2048 [2, 3, 0, 1] Z transposes_S1x2048x4x256_S4x256x1x2048_2_3_0_1) X = D
    pointwise
  rw [e, dot2]
  refine Finset.sum_congr rfl fun t _ => ?_
  pointwise

/-- The gradient of a gate's bias. -/
def headsSum (Z : FVec Ideal S1x2048x4x256 .f32) : FVec Ideal S1x1024 .f32 :=
  shapeCast S1x1024 (broadcastInDim S1x4x256 ![1, 2] bcast_S4x256_S1x4x256_1_2 (Host.reduceAdd (shapeCast S1x1x4x256 (Host.reduceAdd Z (constant S_ .f32 0x00000000#32) reducesTo_S1x2048x4x256_S1x4x256_d1 h_S_) shapeCasts_S1x4x256_S1x1x4x256) (constant S_ .f32 0x00000000#32) reducesTo_S1x1x4x256_S4x256_d0_1 h_S_)) shapeCasts_S1x4x256_S1x1024
theorem flat2 (X : FVec Ideal S1x4x256 .f32) (q : Fin 4) (j : Fin 256) : shapeCast S1x1024 X shapeCasts_S1x4x256_S1x1024 (ix2 0 (chan q j)) = X (ix3 0 q j) := by
  pointwise
  exact congrArg₂ (fun a b => X (ix3 0 a b)) (Fin.ext (by simp only; omega)) (Fin.ext (by simp only; omega))
theorem bc4 (X : FVec Ideal S4x256 .f32) (q : Fin 4) (j : Fin 256) : broadcastInDim S1x4x256 ![1, 2] bcast_S4x256_S1x4x256_1_2 X (ix3 0 q j) = X (ix2 q j) := by pointwise
theorem cast4 (X : FVec Ideal S1x4x256 .f32) (q : Fin 4) (j : Fin 256) : shapeCast S1x1x4x256 X shapeCasts_S1x4x256_S1x1x4x256 (ix4 0 0 q j) = X (ix3 0 q j) := by pointwise
theorem headsSum_at (Z : FVec Ideal S1x2048x4x256 .f32) (q : Fin 4) (j : Fin 256) : headsSum Z (ix2 0 (chan q j)) = ∑ t : Fin 2048, Z (ix4 0 t q j) :=
  (flat2 _ q j).trans ((bc4 _ q j).trans ((sum4 _ q j).trans ((cast4 _ q j).trans (sum3 Z q j))))

/-- The derivative of the rate. -/
def rateV (N S : FVec Ideal S1024 .f32) : FVec Ideal S1024 .f32 :=
  Host.exp (subf (select (cmpf .oeq N (broadcastInDim S1024 ![] bcast_S_S1024 (constant S_ .f32 0x7F800000#32))) (broadcastInDim S1024 ![] bcast_S_S1024 (constant S_ .f32 0x00000000#32)) N)
    (select (cmpf .oeq S (broadcastInDim S1024 ![] bcast_S_S1024 (constant S_ .f32 0x7F800000#32))) (broadcastInDim S1024 ![] bcast_S_S1024 (constant S_ .f32 0x00000000#32)) S))
theorem lsig_eq (x : ℝ) : lsig x = -Real.log (1 + Real.exp (-x)) := by
  unfold lsig
  rcases le_total 0 x with h | h
  · rw [min_eq_right h, abs_of_nonneg h]; ring
  · rw [min_eq_left h, abs_of_nonpos h, neg_neg]
    have e : 1 + Real.exp (-x) = Real.exp (-x) * (1 + Real.exp x) := by
      rw [mul_add, ← Real.exp_add, mul_one, neg_add_cancel, Real.exp_zero, add_comm]
    rw [e, Real.log_mul (Real.exp_pos _).ne' (by positivity), Real.log_exp]; ring
theorem rate_real (x : ℝ) : Real.exp (-x + lsig x) = 1 - 1 / (1 + Real.exp (-x)) := by
  have p : (0 : ℝ) < 1 + Real.exp (-x) := by positivity
  rw [lsig_eq, Real.exp_add, Real.exp_neg (Real.log _), Real.exp_log p]
  field_simp
  ring
theorem rateV_at (N S : FVec Ideal S1024 .f32) (c : Fin 1024) (x : ℝ) (hN : N (ix1 c) = ((-x : ℝ) : EReal)) (hS : S (ix1 c) = ((-(lsig x) : ℝ) : EReal)) :
    rateV N S (ix1 c) = ((1 - 1 / (1 + Real.exp (-x)) : ℝ) : EReal) := by
  have e : rateV N S (ix1 c) = Ideal.exp (Scalar.select (Ideal.cmp .oeq (N (ix1 c)) (Ideal.ofBits .f32 0x7F800000#32)) (Ideal.ofBits .f32 0x00000000#32) (N (ix1 c))
    - Scalar.select (Ideal.cmp .oeq (S (ix1 c)) (Ideal.ofBits .f32 0x7F800000#32)) (Ideal.ofBits .f32 0x00000000#32) (S (ix1 c))) := rfl
  have o : ∀ a : ℝ, Ideal.cmp .oeq (a : EReal) ⊤ = 0#1 := fun a => by simp [Ideal.cmp]
  rw [e, hN, hS, ofBits_inf, o, o]
  show Ideal.exp (((-x : ℝ) : EReal) - ((-(lsig x) : ℝ) : EReal)) = _
  rw [← EReal.coe_sub, Ideal.exp_coe, sub_neg_eq_add, rate_real]
def dlamV (E : FVec Ideal S1024 .f32) (Y : FVec Ideal S1024 .f32) : FVec Ideal S1x1024 .f32 :=
  broadcastInDim S1x1024 ![1] bcast_S1024_S1x1024_1 (Host.negf (mulf (Host.negf E) Y))
theorem dlamV_at (E Y : FVec Ideal S1024 .f32) (c : Fin 1024) (a b : ℝ) (hE : E (ix1 c) = ((8 * a : ℝ) : EReal)) (hY : Y (ix1 c) = (b : EReal)) :
    dlamV E Y (ix2 0 c) = ((a * (8 * b) : ℝ) : EReal) := by
  have e : dlamV E Y (ix2 0 c) = -(-(E (ix1 c)) * Y (ix1 c)) := by pointwise [dlamV]
  rw [e, hE, hY, ← EReal.coe_neg, ← EReal.coe_mul, ← EReal.coe_neg]
  congr 1
  ring

section
variable {V0 : Valuation τ sig (Elt Ideal)}

theorem x_eq : (res_main_v633 (F := Ideal) V0 : FVec Ideal S1x2048x1024 .f32) = dxlV (flat (res_main_v73 (F := Ideal) V0)) (res_main_v590 (F := Ideal) V0) (res_main_v612 (F := Ideal) V0) (V0 (Proc.devRef .tc main_arg5))
    (res_main_v622 (F := Ideal) V0) (V0 (Proc.devRef .tc main_arg3)) := rfl
theorem dy_eq : (res_main_v314 (F := Ideal) V0 : FVec Ideal S1x2048x1024 .f32) = dyV (V0 (Proc.devRef .tc main_arg9)) (V0 (Proc.devRef .tc main_arg8)) := rfl
theorem ly_eq : (res_main_v4 (F := Ideal) V0 : FVec Ideal S1x2048x1024 .f32) = lyV (V0 (Proc.devRef .tc main_arg0)) := rfl
theorem conv_eq : (res_main_v683 (F := Ideal) V0 : FVec Ideal S1x2051x1024 .f32) = convBack (res_main_v633 (F := Ideal) V0) (V0 (Proc.devRef .tc main_arg1)) := rfl
theorem gate_eq : (addf (F := Ideal) (φ := .f32) (addf (F := Ideal) (φ := .f32) (mulf (F := Ideal) (φ := .f32) (res_main_v316 (F := Ideal) V0) (res_main_v307 (F := Ideal) V0)) (res_main_v324 (F := Ideal) V0))
      (mulf (F := Ideal) (φ := .f32) (mulf (F := Ideal) (φ := .f32) (broadcastInDim S1x2048x1024 ![] bcast_S_S1x2048x1024 (res_main_v287 (F := Ideal) V0)) (res_main_v324 (F := Ideal) V0))
        (mulf (F := Ideal) (φ := .f32) (broadcastInDim S1x2048x1024 ![] bcast_S_S1x2048x1024 (constant S_ .f32 0x40400000#32)) (mulf (F := Ideal) (φ := .f32) (res_main_v4 (F := Ideal) V0) (res_main_v4 (F := Ideal) V0)))) : FVec Ideal S1x2048x1024 .f32)
    = dgateV (lyV (V0 (Proc.devRef .tc main_arg0))) (mulf (F := Ideal) (φ := .f32) (res_main_v286 (F := Ideal) V0 : FVec Ideal S1x2048x1024 .f32) (res_main_v314 (F := Ideal) V0 : FVec Ideal S1x2048x1024 .f32)) := rfl

variable (h : Args V0)
include h

theorem x_at (r : Fin 2048) (q : Fin 4) (j : Fin 256) : (res_main_v633 (F := Ideal) V0 : FVec Ideal S1x2048x1024 .f32) (ix3 0 r (chan q j))
    = (((dat V0).dx r (chan q j) : ℝ) : EReal) + (∑ i : Fin 256, (((dat V0).zr r (chan q i) : ℝ) : EReal) * (V0 (Proc.devRef .tc main_arg3) : FVec Ideal S1x4x256x256 .f32) (ix4 0 q j i))
      + ∑ i : Fin 256, (((dat V0).zi r (chan q i) : ℝ) : EReal) * (V0 (Proc.devRef .tc main_arg5) : FVec Ideal S1x4x256x256 .f32) (ix4 0 q j i) := by
  rw [x_eq, dxlV_at]
  refine congrArg₂ (fun a b : EReal => a + b) (congrArg₂ (fun a b : EReal => a + b) ?_ ?_) ?_
  · refine (mul_of_coe (is_i h r _) (is590 h r _)).trans (congrArg _ ?_)
    show (dat V0).i r _ * ((dat V0).M r _ * (dat V0).g r _) = (dat V0).g r _ * (dat V0).M r _ * (dat V0).i r _
    ring
  · exact Finset.sum_congr rfl fun i _ => congrArg (fun a : EReal => a * _) (zr4 h r q i)
  · exact Finset.sum_congr rfl fun i _ => congrArg (fun a : EReal => a * _) (zi4 h r q i)

theorem gate_at (r : Fin 2048) (q : Fin 1024) : ∃ u g : ℝ, (lyV (V0 (Proc.devRef .tc main_arg0)) : FVec Ideal S1x2048x1024 .f32) (ix3 0 r q) = (g : EReal)
    ∧ (dyV (V0 (Proc.devRef .tc main_arg9)) (V0 (Proc.devRef .tc main_arg8)) : FVec Ideal S1x2048x1024 .f32) (ix3 0 r q) * (((dat V0).h r q : ℝ) : EReal) = (u : EReal)
    ∧ (mulf (F := Ideal) (φ := .f32) (res_main_v286 (F := Ideal) V0 : FVec Ideal S1x2048x1024 .f32) (res_main_v314 (F := Ideal) V0 : FVec Ideal S1x2048x1024 .f32)) (ix3 0 r q) = (u : EReal) := by
  obtain ⟨d, hd⟩ := re314 h (ix3 0 r q)
  obtain ⟨g, hg⟩ := re4 h (ix3 0 r q)
  refine ⟨d * (dat V0).h r q, g, hg, mul_of_coe hd rfl, (mul_of_coe (is_h h r q) hd).trans (congrArg _ (mul_comm _ _))⟩

theorem dwa_at (Z : FVec Ideal S1x2048x4x256 .f32) (z : Seq) (hZ : ∀ t q j, Z (ix4 0 t q j) = ((z t.val (chan q j) : ℝ) : EReal)) (q : Fin 4) (i j : Fin 256) :
    headsGrad Z (res_main_v47 (F := Ideal) V0) (ix3 q i j) = ((∑ r : Fin 2048, (dat V0).xl r (chan q i) * z r (chan q j) : ℝ) : EReal) := by
  rw [headsGrad_at, coe_sum]
  refine Finset.sum_congr rfl fun r _ => (mul_comm (G := EReal) _ _).trans ?_
  exact mul_of_coe ((heads (res_main_v41 (F := Ideal) V0) r q i).trans (is_xl h r _)) (hZ r q j)
omit h in
theorem dba_at (Z : FVec Ideal S1x2048x4x256 .f32) (z : Seq) (hZ : ∀ t q j, Z (ix4 0 t q j) = ((z t.val (chan q j) : ℝ) : EReal)) (c : Fin 1024) :
    headsSum Z (ix2 0 c) = ((∑ r : Fin 2048, z r c : ℝ) : EReal) := by
  obtain ⟨q, j, rfl⟩ : ∃ (q : Fin 4) (j : Fin 256), c = chan q j := ⟨⟨c.val / 256, by omega⟩, ⟨c.val % 256, by omega⟩, Fin.ext (by simp only; omega)⟩
  rw [headsSum_at, coe_sum]
  exact Finset.sum_congr rfl fun r _ => hZ r q j
theorem eight_r (r : Fin 2048) (c : Fin 1024) : (res_main_v79 (F := Ideal) V0 : FVec Ideal S1x2048x1024 .f32) (ix3 0 r c) = ((8 * (dat V0).r r c : ℝ) : EReal) := by
  have e : (res_main_v79 (F := Ideal) V0 : FVec Ideal S1x2048x1024 .f32) = mulf (fill 0x41000000#32) (flat (res_main_v58 (F := Ideal) V0)) := rfl
  rw [e]
  exact mul_of_coe bits8 (is_r h r c)
theorem dlam_at (c : Fin 1024) : dlamV (colSum (mulf (F := Ideal) (φ := .f32) (res_main_v79 (F := Ideal) V0 : FVec Ideal S1x2048x1024 .f32) (res_main_v601 (F := Ideal) V0 : FVec Ideal S1x2048x1024 .f32)))
      (rateV (res_main_call0_v0 (F := Ideal) V0) (res_main_call0_v1_0 (F := Ideal) V0)) (ix2 0 c)
    = (((∑ r : Fin 2048, (dat V0).dla r c * (dat V0).r r c) * (8 * (1 - 1 / (1 + Real.exp (-(dat V0).lam c)))) : ℝ) : EReal) := by
  refine dlamV_at _ _ c _ _ ?_ (rateV_at _ _ c _ ?_ ?_)
  · rw [colSum_at, Finset.mul_sum, coe_sum]
    refine Finset.sum_congr rfl fun r _ => (mul_of_coe (eight_r h r c) (is601 h r c)).trans (congrArg _ ?_)
    ring
  · refine (negL_at (V0 (Proc.devRef .tc main_arg7)) c).trans ?_
    rw [is_lam h c, EReal.coe_neg]
  · exact softV_at (V0 (Proc.devRef .tc main_arg7)) c _ (is_lam h c)
end

end Cert.MixLruRefIdeal.Value

end
-- ==== Proof.LruSame.lean ====
/- The nine results of the recurrence's backward call are the reference's. -/
module

public import proofs.«01_k».proof.Proof.LruConv
public import proofs.«01_k».proof.Proof.LruRes

@[expose] public section

set_option maxRecDepth 16384

noncomputable section

open Idealize.ShloMosaic Idealize.ShloMosaic.TcCoe Idealize.ShloMosaic.Tactic Idealize.SL.Sem

namespace Cert.MixLruIdeal.Value
open Cert.MixLruIdeal Cert.MixLruIdeal.Gen Cert.MixLruRefIdeal.Value Cert.MixLruRefIdeal.Gates Cert.Gates Cert.MixLruIdeal.Pay Cert.Reals Cert.Scan Cert.Gelu Cert.Conv

variable (m : (ℓ : Loc nD τ sig) → Buf (Elt Ideal) ℓ) (c : Dev nD)

section
variable {m c} {V0 : Valuation Cert.MixLruRefIdeal.τ Cert.MixLruRefIdeal.sig (Elt Ideal)}
  {P0 : FVec Ideal S1x2048x7168 .f32} {P1 : FVec Ideal S1x4x1024 .f32} {P2 : FVec Ideal S1x1024 .f32} {P3 : FVec Ideal S1x4x256x256 .f32} {P4 : FVec Ideal S1x4x256 .f32} {P5 : FVec Ideal S1x4x256x256 .f32} {P6 : FVec Ideal S1x4x256 .f32} {P7 : FVec Ideal S1x1024 .f32} {P8 : FVec Ideal S1x1024x1024 .f32} {P9 : FVec Ideal S1x2048x1024 .f32}
  (h : Held m c P0 P1 P2 P3 P4 P5 P6 P7 P8 P9) (k : HeldRef V0 P0 P1 P2 P3 P4 P5 P6 P7 P8 P9) (ha : Args V0) (hc : Low (dat V0))
include h k ha hc

theorem k_x (r : Fin 2048) (q : Fin 4) (j : Fin 256) : (res_main_v633 (F := Ideal) V0 : FVec Ideal S1x2048x1024 .f32) (ix3 0 r (chan q j))
    = (((dat V0).dx r (chan q j) : ℝ) : EReal) + (∑ i : Fin 256, (((dat V0).zr r (chan q i) : ℝ) : EReal) * P3 (ix4 0 q j i))
    + ∑ i : Fin 256, (((dat V0).zi r (chan q i) : ℝ) : EReal) * P5 (ix4 0 q j i) := by
  obtain ⟨-, -, -, k3, -, k5, -⟩ := k
  rw [← k3, ← k5]
  exact x_at ha r q j

theorem same_dl (G : FVec Ideal S2x2048x1024 .bf16) (hG : dlV (convGrad (res_main_v633 (F := Ideal) V0) (V0 (Proc.devRef .tc Cert.MixLruRefIdeal.main_arg1)))
      (dgateV (lyV (V0 (Proc.devRef .tc Cert.MixLruRefIdeal.main_arg0))) (mulf (F := Ideal) (φ := .f32) (res_main_v286 (F := Ideal) V0 : FVec Ideal S1x2048x1024 .f32) (res_main_v314 (F := Ideal) V0 : FVec Ideal S1x2048x1024 .f32))) = G) :
    G = (dats m 0 c).arrAt 12 (cfgs 0).N := by
  refine (final_dl h k ha hc (res_main_v633 (F := Ideal) V0) (k_x h k ha hc) G (fun r q => ?_) fun r q => ?_).symm
  · obtain ⟨-, k1, -⟩ := k
    rw [← hG, ← k1]
    exact (dlV_0 _ _ r q).trans (convGrad_at _ _ r q)
  · obtain ⟨u, g, hg, hu, hu'⟩ := gate_at ha r q
    have e := (dlV_1 (convGrad (res_main_v633 (F := Ideal) V0) (V0 (Proc.devRef .tc Cert.MixLruRefIdeal.main_arg1))) _ r q).trans (dgateV_at _ _ r q g u hg hu')
    obtain ⟨k0, -, -, -, -, -, -, -, k8, k9⟩ := k
    rw [← hG, ← k0, ← k8, ← k9]
    refine e.trans ?_
    unfold actGrad
    rw [hu, hg]

theorem same_dw (G : FVec Ideal S1024x1024 .bf16) (hG : dwV (V0 (Proc.devRef .tc Cert.MixLruRefIdeal.main_arg9)) (mulf (F := Ideal) (φ := .f32) (res_main_v286 (F := Ideal) V0 : FVec Ideal S1x2048x1024 .f32) (geluV (lyV (V0 (Proc.devRef .tc Cert.MixLruRefIdeal.main_arg0))))) = G) :
    G = (dats m 0 c).arrAt 13 (cfgs 0).N := by
  refine Eq.trans ?_ (final_dw h k _ rfl).symm
  obtain ⟨k0, -, -, -, -, -, -, -, -, k9⟩ := k
  rw [← hG, ← k0, ← k9]

theorem same_dwa (G : FVec Ideal S4x256x256 .f32) (hG : headsGrad (res_main_v622 (F := Ideal) V0) (res_main_v47 (F := Ideal) V0) = G) : G = (dats m 0 c).arrAt 14 (cfgs 0).N :=
  (final_dwa h k ha hc G fun q i j => (congrFun hG.symm _).trans (dwa_at ha _ (dat V0).zr (zr4 ha) q i j)).symm
theorem same_dwx (G : FVec Ideal S4x256x256 .f32) (hG : headsGrad (res_main_v612 (F := Ideal) V0) (res_main_v47 (F := Ideal) V0) = G) : G = (dats m 0 c).arrAt 15 (cfgs 0).N :=
  (final_dwx h k ha hc G fun q i j => (congrFun hG.symm _).trans (dwa_at ha _ (dat V0).zi (zi4 ha) q i j)).symm
theorem same_dba (G : FVec Ideal S1x1024 .f32) (hG : headsSum (res_main_v622 (F := Ideal) V0) = G) : G = (dats m 0 c).arrAt 16 (cfgs 0).N :=
  (final_dba h k ha hc G fun q => (congrFun hG.symm _).trans (dba_at _ (dat V0).zr (zr4 ha) q)).symm
theorem same_dbx (G : FVec Ideal S1x1024 .f32) (hG : headsSum (res_main_v612 (F := Ideal) V0) = G) : G = (dats m 0 c).arrAt 17 (cfgs 0).N :=
  (final_dbx h k ha hc G fun q => (congrFun hG.symm _).trans (dba_at _ (dat V0).zi (zi4 ha) q)).symm
theorem same_dlam (G : FVec Ideal S1x1024 .f32) (hG : dlamV (colSum (mulf (F := Ideal) (φ := .f32) (res_main_v79 (F := Ideal) V0 : FVec Ideal S1x2048x1024 .f32) (res_main_v601 (F := Ideal) V0 : FVec Ideal S1x2048x1024 .f32)))
      (rateV (res_main_call0_v0 (F := Ideal) V0) (res_main_call0_v1_0 (F := Ideal) V0)) = G) : G = (dats m 0 c).arrAt 20 (cfgs 0).N :=
  (final_dlam h k ha hc G fun q => (congrFun hG.symm _).trans (dlam_at ha q)).symm

theorem same_dbl (G : FVec Ideal S1x1024 .f32) (hG : rowOf (colSum (res_main_v633 (F := Ideal) V0)) = G) : G = (dats m 0 c).arrAt 19 (cfgs 0).N :=
  (final_dbl h k ha hc (res_main_v633 (F := Ideal) V0) (k_x h k ha hc) G fun q => (congrFun hG.symm _).trans ((rowOf_at _ q).trans (colSum_at _ q))).symm

theorem same_dwl (G : FVec Ideal S4x1024 .f32) (hG : ∀ X : FVec Ideal S1x2048x1024 .f32, res_main_v633 (F := Ideal) V0 = X → tapsV (colSum (mulf (F := Ideal) (φ := .f32) (shift0 P0) X)) (colSum (mulf (F := Ideal) (φ := .f32) (shift1 P0) X))
      (colSum (mulf (F := Ideal) (φ := .f32) (shift2 P0) X)) (colSum (mulf (F := Ideal) (φ := .f32) (shift3 P0) X)) = G) : G = (dats m 0 c).arrAt 18 (cfgs 0).N := by
  have hG := hG _ rfl
  refine (final_dwl h k ha hc (res_main_v633 (F := Ideal) V0) (k_x h k ha hc) G (fun q => ?_) (fun q => ?_) (fun q => ?_) fun q => ?_).symm
  · rw [← hG]
    exact (tapsV_at _ _ _ _ q).1.trans (tapSum _ _ q 3 (lx P0 q) fun r => shift0_at P0 r q)
  · rw [← hG]
    exact (tapsV_at _ _ _ _ q).2.1.trans (tapSum _ _ q 2 (lx P0 q) fun r => shift1_at P0 r q)
  · rw [← hG]
    exact (tapsV_at _ _ _ _ q).2.2.1.trans (tapSum _ _ q 1 (lx P0 q) fun r => shift2_at P0 r q)
  · rw [← hG]
    refine (tapsV_at _ _ _ _ q).2.2.2.trans ((colSum_at _ q).trans (Finset.sum_congr rfl fun r _ => (mul_comm (G := EReal) _ _).trans ?_))
    exact congrArg₂ (fun a b : EReal => a * b) rfl (shift3_at P0 r q)
end

end Cert.MixLruIdeal.Value

end
-- ==== Proof.LruPre.lean ====
/- What the precondition of the recurrence's backward call says: the arguments are real, and the decay is off one after the first row. -/
module

public import proofs.«01_k».proof.Proof.LruOut
public import proofs.«01_k».proof.Proof.Gen.Pre_mix_lru_range

@[expose] public section

set_option maxRecDepth 16384

noncomputable section

open Idealize.ShloMosaic Idealize.ShloMosaic.TcCoe Idealize.ShloMosaic.Tactic Idealize.SL.Sem

namespace Cert.MixLruRefIdeal.Value
open Cert.MixLruRefIdeal Cert.MixLruRefIdeal.Gates Cert.Gates Cert.Reals Cert.Scan Cert.MixLruIdeal.Value

variable (V0 : Valuation τ sig (Elt Ideal))

/-- The precondition's conditions. -/
abbrev conds := Cert.Pre_mix_lru_range.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))
/-- They all hold. -/
def Holds : Prop := (conds V0).1 = (fun _ => 1#1) ∧ (conds V0).2.1 = (fun _ => 1#1) ∧ (conds V0).2.2.1 = (fun _ => 1#1) ∧ (conds V0).2.2.2.1 = (fun _ => 1#1) ∧ (conds V0).2.2.2.2.1 = (fun _ => 1#1) ∧ (conds V0).2.2.2.2.2.1 = (fun _ => 1#1) ∧ (conds V0).2.2.2.2.2.2.1 = (fun _ => 1#1) ∧ (conds V0).2.2.2.2.2.2.2.1 = (fun _ => 1#1) ∧ (conds V0).2.2.2.2.2.2.2.2.1 = (fun _ => 1#1) ∧ (conds V0).2.2.2.2.2.2.2.2.2.1 = (fun _ => 1#1) ∧ (conds V0).2.2.2.2.2.2.2.2.2.2 = (fun _ => 1#1)

theorem le_of (X : FVec Ideal Cert.Pre_mix_lru_range.S1x2048x1024 .f32) (hs) (hb)
    (hp : cmpf .ole (extractStridedSlice Cert.Pre_mix_lru_range.S1x2047x1024 ![0, 1, 0] X hs) (broadcastInDim Cert.Pre_mix_lru_range.S1x2047x1024 ![] hb (constant (F := Ideal) Cert.Pre_mix_lru_range.S_ .f32 0xBE4CCCCD#32)) = fun _ => 1#1)
    (t : Fin 2048) (ht : 1 ≤ t.val) (c : Fin 1024) : X (ix3 0 t c) ≤ Ideal.ofBits .f32 0xBE4CCCCD#32 := by
  have h := congrFun hp (ix3 0 (⟨t.val - 1, by omega⟩ : Fin 2047) c)
  have e : extractStridedSlice Cert.Pre_mix_lru_range.S1x2047x1024 ![0, 1, 0] X hs (ix3 0 (⟨t.val - 1, by omega⟩ : Fin 2047) c) = X (ix3 0 t c) := by
    pointwise
    exact congrArg (fun a => X (ix3 0 a c)) (Fin.ext (by simp only; omega))
  have h : Ideal.cmp .ole (extractStridedSlice Cert.Pre_mix_lru_range.S1x2047x1024 ![0, 1, 0] X hs (ix3 0 (⟨t.val - 1, by omega⟩ : Fin 2047) c)) (Ideal.ofBits .f32 0xBE4CCCCD#32) = 1#1 := h
  rw [e] at h
  by_contra hn
  simp [Ideal.cmp, hn] at h

theorem conds_low : (conds V0).1 = cmpf .ole (extractStridedSlice Cert.Pre_mix_lru_range.S1x2047x1024 ![0, 1, 0] (res_main_v86 (F := Ideal) V0) Cert.Pre_mix_lru_range.Gen.slices_S1x2048x1024_S1x2047x1024_0_1_0)
    (broadcastInDim Cert.Pre_mix_lru_range.S1x2047x1024 ![] Cert.Pre_mix_lru_range.Gen.bcast_S_S1x2047x1024 (constant (F := Ideal) Cert.Pre_mix_lru_range.S_ .f32 0xBE4CCCCD#32)) := rfl

variable {V0}

theorem re_of {s : Shape} (X : FVec Ideal s .f32) (h : ∃ r : s.Idx → ℝ, X = fun i => (r i : EReal)) : Re (s := s) X := fun i => by
  obtain ⟨r, hr⟩ := h
  exact ⟨r i, congrFun hr i⟩

theorem args_of (hp : Holds V0) : Args V0 := by
  obtain ⟨-, h0, h1, h2, h3, h4, h5, h6, h7, h8, h9⟩ := hp
  exact ⟨re_of _ (exists_real_of_abs_lt _ _ h0), re_of _ (exists_real_of_abs_lt _ _ h1), re_of _ (exists_real_of_abs_lt _ _ h2), re_of _ (exists_real_of_abs_lt _ _ h3), re_of _ (exists_real_of_abs_lt _ _ h4), re_of _ (exists_real_of_abs_lt _ _ h5), re_of _ (exists_real_of_abs_lt _ _ h6), re_of _ (exists_real_of_abs_lt _ _ h7), re_of _ (exists_real_of_abs_lt _ _ h8), re_of _ (exists_real_of_abs_lt _ _ h9)⟩
theorem low_of (hp : Holds V0) : Low (dat V0) := by
  have ha := args_of hp
  have h1 := hp.1
  rw [conds_low] at h1
  intro t ht1 ht2 c
  have h := le_of (res_main_v86 (F := Ideal) V0) _ _ h1 ⟨t, ht2⟩ ht1 c
  rw [show (res_main_v86 (F := Ideal) V0 : FVec Ideal S1x2048x1024 .f32) (ix3 0 ⟨t, ht2⟩ c) = _ from is86 ha ⟨t, ht2⟩ c, Cert.MixLruIdeal.Pay.ofBits_cut] at h
  exact EReal.coe_le_coe_iff.mp h

end Cert.MixLruRefIdeal.Value

end
-- ==== Proof.MixLruClaim.lean ====
/- The claims about the gradient of the gated linear recurrence: the three programs run to the end, the names of its literals keep
   its values, and its nine results are the reference's. -/
module

public import proofs.«01_k».proof.Defs
public import proofs.«01_k».proof.Proof.LruSame
public import proofs.«01_k».proof.Proof.LruPre
public import proofs.«01_k».proof.Proof.Gen.MixLru.Frame
public import proofs.«01_k».proof.Proof.Gen.MixLruRefIdeal.Run

@[expose] public section

set_option maxRecDepth 16384

noncomputable section

open Idealize.ShloMosaic Idealize.ShloMosaic.TcCoe Idealize.SL.Sem

namespace Cert.Proof

/-- The kernel program runs to the end. -/
theorem mixLru_frame : Cert.quiescent_MixLru := fun m g _ => Cert.MixLru.Gen.frame m g
/-- The idealized kernel program runs to the end. -/
theorem mixLru_frameIdeal : Cert.quiescent_MixLruIdeal := fun m g _ =>
  θ_run_and (Cert.MixLruIdeal.Gen.frame_of m g _ (Cert.MixLruIdeal.Gen.A_eq m)
      ((θ_run Cert.MixLruIdeal.defs _ _).mono (fun _ h => h.1) (Cert.MixLruIdeal.Gen.run_main m g)))
    ((θ_run Cert.MixLruIdeal.defs _ _).mono (fun _ h => h.2) (Cert.MixLruIdeal.Gen.run_main m g))
/-- The idealized reference program runs to the end. -/
theorem mixLru_frameRef : Cert.quiescent_MixLruRefIdeal := fun m g _ =>
  (θ_run Cert.MixLruRefIdeal.defs _ _).mono (fun r h => ⟨fun c => (h c).2.2.2.2.2.2.2.2.2, sem_eq_zero_of_no_sems (by decide) r.2⟩)
    (Cert.MixLruRefIdeal.Value.run m g)
/-- The names given to the literals keep their values. -/
theorem mixLru_preserves : Cert.preserves_MixLru_MixLruIdeal :=
  ⟨IdealRules.named_const.statement _ _ _ _ _ rfl, IdealRules.named_const.statement _ _ _ _ _ rfl⟩

open Cert.MixLruIdeal.Value Cert.MixLruRefIdeal.Value in
/-- The nine results agree, where the precondition holds. -/
theorem mixLru_value : Cert.algebraic_MixLruIdeal_MixLruRefIdeal_pre_mix_lru_range := by
  pair_intro
  · run_from Cert.MixLruIdeal.Value.run_blocks m g
  · have hp : ∀ c, Holds (StableHlo.launchContents m' c) := fun c => by
      have h := hpre c
      rw [← (hagree c).1, ← (hagree c).2.1, ← (hagree c).2.2.1, ← (hagree c).2.2.2.1, ← (hagree c).2.2.2.2.1, ← (hagree c).2.2.2.2.2.1, ← (hagree c).2.2.2.2.2.2.1, ← (hagree c).2.2.2.2.2.2.2.1, ← (hagree c).2.2.2.2.2.2.2.2.1, ← (hagree c).2.2.2.2.2.2.2.2.2] at h
      exact h
    have h : ∀ c, Held m c _ _ _ _ _ _ _ _ _ _ := fun c => ⟨rfl, rfl, rfl, rfl, rfl, rfl, rfl, rfl, rfl, rfl⟩
    have k : ∀ c, HeldRef (StableHlo.launchContents m' c) _ _ _ _ _ _ _ _ _ _ := fun c => hagree c
    refine θ_run_mono (Cert.MixLruRefIdeal.Value.run m' g') fun r hr c => ?_
    obtain ⟨e0, e1, e2, e3, e4, e5, e6, e7, e8, ea⟩ := hr c
    have ha := args_of (hp c)
    have hl := low_of (hp c)
    refine ⟨e0.trans ?_, e1.trans ?_, e2.trans ?_, e3.trans ?_, e4.trans ?_, e5.trans ?_, e6.trans ?_, e7.trans ?_, e8.trans ?_, ea⟩
    · exact same_dl (h c) (k c) ha hl _ rfl
    · exact same_dw (h c) (k c) ha hl _ rfl
    · exact same_dwa (h c) (k c) ha hl _ rfl
    · exact same_dwx (h c) (k c) ha hl _ rfl
    · exact same_dba (h c) (k c) ha hl _ rfl
    · exact same_dbx (h c) (k c) ha hl _ rfl
    · refine same_dwl (h c) (k c) ha hl _ fun X hX => ?_
      rw [← hX, ← (hagree c).1]
      rfl
    · exact same_dbl (h c) (k c) ha hl _ rfl
    · exact same_dlam (h c) (k c) ha hl _ rfl

end Cert.Proof

end
-- ==== Proof.lean ====
/- The certificate: every claim of Defs.lean, from the modules under Proof/. Each gradient kernel's frames are its generated runs;
   its value claim is proved in Proof/<Name>Claim.lean. -/
module

public import proofs.«01_k».proof.Proof.NormInClaim
public import proofs.«01_k».proof.Proof.NormsMidClaim
public import proofs.«01_k».proof.Proof.FfnLossClaim
public import proofs.«01_k».proof.Proof.MixConvClaim
public import proofs.«01_k».proof.Proof.MixOutClaim
public import proofs.«01_k».proof.Proof.FfnUpClaim
public import proofs.«01_k».proof.Proof.FfnActClaim
public import proofs.«01_k».proof.Proof.ConvFwdClaim
public import proofs.«01_k».proof.Proof.OutFwdClaim
public import proofs.«01_k».proof.Proof.MergeClaim
public import proofs.«01_k».proof.Proof.NormFwdClaim
public import proofs.«01_k».proof.Proof.MixLruClaim

@[expose] public section

noncomputable section

namespace Cert.Proof

open Idealize.ShloMosaic Idealize.SL.Sem

theorem claim : Cert.Claim := ⟨Cert.NormIn.Gen.facts, Cert.NormInIdeal.Gen.facts, Cert.NormInRefIdeal.Gen.facts, Cert.NormsMid.Gen.facts, Cert.NormsMidIdeal.Gen.facts, Cert.NormsMidRefIdeal.Gen.facts, Cert.FfnLoss.Gen.facts, Cert.FfnLossIdeal.Gen.facts, Cert.FfnLossRefIdeal.Gen.facts, Cert.MixConv.Gen.facts, Cert.MixConvIdeal.Gen.facts, Cert.MixConvRefIdeal.Gen.facts, Cert.MixOut.Gen.facts, Cert.MixOutIdeal.Gen.facts, Cert.MixOutRefIdeal.Gen.facts, Cert.FfnUp.Gen.facts, Cert.FfnUpIdeal.Gen.facts, Cert.FfnUpRefIdeal.Gen.facts, Cert.FfnAct.Gen.facts, Cert.FfnActIdeal.Gen.facts, Cert.FfnActRefIdeal.Gen.facts, Cert.ConvFwd.Gen.facts, Cert.ConvFwdIdeal.Gen.facts, Cert.ConvFwdRefIdeal.Gen.facts, Cert.OutFwd.Gen.facts, Cert.OutFwdIdeal.Gen.facts, Cert.OutFwdRefIdeal.Gen.facts, Cert.Merge.Gen.facts, Cert.MergeIdeal.Gen.facts, Cert.MergeRefIdeal.Gen.facts, Cert.NormFwd.Gen.facts, Cert.NormFwdIdeal.Gen.facts, Cert.NormFwdRefIdeal.Gen.facts, Cert.MixLru.Gen.facts, Cert.MixLruIdeal.Gen.facts, Cert.MixLruRefIdeal.Gen.facts,
  Cert.Pre_norm_in_finite.Gen.facts, Cert.Pre_norms_mid_finite.Gen.facts, Cert.Pre_ffn_loss_finite.Gen.facts, Cert.Pre_ffn_up_finite.Gen.facts, Cert.Pre_mix_lru_range.Gen.facts,
  normIn_frame, normIn_frameIdeal, fun m g _ => normIn_frameIdeal m g trivial, normIn_frameRef, fun m g _ => normIn_frameRef m g trivial,
  normsMid_frame, normsMid_frameIdeal, fun m g _ => normsMid_frameIdeal m g trivial, normsMid_frameRef, fun m g _ => normsMid_frameRef m g trivial,
  ffnLoss_frame, ffnLoss_frameIdeal, fun m g _ => ffnLoss_frameIdeal m g trivial, ffnLoss_frameRef, fun m g _ => ffnLoss_frameRef m g trivial,
  mixConv_frame, mixConv_frameIdeal, mixConv_frameRef,
  mixOut_frame, mixOut_frameIdeal, mixOut_frameRef,
  ffnUp_frame, ffnUp_frameIdeal, fun m g _ => ffnUp_frameIdeal m g trivial, ffnUp_frameRef, fun m g _ => ffnUp_frameRef m g trivial,
  ffnAct_frame, ffnAct_frameIdeal, ffnAct_frameRef,
  convFwd_frame, convFwd_frameIdeal, convFwd_frameRef,
  outFwd_frame, outFwd_frameIdeal, outFwd_frameRef,
  merge_frame, merge_frameIdeal, merge_frameRef,
  normFwd_frame, normFwd_frameIdeal, normFwd_frameRef,
  mixLru_frame, mixLru_frameIdeal, fun m g _ => mixLru_frameIdeal m g trivial, mixLru_frameRef, fun m g _ => mixLru_frameRef m g trivial,
  trivial, normIn_value, trivial, normsMid_value, trivial, ffnLoss_value, trivial, mixConv_value, trivial, mixOut_value, ffnUp_preserves, ffnUp_value, trivial, ffnAct_value, trivial, convFwd_value, trivial, outFwd_value, trivial, merge_value, trivial, normFwd_value, mixLru_preserves, mixLru_value⟩

end Cert.Proof

end
